-- ==== Defs.lean ====
def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_KernelFfnInIdeal_ffn_in_finite [hPre_ffn_in_finite : Cert.Pre_ffn_in_finite.Facts] (m : (ℓ : Loc Cert.KernelFfnInIdeal.nD Cert.KernelFfnInIdeal.τ Cert.KernelFfnInIdeal.sig) → Buf (Elt Ideal) ℓ) : Prop :=
  ∀ c : Dev Cert.KernelFfnInIdeal.nD,
    (Cert.Pre_ffn_in_finite.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4)) (m ((c.tc : Thread Cert.KernelFfnInIdeal.nD Cert.KernelFfnInIdeal.τ).loc Cert.KernelFfnInIdeal.main_arg5)) (m ((c.tc : Thread Cert.KernelFfnInIdeal.nD Cert.KernelFfnInIdeal.τ).loc Cert.KernelFfnInIdeal.main_arg6))).1 = (fun _ => 1#1)
    ∧ (Cert.Pre_ffn_in_finite.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4)) (m ((c.tc : Thread Cert.KernelFfnInIdeal.nD Cert.KernelFfnInIdeal.τ).loc Cert.KernelFfnInIdeal.main_arg5)) (m ((c.tc : Thread Cert.KernelFfnInIdeal.nD Cert.KernelFfnInIdeal.τ).loc Cert.KernelFfnInIdeal.main_arg6))).2.1 = (fun _ => 1#1)
    ∧ (Cert.Pre_ffn_in_finite.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4)) (m ((c.tc : Thread Cert.KernelFfnInIdeal.nD Cert.KernelFfnInIdeal.τ).loc Cert.KernelFfnInIdeal.main_arg5)) (m ((c.tc : Thread Cert.KernelFfnInIdeal.nD Cert.KernelFfnInIdeal.τ).loc Cert.KernelFfnInIdeal.main_arg6))).2.2.1 = (fun _ => 1#1)
    ∧ (Cert.Pre_ffn_in_finite.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4)) (m ((c.tc : Thread Cert.KernelFfnInIdeal.nD Cert.KernelFfnInIdeal.τ).loc Cert.KernelFfnInIdeal.main_arg5)) (m ((c.tc : Thread Cert.KernelFfnInIdeal.nD Cert.KernelFfnInIdeal.τ).loc Cert.KernelFfnInIdeal.main_arg6))).2.2.2.1 = (fun _ => 1#1)
    ∧ (Cert.Pre_ffn_in_finite.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4)) (m ((c.tc : Thread Cert.KernelFfnInIdeal.nD Cert.KernelFfnInIdeal.τ).loc Cert.KernelFfnInIdeal.main_arg5)) (m ((c.tc : Thread Cert.KernelFfnInIdeal.nD Cert.KernelFfnInIdeal.τ).loc Cert.KernelFfnInIdeal.main_arg6))).2.2.2.2 = (fun _ => 1#1)

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_ReferenceFfnInIdeal_ffn_in_finite [hPre_ffn_in_finite : Cert.Pre_ffn_in_finite.Facts] (m : (ℓ : Loc Cert.ReferenceFfnInIdeal.nD Cert.ReferenceFfnInIdeal.τ Cert.ReferenceFfnInIdeal.sig) → Buf (Elt Ideal) ℓ) : Prop :=
  ∀ c : Dev Cert.ReferenceFfnInIdeal.nD,
    (Cert.Pre_ffn_in_finite.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4)) (m ((c.tc : Thread Cert.ReferenceFfnInIdeal.nD Cert.ReferenceFfnInIdeal.τ).loc Cert.ReferenceFfnInIdeal.main_arg5)) (m ((c.tc : Thread Cert.ReferenceFfnInIdeal.nD Cert.ReferenceFfnInIdeal.τ).loc Cert.ReferenceFfnInIdeal.main_arg6))).1 = (fun _ => 1#1)
    ∧ (Cert.Pre_ffn_in_finite.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4)) (m ((c.tc : Thread Cert.ReferenceFfnInIdeal.nD Cert.ReferenceFfnInIdeal.τ).loc Cert.ReferenceFfnInIdeal.main_arg5)) (m ((c.tc : Thread Cert.ReferenceFfnInIdeal.nD Cert.ReferenceFfnInIdeal.τ).loc Cert.ReferenceFfnInIdeal.main_arg6))).2.1 = (fun _ => 1#1)
    ∧ (Cert.Pre_ffn_in_finite.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4)) (m ((c.tc : Thread Cert.ReferenceFfnInIdeal.nD Cert.ReferenceFfnInIdeal.τ).loc Cert.ReferenceFfnInIdeal.main_arg5)) (m ((c.tc : Thread Cert.ReferenceFfnInIdeal.nD Cert.ReferenceFfnInIdeal.τ).loc Cert.ReferenceFfnInIdeal.main_arg6))).2.2.1 = (fun _ => 1#1)
    ∧ (Cert.Pre_ffn_in_finite.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4)) (m ((c.tc : Thread Cert.ReferenceFfnInIdeal.nD Cert.ReferenceFfnInIdeal.τ).loc Cert.ReferenceFfnInIdeal.main_arg5)) (m ((c.tc : Thread Cert.ReferenceFfnInIdeal.nD Cert.ReferenceFfnInIdeal.τ).loc Cert.ReferenceFfnInIdeal.main_arg6))).2.2.2.1 = (fun _ => 1#1)
    ∧ (Cert.Pre_ffn_in_finite.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4)) (m ((c.tc : Thread Cert.ReferenceFfnInIdeal.nD Cert.ReferenceFfnInIdeal.τ).loc Cert.ReferenceFfnInIdeal.main_arg5)) (m ((c.tc : Thread Cert.ReferenceFfnInIdeal.nD Cert.ReferenceFfnInIdeal.τ).loc Cert.ReferenceFfnInIdeal.main_arg6))).2.2.2.2 = (fun _ => 1#1)

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelMixOut (m : (ℓ : Loc Cert.KernelMixOut.nD Cert.KernelMixOut.τ Cert.KernelMixOut.sig) → Buf (Elt Bits) ℓ) : Prop :=
  True

def Pre_KernelMixOutIdeal (m : (ℓ : Loc Cert.KernelMixOutIdeal.nD Cert.KernelMixOutIdeal.τ Cert.KernelMixOutIdeal.sig) → Buf (Elt Ideal) ℓ) : Prop :=
  True

def Pre_KernelMixOutIdeal_mixout_finite [hPre_mixout_finite : Cert.Pre_mixout_finite.Facts] (m : (ℓ : Loc Cert.KernelMixOutIdeal.nD Cert.KernelMixOutIdeal.τ Cert.KernelMixOutIdeal.sig) → Buf (Elt Ideal) ℓ) : Prop :=
  ∀ c : Dev Cert.KernelMixOutIdeal.nD,
    (Cert.Pre_mixout_finite.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5)) (m ((c.tc : Thread Cert.KernelMixOutIdeal.nD Cert.KernelMixOutIdeal.τ).loc Cert.KernelMixOutIdeal.main_arg6)) (m ((c.tc : Thread Cert.KernelMixOutIdeal.nD Cert.KernelMixOutIdeal.τ).loc Cert.KernelMixOutIdeal.main_arg7))).1 = (fun _ => 1#1)
    ∧ (Cert.Pre_mixout_finite.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5)) (m ((c.tc : Thread Cert.KernelMixOutIdeal.nD Cert.KernelMixOutIdeal.τ).loc Cert.KernelMixOutIdeal.main_arg6)) (m ((c.tc : Thread Cert.KernelMixOutIdeal.nD Cert.KernelMixOutIdeal.τ).loc Cert.KernelMixOutIdeal.main_arg7))).2.1 = (fun _ => 1#1)
    ∧ (Cert.Pre_mixout_finite.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5)) (m ((c.tc : Thread Cert.KernelMixOutIdeal.nD Cert.KernelMixOutIdeal.τ).loc Cert.KernelMixOutIdeal.main_arg6)) (m ((c.tc : Thread Cert.KernelMixOutIdeal.nD Cert.KernelMixOutIdeal.τ).loc Cert.KernelMixOutIdeal.main_arg7))).2.2.1 = (fun _ => 1#1)
    ∧ (Cert.Pre_mixout_finite.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5)) (m ((c.tc : Thread Cert.KernelMixOutIdeal.nD Cert.KernelMixOutIdeal.τ).loc Cert.KernelMixOutIdeal.main_arg6)) (m ((c.tc : Thread Cert.KernelMixOutIdeal.nD Cert.KernelMixOutIdeal.τ).loc Cert.KernelMixOutIdeal.main_arg7))).2.2.2.1 = (fun _ => 1#1)
    ∧ (Cert.Pre_mixout_finite.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5)) (m ((c.tc : Thread Cert.KernelMixOutIdeal.nD Cert.KernelMixOutIdeal.τ).loc Cert.KernelMixOutIdeal.main_arg6)) (m ((c.tc : Thread Cert.KernelMixOutIdeal.nD Cert.KernelMixOutIdeal.τ).loc Cert.KernelMixOutIdeal.main_arg7))).2.2.2.2.1 = (fun _ => 1#1)
    ∧ (Cert.Pre_mixout_finite.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5)) (m ((c.tc : Thread Cert.KernelMixOutIdeal.nD Cert.KernelMixOutIdeal.τ).loc Cert.KernelMixOutIdeal.main_arg6)) (m ((c.tc : Thread Cert.KernelMixOutIdeal.nD Cert.KernelMixOutIdeal.τ).loc Cert.KernelMixOutIdeal.main_arg7))).2.2.2.2.2.1 = (fun _ => 1#1)
    ∧ (Cert.Pre_mixout_finite.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5)) (m ((c.tc : Thread Cert.KernelMixOutIdeal.nD Cert.KernelMixOutIdeal.τ).loc Cert.KernelMixOutIdeal.main_arg6)) (m ((c.tc : Thread Cert.KernelMixOutIdeal.nD Cert.KernelMixOutIdeal.τ).loc Cert.KernelMixOutIdeal.main_arg7))).2.2.2.2.2.2.1 = (fun _ => 1#1)
    ∧ (Cert.Pre_mixout_finite.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5)) (m ((c.tc : Thread Cert.KernelMixOutIdeal.nD Cert.KernelMixOutIdeal.τ).loc Cert.KernelMixOutIdeal.main_arg6)) (m ((c.tc : Thread Cert.KernelMixOutIdeal.nD Cert.KernelMixOutIdeal.τ).loc Cert.KernelMixOutIdeal.main_arg7))).2.2.2.2.2.2.2 = (fun _ => 1#1)

def Pre_ReferenceMixOutIdeal (m : (ℓ : Loc Cert.ReferenceMixOutIdeal.nD Cert.ReferenceMixOutIdeal.τ Cert.ReferenceMixOutIdeal.sig) → Buf (Elt Ideal) ℓ) : Prop :=
  True

def Pre_ReferenceMixOutIdeal_mixout_finite [hPre_mixout_finite : Cert.Pre_mixout_finite.Facts] (m : (ℓ : Loc Cert.ReferenceMixOutIdeal.nD Cert.ReferenceMixOutIdeal.τ Cert.ReferenceMixOutIdeal.sig) → Buf (Elt Ideal) ℓ) : Prop :=
  ∀ c : Dev Cert.ReferenceMixOutIdeal.nD,
    (Cert.Pre_mixout_finite.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5)) (m ((c.tc : Thread Cert.ReferenceMixOutIdeal.nD Cert.ReferenceMixOutIdeal.τ).loc Cert.ReferenceMixOutIdeal.main_arg6)) (m ((c.tc : Thread Cert.ReferenceMixOutIdeal.nD Cert.ReferenceMixOutIdeal.τ).loc Cert.ReferenceMixOutIdeal.main_arg7))).1 = (fun _ => 1#1)
    ∧ (Cert.Pre_mixout_finite.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5)) (m ((c.tc : Thread Cert.ReferenceMixOutIdeal.nD Cert.ReferenceMixOutIdeal.τ).loc Cert.ReferenceMixOutIdeal.main_arg6)) (m ((c.tc : Thread Cert.ReferenceMixOutIdeal.nD Cert.ReferenceMixOutIdeal.τ).loc Cert.ReferenceMixOutIdeal.main_arg7))).2.1 = (fun _ => 1#1)
    ∧ (Cert.Pre_mixout_finite.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5)) (m ((c.tc : Thread Cert.ReferenceMixOutIdeal.nD Cert.ReferenceMixOutIdeal.τ).loc Cert.ReferenceMixOutIdeal.main_arg6)) (m ((c.tc : Thread Cert.ReferenceMixOutIdeal.nD Cert.ReferenceMixOutIdeal.τ).loc Cert.ReferenceMixOutIdeal.main_arg7))).2.2.1 = (fun _ => 1#1)
    ∧ (Cert.Pre_mixout_finite.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5)) (m ((c.tc : Thread Cert.ReferenceMixOutIdeal.nD Cert.ReferenceMixOutIdeal.τ).loc Cert.ReferenceMixOutIdeal.main_arg6)) (m ((c.tc : Thread Cert.ReferenceMixOutIdeal.nD Cert.ReferenceMixOutIdeal.τ).loc Cert.ReferenceMixOutIdeal.main_arg7))).2.2.2.1 = (fun _ => 1#1)
    ∧ (Cert.Pre_mixout_finite.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5)) (m ((c.tc : Thread Cert.ReferenceMixOutIdeal.nD Cert.ReferenceMixOutIdeal.τ).loc Cert.ReferenceMixOutIdeal.main_arg6)) (m ((c.tc : Thread Cert.ReferenceMixOutIdeal.nD Cert.ReferenceMixOutIdeal.τ).loc Cert.ReferenceMixOutIdeal.main_arg7))).2.2.2.2.1 = (fun _ => 1#1)
    ∧ (Cert.Pre_mixout_finite.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5)) (m ((c.tc : Thread Cert.ReferenceMixOutIdeal.nD Cert.ReferenceMixOutIdeal.τ).loc Cert.ReferenceMixOutIdeal.main_arg6)) (m ((c.tc : Thread Cert.ReferenceMixOutIdeal.nD Cert.ReferenceMixOutIdeal.τ).loc Cert.ReferenceMixOutIdeal.main_arg7))).2.2.2.2.2.1 = (fun _ => 1#1)
    ∧ (Cert.Pre_mixout_finite.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5)) (m ((c.tc : Thread Cert.ReferenceMixOutIdeal.nD Cert.ReferenceMixOutIdeal.τ).loc Cert.ReferenceMixOutIdeal.main_arg6)) (m ((c.tc : Thread Cert.ReferenceMixOutIdeal.nD Cert.ReferenceMixOutIdeal.τ).loc Cert.ReferenceMixOutIdeal.main_arg7))).2.2.2.2.2.2.1 = (fun _ => 1#1)
    ∧ (Cert.Pre_mixout_finite.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5)) (m ((c.tc : Thread Cert.ReferenceMixOutIdeal.nD Cert.ReferenceMixOutIdeal.τ).loc Cert.ReferenceMixOutIdeal.main_arg6)) (m ((c.tc : Thread Cert.ReferenceMixOutIdeal.nD Cert.ReferenceMixOutIdeal.τ).loc Cert.ReferenceMixOutIdeal.main_arg7))).2.2.2.2.2.2.2 = (fun _ => 1#1)

def Pre_KernelSwiglu (m : (ℓ : Loc Cert.KernelSwiglu.nD Cert.KernelSwiglu.τ Cert.KernelSwiglu.sig) → Buf (Elt Bits) ℓ) : Prop :=
  True

def Pre_KernelSwigluIdeal (m : (ℓ : Loc Cert.KernelSwigluIdeal.nD Cert.KernelSwigluIdeal.τ Cert.KernelSwigluIdeal.sig) → Buf (Elt Ideal) ℓ) : Prop :=
  True

def Pre_KernelSwigluIdeal_swiglu_finite [hPre_swiglu_finite : Cert.Pre_swiglu_finite.Facts] (m : (ℓ : Loc Cert.KernelSwigluIdeal.nD Cert.KernelSwigluIdeal.τ Cert.KernelSwigluIdeal.sig) → Buf (Elt Ideal) ℓ) : Prop :=
  ∀ c : Dev Cert.KernelSwigluIdeal.nD,
    (Cert.Pre_swiglu_finite.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2)) (m ((c.tc : Thread Cert.KernelSwigluIdeal.nD Cert.KernelSwigluIdeal.τ).loc Cert.KernelSwigluIdeal.main_arg3))).1 = (fun _ => 1#1)
    ∧ (Cert.Pre_swiglu_finite.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2)) (m ((c.tc : Thread Cert.KernelSwigluIdeal.nD Cert.KernelSwigluIdeal.τ).loc Cert.KernelSwigluIdeal.main_arg3))).2.1 = (fun _ => 1#1)
    ∧ (Cert.Pre_swiglu_finite.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2)) (m ((c.tc : Thread Cert.KernelSwigluIdeal.nD Cert.KernelSwigluIdeal.τ).loc Cert.KernelSwigluIdeal.main_arg3))).2.2.1 = (fun _ => 1#1)
    ∧ (Cert.Pre_swiglu_finite.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2)) (m ((c.tc : Thread Cert.KernelSwigluIdeal.nD Cert.KernelSwigluIdeal.τ).loc Cert.KernelSwigluIdeal.main_arg3))).2.2.2 = (fun _ => 1#1)

def Pre_ReferenceSwigluIdeal (m : (ℓ : Loc Cert.ReferenceSwigluIdeal.nD Cert.ReferenceSwigluIdeal.τ Cert.ReferenceSwigluIdeal.sig) → Buf (Elt Ideal) ℓ) : Prop :=
  True

def Pre_ReferenceSwigluIdeal_swiglu_finite [hPre_swiglu_finite : Cert.Pre_swiglu_finite.Facts] (m : (ℓ : Loc Cert.ReferenceSwigluIdeal.nD Cert.ReferenceSwigluIdeal.τ Cert.ReferenceSwigluIdeal.sig) → Buf (Elt Ideal) ℓ) : Prop :=
  ∀ c : Dev Cert.ReferenceSwigluIdeal.nD,
    (Cert.Pre_swiglu_finite.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2)) (m ((c.tc : Thread Cert.ReferenceSwigluIdeal.nD Cert.ReferenceSwigluIdeal.τ).loc Cert.ReferenceSwigluIdeal.main_arg3))).1 = (fun _ => 1#1)
    ∧ (Cert.Pre_swiglu_finite.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2)) (m ((c.tc : Thread Cert.ReferenceSwigluIdeal.nD Cert.ReferenceSwigluIdeal.τ).loc Cert.ReferenceSwigluIdeal.main_arg3))).2.1 = (fun _ => 1#1)
    ∧ (Cert.Pre_swiglu_finite.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2)) (m ((c.tc : Thread Cert.ReferenceSwigluIdeal.nD Cert.ReferenceSwigluIdeal.τ).loc Cert.ReferenceSwigluIdeal.main_arg3))).2.2.1 = (fun _ => 1#1)
    ∧ (Cert.Pre_swiglu_finite.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2)) (m ((c.tc : Thread Cert.ReferenceSwigluIdeal.nD Cert.ReferenceSwigluIdeal.τ).loc Cert.ReferenceSwigluIdeal.main_arg3))).2.2.2 = (fun _ => 1#1)

def Pre_KernelMixIn (m : (ℓ : Loc Cert.KernelMixIn.nD Cert.KernelMixIn.τ Cert.KernelMixIn.sig) → Buf (Elt Bits) ℓ) : Prop :=
  True

def Pre_KernelMixInIdeal (m : (ℓ : Loc Cert.KernelMixInIdeal.nD Cert.KernelMixInIdeal.τ Cert.KernelMixInIdeal.sig) → Buf (Elt Ideal) ℓ) : Prop :=
  True

def Pre_KernelMixInIdeal_mixin_finite [hPre_mixin_finite : Cert.Pre_mixin_finite.Facts] (m : (ℓ : Loc Cert.KernelMixInIdeal.nD Cert.KernelMixInIdeal.τ Cert.KernelMixInIdeal.sig) → Buf (Elt Ideal) ℓ) : Prop :=
  ∀ c : Dev Cert.KernelMixInIdeal.nD,
    (Cert.Pre_mixin_finite.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4)) (m ((c.tc : Thread Cert.KernelMixInIdeal.nD Cert.KernelMixInIdeal.τ).loc Cert.KernelMixInIdeal.main_arg5)) (m ((c.tc : Thread Cert.KernelMixInIdeal.nD Cert.KernelMixInIdeal.τ).loc Cert.KernelMixInIdeal.main_arg6)) (m ((c.tc : Thread Cert.KernelMixInIdeal.nD Cert.KernelMixInIdeal.τ).loc Cert.KernelMixInIdeal.main_arg7)) (m ((c.tc : Thread Cert.KernelMixInIdeal.nD Cert.KernelMixInIdeal.τ).loc Cert.KernelMixInIdeal.main_arg8))).1 = (fun _ => 1#1)
    ∧ (Cert.Pre_mixin_finite.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4)) (m ((c.tc : Thread Cert.KernelMixInIdeal.nD Cert.KernelMixInIdeal.τ).loc Cert.KernelMixInIdeal.main_arg5)) (m ((c.tc : Thread Cert.KernelMixInIdeal.nD Cert.KernelMixInIdeal.τ).loc Cert.KernelMixInIdeal.main_arg6)) (m ((c.tc : Thread Cert.KernelMixInIdeal.nD Cert.KernelMixInIdeal.τ).loc Cert.KernelMixInIdeal.main_arg7)) (m ((c.tc : Thread Cert.KernelMixInIdeal.nD Cert.KernelMixInIdeal.τ).loc Cert.KernelMixInIdeal.main_arg8))).2.1 = (fun _ => 1#1)
    ∧ (Cert.Pre_mixin_finite.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4)) (m ((c.tc : Thread Cert.KernelMixInIdeal.nD Cert.KernelMixInIdeal.τ).loc Cert.KernelMixInIdeal.main_arg5)) (m ((c.tc : Thread Cert.KernelMixInIdeal.nD Cert.KernelMixInIdeal.τ).loc Cert.KernelMixInIdeal.main_arg6)) (m ((c.tc : Thread Cert.KernelMixInIdeal.nD Cert.KernelMixInIdeal.τ).loc Cert.KernelMixInIdeal.main_arg7)) (m ((c.tc : Thread Cert.KernelMixInIdeal.nD Cert.KernelMixInIdeal.τ).loc Cert.KernelMixInIdeal.main_arg8))).2.2.1 = (fun _ => 1#1)
    ∧ (Cert.Pre_mixin_finite.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4)) (m ((c.tc : Thread Cert.KernelMixInIdeal.nD Cert.KernelMixInIdeal.τ).loc Cert.KernelMixInIdeal.main_arg5)) (m ((c.tc : Thread Cert.KernelMixInIdeal.nD Cert.KernelMixInIdeal.τ).loc Cert.KernelMixInIdeal.main_arg6)) (m ((c.tc : Thread Cert.KernelMixInIdeal.nD Cert.KernelMixInIdeal.τ).loc Cert.KernelMixInIdeal.main_arg7)) (m ((c.tc : Thread Cert.KernelMixInIdeal.nD Cert.KernelMixInIdeal.τ).loc Cert.KernelMixInIdeal.main_arg8))).2.2.2 = (fun _ => 1#1)

def Pre_ReferenceMixInIdeal (m : (ℓ : Loc Cert.ReferenceMixInIdeal.nD Cert.ReferenceMixInIdeal.τ Cert.ReferenceMixInIdeal.sig) → Buf (Elt Ideal) ℓ) : Prop :=
  True

def Pre_ReferenceMixInIdeal_mixin_finite [hPre_mixin_finite : Cert.Pre_mixin_finite.Facts] (m : (ℓ : Loc Cert.ReferenceMixInIdeal.nD Cert.ReferenceMixInIdeal.τ Cert.ReferenceMixInIdeal.sig) → Buf (Elt Ideal) ℓ) : Prop :=
  ∀ c : Dev Cert.ReferenceMixInIdeal.nD,
    (Cert.Pre_mixin_finite.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4)) (m ((c.tc : Thread Cert.ReferenceMixInIdeal.nD Cert.ReferenceMixInIdeal.τ).loc Cert.ReferenceMixInIdeal.main_arg5)) (m ((c.tc : Thread Cert.ReferenceMixInIdeal.nD Cert.ReferenceMixInIdeal.τ).loc Cert.ReferenceMixInIdeal.main_arg6)) (m ((c.tc : Thread Cert.ReferenceMixInIdeal.nD Cert.ReferenceMixInIdeal.τ).loc Cert.ReferenceMixInIdeal.main_arg7)) (m ((c.tc : Thread Cert.ReferenceMixInIdeal.nD Cert.ReferenceMixInIdeal.τ).loc Cert.ReferenceMixInIdeal.main_arg8))).1 = (fun _ => 1#1)
    ∧ (Cert.Pre_mixin_finite.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4)) (m ((c.tc : Thread Cert.ReferenceMixInIdeal.nD Cert.ReferenceMixInIdeal.τ).loc Cert.ReferenceMixInIdeal.main_arg5)) (m ((c.tc : Thread Cert.ReferenceMixInIdeal.nD Cert.ReferenceMixInIdeal.τ).loc Cert.ReferenceMixInIdeal.main_arg6)) (m ((c.tc : Thread Cert.ReferenceMixInIdeal.nD Cert.ReferenceMixInIdeal.τ).loc Cert.ReferenceMixInIdeal.main_arg7)) (m ((c.tc : Thread Cert.ReferenceMixInIdeal.nD Cert.ReferenceMixInIdeal.τ).loc Cert.ReferenceMixInIdeal.main_arg8))).2.1 = (fun _ => 1#1)
    ∧ (Cert.Pre_mixin_finite.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4)) (m ((c.tc : Thread Cert.ReferenceMixInIdeal.nD Cert.ReferenceMixInIdeal.τ).loc Cert.ReferenceMixInIdeal.main_arg5)) (m ((c.tc : Thread Cert.ReferenceMixInIdeal.nD Cert.ReferenceMixInIdeal.τ).loc Cert.ReferenceMixInIdeal.main_arg6)) (m ((c.tc : Thread Cert.ReferenceMixInIdeal.nD Cert.ReferenceMixInIdeal.τ).loc Cert.ReferenceMixInIdeal.main_arg7)) (m ((c.tc : Thread Cert.ReferenceMixInIdeal.nD Cert.ReferenceMixInIdeal.τ).loc Cert.ReferenceMixInIdeal.main_arg8))).2.2.1 = (fun _ => 1#1)
    ∧ (Cert.Pre_mixin_finite.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4)) (m ((c.tc : Thread Cert.ReferenceMixInIdeal.nD Cert.ReferenceMixInIdeal.τ).loc Cert.ReferenceMixInIdeal.main_arg5)) (m ((c.tc : Thread Cert.ReferenceMixInIdeal.nD Cert.ReferenceMixInIdeal.τ).loc Cert.ReferenceMixInIdeal.main_arg6)) (m ((c.tc : Thread Cert.ReferenceMixInIdeal.nD Cert.ReferenceMixInIdeal.τ).loc Cert.ReferenceMixInIdeal.main_arg7)) (m ((c.tc : Thread Cert.ReferenceMixInIdeal.nD Cert.ReferenceMixInIdeal.τ).loc Cert.ReferenceMixInIdeal.main_arg8))).2.2.2 = (fun _ => 1#1)

def Pre_KernelMixInFwd (m : (ℓ : Loc Cert.KernelMixInFwd.nD Cert.KernelMixInFwd.τ Cert.KernelMixInFwd.sig) → Buf (Elt Bits) ℓ) : Prop :=
  True

def Pre_KernelMixInFwdIdeal (m : (ℓ : Loc Cert.KernelMixInFwdIdeal.nD Cert.KernelMixInFwdIdeal.τ Cert.KernelMixInFwdIdeal.sig) → Buf (Elt Ideal) ℓ) : Prop :=
  True

def Pre_ReferenceMixInFwdIdeal (m : (ℓ : Loc Cert.ReferenceMixInFwdIdeal.nD Cert.ReferenceMixInFwdIdeal.τ Cert.ReferenceMixInFwdIdeal.sig) → Buf (Elt Ideal) ℓ) : Prop :=
  True

def Pre_KernelConvFwd (m : (ℓ : Loc Cert.KernelConvFwd.nD Cert.KernelConvFwd.τ Cert.KernelConvFwd.sig) → Buf (Elt Bits) ℓ) : Prop :=
  True

def Pre_KernelConvFwdIdeal (m : (ℓ : Loc Cert.KernelConvFwdIdeal.nD Cert.KernelConvFwdIdeal.τ Cert.KernelConvFwdIdeal.sig) → Buf (Elt Ideal) ℓ) : Prop :=
  True

def Pre_ReferenceConvFwdIdeal (m : (ℓ : Loc Cert.ReferenceConvFwdIdeal.nD Cert.ReferenceConvFwdIdeal.τ Cert.ReferenceConvFwdIdeal.sig) → Buf (Elt Ideal) ℓ) : Prop :=
  True

def Pre_KernelMixOutFwd (m : (ℓ : Loc Cert.KernelMixOutFwd.nD Cert.KernelMixOutFwd.τ Cert.KernelMixOutFwd.sig) → Buf (Elt Bits) ℓ) : Prop :=
  True

def Pre_KernelMixOutFwdIdeal (m : (ℓ : Loc Cert.KernelMixOutFwdIdeal.nD Cert.KernelMixOutFwdIdeal.τ Cert.KernelMixOutFwdIdeal.sig) → Buf (Elt Ideal) ℓ) : Prop :=
  True

def Pre_ReferenceMixOutFwdIdeal (m : (ℓ : Loc Cert.ReferenceMixOutFwdIdeal.nD Cert.ReferenceMixOutFwdIdeal.τ Cert.ReferenceMixOutFwdIdeal.sig) → Buf (Elt Ideal) ℓ) : Prop :=
  True

def Pre_KernelRnnFwd (m : (ℓ : Loc Cert.KernelRnnFwd.nD Cert.KernelRnnFwd.τ Cert.KernelRnnFwd.sig) → Buf (Elt Bits) ℓ) : Prop :=
  True

def Pre_KernelRnnFwdIdeal (m : (ℓ : Loc Cert.KernelRnnFwdIdeal.nD Cert.KernelRnnFwdIdeal.τ Cert.KernelRnnFwdIdeal.sig) → Buf (Elt Ideal) ℓ) : Prop :=
  True

def Pre_KernelRnnFwdIdeal_rnn_far [hPre_rnn_far : Cert.Pre_rnn_far.Facts] (m : (ℓ : Loc Cert.KernelRnnFwdIdeal.nD Cert.KernelRnnFwdIdeal.τ Cert.KernelRnnFwdIdeal.sig) → Buf (Elt Ideal) ℓ) : Prop :=
  ∀ c : Dev Cert.KernelRnnFwdIdeal.nD,
    (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).1 = (fun _ => 1#1)
    ∧ (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).2.1 = (fun _ => 1#1)
    ∧ (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).2.2.1 = (fun _ => 1#1)
    ∧ (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).2.2.2.1 = (fun _ => 1#1)
    ∧ (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).2.2.2.2.1 = (fun _ => 1#1)
    ∧ (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).2.2.2.2.2.1 = (fun _ => 1#1)
    ∧ (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).2.2.2.2.2.2.1 = (fun _ => 1#1)
    ∧ (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).2.2.2.2.2.2.2.1 = (fun _ => 1#1)
    ∧ (Cert.Pre_rnn_far.fn (F := Ideal) (m ((c.tc : Thread Cert.KernelRnnFwdIdeal.nD Cert.KernelRnnFwdIdeal.τ).loc Cert.KernelRnnFwdIdeal.main_arg0)) (m ((c.tc : Thread Cert.KernelRnnFwdIdeal.nD Cert.KernelRnnFwdIdeal.τ).loc Cert.KernelRnnFwdIdeal.main_arg1)) (m ((c.tc : Thread Cert.KernelRnnFwdIdeal.nD Cert.KernelRnnFwdIdeal.τ).loc Cert.KernelRnnFwdIdeal.main_arg2)) (m ((c.tc : Thread Cert.KernelRnnFwdIdeal.nD Cert.KernelRnnFwdIdeal.τ).loc Cert.KernelRnnFwdIdeal.main_arg3)) (m ((c.tc : Thread Cert.KernelRnnFwdIdeal.nD Cert.KernelRnnFwdIdeal.τ).loc Cert.KernelRnnFwdIdeal.main_arg4)) (m ((c.tc : Thread Cert.KernelRnnFwdIdeal.nD Cert.KernelRnnFwdIdeal.τ).loc Cert.KernelRnnFwdIdeal.main_arg5)) (m ((c.tc : Thread Cert.KernelRnnFwdIdeal.nD Cert.KernelRnnFwdIdeal.τ).loc Cert.KernelRnnFwdIdeal.main_arg6)) (m ((c.tc : Thread Cert.KernelRnnFwdIdeal.nD Cert.KernelRnnFwdIdeal.τ).loc Cert.KernelRnnFwdIdeal.main_arg7))).2.2.2.2.2.2.2.2 = (fun _ => 1#1)

def Pre_ReferenceRnnFwdIdeal (m : (ℓ : Loc Cert.ReferenceRnnFwdIdeal.nD Cert.ReferenceRnnFwdIdeal.τ Cert.ReferenceRnnFwdIdeal.sig) → Buf (Elt Ideal) ℓ) : Prop :=
  True

def Pre_ReferenceRnnFwdIdeal_rnn_far [hPre_rnn_far : Cert.Pre_rnn_far.Facts] (m : (ℓ : Loc Cert.ReferenceRnnFwdIdeal.nD Cert.ReferenceRnnFwdIdeal.τ Cert.ReferenceRnnFwdIdeal.sig) → Buf (Elt Ideal) ℓ) : Prop :=
  ∀ c : Dev Cert.ReferenceRnnFwdIdeal.nD,
    (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).1 = (fun _ => 1#1)
    ∧ (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).2.1 = (fun _ => 1#1)
    ∧ (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).2.2.1 = (fun _ => 1#1)
    ∧ (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).2.2.2.1 = (fun _ => 1#1)
    ∧ (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).2.2.2.2.1 = (fun _ => 1#1)
    ∧ (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).2.2.2.2.2.1 = (fun _ => 1#1)
    ∧ (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).2.2.2.2.2.2.1 = (fun _ => 1#1)
    ∧ (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).2.2.2.2.2.2.2.1 = (fun _ => 1#1)
    ∧ (Cert.Pre_rnn_far.fn (F := Ideal) (m ((c.tc : Thread Cert.ReferenceRnnFwdIdeal.nD Cert.ReferenceRnnFwdIdeal.τ).loc Cert.ReferenceRnnFwdIdeal.main_arg0)) (m ((c.tc : Thread Cert.ReferenceRnnFwdIdeal.nD Cert.ReferenceRnnFwdIdeal.τ).loc Cert.ReferenceRnnFwdIdeal.main_arg1)) (m ((c.tc : Thread Cert.ReferenceRnnFwdIdeal.nD Cert.ReferenceRnnFwdIdeal.τ).loc Cert.ReferenceRnnFwdIdeal.main_arg2)) (m ((c.tc : Thread Cert.ReferenceRnnFwdIdeal.nD Cert.ReferenceRnnFwdIdeal.τ).loc Cert.ReferenceRnnFwdIdeal.main_arg3)) (m ((c.tc : Thread Cert.ReferenceRnnFwdIdeal.nD Cert.ReferenceRnnFwdIdeal.τ).loc Cert.ReferenceRnnFwdIdeal.main_arg4)) (m ((c.tc : Thread Cert.ReferenceRnnFwdIdeal.nD Cert.ReferenceRnnFwdIdeal.τ).loc Cert.ReferenceRnnFwdIdeal.main_arg5)) (m ((c.tc : Thread Cert.ReferenceRnnFwdIdeal.nD Cert.ReferenceRnnFwdIdeal.τ).loc Cert.ReferenceRnnFwdIdeal.main_arg6)) (m ((c.tc : Thread Cert.ReferenceRnnFwdIdeal.nD Cert.ReferenceRnnFwdIdeal.τ).loc Cert.ReferenceRnnFwdIdeal.main_arg7))).2.2.2.2.2.2.2.2 = (fun _ => 1#1)

def Pre_KernelRnnBwd (m : (ℓ : Loc Cert.KernelRnnBwd.nD Cert.KernelRnnBwd.τ Cert.KernelRnnBwd.sig) → Buf (Elt Bits) ℓ) : Prop :=
  True

def Pre_KernelRnnBwdIdeal (m : (ℓ : Loc Cert.KernelRnnBwdIdeal.nD Cert.KernelRnnBwdIdeal.τ Cert.KernelRnnBwdIdeal.sig) → Buf (Elt Ideal) ℓ) : Prop :=
  True

def Pre_KernelRnnBwdIdeal_rnn_back_far [hPre_rnn_back_far : Cert.Pre_rnn_back_far.Facts] (m : (ℓ : Loc Cert.KernelRnnBwdIdeal.nD Cert.KernelRnnBwdIdeal.τ Cert.KernelRnnBwdIdeal.sig) → Buf (Elt Ideal) ℓ) : Prop :=
  ∀ c : Dev Cert.KernelRnnBwdIdeal.nD,
    (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.2.1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.2.2.1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.2.2.2.1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.2.2.2.2.1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.2.2.2.2.2.1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.2.2.2.2.2.2.1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.2.2.2.2.2.2.2.1 = (fun _ => 1#1)
    ∧ (Cert.Pre_rnn_back_far.fn (F := Ideal) (m ((c.tc : Thread Cert.KernelRnnBwdIdeal.nD Cert.KernelRnnBwdIdeal.τ).loc Cert.KernelRnnBwdIdeal.main_arg0)) (m ((c.tc : Thread Cert.KernelRnnBwdIdeal.nD Cert.KernelRnnBwdIdeal.τ).loc Cert.KernelRnnBwdIdeal.main_arg1)) (m ((c.tc : Thread Cert.KernelRnnBwdIdeal.nD Cert.KernelRnnBwdIdeal.τ).loc Cert.KernelRnnBwdIdeal.main_arg2)) (m ((c.tc : Thread Cert.KernelRnnBwdIdeal.nD Cert.KernelRnnBwdIdeal.τ).loc Cert.KernelRnnBwdIdeal.main_arg3)) (m ((c.tc : Thread Cert.KernelRnnBwdIdeal.nD Cert.KernelRnnBwdIdeal.τ).loc Cert.KernelRnnBwdIdeal.main_arg4)) (m ((c.tc : Thread Cert.KernelRnnBwdIdeal.nD Cert.KernelRnnBwdIdeal.τ).loc Cert.KernelRnnBwdIdeal.main_arg5)) (m ((c.tc : Thread Cert.KernelRnnBwdIdeal.nD Cert.KernelRnnBwdIdeal.τ).loc Cert.KernelRnnBwdIdeal.main_arg6)) (m ((c.tc : Thread Cert.KernelRnnBwdIdeal.nD Cert.KernelRnnBwdIdeal.τ).loc Cert.KernelRnnBwdIdeal.main_arg7)) (m ((c.tc : Thread Cert.KernelRnnBwdIdeal.nD Cert.KernelRnnBwdIdeal.τ).loc Cert.KernelRnnBwdIdeal.main_arg8))).2.2.2.2.2.2.2.2.2 = (fun _ => 1#1)

def Pre_ReferenceRnnBwdIdeal (m : (ℓ : Loc Cert.ReferenceRnnBwdIdeal.nD Cert.ReferenceRnnBwdIdeal.τ Cert.ReferenceRnnBwdIdeal.sig) → Buf (Elt Ideal) ℓ) : Prop :=
  True

def Pre_ReferenceRnnBwdIdeal_rnn_back_far [hPre_rnn_back_far : Cert.Pre_rnn_back_far.Facts] (m : (ℓ : Loc Cert.ReferenceRnnBwdIdeal.nD Cert.ReferenceRnnBwdIdeal.τ Cert.ReferenceRnnBwdIdeal.sig) → Buf (Elt Ideal) ℓ) : Prop :=
  ∀ c : Dev Cert.ReferenceRnnBwdIdeal.nD,
    (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.2.1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.2.2.1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.2.2.2.1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.2.2.2.2.1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.2.2.2.2.2.1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.2.2.2.2.2.2.1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.2.2.2.2.2.2.2.1 = (fun _ => 1#1)
    ∧ (Cert.Pre_rnn_back_far.fn (F := Ideal) (m ((c.tc : Thread Cert.ReferenceRnnBwdIdeal.nD Cert.ReferenceRnnBwdIdeal.τ).loc Cert.ReferenceRnnBwdIdeal.main_arg0)) (m ((c.tc : Thread Cert.ReferenceRnnBwdIdeal.nD Cert.ReferenceRnnBwdIdeal.τ).loc Cert.ReferenceRnnBwdIdeal.main_arg1)) (m ((c.tc : Thread Cert.ReferenceRnnBwdIdeal.nD Cert.ReferenceRnnBwdIdeal.τ).loc Cert.ReferenceRnnBwdIdeal.main_arg2)) (m ((c.tc : Thread Cert.ReferenceRnnBwdIdeal.nD Cert.ReferenceRnnBwdIdeal.τ).loc Cert.ReferenceRnnBwdIdeal.main_arg3)) (m ((c.tc : Thread Cert.ReferenceRnnBwdIdeal.nD Cert.ReferenceRnnBwdIdeal.τ).loc Cert.ReferenceRnnBwdIdeal.main_arg4)) (m ((c.tc : Thread Cert.ReferenceRnnBwdIdeal.nD Cert.ReferenceRnnBwdIdeal.τ).loc Cert.ReferenceRnnBwdIdeal.main_arg5)) (m ((c.tc : Thread Cert.ReferenceRnnBwdIdeal.nD Cert.ReferenceRnnBwdIdeal.τ).loc Cert.ReferenceRnnBwdIdeal.main_arg6)) (m ((c.tc : Thread Cert.ReferenceRnnBwdIdeal.nD Cert.ReferenceRnnBwdIdeal.τ).loc Cert.ReferenceRnnBwdIdeal.main_arg7)) (m ((c.tc : Thread Cert.ReferenceRnnBwdIdeal.nD Cert.ReferenceRnnBwdIdeal.τ).loc Cert.ReferenceRnnBwdIdeal.main_arg8))).2.2.2.2.2.2.2.2.2 = (fun _ => 1#1)

def Pre_KernelModUpdate (m : (ℓ : Loc Cert.KernelModUpdate.nD Cert.KernelModUpdate.τ Cert.KernelModUpdate.sig) → Buf (Elt Bits) ℓ) : Prop :=
  True

def Pre_KernelModUpdateIdeal (m : (ℓ : Loc Cert.KernelModUpdateIdeal.nD Cert.KernelModUpdateIdeal.τ Cert.KernelModUpdateIdeal.sig) → Buf (Elt Ideal) ℓ) : Prop :=
  True

def Pre_ReferenceModUpdateIdeal (m : (ℓ : Loc Cert.ReferenceModUpdateIdeal.nD Cert.ReferenceModUpdateIdeal.τ Cert.ReferenceModUpdateIdeal.sig) → Buf (Elt Ideal) ℓ) : Prop :=
  True

def Pre_KernelTableSum (m : (ℓ : Loc Cert.KernelTableSum.nD Cert.KernelTableSum.τ Cert.KernelTableSum.sig) → Buf (Elt Bits) ℓ) : Prop :=
  True

def Pre_KernelTableSumIdeal (m : (ℓ : Loc Cert.KernelTableSumIdeal.nD Cert.KernelTableSumIdeal.τ Cert.KernelTableSumIdeal.sig) → Buf (Elt Ideal) ℓ) : Prop :=
  True

def Pre_ReferenceTableSumIdeal (m : (ℓ : Loc Cert.ReferenceTableSumIdeal.nD Cert.ReferenceTableSumIdeal.τ Cert.ReferenceTableSumIdeal.sig) → Buf (Elt Ideal) ℓ) : Prop :=
  True

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1)
      ∧ r.2.mem ((c.tc : Thread Cert.KernelFfnIn.nD Cert.KernelFfnIn.τ).loc Cert.KernelFfnIn.main_arg2) = m ((c.tc : Thread Cert.KernelFfnIn.nD Cert.KernelFfnIn.τ).loc Cert.KernelFfnIn.main_arg2)
      ∧ r.2.mem ((c.tc : Thread Cert.KernelFfnIn.nD Cert.KernelFfnIn.τ).loc Cert.KernelFfnIn.main_arg3) = m ((c.tc : Thread Cert.KernelFfnIn.nD Cert.KernelFfnIn.τ).loc Cert.KernelFfnIn.main_arg3)
      ∧ r.2.mem ((c.tc : Thread Cert.KernelFfnIn.nD Cert.KernelFfnIn.τ).loc Cert.KernelFfnIn.main_arg4) = m ((c.tc : Thread Cert.KernelFfnIn.nD Cert.KernelFfnIn.τ).loc Cert.KernelFfnIn.main_arg4)
      ∧ r.2.mem ((c.tc : Thread Cert.KernelFfnIn.nD Cert.KernelFfnIn.τ).loc Cert.KernelFfnIn.main_arg5) = m ((c.tc : Thread Cert.KernelFfnIn.nD Cert.KernelFfnIn.τ).loc Cert.KernelFfnIn.main_arg5)
      ∧ r.2.mem ((c.tc : Thread Cert.KernelFfnIn.nD Cert.KernelFfnIn.τ).loc Cert.KernelFfnIn.main_arg6) = m ((c.tc : Thread Cert.KernelFfnIn.nD Cert.KernelFfnIn.τ).loc Cert.KernelFfnIn.main_arg6))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
      ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
      ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4)
      ∧ r.2.mem ((c.tc : Thread Cert.KernelFfnInIdeal.nD Cert.KernelFfnInIdeal.τ).loc Cert.KernelFfnInIdeal.main_arg5) = m ((c.tc : Thread Cert.KernelFfnInIdeal.nD Cert.KernelFfnInIdeal.τ).loc Cert.KernelFfnInIdeal.main_arg5)
      ∧ r.2.mem ((c.tc : Thread Cert.KernelFfnInIdeal.nD Cert.KernelFfnInIdeal.τ).loc Cert.KernelFfnInIdeal.main_arg6) = m ((c.tc : Thread Cert.KernelFfnInIdeal.nD Cert.KernelFfnInIdeal.τ).loc Cert.KernelFfnInIdeal.main_arg6))
      ∧ r.2.sem = fun _ => 0)

def quiescent_KernelFfnInIdeal_pre_ffn_in_finite [hKernelFfnInIdeal : Cert.KernelFfnInIdeal.Facts] [hPre_ffn_in_finite : Cert.Pre_ffn_in_finite.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal_ffn_in_finite m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
      ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
      ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4)
      ∧ r.2.mem ((c.tc : Thread Cert.KernelFfnInIdeal.nD Cert.KernelFfnInIdeal.τ).loc Cert.KernelFfnInIdeal.main_arg5) = m ((c.tc : Thread Cert.KernelFfnInIdeal.nD Cert.KernelFfnInIdeal.τ).loc Cert.KernelFfnInIdeal.main_arg5)
      ∧ r.2.mem ((c.tc : Thread Cert.KernelFfnInIdeal.nD Cert.KernelFfnInIdeal.τ).loc Cert.KernelFfnInIdeal.main_arg6) = m ((c.tc : Thread Cert.KernelFfnInIdeal.nD Cert.KernelFfnInIdeal.τ).loc Cert.KernelFfnInIdeal.main_arg6))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2)
      ∧ r.2.mem ((c.tc : Thread Cert.ReferenceFfnInIdeal.nD Cert.ReferenceFfnInIdeal.τ).loc Cert.ReferenceFfnInIdeal.main_arg3) = m ((c.tc : Thread Cert.ReferenceFfnInIdeal.nD Cert.ReferenceFfnInIdeal.τ).loc Cert.ReferenceFfnInIdeal.main_arg3)
      ∧ r.2.mem ((c.tc : Thread Cert.ReferenceFfnInIdeal.nD Cert.ReferenceFfnInIdeal.τ).loc Cert.ReferenceFfnInIdeal.main_arg4) = m ((c.tc : Thread Cert.ReferenceFfnInIdeal.nD Cert.ReferenceFfnInIdeal.τ).loc Cert.ReferenceFfnInIdeal.main_arg4)
      ∧ r.2.mem ((c.tc : Thread Cert.ReferenceFfnInIdeal.nD Cert.ReferenceFfnInIdeal.τ).loc Cert.ReferenceFfnInIdeal.main_arg5) = m ((c.tc : Thread Cert.ReferenceFfnInIdeal.nD Cert.ReferenceFfnInIdeal.τ).loc Cert.ReferenceFfnInIdeal.main_arg5)
      ∧ r.2.mem ((c.tc : Thread Cert.ReferenceFfnInIdeal.nD Cert.ReferenceFfnInIdeal.τ).loc Cert.ReferenceFfnInIdeal.main_arg6) = m ((c.tc : Thread Cert.ReferenceFfnInIdeal.nD Cert.ReferenceFfnInIdeal.τ).loc Cert.ReferenceFfnInIdeal.main_arg6))
      ∧ r.2.sem = fun _ => 0)

def quiescent_ReferenceFfnInIdeal_pre_ffn_in_finite [hReferenceFfnInIdeal : Cert.ReferenceFfnInIdeal.Facts] [hPre_ffn_in_finite : Cert.Pre_ffn_in_finite.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal_ffn_in_finite m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2)
      ∧ r.2.mem ((c.tc : Thread Cert.ReferenceFfnInIdeal.nD Cert.ReferenceFfnInIdeal.τ).loc Cert.ReferenceFfnInIdeal.main_arg3) = m ((c.tc : Thread Cert.ReferenceFfnInIdeal.nD Cert.ReferenceFfnInIdeal.τ).loc Cert.ReferenceFfnInIdeal.main_arg3)
      ∧ r.2.mem ((c.tc : Thread Cert.ReferenceFfnInIdeal.nD Cert.ReferenceFfnInIdeal.τ).loc Cert.ReferenceFfnInIdeal.main_arg4) = m ((c.tc : Thread Cert.ReferenceFfnInIdeal.nD Cert.ReferenceFfnInIdeal.τ).loc Cert.ReferenceFfnInIdeal.main_arg4)
      ∧ r.2.mem ((c.tc : Thread Cert.ReferenceFfnInIdeal.nD Cert.ReferenceFfnInIdeal.τ).loc Cert.ReferenceFfnInIdeal.main_arg5) = m ((c.tc : Thread Cert.ReferenceFfnInIdeal.nD Cert.ReferenceFfnInIdeal.τ).loc Cert.ReferenceFfnInIdeal.main_arg5)
      ∧ r.2.mem ((c.tc : Thread Cert.ReferenceFfnInIdeal.nD Cert.ReferenceFfnInIdeal.τ).loc Cert.ReferenceFfnInIdeal.main_arg6) = m ((c.tc : Thread Cert.ReferenceFfnInIdeal.nD Cert.ReferenceFfnInIdeal.τ).loc Cert.ReferenceFfnInIdeal.main_arg6))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3))
      ∧ r.2.sem = fun _ => 0)

def quiescent_KernelMixOut [hKernelMixOut : Cert.KernelMixOut.Facts] : Prop :=
  ∀ (m : (ℓ : Loc Cert.KernelMixOut.nD Cert.KernelMixOut.τ Cert.KernelMixOut.sig) → Buf (Elt Bits) ℓ) (g : Dev Cert.KernelMixOut.nD → PrngReg), Pre_KernelMixOut m →
    θ_run (Cert.KernelMixOut.defs (F := Bits)) (onTc (τ := Cert.KernelMixOut.τ) (Cert.KernelMixOut.main (F := Bits))) ⟨m, fun _ => 0, g⟩ (fun r => (∀ c : Dev Cert.KernelMixOut.nD,
      r.2.mem ((c.tc : Thread Cert.KernelMixOut.nD Cert.KernelMixOut.τ).loc Cert.KernelMixOut.main_arg0) = m ((c.tc : Thread Cert.KernelMixOut.nD Cert.KernelMixOut.τ).loc Cert.KernelMixOut.main_arg0)
      ∧ r.2.mem ((c.tc : Thread Cert.KernelMixOut.nD Cert.KernelMixOut.τ).loc Cert.KernelMixOut.main_arg1) = m ((c.tc : Thread Cert.KernelMixOut.nD Cert.KernelMixOut.τ).loc Cert.KernelMixOut.main_arg1)
      ∧ r.2.mem ((c.tc : Thread Cert.KernelMixOut.nD Cert.KernelMixOut.τ).loc Cert.KernelMixOut.main_arg2) = m ((c.tc : Thread Cert.KernelMixOut.nD Cert.KernelMixOut.τ).loc Cert.KernelMixOut.main_arg2)
      ∧ r.2.mem ((c.tc : Thread Cert.KernelMixOut.nD Cert.KernelMixOut.τ).loc Cert.KernelMixOut.main_arg3) = m ((c.tc : Thread Cert.KernelMixOut.nD Cert.KernelMixOut.τ).loc Cert.KernelMixOut.main_arg3)
      ∧ r.2.mem ((c.tc : Thread Cert.KernelMixOut.nD Cert.KernelMixOut.τ).loc Cert.KernelMixOut.main_arg4) = m ((c.tc : Thread Cert.KernelMixOut.nD Cert.KernelMixOut.τ).loc Cert.KernelMixOut.main_arg4)
      ∧ r.2.mem ((c.tc : Thread Cert.KernelMixOut.nD Cert.KernelMixOut.τ).loc Cert.KernelMixOut.main_arg5) = m ((c.tc : Thread Cert.KernelMixOut.nD Cert.KernelMixOut.τ).loc Cert.KernelMixOut.main_arg5)
      ∧ r.2.mem ((c.tc : Thread Cert.KernelMixOut.nD Cert.KernelMixOut.τ).loc Cert.KernelMixOut.main_arg6) = m ((c.tc : Thread Cert.KernelMixOut.nD Cert.KernelMixOut.τ).loc Cert.KernelMixOut.main_arg6)
      ∧ r.2.mem ((c.tc : Thread Cert.KernelMixOut.nD Cert.KernelMixOut.τ).loc Cert.KernelMixOut.main_arg7) = m ((c.tc : Thread Cert.KernelMixOut.nD Cert.KernelMixOut.τ).loc Cert.KernelMixOut.main_arg7))
      ∧ r.2.sem = fun _ => 0)

def quiescent_KernelMixOutIdeal [hKernelMixOutIdeal : Cert.KernelMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
      ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
      ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
      ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
      ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6)
      ∧ r.2.mem ((c.tc : Thread Cert.KernelMixOutIdeal.nD Cert.KernelMixOutIdeal.τ).loc Cert.KernelMixOutIdeal.main_arg7) = m ((c.tc : Thread Cert.KernelMixOutIdeal.nD Cert.KernelMixOutIdeal.τ).loc Cert.KernelMixOutIdeal.main_arg7))
      ∧ r.2.sem = fun _ => 0)

def quiescent_KernelMixOutIdeal_pre_mixout_finite [hKernelMixOutIdeal : Cert.KernelMixOutIdeal.Facts] [hPre_mixout_finite : Cert.Pre_mixout_finite.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal_mixout_finite m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
      ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
      ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
      ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
      ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6)
      ∧ r.2.mem ((c.tc : Thread Cert.KernelMixOutIdeal.nD Cert.KernelMixOutIdeal.τ).loc Cert.KernelMixOutIdeal.main_arg7) = m ((c.tc : Thread Cert.KernelMixOutIdeal.nD Cert.KernelMixOutIdeal.τ).loc Cert.KernelMixOutIdeal.main_arg7))
      ∧ r.2.sem = fun _ => 0)

def quiescent_ReferenceMixOutIdeal [hReferenceMixOutIdeal : Cert.ReferenceMixOutIdeal.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2)
      ∧ r.2.mem ((c.tc : Thread Cert.ReferenceMixOutIdeal.nD Cert.ReferenceMixOutIdeal.τ).loc Cert.ReferenceMixOutIdeal.main_arg3) = m ((c.tc : Thread Cert.ReferenceMixOutIdeal.nD Cert.ReferenceMixOutIdeal.τ).loc Cert.ReferenceMixOutIdeal.main_arg3)
      ∧ r.2.mem ((c.tc : Thread Cert.ReferenceMixOutIdeal.nD Cert.ReferenceMixOutIdeal.τ).loc Cert.ReferenceMixOutIdeal.main_arg4) = m ((c.tc : Thread Cert.ReferenceMixOutIdeal.nD Cert.ReferenceMixOutIdeal.τ).loc Cert.ReferenceMixOutIdeal.main_arg4)
      ∧ r.2.mem ((c.tc : Thread Cert.ReferenceMixOutIdeal.nD Cert.ReferenceMixOutIdeal.τ).loc Cert.ReferenceMixOutIdeal.main_arg5) = m ((c.tc : Thread Cert.ReferenceMixOutIdeal.nD Cert.ReferenceMixOutIdeal.τ).loc Cert.ReferenceMixOutIdeal.main_arg5)
      ∧ r.2.mem ((c.tc : Thread Cert.ReferenceMixOutIdeal.nD Cert.ReferenceMixOutIdeal.τ).loc Cert.ReferenceMixOutIdeal.main_arg6) = m ((c.tc : Thread Cert.ReferenceMixOutIdeal.nD Cert.ReferenceMixOutIdeal.τ).loc Cert.ReferenceMixOutIdeal.main_arg6)
      ∧ r.2.mem ((c.tc : Thread Cert.ReferenceMixOutIdeal.nD Cert.ReferenceMixOutIdeal.τ).loc Cert.ReferenceMixOutIdeal.main_arg7) = m ((c.tc : Thread Cert.ReferenceMixOutIdeal.nD Cert.ReferenceMixOutIdeal.τ).loc Cert.ReferenceMixOutIdeal.main_arg7))
      ∧ r.2.sem = fun _ => 0)

def quiescent_ReferenceMixOutIdeal_pre_mixout_finite [hReferenceMixOutIdeal : Cert.ReferenceMixOutIdeal.Facts] [hPre_mixout_finite : Cert.Pre_mixout_finite.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal_mixout_finite m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2)
      ∧ r.2.mem ((c.tc : Thread Cert.ReferenceMixOutIdeal.nD Cert.ReferenceMixOutIdeal.τ).loc Cert.ReferenceMixOutIdeal.main_arg3) = m ((c.tc : Thread Cert.ReferenceMixOutIdeal.nD Cert.ReferenceMixOutIdeal.τ).loc Cert.ReferenceMixOutIdeal.main_arg3)
      ∧ r.2.mem ((c.tc : Thread Cert.ReferenceMixOutIdeal.nD Cert.ReferenceMixOutIdeal.τ).loc Cert.ReferenceMixOutIdeal.main_arg4) = m ((c.tc : Thread Cert.ReferenceMixOutIdeal.nD Cert.ReferenceMixOutIdeal.τ).loc Cert.ReferenceMixOutIdeal.main_arg4)
      ∧ r.2.mem ((c.tc : Thread Cert.ReferenceMixOutIdeal.nD Cert.ReferenceMixOutIdeal.τ).loc Cert.ReferenceMixOutIdeal.main_arg5) = m ((c.tc : Thread Cert.ReferenceMixOutIdeal.nD Cert.ReferenceMixOutIdeal.τ).loc Cert.ReferenceMixOutIdeal.main_arg5)
      ∧ r.2.mem ((c.tc : Thread Cert.ReferenceMixOutIdeal.nD Cert.ReferenceMixOutIdeal.τ).loc Cert.ReferenceMixOutIdeal.main_arg6) = m ((c.tc : Thread Cert.ReferenceMixOutIdeal.nD Cert.ReferenceMixOutIdeal.τ).loc Cert.ReferenceMixOutIdeal.main_arg6)
      ∧ r.2.mem ((c.tc : Thread Cert.ReferenceMixOutIdeal.nD Cert.ReferenceMixOutIdeal.τ).loc Cert.ReferenceMixOutIdeal.main_arg7) = m ((c.tc : Thread Cert.ReferenceMixOutIdeal.nD Cert.ReferenceMixOutIdeal.τ).loc Cert.ReferenceMixOutIdeal.main_arg7))
      ∧ r.2.sem = fun _ => 0)

def quiescent_KernelSwiglu [hKernelSwiglu : Cert.KernelSwiglu.Facts] : Prop :=
  ∀ (m : (ℓ : Loc Cert.KernelSwiglu.nD Cert.KernelSwiglu.τ Cert.KernelSwiglu.sig) → Buf (Elt Bits) ℓ) (g : Dev Cert.KernelSwiglu.nD → PrngReg), Pre_KernelSwiglu m →
    θ_run (Cert.KernelSwiglu.defs (F := Bits)) (onTc (τ := Cert.KernelSwiglu.τ) (Cert.KernelSwiglu.main (F := Bits))) ⟨m, fun _ => 0, g⟩ (fun r => (∀ c : Dev Cert.KernelSwiglu.nD,
      r.2.mem ((c.tc : Thread Cert.KernelSwiglu.nD Cert.KernelSwiglu.τ).loc Cert.KernelSwiglu.main_arg0) = m ((c.tc : Thread Cert.KernelSwiglu.nD Cert.KernelSwiglu.τ).loc Cert.KernelSwiglu.main_arg0)
      ∧ r.2.mem ((c.tc : Thread Cert.KernelSwiglu.nD Cert.KernelSwiglu.τ).loc Cert.KernelSwiglu.main_arg1) = m ((c.tc : Thread Cert.KernelSwiglu.nD Cert.KernelSwiglu.τ).loc Cert.KernelSwiglu.main_arg1)
      ∧ r.2.mem ((c.tc : Thread Cert.KernelSwiglu.nD Cert.KernelSwiglu.τ).loc Cert.KernelSwiglu.main_arg2) = m ((c.tc : Thread Cert.KernelSwiglu.nD Cert.KernelSwiglu.τ).loc Cert.KernelSwiglu.main_arg2)
      ∧ r.2.mem ((c.tc : Thread Cert.KernelSwiglu.nD Cert.KernelSwiglu.τ).loc Cert.KernelSwiglu.main_arg3) = m ((c.tc : Thread Cert.KernelSwiglu.nD Cert.KernelSwiglu.τ).loc Cert.KernelSwiglu.main_arg3))
      ∧ r.2.sem = fun _ => 0)

def quiescent_KernelSwigluIdeal [hKernelSwigluIdeal : Cert.KernelSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2)
      ∧ r.2.mem ((c.tc : Thread Cert.KernelSwigluIdeal.nD Cert.KernelSwigluIdeal.τ).loc Cert.KernelSwigluIdeal.main_arg3) = m ((c.tc : Thread Cert.KernelSwigluIdeal.nD Cert.KernelSwigluIdeal.τ).loc Cert.KernelSwigluIdeal.main_arg3))
      ∧ r.2.sem = fun _ => 0)

def quiescent_KernelSwigluIdeal_pre_swiglu_finite [hKernelSwigluIdeal : Cert.KernelSwigluIdeal.Facts] [hPre_swiglu_finite : Cert.Pre_swiglu_finite.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal_swiglu_finite m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2)
      ∧ r.2.mem ((c.tc : Thread Cert.KernelSwigluIdeal.nD Cert.KernelSwigluIdeal.τ).loc Cert.KernelSwigluIdeal.main_arg3) = m ((c.tc : Thread Cert.KernelSwigluIdeal.nD Cert.KernelSwigluIdeal.τ).loc Cert.KernelSwigluIdeal.main_arg3))
      ∧ r.2.sem = fun _ => 0)

def quiescent_ReferenceSwigluIdeal [hReferenceSwigluIdeal : Cert.ReferenceSwigluIdeal.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2)
      ∧ r.2.mem ((c.tc : Thread Cert.ReferenceSwigluIdeal.nD Cert.ReferenceSwigluIdeal.τ).loc Cert.ReferenceSwigluIdeal.main_arg3) = m ((c.tc : Thread Cert.ReferenceSwigluIdeal.nD Cert.ReferenceSwigluIdeal.τ).loc Cert.ReferenceSwigluIdeal.main_arg3))
      ∧ r.2.sem = fun _ => 0)

def quiescent_ReferenceSwigluIdeal_pre_swiglu_finite [hReferenceSwigluIdeal : Cert.ReferenceSwigluIdeal.Facts] [hPre_swiglu_finite : Cert.Pre_swiglu_finite.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal_swiglu_finite m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2)
      ∧ r.2.mem ((c.tc : Thread Cert.ReferenceSwigluIdeal.nD Cert.ReferenceSwigluIdeal.τ).loc Cert.ReferenceSwigluIdeal.main_arg3) = m ((c.tc : Thread Cert.ReferenceSwigluIdeal.nD Cert.ReferenceSwigluIdeal.τ).loc Cert.ReferenceSwigluIdeal.main_arg3))
      ∧ r.2.sem = fun _ => 0)

def quiescent_KernelMixIn [hKernelMixIn : Cert.KernelMixIn.Facts] : Prop :=
  ∀ (m : (ℓ : Loc Cert.KernelMixIn.nD Cert.KernelMixIn.τ Cert.KernelMixIn.sig) → Buf (Elt Bits) ℓ) (g : Dev Cert.KernelMixIn.nD → PrngReg), Pre_KernelMixIn m →
    θ_run (Cert.KernelMixIn.defs (F := Bits)) (onTc (τ := Cert.KernelMixIn.τ) (Cert.KernelMixIn.main (F := Bits))) ⟨m, fun _ => 0, g⟩ (fun r => (∀ c : Dev Cert.KernelMixIn.nD,
      r.2.mem ((c.tc : Thread Cert.KernelMixIn.nD Cert.KernelMixIn.τ).loc Cert.KernelMixIn.main_arg0) = m ((c.tc : Thread Cert.KernelMixIn.nD Cert.KernelMixIn.τ).loc Cert.KernelMixIn.main_arg0)
      ∧ r.2.mem ((c.tc : Thread Cert.KernelMixIn.nD Cert.KernelMixIn.τ).loc Cert.KernelMixIn.main_arg1) = m ((c.tc : Thread Cert.KernelMixIn.nD Cert.KernelMixIn.τ).loc Cert.KernelMixIn.main_arg1)
      ∧ r.2.mem ((c.tc : Thread Cert.KernelMixIn.nD Cert.KernelMixIn.τ).loc Cert.KernelMixIn.main_arg2) = m ((c.tc : Thread Cert.KernelMixIn.nD Cert.KernelMixIn.τ).loc Cert.KernelMixIn.main_arg2)
      ∧ r.2.mem ((c.tc : Thread Cert.KernelMixIn.nD Cert.KernelMixIn.τ).loc Cert.KernelMixIn.main_arg3) = m ((c.tc : Thread Cert.KernelMixIn.nD Cert.KernelMixIn.τ).loc Cert.KernelMixIn.main_arg3)
      ∧ r.2.mem ((c.tc : Thread Cert.KernelMixIn.nD Cert.KernelMixIn.τ).loc Cert.KernelMixIn.main_arg4) = m ((c.tc : Thread Cert.KernelMixIn.nD Cert.KernelMixIn.τ).loc Cert.KernelMixIn.main_arg4)
      ∧ r.2.mem ((c.tc : Thread Cert.KernelMixIn.nD Cert.KernelMixIn.τ).loc Cert.KernelMixIn.main_arg5) = m ((c.tc : Thread Cert.KernelMixIn.nD Cert.KernelMixIn.τ).loc Cert.KernelMixIn.main_arg5)
      ∧ r.2.mem ((c.tc : Thread Cert.KernelMixIn.nD Cert.KernelMixIn.τ).loc Cert.KernelMixIn.main_arg6) = m ((c.tc : Thread Cert.KernelMixIn.nD Cert.KernelMixIn.τ).loc Cert.KernelMixIn.main_arg6)
      ∧ r.2.mem ((c.tc : Thread Cert.KernelMixIn.nD Cert.KernelMixIn.τ).loc Cert.KernelMixIn.main_arg7) = m ((c.tc : Thread Cert.KernelMixIn.nD Cert.KernelMixIn.τ).loc Cert.KernelMixIn.main_arg7)
      ∧ r.2.mem ((c.tc : Thread Cert.KernelMixIn.nD Cert.KernelMixIn.τ).loc Cert.KernelMixIn.main_arg8) = m ((c.tc : Thread Cert.KernelMixIn.nD Cert.KernelMixIn.τ).loc Cert.KernelMixIn.main_arg8))
      ∧ r.2.sem = fun _ => 0)

def quiescent_KernelMixInIdeal [hKernelMixInIdeal : Cert.KernelMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4)
      ∧ r.2.mem ((c.tc : Thread Cert.KernelMixInIdeal.nD Cert.KernelMixInIdeal.τ).loc Cert.KernelMixInIdeal.main_arg5) = m ((c.tc : Thread Cert.KernelMixInIdeal.nD Cert.KernelMixInIdeal.τ).loc Cert.KernelMixInIdeal.main_arg5)
      ∧ r.2.mem ((c.tc : Thread Cert.KernelMixInIdeal.nD Cert.KernelMixInIdeal.τ).loc Cert.KernelMixInIdeal.main_arg6) = m ((c.tc : Thread Cert.KernelMixInIdeal.nD Cert.KernelMixInIdeal.τ).loc Cert.KernelMixInIdeal.main_arg6)
      ∧ r.2.mem ((c.tc : Thread Cert.KernelMixInIdeal.nD Cert.KernelMixInIdeal.τ).loc Cert.KernelMixInIdeal.main_arg7) = m ((c.tc : Thread Cert.KernelMixInIdeal.nD Cert.KernelMixInIdeal.τ).loc Cert.KernelMixInIdeal.main_arg7)
      ∧ r.2.mem ((c.tc : Thread Cert.KernelMixInIdeal.nD Cert.KernelMixInIdeal.τ).loc Cert.KernelMixInIdeal.main_arg8) = m ((c.tc : Thread Cert.KernelMixInIdeal.nD Cert.KernelMixInIdeal.τ).loc Cert.KernelMixInIdeal.main_arg8))
      ∧ r.2.sem = fun _ => 0)

def quiescent_KernelMixInIdeal_pre_mixin_finite [hKernelMixInIdeal : Cert.KernelMixInIdeal.Facts] [hPre_mixin_finite : Cert.Pre_mixin_finite.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal_mixin_finite m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4)
      ∧ r.2.mem ((c.tc : Thread Cert.KernelMixInIdeal.nD Cert.KernelMixInIdeal.τ).loc Cert.KernelMixInIdeal.main_arg5) = m ((c.tc : Thread Cert.KernelMixInIdeal.nD Cert.KernelMixInIdeal.τ).loc Cert.KernelMixInIdeal.main_arg5)
      ∧ r.2.mem ((c.tc : Thread Cert.KernelMixInIdeal.nD Cert.KernelMixInIdeal.τ).loc Cert.KernelMixInIdeal.main_arg6) = m ((c.tc : Thread Cert.KernelMixInIdeal.nD Cert.KernelMixInIdeal.τ).loc Cert.KernelMixInIdeal.main_arg6)
      ∧ r.2.mem ((c.tc : Thread Cert.KernelMixInIdeal.nD Cert.KernelMixInIdeal.τ).loc Cert.KernelMixInIdeal.main_arg7) = m ((c.tc : Thread Cert.KernelMixInIdeal.nD Cert.KernelMixInIdeal.τ).loc Cert.KernelMixInIdeal.main_arg7)
      ∧ r.2.mem ((c.tc : Thread Cert.KernelMixInIdeal.nD Cert.KernelMixInIdeal.τ).loc Cert.KernelMixInIdeal.main_arg8) = m ((c.tc : Thread Cert.KernelMixInIdeal.nD Cert.KernelMixInIdeal.τ).loc Cert.KernelMixInIdeal.main_arg8))
      ∧ r.2.sem = fun _ => 0)

def quiescent_ReferenceMixInIdeal [hReferenceMixInIdeal : Cert.ReferenceMixInIdeal.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4)
      ∧ r.2.mem ((c.tc : Thread Cert.ReferenceMixInIdeal.nD Cert.ReferenceMixInIdeal.τ).loc Cert.ReferenceMixInIdeal.main_arg5) = m ((c.tc : Thread Cert.ReferenceMixInIdeal.nD Cert.ReferenceMixInIdeal.τ).loc Cert.ReferenceMixInIdeal.main_arg5)
      ∧ r.2.mem ((c.tc : Thread Cert.ReferenceMixInIdeal.nD Cert.ReferenceMixInIdeal.τ).loc Cert.ReferenceMixInIdeal.main_arg6) = m ((c.tc : Thread Cert.ReferenceMixInIdeal.nD Cert.ReferenceMixInIdeal.τ).loc Cert.ReferenceMixInIdeal.main_arg6)
      ∧ r.2.mem ((c.tc : Thread Cert.ReferenceMixInIdeal.nD Cert.ReferenceMixInIdeal.τ).loc Cert.ReferenceMixInIdeal.main_arg7) = m ((c.tc : Thread Cert.ReferenceMixInIdeal.nD Cert.ReferenceMixInIdeal.τ).loc Cert.ReferenceMixInIdeal.main_arg7)
      ∧ r.2.mem ((c.tc : Thread Cert.ReferenceMixInIdeal.nD Cert.ReferenceMixInIdeal.τ).loc Cert.ReferenceMixInIdeal.main_arg8) = m ((c.tc : Thread Cert.ReferenceMixInIdeal.nD Cert.ReferenceMixInIdeal.τ).loc Cert.ReferenceMixInIdeal.main_arg8))
      ∧ r.2.sem = fun _ => 0)

def quiescent_ReferenceMixInIdeal_pre_mixin_finite [hReferenceMixInIdeal : Cert.ReferenceMixInIdeal.Facts] [hPre_mixin_finite : Cert.Pre_mixin_finite.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal_mixin_finite m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4)
      ∧ r.2.mem ((c.tc : Thread Cert.ReferenceMixInIdeal.nD Cert.ReferenceMixInIdeal.τ).loc Cert.ReferenceMixInIdeal.main_arg5) = m ((c.tc : Thread Cert.ReferenceMixInIdeal.nD Cert.ReferenceMixInIdeal.τ).loc Cert.ReferenceMixInIdeal.main_arg5)
      ∧ r.2.mem ((c.tc : Thread Cert.ReferenceMixInIdeal.nD Cert.ReferenceMixInIdeal.τ).loc Cert.ReferenceMixInIdeal.main_arg6) = m ((c.tc : Thread Cert.ReferenceMixInIdeal.nD Cert.ReferenceMixInIdeal.τ).loc Cert.ReferenceMixInIdeal.main_arg6)
      ∧ r.2.mem ((c.tc : Thread Cert.ReferenceMixInIdeal.nD Cert.ReferenceMixInIdeal.τ).loc Cert.ReferenceMixInIdeal.main_arg7) = m ((c.tc : Thread Cert.ReferenceMixInIdeal.nD Cert.ReferenceMixInIdeal.τ).loc Cert.ReferenceMixInIdeal.main_arg7)
      ∧ r.2.mem ((c.tc : Thread Cert.ReferenceMixInIdeal.nD Cert.ReferenceMixInIdeal.τ).loc Cert.ReferenceMixInIdeal.main_arg8) = m ((c.tc : Thread Cert.ReferenceMixInIdeal.nD Cert.ReferenceMixInIdeal.τ).loc Cert.ReferenceMixInIdeal.main_arg8))
      ∧ r.2.sem = fun _ => 0)

def quiescent_KernelMixInFwd [hKernelMixInFwd : Cert.KernelMixInFwd.Facts] : Prop :=
  ∀ (m : (ℓ : Loc Cert.KernelMixInFwd.nD Cert.KernelMixInFwd.τ Cert.KernelMixInFwd.sig) → Buf (Elt Bits) ℓ) (g : Dev Cert.KernelMixInFwd.nD → PrngReg), Pre_KernelMixInFwd m →
    θ_run (Cert.KernelMixInFwd.defs (F := Bits)) (onTc (τ := Cert.KernelMixInFwd.τ) (Cert.KernelMixInFwd.main (F := Bits))) ⟨m, fun _ => 0, g⟩ (fun r => (∀ c : Dev Cert.KernelMixInFwd.nD,
      r.2.mem ((c.tc : Thread Cert.KernelMixInFwd.nD Cert.KernelMixInFwd.τ).loc Cert.KernelMixInFwd.main_arg0) = m ((c.tc : Thread Cert.KernelMixInFwd.nD Cert.KernelMixInFwd.τ).loc Cert.KernelMixInFwd.main_arg0)
      ∧ r.2.mem ((c.tc : Thread Cert.KernelMixInFwd.nD Cert.KernelMixInFwd.τ).loc Cert.KernelMixInFwd.main_arg1) = m ((c.tc : Thread Cert.KernelMixInFwd.nD Cert.KernelMixInFwd.τ).loc Cert.KernelMixInFwd.main_arg1)
      ∧ r.2.mem ((c.tc : Thread Cert.KernelMixInFwd.nD Cert.KernelMixInFwd.τ).loc Cert.KernelMixInFwd.main_arg2) = m ((c.tc : Thread Cert.KernelMixInFwd.nD Cert.KernelMixInFwd.τ).loc Cert.KernelMixInFwd.main_arg2)
      ∧ r.2.mem ((c.tc : Thread Cert.KernelMixInFwd.nD Cert.KernelMixInFwd.τ).loc Cert.KernelMixInFwd.main_arg3) = m ((c.tc : Thread Cert.KernelMixInFwd.nD Cert.KernelMixInFwd.τ).loc Cert.KernelMixInFwd.main_arg3)
      ∧ r.2.mem ((c.tc : Thread Cert.KernelMixInFwd.nD Cert.KernelMixInFwd.τ).loc Cert.KernelMixInFwd.main_arg4) = m ((c.tc : Thread Cert.KernelMixInFwd.nD Cert.KernelMixInFwd.τ).loc Cert.KernelMixInFwd.main_arg4))
      ∧ r.2.sem = fun _ => 0)

def quiescent_KernelMixInFwdIdeal [hKernelMixInFwdIdeal : Cert.KernelMixInFwdIdeal.Facts] : Prop :=
  ∀ (m : (ℓ : Loc Cert.KernelMixInFwdIdeal.nD Cert.KernelMixInFwdIdeal.τ Cert.KernelMixInFwdIdeal.sig) → Buf (Elt Ideal) ℓ) (g : Dev Cert.KernelMixInFwdIdeal.nD → PrngReg), Pre_KernelMixInFwdIdeal m →
    θ_run (Cert.KernelMixInFwdIdeal.defs (F := Ideal)) (onTc (τ := Cert.KernelMixInFwdIdeal.τ) (Cert.KernelMixInFwdIdeal.main (F := Ideal))) ⟨m, fun _ => 0, g⟩ (fun r => (∀ c : Dev Cert.KernelMixInFwdIdeal.nD,
      r.2.mem ((c.tc : Thread Cert.KernelMixInFwdIdeal.nD Cert.KernelMixInFwdIdeal.τ).loc Cert.KernelMixInFwdIdeal.main_arg0) = m ((c.tc : Thread Cert.KernelMixInFwdIdeal.nD Cert.KernelMixInFwdIdeal.τ).loc Cert.KernelMixInFwdIdeal.main_arg0)
      ∧ r.2.mem ((c.tc : Thread Cert.KernelMixInFwdIdeal.nD Cert.KernelMixInFwdIdeal.τ).loc Cert.KernelMixInFwdIdeal.main_arg1) = m ((c.tc : Thread Cert.KernelMixInFwdIdeal.nD Cert.KernelMixInFwdIdeal.τ).loc Cert.KernelMixInFwdIdeal.main_arg1)
      ∧ r.2.mem ((c.tc : Thread Cert.KernelMixInFwdIdeal.nD Cert.KernelMixInFwdIdeal.τ).loc Cert.KernelMixInFwdIdeal.main_arg2) = m ((c.tc : Thread Cert.KernelMixInFwdIdeal.nD Cert.KernelMixInFwdIdeal.τ).loc Cert.KernelMixInFwdIdeal.main_arg2)
      ∧ r.2.mem ((c.tc : Thread Cert.KernelMixInFwdIdeal.nD Cert.KernelMixInFwdIdeal.τ).loc Cert.KernelMixInFwdIdeal.main_arg3) = m ((c.tc : Thread Cert.KernelMixInFwdIdeal.nD Cert.KernelMixInFwdIdeal.τ).loc Cert.KernelMixInFwdIdeal.main_arg3)
      ∧ r.2.mem ((c.tc : Thread Cert.KernelMixInFwdIdeal.nD Cert.KernelMixInFwdIdeal.τ).loc Cert.KernelMixInFwdIdeal.main_arg4) = m ((c.tc : Thread Cert.KernelMixInFwdIdeal.nD Cert.KernelMixInFwdIdeal.τ).loc Cert.KernelMixInFwdIdeal.main_arg4))
      ∧ r.2.sem = fun _ => 0)

def quiescent_ReferenceMixInFwdIdeal [hReferenceMixInFwdIdeal : Cert.ReferenceMixInFwdIdeal.Facts] : Prop :=
  ∀ (m : (ℓ : Loc Cert.ReferenceMixInFwdIdeal.nD Cert.ReferenceMixInFwdIdeal.τ Cert.ReferenceMixInFwdIdeal.sig) → Buf (Elt Ideal) ℓ) (g : Dev Cert.ReferenceMixInFwdIdeal.nD → PrngReg), Pre_ReferenceMixInFwdIdeal m →
    θ_run (Cert.ReferenceMixInFwdIdeal.defs (F := Ideal)) (onTc (τ := Cert.ReferenceMixInFwdIdeal.τ) (Cert.ReferenceMixInFwdIdeal.main (F := Ideal))) ⟨m, fun _ => 0, g⟩ (fun r => (∀ c : Dev Cert.ReferenceMixInFwdIdeal.nD,
      r.2.mem ((c.tc : Thread Cert.ReferenceMixInFwdIdeal.nD Cert.ReferenceMixInFwdIdeal.τ).loc Cert.ReferenceMixInFwdIdeal.main_arg0) = m ((c.tc : Thread Cert.ReferenceMixInFwdIdeal.nD Cert.ReferenceMixInFwdIdeal.τ).loc Cert.ReferenceMixInFwdIdeal.main_arg0)
      ∧ r.2.mem ((c.tc : Thread Cert.ReferenceMixInFwdIdeal.nD Cert.ReferenceMixInFwdIdeal.τ).loc Cert.ReferenceMixInFwdIdeal.main_arg1) = m ((c.tc : Thread Cert.ReferenceMixInFwdIdeal.nD Cert.ReferenceMixInFwdIdeal.τ).loc Cert.ReferenceMixInFwdIdeal.main_arg1)
      ∧ r.2.mem ((c.tc : Thread Cert.ReferenceMixInFwdIdeal.nD Cert.ReferenceMixInFwdIdeal.τ).loc Cert.ReferenceMixInFwdIdeal.main_arg2) = m ((c.tc : Thread Cert.ReferenceMixInFwdIdeal.nD Cert.ReferenceMixInFwdIdeal.τ).loc Cert.ReferenceMixInFwdIdeal.main_arg2)
      ∧ r.2.mem ((c.tc : Thread Cert.ReferenceMixInFwdIdeal.nD Cert.ReferenceMixInFwdIdeal.τ).loc Cert.ReferenceMixInFwdIdeal.main_arg3) = m ((c.tc : Thread Cert.ReferenceMixInFwdIdeal.nD Cert.ReferenceMixInFwdIdeal.τ).loc Cert.ReferenceMixInFwdIdeal.main_arg3)
      ∧ r.2.mem ((c.tc : Thread Cert.ReferenceMixInFwdIdeal.nD Cert.ReferenceMixInFwdIdeal.τ).loc Cert.ReferenceMixInFwdIdeal.main_arg4) = m ((c.tc : Thread Cert.ReferenceMixInFwdIdeal.nD Cert.ReferenceMixInFwdIdeal.τ).loc Cert.ReferenceMixInFwdIdeal.main_arg4))
      ∧ r.2.sem = fun _ => 0)

def quiescent_KernelConvFwd [hKernelConvFwd : Cert.KernelConvFwd.Facts] : Prop :=
  ∀ (m : (ℓ : Loc Cert.KernelConvFwd.nD Cert.KernelConvFwd.τ Cert.KernelConvFwd.sig) → Buf (Elt Bits) ℓ) (g : Dev Cert.KernelConvFwd.nD → PrngReg), Pre_KernelConvFwd m →
    θ_run (Cert.KernelConvFwd.defs (F := Bits)) (onTc (τ := Cert.KernelConvFwd.τ) (Cert.KernelConvFwd.main (F := Bits))) ⟨m, fun _ => 0, g⟩ (fun r => (∀ c : Dev Cert.KernelConvFwd.nD,
      r.2.mem ((c.tc : Thread Cert.KernelConvFwd.nD Cert.KernelConvFwd.τ).loc Cert.KernelConvFwd.main_arg0) = m ((c.tc : Thread Cert.KernelConvFwd.nD Cert.KernelConvFwd.τ).loc Cert.KernelConvFwd.main_arg0)
      ∧ r.2.mem ((c.tc : Thread Cert.KernelConvFwd.nD Cert.KernelConvFwd.τ).loc Cert.KernelConvFwd.main_arg1) = m ((c.tc : Thread Cert.KernelConvFwd.nD Cert.KernelConvFwd.τ).loc Cert.KernelConvFwd.main_arg1)
      ∧ r.2.mem ((c.tc : Thread Cert.KernelConvFwd.nD Cert.KernelConvFwd.τ).loc Cert.KernelConvFwd.main_arg2) = m ((c.tc : Thread Cert.KernelConvFwd.nD Cert.KernelConvFwd.τ).loc Cert.KernelConvFwd.main_arg2))
      ∧ r.2.sem = fun _ => 0)

def quiescent_KernelConvFwdIdeal [hKernelConvFwdIdeal : Cert.KernelConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg), Pre_KernelConvFwdIdeal m →
    θ_run (Cert.KernelConvFwdIdeal.defs (F := Ideal)) (onTc (τ := Cert.KernelConvFwdIdeal.τ) (Cert.KernelConvFwdIdeal.main (F := Ideal))) ⟨m, fun _ => 0, g⟩ (fun r => (∀ c : Dev Cert.KernelConvFwdIdeal.nD,
      r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
      ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1)
      ∧ r.2.mem ((c.tc : Thread Cert.KernelConvFwdIdeal.nD Cert.KernelConvFwdIdeal.τ).loc Cert.KernelConvFwdIdeal.main_arg2) = m ((c.tc : Thread Cert.KernelConvFwdIdeal.nD Cert.KernelConvFwdIdeal.τ).loc Cert.KernelConvFwdIdeal.main_arg2))
      ∧ r.2.sem = fun _ => 0)

def quiescent_ReferenceConvFwdIdeal [hReferenceConvFwdIdeal : Cert.ReferenceConvFwdIdeal.Facts] : Prop :=
  ∀ (m : (ℓ : Loc Cert.ReferenceConvFwdIdeal.nD Cert.ReferenceConvFwdIdeal.τ Cert.ReferenceConvFwdIdeal.sig) → Buf (Elt Ideal) ℓ) (g : Dev Cert.ReferenceConvFwdIdeal.nD → PrngReg), Pre_ReferenceConvFwdIdeal m →
    θ_run (Cert.ReferenceConvFwdIdeal.defs (F := Ideal)) (onTc (τ := Cert.ReferenceConvFwdIdeal.τ) (Cert.ReferenceConvFwdIdeal.main (F := Ideal))) ⟨m, fun _ => 0, g⟩ (fun r => (∀ c : Dev Cert.ReferenceConvFwdIdeal.nD,
      r.2.mem ((c.tc : Thread Cert.ReferenceConvFwdIdeal.nD Cert.ReferenceConvFwdIdeal.τ).loc Cert.ReferenceConvFwdIdeal.main_arg0) = m ((c.tc : Thread Cert.ReferenceConvFwdIdeal.nD Cert.ReferenceConvFwdIdeal.τ).loc Cert.ReferenceConvFwdIdeal.main_arg0)
      ∧ r.2.mem ((c.tc : Thread Cert.ReferenceConvFwdIdeal.nD Cert.ReferenceConvFwdIdeal.τ).loc Cert.ReferenceConvFwdIdeal.main_arg1) = m ((c.tc : Thread Cert.ReferenceConvFwdIdeal.nD Cert.ReferenceConvFwdIdeal.τ).loc Cert.ReferenceConvFwdIdeal.main_arg1)
      ∧ r.2.mem ((c.tc : Thread Cert.ReferenceConvFwdIdeal.nD Cert.ReferenceConvFwdIdeal.τ).loc Cert.ReferenceConvFwdIdeal.main_arg2) = m ((c.tc : Thread Cert.ReferenceConvFwdIdeal.nD Cert.ReferenceConvFwdIdeal.τ).loc Cert.ReferenceConvFwdIdeal.main_arg2))
      ∧ r.2.sem = fun _ => 0)

def quiescent_KernelMixOutFwd [hKernelMixOutFwd : Cert.KernelMixOutFwd.Facts] : Prop :=
  ∀ (m : (ℓ : Loc Cert.KernelMixOutFwd.nD Cert.KernelMixOutFwd.τ Cert.KernelMixOutFwd.sig) → Buf (Elt Bits) ℓ) (g : Dev Cert.KernelMixOutFwd.nD → PrngReg), Pre_KernelMixOutFwd m →
    θ_run (Cert.KernelMixOutFwd.defs (F := Bits)) (onTc (τ := Cert.KernelMixOutFwd.τ) (Cert.KernelMixOutFwd.main (F := Bits))) ⟨m, fun _ => 0, g⟩ (fun r => (∀ c : Dev Cert.KernelMixOutFwd.nD,
      r.2.mem ((c.tc : Thread Cert.KernelMixOutFwd.nD Cert.KernelMixOutFwd.τ).loc Cert.KernelMixOutFwd.main_arg0) = m ((c.tc : Thread Cert.KernelMixOutFwd.nD Cert.KernelMixOutFwd.τ).loc Cert.KernelMixOutFwd.main_arg0)
      ∧ r.2.mem ((c.tc : Thread Cert.KernelMixOutFwd.nD Cert.KernelMixOutFwd.τ).loc Cert.KernelMixOutFwd.main_arg1) = m ((c.tc : Thread Cert.KernelMixOutFwd.nD Cert.KernelMixOutFwd.τ).loc Cert.KernelMixOutFwd.main_arg1)
      ∧ r.2.mem ((c.tc : Thread Cert.KernelMixOutFwd.nD Cert.KernelMixOutFwd.τ).loc Cert.KernelMixOutFwd.main_arg2) = m ((c.tc : Thread Cert.KernelMixOutFwd.nD Cert.KernelMixOutFwd.τ).loc Cert.KernelMixOutFwd.main_arg2)
      ∧ r.2.mem ((c.tc : Thread Cert.KernelMixOutFwd.nD Cert.KernelMixOutFwd.τ).loc Cert.KernelMixOutFwd.main_arg3) = m ((c.tc : Thread Cert.KernelMixOutFwd.nD Cert.KernelMixOutFwd.τ).loc Cert.KernelMixOutFwd.main_arg3)
      ∧ r.2.mem ((c.tc : Thread Cert.KernelMixOutFwd.nD Cert.KernelMixOutFwd.τ).loc Cert.KernelMixOutFwd.main_arg4) = m ((c.tc : Thread Cert.KernelMixOutFwd.nD Cert.KernelMixOutFwd.τ).loc Cert.KernelMixOutFwd.main_arg4)
      ∧ r.2.mem ((c.tc : Thread Cert.KernelMixOutFwd.nD Cert.KernelMixOutFwd.τ).loc Cert.KernelMixOutFwd.main_arg5) = m ((c.tc : Thread Cert.KernelMixOutFwd.nD Cert.KernelMixOutFwd.τ).loc Cert.KernelMixOutFwd.main_arg5)
      ∧ r.2.mem ((c.tc : Thread Cert.KernelMixOutFwd.nD Cert.KernelMixOutFwd.τ).loc Cert.KernelMixOutFwd.main_arg6) = m ((c.tc : Thread Cert.KernelMixOutFwd.nD Cert.KernelMixOutFwd.τ).loc Cert.KernelMixOutFwd.main_arg6))
      ∧ r.2.sem = fun _ => 0)

def quiescent_KernelMixOutFwdIdeal [hKernelMixOutFwdIdeal : Cert.KernelMixOutFwdIdeal.Facts] : Prop :=
  ∀ (m : (ℓ : Loc Cert.KernelMixOutFwdIdeal.nD Cert.KernelMixOutFwdIdeal.τ Cert.KernelMixOutFwdIdeal.sig) → Buf (Elt Ideal) ℓ) (g : Dev Cert.KernelMixOutFwdIdeal.nD → PrngReg), Pre_KernelMixOutFwdIdeal m →
    θ_run (Cert.KernelMixOutFwdIdeal.defs (F := Ideal)) (onTc (τ := Cert.KernelMixOutFwdIdeal.τ) (Cert.KernelMixOutFwdIdeal.main (F := Ideal))) ⟨m, fun _ => 0, g⟩ (fun r => (∀ c : Dev Cert.KernelMixOutFwdIdeal.nD,
      r.2.mem ((c.tc : Thread Cert.KernelMixOutFwdIdeal.nD Cert.KernelMixOutFwdIdeal.τ).loc Cert.KernelMixOutFwdIdeal.main_arg0) = m ((c.tc : Thread Cert.KernelMixOutFwdIdeal.nD Cert.KernelMixOutFwdIdeal.τ).loc Cert.KernelMixOutFwdIdeal.main_arg0)
      ∧ r.2.mem ((c.tc : Thread Cert.KernelMixOutFwdIdeal.nD Cert.KernelMixOutFwdIdeal.τ).loc Cert.KernelMixOutFwdIdeal.main_arg1) = m ((c.tc : Thread Cert.KernelMixOutFwdIdeal.nD Cert.KernelMixOutFwdIdeal.τ).loc Cert.KernelMixOutFwdIdeal.main_arg1)
      ∧ r.2.mem ((c.tc : Thread Cert.KernelMixOutFwdIdeal.nD Cert.KernelMixOutFwdIdeal.τ).loc Cert.KernelMixOutFwdIdeal.main_arg2) = m ((c.tc : Thread Cert.KernelMixOutFwdIdeal.nD Cert.KernelMixOutFwdIdeal.τ).loc Cert.KernelMixOutFwdIdeal.main_arg2)
      ∧ r.2.mem ((c.tc : Thread Cert.KernelMixOutFwdIdeal.nD Cert.KernelMixOutFwdIdeal.τ).loc Cert.KernelMixOutFwdIdeal.main_arg3) = m ((c.tc : Thread Cert.KernelMixOutFwdIdeal.nD Cert.KernelMixOutFwdIdeal.τ).loc Cert.KernelMixOutFwdIdeal.main_arg3)
      ∧ r.2.mem ((c.tc : Thread Cert.KernelMixOutFwdIdeal.nD Cert.KernelMixOutFwdIdeal.τ).loc Cert.KernelMixOutFwdIdeal.main_arg4) = m ((c.tc : Thread Cert.KernelMixOutFwdIdeal.nD Cert.KernelMixOutFwdIdeal.τ).loc Cert.KernelMixOutFwdIdeal.main_arg4)
      ∧ r.2.mem ((c.tc : Thread Cert.KernelMixOutFwdIdeal.nD Cert.KernelMixOutFwdIdeal.τ).loc Cert.KernelMixOutFwdIdeal.main_arg5) = m ((c.tc : Thread Cert.KernelMixOutFwdIdeal.nD Cert.KernelMixOutFwdIdeal.τ).loc Cert.KernelMixOutFwdIdeal.main_arg5)
      ∧ r.2.mem ((c.tc : Thread Cert.KernelMixOutFwdIdeal.nD Cert.KernelMixOutFwdIdeal.τ).loc Cert.KernelMixOutFwdIdeal.main_arg6) = m ((c.tc : Thread Cert.KernelMixOutFwdIdeal.nD Cert.KernelMixOutFwdIdeal.τ).loc Cert.KernelMixOutFwdIdeal.main_arg6))
      ∧ r.2.sem = fun _ => 0)

def quiescent_ReferenceMixOutFwdIdeal [hReferenceMixOutFwdIdeal : Cert.ReferenceMixOutFwdIdeal.Facts] : Prop :=
  ∀ (m : (ℓ : Loc Cert.ReferenceMixOutFwdIdeal.nD Cert.ReferenceMixOutFwdIdeal.τ Cert.ReferenceMixOutFwdIdeal.sig) → Buf (Elt Ideal) ℓ) (g : Dev Cert.ReferenceMixOutFwdIdeal.nD → PrngReg), Pre_ReferenceMixOutFwdIdeal m →
    θ_run (Cert.ReferenceMixOutFwdIdeal.defs (F := Ideal)) (onTc (τ := Cert.ReferenceMixOutFwdIdeal.τ) (Cert.ReferenceMixOutFwdIdeal.main (F := Ideal))) ⟨m, fun _ => 0, g⟩ (fun r => (∀ c : Dev Cert.ReferenceMixOutFwdIdeal.nD,
      r.2.mem ((c.tc : Thread Cert.ReferenceMixOutFwdIdeal.nD Cert.ReferenceMixOutFwdIdeal.τ).loc Cert.ReferenceMixOutFwdIdeal.main_arg0) = m ((c.tc : Thread Cert.ReferenceMixOutFwdIdeal.nD Cert.ReferenceMixOutFwdIdeal.τ).loc Cert.ReferenceMixOutFwdIdeal.main_arg0)
      ∧ r.2.mem ((c.tc : Thread Cert.ReferenceMixOutFwdIdeal.nD Cert.ReferenceMixOutFwdIdeal.τ).loc Cert.ReferenceMixOutFwdIdeal.main_arg1) = m ((c.tc : Thread Cert.ReferenceMixOutFwdIdeal.nD Cert.ReferenceMixOutFwdIdeal.τ).loc Cert.ReferenceMixOutFwdIdeal.main_arg1)
      ∧ r.2.mem ((c.tc : Thread Cert.ReferenceMixOutFwdIdeal.nD Cert.ReferenceMixOutFwdIdeal.τ).loc Cert.ReferenceMixOutFwdIdeal.main_arg2) = m ((c.tc : Thread Cert.ReferenceMixOutFwdIdeal.nD Cert.ReferenceMixOutFwdIdeal.τ).loc Cert.ReferenceMixOutFwdIdeal.main_arg2)
      ∧ r.2.mem ((c.tc : Thread Cert.ReferenceMixOutFwdIdeal.nD Cert.ReferenceMixOutFwdIdeal.τ).loc Cert.ReferenceMixOutFwdIdeal.main_arg3) = m ((c.tc : Thread Cert.ReferenceMixOutFwdIdeal.nD Cert.ReferenceMixOutFwdIdeal.τ).loc Cert.ReferenceMixOutFwdIdeal.main_arg3)
      ∧ r.2.mem ((c.tc : Thread Cert.ReferenceMixOutFwdIdeal.nD Cert.ReferenceMixOutFwdIdeal.τ).loc Cert.ReferenceMixOutFwdIdeal.main_arg4) = m ((c.tc : Thread Cert.ReferenceMixOutFwdIdeal.nD Cert.ReferenceMixOutFwdIdeal.τ).loc Cert.ReferenceMixOutFwdIdeal.main_arg4)
      ∧ r.2.mem ((c.tc : Thread Cert.ReferenceMixOutFwdIdeal.nD Cert.ReferenceMixOutFwdIdeal.τ).loc Cert.ReferenceMixOutFwdIdeal.main_arg5) = m ((c.tc : Thread Cert.ReferenceMixOutFwdIdeal.nD Cert.ReferenceMixOutFwdIdeal.τ).loc Cert.ReferenceMixOutFwdIdeal.main_arg5)
      ∧ r.2.mem ((c.tc : Thread Cert.ReferenceMixOutFwdIdeal.nD Cert.ReferenceMixOutFwdIdeal.τ).loc Cert.ReferenceMixOutFwdIdeal.main_arg6) = m ((c.tc : Thread Cert.ReferenceMixOutFwdIdeal.nD Cert.ReferenceMixOutFwdIdeal.τ).loc Cert.ReferenceMixOutFwdIdeal.main_arg6))
      ∧ r.2.sem = fun _ => 0)

def quiescent_KernelRnnFwd [hKernelRnnFwd : Cert.KernelRnnFwd.Facts] : Prop :=
  ∀ (m : (ℓ : Loc Cert.KernelRnnFwd.nD Cert.KernelRnnFwd.τ Cert.KernelRnnFwd.sig) → Buf (Elt Bits) ℓ) (g : Dev Cert.KernelRnnFwd.nD → PrngReg), Pre_KernelRnnFwd m →
    θ_run (Cert.KernelRnnFwd.defs (F := Bits)) (onTc (τ := Cert.KernelRnnFwd.τ) (Cert.KernelRnnFwd.main (F := Bits))) ⟨m, fun _ => 0, g⟩ (fun r => (∀ c : Dev Cert.KernelRnnFwd.nD,
      r.2.mem ((c.tc : Thread Cert.KernelRnnFwd.nD Cert.KernelRnnFwd.τ).loc Cert.KernelRnnFwd.main_arg0) = m ((c.tc : Thread Cert.KernelRnnFwd.nD Cert.KernelRnnFwd.τ).loc Cert.KernelRnnFwd.main_arg0)
      ∧ r.2.mem ((c.tc : Thread Cert.KernelRnnFwd.nD Cert.KernelRnnFwd.τ).loc Cert.KernelRnnFwd.main_arg1) = m ((c.tc : Thread Cert.KernelRnnFwd.nD Cert.KernelRnnFwd.τ).loc Cert.KernelRnnFwd.main_arg1)
      ∧ r.2.mem ((c.tc : Thread Cert.KernelRnnFwd.nD Cert.KernelRnnFwd.τ).loc Cert.KernelRnnFwd.main_arg2) = m ((c.tc : Thread Cert.KernelRnnFwd.nD Cert.KernelRnnFwd.τ).loc Cert.KernelRnnFwd.main_arg2)
      ∧ r.2.mem ((c.tc : Thread Cert.KernelRnnFwd.nD Cert.KernelRnnFwd.τ).loc Cert.KernelRnnFwd.main_arg3) = m ((c.tc : Thread Cert.KernelRnnFwd.nD Cert.KernelRnnFwd.τ).loc Cert.KernelRnnFwd.main_arg3)
      ∧ r.2.mem ((c.tc : Thread Cert.KernelRnnFwd.nD Cert.KernelRnnFwd.τ).loc Cert.KernelRnnFwd.main_arg4) = m ((c.tc : Thread Cert.KernelRnnFwd.nD Cert.KernelRnnFwd.τ).loc Cert.KernelRnnFwd.main_arg4)
      ∧ r.2.mem ((c.tc : Thread Cert.KernelRnnFwd.nD Cert.KernelRnnFwd.τ).loc Cert.KernelRnnFwd.main_arg5) = m ((c.tc : Thread Cert.KernelRnnFwd.nD Cert.KernelRnnFwd.τ).loc Cert.KernelRnnFwd.main_arg5)
      ∧ r.2.mem ((c.tc : Thread Cert.KernelRnnFwd.nD Cert.KernelRnnFwd.τ).loc Cert.KernelRnnFwd.main_arg6) = m ((c.tc : Thread Cert.KernelRnnFwd.nD Cert.KernelRnnFwd.τ).loc Cert.KernelRnnFwd.main_arg6)
      ∧ r.2.mem ((c.tc : Thread Cert.KernelRnnFwd.nD Cert.KernelRnnFwd.τ).loc Cert.KernelRnnFwd.main_arg7) = m ((c.tc : Thread Cert.KernelRnnFwd.nD Cert.KernelRnnFwd.τ).loc Cert.KernelRnnFwd.main_arg7))
      ∧ r.2.sem = fun _ => 0)

def quiescent_KernelRnnFwdIdeal [hKernelRnnFwdIdeal : Cert.KernelRnnFwdIdeal.Facts] : Prop :=
  ∀ (m : (ℓ : Loc Cert.KernelRnnFwdIdeal.nD Cert.KernelRnnFwdIdeal.τ Cert.KernelRnnFwdIdeal.sig) → Buf (Elt Ideal) ℓ) (g : Dev Cert.KernelRnnFwdIdeal.nD → PrngReg), Pre_KernelRnnFwdIdeal m →
    θ_run (Cert.KernelRnnFwdIdeal.defs (F := Ideal)) (onTc (τ := Cert.KernelRnnFwdIdeal.τ) (Cert.KernelRnnFwdIdeal.main (F := Ideal))) ⟨m, fun _ => 0, g⟩ (fun r => (∀ c : Dev Cert.KernelRnnFwdIdeal.nD,
      r.2.mem ((c.tc : Thread Cert.KernelRnnFwdIdeal.nD Cert.KernelRnnFwdIdeal.τ).loc Cert.KernelRnnFwdIdeal.main_arg0) = m ((c.tc : Thread Cert.KernelRnnFwdIdeal.nD Cert.KernelRnnFwdIdeal.τ).loc Cert.KernelRnnFwdIdeal.main_arg0)
      ∧ r.2.mem ((c.tc : Thread Cert.KernelRnnFwdIdeal.nD Cert.KernelRnnFwdIdeal.τ).loc Cert.KernelRnnFwdIdeal.main_arg1) = m ((c.tc : Thread Cert.KernelRnnFwdIdeal.nD Cert.KernelRnnFwdIdeal.τ).loc Cert.KernelRnnFwdIdeal.main_arg1)
      ∧ r.2.mem ((c.tc : Thread Cert.KernelRnnFwdIdeal.nD Cert.KernelRnnFwdIdeal.τ).loc Cert.KernelRnnFwdIdeal.main_arg2) = m ((c.tc : Thread Cert.KernelRnnFwdIdeal.nD Cert.KernelRnnFwdIdeal.τ).loc Cert.KernelRnnFwdIdeal.main_arg2)
      ∧ r.2.mem ((c.tc : Thread Cert.KernelRnnFwdIdeal.nD Cert.KernelRnnFwdIdeal.τ).loc Cert.KernelRnnFwdIdeal.main_arg3) = m ((c.tc : Thread Cert.KernelRnnFwdIdeal.nD Cert.KernelRnnFwdIdeal.τ).loc Cert.KernelRnnFwdIdeal.main_arg3)
      ∧ r.2.mem ((c.tc : Thread Cert.KernelRnnFwdIdeal.nD Cert.KernelRnnFwdIdeal.τ).loc Cert.KernelRnnFwdIdeal.main_arg4) = m ((c.tc : Thread Cert.KernelRnnFwdIdeal.nD Cert.KernelRnnFwdIdeal.τ).loc Cert.KernelRnnFwdIdeal.main_arg4)
      ∧ r.2.mem ((c.tc : Thread Cert.KernelRnnFwdIdeal.nD Cert.KernelRnnFwdIdeal.τ).loc Cert.KernelRnnFwdIdeal.main_arg5) = m ((c.tc : Thread Cert.KernelRnnFwdIdeal.nD Cert.KernelRnnFwdIdeal.τ).loc Cert.KernelRnnFwdIdeal.main_arg5)
      ∧ r.2.mem ((c.tc : Thread Cert.KernelRnnFwdIdeal.nD Cert.KernelRnnFwdIdeal.τ).loc Cert.KernelRnnFwdIdeal.main_arg6) = m ((c.tc : Thread Cert.KernelRnnFwdIdeal.nD Cert.KernelRnnFwdIdeal.τ).loc Cert.KernelRnnFwdIdeal.main_arg6)
      ∧ r.2.mem ((c.tc : Thread Cert.KernelRnnFwdIdeal.nD Cert.KernelRnnFwdIdeal.τ).loc Cert.KernelRnnFwdIdeal.main_arg7) = m ((c.tc : Thread Cert.KernelRnnFwdIdeal.nD Cert.KernelRnnFwdIdeal.τ).loc Cert.KernelRnnFwdIdeal.main_arg7))
      ∧ r.2.sem = fun _ => 0)

def quiescent_KernelRnnFwdIdeal_pre_rnn_far [hKernelRnnFwdIdeal : Cert.KernelRnnFwdIdeal.Facts] [hPre_rnn_far : Cert.Pre_rnn_far.Facts] : Prop :=
  ∀ (m : (ℓ : Loc Cert.KernelRnnFwdIdeal.nD Cert.KernelRnnFwdIdeal.τ Cert.KernelRnnFwdIdeal.sig) → Buf (Elt Ideal) ℓ) (g : Dev Cert.KernelRnnFwdIdeal.nD → PrngReg), Pre_KernelRnnFwdIdeal_rnn_far m →
    θ_run (Cert.KernelRnnFwdIdeal.defs (F := Ideal)) (onTc (τ := Cert.KernelRnnFwdIdeal.τ) (Cert.KernelRnnFwdIdeal.main (F := Ideal))) ⟨m, fun _ => 0, g⟩ (fun r => (∀ c : Dev Cert.KernelRnnFwdIdeal.nD,
      r.2.mem ((c.tc : Thread Cert.KernelRnnFwdIdeal.nD Cert.KernelRnnFwdIdeal.τ).loc Cert.KernelRnnFwdIdeal.main_arg0) = m ((c.tc : Thread Cert.KernelRnnFwdIdeal.nD Cert.KernelRnnFwdIdeal.τ).loc Cert.KernelRnnFwdIdeal.main_arg0)
      ∧ r.2.mem ((c.tc : Thread Cert.KernelRnnFwdIdeal.nD Cert.KernelRnnFwdIdeal.τ).loc Cert.KernelRnnFwdIdeal.main_arg1) = m ((c.tc : Thread Cert.KernelRnnFwdIdeal.nD Cert.KernelRnnFwdIdeal.τ).loc Cert.KernelRnnFwdIdeal.main_arg1)
      ∧ r.2.mem ((c.tc : Thread Cert.KernelRnnFwdIdeal.nD Cert.KernelRnnFwdIdeal.τ).loc Cert.KernelRnnFwdIdeal.main_arg2) = m ((c.tc : Thread Cert.KernelRnnFwdIdeal.nD Cert.KernelRnnFwdIdeal.τ).loc Cert.KernelRnnFwdIdeal.main_arg2)
      ∧ r.2.mem ((c.tc : Thread Cert.KernelRnnFwdIdeal.nD Cert.KernelRnnFwdIdeal.τ).loc Cert.KernelRnnFwdIdeal.main_arg3) = m ((c.tc : Thread Cert.KernelRnnFwdIdeal.nD Cert.KernelRnnFwdIdeal.τ).loc Cert.KernelRnnFwdIdeal.main_arg3)
      ∧ r.2.mem ((c.tc : Thread Cert.KernelRnnFwdIdeal.nD Cert.KernelRnnFwdIdeal.τ).loc Cert.KernelRnnFwdIdeal.main_arg4) = m ((c.tc : Thread Cert.KernelRnnFwdIdeal.nD Cert.KernelRnnFwdIdeal.τ).loc Cert.KernelRnnFwdIdeal.main_arg4)
      ∧ r.2.mem ((c.tc : Thread Cert.KernelRnnFwdIdeal.nD Cert.KernelRnnFwdIdeal.τ).loc Cert.KernelRnnFwdIdeal.main_arg5) = m ((c.tc : Thread Cert.KernelRnnFwdIdeal.nD Cert.KernelRnnFwdIdeal.τ).loc Cert.KernelRnnFwdIdeal.main_arg5)
      ∧ r.2.mem ((c.tc : Thread Cert.KernelRnnFwdIdeal.nD Cert.KernelRnnFwdIdeal.τ).loc Cert.KernelRnnFwdIdeal.main_arg6) = m ((c.tc : Thread Cert.KernelRnnFwdIdeal.nD Cert.KernelRnnFwdIdeal.τ).loc Cert.KernelRnnFwdIdeal.main_arg6)
      ∧ r.2.mem ((c.tc : Thread Cert.KernelRnnFwdIdeal.nD Cert.KernelRnnFwdIdeal.τ).loc Cert.KernelRnnFwdIdeal.main_arg7) = m ((c.tc : Thread Cert.KernelRnnFwdIdeal.nD Cert.KernelRnnFwdIdeal.τ).loc Cert.KernelRnnFwdIdeal.main_arg7))
      ∧ r.2.sem = fun _ => 0)

def quiescent_ReferenceRnnFwdIdeal [hReferenceRnnFwdIdeal : Cert.ReferenceRnnFwdIdeal.Facts] : Prop :=
  ∀ (m : (ℓ : Loc Cert.ReferenceRnnFwdIdeal.nD Cert.ReferenceRnnFwdIdeal.τ Cert.ReferenceRnnFwdIdeal.sig) → Buf (Elt Ideal) ℓ) (g : Dev Cert.ReferenceRnnFwdIdeal.nD → PrngReg), Pre_ReferenceRnnFwdIdeal m →
    θ_run (Cert.ReferenceRnnFwdIdeal.defs (F := Ideal)) (onTc (τ := Cert.ReferenceRnnFwdIdeal.τ) (Cert.ReferenceRnnFwdIdeal.main (F := Ideal))) ⟨m, fun _ => 0, g⟩ (fun r => (∀ c : Dev Cert.ReferenceRnnFwdIdeal.nD,
      r.2.mem ((c.tc : Thread Cert.ReferenceRnnFwdIdeal.nD Cert.ReferenceRnnFwdIdeal.τ).loc Cert.ReferenceRnnFwdIdeal.main_arg0) = m ((c.tc : Thread Cert.ReferenceRnnFwdIdeal.nD Cert.ReferenceRnnFwdIdeal.τ).loc Cert.ReferenceRnnFwdIdeal.main_arg0)
      ∧ r.2.mem ((c.tc : Thread Cert.ReferenceRnnFwdIdeal.nD Cert.ReferenceRnnFwdIdeal.τ).loc Cert.ReferenceRnnFwdIdeal.main_arg1) = m ((c.tc : Thread Cert.ReferenceRnnFwdIdeal.nD Cert.ReferenceRnnFwdIdeal.τ).loc Cert.ReferenceRnnFwdIdeal.main_arg1)
      ∧ r.2.mem ((c.tc : Thread Cert.ReferenceRnnFwdIdeal.nD Cert.ReferenceRnnFwdIdeal.τ).loc Cert.ReferenceRnnFwdIdeal.main_arg2) = m ((c.tc : Thread Cert.ReferenceRnnFwdIdeal.nD Cert.ReferenceRnnFwdIdeal.τ).loc Cert.ReferenceRnnFwdIdeal.main_arg2)
      ∧ r.2.mem ((c.tc : Thread Cert.ReferenceRnnFwdIdeal.nD Cert.ReferenceRnnFwdIdeal.τ).loc Cert.ReferenceRnnFwdIdeal.main_arg3) = m ((c.tc : Thread Cert.ReferenceRnnFwdIdeal.nD Cert.ReferenceRnnFwdIdeal.τ).loc Cert.ReferenceRnnFwdIdeal.main_arg3)
      ∧ r.2.mem ((c.tc : Thread Cert.ReferenceRnnFwdIdeal.nD Cert.ReferenceRnnFwdIdeal.τ).loc Cert.ReferenceRnnFwdIdeal.main_arg4) = m ((c.tc : Thread Cert.ReferenceRnnFwdIdeal.nD Cert.ReferenceRnnFwdIdeal.τ).loc Cert.ReferenceRnnFwdIdeal.main_arg4)
      ∧ r.2.mem ((c.tc : Thread Cert.ReferenceRnnFwdIdeal.nD Cert.ReferenceRnnFwdIdeal.τ).loc Cert.ReferenceRnnFwdIdeal.main_arg5) = m ((c.tc : Thread Cert.ReferenceRnnFwdIdeal.nD Cert.ReferenceRnnFwdIdeal.τ).loc Cert.ReferenceRnnFwdIdeal.main_arg5)
      ∧ r.2.mem ((c.tc : Thread Cert.ReferenceRnnFwdIdeal.nD Cert.ReferenceRnnFwdIdeal.τ).loc Cert.ReferenceRnnFwdIdeal.main_arg6) = m ((c.tc : Thread Cert.ReferenceRnnFwdIdeal.nD Cert.ReferenceRnnFwdIdeal.τ).loc Cert.ReferenceRnnFwdIdeal.main_arg6)
      ∧ r.2.mem ((c.tc : Thread Cert.ReferenceRnnFwdIdeal.nD Cert.ReferenceRnnFwdIdeal.τ).loc Cert.ReferenceRnnFwdIdeal.main_arg7) = m ((c.tc : Thread Cert.ReferenceRnnFwdIdeal.nD Cert.ReferenceRnnFwdIdeal.τ).loc Cert.ReferenceRnnFwdIdeal.main_arg7))
      ∧ r.2.sem = fun _ => 0)

def quiescent_ReferenceRnnFwdIdeal_pre_rnn_far [hReferenceRnnFwdIdeal : Cert.ReferenceRnnFwdIdeal.Facts] [hPre_rnn_far : Cert.Pre_rnn_far.Facts] : Prop :=
  ∀ (m : (ℓ : Loc Cert.ReferenceRnnFwdIdeal.nD Cert.ReferenceRnnFwdIdeal.τ Cert.ReferenceRnnFwdIdeal.sig) → Buf (Elt Ideal) ℓ) (g : Dev Cert.ReferenceRnnFwdIdeal.nD → PrngReg), Pre_ReferenceRnnFwdIdeal_rnn_far m →
    θ_run (Cert.ReferenceRnnFwdIdeal.defs (F := Ideal)) (onTc (τ := Cert.ReferenceRnnFwdIdeal.τ) (Cert.ReferenceRnnFwdIdeal.main (F := Ideal))) ⟨m, fun _ => 0, g⟩ (fun r => (∀ c : Dev Cert.ReferenceRnnFwdIdeal.nD,
      r.2.mem ((c.tc : Thread Cert.ReferenceRnnFwdIdeal.nD Cert.ReferenceRnnFwdIdeal.τ).loc Cert.ReferenceRnnFwdIdeal.main_arg0) = m ((c.tc : Thread Cert.ReferenceRnnFwdIdeal.nD Cert.ReferenceRnnFwdIdeal.τ).loc Cert.ReferenceRnnFwdIdeal.main_arg0)
      ∧ r.2.mem ((c.tc : Thread Cert.ReferenceRnnFwdIdeal.nD Cert.ReferenceRnnFwdIdeal.τ).loc Cert.ReferenceRnnFwdIdeal.main_arg1) = m ((c.tc : Thread Cert.ReferenceRnnFwdIdeal.nD Cert.ReferenceRnnFwdIdeal.τ).loc Cert.ReferenceRnnFwdIdeal.main_arg1)
      ∧ r.2.mem ((c.tc : Thread Cert.ReferenceRnnFwdIdeal.nD Cert.ReferenceRnnFwdIdeal.τ).loc Cert.ReferenceRnnFwdIdeal.main_arg2) = m ((c.tc : Thread Cert.ReferenceRnnFwdIdeal.nD Cert.ReferenceRnnFwdIdeal.τ).loc Cert.ReferenceRnnFwdIdeal.main_arg2)
      ∧ r.2.mem ((c.tc : Thread Cert.ReferenceRnnFwdIdeal.nD Cert.ReferenceRnnFwdIdeal.τ).loc Cert.ReferenceRnnFwdIdeal.main_arg3) = m ((c.tc : Thread Cert.ReferenceRnnFwdIdeal.nD Cert.ReferenceRnnFwdIdeal.τ).loc Cert.ReferenceRnnFwdIdeal.main_arg3)
      ∧ r.2.mem ((c.tc : Thread Cert.ReferenceRnnFwdIdeal.nD Cert.ReferenceRnnFwdIdeal.τ).loc Cert.ReferenceRnnFwdIdeal.main_arg4) = m ((c.tc : Thread Cert.ReferenceRnnFwdIdeal.nD Cert.ReferenceRnnFwdIdeal.τ).loc Cert.ReferenceRnnFwdIdeal.main_arg4)
      ∧ r.2.mem ((c.tc : Thread Cert.ReferenceRnnFwdIdeal.nD Cert.ReferenceRnnFwdIdeal.τ).loc Cert.ReferenceRnnFwdIdeal.main_arg5) = m ((c.tc : Thread Cert.ReferenceRnnFwdIdeal.nD Cert.ReferenceRnnFwdIdeal.τ).loc Cert.ReferenceRnnFwdIdeal.main_arg5)
      ∧ r.2.mem ((c.tc : Thread Cert.ReferenceRnnFwdIdeal.nD Cert.ReferenceRnnFwdIdeal.τ).loc Cert.ReferenceRnnFwdIdeal.main_arg6) = m ((c.tc : Thread Cert.ReferenceRnnFwdIdeal.nD Cert.ReferenceRnnFwdIdeal.τ).loc Cert.ReferenceRnnFwdIdeal.main_arg6)
      ∧ r.2.mem ((c.tc : Thread Cert.ReferenceRnnFwdIdeal.nD Cert.ReferenceRnnFwdIdeal.τ).loc Cert.ReferenceRnnFwdIdeal.main_arg7) = m ((c.tc : Thread Cert.ReferenceRnnFwdIdeal.nD Cert.ReferenceRnnFwdIdeal.τ).loc Cert.ReferenceRnnFwdIdeal.main_arg7))
      ∧ r.2.sem = fun _ => 0)

def quiescent_KernelRnnBwd [hKernelRnnBwd : Cert.KernelRnnBwd.Facts] : Prop :=
  ∀ (m : (ℓ : Loc Cert.KernelRnnBwd.nD Cert.KernelRnnBwd.τ Cert.KernelRnnBwd.sig) → Buf (Elt Bits) ℓ) (g : Dev Cert.KernelRnnBwd.nD → PrngReg), Pre_KernelRnnBwd m →
    θ_run (Cert.KernelRnnBwd.defs (F := Bits)) (onTc (τ := Cert.KernelRnnBwd.τ) (Cert.KernelRnnBwd.main (F := Bits))) ⟨m, fun _ => 0, g⟩ (fun r => (∀ c : Dev Cert.KernelRnnBwd.nD,
      r.2.mem ((c.tc : Thread Cert.KernelRnnBwd.nD Cert.KernelRnnBwd.τ).loc Cert.KernelRnnBwd.main_arg0) = m ((c.tc : Thread Cert.KernelRnnBwd.nD Cert.KernelRnnBwd.τ).loc Cert.KernelRnnBwd.main_arg0)
      ∧ r.2.mem ((c.tc : Thread Cert.KernelRnnBwd.nD Cert.KernelRnnBwd.τ).loc Cert.KernelRnnBwd.main_arg1) = m ((c.tc : Thread Cert.KernelRnnBwd.nD Cert.KernelRnnBwd.τ).loc Cert.KernelRnnBwd.main_arg1)
      ∧ r.2.mem ((c.tc : Thread Cert.KernelRnnBwd.nD Cert.KernelRnnBwd.τ).loc Cert.KernelRnnBwd.main_arg2) = m ((c.tc : Thread Cert.KernelRnnBwd.nD Cert.KernelRnnBwd.τ).loc Cert.KernelRnnBwd.main_arg2)
      ∧ r.2.mem ((c.tc : Thread Cert.KernelRnnBwd.nD Cert.KernelRnnBwd.τ).loc Cert.KernelRnnBwd.main_arg3) = m ((c.tc : Thread Cert.KernelRnnBwd.nD Cert.KernelRnnBwd.τ).loc Cert.KernelRnnBwd.main_arg3)
      ∧ r.2.mem ((c.tc : Thread Cert.KernelRnnBwd.nD Cert.KernelRnnBwd.τ).loc Cert.KernelRnnBwd.main_arg4) = m ((c.tc : Thread Cert.KernelRnnBwd.nD Cert.KernelRnnBwd.τ).loc Cert.KernelRnnBwd.main_arg4)
      ∧ r.2.mem ((c.tc : Thread Cert.KernelRnnBwd.nD Cert.KernelRnnBwd.τ).loc Cert.KernelRnnBwd.main_arg5) = m ((c.tc : Thread Cert.KernelRnnBwd.nD Cert.KernelRnnBwd.τ).loc Cert.KernelRnnBwd.main_arg5)
      ∧ r.2.mem ((c.tc : Thread Cert.KernelRnnBwd.nD Cert.KernelRnnBwd.τ).loc Cert.KernelRnnBwd.main_arg6) = m ((c.tc : Thread Cert.KernelRnnBwd.nD Cert.KernelRnnBwd.τ).loc Cert.KernelRnnBwd.main_arg6)
      ∧ r.2.mem ((c.tc : Thread Cert.KernelRnnBwd.nD Cert.KernelRnnBwd.τ).loc Cert.KernelRnnBwd.main_arg7) = m ((c.tc : Thread Cert.KernelRnnBwd.nD Cert.KernelRnnBwd.τ).loc Cert.KernelRnnBwd.main_arg7)
      ∧ r.2.mem ((c.tc : Thread Cert.KernelRnnBwd.nD Cert.KernelRnnBwd.τ).loc Cert.KernelRnnBwd.main_arg8) = m ((c.tc : Thread Cert.KernelRnnBwd.nD Cert.KernelRnnBwd.τ).loc Cert.KernelRnnBwd.main_arg8))
      ∧ r.2.sem = fun _ => 0)

def quiescent_KernelRnnBwdIdeal [hKernelRnnBwdIdeal : Cert.KernelRnnBwdIdeal.Facts] : Prop :=
  ∀ (m : (ℓ : Loc Cert.KernelRnnBwdIdeal.nD Cert.KernelRnnBwdIdeal.τ Cert.KernelRnnBwdIdeal.sig) → Buf (Elt Ideal) ℓ) (g : Dev Cert.KernelRnnBwdIdeal.nD → PrngReg), Pre_KernelRnnBwdIdeal m →
    θ_run (Cert.KernelRnnBwdIdeal.defs (F := Ideal)) (onTc (τ := Cert.KernelRnnBwdIdeal.τ) (Cert.KernelRnnBwdIdeal.main (F := Ideal))) ⟨m, fun _ => 0, g⟩ (fun r => (∀ c : Dev Cert.KernelRnnBwdIdeal.nD,
      r.2.mem ((c.tc : Thread Cert.KernelRnnBwdIdeal.nD Cert.KernelRnnBwdIdeal.τ).loc Cert.KernelRnnBwdIdeal.main_arg0) = m ((c.tc : Thread Cert.KernelRnnBwdIdeal.nD Cert.KernelRnnBwdIdeal.τ).loc Cert.KernelRnnBwdIdeal.main_arg0)
      ∧ r.2.mem ((c.tc : Thread Cert.KernelRnnBwdIdeal.nD Cert.KernelRnnBwdIdeal.τ).loc Cert.KernelRnnBwdIdeal.main_arg1) = m ((c.tc : Thread Cert.KernelRnnBwdIdeal.nD Cert.KernelRnnBwdIdeal.τ).loc Cert.KernelRnnBwdIdeal.main_arg1)
      ∧ r.2.mem ((c.tc : Thread Cert.KernelRnnBwdIdeal.nD Cert.KernelRnnBwdIdeal.τ).loc Cert.KernelRnnBwdIdeal.main_arg2) = m ((c.tc : Thread Cert.KernelRnnBwdIdeal.nD Cert.KernelRnnBwdIdeal.τ).loc Cert.KernelRnnBwdIdeal.main_arg2)
      ∧ r.2.mem ((c.tc : Thread Cert.KernelRnnBwdIdeal.nD Cert.KernelRnnBwdIdeal.τ).loc Cert.KernelRnnBwdIdeal.main_arg3) = m ((c.tc : Thread Cert.KernelRnnBwdIdeal.nD Cert.KernelRnnBwdIdeal.τ).loc Cert.KernelRnnBwdIdeal.main_arg3)
      ∧ r.2.mem ((c.tc : Thread Cert.KernelRnnBwdIdeal.nD Cert.KernelRnnBwdIdeal.τ).loc Cert.KernelRnnBwdIdeal.main_arg4) = m ((c.tc : Thread Cert.KernelRnnBwdIdeal.nD Cert.KernelRnnBwdIdeal.τ).loc Cert.KernelRnnBwdIdeal.main_arg4)
      ∧ r.2.mem ((c.tc : Thread Cert.KernelRnnBwdIdeal.nD Cert.KernelRnnBwdIdeal.τ).loc Cert.KernelRnnBwdIdeal.main_arg5) = m ((c.tc : Thread Cert.KernelRnnBwdIdeal.nD Cert.KernelRnnBwdIdeal.τ).loc Cert.KernelRnnBwdIdeal.main_arg5)
      ∧ r.2.mem ((c.tc : Thread Cert.KernelRnnBwdIdeal.nD Cert.KernelRnnBwdIdeal.τ).loc Cert.KernelRnnBwdIdeal.main_arg6) = m ((c.tc : Thread Cert.KernelRnnBwdIdeal.nD Cert.KernelRnnBwdIdeal.τ).loc Cert.KernelRnnBwdIdeal.main_arg6)
      ∧ r.2.mem ((c.tc : Thread Cert.KernelRnnBwdIdeal.nD Cert.KernelRnnBwdIdeal.τ).loc Cert.KernelRnnBwdIdeal.main_arg7) = m ((c.tc : Thread Cert.KernelRnnBwdIdeal.nD Cert.KernelRnnBwdIdeal.τ).loc Cert.KernelRnnBwdIdeal.main_arg7)
      ∧ r.2.mem ((c.tc : Thread Cert.KernelRnnBwdIdeal.nD Cert.KernelRnnBwdIdeal.τ).loc Cert.KernelRnnBwdIdeal.main_arg8) = m ((c.tc : Thread Cert.KernelRnnBwdIdeal.nD Cert.KernelRnnBwdIdeal.τ).loc Cert.KernelRnnBwdIdeal.main_arg8))
      ∧ r.2.sem = fun _ => 0)

def quiescent_KernelRnnBwdIdeal_pre_rnn_back_far [hKernelRnnBwdIdeal : Cert.KernelRnnBwdIdeal.Facts] [hPre_rnn_back_far : Cert.Pre_rnn_back_far.Facts] : Prop :=
  ∀ (m : (ℓ : Loc Cert.KernelRnnBwdIdeal.nD Cert.KernelRnnBwdIdeal.τ Cert.KernelRnnBwdIdeal.sig) → Buf (Elt Ideal) ℓ) (g : Dev Cert.KernelRnnBwdIdeal.nD → PrngReg), Pre_KernelRnnBwdIdeal_rnn_back_far m →
    θ_run (Cert.KernelRnnBwdIdeal.defs (F := Ideal)) (onTc (τ := Cert.KernelRnnBwdIdeal.τ) (Cert.KernelRnnBwdIdeal.main (F := Ideal))) ⟨m, fun _ => 0, g⟩ (fun r => (∀ c : Dev Cert.KernelRnnBwdIdeal.nD,
      r.2.mem ((c.tc : Thread Cert.KernelRnnBwdIdeal.nD Cert.KernelRnnBwdIdeal.τ).loc Cert.KernelRnnBwdIdeal.main_arg0) = m ((c.tc : Thread Cert.KernelRnnBwdIdeal.nD Cert.KernelRnnBwdIdeal.τ).loc Cert.KernelRnnBwdIdeal.main_arg0)
      ∧ r.2.mem ((c.tc : Thread Cert.KernelRnnBwdIdeal.nD Cert.KernelRnnBwdIdeal.τ).loc Cert.KernelRnnBwdIdeal.main_arg1) = m ((c.tc : Thread Cert.KernelRnnBwdIdeal.nD Cert.KernelRnnBwdIdeal.τ).loc Cert.KernelRnnBwdIdeal.main_arg1)
      ∧ r.2.mem ((c.tc : Thread Cert.KernelRnnBwdIdeal.nD Cert.KernelRnnBwdIdeal.τ).loc Cert.KernelRnnBwdIdeal.main_arg2) = m ((c.tc : Thread Cert.KernelRnnBwdIdeal.nD Cert.KernelRnnBwdIdeal.τ).loc Cert.KernelRnnBwdIdeal.main_arg2)
      ∧ r.2.mem ((c.tc : Thread Cert.KernelRnnBwdIdeal.nD Cert.KernelRnnBwdIdeal.τ).loc Cert.KernelRnnBwdIdeal.main_arg3) = m ((c.tc : Thread Cert.KernelRnnBwdIdeal.nD Cert.KernelRnnBwdIdeal.τ).loc Cert.KernelRnnBwdIdeal.main_arg3)
      ∧ r.2.mem ((c.tc : Thread Cert.KernelRnnBwdIdeal.nD Cert.KernelRnnBwdIdeal.τ).loc Cert.KernelRnnBwdIdeal.main_arg4) = m ((c.tc : Thread Cert.KernelRnnBwdIdeal.nD Cert.KernelRnnBwdIdeal.τ).loc Cert.KernelRnnBwdIdeal.main_arg4)
      ∧ r.2.mem ((c.tc : Thread Cert.KernelRnnBwdIdeal.nD Cert.KernelRnnBwdIdeal.τ).loc Cert.KernelRnnBwdIdeal.main_arg5) = m ((c.tc : Thread Cert.KernelRnnBwdIdeal.nD Cert.KernelRnnBwdIdeal.τ).loc Cert.KernelRnnBwdIdeal.main_arg5)
      ∧ r.2.mem ((c.tc : Thread Cert.KernelRnnBwdIdeal.nD Cert.KernelRnnBwdIdeal.τ).loc Cert.KernelRnnBwdIdeal.main_arg6) = m ((c.tc : Thread Cert.KernelRnnBwdIdeal.nD Cert.KernelRnnBwdIdeal.τ).loc Cert.KernelRnnBwdIdeal.main_arg6)
      ∧ r.2.mem ((c.tc : Thread Cert.KernelRnnBwdIdeal.nD Cert.KernelRnnBwdIdeal.τ).loc Cert.KernelRnnBwdIdeal.main_arg7) = m ((c.tc : Thread Cert.KernelRnnBwdIdeal.nD Cert.KernelRnnBwdIdeal.τ).loc Cert.KernelRnnBwdIdeal.main_arg7)
      ∧ r.2.mem ((c.tc : Thread Cert.KernelRnnBwdIdeal.nD Cert.KernelRnnBwdIdeal.τ).loc Cert.KernelRnnBwdIdeal.main_arg8) = m ((c.tc : Thread Cert.KernelRnnBwdIdeal.nD Cert.KernelRnnBwdIdeal.τ).loc Cert.KernelRnnBwdIdeal.main_arg8))
      ∧ r.2.sem = fun _ => 0)

def quiescent_ReferenceRnnBwdIdeal [hReferenceRnnBwdIdeal : Cert.ReferenceRnnBwdIdeal.Facts] : Prop :=
  ∀ (m : (ℓ : Loc Cert.ReferenceRnnBwdIdeal.nD Cert.ReferenceRnnBwdIdeal.τ Cert.ReferenceRnnBwdIdeal.sig) → Buf (Elt Ideal) ℓ) (g : Dev Cert.ReferenceRnnBwdIdeal.nD → PrngReg), Pre_ReferenceRnnBwdIdeal m →
    θ_run (Cert.ReferenceRnnBwdIdeal.defs (F := Ideal)) (onTc (τ := Cert.ReferenceRnnBwdIdeal.τ) (Cert.ReferenceRnnBwdIdeal.main (F := Ideal))) ⟨m, fun _ => 0, g⟩ (fun r => (∀ c : Dev Cert.ReferenceRnnBwdIdeal.nD,
      r.2.mem ((c.tc : Thread Cert.ReferenceRnnBwdIdeal.nD Cert.ReferenceRnnBwdIdeal.τ).loc Cert.ReferenceRnnBwdIdeal.main_arg0) = m ((c.tc : Thread Cert.ReferenceRnnBwdIdeal.nD Cert.ReferenceRnnBwdIdeal.τ).loc Cert.ReferenceRnnBwdIdeal.main_arg0)
      ∧ r.2.mem ((c.tc : Thread Cert.ReferenceRnnBwdIdeal.nD Cert.ReferenceRnnBwdIdeal.τ).loc Cert.ReferenceRnnBwdIdeal.main_arg1) = m ((c.tc : Thread Cert.ReferenceRnnBwdIdeal.nD Cert.ReferenceRnnBwdIdeal.τ).loc Cert.ReferenceRnnBwdIdeal.main_arg1)
      ∧ r.2.mem ((c.tc : Thread Cert.ReferenceRnnBwdIdeal.nD Cert.ReferenceRnnBwdIdeal.τ).loc Cert.ReferenceRnnBwdIdeal.main_arg2) = m ((c.tc : Thread Cert.ReferenceRnnBwdIdeal.nD Cert.ReferenceRnnBwdIdeal.τ).loc Cert.ReferenceRnnBwdIdeal.main_arg2)
      ∧ r.2.mem ((c.tc : Thread Cert.ReferenceRnnBwdIdeal.nD Cert.ReferenceRnnBwdIdeal.τ).loc Cert.ReferenceRnnBwdIdeal.main_arg3) = m ((c.tc : Thread Cert.ReferenceRnnBwdIdeal.nD Cert.ReferenceRnnBwdIdeal.τ).loc Cert.ReferenceRnnBwdIdeal.main_arg3)
      ∧ r.2.mem ((c.tc : Thread Cert.ReferenceRnnBwdIdeal.nD Cert.ReferenceRnnBwdIdeal.τ).loc Cert.ReferenceRnnBwdIdeal.main_arg4) = m ((c.tc : Thread Cert.ReferenceRnnBwdIdeal.nD Cert.ReferenceRnnBwdIdeal.τ).loc Cert.ReferenceRnnBwdIdeal.main_arg4)
      ∧ r.2.mem ((c.tc : Thread Cert.ReferenceRnnBwdIdeal.nD Cert.ReferenceRnnBwdIdeal.τ).loc Cert.ReferenceRnnBwdIdeal.main_arg5) = m ((c.tc : Thread Cert.ReferenceRnnBwdIdeal.nD Cert.ReferenceRnnBwdIdeal.τ).loc Cert.ReferenceRnnBwdIdeal.main_arg5)
      ∧ r.2.mem ((c.tc : Thread Cert.ReferenceRnnBwdIdeal.nD Cert.ReferenceRnnBwdIdeal.τ).loc Cert.ReferenceRnnBwdIdeal.main_arg6) = m ((c.tc : Thread Cert.ReferenceRnnBwdIdeal.nD Cert.ReferenceRnnBwdIdeal.τ).loc Cert.ReferenceRnnBwdIdeal.main_arg6)
      ∧ r.2.mem ((c.tc : Thread Cert.ReferenceRnnBwdIdeal.nD Cert.ReferenceRnnBwdIdeal.τ).loc Cert.ReferenceRnnBwdIdeal.main_arg7) = m ((c.tc : Thread Cert.ReferenceRnnBwdIdeal.nD Cert.ReferenceRnnBwdIdeal.τ).loc Cert.ReferenceRnnBwdIdeal.main_arg7)
      ∧ r.2.mem ((c.tc : Thread Cert.ReferenceRnnBwdIdeal.nD Cert.ReferenceRnnBwdIdeal.τ).loc Cert.ReferenceRnnBwdIdeal.main_arg8) = m ((c.tc : Thread Cert.ReferenceRnnBwdIdeal.nD Cert.ReferenceRnnBwdIdeal.τ).loc Cert.ReferenceRnnBwdIdeal.main_arg8))
      ∧ r.2.sem = fun _ => 0)

def quiescent_ReferenceRnnBwdIdeal_pre_rnn_back_far [hReferenceRnnBwdIdeal : Cert.ReferenceRnnBwdIdeal.Facts] [hPre_rnn_back_far : Cert.Pre_rnn_back_far.Facts] : Prop :=
  ∀ (m : (ℓ : Loc Cert.ReferenceRnnBwdIdeal.nD Cert.ReferenceRnnBwdIdeal.τ Cert.ReferenceRnnBwdIdeal.sig) → Buf (Elt Ideal) ℓ) (g : Dev Cert.ReferenceRnnBwdIdeal.nD → PrngReg), Pre_ReferenceRnnBwdIdeal_rnn_back_far m →
    θ_run (Cert.ReferenceRnnBwdIdeal.defs (F := Ideal)) (onTc (τ := Cert.ReferenceRnnBwdIdeal.τ) (Cert.ReferenceRnnBwdIdeal.main (F := Ideal))) ⟨m, fun _ => 0, g⟩ (fun r => (∀ c : Dev Cert.ReferenceRnnBwdIdeal.nD,
      r.2.mem ((c.tc : Thread Cert.ReferenceRnnBwdIdeal.nD Cert.ReferenceRnnBwdIdeal.τ).loc Cert.ReferenceRnnBwdIdeal.main_arg0) = m ((c.tc : Thread Cert.ReferenceRnnBwdIdeal.nD Cert.ReferenceRnnBwdIdeal.τ).loc Cert.ReferenceRnnBwdIdeal.main_arg0)
      ∧ r.2.mem ((c.tc : Thread Cert.ReferenceRnnBwdIdeal.nD Cert.ReferenceRnnBwdIdeal.τ).loc Cert.ReferenceRnnBwdIdeal.main_arg1) = m ((c.tc : Thread Cert.ReferenceRnnBwdIdeal.nD Cert.ReferenceRnnBwdIdeal.τ).loc Cert.ReferenceRnnBwdIdeal.main_arg1)
      ∧ r.2.mem ((c.tc : Thread Cert.ReferenceRnnBwdIdeal.nD Cert.ReferenceRnnBwdIdeal.τ).loc Cert.ReferenceRnnBwdIdeal.main_arg2) = m ((c.tc : Thread Cert.ReferenceRnnBwdIdeal.nD Cert.ReferenceRnnBwdIdeal.τ).loc Cert.ReferenceRnnBwdIdeal.main_arg2)
      ∧ r.2.mem ((c.tc : Thread Cert.ReferenceRnnBwdIdeal.nD Cert.ReferenceRnnBwdIdeal.τ).loc Cert.ReferenceRnnBwdIdeal.main_arg3) = m ((c.tc : Thread Cert.ReferenceRnnBwdIdeal.nD Cert.ReferenceRnnBwdIdeal.τ).loc Cert.ReferenceRnnBwdIdeal.main_arg3)
      ∧ r.2.mem ((c.tc : Thread Cert.ReferenceRnnBwdIdeal.nD Cert.ReferenceRnnBwdIdeal.τ).loc Cert.ReferenceRnnBwdIdeal.main_arg4) = m ((c.tc : Thread Cert.ReferenceRnnBwdIdeal.nD Cert.ReferenceRnnBwdIdeal.τ).loc Cert.ReferenceRnnBwdIdeal.main_arg4)
      ∧ r.2.mem ((c.tc : Thread Cert.ReferenceRnnBwdIdeal.nD Cert.ReferenceRnnBwdIdeal.τ).loc Cert.ReferenceRnnBwdIdeal.main_arg5) = m ((c.tc : Thread Cert.ReferenceRnnBwdIdeal.nD Cert.ReferenceRnnBwdIdeal.τ).loc Cert.ReferenceRnnBwdIdeal.main_arg5)
      ∧ r.2.mem ((c.tc : Thread Cert.ReferenceRnnBwdIdeal.nD Cert.ReferenceRnnBwdIdeal.τ).loc Cert.ReferenceRnnBwdIdeal.main_arg6) = m ((c.tc : Thread Cert.ReferenceRnnBwdIdeal.nD Cert.ReferenceRnnBwdIdeal.τ).loc Cert.ReferenceRnnBwdIdeal.main_arg6)
      ∧ r.2.mem ((c.tc : Thread Cert.ReferenceRnnBwdIdeal.nD Cert.ReferenceRnnBwdIdeal.τ).loc Cert.ReferenceRnnBwdIdeal.main_arg7) = m ((c.tc : Thread Cert.ReferenceRnnBwdIdeal.nD Cert.ReferenceRnnBwdIdeal.τ).loc Cert.ReferenceRnnBwdIdeal.main_arg7)
      ∧ r.2.mem ((c.tc : Thread Cert.ReferenceRnnBwdIdeal.nD Cert.ReferenceRnnBwdIdeal.τ).loc Cert.ReferenceRnnBwdIdeal.main_arg8) = m ((c.tc : Thread Cert.ReferenceRnnBwdIdeal.nD Cert.ReferenceRnnBwdIdeal.τ).loc Cert.ReferenceRnnBwdIdeal.main_arg8))
      ∧ r.2.sem = fun _ => 0)

def quiescent_KernelModUpdate [hKernelModUpdate : Cert.KernelModUpdate.Facts] : Prop :=
  ∀ (m : (ℓ : Loc Cert.KernelModUpdate.nD Cert.KernelModUpdate.τ Cert.KernelModUpdate.sig) → Buf (Elt Bits) ℓ) (g : Dev Cert.KernelModUpdate.nD → PrngReg), Pre_KernelModUpdate m →
    θ_run (Cert.KernelModUpdate.defs (F := Bits)) (onTc (τ := Cert.KernelModUpdate.τ) (Cert.KernelModUpdate.main (F := Bits))) ⟨m, fun _ => 0, g⟩ (fun r => (∀ c : Dev Cert.KernelModUpdate.nD,
      r.2.mem ((c.tc : Thread Cert.KernelModUpdate.nD Cert.KernelModUpdate.τ).loc Cert.KernelModUpdate.main_arg0) = m ((c.tc : Thread Cert.KernelModUpdate.nD Cert.KernelModUpdate.τ).loc Cert.KernelModUpdate.main_arg0)
      ∧ r.2.mem ((c.tc : Thread Cert.KernelModUpdate.nD Cert.KernelModUpdate.τ).loc Cert.KernelModUpdate.main_arg1) = m ((c.tc : Thread Cert.KernelModUpdate.nD Cert.KernelModUpdate.τ).loc Cert.KernelModUpdate.main_arg1)
      ∧ r.2.mem ((c.tc : Thread Cert.KernelModUpdate.nD Cert.KernelModUpdate.τ).loc Cert.KernelModUpdate.main_arg2) = m ((c.tc : Thread Cert.KernelModUpdate.nD Cert.KernelModUpdate.τ).loc Cert.KernelModUpdate.main_arg2)
      ∧ r.2.mem ((c.tc : Thread Cert.KernelModUpdate.nD Cert.KernelModUpdate.τ).loc Cert.KernelModUpdate.main_arg3) = m ((c.tc : Thread Cert.KernelModUpdate.nD Cert.KernelModUpdate.τ).loc Cert.KernelModUpdate.main_arg3)
      ∧ r.2.mem ((c.tc : Thread Cert.KernelModUpdate.nD Cert.KernelModUpdate.τ).loc Cert.KernelModUpdate.main_arg4) = m ((c.tc : Thread Cert.KernelModUpdate.nD Cert.KernelModUpdate.τ).loc Cert.KernelModUpdate.main_arg4))
      ∧ r.2.sem = fun _ => 0)

def quiescent_KernelModUpdateIdeal [hKernelModUpdateIdeal : Cert.KernelModUpdateIdeal.Facts] : Prop :=
  ∀ (m : (ℓ : Loc Cert.KernelModUpdateIdeal.nD Cert.KernelModUpdateIdeal.τ Cert.KernelModUpdateIdeal.sig) → Buf (Elt Ideal) ℓ) (g : Dev Cert.KernelModUpdateIdeal.nD → PrngReg), Pre_KernelModUpdateIdeal m →
    θ_run (Cert.KernelModUpdateIdeal.defs (F := Ideal)) (onTc (τ := Cert.KernelModUpdateIdeal.τ) (Cert.KernelModUpdateIdeal.main (F := Ideal))) ⟨m, fun _ => 0, g⟩ (fun r => (∀ c : Dev Cert.KernelModUpdateIdeal.nD,
      r.2.mem ((c.tc : Thread Cert.KernelModUpdateIdeal.nD Cert.KernelModUpdateIdeal.τ).loc Cert.KernelModUpdateIdeal.main_arg0) = m ((c.tc : Thread Cert.KernelModUpdateIdeal.nD Cert.KernelModUpdateIdeal.τ).loc Cert.KernelModUpdateIdeal.main_arg0)
      ∧ r.2.mem ((c.tc : Thread Cert.KernelModUpdateIdeal.nD Cert.KernelModUpdateIdeal.τ).loc Cert.KernelModUpdateIdeal.main_arg1) = m ((c.tc : Thread Cert.KernelModUpdateIdeal.nD Cert.KernelModUpdateIdeal.τ).loc Cert.KernelModUpdateIdeal.main_arg1)
      ∧ r.2.mem ((c.tc : Thread Cert.KernelModUpdateIdeal.nD Cert.KernelModUpdateIdeal.τ).loc Cert.KernelModUpdateIdeal.main_arg2) = m ((c.tc : Thread Cert.KernelModUpdateIdeal.nD Cert.KernelModUpdateIdeal.τ).loc Cert.KernelModUpdateIdeal.main_arg2)
      ∧ r.2.mem ((c.tc : Thread Cert.KernelModUpdateIdeal.nD Cert.KernelModUpdateIdeal.τ).loc Cert.KernelModUpdateIdeal.main_arg3) = m ((c.tc : Thread Cert.KernelModUpdateIdeal.nD Cert.KernelModUpdateIdeal.τ).loc Cert.KernelModUpdateIdeal.main_arg3)
      ∧ r.2.mem ((c.tc : Thread Cert.KernelModUpdateIdeal.nD Cert.KernelModUpdateIdeal.τ).loc Cert.KernelModUpdateIdeal.main_arg4) = m ((c.tc : Thread Cert.KernelModUpdateIdeal.nD Cert.KernelModUpdateIdeal.τ).loc Cert.KernelModUpdateIdeal.main_arg4))
      ∧ r.2.sem = fun _ => 0)

def quiescent_ReferenceModUpdateIdeal [hReferenceModUpdateIdeal : Cert.ReferenceModUpdateIdeal.Facts] : Prop :=
  ∀ (m : (ℓ : Loc Cert.ReferenceModUpdateIdeal.nD Cert.ReferenceModUpdateIdeal.τ Cert.ReferenceModUpdateIdeal.sig) → Buf (Elt Ideal) ℓ) (g : Dev Cert.ReferenceModUpdateIdeal.nD → PrngReg), Pre_ReferenceModUpdateIdeal m →
    θ_run (Cert.ReferenceModUpdateIdeal.defs (F := Ideal)) (onTc (τ := Cert.ReferenceModUpdateIdeal.τ) (Cert.ReferenceModUpdateIdeal.main (F := Ideal))) ⟨m, fun _ => 0, g⟩ (fun r => (∀ c : Dev Cert.ReferenceModUpdateIdeal.nD,
      r.2.mem ((c.tc : Thread Cert.ReferenceModUpdateIdeal.nD Cert.ReferenceModUpdateIdeal.τ).loc Cert.ReferenceModUpdateIdeal.main_arg0) = m ((c.tc : Thread Cert.ReferenceModUpdateIdeal.nD Cert.ReferenceModUpdateIdeal.τ).loc Cert.ReferenceModUpdateIdeal.main_arg0)
      ∧ r.2.mem ((c.tc : Thread Cert.ReferenceModUpdateIdeal.nD Cert.ReferenceModUpdateIdeal.τ).loc Cert.ReferenceModUpdateIdeal.main_arg1) = m ((c.tc : Thread Cert.ReferenceModUpdateIdeal.nD Cert.ReferenceModUpdateIdeal.τ).loc Cert.ReferenceModUpdateIdeal.main_arg1)
      ∧ r.2.mem ((c.tc : Thread Cert.ReferenceModUpdateIdeal.nD Cert.ReferenceModUpdateIdeal.τ).loc Cert.ReferenceModUpdateIdeal.main_arg2) = m ((c.tc : Thread Cert.ReferenceModUpdateIdeal.nD Cert.ReferenceModUpdateIdeal.τ).loc Cert.ReferenceModUpdateIdeal.main_arg2)
      ∧ r.2.mem ((c.tc : Thread Cert.ReferenceModUpdateIdeal.nD Cert.ReferenceModUpdateIdeal.τ).loc Cert.ReferenceModUpdateIdeal.main_arg3) = m ((c.tc : Thread Cert.ReferenceModUpdateIdeal.nD Cert.ReferenceModUpdateIdeal.τ).loc Cert.ReferenceModUpdateIdeal.main_arg3)
      ∧ r.2.mem ((c.tc : Thread Cert.ReferenceModUpdateIdeal.nD Cert.ReferenceModUpdateIdeal.τ).loc Cert.ReferenceModUpdateIdeal.main_arg4) = m ((c.tc : Thread Cert.ReferenceModUpdateIdeal.nD Cert.ReferenceModUpdateIdeal.τ).loc Cert.ReferenceModUpdateIdeal.main_arg4))
      ∧ r.2.sem = fun _ => 0)

def quiescent_KernelTableSum [hKernelTableSum : Cert.KernelTableSum.Facts] : Prop :=
  ∀ (m : (ℓ : Loc Cert.KernelTableSum.nD Cert.KernelTableSum.τ Cert.KernelTableSum.sig) → Buf (Elt Bits) ℓ) (g : Dev Cert.KernelTableSum.nD → PrngReg), Pre_KernelTableSum m →
    θ_run (Cert.KernelTableSum.defs (F := Bits)) (onTc (τ := Cert.KernelTableSum.τ) (Cert.KernelTableSum.main (F := Bits))) ⟨m, fun _ => 0, g⟩ (fun r => (∀ c : Dev Cert.KernelTableSum.nD,
      r.2.mem ((c.tc : Thread Cert.KernelTableSum.nD Cert.KernelTableSum.τ).loc Cert.KernelTableSum.main_arg0) = m ((c.tc : Thread Cert.KernelTableSum.nD Cert.KernelTableSum.τ).loc Cert.KernelTableSum.main_arg0)
      ∧ r.2.mem ((c.tc : Thread Cert.KernelTableSum.nD Cert.KernelTableSum.τ).loc Cert.KernelTableSum.main_arg1) = m ((c.tc : Thread Cert.KernelTableSum.nD Cert.KernelTableSum.τ).loc Cert.KernelTableSum.main_arg1))
      ∧ r.2.sem = fun _ => 0)

def quiescent_KernelTableSumIdeal [hKernelTableSumIdeal : Cert.KernelTableSumIdeal.Facts] : Prop :=
  ∀ (m : (ℓ : Loc Cert.KernelTableSumIdeal.nD Cert.KernelTableSumIdeal.τ Cert.KernelTableSumIdeal.sig) → Buf (Elt Ideal) ℓ) (g : Dev Cert.KernelTableSumIdeal.nD → PrngReg), Pre_KernelTableSumIdeal m →
    θ_run (Cert.KernelTableSumIdeal.defs (F := Ideal)) (onTc (τ := Cert.KernelTableSumIdeal.τ) (Cert.KernelTableSumIdeal.main (F := Ideal))) ⟨m, fun _ => 0, g⟩ (fun r => (∀ c : Dev Cert.KernelTableSumIdeal.nD,
      r.2.mem ((c.tc : Thread Cert.KernelTableSumIdeal.nD Cert.KernelTableSumIdeal.τ).loc Cert.KernelTableSumIdeal.main_arg0) = m ((c.tc : Thread Cert.KernelTableSumIdeal.nD Cert.KernelTableSumIdeal.τ).loc Cert.KernelTableSumIdeal.main_arg0)
      ∧ r.2.mem ((c.tc : Thread Cert.KernelTableSumIdeal.nD Cert.KernelTableSumIdeal.τ).loc Cert.KernelTableSumIdeal.main_arg1) = m ((c.tc : Thread Cert.KernelTableSumIdeal.nD Cert.KernelTableSumIdeal.τ).loc Cert.KernelTableSumIdeal.main_arg1))
      ∧ r.2.sem = fun _ => 0)

def quiescent_ReferenceTableSumIdeal [hReferenceTableSumIdeal : Cert.ReferenceTableSumIdeal.Facts] : Prop :=
  ∀ (m : (ℓ : Loc Cert.ReferenceTableSumIdeal.nD Cert.ReferenceTableSumIdeal.τ Cert.ReferenceTableSumIdeal.sig) → Buf (Elt Ideal) ℓ) (g : Dev Cert.ReferenceTableSumIdeal.nD → PrngReg), Pre_ReferenceTableSumIdeal m →
    θ_run (Cert.ReferenceTableSumIdeal.defs (F := Ideal)) (onTc (τ := Cert.ReferenceTableSumIdeal.τ) (Cert.ReferenceTableSumIdeal.main (F := Ideal))) ⟨m, fun _ => 0, g⟩ (fun r => (∀ c : Dev Cert.ReferenceTableSumIdeal.nD,
      r.2.mem ((c.tc : Thread Cert.ReferenceTableSumIdeal.nD Cert.ReferenceTableSumIdeal.τ).loc Cert.ReferenceTableSumIdeal.main_arg0) = m ((c.tc : Thread Cert.ReferenceTableSumIdeal.nD Cert.ReferenceTableSumIdeal.τ).loc Cert.ReferenceTableSumIdeal.main_arg0)
      ∧ r.2.mem ((c.tc : Thread Cert.ReferenceTableSumIdeal.nD Cert.ReferenceTableSumIdeal.τ).loc Cert.ReferenceTableSumIdeal.main_arg1) = m ((c.tc : Thread Cert.ReferenceTableSumIdeal.nD Cert.ReferenceTableSumIdeal.τ).loc Cert.ReferenceTableSumIdeal.main_arg1))
      ∧ r.2.sem = fun _ => 0)

def preserves_KernelFfnIn_KernelFfnInIdeal : Prop :=
  True

def algebraic_KernelFfnInIdeal_ReferenceFfnInIdeal_pre_ffn_in_finite [hKernelFfnInIdeal : Cert.KernelFfnInIdeal.Facts] [hReferenceFfnInIdeal : Cert.ReferenceFfnInIdeal.Facts] [hPre_ffn_in_finite : Cert.Pre_ffn_in_finite.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal_ffn_in_finite m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)
      ∧ m' ((c.tc : Thread Cert.ReferenceFfnInIdeal.nD Cert.ReferenceFfnInIdeal.τ).loc Cert.ReferenceFfnInIdeal.main_arg2) = m ((c.tc : Thread Cert.KernelFfnInIdeal.nD Cert.KernelFfnInIdeal.τ).loc Cert.KernelFfnInIdeal.main_arg2)
      ∧ m' ((c.tc : Thread Cert.ReferenceFfnInIdeal.nD Cert.ReferenceFfnInIdeal.τ).loc Cert.ReferenceFfnInIdeal.main_arg3) = m ((c.tc : Thread Cert.KernelFfnInIdeal.nD Cert.KernelFfnInIdeal.τ).loc Cert.KernelFfnInIdeal.main_arg3)
      ∧ m' ((c.tc : Thread Cert.ReferenceFfnInIdeal.nD Cert.ReferenceFfnInIdeal.τ).loc Cert.ReferenceFfnInIdeal.main_arg4) = m ((c.tc : Thread Cert.KernelFfnInIdeal.nD Cert.KernelFfnInIdeal.τ).loc Cert.KernelFfnInIdeal.main_arg4)
      ∧ m' ((c.tc : Thread Cert.ReferenceFfnInIdeal.nD Cert.ReferenceFfnInIdeal.τ).loc Cert.ReferenceFfnInIdeal.main_arg5) = m ((c.tc : Thread Cert.KernelFfnInIdeal.nD Cert.KernelFfnInIdeal.τ).loc Cert.KernelFfnInIdeal.main_arg5)
      ∧ m' ((c.tc : Thread Cert.ReferenceFfnInIdeal.nD Cert.ReferenceFfnInIdeal.τ).loc Cert.ReferenceFfnInIdeal.main_arg6) = m ((c.tc : Thread Cert.KernelFfnInIdeal.nD Cert.KernelFfnInIdeal.τ).loc Cert.KernelFfnInIdeal.main_arg6)) →
    ∃ (v0 : (c : Dev Cert.KernelFfnInIdeal.nD) → Buf (Elt Ideal) ((c.tc : Thread Cert.KernelFfnInIdeal.nD Cert.KernelFfnInIdeal.τ).loc Cert.KernelFfnInIdeal.main_v11_0)) (v1 : (c : Dev Cert.KernelFfnInIdeal.nD) → Buf (Elt Ideal) ((c.tc : Thread Cert.KernelFfnInIdeal.nD Cert.KernelFfnInIdeal.τ).loc Cert.KernelFfnInIdeal.main_v11_1)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v11_0) = v0 c
          ∧ r.2.mem ((c.tc : Thread Cert.KernelFfnInIdeal.nD Cert.KernelFfnInIdeal.τ).loc Cert.KernelFfnInIdeal.main_v11_1) = v1 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
          ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
          ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
          ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4)
          ∧ r.2.mem ((c.tc : Thread Cert.KernelFfnInIdeal.nD Cert.KernelFfnInIdeal.τ).loc Cert.KernelFfnInIdeal.main_arg5) = m ((c.tc : Thread Cert.KernelFfnInIdeal.nD Cert.KernelFfnInIdeal.τ).loc Cert.KernelFfnInIdeal.main_arg5)
          ∧ r.2.mem ((c.tc : Thread Cert.KernelFfnInIdeal.nD Cert.KernelFfnInIdeal.τ).loc Cert.KernelFfnInIdeal.main_arg6) = m ((c.tc : Thread Cert.KernelFfnInIdeal.nD Cert.KernelFfnInIdeal.τ).loc Cert.KernelFfnInIdeal.main_arg6))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v55) = v0 c
          ∧ r.2.mem ((c.tc : Thread Cert.ReferenceFfnInIdeal.nD Cert.ReferenceFfnInIdeal.τ).loc Cert.ReferenceFfnInIdeal.main_v65) = v1 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2) = m' ((c.tc : Thread Cert.ReferenceFfnInIdeal.nD Cert.ReferenceFfnInIdeal.τ).loc Cert.ReferenceFfnInIdeal.main_arg2)
          ∧ r.2.mem ((c.tc : Thread Cert.ReferenceFfnInIdeal.nD Cert.ReferenceFfnInIdeal.τ).loc Cert.ReferenceFfnInIdeal.main_arg3) = m' ((c.tc : Thread Cert.ReferenceFfnInIdeal.nD Cert.ReferenceFfnInIdeal.τ).loc Cert.ReferenceFfnInIdeal.main_arg3)
          ∧ r.2.mem ((c.tc : Thread Cert.ReferenceFfnInIdeal.nD Cert.ReferenceFfnInIdeal.τ).loc Cert.ReferenceFfnInIdeal.main_arg4) = m' ((c.tc : Thread Cert.ReferenceFfnInIdeal.nD Cert.ReferenceFfnInIdeal.τ).loc Cert.ReferenceFfnInIdeal.main_arg4)
          ∧ r.2.mem ((c.tc : Thread Cert.ReferenceFfnInIdeal.nD Cert.ReferenceFfnInIdeal.τ).loc Cert.ReferenceFfnInIdeal.main_arg5) = m' ((c.tc : Thread Cert.ReferenceFfnInIdeal.nD Cert.ReferenceFfnInIdeal.τ).loc Cert.ReferenceFfnInIdeal.main_arg5)
          ∧ r.2.mem ((c.tc : Thread Cert.ReferenceFfnInIdeal.nD Cert.ReferenceFfnInIdeal.τ).loc Cert.ReferenceFfnInIdeal.main_arg6) = m' ((c.tc : Thread Cert.ReferenceFfnInIdeal.nD Cert.ReferenceFfnInIdeal.τ).loc Cert.ReferenceFfnInIdeal.main_arg6))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)) →
    ∃ (v0 : (c : Dev Cert.KernelConvIdeal.nD) → Buf (Elt Ideal) ((c.tc : Thread Cert.KernelConvIdeal.nD Cert.KernelConvIdeal.τ).loc Cert.KernelConvIdeal.main_v3_0)) (v1 : (c : Dev Cert.KernelConvIdeal.nD) → Buf (Elt Ideal) ((c.tc : Thread Cert.KernelConvIdeal.nD Cert.KernelConvIdeal.τ).loc Cert.KernelConvIdeal.main_v3_1)) (v2 : (c : Dev Cert.KernelConvIdeal.nD) → Buf (Elt Ideal) ((c.tc : Thread Cert.KernelConvIdeal.nD Cert.KernelConvIdeal.τ).loc Cert.KernelConvIdeal.main_v3_2)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v3_0) = v0 c
          ∧ r.2.mem ((c.tc : Thread Cert.KernelConvIdeal.nD Cert.KernelConvIdeal.τ).loc Cert.KernelConvIdeal.main_v3_1) = v1 c
          ∧ r.2.mem ((c.tc : Thread Cert.KernelConvIdeal.nD Cert.KernelConvIdeal.τ).loc Cert.KernelConvIdeal.main_v3_2) = v2 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v226) = v0 c
          ∧ r.2.mem ((c.tc : Thread Cert.ReferenceConvIdeal.nD Cert.ReferenceConvIdeal.τ).loc Cert.ReferenceConvIdeal.main_v227) = v1 c
          ∧ r.2.mem ((c.tc : Thread Cert.ReferenceConvIdeal.nD Cert.ReferenceConvIdeal.τ).loc Cert.ReferenceConvIdeal.main_v229) = v2 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3))

def preserves_KernelMixOut_KernelMixOutIdeal : Prop :=
  IdealRules.named_const.Statement Cert.KernelMixOutIdeal.κ "gelu_c" .f32 0x3D372713#32 ((8943 / 200000 : ℝ) : EReal)
  ∧ IdealRules.named_const.Statement Cert.KernelMixOutIdeal.κ "gelu_3c" .f32 0x3E095D4F#32 ((26829 / 200000 : ℝ) : EReal)

def algebraic_KernelMixOutIdeal_ReferenceMixOutIdeal_pre_mixout_finite [hKernelMixOutIdeal : Cert.KernelMixOutIdeal.Facts] [hReferenceMixOutIdeal : Cert.ReferenceMixOutIdeal.Facts] [hPre_mixout_finite : Cert.Pre_mixout_finite.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg)
    (m' : (ℓ : Loc Cert.ReferenceMixOutIdeal.nD Cert.ReferenceMixOutIdeal.τ Cert.ReferenceMixOutIdeal.sig) → Buf (Elt Ideal) ℓ) (g' : Dev Cert.ReferenceMixOutIdeal.nD → PrngReg), Pre_KernelMixOutIdeal_mixout_finite m →
    (∀ c : Dev Cert.KernelMixOutIdeal.nD,
      m' ((c.tc : Thread Cert.ReferenceMixOutIdeal.nD Cert.ReferenceMixOutIdeal.τ).loc Cert.ReferenceMixOutIdeal.main_arg0) = m ((c.tc : Thread Cert.KernelMixOutIdeal.nD Cert.KernelMixOutIdeal.τ).loc Cert.KernelMixOutIdeal.main_arg0)
      ∧ m' ((c.tc : Thread Cert.ReferenceMixOutIdeal.nD Cert.ReferenceMixOutIdeal.τ).loc Cert.ReferenceMixOutIdeal.main_arg1) = m ((c.tc : Thread Cert.KernelMixOutIdeal.nD Cert.KernelMixOutIdeal.τ).loc Cert.KernelMixOutIdeal.main_arg1)
      ∧ m' ((c.tc : Thread Cert.ReferenceMixOutIdeal.nD Cert.ReferenceMixOutIdeal.τ).loc Cert.ReferenceMixOutIdeal.main_arg2) = m ((c.tc : Thread Cert.KernelMixOutIdeal.nD Cert.KernelMixOutIdeal.τ).loc Cert.KernelMixOutIdeal.main_arg2)
      ∧ m' ((c.tc : Thread Cert.ReferenceMixOutIdeal.nD Cert.ReferenceMixOutIdeal.τ).loc Cert.ReferenceMixOutIdeal.main_arg3) = m ((c.tc : Thread Cert.KernelMixOutIdeal.nD Cert.KernelMixOutIdeal.τ).loc Cert.KernelMixOutIdeal.main_arg3)
      ∧ m' ((c.tc : Thread Cert.ReferenceMixOutIdeal.nD Cert.ReferenceMixOutIdeal.τ).loc Cert.ReferenceMixOutIdeal.main_arg4) = m ((c.tc : Thread Cert.KernelMixOutIdeal.nD Cert.KernelMixOutIdeal.τ).loc Cert.KernelMixOutIdeal.main_arg4)
      ∧ m' ((c.tc : Thread Cert.ReferenceMixOutIdeal.nD Cert.ReferenceMixOutIdeal.τ).loc Cert.ReferenceMixOutIdeal.main_arg5) = m ((c.tc : Thread Cert.KernelMixOutIdeal.nD Cert.KernelMixOutIdeal.τ).loc Cert.KernelMixOutIdeal.main_arg5)
      ∧ m' ((c.tc : Thread Cert.ReferenceMixOutIdeal.nD Cert.ReferenceMixOutIdeal.τ).loc Cert.ReferenceMixOutIdeal.main_arg6) = m ((c.tc : Thread Cert.KernelMixOutIdeal.nD Cert.KernelMixOutIdeal.τ).loc Cert.KernelMixOutIdeal.main_arg6)
      ∧ m' ((c.tc : Thread Cert.ReferenceMixOutIdeal.nD Cert.ReferenceMixOutIdeal.τ).loc Cert.ReferenceMixOutIdeal.main_arg7) = m ((c.tc : Thread Cert.KernelMixOutIdeal.nD Cert.KernelMixOutIdeal.τ).loc Cert.KernelMixOutIdeal.main_arg7)) →
    ∃ (v0 : (c : Dev Cert.KernelMixOutIdeal.nD) → Buf (Elt Ideal) ((c.tc : Thread Cert.KernelMixOutIdeal.nD Cert.KernelMixOutIdeal.τ).loc Cert.KernelMixOutIdeal.main_v57_0)) (v1 : (c : Dev Cert.KernelMixOutIdeal.nD) → Buf (Elt Ideal) ((c.tc : Thread Cert.KernelMixOutIdeal.nD Cert.KernelMixOutIdeal.τ).loc Cert.KernelMixOutIdeal.main_v57_1)) (v2 : (c : Dev Cert.KernelMixOutIdeal.nD) → Buf (Elt Ideal) ((c.tc : Thread Cert.KernelMixOutIdeal.nD Cert.KernelMixOutIdeal.τ).loc Cert.KernelMixOutIdeal.main_v57_2)) (v3 : (c : Dev Cert.KernelMixOutIdeal.nD) → Buf (Elt Ideal) ((c.tc : Thread Cert.KernelMixOutIdeal.nD Cert.KernelMixOutIdeal.τ).loc Cert.KernelMixOutIdeal.main_v57_3)) (v4 : (c : Dev Cert.KernelMixOutIdeal.nD) → Buf (Elt Ideal) ((c.tc : Thread Cert.KernelMixOutIdeal.nD Cert.KernelMixOutIdeal.τ).loc Cert.KernelMixOutIdeal.main_v57_4)) (v5 : (c : Dev Cert.KernelMixOutIdeal.nD) → Buf (Elt Ideal) ((c.tc : Thread Cert.KernelMixOutIdeal.nD Cert.KernelMixOutIdeal.τ).loc Cert.KernelMixOutIdeal.main_v57_5)),
      θ_run (Cert.KernelMixOutIdeal.defs (F := Ideal)) (onTc (τ := Cert.KernelMixOutIdeal.τ) (Cert.KernelMixOutIdeal.main (F := Ideal))) ⟨m, fun _ => 0, g⟩ (fun r => ∀ c : Dev Cert.KernelMixOutIdeal.nD,
          r.2.mem ((c.tc : Thread Cert.KernelMixOutIdeal.nD Cert.KernelMixOutIdeal.τ).loc Cert.KernelMixOutIdeal.main_v57_0) = v0 c
          ∧ r.2.mem ((c.tc : Thread Cert.KernelMixOutIdeal.nD Cert.KernelMixOutIdeal.τ).loc Cert.KernelMixOutIdeal.main_v57_1) = v1 c
          ∧ r.2.mem ((c.tc : Thread Cert.KernelMixOutIdeal.nD Cert.KernelMixOutIdeal.τ).loc Cert.KernelMixOutIdeal.main_v57_2) = v2 c
          ∧ r.2.mem ((c.tc : Thread Cert.KernelMixOutIdeal.nD Cert.KernelMixOutIdeal.τ).loc Cert.KernelMixOutIdeal.main_v57_3) = v3 c
          ∧ r.2.mem ((c.tc : Thread Cert.KernelMixOutIdeal.nD Cert.KernelMixOutIdeal.τ).loc Cert.KernelMixOutIdeal.main_v57_4) = v4 c
          ∧ r.2.mem ((c.tc : Thread Cert.KernelMixOutIdeal.nD Cert.KernelMixOutIdeal.τ).loc Cert.KernelMixOutIdeal.main_v57_5) = v5 c
          ∧ r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
          ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
          ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
          ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
          ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
          ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
          ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6)
          ∧ r.2.mem ((c.tc : Thread Cert.KernelMixOutIdeal.nD Cert.KernelMixOutIdeal.τ).loc Cert.KernelMixOutIdeal.main_arg7) = m ((c.tc : Thread Cert.KernelMixOutIdeal.nD Cert.KernelMixOutIdeal.τ).loc Cert.KernelMixOutIdeal.main_arg7))
      ∧ θ_run (Cert.ReferenceMixOutIdeal.defs (F := Ideal)) (onTc (τ := Cert.ReferenceMixOutIdeal.τ) (Cert.ReferenceMixOutIdeal.main (F := Ideal))) ⟨m', fun _ => 0, g'⟩ (fun r => ∀ c : Dev Cert.ReferenceMixOutIdeal.nD,
          r.2.mem ((c.tc : Thread Cert.ReferenceMixOutIdeal.nD Cert.ReferenceMixOutIdeal.τ).loc Cert.ReferenceMixOutIdeal.main_v120) = v0 c
          ∧ r.2.mem ((c.tc : Thread Cert.ReferenceMixOutIdeal.nD Cert.ReferenceMixOutIdeal.τ).loc Cert.ReferenceMixOutIdeal.main_v121) = v1 c
          ∧ r.2.mem ((c.tc : Thread Cert.ReferenceMixOutIdeal.nD Cert.ReferenceMixOutIdeal.τ).loc Cert.ReferenceMixOutIdeal.main_v122) = v2 c
          ∧ r.2.mem ((c.tc : Thread Cert.ReferenceMixOutIdeal.nD Cert.ReferenceMixOutIdeal.τ).loc Cert.ReferenceMixOutIdeal.main_v123) = v3 c
          ∧ r.2.mem ((c.tc : Thread Cert.ReferenceMixOutIdeal.nD Cert.ReferenceMixOutIdeal.τ).loc Cert.ReferenceMixOutIdeal.main_v132) = v4 c
          ∧ r.2.mem ((c.tc : Thread Cert.ReferenceMixOutIdeal.nD Cert.ReferenceMixOutIdeal.τ).loc Cert.ReferenceMixOutIdeal.main_v141) = v5 c
          ∧ r.2.mem ((c.tc : Thread Cert.ReferenceMixOutIdeal.nD Cert.ReferenceMixOutIdeal.τ).loc Cert.ReferenceMixOutIdeal.main_arg0) = m' ((c.tc : Thread Cert.ReferenceMixOutIdeal.nD Cert.ReferenceMixOutIdeal.τ).loc Cert.ReferenceMixOutIdeal.main_arg0)
          ∧ r.2.mem ((c.tc : Thread Cert.ReferenceMixOutIdeal.nD Cert.ReferenceMixOutIdeal.τ).loc Cert.ReferenceMixOutIdeal.main_arg1) = m' ((c.tc : Thread Cert.ReferenceMixOutIdeal.nD Cert.ReferenceMixOutIdeal.τ).loc Cert.ReferenceMixOutIdeal.main_arg1)
          ∧ r.2.mem ((c.tc : Thread Cert.ReferenceMixOutIdeal.nD Cert.ReferenceMixOutIdeal.τ).loc Cert.ReferenceMixOutIdeal.main_arg2) = m' ((c.tc : Thread Cert.ReferenceMixOutIdeal.nD Cert.ReferenceMixOutIdeal.τ).loc Cert.ReferenceMixOutIdeal.main_arg2)
          ∧ r.2.mem ((c.tc : Thread Cert.ReferenceMixOutIdeal.nD Cert.ReferenceMixOutIdeal.τ).loc Cert.ReferenceMixOutIdeal.main_arg3) = m' ((c.tc : Thread Cert.ReferenceMixOutIdeal.nD Cert.ReferenceMixOutIdeal.τ).loc Cert.ReferenceMixOutIdeal.main_arg3)
          ∧ r.2.mem ((c.tc : Thread Cert.ReferenceMixOutIdeal.nD Cert.ReferenceMixOutIdeal.τ).loc Cert.ReferenceMixOutIdeal.main_arg4) = m' ((c.tc : Thread Cert.ReferenceMixOutIdeal.nD Cert.ReferenceMixOutIdeal.τ).loc Cert.ReferenceMixOutIdeal.main_arg4)
          ∧ r.2.mem ((c.tc : Thread Cert.ReferenceMixOutIdeal.nD Cert.ReferenceMixOutIdeal.τ).loc Cert.ReferenceMixOutIdeal.main_arg5) = m' ((c.tc : Thread Cert.ReferenceMixOutIdeal.nD Cert.ReferenceMixOutIdeal.τ).loc Cert.ReferenceMixOutIdeal.main_arg5)
          ∧ r.2.mem ((c.tc : Thread Cert.ReferenceMixOutIdeal.nD Cert.ReferenceMixOutIdeal.τ).loc Cert.ReferenceMixOutIdeal.main_arg6) = m' ((c.tc : Thread Cert.ReferenceMixOutIdeal.nD Cert.ReferenceMixOutIdeal.τ).loc Cert.ReferenceMixOutIdeal.main_arg6)
          ∧ r.2.mem ((c.tc : Thread Cert.ReferenceMixOutIdeal.nD Cert.ReferenceMixOutIdeal.τ).loc Cert.ReferenceMixOutIdeal.main_arg7) = m' ((c.tc : Thread Cert.ReferenceMixOutIdeal.nD Cert.ReferenceMixOutIdeal.τ).loc Cert.ReferenceMixOutIdeal.main_arg7))

def preserves_KernelSwiglu_KernelSwigluIdeal : Prop :=
  True

def algebraic_KernelSwigluIdeal_ReferenceSwigluIdeal_pre_swiglu_finite [hKernelSwigluIdeal : Cert.KernelSwigluIdeal.Facts] [hReferenceSwigluIdeal : Cert.ReferenceSwigluIdeal.Facts] [hPre_swiglu_finite : Cert.Pre_swiglu_finite.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg)
    (m' : (ℓ : Loc Cert.ReferenceSwigluIdeal.nD Cert.ReferenceSwigluIdeal.τ Cert.ReferenceSwigluIdeal.sig) → Buf (Elt Ideal) ℓ) (g' : Dev Cert.ReferenceSwigluIdeal.nD → PrngReg), Pre_KernelSwigluIdeal_swiglu_finite m →
    (∀ c : Dev Cert.KernelSwigluIdeal.nD,
      m' ((c.tc : Thread Cert.ReferenceSwigluIdeal.nD Cert.ReferenceSwigluIdeal.τ).loc Cert.ReferenceSwigluIdeal.main_arg0) = m ((c.tc : Thread Cert.KernelSwigluIdeal.nD Cert.KernelSwigluIdeal.τ).loc Cert.KernelSwigluIdeal.main_arg0)
      ∧ m' ((c.tc : Thread Cert.ReferenceSwigluIdeal.nD Cert.ReferenceSwigluIdeal.τ).loc Cert.ReferenceSwigluIdeal.main_arg1) = m ((c.tc : Thread Cert.KernelSwigluIdeal.nD Cert.KernelSwigluIdeal.τ).loc Cert.KernelSwigluIdeal.main_arg1)
      ∧ m' ((c.tc : Thread Cert.ReferenceSwigluIdeal.nD Cert.ReferenceSwigluIdeal.τ).loc Cert.ReferenceSwigluIdeal.main_arg2) = m ((c.tc : Thread Cert.KernelSwigluIdeal.nD Cert.KernelSwigluIdeal.τ).loc Cert.KernelSwigluIdeal.main_arg2)
      ∧ m' ((c.tc : Thread Cert.ReferenceSwigluIdeal.nD Cert.ReferenceSwigluIdeal.τ).loc Cert.ReferenceSwigluIdeal.main_arg3) = m ((c.tc : Thread Cert.KernelSwigluIdeal.nD Cert.KernelSwigluIdeal.τ).loc Cert.KernelSwigluIdeal.main_arg3)) →
    ∃ (v0 : (c : Dev Cert.KernelSwigluIdeal.nD) → Buf (Elt Ideal) ((c.tc : Thread Cert.KernelSwigluIdeal.nD Cert.KernelSwigluIdeal.τ).loc Cert.KernelSwigluIdeal.main_v8_0)) (v1 : (c : Dev Cert.KernelSwigluIdeal.nD) → Buf (Elt Ideal) ((c.tc : Thread Cert.KernelSwigluIdeal.nD Cert.KernelSwigluIdeal.τ).loc Cert.KernelSwigluIdeal.main_v8_1)) (v2 : (c : Dev Cert.KernelSwigluIdeal.nD) → Buf (Elt Ideal) ((c.tc : Thread Cert.KernelSwigluIdeal.nD Cert.KernelSwigluIdeal.τ).loc Cert.KernelSwigluIdeal.main_v8_2)),
      θ_run (Cert.KernelSwigluIdeal.defs (F := Ideal)) (onTc (τ := Cert.KernelSwigluIdeal.τ) (Cert.KernelSwigluIdeal.main (F := Ideal))) ⟨m, fun _ => 0, g⟩ (fun r => ∀ c : Dev Cert.KernelSwigluIdeal.nD,
          r.2.mem ((c.tc : Thread Cert.KernelSwigluIdeal.nD Cert.KernelSwigluIdeal.τ).loc Cert.KernelSwigluIdeal.main_v8_0) = v0 c
          ∧ r.2.mem ((c.tc : Thread Cert.KernelSwigluIdeal.nD Cert.KernelSwigluIdeal.τ).loc Cert.KernelSwigluIdeal.main_v8_1) = v1 c
          ∧ r.2.mem ((c.tc : Thread Cert.KernelSwigluIdeal.nD Cert.KernelSwigluIdeal.τ).loc Cert.KernelSwigluIdeal.main_v8_2) = v2 c
          ∧ r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
          ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
          ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2)
          ∧ r.2.mem ((c.tc : Thread Cert.KernelSwigluIdeal.nD Cert.KernelSwigluIdeal.τ).loc Cert.KernelSwigluIdeal.main_arg3) = m ((c.tc : Thread Cert.KernelSwigluIdeal.nD Cert.KernelSwigluIdeal.τ).loc Cert.KernelSwigluIdeal.main_arg3))
      ∧ θ_run (Cert.ReferenceSwigluIdeal.defs (F := Ideal)) (onTc (τ := Cert.ReferenceSwigluIdeal.τ) (Cert.ReferenceSwigluIdeal.main (F := Ideal))) ⟨m', fun _ => 0, g'⟩ (fun r => ∀ c : Dev Cert.ReferenceSwigluIdeal.nD,
          r.2.mem ((c.tc : Thread Cert.ReferenceSwigluIdeal.nD Cert.ReferenceSwigluIdeal.τ).loc Cert.ReferenceSwigluIdeal.main_v17) = v0 c
          ∧ r.2.mem ((c.tc : Thread Cert.ReferenceSwigluIdeal.nD Cert.ReferenceSwigluIdeal.τ).loc Cert.ReferenceSwigluIdeal.main_v20) = v1 c
          ∧ r.2.mem ((c.tc : Thread Cert.ReferenceSwigluIdeal.nD Cert.ReferenceSwigluIdeal.τ).loc Cert.ReferenceSwigluIdeal.main_v22) = v2 c
          ∧ r.2.mem ((c.tc : Thread Cert.ReferenceSwigluIdeal.nD Cert.ReferenceSwigluIdeal.τ).loc Cert.ReferenceSwigluIdeal.main_arg0) = m' ((c.tc : Thread Cert.ReferenceSwigluIdeal.nD Cert.ReferenceSwigluIdeal.τ).loc Cert.ReferenceSwigluIdeal.main_arg0)
          ∧ r.2.mem ((c.tc : Thread Cert.ReferenceSwigluIdeal.nD Cert.ReferenceSwigluIdeal.τ).loc Cert.ReferenceSwigluIdeal.main_arg1) = m' ((c.tc : Thread Cert.ReferenceSwigluIdeal.nD Cert.ReferenceSwigluIdeal.τ).loc Cert.ReferenceSwigluIdeal.main_arg1)
          ∧ r.2.mem ((c.tc : Thread Cert.ReferenceSwigluIdeal.nD Cert.ReferenceSwigluIdeal.τ).loc Cert.ReferenceSwigluIdeal.main_arg2) = m' ((c.tc : Thread Cert.ReferenceSwigluIdeal.nD Cert.ReferenceSwigluIdeal.τ).loc Cert.ReferenceSwigluIdeal.main_arg2)
          ∧ r.2.mem ((c.tc : Thread Cert.ReferenceSwigluIdeal.nD Cert.ReferenceSwigluIdeal.τ).loc Cert.ReferenceSwigluIdeal.main_arg3) = m' ((c.tc : Thread Cert.ReferenceSwigluIdeal.nD Cert.ReferenceSwigluIdeal.τ).loc Cert.ReferenceSwigluIdeal.main_arg3))

def preserves_KernelMixIn_KernelMixInIdeal : Prop :=
  True

def algebraic_KernelMixInIdeal_ReferenceMixInIdeal_pre_mixin_finite [hKernelMixInIdeal : Cert.KernelMixInIdeal.Facts] [hReferenceMixInIdeal : Cert.ReferenceMixInIdeal.Facts] [hPre_mixin_finite : Cert.Pre_mixin_finite.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg)
    (m' : (ℓ : Loc Cert.ReferenceMixInIdeal.nD Cert.ReferenceMixInIdeal.τ Cert.ReferenceMixInIdeal.sig) → Buf (Elt Ideal) ℓ) (g' : Dev Cert.ReferenceMixInIdeal.nD → PrngReg), Pre_KernelMixInIdeal_mixin_finite m →
    (∀ c : Dev Cert.KernelMixInIdeal.nD,
      m' ((c.tc : Thread Cert.ReferenceMixInIdeal.nD Cert.ReferenceMixInIdeal.τ).loc Cert.ReferenceMixInIdeal.main_arg0) = m ((c.tc : Thread Cert.KernelMixInIdeal.nD Cert.KernelMixInIdeal.τ).loc Cert.KernelMixInIdeal.main_arg0)
      ∧ m' ((c.tc : Thread Cert.ReferenceMixInIdeal.nD Cert.ReferenceMixInIdeal.τ).loc Cert.ReferenceMixInIdeal.main_arg1) = m ((c.tc : Thread Cert.KernelMixInIdeal.nD Cert.KernelMixInIdeal.τ).loc Cert.KernelMixInIdeal.main_arg1)
      ∧ m' ((c.tc : Thread Cert.ReferenceMixInIdeal.nD Cert.ReferenceMixInIdeal.τ).loc Cert.ReferenceMixInIdeal.main_arg2) = m ((c.tc : Thread Cert.KernelMixInIdeal.nD Cert.KernelMixInIdeal.τ).loc Cert.KernelMixInIdeal.main_arg2)
      ∧ m' ((c.tc : Thread Cert.ReferenceMixInIdeal.nD Cert.ReferenceMixInIdeal.τ).loc Cert.ReferenceMixInIdeal.main_arg3) = m ((c.tc : Thread Cert.KernelMixInIdeal.nD Cert.KernelMixInIdeal.τ).loc Cert.KernelMixInIdeal.main_arg3)
      ∧ m' ((c.tc : Thread Cert.ReferenceMixInIdeal.nD Cert.ReferenceMixInIdeal.τ).loc Cert.ReferenceMixInIdeal.main_arg4) = m ((c.tc : Thread Cert.KernelMixInIdeal.nD Cert.KernelMixInIdeal.τ).loc Cert.KernelMixInIdeal.main_arg4)
      ∧ m' ((c.tc : Thread Cert.ReferenceMixInIdeal.nD Cert.ReferenceMixInIdeal.τ).loc Cert.ReferenceMixInIdeal.main_arg5) = m ((c.tc : Thread Cert.KernelMixInIdeal.nD Cert.KernelMixInIdeal.τ).loc Cert.KernelMixInIdeal.main_arg5)
      ∧ m' ((c.tc : Thread Cert.ReferenceMixInIdeal.nD Cert.ReferenceMixInIdeal.τ).loc Cert.ReferenceMixInIdeal.main_arg6) = m ((c.tc : Thread Cert.KernelMixInIdeal.nD Cert.KernelMixInIdeal.τ).loc Cert.KernelMixInIdeal.main_arg6)
      ∧ m' ((c.tc : Thread Cert.ReferenceMixInIdeal.nD Cert.ReferenceMixInIdeal.τ).loc Cert.ReferenceMixInIdeal.main_arg7) = m ((c.tc : Thread Cert.KernelMixInIdeal.nD Cert.KernelMixInIdeal.τ).loc Cert.KernelMixInIdeal.main_arg7)
      ∧ m' ((c.tc : Thread Cert.ReferenceMixInIdeal.nD Cert.ReferenceMixInIdeal.τ).loc Cert.ReferenceMixInIdeal.main_arg8) = m ((c.tc : Thread Cert.KernelMixInIdeal.nD Cert.KernelMixInIdeal.τ).loc Cert.KernelMixInIdeal.main_arg8)) →
    ∃ (v0 : (c : Dev Cert.KernelMixInIdeal.nD) → Buf (Elt Ideal) ((c.tc : Thread Cert.KernelMixInIdeal.nD Cert.KernelMixInIdeal.τ).loc Cert.KernelMixInIdeal.main_v48_0)) (v1 : (c : Dev Cert.KernelMixInIdeal.nD) → Buf (Elt Ideal) ((c.tc : Thread Cert.KernelMixInIdeal.nD Cert.KernelMixInIdeal.τ).loc Cert.KernelMixInIdeal.main_v48_1)) (v2 : (c : Dev Cert.KernelMixInIdeal.nD) → Buf (Elt Ideal) ((c.tc : Thread Cert.KernelMixInIdeal.nD Cert.KernelMixInIdeal.τ).loc Cert.KernelMixInIdeal.main_v48_2)) (v3 : (c : Dev Cert.KernelMixInIdeal.nD) → Buf (Elt Ideal) ((c.tc : Thread Cert.KernelMixInIdeal.nD Cert.KernelMixInIdeal.τ).loc Cert.KernelMixInIdeal.main_v48_3)) (v4 : (c : Dev Cert.KernelMixInIdeal.nD) → Buf (Elt Ideal) ((c.tc : Thread Cert.KernelMixInIdeal.nD Cert.KernelMixInIdeal.τ).loc Cert.KernelMixInIdeal.main_v48_4)),
      θ_run (Cert.KernelMixInIdeal.defs (F := Ideal)) (onTc (τ := Cert.KernelMixInIdeal.τ) (Cert.KernelMixInIdeal.main (F := Ideal))) ⟨m, fun _ => 0, g⟩ (fun r => ∀ c : Dev Cert.KernelMixInIdeal.nD,
          r.2.mem ((c.tc : Thread Cert.KernelMixInIdeal.nD Cert.KernelMixInIdeal.τ).loc Cert.KernelMixInIdeal.main_v48_0) = v0 c
          ∧ r.2.mem ((c.tc : Thread Cert.KernelMixInIdeal.nD Cert.KernelMixInIdeal.τ).loc Cert.KernelMixInIdeal.main_v48_1) = v1 c
          ∧ r.2.mem ((c.tc : Thread Cert.KernelMixInIdeal.nD Cert.KernelMixInIdeal.τ).loc Cert.KernelMixInIdeal.main_v48_2) = v2 c
          ∧ r.2.mem ((c.tc : Thread Cert.KernelMixInIdeal.nD Cert.KernelMixInIdeal.τ).loc Cert.KernelMixInIdeal.main_v48_3) = v3 c
          ∧ r.2.mem ((c.tc : Thread Cert.KernelMixInIdeal.nD Cert.KernelMixInIdeal.τ).loc Cert.KernelMixInIdeal.main_v48_4) = v4 c
          ∧ r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
          ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
          ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
          ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
          ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4)
          ∧ r.2.mem ((c.tc : Thread Cert.KernelMixInIdeal.nD Cert.KernelMixInIdeal.τ).loc Cert.KernelMixInIdeal.main_arg5) = m ((c.tc : Thread Cert.KernelMixInIdeal.nD Cert.KernelMixInIdeal.τ).loc Cert.KernelMixInIdeal.main_arg5)
          ∧ r.2.mem ((c.tc : Thread Cert.KernelMixInIdeal.nD Cert.KernelMixInIdeal.τ).loc Cert.KernelMixInIdeal.main_arg6) = m ((c.tc : Thread Cert.KernelMixInIdeal.nD Cert.KernelMixInIdeal.τ).loc Cert.KernelMixInIdeal.main_arg6)
          ∧ r.2.mem ((c.tc : Thread Cert.KernelMixInIdeal.nD Cert.KernelMixInIdeal.τ).loc Cert.KernelMixInIdeal.main_arg7) = m ((c.tc : Thread Cert.KernelMixInIdeal.nD Cert.KernelMixInIdeal.τ).loc Cert.KernelMixInIdeal.main_arg7)
          ∧ r.2.mem ((c.tc : Thread Cert.KernelMixInIdeal.nD Cert.KernelMixInIdeal.τ).loc Cert.KernelMixInIdeal.main_arg8) = m ((c.tc : Thread Cert.KernelMixInIdeal.nD Cert.KernelMixInIdeal.τ).loc Cert.KernelMixInIdeal.main_arg8))
      ∧ θ_run (Cert.ReferenceMixInIdeal.defs (F := Ideal)) (onTc (τ := Cert.ReferenceMixInIdeal.τ) (Cert.ReferenceMixInIdeal.main (F := Ideal))) ⟨m', fun _ => 0, g'⟩ (fun r => ∀ c : Dev Cert.ReferenceMixInIdeal.nD,
          r.2.mem ((c.tc : Thread Cert.ReferenceMixInIdeal.nD Cert.ReferenceMixInIdeal.τ).loc Cert.ReferenceMixInIdeal.main_v63) = v0 c
          ∧ r.2.mem ((c.tc : Thread Cert.ReferenceMixInIdeal.nD Cert.ReferenceMixInIdeal.τ).loc Cert.ReferenceMixInIdeal.main_v84) = v1 c
          ∧ r.2.mem ((c.tc : Thread Cert.ReferenceMixInIdeal.nD Cert.ReferenceMixInIdeal.τ).loc Cert.ReferenceMixInIdeal.main_v85) = v2 c
          ∧ r.2.mem ((c.tc : Thread Cert.ReferenceMixInIdeal.nD Cert.ReferenceMixInIdeal.τ).loc Cert.ReferenceMixInIdeal.main_v94) = v3 c
          ∧ r.2.mem ((c.tc : Thread Cert.ReferenceMixInIdeal.nD Cert.ReferenceMixInIdeal.τ).loc Cert.ReferenceMixInIdeal.main_v95) = v4 c
          ∧ r.2.mem ((c.tc : Thread Cert.ReferenceMixInIdeal.nD Cert.ReferenceMixInIdeal.τ).loc Cert.ReferenceMixInIdeal.main_arg0) = m' ((c.tc : Thread Cert.ReferenceMixInIdeal.nD Cert.ReferenceMixInIdeal.τ).loc Cert.ReferenceMixInIdeal.main_arg0)
          ∧ r.2.mem ((c.tc : Thread Cert.ReferenceMixInIdeal.nD Cert.ReferenceMixInIdeal.τ).loc Cert.ReferenceMixInIdeal.main_arg1) = m' ((c.tc : Thread Cert.ReferenceMixInIdeal.nD Cert.ReferenceMixInIdeal.τ).loc Cert.ReferenceMixInIdeal.main_arg1)
          ∧ r.2.mem ((c.tc : Thread Cert.ReferenceMixInIdeal.nD Cert.ReferenceMixInIdeal.τ).loc Cert.ReferenceMixInIdeal.main_arg2) = m' ((c.tc : Thread Cert.ReferenceMixInIdeal.nD Cert.ReferenceMixInIdeal.τ).loc Cert.ReferenceMixInIdeal.main_arg2)
          ∧ r.2.mem ((c.tc : Thread Cert.ReferenceMixInIdeal.nD Cert.ReferenceMixInIdeal.τ).loc Cert.ReferenceMixInIdeal.main_arg3) = m' ((c.tc : Thread Cert.ReferenceMixInIdeal.nD Cert.ReferenceMixInIdeal.τ).loc Cert.ReferenceMixInIdeal.main_arg3)
          ∧ r.2.mem ((c.tc : Thread Cert.ReferenceMixInIdeal.nD Cert.ReferenceMixInIdeal.τ).loc Cert.ReferenceMixInIdeal.main_arg4) = m' ((c.tc : Thread Cert.ReferenceMixInIdeal.nD Cert.ReferenceMixInIdeal.τ).loc Cert.ReferenceMixInIdeal.main_arg4)
          ∧ r.2.mem ((c.tc : Thread Cert.ReferenceMixInIdeal.nD Cert.ReferenceMixInIdeal.τ).loc Cert.ReferenceMixInIdeal.main_arg5) = m' ((c.tc : Thread Cert.ReferenceMixInIdeal.nD Cert.ReferenceMixInIdeal.τ).loc Cert.ReferenceMixInIdeal.main_arg5)
          ∧ r.2.mem ((c.tc : Thread Cert.ReferenceMixInIdeal.nD Cert.ReferenceMixInIdeal.τ).loc Cert.ReferenceMixInIdeal.main_arg6) = m' ((c.tc : Thread Cert.ReferenceMixInIdeal.nD Cert.ReferenceMixInIdeal.τ).loc Cert.ReferenceMixInIdeal.main_arg6)
          ∧ r.2.mem ((c.tc : Thread Cert.ReferenceMixInIdeal.nD Cert.ReferenceMixInIdeal.τ).loc Cert.ReferenceMixInIdeal.main_arg7) = m' ((c.tc : Thread Cert.ReferenceMixInIdeal.nD Cert.ReferenceMixInIdeal.τ).loc Cert.ReferenceMixInIdeal.main_arg7)
          ∧ r.2.mem ((c.tc : Thread Cert.ReferenceMixInIdeal.nD Cert.ReferenceMixInIdeal.τ).loc Cert.ReferenceMixInIdeal.main_arg8) = m' ((c.tc : Thread Cert.ReferenceMixInIdeal.nD Cert.ReferenceMixInIdeal.τ).loc Cert.ReferenceMixInIdeal.main_arg8))

def preserves_KernelMixInFwd_KernelMixInFwdIdeal : Prop :=
  True

def algebraic_KernelMixInFwdIdeal_ReferenceMixInFwdIdeal [hKernelMixInFwdIdeal : Cert.KernelMixInFwdIdeal.Facts] [hReferenceMixInFwdIdeal : Cert.ReferenceMixInFwdIdeal.Facts] : Prop :=
  ∀ (m : (ℓ : Loc Cert.KernelMixInFwdIdeal.nD Cert.KernelMixInFwdIdeal.τ Cert.KernelMixInFwdIdeal.sig) → Buf (Elt Ideal) ℓ) (g : Dev Cert.KernelMixInFwdIdeal.nD → PrngReg)
    (m' : (ℓ : Loc Cert.ReferenceMixInFwdIdeal.nD Cert.ReferenceMixInFwdIdeal.τ Cert.ReferenceMixInFwdIdeal.sig) → Buf (Elt Ideal) ℓ) (g' : Dev Cert.ReferenceMixInFwdIdeal.nD → PrngReg), Pre_KernelMixInFwdIdeal m →
    (∀ c : Dev Cert.KernelMixInFwdIdeal.nD,
      m' ((c.tc : Thread Cert.ReferenceMixInFwdIdeal.nD Cert.ReferenceMixInFwdIdeal.τ).loc Cert.ReferenceMixInFwdIdeal.main_arg0) = m ((c.tc : Thread Cert.KernelMixInFwdIdeal.nD Cert.KernelMixInFwdIdeal.τ).loc Cert.KernelMixInFwdIdeal.main_arg0)
      ∧ m' ((c.tc : Thread Cert.ReferenceMixInFwdIdeal.nD Cert.ReferenceMixInFwdIdeal.τ).loc Cert.ReferenceMixInFwdIdeal.main_arg1) = m ((c.tc : Thread Cert.KernelMixInFwdIdeal.nD Cert.KernelMixInFwdIdeal.τ).loc Cert.KernelMixInFwdIdeal.main_arg1)
      ∧ m' ((c.tc : Thread Cert.ReferenceMixInFwdIdeal.nD Cert.ReferenceMixInFwdIdeal.τ).loc Cert.ReferenceMixInFwdIdeal.main_arg2) = m ((c.tc : Thread Cert.KernelMixInFwdIdeal.nD Cert.KernelMixInFwdIdeal.τ).loc Cert.KernelMixInFwdIdeal.main_arg2)
      ∧ m' ((c.tc : Thread Cert.ReferenceMixInFwdIdeal.nD Cert.ReferenceMixInFwdIdeal.τ).loc Cert.ReferenceMixInFwdIdeal.main_arg3) = m ((c.tc : Thread Cert.KernelMixInFwdIdeal.nD Cert.KernelMixInFwdIdeal.τ).loc Cert.KernelMixInFwdIdeal.main_arg3)
      ∧ m' ((c.tc : Thread Cert.ReferenceMixInFwdIdeal.nD Cert.ReferenceMixInFwdIdeal.τ).loc Cert.ReferenceMixInFwdIdeal.main_arg4) = m ((c.tc : Thread Cert.KernelMixInFwdIdeal.nD Cert.KernelMixInFwdIdeal.τ).loc Cert.KernelMixInFwdIdeal.main_arg4)) →
    ∃ (v0 : (c : Dev Cert.KernelMixInFwdIdeal.nD) → Buf (Elt Ideal) ((c.tc : Thread Cert.KernelMixInFwdIdeal.nD Cert.KernelMixInFwdIdeal.τ).loc Cert.KernelMixInFwdIdeal.main_v8_0)) (v1 : (c : Dev Cert.KernelMixInFwdIdeal.nD) → Buf (Elt Ideal) ((c.tc : Thread Cert.KernelMixInFwdIdeal.nD Cert.KernelMixInFwdIdeal.τ).loc Cert.KernelMixInFwdIdeal.main_v8_1)),
      θ_run (Cert.KernelMixInFwdIdeal.defs (F := Ideal)) (onTc (τ := Cert.KernelMixInFwdIdeal.τ) (Cert.KernelMixInFwdIdeal.main (F := Ideal))) ⟨m, fun _ => 0, g⟩ (fun r => ∀ c : Dev Cert.KernelMixInFwdIdeal.nD,
          r.2.mem ((c.tc : Thread Cert.KernelMixInFwdIdeal.nD Cert.KernelMixInFwdIdeal.τ).loc Cert.KernelMixInFwdIdeal.main_v8_0) = v0 c
          ∧ r.2.mem ((c.tc : Thread Cert.KernelMixInFwdIdeal.nD Cert.KernelMixInFwdIdeal.τ).loc Cert.KernelMixInFwdIdeal.main_v8_1) = v1 c
          ∧ r.2.mem ((c.tc : Thread Cert.KernelMixInFwdIdeal.nD Cert.KernelMixInFwdIdeal.τ).loc Cert.KernelMixInFwdIdeal.main_arg0) = m ((c.tc : Thread Cert.KernelMixInFwdIdeal.nD Cert.KernelMixInFwdIdeal.τ).loc Cert.KernelMixInFwdIdeal.main_arg0)
          ∧ r.2.mem ((c.tc : Thread Cert.KernelMixInFwdIdeal.nD Cert.KernelMixInFwdIdeal.τ).loc Cert.KernelMixInFwdIdeal.main_arg1) = m ((c.tc : Thread Cert.KernelMixInFwdIdeal.nD Cert.KernelMixInFwdIdeal.τ).loc Cert.KernelMixInFwdIdeal.main_arg1)
          ∧ r.2.mem ((c.tc : Thread Cert.KernelMixInFwdIdeal.nD Cert.KernelMixInFwdIdeal.τ).loc Cert.KernelMixInFwdIdeal.main_arg2) = m ((c.tc : Thread Cert.KernelMixInFwdIdeal.nD Cert.KernelMixInFwdIdeal.τ).loc Cert.KernelMixInFwdIdeal.main_arg2)
          ∧ r.2.mem ((c.tc : Thread Cert.KernelMixInFwdIdeal.nD Cert.KernelMixInFwdIdeal.τ).loc Cert.KernelMixInFwdIdeal.main_arg3) = m ((c.tc : Thread Cert.KernelMixInFwdIdeal.nD Cert.KernelMixInFwdIdeal.τ).loc Cert.KernelMixInFwdIdeal.main_arg3)
          ∧ r.2.mem ((c.tc : Thread Cert.KernelMixInFwdIdeal.nD Cert.KernelMixInFwdIdeal.τ).loc Cert.KernelMixInFwdIdeal.main_arg4) = m ((c.tc : Thread Cert.KernelMixInFwdIdeal.nD Cert.KernelMixInFwdIdeal.τ).loc Cert.KernelMixInFwdIdeal.main_arg4))
      ∧ θ_run (Cert.ReferenceMixInFwdIdeal.defs (F := Ideal)) (onTc (τ := Cert.ReferenceMixInFwdIdeal.τ) (Cert.ReferenceMixInFwdIdeal.main (F := Ideal))) ⟨m', fun _ => 0, g'⟩ (fun r => ∀ c : Dev Cert.ReferenceMixInFwdIdeal.nD,
          r.2.mem ((c.tc : Thread Cert.ReferenceMixInFwdIdeal.nD Cert.ReferenceMixInFwdIdeal.τ).loc Cert.ReferenceMixInFwdIdeal.main_v21) = v0 c
          ∧ r.2.mem ((c.tc : Thread Cert.ReferenceMixInFwdIdeal.nD Cert.ReferenceMixInFwdIdeal.τ).loc Cert.ReferenceMixInFwdIdeal.main_v22) = v1 c
          ∧ r.2.mem ((c.tc : Thread Cert.ReferenceMixInFwdIdeal.nD Cert.ReferenceMixInFwdIdeal.τ).loc Cert.ReferenceMixInFwdIdeal.main_arg0) = m' ((c.tc : Thread Cert.ReferenceMixInFwdIdeal.nD Cert.ReferenceMixInFwdIdeal.τ).loc Cert.ReferenceMixInFwdIdeal.main_arg0)
          ∧ r.2.mem ((c.tc : Thread Cert.ReferenceMixInFwdIdeal.nD Cert.ReferenceMixInFwdIdeal.τ).loc Cert.ReferenceMixInFwdIdeal.main_arg1) = m' ((c.tc : Thread Cert.ReferenceMixInFwdIdeal.nD Cert.ReferenceMixInFwdIdeal.τ).loc Cert.ReferenceMixInFwdIdeal.main_arg1)
          ∧ r.2.mem ((c.tc : Thread Cert.ReferenceMixInFwdIdeal.nD Cert.ReferenceMixInFwdIdeal.τ).loc Cert.ReferenceMixInFwdIdeal.main_arg2) = m' ((c.tc : Thread Cert.ReferenceMixInFwdIdeal.nD Cert.ReferenceMixInFwdIdeal.τ).loc Cert.ReferenceMixInFwdIdeal.main_arg2)
          ∧ r.2.mem ((c.tc : Thread Cert.ReferenceMixInFwdIdeal.nD Cert.ReferenceMixInFwdIdeal.τ).loc Cert.ReferenceMixInFwdIdeal.main_arg3) = m' ((c.tc : Thread Cert.ReferenceMixInFwdIdeal.nD Cert.ReferenceMixInFwdIdeal.τ).loc Cert.ReferenceMixInFwdIdeal.main_arg3)
          ∧ r.2.mem ((c.tc : Thread Cert.ReferenceMixInFwdIdeal.nD Cert.ReferenceMixInFwdIdeal.τ).loc Cert.ReferenceMixInFwdIdeal.main_arg4) = m' ((c.tc : Thread Cert.ReferenceMixInFwdIdeal.nD Cert.ReferenceMixInFwdIdeal.τ).loc Cert.ReferenceMixInFwdIdeal.main_arg4))

def preserves_KernelConvFwd_KernelConvFwdIdeal : Prop :=
  True

def algebraic_KernelConvFwdIdeal_ReferenceConvFwdIdeal [hKernelConvFwdIdeal : Cert.KernelConvFwdIdeal.Facts] [hReferenceConvFwdIdeal : Cert.ReferenceConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg)
    (m' : (ℓ : Loc Cert.ReferenceConvFwdIdeal.nD Cert.ReferenceConvFwdIdeal.τ Cert.ReferenceConvFwdIdeal.sig) → Buf (Elt Ideal) ℓ) (g' : Dev Cert.ReferenceConvFwdIdeal.nD → PrngReg), Pre_KernelConvFwdIdeal m →
    (∀ c : Dev Cert.KernelConvFwdIdeal.nD,
      m' ((c.tc : Thread Cert.ReferenceConvFwdIdeal.nD Cert.ReferenceConvFwdIdeal.τ).loc Cert.ReferenceConvFwdIdeal.main_arg0) = m ((c.tc : Thread Cert.KernelConvFwdIdeal.nD Cert.KernelConvFwdIdeal.τ).loc Cert.KernelConvFwdIdeal.main_arg0)
      ∧ m' ((c.tc : Thread Cert.ReferenceConvFwdIdeal.nD Cert.ReferenceConvFwdIdeal.τ).loc Cert.ReferenceConvFwdIdeal.main_arg1) = m ((c.tc : Thread Cert.KernelConvFwdIdeal.nD Cert.KernelConvFwdIdeal.τ).loc Cert.KernelConvFwdIdeal.main_arg1)
      ∧ m' ((c.tc : Thread Cert.ReferenceConvFwdIdeal.nD Cert.ReferenceConvFwdIdeal.τ).loc Cert.ReferenceConvFwdIdeal.main_arg2) = m ((c.tc : Thread Cert.KernelConvFwdIdeal.nD Cert.KernelConvFwdIdeal.τ).loc Cert.KernelConvFwdIdeal.main_arg2)) →
    ∃ (v0 : (c : Dev Cert.KernelConvFwdIdeal.nD) → Buf (Elt Ideal) ((c.tc : Thread Cert.KernelConvFwdIdeal.nD Cert.KernelConvFwdIdeal.τ).loc Cert.KernelConvFwdIdeal.main_v2)),
      θ_run (Cert.KernelConvFwdIdeal.defs (F := Ideal)) (onTc (τ := Cert.KernelConvFwdIdeal.τ) (Cert.KernelConvFwdIdeal.main (F := Ideal))) ⟨m, fun _ => 0, g⟩ (fun r => ∀ c : Dev Cert.KernelConvFwdIdeal.nD,
          r.2.mem ((c.tc : Thread Cert.KernelConvFwdIdeal.nD Cert.KernelConvFwdIdeal.τ).loc Cert.KernelConvFwdIdeal.main_v2) = v0 c
          ∧ r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
          ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1)
          ∧ r.2.mem ((c.tc : Thread Cert.KernelConvFwdIdeal.nD Cert.KernelConvFwdIdeal.τ).loc Cert.KernelConvFwdIdeal.main_arg2) = m ((c.tc : Thread Cert.KernelConvFwdIdeal.nD Cert.KernelConvFwdIdeal.τ).loc Cert.KernelConvFwdIdeal.main_arg2))
      ∧ θ_run (Cert.ReferenceConvFwdIdeal.defs (F := Ideal)) (onTc (τ := Cert.ReferenceConvFwdIdeal.τ) (Cert.ReferenceConvFwdIdeal.main (F := Ideal))) ⟨m', fun _ => 0, g'⟩ (fun r => ∀ c : Dev Cert.ReferenceConvFwdIdeal.nD,
          r.2.mem ((c.tc : Thread Cert.ReferenceConvFwdIdeal.nD Cert.ReferenceConvFwdIdeal.τ).loc Cert.ReferenceConvFwdIdeal.main_v231) = v0 c
          ∧ r.2.mem ((c.tc : Thread Cert.ReferenceConvFwdIdeal.nD Cert.ReferenceConvFwdIdeal.τ).loc Cert.ReferenceConvFwdIdeal.main_arg0) = m' ((c.tc : Thread Cert.ReferenceConvFwdIdeal.nD Cert.ReferenceConvFwdIdeal.τ).loc Cert.ReferenceConvFwdIdeal.main_arg0)
          ∧ r.2.mem ((c.tc : Thread Cert.ReferenceConvFwdIdeal.nD Cert.ReferenceConvFwdIdeal.τ).loc Cert.ReferenceConvFwdIdeal.main_arg1) = m' ((c.tc : Thread Cert.ReferenceConvFwdIdeal.nD Cert.ReferenceConvFwdIdeal.τ).loc Cert.ReferenceConvFwdIdeal.main_arg1)
          ∧ r.2.mem ((c.tc : Thread Cert.ReferenceConvFwdIdeal.nD Cert.ReferenceConvFwdIdeal.τ).loc Cert.ReferenceConvFwdIdeal.main_arg2) = m' ((c.tc : Thread Cert.ReferenceConvFwdIdeal.nD Cert.ReferenceConvFwdIdeal.τ).loc Cert.ReferenceConvFwdIdeal.main_arg2))

def preserves_KernelMixOutFwd_KernelMixOutFwdIdeal : Prop :=
  True

def algebraic_KernelMixOutFwdIdeal_ReferenceMixOutFwdIdeal [hKernelMixOutFwdIdeal : Cert.KernelMixOutFwdIdeal.Facts] [hReferenceMixOutFwdIdeal : Cert.ReferenceMixOutFwdIdeal.Facts] : Prop :=
  ∀ (m : (ℓ : Loc Cert.KernelMixOutFwdIdeal.nD Cert.KernelMixOutFwdIdeal.τ Cert.KernelMixOutFwdIdeal.sig) → Buf (Elt Ideal) ℓ) (g : Dev Cert.KernelMixOutFwdIdeal.nD → PrngReg)
    (m' : (ℓ : Loc Cert.ReferenceMixOutFwdIdeal.nD Cert.ReferenceMixOutFwdIdeal.τ Cert.ReferenceMixOutFwdIdeal.sig) → Buf (Elt Ideal) ℓ) (g' : Dev Cert.ReferenceMixOutFwdIdeal.nD → PrngReg), Pre_KernelMixOutFwdIdeal m →
    (∀ c : Dev Cert.KernelMixOutFwdIdeal.nD,
      m' ((c.tc : Thread Cert.ReferenceMixOutFwdIdeal.nD Cert.ReferenceMixOutFwdIdeal.τ).loc Cert.ReferenceMixOutFwdIdeal.main_arg0) = m ((c.tc : Thread Cert.KernelMixOutFwdIdeal.nD Cert.KernelMixOutFwdIdeal.τ).loc Cert.KernelMixOutFwdIdeal.main_arg0)
      ∧ m' ((c.tc : Thread Cert.ReferenceMixOutFwdIdeal.nD Cert.ReferenceMixOutFwdIdeal.τ).loc Cert.ReferenceMixOutFwdIdeal.main_arg1) = m ((c.tc : Thread Cert.KernelMixOutFwdIdeal.nD Cert.KernelMixOutFwdIdeal.τ).loc Cert.KernelMixOutFwdIdeal.main_arg1)
      ∧ m' ((c.tc : Thread Cert.ReferenceMixOutFwdIdeal.nD Cert.ReferenceMixOutFwdIdeal.τ).loc Cert.ReferenceMixOutFwdIdeal.main_arg2) = m ((c.tc : Thread Cert.KernelMixOutFwdIdeal.nD Cert.KernelMixOutFwdIdeal.τ).loc Cert.KernelMixOutFwdIdeal.main_arg2)
      ∧ m' ((c.tc : Thread Cert.ReferenceMixOutFwdIdeal.nD Cert.ReferenceMixOutFwdIdeal.τ).loc Cert.ReferenceMixOutFwdIdeal.main_arg3) = m ((c.tc : Thread Cert.KernelMixOutFwdIdeal.nD Cert.KernelMixOutFwdIdeal.τ).loc Cert.KernelMixOutFwdIdeal.main_arg3)
      ∧ m' ((c.tc : Thread Cert.ReferenceMixOutFwdIdeal.nD Cert.ReferenceMixOutFwdIdeal.τ).loc Cert.ReferenceMixOutFwdIdeal.main_arg4) = m ((c.tc : Thread Cert.KernelMixOutFwdIdeal.nD Cert.KernelMixOutFwdIdeal.τ).loc Cert.KernelMixOutFwdIdeal.main_arg4)
      ∧ m' ((c.tc : Thread Cert.ReferenceMixOutFwdIdeal.nD Cert.ReferenceMixOutFwdIdeal.τ).loc Cert.ReferenceMixOutFwdIdeal.main_arg5) = m ((c.tc : Thread Cert.KernelMixOutFwdIdeal.nD Cert.KernelMixOutFwdIdeal.τ).loc Cert.KernelMixOutFwdIdeal.main_arg5)
      ∧ m' ((c.tc : Thread Cert.ReferenceMixOutFwdIdeal.nD Cert.ReferenceMixOutFwdIdeal.τ).loc Cert.ReferenceMixOutFwdIdeal.main_arg6) = m ((c.tc : Thread Cert.KernelMixOutFwdIdeal.nD Cert.KernelMixOutFwdIdeal.τ).loc Cert.KernelMixOutFwdIdeal.main_arg6)) →
    ∃ (v0 : (c : Dev Cert.KernelMixOutFwdIdeal.nD) → Buf (Elt Ideal) ((c.tc : Thread Cert.KernelMixOutFwdIdeal.nD Cert.KernelMixOutFwdIdeal.τ).loc Cert.KernelMixOutFwdIdeal.main_v12_0)) (v1 : (c : Dev Cert.KernelMixOutFwdIdeal.nD) → Buf (Elt Ideal) ((c.tc : Thread Cert.KernelMixOutFwdIdeal.nD Cert.KernelMixOutFwdIdeal.τ).loc Cert.KernelMixOutFwdIdeal.main_v12_1)) (v2 : (c : Dev Cert.KernelMixOutFwdIdeal.nD) → Buf (Elt Ideal) ((c.tc : Thread Cert.KernelMixOutFwdIdeal.nD Cert.KernelMixOutFwdIdeal.τ).loc Cert.KernelMixOutFwdIdeal.main_v12_2)),
      θ_run (Cert.KernelMixOutFwdIdeal.defs (F := Ideal)) (onTc (τ := Cert.KernelMixOutFwdIdeal.τ) (Cert.KernelMixOutFwdIdeal.main (F := Ideal))) ⟨m, fun _ => 0, g⟩ (fun r => ∀ c : Dev Cert.KernelMixOutFwdIdeal.nD,
          r.2.mem ((c.tc : Thread Cert.KernelMixOutFwdIdeal.nD Cert.KernelMixOutFwdIdeal.τ).loc Cert.KernelMixOutFwdIdeal.main_v12_0) = v0 c
          ∧ r.2.mem ((c.tc : Thread Cert.KernelMixOutFwdIdeal.nD Cert.KernelMixOutFwdIdeal.τ).loc Cert.KernelMixOutFwdIdeal.main_v12_1) = v1 c
          ∧ r.2.mem ((c.tc : Thread Cert.KernelMixOutFwdIdeal.nD Cert.KernelMixOutFwdIdeal.τ).loc Cert.KernelMixOutFwdIdeal.main_v12_2) = v2 c
          ∧ r.2.mem ((c.tc : Thread Cert.KernelMixOutFwdIdeal.nD Cert.KernelMixOutFwdIdeal.τ).loc Cert.KernelMixOutFwdIdeal.main_arg0) = m ((c.tc : Thread Cert.KernelMixOutFwdIdeal.nD Cert.KernelMixOutFwdIdeal.τ).loc Cert.KernelMixOutFwdIdeal.main_arg0)
          ∧ r.2.mem ((c.tc : Thread Cert.KernelMixOutFwdIdeal.nD Cert.KernelMixOutFwdIdeal.τ).loc Cert.KernelMixOutFwdIdeal.main_arg1) = m ((c.tc : Thread Cert.KernelMixOutFwdIdeal.nD Cert.KernelMixOutFwdIdeal.τ).loc Cert.KernelMixOutFwdIdeal.main_arg1)
          ∧ r.2.mem ((c.tc : Thread Cert.KernelMixOutFwdIdeal.nD Cert.KernelMixOutFwdIdeal.τ).loc Cert.KernelMixOutFwdIdeal.main_arg2) = m ((c.tc : Thread Cert.KernelMixOutFwdIdeal.nD Cert.KernelMixOutFwdIdeal.τ).loc Cert.KernelMixOutFwdIdeal.main_arg2)
          ∧ r.2.mem ((c.tc : Thread Cert.KernelMixOutFwdIdeal.nD Cert.KernelMixOutFwdIdeal.τ).loc Cert.KernelMixOutFwdIdeal.main_arg3) = m ((c.tc : Thread Cert.KernelMixOutFwdIdeal.nD Cert.KernelMixOutFwdIdeal.τ).loc Cert.KernelMixOutFwdIdeal.main_arg3)
          ∧ r.2.mem ((c.tc : Thread Cert.KernelMixOutFwdIdeal.nD Cert.KernelMixOutFwdIdeal.τ).loc Cert.KernelMixOutFwdIdeal.main_arg4) = m ((c.tc : Thread Cert.KernelMixOutFwdIdeal.nD Cert.KernelMixOutFwdIdeal.τ).loc Cert.KernelMixOutFwdIdeal.main_arg4)
          ∧ r.2.mem ((c.tc : Thread Cert.KernelMixOutFwdIdeal.nD Cert.KernelMixOutFwdIdeal.τ).loc Cert.KernelMixOutFwdIdeal.main_arg5) = m ((c.tc : Thread Cert.KernelMixOutFwdIdeal.nD Cert.KernelMixOutFwdIdeal.τ).loc Cert.KernelMixOutFwdIdeal.main_arg5)
          ∧ r.2.mem ((c.tc : Thread Cert.KernelMixOutFwdIdeal.nD Cert.KernelMixOutFwdIdeal.τ).loc Cert.KernelMixOutFwdIdeal.main_arg6) = m ((c.tc : Thread Cert.KernelMixOutFwdIdeal.nD Cert.KernelMixOutFwdIdeal.τ).loc Cert.KernelMixOutFwdIdeal.main_arg6))
      ∧ θ_run (Cert.ReferenceMixOutFwdIdeal.defs (F := Ideal)) (onTc (τ := Cert.ReferenceMixOutFwdIdeal.τ) (Cert.ReferenceMixOutFwdIdeal.main (F := Ideal))) ⟨m', fun _ => 0, g'⟩ (fun r => ∀ c : Dev Cert.ReferenceMixOutFwdIdeal.nD,
          r.2.mem ((c.tc : Thread Cert.ReferenceMixOutFwdIdeal.nD Cert.ReferenceMixOutFwdIdeal.τ).loc Cert.ReferenceMixOutFwdIdeal.main_v30) = v0 c
          ∧ r.2.mem ((c.tc : Thread Cert.ReferenceMixOutFwdIdeal.nD Cert.ReferenceMixOutFwdIdeal.τ).loc Cert.ReferenceMixOutFwdIdeal.main_v31) = v1 c
          ∧ r.2.mem ((c.tc : Thread Cert.ReferenceMixOutFwdIdeal.nD Cert.ReferenceMixOutFwdIdeal.τ).loc Cert.ReferenceMixOutFwdIdeal.main_v32) = v2 c
          ∧ r.2.mem ((c.tc : Thread Cert.ReferenceMixOutFwdIdeal.nD Cert.ReferenceMixOutFwdIdeal.τ).loc Cert.ReferenceMixOutFwdIdeal.main_arg0) = m' ((c.tc : Thread Cert.ReferenceMixOutFwdIdeal.nD Cert.ReferenceMixOutFwdIdeal.τ).loc Cert.ReferenceMixOutFwdIdeal.main_arg0)
          ∧ r.2.mem ((c.tc : Thread Cert.ReferenceMixOutFwdIdeal.nD Cert.ReferenceMixOutFwdIdeal.τ).loc Cert.ReferenceMixOutFwdIdeal.main_arg1) = m' ((c.tc : Thread Cert.ReferenceMixOutFwdIdeal.nD Cert.ReferenceMixOutFwdIdeal.τ).loc Cert.ReferenceMixOutFwdIdeal.main_arg1)
          ∧ r.2.mem ((c.tc : Thread Cert.ReferenceMixOutFwdIdeal.nD Cert.ReferenceMixOutFwdIdeal.τ).loc Cert.ReferenceMixOutFwdIdeal.main_arg2) = m' ((c.tc : Thread Cert.ReferenceMixOutFwdIdeal.nD Cert.ReferenceMixOutFwdIdeal.τ).loc Cert.ReferenceMixOutFwdIdeal.main_arg2)
          ∧ r.2.mem ((c.tc : Thread Cert.ReferenceMixOutFwdIdeal.nD Cert.ReferenceMixOutFwdIdeal.τ).loc Cert.ReferenceMixOutFwdIdeal.main_arg3) = m' ((c.tc : Thread Cert.ReferenceMixOutFwdIdeal.nD Cert.ReferenceMixOutFwdIdeal.τ).loc Cert.ReferenceMixOutFwdIdeal.main_arg3)
          ∧ r.2.mem ((c.tc : Thread Cert.ReferenceMixOutFwdIdeal.nD Cert.ReferenceMixOutFwdIdeal.τ).loc Cert.ReferenceMixOutFwdIdeal.main_arg4) = m' ((c.tc : Thread Cert.ReferenceMixOutFwdIdeal.nD Cert.ReferenceMixOutFwdIdeal.τ).loc Cert.ReferenceMixOutFwdIdeal.main_arg4)
          ∧ r.2.mem ((c.tc : Thread Cert.ReferenceMixOutFwdIdeal.nD Cert.ReferenceMixOutFwdIdeal.τ).loc Cert.ReferenceMixOutFwdIdeal.main_arg5) = m' ((c.tc : Thread Cert.ReferenceMixOutFwdIdeal.nD Cert.ReferenceMixOutFwdIdeal.τ).loc Cert.ReferenceMixOutFwdIdeal.main_arg5)
          ∧ r.2.mem ((c.tc : Thread Cert.ReferenceMixOutFwdIdeal.nD Cert.ReferenceMixOutFwdIdeal.τ).loc Cert.ReferenceMixOutFwdIdeal.main_arg6) = m' ((c.tc : Thread Cert.ReferenceMixOutFwdIdeal.nD Cert.ReferenceMixOutFwdIdeal.τ).loc Cert.ReferenceMixOutFwdIdeal.main_arg6))

def preserves_KernelRnnFwd_KernelRnnFwdIdeal : Prop :=
  IdealRules.named_const.Statement Cert.KernelRnnFwdIdeal.κ "gelu_c" .f32 0x3D372713#32 ((8943 / 200000 : ℝ) : EReal)

def algebraic_KernelRnnFwdIdeal_ReferenceRnnFwdIdeal_pre_rnn_far [hKernelRnnFwdIdeal : Cert.KernelRnnFwdIdeal.Facts] [hReferenceRnnFwdIdeal : Cert.ReferenceRnnFwdIdeal.Facts] [hPre_rnn_far : Cert.Pre_rnn_far.Facts] : Prop :=
  ∀ (m : (ℓ : Loc Cert.KernelRnnFwdIdeal.nD Cert.KernelRnnFwdIdeal.τ Cert.KernelRnnFwdIdeal.sig) → Buf (Elt Ideal) ℓ) (g : Dev Cert.KernelRnnFwdIdeal.nD → PrngReg)
    (m' : (ℓ : Loc Cert.ReferenceRnnFwdIdeal.nD Cert.ReferenceRnnFwdIdeal.τ Cert.ReferenceRnnFwdIdeal.sig) → Buf (Elt Ideal) ℓ) (g' : Dev Cert.ReferenceRnnFwdIdeal.nD → PrngReg), Pre_KernelRnnFwdIdeal_rnn_far m →
    (∀ c : Dev Cert.KernelRnnFwdIdeal.nD,
      m' ((c.tc : Thread Cert.ReferenceRnnFwdIdeal.nD Cert.ReferenceRnnFwdIdeal.τ).loc Cert.ReferenceRnnFwdIdeal.main_arg0) = m ((c.tc : Thread Cert.KernelRnnFwdIdeal.nD Cert.KernelRnnFwdIdeal.τ).loc Cert.KernelRnnFwdIdeal.main_arg0)
      ∧ m' ((c.tc : Thread Cert.ReferenceRnnFwdIdeal.nD Cert.ReferenceRnnFwdIdeal.τ).loc Cert.ReferenceRnnFwdIdeal.main_arg1) = m ((c.tc : Thread Cert.KernelRnnFwdIdeal.nD Cert.KernelRnnFwdIdeal.τ).loc Cert.KernelRnnFwdIdeal.main_arg1)
      ∧ m' ((c.tc : Thread Cert.ReferenceRnnFwdIdeal.nD Cert.ReferenceRnnFwdIdeal.τ).loc Cert.ReferenceRnnFwdIdeal.main_arg2) = m ((c.tc : Thread Cert.KernelRnnFwdIdeal.nD Cert.KernelRnnFwdIdeal.τ).loc Cert.KernelRnnFwdIdeal.main_arg2)
      ∧ m' ((c.tc : Thread Cert.ReferenceRnnFwdIdeal.nD Cert.ReferenceRnnFwdIdeal.τ).loc Cert.ReferenceRnnFwdIdeal.main_arg3) = m ((c.tc : Thread Cert.KernelRnnFwdIdeal.nD Cert.KernelRnnFwdIdeal.τ).loc Cert.KernelRnnFwdIdeal.main_arg3)
      ∧ m' ((c.tc : Thread Cert.ReferenceRnnFwdIdeal.nD Cert.ReferenceRnnFwdIdeal.τ).loc Cert.ReferenceRnnFwdIdeal.main_arg4) = m ((c.tc : Thread Cert.KernelRnnFwdIdeal.nD Cert.KernelRnnFwdIdeal.τ).loc Cert.KernelRnnFwdIdeal.main_arg4)
      ∧ m' ((c.tc : Thread Cert.ReferenceRnnFwdIdeal.nD Cert.ReferenceRnnFwdIdeal.τ).loc Cert.ReferenceRnnFwdIdeal.main_arg5) = m ((c.tc : Thread Cert.KernelRnnFwdIdeal.nD Cert.KernelRnnFwdIdeal.τ).loc Cert.KernelRnnFwdIdeal.main_arg5)
      ∧ m' ((c.tc : Thread Cert.ReferenceRnnFwdIdeal.nD Cert.ReferenceRnnFwdIdeal.τ).loc Cert.ReferenceRnnFwdIdeal.main_arg6) = m ((c.tc : Thread Cert.KernelRnnFwdIdeal.nD Cert.KernelRnnFwdIdeal.τ).loc Cert.KernelRnnFwdIdeal.main_arg6)
      ∧ m' ((c.tc : Thread Cert.ReferenceRnnFwdIdeal.nD Cert.ReferenceRnnFwdIdeal.τ).loc Cert.ReferenceRnnFwdIdeal.main_arg7) = m ((c.tc : Thread Cert.KernelRnnFwdIdeal.nD Cert.KernelRnnFwdIdeal.τ).loc Cert.KernelRnnFwdIdeal.main_arg7)) →
    ∃ (v0 : (c : Dev Cert.KernelRnnFwdIdeal.nD) → Buf (Elt Ideal) ((c.tc : Thread Cert.KernelRnnFwdIdeal.nD Cert.KernelRnnFwdIdeal.τ).loc Cert.KernelRnnFwdIdeal.main_v22_0)) (v1 : (c : Dev Cert.KernelRnnFwdIdeal.nD) → Buf (Elt Ideal) ((c.tc : Thread Cert.KernelRnnFwdIdeal.nD Cert.KernelRnnFwdIdeal.τ).loc Cert.KernelRnnFwdIdeal.main_v22_1)),
      θ_run (Cert.KernelRnnFwdIdeal.defs (F := Ideal)) (onTc (τ := Cert.KernelRnnFwdIdeal.τ) (Cert.KernelRnnFwdIdeal.main (F := Ideal))) ⟨m, fun _ => 0, g⟩ (fun r => ∀ c : Dev Cert.KernelRnnFwdIdeal.nD,
          r.2.mem ((c.tc : Thread Cert.KernelRnnFwdIdeal.nD Cert.KernelRnnFwdIdeal.τ).loc Cert.KernelRnnFwdIdeal.main_v22_0) = v0 c
          ∧ r.2.mem ((c.tc : Thread Cert.KernelRnnFwdIdeal.nD Cert.KernelRnnFwdIdeal.τ).loc Cert.KernelRnnFwdIdeal.main_v22_1) = v1 c
          ∧ r.2.mem ((c.tc : Thread Cert.KernelRnnFwdIdeal.nD Cert.KernelRnnFwdIdeal.τ).loc Cert.KernelRnnFwdIdeal.main_arg0) = m ((c.tc : Thread Cert.KernelRnnFwdIdeal.nD Cert.KernelRnnFwdIdeal.τ).loc Cert.KernelRnnFwdIdeal.main_arg0)
          ∧ r.2.mem ((c.tc : Thread Cert.KernelRnnFwdIdeal.nD Cert.KernelRnnFwdIdeal.τ).loc Cert.KernelRnnFwdIdeal.main_arg1) = m ((c.tc : Thread Cert.KernelRnnFwdIdeal.nD Cert.KernelRnnFwdIdeal.τ).loc Cert.KernelRnnFwdIdeal.main_arg1)
          ∧ r.2.mem ((c.tc : Thread Cert.KernelRnnFwdIdeal.nD Cert.KernelRnnFwdIdeal.τ).loc Cert.KernelRnnFwdIdeal.main_arg2) = m ((c.tc : Thread Cert.KernelRnnFwdIdeal.nD Cert.KernelRnnFwdIdeal.τ).loc Cert.KernelRnnFwdIdeal.main_arg2)
          ∧ r.2.mem ((c.tc : Thread Cert.KernelRnnFwdIdeal.nD Cert.KernelRnnFwdIdeal.τ).loc Cert.KernelRnnFwdIdeal.main_arg3) = m ((c.tc : Thread Cert.KernelRnnFwdIdeal.nD Cert.KernelRnnFwdIdeal.τ).loc Cert.KernelRnnFwdIdeal.main_arg3)
          ∧ r.2.mem ((c.tc : Thread Cert.KernelRnnFwdIdeal.nD Cert.KernelRnnFwdIdeal.τ).loc Cert.KernelRnnFwdIdeal.main_arg4) = m ((c.tc : Thread Cert.KernelRnnFwdIdeal.nD Cert.KernelRnnFwdIdeal.τ).loc Cert.KernelRnnFwdIdeal.main_arg4)
          ∧ r.2.mem ((c.tc : Thread Cert.KernelRnnFwdIdeal.nD Cert.KernelRnnFwdIdeal.τ).loc Cert.KernelRnnFwdIdeal.main_arg5) = m ((c.tc : Thread Cert.KernelRnnFwdIdeal.nD Cert.KernelRnnFwdIdeal.τ).loc Cert.KernelRnnFwdIdeal.main_arg5)
          ∧ r.2.mem ((c.tc : Thread Cert.KernelRnnFwdIdeal.nD Cert.KernelRnnFwdIdeal.τ).loc Cert.KernelRnnFwdIdeal.main_arg6) = m ((c.tc : Thread Cert.KernelRnnFwdIdeal.nD Cert.KernelRnnFwdIdeal.τ).loc Cert.KernelRnnFwdIdeal.main_arg6)
          ∧ r.2.mem ((c.tc : Thread Cert.KernelRnnFwdIdeal.nD Cert.KernelRnnFwdIdeal.τ).loc Cert.KernelRnnFwdIdeal.main_arg7) = m ((c.tc : Thread Cert.KernelRnnFwdIdeal.nD Cert.KernelRnnFwdIdeal.τ).loc Cert.KernelRnnFwdIdeal.main_arg7))
      ∧ θ_run (Cert.ReferenceRnnFwdIdeal.defs (F := Ideal)) (onTc (τ := Cert.ReferenceRnnFwdIdeal.τ) (Cert.ReferenceRnnFwdIdeal.main (F := Ideal))) ⟨m', fun _ => 0, g'⟩ (fun r => ∀ c : Dev Cert.ReferenceRnnFwdIdeal.nD,
          r.2.mem ((c.tc : Thread Cert.ReferenceRnnFwdIdeal.nD Cert.ReferenceRnnFwdIdeal.τ).loc Cert.ReferenceRnnFwdIdeal.main_v362) = v0 c
          ∧ r.2.mem ((c.tc : Thread Cert.ReferenceRnnFwdIdeal.nD Cert.ReferenceRnnFwdIdeal.τ).loc Cert.ReferenceRnnFwdIdeal.main_v379) = v1 c
          ∧ r.2.mem ((c.tc : Thread Cert.ReferenceRnnFwdIdeal.nD Cert.ReferenceRnnFwdIdeal.τ).loc Cert.ReferenceRnnFwdIdeal.main_arg0) = m' ((c.tc : Thread Cert.ReferenceRnnFwdIdeal.nD Cert.ReferenceRnnFwdIdeal.τ).loc Cert.ReferenceRnnFwdIdeal.main_arg0)
          ∧ r.2.mem ((c.tc : Thread Cert.ReferenceRnnFwdIdeal.nD Cert.ReferenceRnnFwdIdeal.τ).loc Cert.ReferenceRnnFwdIdeal.main_arg1) = m' ((c.tc : Thread Cert.ReferenceRnnFwdIdeal.nD Cert.ReferenceRnnFwdIdeal.τ).loc Cert.ReferenceRnnFwdIdeal.main_arg1)
          ∧ r.2.mem ((c.tc : Thread Cert.ReferenceRnnFwdIdeal.nD Cert.ReferenceRnnFwdIdeal.τ).loc Cert.ReferenceRnnFwdIdeal.main_arg2) = m' ((c.tc : Thread Cert.ReferenceRnnFwdIdeal.nD Cert.ReferenceRnnFwdIdeal.τ).loc Cert.ReferenceRnnFwdIdeal.main_arg2)
          ∧ r.2.mem ((c.tc : Thread Cert.ReferenceRnnFwdIdeal.nD Cert.ReferenceRnnFwdIdeal.τ).loc Cert.ReferenceRnnFwdIdeal.main_arg3) = m' ((c.tc : Thread Cert.ReferenceRnnFwdIdeal.nD Cert.ReferenceRnnFwdIdeal.τ).loc Cert.ReferenceRnnFwdIdeal.main_arg3)
          ∧ r.2.mem ((c.tc : Thread Cert.ReferenceRnnFwdIdeal.nD Cert.ReferenceRnnFwdIdeal.τ).loc Cert.ReferenceRnnFwdIdeal.main_arg4) = m' ((c.tc : Thread Cert.ReferenceRnnFwdIdeal.nD Cert.ReferenceRnnFwdIdeal.τ).loc Cert.ReferenceRnnFwdIdeal.main_arg4)
          ∧ r.2.mem ((c.tc : Thread Cert.ReferenceRnnFwdIdeal.nD Cert.ReferenceRnnFwdIdeal.τ).loc Cert.ReferenceRnnFwdIdeal.main_arg5) = m' ((c.tc : Thread Cert.ReferenceRnnFwdIdeal.nD Cert.ReferenceRnnFwdIdeal.τ).loc Cert.ReferenceRnnFwdIdeal.main_arg5)
          ∧ r.2.mem ((c.tc : Thread Cert.ReferenceRnnFwdIdeal.nD Cert.ReferenceRnnFwdIdeal.τ).loc Cert.ReferenceRnnFwdIdeal.main_arg6) = m' ((c.tc : Thread Cert.ReferenceRnnFwdIdeal.nD Cert.ReferenceRnnFwdIdeal.τ).loc Cert.ReferenceRnnFwdIdeal.main_arg6)
          ∧ r.2.mem ((c.tc : Thread Cert.ReferenceRnnFwdIdeal.nD Cert.ReferenceRnnFwdIdeal.τ).loc Cert.ReferenceRnnFwdIdeal.main_arg7) = m' ((c.tc : Thread Cert.ReferenceRnnFwdIdeal.nD Cert.ReferenceRnnFwdIdeal.τ).loc Cert.ReferenceRnnFwdIdeal.main_arg7))

def preserves_KernelRnnBwd_KernelRnnBwdIdeal : Prop :=
  True

def algebraic_KernelRnnBwdIdeal_ReferenceRnnBwdIdeal_pre_rnn_back_far [hKernelRnnBwdIdeal : Cert.KernelRnnBwdIdeal.Facts] [hReferenceRnnBwdIdeal : Cert.ReferenceRnnBwdIdeal.Facts] [hPre_rnn_back_far : Cert.Pre_rnn_back_far.Facts] : Prop :=
  ∀ (m : (ℓ : Loc Cert.KernelRnnBwdIdeal.nD Cert.KernelRnnBwdIdeal.τ Cert.KernelRnnBwdIdeal.sig) → Buf (Elt Ideal) ℓ) (g : Dev Cert.KernelRnnBwdIdeal.nD → PrngReg)
    (m' : (ℓ : Loc Cert.ReferenceRnnBwdIdeal.nD Cert.ReferenceRnnBwdIdeal.τ Cert.ReferenceRnnBwdIdeal.sig) → Buf (Elt Ideal) ℓ) (g' : Dev Cert.ReferenceRnnBwdIdeal.nD → PrngReg), Pre_KernelRnnBwdIdeal_rnn_back_far m →
    (∀ c : Dev Cert.KernelRnnBwdIdeal.nD,
      m' ((c.tc : Thread Cert.ReferenceRnnBwdIdeal.nD Cert.ReferenceRnnBwdIdeal.τ).loc Cert.ReferenceRnnBwdIdeal.main_arg0) = m ((c.tc : Thread Cert.KernelRnnBwdIdeal.nD Cert.KernelRnnBwdIdeal.τ).loc Cert.KernelRnnBwdIdeal.main_arg0)
      ∧ m' ((c.tc : Thread Cert.ReferenceRnnBwdIdeal.nD Cert.ReferenceRnnBwdIdeal.τ).loc Cert.ReferenceRnnBwdIdeal.main_arg1) = m ((c.tc : Thread Cert.KernelRnnBwdIdeal.nD Cert.KernelRnnBwdIdeal.τ).loc Cert.KernelRnnBwdIdeal.main_arg1)
      ∧ m' ((c.tc : Thread Cert.ReferenceRnnBwdIdeal.nD Cert.ReferenceRnnBwdIdeal.τ).loc Cert.ReferenceRnnBwdIdeal.main_arg2) = m ((c.tc : Thread Cert.KernelRnnBwdIdeal.nD Cert.KernelRnnBwdIdeal.τ).loc Cert.KernelRnnBwdIdeal.main_arg2)
      ∧ m' ((c.tc : Thread Cert.ReferenceRnnBwdIdeal.nD Cert.ReferenceRnnBwdIdeal.τ).loc Cert.ReferenceRnnBwdIdeal.main_arg3) = m ((c.tc : Thread Cert.KernelRnnBwdIdeal.nD Cert.KernelRnnBwdIdeal.τ).loc Cert.KernelRnnBwdIdeal.main_arg3)
      ∧ m' ((c.tc : Thread Cert.ReferenceRnnBwdIdeal.nD Cert.ReferenceRnnBwdIdeal.τ).loc Cert.ReferenceRnnBwdIdeal.main_arg4) = m ((c.tc : Thread Cert.KernelRnnBwdIdeal.nD Cert.KernelRnnBwdIdeal.τ).loc Cert.KernelRnnBwdIdeal.main_arg4)
      ∧ m' ((c.tc : Thread Cert.ReferenceRnnBwdIdeal.nD Cert.ReferenceRnnBwdIdeal.τ).loc Cert.ReferenceRnnBwdIdeal.main_arg5) = m ((c.tc : Thread Cert.KernelRnnBwdIdeal.nD Cert.KernelRnnBwdIdeal.τ).loc Cert.KernelRnnBwdIdeal.main_arg5)
      ∧ m' ((c.tc : Thread Cert.ReferenceRnnBwdIdeal.nD Cert.ReferenceRnnBwdIdeal.τ).loc Cert.ReferenceRnnBwdIdeal.main_arg6) = m ((c.tc : Thread Cert.KernelRnnBwdIdeal.nD Cert.KernelRnnBwdIdeal.τ).loc Cert.KernelRnnBwdIdeal.main_arg6)
      ∧ m' ((c.tc : Thread Cert.ReferenceRnnBwdIdeal.nD Cert.ReferenceRnnBwdIdeal.τ).loc Cert.ReferenceRnnBwdIdeal.main_arg7) = m ((c.tc : Thread Cert.KernelRnnBwdIdeal.nD Cert.KernelRnnBwdIdeal.τ).loc Cert.KernelRnnBwdIdeal.main_arg7)
      ∧ m' ((c.tc : Thread Cert.ReferenceRnnBwdIdeal.nD Cert.ReferenceRnnBwdIdeal.τ).loc Cert.ReferenceRnnBwdIdeal.main_arg8) = m ((c.tc : Thread Cert.KernelRnnBwdIdeal.nD Cert.KernelRnnBwdIdeal.τ).loc Cert.KernelRnnBwdIdeal.main_arg8)) →
    ∃ (v0 : (c : Dev Cert.KernelRnnBwdIdeal.nD) → Buf (Elt Ideal) ((c.tc : Thread Cert.KernelRnnBwdIdeal.nD Cert.KernelRnnBwdIdeal.τ).loc Cert.KernelRnnBwdIdeal.main_v206_0)) (v1 : (c : Dev Cert.KernelRnnBwdIdeal.nD) → Buf (Elt Ideal) ((c.tc : Thread Cert.KernelRnnBwdIdeal.nD Cert.KernelRnnBwdIdeal.τ).loc Cert.KernelRnnBwdIdeal.main_v206_1)) (v2 : (c : Dev Cert.KernelRnnBwdIdeal.nD) → Buf (Elt Ideal) ((c.tc : Thread Cert.KernelRnnBwdIdeal.nD Cert.KernelRnnBwdIdeal.τ).loc Cert.KernelRnnBwdIdeal.main_v206_2)) (v3 : (c : Dev Cert.KernelRnnBwdIdeal.nD) → Buf (Elt Ideal) ((c.tc : Thread Cert.KernelRnnBwdIdeal.nD Cert.KernelRnnBwdIdeal.τ).loc Cert.KernelRnnBwdIdeal.main_v206_3)),
      θ_run (Cert.KernelRnnBwdIdeal.defs (F := Ideal)) (onTc (τ := Cert.KernelRnnBwdIdeal.τ) (Cert.KernelRnnBwdIdeal.main (F := Ideal))) ⟨m, fun _ => 0, g⟩ (fun r => ∀ c : Dev Cert.KernelRnnBwdIdeal.nD,
          r.2.mem ((c.tc : Thread Cert.KernelRnnBwdIdeal.nD Cert.KernelRnnBwdIdeal.τ).loc Cert.KernelRnnBwdIdeal.main_v206_0) = v0 c
          ∧ r.2.mem ((c.tc : Thread Cert.KernelRnnBwdIdeal.nD Cert.KernelRnnBwdIdeal.τ).loc Cert.KernelRnnBwdIdeal.main_v206_1) = v1 c
          ∧ r.2.mem ((c.tc : Thread Cert.KernelRnnBwdIdeal.nD Cert.KernelRnnBwdIdeal.τ).loc Cert.KernelRnnBwdIdeal.main_v206_2) = v2 c
          ∧ r.2.mem ((c.tc : Thread Cert.KernelRnnBwdIdeal.nD Cert.KernelRnnBwdIdeal.τ).loc Cert.KernelRnnBwdIdeal.main_v206_3) = v3 c
          ∧ r.2.mem ((c.tc : Thread Cert.KernelRnnBwdIdeal.nD Cert.KernelRnnBwdIdeal.τ).loc Cert.KernelRnnBwdIdeal.main_arg0) = m ((c.tc : Thread Cert.KernelRnnBwdIdeal.nD Cert.KernelRnnBwdIdeal.τ).loc Cert.KernelRnnBwdIdeal.main_arg0)
          ∧ r.2.mem ((c.tc : Thread Cert.KernelRnnBwdIdeal.nD Cert.KernelRnnBwdIdeal.τ).loc Cert.KernelRnnBwdIdeal.main_arg1) = m ((c.tc : Thread Cert.KernelRnnBwdIdeal.nD Cert.KernelRnnBwdIdeal.τ).loc Cert.KernelRnnBwdIdeal.main_arg1)
          ∧ r.2.mem ((c.tc : Thread Cert.KernelRnnBwdIdeal.nD Cert.KernelRnnBwdIdeal.τ).loc Cert.KernelRnnBwdIdeal.main_arg2) = m ((c.tc : Thread Cert.KernelRnnBwdIdeal.nD Cert.KernelRnnBwdIdeal.τ).loc Cert.KernelRnnBwdIdeal.main_arg2)
          ∧ r.2.mem ((c.tc : Thread Cert.KernelRnnBwdIdeal.nD Cert.KernelRnnBwdIdeal.τ).loc Cert.KernelRnnBwdIdeal.main_arg3) = m ((c.tc : Thread Cert.KernelRnnBwdIdeal.nD Cert.KernelRnnBwdIdeal.τ).loc Cert.KernelRnnBwdIdeal.main_arg3)
          ∧ r.2.mem ((c.tc : Thread Cert.KernelRnnBwdIdeal.nD Cert.KernelRnnBwdIdeal.τ).loc Cert.KernelRnnBwdIdeal.main_arg4) = m ((c.tc : Thread Cert.KernelRnnBwdIdeal.nD Cert.KernelRnnBwdIdeal.τ).loc Cert.KernelRnnBwdIdeal.main_arg4)
          ∧ r.2.mem ((c.tc : Thread Cert.KernelRnnBwdIdeal.nD Cert.KernelRnnBwdIdeal.τ).loc Cert.KernelRnnBwdIdeal.main_arg5) = m ((c.tc : Thread Cert.KernelRnnBwdIdeal.nD Cert.KernelRnnBwdIdeal.τ).loc Cert.KernelRnnBwdIdeal.main_arg5)
          ∧ r.2.mem ((c.tc : Thread Cert.KernelRnnBwdIdeal.nD Cert.KernelRnnBwdIdeal.τ).loc Cert.KernelRnnBwdIdeal.main_arg6) = m ((c.tc : Thread Cert.KernelRnnBwdIdeal.nD Cert.KernelRnnBwdIdeal.τ).loc Cert.KernelRnnBwdIdeal.main_arg6)
          ∧ r.2.mem ((c.tc : Thread Cert.KernelRnnBwdIdeal.nD Cert.KernelRnnBwdIdeal.τ).loc Cert.KernelRnnBwdIdeal.main_arg7) = m ((c.tc : Thread Cert.KernelRnnBwdIdeal.nD Cert.KernelRnnBwdIdeal.τ).loc Cert.KernelRnnBwdIdeal.main_arg7)
          ∧ r.2.mem ((c.tc : Thread Cert.KernelRnnBwdIdeal.nD Cert.KernelRnnBwdIdeal.τ).loc Cert.KernelRnnBwdIdeal.main_arg8) = m ((c.tc : Thread Cert.KernelRnnBwdIdeal.nD Cert.KernelRnnBwdIdeal.τ).loc Cert.KernelRnnBwdIdeal.main_arg8))
      ∧ θ_run (Cert.ReferenceRnnBwdIdeal.defs (F := Ideal)) (onTc (τ := Cert.ReferenceRnnBwdIdeal.τ) (Cert.ReferenceRnnBwdIdeal.main (F := Ideal))) ⟨m', fun _ => 0, g'⟩ (fun r => ∀ c : Dev Cert.ReferenceRnnBwdIdeal.nD,
          r.2.mem ((c.tc : Thread Cert.ReferenceRnnBwdIdeal.nD Cert.ReferenceRnnBwdIdeal.τ).loc Cert.ReferenceRnnBwdIdeal.main_v819) = v0 c
          ∧ r.2.mem ((c.tc : Thread Cert.ReferenceRnnBwdIdeal.nD Cert.ReferenceRnnBwdIdeal.τ).loc Cert.ReferenceRnnBwdIdeal.main_v825) = v1 c
          ∧ r.2.mem ((c.tc : Thread Cert.ReferenceRnnBwdIdeal.nD Cert.ReferenceRnnBwdIdeal.τ).loc Cert.ReferenceRnnBwdIdeal.main_v769) = v2 c
          ∧ r.2.mem ((c.tc : Thread Cert.ReferenceRnnBwdIdeal.nD Cert.ReferenceRnnBwdIdeal.τ).loc Cert.ReferenceRnnBwdIdeal.main_v757) = v3 c
          ∧ r.2.mem ((c.tc : Thread Cert.ReferenceRnnBwdIdeal.nD Cert.ReferenceRnnBwdIdeal.τ).loc Cert.ReferenceRnnBwdIdeal.main_arg0) = m' ((c.tc : Thread Cert.ReferenceRnnBwdIdeal.nD Cert.ReferenceRnnBwdIdeal.τ).loc Cert.ReferenceRnnBwdIdeal.main_arg0)
          ∧ r.2.mem ((c.tc : Thread Cert.ReferenceRnnBwdIdeal.nD Cert.ReferenceRnnBwdIdeal.τ).loc Cert.ReferenceRnnBwdIdeal.main_arg1) = m' ((c.tc : Thread Cert.ReferenceRnnBwdIdeal.nD Cert.ReferenceRnnBwdIdeal.τ).loc Cert.ReferenceRnnBwdIdeal.main_arg1)
          ∧ r.2.mem ((c.tc : Thread Cert.ReferenceRnnBwdIdeal.nD Cert.ReferenceRnnBwdIdeal.τ).loc Cert.ReferenceRnnBwdIdeal.main_arg2) = m' ((c.tc : Thread Cert.ReferenceRnnBwdIdeal.nD Cert.ReferenceRnnBwdIdeal.τ).loc Cert.ReferenceRnnBwdIdeal.main_arg2)
          ∧ r.2.mem ((c.tc : Thread Cert.ReferenceRnnBwdIdeal.nD Cert.ReferenceRnnBwdIdeal.τ).loc Cert.ReferenceRnnBwdIdeal.main_arg3) = m' ((c.tc : Thread Cert.ReferenceRnnBwdIdeal.nD Cert.ReferenceRnnBwdIdeal.τ).loc Cert.ReferenceRnnBwdIdeal.main_arg3)
          ∧ r.2.mem ((c.tc : Thread Cert.ReferenceRnnBwdIdeal.nD Cert.ReferenceRnnBwdIdeal.τ).loc Cert.ReferenceRnnBwdIdeal.main_arg4) = m' ((c.tc : Thread Cert.ReferenceRnnBwdIdeal.nD Cert.ReferenceRnnBwdIdeal.τ).loc Cert.ReferenceRnnBwdIdeal.main_arg4)
          ∧ r.2.mem ((c.tc : Thread Cert.ReferenceRnnBwdIdeal.nD Cert.ReferenceRnnBwdIdeal.τ).loc Cert.ReferenceRnnBwdIdeal.main_arg5) = m' ((c.tc : Thread Cert.ReferenceRnnBwdIdeal.nD Cert.ReferenceRnnBwdIdeal.τ).loc Cert.ReferenceRnnBwdIdeal.main_arg5)
          ∧ r.2.mem ((c.tc : Thread Cert.ReferenceRnnBwdIdeal.nD Cert.ReferenceRnnBwdIdeal.τ).loc Cert.ReferenceRnnBwdIdeal.main_arg6) = m' ((c.tc : Thread Cert.ReferenceRnnBwdIdeal.nD Cert.ReferenceRnnBwdIdeal.τ).loc Cert.ReferenceRnnBwdIdeal.main_arg6)
          ∧ r.2.mem ((c.tc : Thread Cert.ReferenceRnnBwdIdeal.nD Cert.ReferenceRnnBwdIdeal.τ).loc Cert.ReferenceRnnBwdIdeal.main_arg7) = m' ((c.tc : Thread Cert.ReferenceRnnBwdIdeal.nD Cert.ReferenceRnnBwdIdeal.τ).loc Cert.ReferenceRnnBwdIdeal.main_arg7)
          ∧ r.2.mem ((c.tc : Thread Cert.ReferenceRnnBwdIdeal.nD Cert.ReferenceRnnBwdIdeal.τ).loc Cert.ReferenceRnnBwdIdeal.main_arg8) = m' ((c.tc : Thread Cert.ReferenceRnnBwdIdeal.nD Cert.ReferenceRnnBwdIdeal.τ).loc Cert.ReferenceRnnBwdIdeal.main_arg8))

def preserves_KernelModUpdate_KernelModUpdateIdeal : Prop :=
  True

def algebraic_KernelModUpdateIdeal_ReferenceModUpdateIdeal [hKernelModUpdateIdeal : Cert.KernelModUpdateIdeal.Facts] [hReferenceModUpdateIdeal : Cert.ReferenceModUpdateIdeal.Facts] : Prop :=
  ∀ (m : (ℓ : Loc Cert.KernelModUpdateIdeal.nD Cert.KernelModUpdateIdeal.τ Cert.KernelModUpdateIdeal.sig) → Buf (Elt Ideal) ℓ) (g : Dev Cert.KernelModUpdateIdeal.nD → PrngReg)
    (m' : (ℓ : Loc Cert.ReferenceModUpdateIdeal.nD Cert.ReferenceModUpdateIdeal.τ Cert.ReferenceModUpdateIdeal.sig) → Buf (Elt Ideal) ℓ) (g' : Dev Cert.ReferenceModUpdateIdeal.nD → PrngReg), Pre_KernelModUpdateIdeal m →
    (∀ c : Dev Cert.KernelModUpdateIdeal.nD,
      m' ((c.tc : Thread Cert.ReferenceModUpdateIdeal.nD Cert.ReferenceModUpdateIdeal.τ).loc Cert.ReferenceModUpdateIdeal.main_arg0) = m ((c.tc : Thread Cert.KernelModUpdateIdeal.nD Cert.KernelModUpdateIdeal.τ).loc Cert.KernelModUpdateIdeal.main_arg0)
      ∧ m' ((c.tc : Thread Cert.ReferenceModUpdateIdeal.nD Cert.ReferenceModUpdateIdeal.τ).loc Cert.ReferenceModUpdateIdeal.main_arg1) = m ((c.tc : Thread Cert.KernelModUpdateIdeal.nD Cert.KernelModUpdateIdeal.τ).loc Cert.KernelModUpdateIdeal.main_arg1)
      ∧ m' ((c.tc : Thread Cert.ReferenceModUpdateIdeal.nD Cert.ReferenceModUpdateIdeal.τ).loc Cert.ReferenceModUpdateIdeal.main_arg2) = m ((c.tc : Thread Cert.KernelModUpdateIdeal.nD Cert.KernelModUpdateIdeal.τ).loc Cert.KernelModUpdateIdeal.main_arg2)
      ∧ m' ((c.tc : Thread Cert.ReferenceModUpdateIdeal.nD Cert.ReferenceModUpdateIdeal.τ).loc Cert.ReferenceModUpdateIdeal.main_arg3) = m ((c.tc : Thread Cert.KernelModUpdateIdeal.nD Cert.KernelModUpdateIdeal.τ).loc Cert.KernelModUpdateIdeal.main_arg3)
      ∧ m' ((c.tc : Thread Cert.ReferenceModUpdateIdeal.nD Cert.ReferenceModUpdateIdeal.τ).loc Cert.ReferenceModUpdateIdeal.main_arg4) = m ((c.tc : Thread Cert.KernelModUpdateIdeal.nD Cert.KernelModUpdateIdeal.τ).loc Cert.KernelModUpdateIdeal.main_arg4)) →
    ∃ (v0 : (c : Dev Cert.KernelModUpdateIdeal.nD) → Buf (Elt Ideal) ((c.tc : Thread Cert.KernelModUpdateIdeal.nD Cert.KernelModUpdateIdeal.τ).loc Cert.KernelModUpdateIdeal.main_v1_0)) (v1 : (c : Dev Cert.KernelModUpdateIdeal.nD) → Buf (Elt Ideal) ((c.tc : Thread Cert.KernelModUpdateIdeal.nD Cert.KernelModUpdateIdeal.τ).loc Cert.KernelModUpdateIdeal.main_v1_1)) (v2 : (c : Dev Cert.KernelModUpdateIdeal.nD) → Buf (Elt Ideal) ((c.tc : Thread Cert.KernelModUpdateIdeal.nD Cert.KernelModUpdateIdeal.τ).loc Cert.KernelModUpdateIdeal.main_v1_2)) (v3 : (c : Dev Cert.KernelModUpdateIdeal.nD) → Buf (Elt Ideal) ((c.tc : Thread Cert.KernelModUpdateIdeal.nD Cert.KernelModUpdateIdeal.τ).loc Cert.KernelModUpdateIdeal.main_v1_3)),
      θ_run (Cert.KernelModUpdateIdeal.defs (F := Ideal)) (onTc (τ := Cert.KernelModUpdateIdeal.τ) (Cert.KernelModUpdateIdeal.main (F := Ideal))) ⟨m, fun _ => 0, g⟩ (fun r => ∀ c : Dev Cert.KernelModUpdateIdeal.nD,
          r.2.mem ((c.tc : Thread Cert.KernelModUpdateIdeal.nD Cert.KernelModUpdateIdeal.τ).loc Cert.KernelModUpdateIdeal.main_v1_0) = v0 c
          ∧ r.2.mem ((c.tc : Thread Cert.KernelModUpdateIdeal.nD Cert.KernelModUpdateIdeal.τ).loc Cert.KernelModUpdateIdeal.main_v1_1) = v1 c
          ∧ r.2.mem ((c.tc : Thread Cert.KernelModUpdateIdeal.nD Cert.KernelModUpdateIdeal.τ).loc Cert.KernelModUpdateIdeal.main_v1_2) = v2 c
          ∧ r.2.mem ((c.tc : Thread Cert.KernelModUpdateIdeal.nD Cert.KernelModUpdateIdeal.τ).loc Cert.KernelModUpdateIdeal.main_v1_3) = v3 c
          ∧ r.2.mem ((c.tc : Thread Cert.KernelModUpdateIdeal.nD Cert.KernelModUpdateIdeal.τ).loc Cert.KernelModUpdateIdeal.main_arg0) = m ((c.tc : Thread Cert.KernelModUpdateIdeal.nD Cert.KernelModUpdateIdeal.τ).loc Cert.KernelModUpdateIdeal.main_arg0)
          ∧ r.2.mem ((c.tc : Thread Cert.KernelModUpdateIdeal.nD Cert.KernelModUpdateIdeal.τ).loc Cert.KernelModUpdateIdeal.main_arg1) = m ((c.tc : Thread Cert.KernelModUpdateIdeal.nD Cert.KernelModUpdateIdeal.τ).loc Cert.KernelModUpdateIdeal.main_arg1)
          ∧ r.2.mem ((c.tc : Thread Cert.KernelModUpdateIdeal.nD Cert.KernelModUpdateIdeal.τ).loc Cert.KernelModUpdateIdeal.main_arg2) = m ((c.tc : Thread Cert.KernelModUpdateIdeal.nD Cert.KernelModUpdateIdeal.τ).loc Cert.KernelModUpdateIdeal.main_arg2)
          ∧ r.2.mem ((c.tc : Thread Cert.KernelModUpdateIdeal.nD Cert.KernelModUpdateIdeal.τ).loc Cert.KernelModUpdateIdeal.main_arg3) = m ((c.tc : Thread Cert.KernelModUpdateIdeal.nD Cert.KernelModUpdateIdeal.τ).loc Cert.KernelModUpdateIdeal.main_arg3)
          ∧ r.2.mem ((c.tc : Thread Cert.KernelModUpdateIdeal.nD Cert.KernelModUpdateIdeal.τ).loc Cert.KernelModUpdateIdeal.main_arg4) = m ((c.tc : Thread Cert.KernelModUpdateIdeal.nD Cert.KernelModUpdateIdeal.τ).loc Cert.KernelModUpdateIdeal.main_arg4))
      ∧ θ_run (Cert.ReferenceModUpdateIdeal.defs (F := Ideal)) (onTc (τ := Cert.ReferenceModUpdateIdeal.τ) (Cert.ReferenceModUpdateIdeal.main (F := Ideal))) ⟨m', fun _ => 0, g'⟩ (fun r => ∀ c : Dev Cert.ReferenceModUpdateIdeal.nD,
          r.2.mem ((c.tc : Thread Cert.ReferenceModUpdateIdeal.nD Cert.ReferenceModUpdateIdeal.τ).loc Cert.ReferenceModUpdateIdeal.main_v3) = v0 c
          ∧ r.2.mem ((c.tc : Thread Cert.ReferenceModUpdateIdeal.nD Cert.ReferenceModUpdateIdeal.τ).loc Cert.ReferenceModUpdateIdeal.main_v27) = v1 c
          ∧ r.2.mem ((c.tc : Thread Cert.ReferenceModUpdateIdeal.nD Cert.ReferenceModUpdateIdeal.τ).loc Cert.ReferenceModUpdateIdeal.main_v8) = v2 c
          ∧ r.2.mem ((c.tc : Thread Cert.ReferenceModUpdateIdeal.nD Cert.ReferenceModUpdateIdeal.τ).loc Cert.ReferenceModUpdateIdeal.main_v14) = v3 c
          ∧ r.2.mem ((c.tc : Thread Cert.ReferenceModUpdateIdeal.nD Cert.ReferenceModUpdateIdeal.τ).loc Cert.ReferenceModUpdateIdeal.main_arg0) = m' ((c.tc : Thread Cert.ReferenceModUpdateIdeal.nD Cert.ReferenceModUpdateIdeal.τ).loc Cert.ReferenceModUpdateIdeal.main_arg0)
          ∧ r.2.mem ((c.tc : Thread Cert.ReferenceModUpdateIdeal.nD Cert.ReferenceModUpdateIdeal.τ).loc Cert.ReferenceModUpdateIdeal.main_arg1) = m' ((c.tc : Thread Cert.ReferenceModUpdateIdeal.nD Cert.ReferenceModUpdateIdeal.τ).loc Cert.ReferenceModUpdateIdeal.main_arg1)
          ∧ r.2.mem ((c.tc : Thread Cert.ReferenceModUpdateIdeal.nD Cert.ReferenceModUpdateIdeal.τ).loc Cert.ReferenceModUpdateIdeal.main_arg2) = m' ((c.tc : Thread Cert.ReferenceModUpdateIdeal.nD Cert.ReferenceModUpdateIdeal.τ).loc Cert.ReferenceModUpdateIdeal.main_arg2)
          ∧ r.2.mem ((c.tc : Thread Cert.ReferenceModUpdateIdeal.nD Cert.ReferenceModUpdateIdeal.τ).loc Cert.ReferenceModUpdateIdeal.main_arg3) = m' ((c.tc : Thread Cert.ReferenceModUpdateIdeal.nD Cert.ReferenceModUpdateIdeal.τ).loc Cert.ReferenceModUpdateIdeal.main_arg3)
          ∧ r.2.mem ((c.tc : Thread Cert.ReferenceModUpdateIdeal.nD Cert.ReferenceModUpdateIdeal.τ).loc Cert.ReferenceModUpdateIdeal.main_arg4) = m' ((c.tc : Thread Cert.ReferenceModUpdateIdeal.nD Cert.ReferenceModUpdateIdeal.τ).loc Cert.ReferenceModUpdateIdeal.main_arg4))

def preserves_KernelTableSum_KernelTableSumIdeal : Prop :=
  True

def algebraic_KernelTableSumIdeal_ReferenceTableSumIdeal [hKernelTableSumIdeal : Cert.KernelTableSumIdeal.Facts] [hReferenceTableSumIdeal : Cert.ReferenceTableSumIdeal.Facts] : Prop :=
  ∀ (m : (ℓ : Loc Cert.KernelTableSumIdeal.nD Cert.KernelTableSumIdeal.τ Cert.KernelTableSumIdeal.sig) → Buf (Elt Ideal) ℓ) (g : Dev Cert.KernelTableSumIdeal.nD → PrngReg)
    (m' : (ℓ : Loc Cert.ReferenceTableSumIdeal.nD Cert.ReferenceTableSumIdeal.τ Cert.ReferenceTableSumIdeal.sig) → Buf (Elt Ideal) ℓ) (g' : Dev Cert.ReferenceTableSumIdeal.nD → PrngReg), Pre_KernelTableSumIdeal m →
    (∀ c : Dev Cert.KernelTableSumIdeal.nD,
      m' ((c.tc : Thread Cert.ReferenceTableSumIdeal.nD Cert.ReferenceTableSumIdeal.τ).loc Cert.ReferenceTableSumIdeal.main_arg0) = m ((c.tc : Thread Cert.KernelTableSumIdeal.nD Cert.KernelTableSumIdeal.τ).loc Cert.KernelTableSumIdeal.main_arg0)
      ∧ m' ((c.tc : Thread Cert.ReferenceTableSumIdeal.nD Cert.ReferenceTableSumIdeal.τ).loc Cert.ReferenceTableSumIdeal.main_arg1) = m ((c.tc : Thread Cert.KernelTableSumIdeal.nD Cert.KernelTableSumIdeal.τ).loc Cert.KernelTableSumIdeal.main_arg1)) →
    ∃ (v0 : (c : Dev Cert.KernelTableSumIdeal.nD) → Buf (Elt Ideal) ((c.tc : Thread Cert.KernelTableSumIdeal.nD Cert.KernelTableSumIdeal.τ).loc Cert.KernelTableSumIdeal.main_v0_0)) (v1 : (c : Dev Cert.KernelTableSumIdeal.nD) → Buf (Elt Ideal) ((c.tc : Thread Cert.KernelTableSumIdeal.nD Cert.KernelTableSumIdeal.τ).loc Cert.KernelTableSumIdeal.main_v0_1)),
      θ_run (Cert.KernelTableSumIdeal.defs (F := Ideal)) (onTc (τ := Cert.KernelTableSumIdeal.τ) (Cert.KernelTableSumIdeal.main (F := Ideal))) ⟨m, fun _ => 0, g⟩ (fun r => ∀ c : Dev Cert.KernelTableSumIdeal.nD,
          r.2.mem ((c.tc : Thread Cert.KernelTableSumIdeal.nD Cert.KernelTableSumIdeal.τ).loc Cert.KernelTableSumIdeal.main_v0_0) = v0 c
          ∧ r.2.mem ((c.tc : Thread Cert.KernelTableSumIdeal.nD Cert.KernelTableSumIdeal.τ).loc Cert.KernelTableSumIdeal.main_v0_1) = v1 c
          ∧ r.2.mem ((c.tc : Thread Cert.KernelTableSumIdeal.nD Cert.KernelTableSumIdeal.τ).loc Cert.KernelTableSumIdeal.main_arg0) = m ((c.tc : Thread Cert.KernelTableSumIdeal.nD Cert.KernelTableSumIdeal.τ).loc Cert.KernelTableSumIdeal.main_arg0)
          ∧ r.2.mem ((c.tc : Thread Cert.KernelTableSumIdeal.nD Cert.KernelTableSumIdeal.τ).loc Cert.KernelTableSumIdeal.main_arg1) = m ((c.tc : Thread Cert.KernelTableSumIdeal.nD Cert.KernelTableSumIdeal.τ).loc Cert.KernelTableSumIdeal.main_arg1))
      ∧ θ_run (Cert.ReferenceTableSumIdeal.defs (F := Ideal)) (onTc (τ := Cert.ReferenceTableSumIdeal.τ) (Cert.ReferenceTableSumIdeal.main (F := Ideal))) ⟨m', fun _ => 0, g'⟩ (fun r => ∀ c : Dev Cert.ReferenceTableSumIdeal.nD,
          r.2.mem ((c.tc : Thread Cert.ReferenceTableSumIdeal.nD Cert.ReferenceTableSumIdeal.τ).loc Cert.ReferenceTableSumIdeal.main_v0) = v0 c
          ∧ r.2.mem ((c.tc : Thread Cert.ReferenceTableSumIdeal.nD Cert.ReferenceTableSumIdeal.τ).loc Cert.ReferenceTableSumIdeal.main_v1) = v1 c
          ∧ r.2.mem ((c.tc : Thread Cert.ReferenceTableSumIdeal.nD Cert.ReferenceTableSumIdeal.τ).loc Cert.ReferenceTableSumIdeal.main_arg0) = m' ((c.tc : Thread Cert.ReferenceTableSumIdeal.nD Cert.ReferenceTableSumIdeal.τ).loc Cert.ReferenceTableSumIdeal.main_arg0)
          ∧ r.2.mem ((c.tc : Thread Cert.ReferenceTableSumIdeal.nD Cert.ReferenceTableSumIdeal.τ).loc Cert.ReferenceTableSumIdeal.main_arg1) = m' ((c.tc : Thread Cert.ReferenceTableSumIdeal.nD Cert.ReferenceTableSumIdeal.τ).loc Cert.ReferenceTableSumIdeal.main_arg1))

def Claim : Prop :=
  ∃ (hKernelFfnIn : Cert.KernelFfnIn.Facts) (hKernelFfnInIdeal : Cert.KernelFfnInIdeal.Facts) (hReferenceFfnInIdeal : Cert.ReferenceFfnInIdeal.Facts) (hKernelConv : Cert.KernelConv.Facts) (hKernelConvIdeal : Cert.KernelConvIdeal.Facts) (hReferenceConvIdeal : Cert.ReferenceConvIdeal.Facts) (hKernelMixOut : Cert.KernelMixOut.Facts) (hKernelMixOutIdeal : Cert.KernelMixOutIdeal.Facts) (hReferenceMixOutIdeal : Cert.ReferenceMixOutIdeal.Facts) (hKernelSwiglu : Cert.KernelSwiglu.Facts) (hKernelSwigluIdeal : Cert.KernelSwigluIdeal.Facts) (hReferenceSwigluIdeal : Cert.ReferenceSwigluIdeal.Facts) (hKernelMixIn : Cert.KernelMixIn.Facts) (hKernelMixInIdeal : Cert.KernelMixInIdeal.Facts) (hReferenceMixInIdeal : Cert.ReferenceMixInIdeal.Facts) (hKernelMixInFwd : Cert.KernelMixInFwd.Facts) (hKernelMixInFwdIdeal : Cert.KernelMixInFwdIdeal.Facts) (hReferenceMixInFwdIdeal : Cert.ReferenceMixInFwdIdeal.Facts) (hKernelConvFwd : Cert.KernelConvFwd.Facts) (hKernelConvFwdIdeal : Cert.KernelConvFwdIdeal.Facts) (hReferenceConvFwdIdeal : Cert.ReferenceConvFwdIdeal.Facts) (hKernelMixOutFwd : Cert.KernelMixOutFwd.Facts) (hKernelMixOutFwdIdeal : Cert.KernelMixOutFwdIdeal.Facts) (hReferenceMixOutFwdIdeal : Cert.ReferenceMixOutFwdIdeal.Facts) (hKernelRnnFwd : Cert.KernelRnnFwd.Facts) (hKernelRnnFwdIdeal : Cert.KernelRnnFwdIdeal.Facts) (hReferenceRnnFwdIdeal : Cert.ReferenceRnnFwdIdeal.Facts) (hKernelRnnBwd : Cert.KernelRnnBwd.Facts) (hKernelRnnBwdIdeal : Cert.KernelRnnBwdIdeal.Facts) (hReferenceRnnBwdIdeal : Cert.ReferenceRnnBwdIdeal.Facts) (hKernelModUpdate : Cert.KernelModUpdate.Facts) (hKernelModUpdateIdeal : Cert.KernelModUpdateIdeal.Facts) (hReferenceModUpdateIdeal : Cert.ReferenceModUpdateIdeal.Facts) (hKernelTableSum : Cert.KernelTableSum.Facts) (hKernelTableSumIdeal : Cert.KernelTableSumIdeal.Facts) (hReferenceTableSumIdeal : Cert.ReferenceTableSumIdeal.Facts) (hPre_ffn_in_finite : Cert.Pre_ffn_in_finite.Facts) (hPre_mixout_finite : Cert.Pre_mixout_finite.Facts) (hPre_swiglu_finite : Cert.Pre_swiglu_finite.Facts) (hPre_mixin_finite : Cert.Pre_mixin_finite.Facts) (hPre_rnn_far : Cert.Pre_rnn_far.Facts) (hPre_rnn_back_far : Cert.Pre_rnn_back_far.Facts),
    quiescent_KernelFfnIn (hKernelFfnIn := hKernelFfnIn)
    ∧ quiescent_KernelFfnInIdeal (hKernelFfnInIdeal := hKernelFfnInIdeal)
    ∧ quiescent_KernelFfnInIdeal_pre_ffn_in_finite (hKernelFfnInIdeal := hKernelFfnInIdeal) (hPre_ffn_in_finite := hPre_ffn_in_finite)
    ∧ quiescent_ReferenceFfnInIdeal (hReferenceFfnInIdeal := hReferenceFfnInIdeal)
    ∧ quiescent_ReferenceFfnInIdeal_pre_ffn_in_finite (hReferenceFfnInIdeal := hReferenceFfnInIdeal) (hPre_ffn_in_finite := hPre_ffn_in_finite)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelMixOut (hKernelMixOut := hKernelMixOut)
    ∧ quiescent_KernelMixOutIdeal (hKernelMixOutIdeal := hKernelMixOutIdeal)
    ∧ quiescent_KernelMixOutIdeal_pre_mixout_finite (hKernelMixOutIdeal := hKernelMixOutIdeal) (hPre_mixout_finite := hPre_mixout_finite)
    ∧ quiescent_ReferenceMixOutIdeal (hReferenceMixOutIdeal := hReferenceMixOutIdeal)
    ∧ quiescent_ReferenceMixOutIdeal_pre_mixout_finite (hReferenceMixOutIdeal := hReferenceMixOutIdeal) (hPre_mixout_finite := hPre_mixout_finite)
    ∧ quiescent_KernelSwiglu (hKernelSwiglu := hKernelSwiglu)
    ∧ quiescent_KernelSwigluIdeal (hKernelSwigluIdeal := hKernelSwigluIdeal)
    ∧ quiescent_KernelSwigluIdeal_pre_swiglu_finite (hKernelSwigluIdeal := hKernelSwigluIdeal) (hPre_swiglu_finite := hPre_swiglu_finite)
    ∧ quiescent_ReferenceSwigluIdeal (hReferenceSwigluIdeal := hReferenceSwigluIdeal)
    ∧ quiescent_ReferenceSwigluIdeal_pre_swiglu_finite (hReferenceSwigluIdeal := hReferenceSwigluIdeal) (hPre_swiglu_finite := hPre_swiglu_finite)
    ∧ quiescent_KernelMixIn (hKernelMixIn := hKernelMixIn)
    ∧ quiescent_KernelMixInIdeal (hKernelMixInIdeal := hKernelMixInIdeal)
    ∧ quiescent_KernelMixInIdeal_pre_mixin_finite (hKernelMixInIdeal := hKernelMixInIdeal) (hPre_mixin_finite := hPre_mixin_finite)
    ∧ quiescent_ReferenceMixInIdeal (hReferenceMixInIdeal := hReferenceMixInIdeal)
    ∧ quiescent_ReferenceMixInIdeal_pre_mixin_finite (hReferenceMixInIdeal := hReferenceMixInIdeal) (hPre_mixin_finite := hPre_mixin_finite)
    ∧ quiescent_KernelMixInFwd (hKernelMixInFwd := hKernelMixInFwd)
    ∧ quiescent_KernelMixInFwdIdeal (hKernelMixInFwdIdeal := hKernelMixInFwdIdeal)
    ∧ quiescent_ReferenceMixInFwdIdeal (hReferenceMixInFwdIdeal := hReferenceMixInFwdIdeal)
    ∧ quiescent_KernelConvFwd (hKernelConvFwd := hKernelConvFwd)
    ∧ quiescent_KernelConvFwdIdeal (hKernelConvFwdIdeal := hKernelConvFwdIdeal)
    ∧ quiescent_ReferenceConvFwdIdeal (hReferenceConvFwdIdeal := hReferenceConvFwdIdeal)
    ∧ quiescent_KernelMixOutFwd (hKernelMixOutFwd := hKernelMixOutFwd)
    ∧ quiescent_KernelMixOutFwdIdeal (hKernelMixOutFwdIdeal := hKernelMixOutFwdIdeal)
    ∧ quiescent_ReferenceMixOutFwdIdeal (hReferenceMixOutFwdIdeal := hReferenceMixOutFwdIdeal)
    ∧ quiescent_KernelRnnFwd (hKernelRnnFwd := hKernelRnnFwd)
    ∧ quiescent_KernelRnnFwdIdeal (hKernelRnnFwdIdeal := hKernelRnnFwdIdeal)
    ∧ quiescent_KernelRnnFwdIdeal_pre_rnn_far (hKernelRnnFwdIdeal := hKernelRnnFwdIdeal) (hPre_rnn_far := hPre_rnn_far)
    ∧ quiescent_ReferenceRnnFwdIdeal (hReferenceRnnFwdIdeal := hReferenceRnnFwdIdeal)
    ∧ quiescent_ReferenceRnnFwdIdeal_pre_rnn_far (hReferenceRnnFwdIdeal := hReferenceRnnFwdIdeal) (hPre_rnn_far := hPre_rnn_far)
    ∧ quiescent_KernelRnnBwd (hKernelRnnBwd := hKernelRnnBwd)
    ∧ quiescent_KernelRnnBwdIdeal (hKernelRnnBwdIdeal := hKernelRnnBwdIdeal)
    ∧ quiescent_KernelRnnBwdIdeal_pre_rnn_back_far (hKernelRnnBwdIdeal := hKernelRnnBwdIdeal) (hPre_rnn_back_far := hPre_rnn_back_far)
    ∧ quiescent_ReferenceRnnBwdIdeal (hReferenceRnnBwdIdeal := hReferenceRnnBwdIdeal)
    ∧ quiescent_ReferenceRnnBwdIdeal_pre_rnn_back_far (hReferenceRnnBwdIdeal := hReferenceRnnBwdIdeal) (hPre_rnn_back_far := hPre_rnn_back_far)
    ∧ quiescent_KernelModUpdate (hKernelModUpdate := hKernelModUpdate)
    ∧ quiescent_KernelModUpdateIdeal (hKernelModUpdateIdeal := hKernelModUpdateIdeal)
    ∧ quiescent_ReferenceModUpdateIdeal (hReferenceModUpdateIdeal := hReferenceModUpdateIdeal)
    ∧ quiescent_KernelTableSum (hKernelTableSum := hKernelTableSum)
    ∧ quiescent_KernelTableSumIdeal (hKernelTableSumIdeal := hKernelTableSumIdeal)
    ∧ quiescent_ReferenceTableSumIdeal (hReferenceTableSumIdeal := hReferenceTableSumIdeal)
    ∧ preserves_KernelFfnIn_KernelFfnInIdeal
    ∧ algebraic_KernelFfnInIdeal_ReferenceFfnInIdeal_pre_ffn_in_finite (hKernelFfnInIdeal := hKernelFfnInIdeal) (hReferenceFfnInIdeal := hReferenceFfnInIdeal) (hPre_ffn_in_finite := hPre_ffn_in_finite)
    ∧ preserves_KernelConv_KernelConvIdeal
    ∧ algebraic_KernelConvIdeal_ReferenceConvIdeal (hKernelConvIdeal := hKernelConvIdeal) (hReferenceConvIdeal := hReferenceConvIdeal)
    ∧ preserves_KernelMixOut_KernelMixOutIdeal
    ∧ algebraic_KernelMixOutIdeal_ReferenceMixOutIdeal_pre_mixout_finite (hKernelMixOutIdeal := hKernelMixOutIdeal) (hReferenceMixOutIdeal := hReferenceMixOutIdeal) (hPre_mixout_finite := hPre_mixout_finite)
    ∧ preserves_KernelSwiglu_KernelSwigluIdeal
    ∧ algebraic_KernelSwigluIdeal_ReferenceSwigluIdeal_pre_swiglu_finite (hKernelSwigluIdeal := hKernelSwigluIdeal) (hReferenceSwigluIdeal := hReferenceSwigluIdeal) (hPre_swiglu_finite := hPre_swiglu_finite)
    ∧ preserves_KernelMixIn_KernelMixInIdeal
    ∧ algebraic_KernelMixInIdeal_ReferenceMixInIdeal_pre_mixin_finite (hKernelMixInIdeal := hKernelMixInIdeal) (hReferenceMixInIdeal := hReferenceMixInIdeal) (hPre_mixin_finite := hPre_mixin_finite)
    ∧ preserves_KernelMixInFwd_KernelMixInFwdIdeal
    ∧ algebraic_KernelMixInFwdIdeal_ReferenceMixInFwdIdeal (hKernelMixInFwdIdeal := hKernelMixInFwdIdeal) (hReferenceMixInFwdIdeal := hReferenceMixInFwdIdeal)
    ∧ preserves_KernelConvFwd_KernelConvFwdIdeal
    ∧ algebraic_KernelConvFwdIdeal_ReferenceConvFwdIdeal (hKernelConvFwdIdeal := hKernelConvFwdIdeal) (hReferenceConvFwdIdeal := hReferenceConvFwdIdeal)
    ∧ preserves_KernelMixOutFwd_KernelMixOutFwdIdeal
    ∧ algebraic_KernelMixOutFwdIdeal_ReferenceMixOutFwdIdeal (hKernelMixOutFwdIdeal := hKernelMixOutFwdIdeal) (hReferenceMixOutFwdIdeal := hReferenceMixOutFwdIdeal)
    ∧ preserves_KernelRnnFwd_KernelRnnFwdIdeal
    ∧ algebraic_KernelRnnFwdIdeal_ReferenceRnnFwdIdeal_pre_rnn_far (hKernelRnnFwdIdeal := hKernelRnnFwdIdeal) (hReferenceRnnFwdIdeal := hReferenceRnnFwdIdeal) (hPre_rnn_far := hPre_rnn_far)
    ∧ preserves_KernelRnnBwd_KernelRnnBwdIdeal
    ∧ algebraic_KernelRnnBwdIdeal_ReferenceRnnBwdIdeal_pre_rnn_back_far (hKernelRnnBwdIdeal := hKernelRnnBwdIdeal) (hReferenceRnnBwdIdeal := hReferenceRnnBwdIdeal) (hPre_rnn_back_far := hPre_rnn_back_far)
    ∧ preserves_KernelModUpdate_KernelModUpdateIdeal
    ∧ algebraic_KernelModUpdateIdeal_ReferenceModUpdateIdeal (hKernelModUpdateIdeal := hKernelModUpdateIdeal) (hReferenceModUpdateIdeal := hReferenceModUpdateIdeal)
    ∧ preserves_KernelTableSum_KernelTableSumIdeal
    ∧ algebraic_KernelTableSumIdeal_ReferenceTableSumIdeal (hKernelTableSumIdeal := hKernelTableSumIdeal) (hReferenceTableSumIdeal := hReferenceTableSumIdeal)
-- ==== Pre_ffn_in_finite.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1024 .f32) (main_arg2 : FVec F S1024 .f32) (main_arg3 : FVec F S1024 .f32) (main_arg4 : FVec F S1024x5632 .f32) (main_arg5 : FVec F S4096x1024 .f32) (main_arg6 : FVec F S4096x5632 .f32) : IVec S4096x1024 1 × IVec S1024 1 × IVec S1024 1 × IVec S1024x5632 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg4
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S4096x5632 .f32 := Host.absf main_arg6
  let main_cst_3 : FVec F S_ .f32 := constant S_ .f32 0x7F800000#32
  let main_v13 : FVec F S4096x5632 .f32 := broadcastInDim S4096x5632 ![] bcast_S_S4096x5632 main_cst_3
  let main_v14 : IVec S4096x5632 1 := cmpf .olt main_v12 main_v13
  (main_v2, main_v5, main_v8, main_v11, main_v14)
-- ==== Pre_mixin_finite.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S1024 .f32) (main_arg2 : FVec F S1024 .f32) (main_arg3 : FVec F S1024 .f32) (main_arg4 : FVec F S1024x2048 .f32) (main_arg5 : FVec F S4096x1024 .f32) (main_arg6 : FVec F S1024 .f32) (main_arg7 : FVec F S4096x1024 .f32) (main_arg8 : FVec F S4096x2048 .f32) : IVec S1024 1 × IVec S1024 1 × IVec S1024x2048 1 × IVec S4096x2048 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg3
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg4
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S4096x2048 .f32 := Host.absf main_arg8
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_mixout_finite.lean ====
abbrev S4096x512 : Shape := ⟨2, ![4096, 512]⟩
abbrev S4096x2048 : Shape := ⟨2, ![4096, 2048]⟩
abbrev S512 : Shape := ⟨1, ![512]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S4096x2048 : S_.BroadcastsInDim S4096x2048 (![] : Fin 0 → Fin S4096x2048.rank)
  bcast_S_S512 : S_.BroadcastsInDim S512 (![] : Fin 0 → Fin S512.rank)
  bcast_S_S1024x1024 : S_.BroadcastsInDim S1024x1024 (![] : Fin 0 → Fin S1024x1024.rank)
  bcast_S_S1024 : S_.BroadcastsInDim S1024 (![] : Fin 0 → Fin S1024.rank)
  bcast_S_S4096x1024 : S_.BroadcastsInDim S4096x1024 (![] : Fin 0 → Fin S4096x1024.rank)

variable [Facts]

def fn_part1 {F : FTy → Type} [FloatOps F] (main_arg6 : FVec F S1024 .f32) (main_arg7 : FVec F S4096x1024 .f32) (main_v2 : IVec S4096x512 1) (main_v5 : IVec S4096x512 1) (main_v8 : IVec S4096x2048 1) (main_v11 : IVec S512 1) (main_v14 : IVec S512 1) (main_v17 : IVec S1024x1024 1) : IVec S4096x512 1 × IVec S4096x512 1 × IVec S4096x2048 1 × IVec S512 1 × IVec S512 1 × IVec S1024x1024 1 × IVec S1024 1 × IVec S4096x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x512 .f32) (main_arg1 : FVec F S4096x512 .f32) (main_arg2 : FVec F S4096x2048 .f32) (main_arg3 : FVec F S512 .f32) (main_arg4 : FVec F S512 .f32) (main_arg5 : FVec F S1024x1024 .f32) (main_arg6 : FVec F S1024 .f32) (main_arg7 : FVec F S4096x1024 .f32) : IVec S4096x512 1 × IVec S4096x512 1 × IVec S4096x2048 1 × IVec S512 1 × IVec S512 1 × IVec S1024x1024 1 × IVec S1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_v2 main_v5 main_v8 main_v11 main_v14 main_v17
-- ==== Pre_rnn_back_far.lean ====
abbrev S4096x2048 : Shape := ⟨2, ![4096, 2048]⟩
abbrev S4x512 : Shape := ⟨2, ![4, 512]⟩
abbrev S512 : Shape := ⟨1, ![512]⟩
abbrev S8x64x64 : Shape := ⟨3, ![8, 64, 64]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩
abbrev S4096x8x64 : Shape := ⟨3, ![4096, 8, 64]⟩
abbrev S8x64x4096 : Shape := ⟨3, ![8, 64, 4096]⟩

class Facts : Prop where
  slices_S4096x2048_S4096x512_0_1024 : S4096x2048.Slices ![0, 1024] S4096x512
  bcast_S_S3x512 : S_.BroadcastsInDim S3x512 (![] : Fin 0 → Fin S3x512.rank)
  concatenates_S3x512_S4096x512_S4099x512_d0 : Shape.Concatenates [S3x512, S4096x512] S4099x512 0
  slices_S4x512_S1x512_0_0 : S4x512.Slices ![0, 0] S1x512
  shapeCasts_S1x512_S512 : S1x512.ShapeCasts S512
  slices_S4099x512_S4096x512_0_0 : S4099x512.Slices ![0, 0] S4096x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  slices_S4x512_S1x512_1_0 : S4x512.Slices ![1, 0] S1x512
  slices_S4099x512_S4096x512_1_0 : S4099x512.Slices ![1, 0] S4096x512
  slices_S4x512_S1x512_2_0 : S4x512.Slices ![2, 0] S1x512
  slices_S4099x512_S4096x512_2_0 : S4099x512.Slices ![2, 0] S4096x512
  slices_S4x512_S1x512_3_0 : S4x512.Slices ![3, 0] S1x512
  slices_S4099x512_S4096x512_3_0 : S4099x512.Slices ![3, 0] S4096x512
  shapeCasts_S4096x512_S4096x8x64 : S4096x512.ShapeCasts S4096x8x64
  transposes_S8x64x4096_S4096x8x64_2_0_1 : S8x64x4096.Transposes [2, 0, 1] S4096x8x64
  shapeCasts_S4096x8x64_S4096x512 : S4096x8x64.ShapeCasts S4096x512
  bcast_S_S512 : S_.BroadcastsInDim S512 (![] : Fin 0 → Fin S512.rank)
  bcast_S_S4x512 : S_.BroadcastsInDim S4x512 (![] : Fin 0 → Fin S4x512.rank)
  bcast_S_S8x64x64 : S_.BroadcastsInDim S8x64x64 (![] : Fin 0 → Fin S8x64x64.rank)
  dot_S8x64x64_S4096x8x64_S8x64x4096_1_2_2_0_0_1_wf : DotDims.WF S8x64x64 S4096x8x64 S8x64x4096 [1] [2] [2] [0] [0] [1]

variable [Facts]

def dot_S8x64x64_S4096x8x64_S8x64x4096_1_2_2_0_0_1 : DotDims S8x64x64 S4096x8x64 S8x64x4096 where
  lhsContracting := [1]
  rhsContracting := [2]
  lhsNonContracting := [2]
  rhsNonContracting := [0]
  lhsBatch := [0]
  rhsBatch := [1]
  wf := dot_S8x64x64_S4096x8x64_S8x64x4096_1_2_2_0_0_1_wf
def fn_softplus {F : FTy → Type} [FloatOps F] (arg0 : FVec F S512 .f32) : FVec F S512 .f32 :=
  let cst : FVec F S_ .f32 := constant S_ .f32 0x00000000#32
  let v0 : FVec F S512 .f32 := broadcastInDim S512 ![] bcast_S_S512 cst
  let v1 : FVec F S512 .f32 := maximumf arg0 v0
  let v2 : FVec F S512 .f32 := broadcastInDim S512 ![] bcast_S_S512 cst
  let v3 : FVec F S512 .f32 := subf arg0 v2
  let v4 : IVec S512 1 := cmpf .une v3 v3
  let v5 : FVec F S512 .f32 := broadcastInDim S512 ![] bcast_S_S512 cst
  let v6 : FVec F S512 .f32 := addf arg0 v5
  let v7 : FVec F S512 .f32 := Host.absf v3
  let v8 : FVec F S512 .f32 := Host.negf v7
  let v9 : FVec F S512 .f32 := Host.exp v8
  let v10 : FVec F S512 .f32 := Host.log1p v9
  let v11 : FVec F S512 .f32 := addf v1 v10
  let v12 : FVec F S512 .f32 := select v4 v6 v11
  v12

def fn_log_sigmoid {F : FTy → Type} [FloatOps F] (arg0 : FVec F S512 .f32) : FVec F S512 .f32 :=
  let v0 : FVec F S512 .f32 := Host.negf arg0
  let v1 : FVec F S512 .f32 := fn_softplus (F := F) v0
  let v2 : FVec F S512 .f32 := Host.negf v1
  v2

def fn_part4 {F : FTy → Type} [FloatOps F] (main_arg8 : FVec F S4096x512 .f32) (main_v56 : IVec S4096x512 1) (main_v59 : IVec S4x512 1) (main_v62 : IVec S512 1) (main_v65 : IVec S8x64x64 1) (main_v68 : IVec S512 1) (main_v71 : IVec S8x64x64 1) (main_v74 : IVec S512 1) (main_v77 : IVec S512 1) (main_v79 : FVec F S4096x512 .f32) (main_v80 : FVec F S4096x512 .f32) : IVec S4096x512 1 × IVec S4x512 1 × IVec S512 1 × IVec S8x64x64 1 × IVec S512 1 × IVec S8x64x64 1 × IVec S512 1 × IVec S512 1 × IVec S4096x512 1 × IVec S4096x512 1 :=
  let main_v81 : IVec S4096x512 1 := cmpf .ole main_v79 main_v80
  let main_v82 : FVec F S4096x512 .f32 := Host.absf main_arg8
  let main_cst_14 : FVec F S_ .f32 := constant S_ .f32 0x7F800000#32
  let main_v83 : FVec F S4096x512 .f32 := broadcastInDim S4096x512 ![] bcast_S_S4096x512 main_cst_14
  let main_v84 : IVec S4096x512 1 := cmpf .olt main_v82 main_v83
  (main_v56, main_v59, main_v62, main_v65, main_v68, main_v71, main_v74, main_v77, main_v81, main_v84)

def fn_part3 {F : FTy → Type} [FloatOps F] (main_arg4 : FVec F S512 .f32) (main_arg5 : FVec F S8x64x64 .f32) (main_arg6 : FVec F S512 .f32) (main_arg7 : FVec F S512 .f32) (main_arg8 : FVec F S4096x512 .f32) (main_v53 : FVec F S4096x512 .f32) (main_v56 : IVec S4096x512 1) (main_v59 : IVec S4x512 1) (main_v62 : IVec S512 1) (main_v63 : FVec F S8x64x64 .f32) : IVec S4096x512 1 × IVec S4x512 1 × IVec S512 1 × IVec S8x64x64 1 × IVec S512 1 × IVec S8x64x64 1 × IVec S512 1 × IVec S512 1 × IVec S4096x512 1 × IVec S4096x512 1 :=
  let main_cst_7 : FVec F S_ .f32 := constant S_ .f32 0x7F800000#32
  let main_v64 : FVec F S8x64x64 .f32 := broadcastInDim S8x64x64 ![] bcast_S_S8x64x64 main_cst_7
  let main_v65 : IVec S8x64x64 1 := cmpf .olt main_v63 main_v64
  let main_v66 : FVec F S512 .f32 := Host.absf main_arg4
  let main_cst_8 : FVec F S_ .f32 := constant S_ .f32 0x7F800000#32
  let main_v67 : FVec F S512 .f32 := broadcastInDim S512 ![] bcast_S_S512 main_cst_8
  let main_v68 : IVec S512 1 := cmpf .olt main_v66 main_v67
  let main_v69 : FVec F S8x64x64 .f32 := Host.absf main_arg5
  let main_cst_9 : FVec F S_ .f32 := constant S_ .f32 0x7F800000#32
  let main_v70 : FVec F S8x64x64 .f32 := broadcastInDim S8x64x64 ![] bcast_S_S8x64x64 main_cst_9
  let main_v71 : IVec S8x64x64 1 := cmpf .olt main_v69 main_v70
  let main_v72 : FVec F S512 .f32 := Host.absf main_arg6
  let main_cst_10 : FVec F S_ .f32 := constant S_ .f32 0x7F800000#32
  let main_v73 : FVec F S512 .f32 := broadcastInDim S512 ![] bcast_S_S512 main_cst_10
  let main_v74 : IVec S512 1 := cmpf .olt main_v72 main_v73
  let main_v75 : FVec F S512 .f32 := Host.absf main_arg7
  let main_cst_11 : FVec F S_ .f32 := constant S_ .f32 0x7F800000#32
  let main_v76 : FVec F S512 .f32 := broadcastInDim S512 ![] bcast_S_S512 main_cst_11
  let main_v77 : IVec S512 1 := cmpf .olt main_v75 main_v76
  let main_cst_12 : FVec F S_ .f32 := constant S_ .f32 0x40000000#32
  let main_v78 : FVec F S4096x512 .f32 := broadcastInDim S4096x512 ![] bcast_S_S4096x512 main_cst_12
  let main_v79 : FVec F S4096x512 .f32 := mulf main_v78 main_v53
  let main_cst_13 : FVec F S_ .f32 := constant S_ .f32 0xBD4CCCCD#32
  let main_v80 : FVec F S4096x512 .f32 := broadcastInDim S4096x512 ![] bcast_S_S4096x512 main_cst_13
  fn_part4 (F := F) main_arg8 main_v56 main_v59 main_v62 main_v65 main_v68 main_v71 main_v74 main_v77 main_v79 main_v80

def fn_part2 {F : FTy → Type} [FloatOps F] (main_arg1 : FVec F S4x512 .f32) (main_arg2 : FVec F S512 .f32) (main_arg3 : FVec F S8x64x64 .f32) (main_arg4 : FVec F S512 .f32) (main_arg5 : FVec F S8x64x64 .f32) (main_arg6 : FVec F S512 .f32) (main_arg7 : FVec F S512 .f32) (main_arg8 : FVec F S4096x512 .f32) (main_v0 : FVec F S4096x512 .f32) (main_v43 : FVec F S4096x512 .f32) (main_v44 : FVec F S4096x512 .f32) : IVec S4096x512 1 × IVec S4x512 1 × IVec S512 1 × IVec S8x64x64 1 × IVec S512 1 × IVec S8x64x64 1 × IVec S512 1 × IVec S512 1 × IVec S4096x512 1 × IVec S4096x512 1 :=
  let main_v45 : FVec F S4096x512 .f32 := addf main_v44 main_v43
  let main_cst_2 : FVec F S_ .f32 := constant S_ .f32 0x3F800000#32
  let main_v46 : FVec F S4096x512 .f32 := broadcastInDim S4096x512 ![] bcast_S_S4096x512 main_cst_2
  let main_v47 : FVec F S4096x512 .f32 := Host.divf main_v46 main_v45
  let main_cst_3 : FVec F S_ .f32 := constant S_ .f32 0x41000000#32
  let main_v48 : FVec F S4096x512 .f32 := broadcastInDim S4096x512 ![] bcast_S_S4096x512 main_cst_3
  let main_v49 : FVec F S4096x512 .f32 := mulf main_v48 main_v47
  let main_v50 : FVec F S512 .f32 := fn_log_sigmoid (F := F) main_arg7
  let main_v51 : FVec F S1x512 .f32 := broadcastInDim S1x512 ![1] bcast_S512_S1x512_1 main_v50
  let main_v52 : FVec F S4096x512 .f32 := broadcastInDim S4096x512 ![0, 1] bcast_S1x512_S4096x512_0_1 main_v51
  let main_v53 : FVec F S4096x512 .f32 := mulf main_v49 main_v52
  let main_v54 : FVec F S4096x512 .f32 := Host.absf main_v0
  let main_cst_4 : FVec F S_ .f32 := constant S_ .f32 0x7F800000#32
  let main_v55 : FVec F S4096x512 .f32 := broadcastInDim S4096x512 ![] bcast_S_S4096x512 main_cst_4
  let main_v56 : IVec S4096x512 1 := cmpf .olt main_v54 main_v55
  let main_v57 : FVec F S4x512 .f32 := Host.absf main_arg1
  let main_cst_5 : FVec F S_ .f32 := constant S_ .f32 0x7F800000#32
  let main_v58 : FVec F S4x512 .f32 := broadcastInDim S4x512 ![] bcast_S_S4x512 main_cst_5
  let main_v59 : IVec S4x512 1 := cmpf .olt main_v57 main_v58
  let main_v60 : FVec F S512 .f32 := Host.absf main_arg2
  let main_cst_6 : FVec F S_ .f32 := constant S_ .f32 0x7F800000#32
  let main_v61 : FVec F S512 .f32 := broadcastInDim S512 ![] bcast_S_S512 main_cst_6
  let main_v62 : IVec S512 1 := cmpf .olt main_v60 main_v61
  let main_v63 : FVec F S8x64x64 .f32 := Host.absf main_arg3
  fn_part3 (F := F) main_arg4 main_arg5 main_arg6 main_arg7 main_arg8 main_v53 main_v56 main_v59 main_v62 main_v63

def fn_part1 {F : FTy → Type} [FloatOps F] (main_arg1 : FVec F S4x512 .f32) (main_arg2 : FVec F S512 .f32) (main_arg3 : FVec F S8x64x64 .f32) (main_arg4 : FVec F S512 .f32) (main_arg5 : FVec F S8x64x64 .f32) (main_arg6 : FVec F S512 .f32) (main_arg7 : FVec F S512 .f32) (main_arg8 : FVec F S4096x512 .f32) (main_v0 : FVec F S4096x512 .f32) (main_v2 : FVec F S4099x512 .f32) (main_v17 : FVec F S4096x512 .f32) (main_v20 : FVec F S4096x512 .f32) (main_v21 : FVec F S1x512 .f32) : IVec S4096x512 1 × IVec S4x512 1 × IVec S512 1 × IVec S8x64x64 1 × IVec S512 1 × IVec S8x64x64 1 × IVec S512 1 × IVec S512 1 × IVec S4096x512 1 × IVec S4096x512 1 :=
  let main_v22 : FVec F S4096x512 .f32 := broadcastInDim S4096x512 ![0, 1] bcast_S1x512_S4096x512_0_1 main_v21
  let main_v23 : FVec F S4096x512 .f32 := mulf main_v22 main_v20
  let main_v24 : FVec F S4096x512 .f32 := addf main_v17 main_v23
  let main_v25 : FVec F S1x512 .f32 := (extractStridedSlice S1x512 ![3, 0] · slices_S4x512_S1x512_3_0) main_arg1
  let main_v26 : FVec F S512 .f32 := shapeCast S512 main_v25 shapeCasts_S1x512_S512
  let main_v27 : FVec F S4096x512 .f32 := (extractStridedSlice S4096x512 ![3, 0] · slices_S4099x512_S4096x512_3_0) main_v2
  let main_v28 : FVec F S1x512 .f32 := broadcastInDim S1x512 ![1] bcast_S512_S1x512_1 main_v26
  let main_v29 : FVec F S4096x512 .f32 := broadcastInDim S4096x512 ![0, 1] bcast_S1x512_S4096x512_0_1 main_v28
  let main_v30 : FVec F S4096x512 .f32 := mulf main_v29 main_v27
  let main_v31 : FVec F S4096x512 .f32 := addf main_v24 main_v30
  let main_v32 : FVec F S1x512 .f32 := broadcastInDim S1x512 ![1] bcast_S512_S1x512_1 main_arg2
  let main_v33 : FVec F S4096x512 .f32 := broadcastInDim S4096x512 ![0, 1] bcast_S1x512_S4096x512_0_1 main_v32
  let main_v34 : FVec F S4096x512 .f32 := addf main_v31 main_v33
  let main_v35 : FVec F S4096x8x64 .f32 := shapeCast S4096x8x64 main_v34 shapeCasts_S4096x512_S4096x8x64
  let main_v36 : FVec F S8x64x4096 .f32 := (fun l r => Host.dotGeneral dot_S8x64x64_S4096x8x64_S8x64x4096_1_2_2_0_0_1 none l r) main_arg3 main_v35
  let main_v37 : FVec F S4096x8x64 .f32 := (transpose S4096x8x64 [2, 0, 1] · transposes_S8x64x4096_S4096x8x64_2_0_1) main_v36
  let main_v38 : FVec F S4096x512 .f32 := shapeCast S4096x512 main_v37 shapeCasts_S4096x8x64_S4096x512
  let main_v39 : FVec F S1x512 .f32 := broadcastInDim S1x512 ![1] bcast_S512_S1x512_1 main_arg4
  let main_v40 : FVec F S4096x512 .f32 := broadcastInDim S4096x512 ![0, 1] bcast_S1x512_S4096x512_0_1 main_v39
  let main_v41 : FVec F S4096x512 .f32 := addf main_v38 main_v40
  let main_v42 : FVec F S4096x512 .f32 := Host.negf main_v41
  let main_v43 : FVec F S4096x512 .f32 := Host.exp main_v42
  let main_cst_1 : FVec F S_ .f32 := constant S_ .f32 0x3F800000#32
  let main_v44 : FVec F S4096x512 .f32 := broadcastInDim S4096x512 ![] bcast_S_S4096x512 main_cst_1
  fn_part2 (F := F) main_arg1 main_arg2 main_arg3 main_arg4 main_arg5 main_arg6 main_arg7 main_arg8 main_v0 main_v43 main_v44

def fn {F : FTy → Type} [FloatOps F] (main_arg0 : FVec F S4096x2048 .f32) (main_arg1 : FVec F S4x512 .f32) (main_arg2 : FVec F S512 .f32) (main_arg3 : FVec F S8x64x64 .f32) (main_arg4 : FVec F S512 .f32) (main_arg5 : FVec F S8x64x64 .f32) (main_arg6 : FVec F S512 .f32) (main_arg7 : FVec F S512 .f32) (main_arg8 : FVec F S4096x512 .f32) : IVec S4096x512 1 × IVec S4x512 1 × IVec S512 1 × IVec S8x64x64 1 × IVec S512 1 × IVec S8x64x64 1 × IVec S512 1 × IVec S512 1 × IVec S4096x512 1 × IVec S4096x512 1 :=
  let main_v0 : FVec F S4096x512 .f32 := (extractStridedSlice S4096x512 ![0, 1024] · slices_S4096x2048_S4096x512_0_1024) main_arg0
  let main_cst : FVec F S_ .f32 := constant S_ .f32 0x00000000#32
  let main_v1 : FVec F S3x512 .f32 := broadcastInDim S3x512 ![] bcast_S_S3x512 main_cst
  let main_v2 : FVec F S4099x512 .f32 := (fun a b => concatenate S4099x512 0 [⟨S3x512, a⟩, ⟨S4096x512, b⟩] concatenates_S3x512_S4096x512_S4099x512_d0) main_v1 main_v0
  let main_v3 : FVec F S1x512 .f32 := (extractStridedSlice S1x512 ![0, 0] · slices_S4x512_S1x512_0_0) main_arg1
  let main_v4 : FVec F S512 .f32 := shapeCast S512 main_v3 shapeCasts_S1x512_S512
  let main_v5 : FVec F S4096x512 .f32 := (extractStridedSlice S4096x512 ![0, 0] · slices_S4099x512_S4096x512_0_0) main_v2
  let main_v6 : FVec F S1x512 .f32 := broadcastInDim S1x512 ![1] bcast_S512_S1x512_1 main_v4
  let main_v7 : FVec F S4096x512 .f32 := broadcastInDim S4096x512 ![0, 1] bcast_S1x512_S4096x512_0_1 main_v6
  let main_v8 : FVec F S4096x512 .f32 := mulf main_v7 main_v5
  let main_cst_0 : FVec F S_ .f32 := constant S_ .f32 0x00000000#32
  let main_v9 : FVec F S4096x512 .f32 := broadcastInDim S4096x512 ![] bcast_S_S4096x512 main_cst_0
  let main_v10 : FVec F S4096x512 .f32 := addf main_v9 main_v8
  let main_v11 : FVec F S1x512 .f32 := (extractStridedSlice S1x512 ![1, 0] · slices_S4x512_S1x512_1_0) main_arg1
  let main_v12 : FVec F S512 .f32 := shapeCast S512 main_v11 shapeCasts_S1x512_S512
  let main_v13 : FVec F S4096x512 .f32 := (extractStridedSlice S4096x512 ![1, 0] · slices_S4099x512_S4096x512_1_0) main_v2
  let main_v14 : FVec F S1x512 .f32 := broadcastInDim S1x512 ![1] bcast_S512_S1x512_1 main_v12
  let main_v15 : FVec F S4096x512 .f32 := broadcastInDim S4096x512 ![0, 1] bcast_S1x512_S4096x512_0_1 main_v14
  let main_v16 : FVec F S4096x512 .f32 := mulf main_v15 main_v13
  let main_v17 : FVec F S4096x512 .f32 := addf main_v10 main_v16
  let main_v18 : FVec F S1x512 .f32 := (extractStridedSlice S1x512 ![2, 0] · slices_S4x512_S1x512_2_0) main_arg1
  let main_v19 : FVec F S512 .f32 := shapeCast S512 main_v18 shapeCasts_S1x512_S512
  let main_v20 : FVec F S4096x512 .f32 := (extractStridedSlice S4096x512 ![2, 0] · slices_S4099x512_S4096x512_2_0) main_v2
  let main_v21 : FVec F S1x512 .f32 := broadcastInDim S1x512 ![1] bcast_S512_S1x512_1 main_v19
  fn_part1 (F := F) main_arg1 main_arg2 main_arg3 main_arg4 main_arg5 main_arg6 main_arg7 main_arg8 main_v0 main_v2 main_v17 main_v20 main_v21
-- ==== Pre_rnn_far.lean ====
abbrev S4096x2048 : Shape := ⟨2, ![4096, 2048]⟩
abbrev S4x512 : Shape := ⟨2, ![4, 512]⟩
abbrev S512 : Shape := ⟨1, ![512]⟩
abbrev S8x64x64 : Shape := ⟨3, ![8, 64, 64]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩
abbrev S4096x8x64 : Shape := ⟨3, ![4096, 8, 64]⟩
abbrev S8x64x4096 : Shape := ⟨3, ![8, 64, 4096]⟩

class Facts : Prop where
  slices_S4096x2048_S4096x512_0_1024 : S4096x2048.Slices ![0, 1024] S4096x512
  bcast_S_S3x512 : S_.BroadcastsInDim S3x512 (![] : Fin 0 → Fin S3x512.rank)
  concatenates_S3x512_S4096x512_S4099x512_d0 : Shape.Concatenates [S3x512, S4096x512] S4099x512 0
  slices_S4x512_S1x512_0_0 : S4x512.Slices ![0, 0] S1x512
  shapeCasts_S1x512_S512 : S1x512.ShapeCasts S512
  slices_S4099x512_S4096x512_0_0 : S4099x512.Slices ![0, 0] S4096x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  slices_S4x512_S1x512_1_0 : S4x512.Slices ![1, 0] S1x512
  slices_S4099x512_S4096x512_1_0 : S4099x512.Slices ![1, 0] S4096x512
  slices_S4x512_S1x512_2_0 : S4x512.Slices ![2, 0] S1x512
  slices_S4099x512_S4096x512_2_0 : S4099x512.Slices ![2, 0] S4096x512
  slices_S4x512_S1x512_3_0 : S4x512.Slices ![3, 0] S1x512
  slices_S4099x512_S4096x512_3_0 : S4099x512.Slices ![3, 0] S4096x512
  shapeCasts_S4096x512_S4096x8x64 : S4096x512.ShapeCasts S4096x8x64
  transposes_S8x64x4096_S4096x8x64_2_0_1 : S8x64x4096.Transposes [2, 0, 1] S4096x8x64
  shapeCasts_S4096x8x64_S4096x512 : S4096x8x64.ShapeCasts S4096x512
  bcast_S_S512 : S_.BroadcastsInDim S512 (![] : Fin 0 → Fin S512.rank)
  bcast_S_S4x512 : S_.BroadcastsInDim S4x512 (![] : Fin 0 → Fin S4x512.rank)
  bcast_S_S8x64x64 : S_.BroadcastsInDim S8x64x64 (![] : Fin 0 → Fin S8x64x64.rank)
  dot_S8x64x64_S4096x8x64_S8x64x4096_1_2_2_0_0_1_wf : DotDims.WF S8x64x64 S4096x8x64 S8x64x4096 [1] [2] [2] [0] [0] [1]

variable [Facts]

def dot_S8x64x64_S4096x8x64_S8x64x4096_1_2_2_0_0_1 : DotDims S8x64x64 S4096x8x64 S8x64x4096 where
  lhsContracting := [1]
  rhsContracting := [2]
  lhsNonContracting := [2]
  rhsNonContracting := [0]
  lhsBatch := [0]
  rhsBatch := [1]
  wf := dot_S8x64x64_S4096x8x64_S8x64x4096_1_2_2_0_0_1_wf
def fn_softplus {F : FTy → Type} [FloatOps F] (arg0 : FVec F S512 .f32) : FVec F S512 .f32 :=
  let cst : FVec F S_ .f32 := constant S_ .f32 0x00000000#32
  let v0 : FVec F S512 .f32 := broadcastInDim S512 ![] bcast_S_S512 cst
  let v1 : FVec F S512 .f32 := maximumf arg0 v0
  let v2 : FVec F S512 .f32 := broadcastInDim S512 ![] bcast_S_S512 cst
  let v3 : FVec F S512 .f32 := subf arg0 v2
  let v4 : IVec S512 1 := cmpf .une v3 v3
  let v5 : FVec F S512 .f32 := broadcastInDim S512 ![] bcast_S_S512 cst
  let v6 : FVec F S512 .f32 := addf arg0 v5
  let v7 : FVec F S512 .f32 := Host.absf v3
  let v8 : FVec F S512 .f32 := Host.negf v7
  let v9 : FVec F S512 .f32 := Host.exp v8
  let v10 : FVec F S512 .f32 := Host.log1p v9
  let v11 : FVec F S512 .f32 := addf v1 v10
  let v12 : FVec F S512 .f32 := select v4 v6 v11
  v12

def fn_log_sigmoid {F : FTy → Type} [FloatOps F] (arg0 : FVec F S512 .f32) : FVec F S512 .f32 :=
  let v0 : FVec F S512 .f32 := Host.negf arg0
  let v1 : FVec F S512 .f32 := fn_softplus (F := F) v0
  let v2 : FVec F S512 .f32 := Host.negf v1
  v2

def fn_part4 {F : FTy → Type} [FloatOps F] (main_v56 : IVec S4096x512 1) (main_v59 : IVec S4x512 1) (main_v62 : IVec S512 1) (main_v65 : IVec S8x64x64 1) (main_v68 : IVec S512 1) (main_v71 : IVec S8x64x64 1) (main_v74 : IVec S512 1) (main_v77 : IVec S512 1) (main_v79 : FVec F S4096x512 .f32) (main_v80 : FVec F S4096x512 .f32) : IVec S4096x512 1 × IVec S4x512 1 × IVec S512 1 × IVec S8x64x64 1 × IVec S512 1 × IVec S8x64x64 1 × IVec S512 1 × IVec S512 1 × IVec S4096x512 1 :=
  let main_v81 : IVec S4096x512 1 := cmpf .ole main_v79 main_v80
  (main_v56, main_v59, main_v62, main_v65, main_v68, main_v71, main_v74, main_v77, main_v81)

def fn_part3 {F : FTy → Type} [FloatOps F] (main_arg4 : FVec F S512 .f32) (main_arg5 : FVec F S8x64x64 .f32) (main_arg6 : FVec F S512 .f32) (main_arg7 : FVec F S512 .f32) (main_v53 : FVec F S4096x512 .f32) (main_v56 : IVec S4096x512 1) (main_v59 : IVec S4x512 1) (main_v62 : IVec S512 1) (main_v63 : FVec F S8x64x64 .f32) : IVec S4096x512 1 × IVec S4x512 1 × IVec S512 1 × IVec S8x64x64 1 × IVec S512 1 × IVec S8x64x64 1 × IVec S512 1 × IVec S512 1 × IVec S4096x512 1 :=
  let main_cst_7 : FVec F S_ .f32 := constant S_ .f32 0x7F800000#32
  let main_v64 : FVec F S8x64x64 .f32 := broadcastInDim S8x64x64 ![] bcast_S_S8x64x64 main_cst_7
  let main_v65 : IVec S8x64x64 1 := cmpf .olt main_v63 main_v64
  let main_v66 : FVec F S512 .f32 := Host.absf main_arg4
  let main_cst_8 : FVec F S_ .f32 := constant S_ .f32 0x7F800000#32
  let main_v67 : FVec F S512 .f32 := broadcastInDim S512 ![] bcast_S_S512 main_cst_8
  let main_v68 : IVec S512 1 := cmpf .olt main_v66 main_v67
  let main_v69 : FVec F S8x64x64 .f32 := Host.absf main_arg5
  let main_cst_9 : FVec F S_ .f32 := constant S_ .f32 0x7F800000#32
  let main_v70 : FVec F S8x64x64 .f32 := broadcastInDim S8x64x64 ![] bcast_S_S8x64x64 main_cst_9
  let main_v71 : IVec S8x64x64 1 := cmpf .olt main_v69 main_v70
  let main_v72 : FVec F S512 .f32 := Host.absf main_arg6
  let main_cst_10 : FVec F S_ .f32 := constant S_ .f32 0x7F800000#32
  let main_v73 : FVec F S512 .f32 := broadcastInDim S512 ![] bcast_S_S512 main_cst_10
  let main_v74 : IVec S512 1 := cmpf .olt main_v72 main_v73
  let main_v75 : FVec F S512 .f32 := Host.absf main_arg7
  let main_cst_11 : FVec F S_ .f32 := constant S_ .f32 0x7F800000#32
  let main_v76 : FVec F S512 .f32 := broadcastInDim S512 ![] bcast_S_S512 main_cst_11
  let main_v77 : IVec S512 1 := cmpf .olt main_v75 main_v76
  let main_cst_12 : FVec F S_ .f32 := constant S_ .f32 0x40000000#32
  let main_v78 : FVec F S4096x512 .f32 := broadcastInDim S4096x512 ![] bcast_S_S4096x512 main_cst_12
  let main_v79 : FVec F S4096x512 .f32 := mulf main_v78 main_v53
  let main_cst_13 : FVec F S_ .f32 := constant S_ .f32 0xBD4CCCCD#32
  let main_v80 : FVec F S4096x512 .f32 := broadcastInDim S4096x512 ![] bcast_S_S4096x512 main_cst_13
  fn_part4 (F := F) main_v56 main_v59 main_v62 main_v65 main_v68 main_v71 main_v74 main_v77 main_v79 main_v80

def fn_part2 {F : FTy → Type} [FloatOps F] (main_arg1 : FVec F S4x512 .f32) (main_arg2 : FVec F S512 .f32) (main_arg3 : FVec F S8x64x64 .f32) (main_arg4 : FVec F S512 .f32) (main_arg5 : FVec F S8x64x64 .f32) (main_arg6 : FVec F S512 .f32) (main_arg7 : FVec F S512 .f32) (main_v0 : FVec F S4096x512 .f32) (main_v43 : FVec F S4096x512 .f32) (main_v44 : FVec F S4096x512 .f32) : IVec S4096x512 1 × IVec S4x512 1 × IVec S512 1 × IVec S8x64x64 1 × IVec S512 1 × IVec S8x64x64 1 × IVec S512 1 × IVec S512 1 × IVec S4096x512 1 :=
  let main_v45 : FVec F S4096x512 .f32 := addf main_v44 main_v43
  let main_cst_2 : FVec F S_ .f32 := constant S_ .f32 0x3F800000#32
  let main_v46 : FVec F S4096x512 .f32 := broadcastInDim S4096x512 ![] bcast_S_S4096x512 main_cst_2
  let main_v47 : FVec F S4096x512 .f32 := Host.divf main_v46 main_v45
  let main_cst_3 : FVec F S_ .f32 := constant S_ .f32 0x41000000#32
  let main_v48 : FVec F S4096x512 .f32 := broadcastInDim S4096x512 ![] bcast_S_S4096x512 main_cst_3
  let main_v49 : FVec F S4096x512 .f32 := mulf main_v48 main_v47
  let main_v50 : FVec F S512 .f32 := fn_log_sigmoid (F := F) main_arg7
  let main_v51 : FVec F S1x512 .f32 := broadcastInDim S1x512 ![1] bcast_S512_S1x512_1 main_v50
  let main_v52 : FVec F S4096x512 .f32 := broadcastInDim S4096x512 ![0, 1] bcast_S1x512_S4096x512_0_1 main_v51
  let main_v53 : FVec F S4096x512 .f32 := mulf main_v49 main_v52
  let main_v54 : FVec F S4096x512 .f32 := Host.absf main_v0
  let main_cst_4 : FVec F S_ .f32 := constant S_ .f32 0x7F800000#32
  let main_v55 : FVec F S4096x512 .f32 := broadcastInDim S4096x512 ![] bcast_S_S4096x512 main_cst_4
  let main_v56 : IVec S4096x512 1 := cmpf .olt main_v54 main_v55
  let main_v57 : FVec F S4x512 .f32 := Host.absf main_arg1
  let main_cst_5 : FVec F S_ .f32 := constant S_ .f32 0x7F800000#32
  let main_v58 : FVec F S4x512 .f32 := broadcastInDim S4x512 ![] bcast_S_S4x512 main_cst_5
  let main_v59 : IVec S4x512 1 := cmpf .olt main_v57 main_v58
  let main_v60 : FVec F S512 .f32 := Host.absf main_arg2
  let main_cst_6 : FVec F S_ .f32 := constant S_ .f32 0x7F800000#32
  let main_v61 : FVec F S512 .f32 := broadcastInDim S512 ![] bcast_S_S512 main_cst_6
  let main_v62 : IVec S512 1 := cmpf .olt main_v60 main_v61
  let main_v63 : FVec F S8x64x64 .f32 := Host.absf main_arg3
  fn_part3 (F := F) main_arg4 main_arg5 main_arg6 main_arg7 main_v53 main_v56 main_v59 main_v62 main_v63

def fn_part1 {F : FTy → Type} [FloatOps F] (main_arg1 : FVec F S4x512 .f32) (main_arg2 : FVec F S512 .f32) (main_arg3 : FVec F S8x64x64 .f32) (main_arg4 : FVec F S512 .f32) (main_arg5 : FVec F S8x64x64 .f32) (main_arg6 : FVec F S512 .f32) (main_arg7 : FVec F S512 .f32) (main_v0 : FVec F S4096x512 .f32) (main_v2 : FVec F S4099x512 .f32) (main_v17 : FVec F S4096x512 .f32) (main_v20 : FVec F S4096x512 .f32) (main_v21 : FVec F S1x512 .f32) : IVec S4096x512 1 × IVec S4x512 1 × IVec S512 1 × IVec S8x64x64 1 × IVec S512 1 × IVec S8x64x64 1 × IVec S512 1 × IVec S512 1 × IVec S4096x512 1 :=
  let main_v22 : FVec F S4096x512 .f32 := broadcastInDim S4096x512 ![0, 1] bcast_S1x512_S4096x512_0_1 main_v21
  let main_v23 : FVec F S4096x512 .f32 := mulf main_v22 main_v20
  let main_v24 : FVec F S4096x512 .f32 := addf main_v17 main_v23
  let main_v25 : FVec F S1x512 .f32 := (extractStridedSlice S1x512 ![3, 0] · slices_S4x512_S1x512_3_0) main_arg1
  let main_v26 : FVec F S512 .f32 := shapeCast S512 main_v25 shapeCasts_S1x512_S512
  let main_v27 : FVec F S4096x512 .f32 := (extractStridedSlice S4096x512 ![3, 0] · slices_S4099x512_S4096x512_3_0) main_v2
  let main_v28 : FVec F S1x512 .f32 := broadcastInDim S1x512 ![1] bcast_S512_S1x512_1 main_v26
  let main_v29 : FVec F S4096x512 .f32 := broadcastInDim S4096x512 ![0, 1] bcast_S1x512_S4096x512_0_1 main_v28
  let main_v30 : FVec F S4096x512 .f32 := mulf main_v29 main_v27
  let main_v31 : FVec F S4096x512 .f32 := addf main_v24 main_v30
  let main_v32 : FVec F S1x512 .f32 := broadcastInDim S1x512 ![1] bcast_S512_S1x512_1 main_arg2
  let main_v33 : FVec F S4096x512 .f32 := broadcastInDim S4096x512 ![0, 1] bcast_S1x512_S4096x512_0_1 main_v32
  let main_v34 : FVec F S4096x512 .f32 := addf main_v31 main_v33
  let main_v35 : FVec F S4096x8x64 .f32 := shapeCast S4096x8x64 main_v34 shapeCasts_S4096x512_S4096x8x64
  let main_v36 : FVec F S8x64x4096 .f32 := (fun l r => Host.dotGeneral dot_S8x64x64_S4096x8x64_S8x64x4096_1_2_2_0_0_1 none l r) main_arg3 main_v35
  let main_v37 : FVec F S4096x8x64 .f32 := (transpose S4096x8x64 [2, 0, 1] · transposes_S8x64x4096_S4096x8x64_2_0_1) main_v36
  let main_v38 : FVec F S4096x512 .f32 := shapeCast S4096x512 main_v37 shapeCasts_S4096x8x64_S4096x512
  let main_v39 : FVec F S1x512 .f32 := broadcastInDim S1x512 ![1] bcast_S512_S1x512_1 main_arg4
  let main_v40 : FVec F S4096x512 .f32 := broadcastInDim S4096x512 ![0, 1] bcast_S1x512_S4096x512_0_1 main_v39
  let main_v41 : FVec F S4096x512 .f32 := addf main_v38 main_v40
  let main_v42 : FVec F S4096x512 .f32 := Host.negf main_v41
  let main_v43 : FVec F S4096x512 .f32 := Host.exp main_v42
  let main_cst_1 : FVec F S_ .f32 := constant S_ .f32 0x3F800000#32
  let main_v44 : FVec F S4096x512 .f32 := broadcastInDim S4096x512 ![] bcast_S_S4096x512 main_cst_1
  fn_part2 (F := F) main_arg1 main_arg2 main_arg3 main_arg4 main_arg5 main_arg6 main_arg7 main_v0 main_v43 main_v44

def fn {F : FTy → Type} [FloatOps F] (main_arg0 : FVec F S4096x2048 .f32) (main_arg1 : FVec F S4x512 .f32) (main_arg2 : FVec F S512 .f32) (main_arg3 : FVec F S8x64x64 .f32) (main_arg4 : FVec F S512 .f32) (main_arg5 : FVec F S8x64x64 .f32) (main_arg6 : FVec F S512 .f32) (main_arg7 : FVec F S512 .f32) : IVec S4096x512 1 × IVec S4x512 1 × IVec S512 1 × IVec S8x64x64 1 × IVec S512 1 × IVec S8x64x64 1 × IVec S512 1 × IVec S512 1 × IVec S4096x512 1 :=
  let main_v0 : FVec F S4096x512 .f32 := (extractStridedSlice S4096x512 ![0, 1024] · slices_S4096x2048_S4096x512_0_1024) main_arg0
  let main_cst : FVec F S_ .f32 := constant S_ .f32 0x00000000#32
  let main_v1 : FVec F S3x512 .f32 := broadcastInDim S3x512 ![] bcast_S_S3x512 main_cst
  let main_v2 : FVec F S4099x512 .f32 := (fun a b => concatenate S4099x512 0 [⟨S3x512, a⟩, ⟨S4096x512, b⟩] concatenates_S3x512_S4096x512_S4099x512_d0) main_v1 main_v0
  let main_v3 : FVec F S1x512 .f32 := (extractStridedSlice S1x512 ![0, 0] · slices_S4x512_S1x512_0_0) main_arg1
  let main_v4 : FVec F S512 .f32 := shapeCast S512 main_v3 shapeCasts_S1x512_S512
  let main_v5 : FVec F S4096x512 .f32 := (extractStridedSlice S4096x512 ![0, 0] · slices_S4099x512_S4096x512_0_0) main_v2
  let main_v6 : FVec F S1x512 .f32 := broadcastInDim S1x512 ![1] bcast_S512_S1x512_1 main_v4
  let main_v7 : FVec F S4096x512 .f32 := broadcastInDim S4096x512 ![0, 1] bcast_S1x512_S4096x512_0_1 main_v6
  let main_v8 : FVec F S4096x512 .f32 := mulf main_v7 main_v5
  let main_cst_0 : FVec F S_ .f32 := constant S_ .f32 0x00000000#32
  let main_v9 : FVec F S4096x512 .f32 := broadcastInDim S4096x512 ![] bcast_S_S4096x512 main_cst_0
  let main_v10 : FVec F S4096x512 .f32 := addf main_v9 main_v8
  let main_v11 : FVec F S1x512 .f32 := (extractStridedSlice S1x512 ![1, 0] · slices_S4x512_S1x512_1_0) main_arg1
  let main_v12 : FVec F S512 .f32 := shapeCast S512 main_v11 shapeCasts_S1x512_S512
  let main_v13 : FVec F S4096x512 .f32 := (extractStridedSlice S4096x512 ![1, 0] · slices_S4099x512_S4096x512_1_0) main_v2
  let main_v14 : FVec F S1x512 .f32 := broadcastInDim S1x512 ![1] bcast_S512_S1x512_1 main_v12
  let main_v15 : FVec F S4096x512 .f32 := broadcastInDim S4096x512 ![0, 1] bcast_S1x512_S4096x512_0_1 main_v14
  let main_v16 : FVec F S4096x512 .f32 := mulf main_v15 main_v13
  let main_v17 : FVec F S4096x512 .f32 := addf main_v10 main_v16
  let main_v18 : FVec F S1x512 .f32 := (extractStridedSlice S1x512 ![2, 0] · slices_S4x512_S1x512_2_0) main_arg1
  let main_v19 : FVec F S512 .f32 := shapeCast S512 main_v18 shapeCasts_S1x512_S512
  let main_v20 : FVec F S4096x512 .f32 := (extractStridedSlice S4096x512 ![2, 0] · slices_S4099x512_S4096x512_2_0) main_v2
  let main_v21 : FVec F S1x512 .f32 := broadcastInDim S1x512 ![1] bcast_S512_S1x512_1 main_v19
  fn_part1 (F := F) main_arg1 main_arg2 main_arg3 main_arg4 main_arg5 main_arg6 main_arg7 main_v0 main_v2 main_v17 main_v20 main_v21
-- ==== Pre_swiglu_finite.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x5632 .f32) (main_arg2 : FVec F S2816x1024 .f32) (main_arg3 : FVec F S4096x1024 .f32) : IVec S4096x1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== KernelFfnIn.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S5632x1024 : Shape := ⟨2, ![5632, 1024]⟩
abbrev S2x4x704x1024 : Shape := ⟨4, ![2, 4, 704, 1024]⟩
abbrev S4096x2x4x704 : Shape := ⟨4, ![4096, 2, 4, 704]⟩
abbrev S2x4x4096x704 : Shape := ⟨4, ![2, 4, 4096, 704]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S512x1024 : Shape := ⟨2, ![512, 1024]⟩
abbrev S2x4x512x704 : Shape := ⟨4, ![2, 4, 512, 704]⟩
abbrev S1x1x512x704 : Shape := ⟨4, ![1, 1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 21
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S5632x1024, .f32⟩
  | .hbm, ⟨8, _⟩ => ⟨S5632x1024, .bf16⟩
  | .hbm, ⟨9, _⟩ => ⟨S2x4x704x1024, .bf16⟩
  | .hbm, ⟨10, _⟩ => ⟨S4096x5632, .bf16⟩
  | .hbm, ⟨11, _⟩ => ⟨S4096x2x4x704, .bf16⟩
  | .hbm, ⟨12, _⟩ => ⟨S2x4x4096x704, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S5x1024, .f32⟩
  | .hbm, ⟨18, _⟩ => ⟨S8x1024, .f32⟩
  | .hbm, ⟨19, _⟩ => ⟨S4096x1024, .f32⟩
  | .hbm, ⟨20, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S2x4x512x704, .bf16⟩
  | .local _ .vmem, ⟨6, _⟩ => ⟨S2x4x512x704, .bf16⟩
  | .local _ .vmem, ⟨7, _⟩ => ⟨S2x4x704x1024, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFfnInIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x5632, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== KernelConv.lean ====
abbrev S4096x2048 : Shape := ⟨2, ![4096, 2048]⟩
abbrev S31x512 : Shape := ⟨2, ![31, 512]⟩
abbrev S512 : Shape := ⟨1, ![512]⟩
abbrev S4096x512 : Shape := ⟨2, ![4096, 512]⟩
abbrev S1x512 : Shape := ⟨2, ![1, 512]⟩
abbrev S32x512 : Shape := ⟨2, ![32, 512]⟩
abbrev S4096x128 : Shape := ⟨2, ![4096, 128]⟩
abbrev S32x128 : Shape := ⟨2, ![32, 128]⟩
abbrev S4128x128 : Shape := ⟨2, ![4128, 128]⟩
abbrev S128x128 : Shape := ⟨2, ![128, 128]⟩
abbrev S1x128 : Shape := ⟨2, ![1, 128]⟩
abbrev S128 : Shape := ⟨1, ![128]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S31x512, .f32⟩
  | .hbm, ⟨2, _⟩ => ⟨S512, .f32⟩
  | .hbm, ⟨3, _⟩ => ⟨S4096x512, .f32⟩
  | .hbm, ⟨4, _⟩ => ⟨S1x512, .f32⟩
  | .hbm, ⟨5, _⟩ => ⟨S32x512, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S32x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .bf16⟩
  | .local _ .vmem, ⟨5, _⟩ => ⟨S4096x128, .bf16⟩
  | .local _ .vmem, ⟨6, _⟩ => ⟨S32x128, .f32⟩
  | .local _ .vmem, ⟨7, _⟩ => ⟨S32x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S32x128, .f32⟩
  | .local _ .vmem, ⟨13, _⟩ => ⟨S32x128, .f32⟩
  | .local _ .vmem, ⟨14, _⟩ => ⟨S4128x128, .f32⟩
  | .local _ .vmem, ⟨15, _⟩ => ⟨S4128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceConvIdeal.lean ====
abbrev S4096x2048 : Shape := ⟨2, ![4096, 2048]⟩
abbrev S31x512 : Shape := ⟨2, ![31, 512]⟩
abbrev S512 : Shape := ⟨1, ![512]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x4096x512 : Shape := ⟨3, ![1, 4096, 512]⟩
abbrev S16x4096x512 : Shape := ⟨3, ![16, 4096, 512]⟩
abbrev S15x4096x512 : Shape := ⟨3, ![15, 4096, 512]⟩
abbrev S31x4096x512 : Shape := ⟨3, ![31, 4096, 512]⟩
abbrev S31x1x512 : Shape := ⟨3, ![31, 1, 512]⟩
abbrev S1x512 : Shape := ⟨2, ![1, 512]⟩
abbrev S32x512 : Shape := ⟨2, ![32, 512]⟩

abbrev nBuf : Space → Nat
  | .hbm => 275
  | .vmem => 0
  | .smem => 0
  | _ => 0

abbrev hbmTy0_0 (i : Nat) : BufTy := match i % 128 with
  | 0 => ⟨S4096x2048, .f32⟩
  | 1 => ⟨S31x512, .f32⟩
  | 2 => ⟨S512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S_, .f32⟩
  | 20 => ⟨S30x512, .f32⟩
  | 21 => ⟨S4126x512, .f32⟩
  | 22 => ⟨S_, .f32⟩
  | 23 => ⟨S30x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S1x4096x512, .f32⟩
  | 56 => ⟨S1x4096x512, .f32⟩
  | 57 => ⟨S1x4096x512, .f32⟩
  | 58 => ⟨S1x4096x512, .f32⟩
  | 59 => ⟨S1x4096x512, .f32⟩
  | 60 => ⟨S1x4096x512, .f32⟩
  | 61 => ⟨S1x4096x512, .f32⟩
  | 62 => ⟨S1x4096x512, .f32⟩
  | 63 => ⟨S1x4096x512, .f32⟩
  | 64 => ⟨S1x4096x512, .f32⟩
  | 65 => ⟨S1x4096x512, .f32⟩
  | 66 => ⟨S1x4096x512, .f32⟩
  | 67 => ⟨S1x4096x512, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S1x4096x512, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S1x4096x512, .f32⟩
  | 81 => ⟨S1x4096x512, .f32⟩
  | 82 => ⟨S1x4096x512, .f32⟩
  | 83 => ⟨S1x4096x512, .f32⟩
  | 84 => ⟨S1x4096x512, .f32⟩
  | 85 => ⟨S1x4096x512, .f32⟩
  | 86 => ⟨S16x4096x512, .f32⟩
  | 87 => ⟨S15x4096x512, .f32⟩
  | 88 => ⟨S31x4096x512, .f32⟩
  | 89 => ⟨S31x1x512, .f32⟩
  | 90 => ⟨S31x4096x512, .f32⟩
  | 91 => ⟨S31x4096x512, .f32⟩
  | 92 => ⟨S_, .f32⟩
  | 93 => ⟨S4096x512, .f32⟩
  | 94 => ⟨S1x512, .f32⟩
  | 95 => ⟨S4096x512, .f32⟩
  | 96 => ⟨S4096x512, .f32⟩
  | 97 => ⟨S4096x512, .f32⟩
  | 98 => ⟨S_, .f32⟩
  | 99 => ⟨S512, .f32⟩
  | 100 => ⟨S1x512, .f32⟩
  | 101 => ⟨S_, .f32⟩
  | 102 => ⟨S512, .f32⟩
  | 103 => ⟨S31x4096x512, .f32⟩
  | 104 => ⟨S31x4096x512, .f32⟩
  | 105 => ⟨S31x4096x512, .f32⟩
  | 106 => ⟨S31x4096x512, .f32⟩
  | 107 => ⟨S_, .f32⟩
  | 108 => ⟨S31x512, .f32⟩
  | 109 => ⟨S31x1x512, .f32⟩
  | 110 => ⟨S_, .f32⟩
  | 111 => ⟨S31x512, .f32⟩
  | 112 => ⟨S1x4096x512, .f32⟩
  | 113 => ⟨S4096x512, .f32⟩
  | 114 => ⟨S1x4096x512, .f32⟩
  | 115 => ⟨S4096x512, .f32⟩
  | 116 => ⟨S1x4096x512, .f32⟩
  | 117 => ⟨S4096x512, .f32⟩
  | 118 => ⟨S1x4096x512, .f32⟩
  | 119 => ⟨S4096x512, .f32⟩
  | 120 => ⟨S1x4096x512, .f32⟩
  | 121 => ⟨S4096x512, .f32⟩
  | 122 => ⟨S1x4096x512, .f32⟩
  | 123 => ⟨S4096x512, .f32⟩
  | 124 => ⟨S1x4096x512, .f32⟩
  | 125 => ⟨S4096x512, .f32⟩
  | 126 => ⟨S1x4096x512, .f32⟩
  | 127 => ⟨S4096x512, .f32⟩
  | _ => ⟨S4096x2048, .f32⟩

abbrev hbmTy0_1 (i : Nat) : BufTy := match i % 128 with
  | 0 => ⟨S1x4096x512, .f32⟩
  | 1 => ⟨S4096x512, .f32⟩
  | 2 => ⟨S1x4096x512, .f32⟩
  | 3 => ⟨S4096x512, .f32⟩
  | 4 => ⟨S1x4096x512, .f32⟩
  | 5 => ⟨S4096x512, .f32⟩
  | 6 => ⟨S1x4096x512, .f32⟩
  | 7 => ⟨S4096x512, .f32⟩
  | 8 => ⟨S1x4096x512, .f32⟩
  | 9 => ⟨S4096x512, .f32⟩
  | 10 => ⟨S1x4096x512, .f32⟩
  | 11 => ⟨S4096x512, .f32⟩
  | 12 => ⟨S1x4096x512, .f32⟩
  | 13 => ⟨S4096x512, .f32⟩
  | 14 => ⟨S1x4096x512, .f32⟩
  | 15 => ⟨S4096x512, .f32⟩
  | 16 => ⟨S1x4096x512, .f32⟩
  | 17 => ⟨S4096x512, .f32⟩
  | 18 => ⟨S1x4096x512, .f32⟩
  | 19 => ⟨S4096x512, .f32⟩
  | 20 => ⟨S1x4096x512, .f32⟩
  | 21 => ⟨S4096x512, .f32⟩
  | 22 => ⟨S1x4096x512, .f32⟩
  | 23 => ⟨S4096x512, .f32⟩
  | 24 => ⟨S1x4096x512, .f32⟩
  | 25 => ⟨S4096x512, .f32⟩
  | 26 => ⟨S1x4096x512, .f32⟩
  | 27 => ⟨S4096x512, .f32⟩
  | 28 => ⟨S1x4096x512, .f32⟩
  | 29 => ⟨S4096x512, .f32⟩
  | 30 => ⟨S1x4096x512, .f32⟩
  | 31 => ⟨S4096x512, .f32⟩
  | 32 => ⟨S1x4096x512, .f32⟩
  | 33 => ⟨S4096x512, .f32⟩
  | 34 => ⟨S1x4096x512, .f32⟩
  | 35 => ⟨S4096x512, .f32⟩
  | 36 => ⟨S1x4096x512, .f32⟩
  | 37 => ⟨S4096x512, .f32⟩
  | 38 => ⟨S1x4096x512, .f32⟩
  | 39 => ⟨S4096x512, .f32⟩
  | 40 => ⟨S1x4096x512, .f32⟩
  | 41 => ⟨S4096x512, .f32⟩
  | 42 => ⟨S1x4096x512, .f32⟩
  | 43 => ⟨S4096x512, .f32⟩
  | 44 => ⟨S1x4096x512, .f32⟩
  | 45 => ⟨S4096x512, .f32⟩
  | 46 => ⟨S_, .f32⟩
  | 47 => ⟨S4126x512, .f32⟩
  | 48 => ⟨S_, .f32⟩
  | 49 => ⟨S4126x512, .f32⟩
  | 50 => ⟨S4126x512, .f32⟩
  | 51 => ⟨S_, .f32⟩
  | 52 => ⟨S4126x512, .f32⟩
  | 53 => ⟨S4126x512, .f32⟩
  | 54 => ⟨S_, .f32⟩
  | 55 => ⟨S4126x512, .f32⟩
  | 56 => ⟨S4126x512, .f32⟩
  | 57 => ⟨S_, .f32⟩
  | 58 => ⟨S4126x512, .f32⟩
  | 59 => ⟨S4126x512, .f32⟩
  | 60 => ⟨S_, .f32⟩
  | 61 => ⟨S4126x512, .f32⟩
  | 62 => ⟨S4126x512, .f32⟩
  | 63 => ⟨S_, .f32⟩
  | 64 => ⟨S4126x512, .f32⟩
  | 65 => ⟨S4126x512, .f32⟩
  | 66 => ⟨S_, .f32⟩
  | 67 => ⟨S4126x512, .f32⟩
  | 68 => ⟨S4126x512, .f32⟩
  | 69 => ⟨S_, .f32⟩
  | 70 => ⟨S4126x512, .f32⟩
  | 71 => ⟨S4126x512, .f32⟩
  | 72 => ⟨S_, .f32⟩
  | 73 => ⟨S4126x512, .f32⟩
  | 74 => ⟨S4126x512, .f32⟩
  | 75 => ⟨S_, .f32⟩
  | 76 => ⟨S4126x512, .f32⟩
  | 77 => ⟨S4126x512, .f32⟩
  | 78 => ⟨S_, .f32⟩
  | 79 => ⟨S4126x512, .f32⟩
  | 80 => ⟨S4126x512, .f32⟩
  | 81 => ⟨S_, .f32⟩
  | 82 => ⟨S4126x512, .f32⟩
  | 83 => ⟨S4126x512, .f32⟩
  | 84 => ⟨S_, .f32⟩
  | 85 => ⟨S4126x512, .f32⟩
  | 86 => ⟨S4126x512, .f32⟩
  | 87 => ⟨S_, .f32⟩
  | 88 => ⟨S4126x512, .f32⟩
  | 89 => ⟨S4126x512, .f32⟩
  | 90 => ⟨S_, .f32⟩
  | 91 => ⟨S4126x512, .f32⟩
  | 92 => ⟨S4126x512, .f32⟩
  | 93 => ⟨S_, .f32⟩
  | 94 => ⟨S4126x512, .f32⟩
  | 95 => ⟨S4126x512, .f32⟩
  | 96 => ⟨S_, .f32⟩
  | 97 => ⟨S4126x512, .f32⟩
  | 98 => ⟨S4126x512, .f32⟩
  | 99 => ⟨S_, .f32⟩
  | 100 => ⟨S4126x512, .f32⟩
  | 101 => ⟨S4126x512, .f32⟩
  | 102 => ⟨S_, .f32⟩
  | 103 => ⟨S4126x512, .f32⟩
  | 104 => ⟨S4126x512, .f32⟩
  | 105 => ⟨S_, .f32⟩
  | 106 => ⟨S4126x512, .f32⟩
  | 107 => ⟨S4126x512, .f32⟩
  | 108 => ⟨S_, .f32⟩
  | 109 => ⟨S4126x512, .f32⟩
  | 110 => ⟨S4126x512, .f32⟩
  | 111 => ⟨S_, .f32⟩
  | 112 => ⟨S4126x512, .f32⟩
  | 113 => ⟨S4126x512, .f32⟩
  | 114 => ⟨S_, .f32⟩
  | 115 => ⟨S4126x512, .f32⟩
  | 116 => ⟨S4126x512, .f32⟩
  | 117 => ⟨S_, .f32⟩
  | 118 => ⟨S4126x512, .f32⟩
  | 119 => ⟨S4126x512, .f32⟩
  | 120 => ⟨S_, .f32⟩
  | 121 => ⟨S4126x512, .f32⟩
  | 122 => ⟨S4126x512, .f32⟩
  | 123 => ⟨S_, .f32⟩
  | 124 => ⟨S4126x512, .f32⟩
  | 125 => ⟨S4126x512, .f32⟩
  | 126 => ⟨S_, .f32⟩
  | 127 => ⟨S4126x512, .f32⟩
  | _ => ⟨S4096x2048, .f32⟩

abbrev hbmTy0_2 (i : Nat) : BufTy := match i % 128 with
  | 0 => ⟨S4126x512, .f32⟩
  | 1 => ⟨S_, .f32⟩
  | 2 => ⟨S4126x512, .f32⟩
  | 3 => ⟨S4126x512, .f32⟩
  | 4 => ⟨S_, .f32⟩
  | 5 => ⟨S4126x512, .f32⟩
  | 6 => ⟨S4126x512, .f32⟩
  | 7 => ⟨S_, .f32⟩
  | 8 => ⟨S4126x512, .f32⟩
  | 9 => ⟨S4126x512, .f32⟩
  | 10 => ⟨S30x512, .f32⟩
  | 11 => ⟨S4096x512, .f32⟩
  | 12 => ⟨S4096x512, .f32⟩
  | 13 => ⟨S4096x512, .f32⟩
  | 14 => ⟨S4096x512, .f32⟩
  | 15 => ⟨S4096x512, .bf16⟩
  | 16 => ⟨S4096x512, .bf16⟩
  | 17 => ⟨S1x512, .f32⟩
  | 18 => ⟨S32x512, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_4 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_5 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_cst_7 : Ref sig .tc := ⟨.hbm, 107, rfl⟩
abbrev main_v95 : Ref sig .tc := ⟨.hbm, 108, rfl⟩
abbrev main_v96 : Ref sig .tc := ⟨.hbm, 109, rfl⟩
abbrev main_cst_8 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_cst_9 : Ref sig .tc := ⟨.hbm, 174, rfl⟩
abbrev main_v160 : Ref sig .tc := ⟨.hbm, 175, rfl⟩
abbrev main_cst_10 : Ref sig .tc := ⟨.hbm, 176, rfl⟩
abbrev main_v161 : Ref sig .tc := ⟨.hbm, 177, rfl⟩
abbrev main_v162 : Ref sig .tc := ⟨.hbm, 178, rfl⟩
abbrev main_cst_11 : Ref sig .tc := ⟨.hbm, 179, rfl⟩
abbrev main_v163 : Ref sig .tc := ⟨.hbm, 180, rfl⟩
abbrev main_v164 : Ref sig .tc := ⟨.hbm, 181, rfl⟩
abbrev main_cst_12 : Ref sig .tc := ⟨.hbm, 182, rfl⟩
abbrev main_v165 : Ref sig .tc := ⟨.hbm, 183, rfl⟩
abbrev main_v166 : Ref sig .tc := ⟨.hbm, 184, rfl⟩
abbrev main_cst_13 : Ref sig .tc := ⟨.hbm, 185, rfl⟩
abbrev main_v167 : Ref sig .tc := ⟨.hbm, 186, rfl⟩
abbrev main_v168 : Ref sig .tc := ⟨.hbm, 187, rfl⟩
abbrev main_cst_14 : Ref sig .tc := ⟨.hbm, 188, rfl⟩
abbrev main_v169 : Ref sig .tc := ⟨.hbm, 189, rfl⟩
abbrev main_v170 : Ref sig .tc := ⟨.hbm, 190, rfl⟩
abbrev main_cst_15 : Ref sig .tc := ⟨.hbm, 191, rfl⟩
abbrev main_v171 : Ref sig .tc := ⟨.hbm, 192, rfl⟩
abbrev main_v172 : Ref sig .tc := ⟨.hbm, 193, rfl⟩
abbrev main_cst_16 : Ref sig .tc := ⟨.hbm, 194, rfl⟩
abbrev main_v173 : Ref sig .tc := ⟨.hbm, 195, rfl⟩
abbrev main_v174 : Ref sig .tc := ⟨.hbm, 196, rfl⟩
abbrev main_cst_17 : Ref sig .tc := ⟨.hbm, 197, rfl⟩
abbrev main_v175 : Ref sig .tc := ⟨.hbm, 198, rfl⟩
abbrev main_v176 : Ref sig .tc := ⟨.hbm, 199, rfl⟩
abbrev main_cst_18 : Ref sig .tc := ⟨.hbm, 200, rfl⟩
abbrev main_v177 : Ref sig .tc := ⟨.hbm, 201, rfl⟩
abbrev main_v178 : Ref sig .tc := ⟨.hbm, 202, rfl⟩
abbrev main_cst_19 : Ref sig .tc := ⟨.hbm, 203, rfl⟩
abbrev main_v179 : Ref sig .tc := ⟨.hbm, 204, rfl⟩
abbrev main_v180 : Ref sig .tc := ⟨.hbm, 205, rfl⟩
abbrev main_cst_20 : Ref sig .tc := ⟨.hbm, 206, rfl⟩
abbrev main_v181 : Ref sig .tc := ⟨.hbm, 207, rfl⟩
abbrev main_v182 : Ref sig .tc := ⟨.hbm, 208, rfl⟩
abbrev main_cst_21 : Ref sig .tc := ⟨.hbm, 209, rfl⟩
abbrev main_v183 : Ref sig .tc := ⟨.hbm, 210, rfl⟩
abbrev main_v184 : Ref sig .tc := ⟨.hbm, 211, rfl⟩
abbrev main_cst_22 : Ref sig .tc := ⟨.hbm, 212, rfl⟩
abbrev main_v185 : Ref sig .tc := ⟨.hbm, 213, rfl⟩
abbrev main_v186 : Ref sig .tc := ⟨.hbm, 214, rfl⟩
abbrev main_cst_23 : Ref sig .tc := ⟨.hbm, 215, rfl⟩
abbrev main_v187 : Ref sig .tc := ⟨.hbm, 216, rfl⟩
abbrev main_v188 : Ref sig .tc := ⟨.hbm, 217, rfl⟩
abbrev main_cst_24 : Ref sig .tc := ⟨.hbm, 218, rfl⟩
abbrev main_v189 : Ref sig .tc := ⟨.hbm, 219, rfl⟩
abbrev main_v190 : Ref sig .tc := ⟨.hbm, 220, rfl⟩
abbrev main_cst_25 : Ref sig .tc := ⟨.hbm, 221, rfl⟩
abbrev main_v191 : Ref sig .tc := ⟨.hbm, 222, rfl⟩
abbrev main_v192 : Ref sig .tc := ⟨.hbm, 223, rfl⟩
abbrev main_cst_26 : Ref sig .tc := ⟨.hbm, 224, rfl⟩
abbrev main_v193 : Ref sig .tc := ⟨.hbm, 225, rfl⟩
abbrev main_v194 : Ref sig .tc := ⟨.hbm, 226, rfl⟩
abbrev main_cst_27 : Ref sig .tc := ⟨.hbm, 227, rfl⟩
abbrev main_v195 : Ref sig .tc := ⟨.hbm, 228, rfl⟩
abbrev main_v196 : Ref sig .tc := ⟨.hbm, 229, rfl⟩
abbrev main_cst_28 : Ref sig .tc := ⟨.hbm, 230, rfl⟩
abbrev main_v197 : Ref sig .tc := ⟨.hbm, 231, rfl⟩
abbrev main_v198 : Ref sig .tc := ⟨.hbm, 232, rfl⟩
abbrev main_cst_29 : Ref sig .tc := ⟨.hbm, 233, rfl⟩
abbrev main_v199 : Ref sig .tc := ⟨.hbm, 234, rfl⟩
abbrev main_v200 : Ref sig .tc := ⟨.hbm, 235, rfl⟩
abbrev main_cst_30 : Ref sig .tc := ⟨.hbm, 236, rfl⟩
abbrev main_v201 : Ref sig .tc := ⟨.hbm, 237, rfl⟩
abbrev main_v202 : Ref sig .tc := ⟨.hbm, 238, rfl⟩
abbrev main_cst_31 : Ref sig .tc := ⟨.hbm, 239, rfl⟩
abbrev main_v203 : Ref sig .tc := ⟨.hbm, 240, rfl⟩
abbrev main_v204 : Ref sig .tc := ⟨.hbm, 241, rfl⟩
abbrev main_cst_32 : Ref sig .tc := ⟨.hbm, 242, rfl⟩
abbrev main_v205 : Ref sig .tc := ⟨.hbm, 243, rfl⟩
abbrev main_v206 : Ref sig .tc := ⟨.hbm, 244, rfl⟩
abbrev main_cst_33 : Ref sig .tc := ⟨.hbm, 245, rfl⟩
abbrev main_v207 : Ref sig .tc := ⟨.hbm, 246, rfl⟩
abbrev main_v208 : Ref sig .tc := ⟨.hbm, 247, rfl⟩
abbrev main_cst_34 : Ref sig .tc := ⟨.hbm, 248, rfl⟩
abbrev main_v209 : Ref sig .tc := ⟨.hbm, 249, rfl⟩
abbrev main_v210 : Ref sig .tc := ⟨.hbm, 250, rfl⟩
abbrev main_cst_35 : Ref sig .tc := ⟨.hbm, 251, rfl⟩
abbrev main_v211 : Ref sig .tc := ⟨.hbm, 252, rfl⟩
abbrev main_v212 : Ref sig .tc := ⟨.hbm, 253, rfl⟩
abbrev main_cst_36 : Ref sig .tc := ⟨.hbm, 254, rfl⟩
abbrev main_v213 : Ref sig .tc := ⟨.hbm, 255, rfl⟩
abbrev main_v214 : Ref sig .tc := ⟨.hbm, 256, rfl⟩
abbrev main_cst_37 : Ref sig .tc := ⟨.hbm, 257, rfl⟩
abbrev main_v215 : Ref sig .tc := ⟨.hbm, 258, rfl⟩
abbrev main_v216 : Ref sig .tc := ⟨.hbm, 259, rfl⟩
abbrev main_cst_38 : Ref sig .tc := ⟨.hbm, 260, rfl⟩
abbrev main_v217 : Ref sig .tc := ⟨.hbm, 261, rfl⟩
abbrev main_v218 : Ref sig .tc := ⟨.hbm, 262, rfl⟩
abbrev main_cst_39 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩

abbrev nD : Nat := 1
abbrev τ : Topo := Topo.v7x

variable {F : FTy → Type} [FloatOps F]
-- ==== KernelMixOut.lean ====
abbrev S4096x512 : Shape := ⟨2, ![4096, 512]⟩
abbrev S4096x2048 : Shape := ⟨2, ![4096, 2048]⟩
abbrev S512 : Shape := ⟨1, ![512]⟩
abbrev S1024x1024 : Shape := ⟨2, ![1024, 1024]⟩
abbrev S1024 : Shape := ⟨1, ![1024]⟩
abbrev S4096x1024 : Shape := ⟨2, ![4096, 1024]⟩
abbrev S1x512 : Shape := ⟨2, ![1, 512]⟩
abbrev S_ : Shape := ⟨0, ![]⟩
abbrev S6x512 : Shape := ⟨2, ![6, 512]⟩
abbrev S8x512 : Shape := ⟨2, ![8, 512]⟩
abbrev S4096 : Shape := ⟨1, ![4096]⟩
abbrev S4096x1 : Shape := ⟨2, ![4096, 1]⟩
abbrev S1x1024 : Shape := ⟨2, ![1, 1024]⟩
abbrev S4x1024 : Shape := ⟨2, ![4, 1024]⟩
abbrev S8x1024 : Shape := ⟨2, ![8, 1024]⟩
abbrev S512x1024 : Shape := ⟨2, ![512, 1024]⟩
abbrev S512x512 : Shape := ⟨2, ![512, 512]⟩
abbrev S512x1 : Shape := ⟨2, ![512, 1]⟩

abbrev nBuf : Space → Nat
  | .hbm => 91
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S4096x1024, .f32⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S6x512, .f32⟩
  | .hbm, ⟨12, _⟩ => ⟨S8x512, .f32⟩
  | .hbm, ⟨13, _⟩ => ⟨S1024x1024, .bf16⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S1x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .bf16⟩
  | .hbm, ⟨53, _⟩ => ⟨S4096x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S_, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .bf16⟩
  | .hbm, ⟨75, _⟩ => ⟨S4096x1024, .bf16⟩
  | .hbm, ⟨76, _⟩ => ⟨S4096x1024, .f32⟩
  | .hbm, ⟨77, _⟩ => ⟨S4096x1024, .bf16⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S4x1024, .f32⟩
  | .hbm, ⟨84, _⟩ => ⟨S8x1024, .f32⟩
  | .hbm, ⟨85, _⟩ => ⟨S1024x1024, .bf16⟩
  | .hbm, ⟨86, _⟩ => ⟨S4096x512, .bf16⟩
  | .hbm, ⟨87, _⟩ => ⟨S4096x512, .bf16⟩
  | .hbm, ⟨88, _⟩ => ⟨S4096x512, .bf16⟩
  | .hbm, ⟨89, _⟩ => ⟨S8x512, .f32⟩
  | .hbm, ⟨90, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x1024, .f32⟩
  | .local _ .vmem, ⟨13, _⟩ => ⟨S8x512, .f32⟩
  | .local _ .vmem, ⟨14, _⟩ => ⟨S1024x1024, .bf16⟩
  | .local _ .vmem, ⟨15, _⟩ => ⟨S1024x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S8x512, .f32⟩
  | .local _ .vmem, ⟨23, _⟩ => ⟨S8x1024, .f32⟩
  | .local _ .vmem, ⟨24, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57_0 : Ref sig .tc := ⟨.hbm, 85, rfl⟩
abbrev main_v57_1 : Ref sig .tc := ⟨.hbm, 86, rfl⟩
abbrev main_v57_2 : Ref sig .tc := ⟨.hbm, 87, rfl⟩
abbrev main_v57_3 : Ref sig .tc := ⟨.hbm, 88, rfl⟩
abbrev main_v57_4 : Ref sig .tc := ⟨.hbm, 89, rfl⟩
abbrev main_v57_5 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v147 : BitVec 1 := Scalar.cmpi .eq arg0 c7_i32
  let v148 : BitVec 32 := Scalar.extui v147
  let c0_i32_73 : BitVec 32 := 0#32
  let v149 : BitVec 1 := Scalar.cmpi .ne v148 c0_i32_73
  v149

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelMixOutIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceMixOutIdeal.lean ====
abbrev S4096x512 : Shape := ⟨2, ![4096, 512]⟩
abbrev S4096x2048 : Shape := ⟨2, ![4096, 2048]⟩
abbrev S512 : Shape := ⟨1, ![512]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩
abbrev S8x512 : Shape := ⟨2, ![8, 512]⟩
abbrev S8x1024 : Shape := ⟨2, ![8, 1024]⟩

abbrev nBuf : Space → Nat
  | .hbm => 197
  | .vmem => 0
  | .smem => 0
  | _ => 0

abbrev hbmTy0_0 (i : Nat) : BufTy := match i % 128 with
  | 0 => ⟨S4096x512, .f32⟩
  | 1 => ⟨S4096x512, .f32⟩
  | 2 => ⟨S4096x2048, .f32⟩
  | 3 => ⟨S512, .f32⟩
  | 4 => ⟨S512, .f32⟩
  | 5 => ⟨S1024x1024, .f32⟩
  | 6 => ⟨S1024, .f32⟩
  | 7 => ⟨S4096x1024, .f32⟩
  | 8 => ⟨S4096x512, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x512, .f32⟩
  | 28 => ⟨S4096x512, .f32⟩
  | 29 => ⟨S_, .f32⟩
  | 30 => ⟨S4096x1, .f32⟩
  | 31 => ⟨S4096x1, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x512, .f32⟩
  | 38 => ⟨S4096x512, .f32⟩
  | 39 => ⟨S1x512, .f32⟩
  | 40 => ⟨S4096x512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S_, .f32⟩
  | 60 => ⟨S_, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S4096x512, .f32⟩
  | 74 => ⟨S_, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S4096x512, .f32⟩
  | 81 => ⟨S_, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S4096x512, .f32⟩
  | 88 => ⟨S4096x512, .f32⟩
  | 89 => ⟨S1x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S1024, .f32⟩
  | 99 => ⟨S1x1024, .f32⟩
  | 100 => ⟨S1024x1024, .f32⟩
  | 101 => ⟨S1024x1024, .f32⟩
  | 102 => ⟨S4096x1024, .f32⟩
  | 103 => ⟨S4096x512, .f32⟩
  | 104 => ⟨S4096x512, .f32⟩
  | 105 => ⟨S_, .f32⟩
  | 106 => ⟨S1024, .f32⟩
  | 107 => ⟨S4096x512, .f32⟩
  | 108 => ⟨S4096x512, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S4096x512, .f32⟩
  | 126 => ⟨S4096x512, .f32⟩
  | 127 => ⟨S_, .f32⟩
  | _ => ⟨S4096x512, .f32⟩

abbrev hbmTy0_1 (i : Nat) : BufTy := match i % 128 with
  | 0 => ⟨S512, .f32⟩
  | 1 => ⟨S1x512, .f32⟩
  | 2 => ⟨S_, .f32⟩
  | 3 => ⟨S512, .f32⟩
  | 4 => ⟨S4096x512, .f32⟩
  | 5 => ⟨S_, .f32⟩
  | 6 => ⟨S512, .f32⟩
  | 7 => ⟨S1x512, .f32⟩
  | 8 => ⟨S4096x512, .f32⟩
  | 9 => ⟨S4096x512, .f32⟩
  | 10 => ⟨S_, .f32⟩
  | 11 => ⟨S512, .f32⟩
  | 12 => ⟨S4096x512, .f32⟩
  | 13 => ⟨S_, .f32⟩
  | 14 => ⟨S4096, .f32⟩
  | 15 => ⟨S4096x1, .f32⟩
  | 16 => ⟨S4096x512, .f32⟩
  | 17 => ⟨S4096x512, .f32⟩
  | 18 => ⟨S4096x1, .f32⟩
  | 19 => ⟨S4096x512, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x512, .f32⟩
  | 29 => ⟨S4096x512, .f32⟩
  | 30 => ⟨S4096x512, .f32⟩
  | 31 => ⟨S_, .f32⟩
  | 32 => ⟨S4096, .f32⟩
  | 33 => ⟨S4096x1, .f32⟩
  | 34 => ⟨S4096x512, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096, .f32⟩
  | 41 => ⟨S4096x512, .f32⟩
  | 42 => ⟨S4096x512, .f32⟩
  | 43 => ⟨S_, .f32⟩
  | 44 => ⟨S512, .f32⟩
  | 45 => ⟨S_, .f32⟩
  | 46 => ⟨S1024, .f32⟩
  | 47 => ⟨S1024x1024, .bf16⟩
  | 48 => ⟨S4096x512, .bf16⟩
  | 49 => ⟨S4096x512, .bf16⟩
  | 50 => ⟨S4096x512, .bf16⟩
  | 51 => ⟨S1x512, .f32⟩
  | 52 => ⟨S1x512, .f32⟩
  | 53 => ⟨S1x512, .f32⟩
  | 54 => ⟨S1x512, .f32⟩
  | 55 => ⟨S1x512, .f32⟩
  | 56 => ⟨S1x512, .f32⟩
  | 57 => ⟨S1x512, .f32⟩
  | 58 => ⟨S1x512, .f32⟩
  | 59 => ⟨S8x512, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S8x1024, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v30_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v30_1 : Ref sig .tc := ⟨.hbm, 56, rfl⟩
abbrev main_v30_0 : Ref sig .tc := ⟨.hbm, 57, rfl⟩
abbrev main_cst_6 : Ref sig .tc := ⟨.hbm, 58, rfl⟩
abbrev main_cst_7 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_cst_11 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_12 : Ref sig .tc := ⟨.hbm, 81, rfl⟩
abbrev main_v48 : Ref sig .tc := ⟨.hbm, 82, rfl⟩
abbrev main_v49 : Ref sig .tc := ⟨.hbm, 83, rfl⟩
abbrev main_cst_13 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_15 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_16 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_17 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v84 : Ref sig .tc := ⟨.hbm, 126, rfl⟩
abbrev main_cst_18 : Ref sig .tc := ⟨.hbm, 127, rfl⟩
abbrev main_v85 : Ref sig .tc := ⟨.hbm, 128, rfl⟩
abbrev main_v86 : Ref sig .tc := ⟨.hbm, 129, rfl⟩
abbrev main_cst_19 : Ref sig .tc := ⟨.hbm, 130, rfl⟩
abbrev main_v87 : Ref sig .tc := ⟨.hbm, 131, rfl⟩
abbrev main_v88 : Ref sig .tc := ⟨.hbm, 132, rfl⟩
abbrev main_cst_20 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_21 : Ref sig .tc := ⟨.hbm, 138, rfl⟩
abbrev main_v93 : Ref sig .tc := ⟨.hbm, 139, rfl⟩
abbrev main_v94 : Ref sig .tc := ⟨.hbm, 140, rfl⟩
abbrev main_cst_22 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_23 : Ref sig .tc := ⟨.hbm, 148, rfl⟩
abbrev main_v101 : Ref sig .tc := ⟨.hbm, 149, rfl⟩
abbrev main_v102 : Ref sig .tc := ⟨.hbm, 150, rfl⟩
abbrev main_cst_24 : Ref sig .tc := ⟨.hbm, 151, rfl⟩
abbrev main_v103 : Ref sig .tc := ⟨.hbm, 152, rfl⟩
abbrev main_v104 : Ref sig .tc := ⟨.hbm, 153, rfl⟩
abbrev main_cst_25 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_26 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_27 : Ref sig .tc := ⟨.hbm, 164, rfl⟩
abbrev main_v113 : Ref sig .tc := ⟨.hbm, 165, rfl⟩
abbrev main_v114 : Ref sig .tc := ⟨.hbm, 166, rfl⟩
abbrev main_cst_28 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_29 : Ref sig .tc := ⟨.hbm, 171, rfl⟩
abbrev main_v118 : Ref sig .tc := ⟨.hbm, 172, rfl⟩
abbrev main_cst_30 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩

abbrev nD : Nat := 1
abbrev τ : Topo := Topo.v7x

variable {F : FTy → Type} [FloatOps F]
-- ==== KernelSwiglu.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S2x4x704x1024 : Shape := ⟨4, ![2, 4, 704, 1024]⟩
abbrev S4x704x1024 : Shape := ⟨3, ![4, 704, 1024]⟩
abbrev S512x1024 : Shape := ⟨2, ![512, 1024]⟩
abbrev S2x1x512x704 : Shape := ⟨4, ![2, 1, 512, 704]⟩
abbrev S704x1024 : Shape := ⟨2, ![704, 1024]⟩
abbrev S2x1x704x1024 : Shape := ⟨4, ![2, 1, 704, 1024]⟩
abbrev S1x704x1024 : Shape := ⟨3, ![1, 704, 1024]⟩
abbrev S512x704 : Shape := ⟨2, ![512, 704]⟩
abbrev S1x1x16x704 : Shape := ⟨4, ![1, 1, 16, 704]⟩
abbrev S16x704 : Shape := ⟨2, ![16, 704]⟩
abbrev S1x1x512x704 : Shape := ⟨4, ![1, 1, 512, 704]⟩
abbrev S1x1x704x1024 : Shape := ⟨4, ![1, 1, 704, 1024]⟩

abbrev nBuf : Space → Nat
  | .hbm => 15
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S1024x5632, .bf16⟩
  | .hbm, ⟨6, _⟩ => ⟨S4096x5632, .f32⟩
  | .hbm, ⟨7, _⟩ => ⟨S4096x5632, .bf16⟩
  | .hbm, ⟨8, _⟩ => ⟨S4096x2x4x704, .bf16⟩
  | .hbm, ⟨9, _⟩ => ⟨S2x4x4096x704, .bf16⟩
  | .hbm, ⟨10, _⟩ => ⟨S4096x1024, .bf16⟩
  | .hbm, ⟨11, _⟩ => ⟨S2816x1024, .bf16⟩
  | .hbm, ⟨12, _⟩ => ⟨S2x4x4096x704, .bf16⟩
  | .hbm, ⟨13, _⟩ => ⟨S2x4x704x1024, .bf16⟩
  | .hbm, ⟨14, _⟩ => ⟨S4x704x1024, .bf16⟩
  | .local _ .vmem, ⟨0, _⟩ => ⟨S512x1024, .bf16⟩
  | .local _ .vmem, ⟨1, _⟩ => ⟨S512x1024, .bf16⟩
  | .local _ .vmem, ⟨2, _⟩ => ⟨S2x1x512x704, .bf16⟩
  | .local _ .vmem, ⟨3, _⟩ => ⟨S2x1x512x704, .bf16⟩
  | .local _ .vmem, ⟨4, _⟩ => ⟨S512x1024, .bf16⟩
  | .local _ .vmem, ⟨5, _⟩ => ⟨S512x1024, .bf16⟩
  | .local _ .vmem, ⟨6, _⟩ => ⟨S704x1024, .bf16⟩
  | .local _ .vmem, ⟨7, _⟩ => ⟨S704x1024, .bf16⟩
  | .local _ .vmem, ⟨8, _⟩ => ⟨S2x1x512x704, .bf16⟩
  | .local _ .vmem, ⟨9, _⟩ => ⟨S2x1x512x704, .bf16⟩
  | .local _ .vmem, ⟨10, _⟩ => ⟨S2x1x704x1024, .bf16⟩
  | .local _ .vmem, ⟨11, _⟩ => ⟨S2x1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S704x1024, .f32⟩
  | .local _ .vmem, ⟨15, _⟩ => ⟨S704x1024, .f32⟩
  | .local _ .vmem, ⟨16, _⟩ => ⟨S704x1024, .f32⟩
  | .local _ .vmem, ⟨17, _⟩ => ⟨S512x704, .f32⟩
  | .local _ .vmem, ⟨18, _⟩ => ⟨S512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v1222 : BitVec 1 := Scalar.cmpi .eq arg1 c7_i32
  let v1223 : BitVec 32 := Scalar.extui v1222
  let c0_i32_803 : BitVec 32 := 0#32
  let v1224 : BitVec 1 := Scalar.cmpi .ne v1223 c0_i32_803
  v1224

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceSwigluIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1024x2816 : Shape := ⟨2, ![1024, 2816]⟩
abbrev S5632x1024 : Shape := ⟨2, ![5632, 1024]⟩
abbrev S4096x2x4x704 : Shape := ⟨4, ![4096, 2, 4, 704]⟩
abbrev S2x4x4096x704 : Shape := ⟨4, ![2, 4, 4096, 704]⟩
abbrev S2x4x704x1024 : Shape := ⟨4, ![2, 4, 704, 1024]⟩
abbrev S4x704x1024 : Shape := ⟨3, ![4, 704, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x5632, .f32⟩
  | .hbm, ⟨32, _⟩ => ⟨S5632x1024, .f32⟩
  | .hbm, ⟨33, _⟩ => ⟨S1024x5632, .f32⟩
  | .hbm, ⟨34, _⟩ => ⟨S4096x5632, .bf16⟩
  | .hbm, ⟨35, _⟩ => ⟨S4096x2x4x704, .bf16⟩
  | .hbm, ⟨36, _⟩ => ⟨S2x4x4096x704, .bf16⟩
  | .hbm, ⟨37, _⟩ => ⟨S5632x1024, .f32⟩
  | .hbm, ⟨38, _⟩ => ⟨S2x4x704x1024, .f32⟩
  | .hbm, ⟨39, _⟩ => ⟨S2x4x704x1024, .bf16⟩
  | .hbm, ⟨40, _⟩ => ⟨S4x704x1024, .f32⟩
  | .hbm, ⟨41, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== KernelMixIn.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x8x256 : Shape := ⟨3, ![1024, 8, 256]⟩
abbrev S8x1024x256 : Shape := ⟨3, ![8, 1024, 256]⟩
abbrev S4096 : Shape := ⟨1, ![4096]⟩
abbrev S4096x1 : Shape := ⟨2, ![4096, 1]⟩
abbrev S4096x512 : Shape := ⟨2, ![4096, 512]⟩
abbrev S4x1024 : Shape := ⟨2, ![4, 1024]⟩
abbrev S512x1024 : Shape := ⟨2, ![512, 1024]⟩
abbrev S512x512 : Shape := ⟨2, ![512, 512]⟩
abbrev S4x1024x512 : Shape := ⟨3, ![4, 1024, 512]⟩
abbrev S1x1024x512 : Shape := ⟨3, ![1, 1024, 512]⟩
abbrev S1024x512 : Shape := ⟨2, ![1024, 512]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 69
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x2048, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S5x1024, .f32⟩
  | .hbm, ⟨14, _⟩ => ⟨S8x1024, .f32⟩
  | .hbm, ⟨15, _⟩ => ⟨S1024x2048, .bf16⟩
  | .hbm, ⟨16, _⟩ => ⟨S1024x8x256, .bf16⟩
  | .hbm, ⟨17, _⟩ => ⟨S8x1024x256, .bf16⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S4096x2048, .bf16⟩
  | .hbm, ⟨52, _⟩ => ⟨S4096x512, .bf16⟩
  | .hbm, ⟨53, _⟩ => ⟨S4096x512, .bf16⟩
  | .hbm, ⟨54, _⟩ => ⟨S4096x512, .bf16⟩
  | .hbm, ⟨55, _⟩ => ⟨S4096x512, .bf16⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S4x1024, .f32⟩
  | .hbm, ⟨62, _⟩ => ⟨S8x1024, .f32⟩
  | .hbm, ⟨63, _⟩ => ⟨S4096x1024, .bf16⟩
  | .hbm, ⟨64, _⟩ => ⟨S4096x1024, .f32⟩
  | .hbm, ⟨65, _⟩ => ⟨S8x1024, .f32⟩
  | .hbm, ⟨66, _⟩ => ⟨S4096x1024, .bf16⟩
  | .hbm, ⟨67, _⟩ => ⟨S8x1024, .f32⟩
  | .hbm, ⟨68, _⟩ => ⟨S8x1024x256, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S8x1024, .f32⟩
  | .local _ .vmem, ⟨13, _⟩ => ⟨S8x1024x256, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | .local _ .vmem, ⟨22, _⟩ => ⟨S512x1024, .bf16⟩
  | .local _ .vmem, ⟨23, _⟩ => ⟨S512x1024, .bf16⟩
  | .local _ .vmem, ⟨24, _⟩ => ⟨S8x1024, .f32⟩
  | .local _ .vmem, ⟨25, _⟩ => ⟨S8x1024x256, .bf16⟩
  | .local _ .vmem, ⟨26, _⟩ => ⟨S4x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48_0 : Ref sig .tc := ⟨.hbm, 64, rfl⟩
abbrev main_v48_1 : Ref sig .tc := ⟨.hbm, 65, rfl⟩
abbrev main_v48_2 : Ref sig .tc := ⟨.hbm, 66, rfl⟩
abbrev main_v48_3 : Ref sig .tc := ⟨.hbm, 67, rfl⟩
abbrev main_v48_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v157 : BitVec 1 := Scalar.cmpi .eq arg0 c7_i32
  let v158 : BitVec 32 := Scalar.extui v157
  let c0_i32_117 : BitVec 32 := 0#32
  let v159 : BitVec 1 := Scalar.cmpi .ne v158 c0_i32_117
  v159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceMixInIdeal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S1024x8x256 : Shape := ⟨3, ![1024, 8, 256]⟩
abbrev S8x1024x256 : Shape := ⟨3, ![8, 1024, 256]⟩
abbrev S8x1024 : Shape := ⟨2, ![8, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x2048, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x2048, .f32⟩
  | .hbm, ⟨46, _⟩ => ⟨S2048x1024, .f32⟩
  | .hbm, ⟨47, _⟩ => ⟨S1024x2048, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S_, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024x8x256, .f32⟩
  | .hbm, ⟨103, _⟩ => ⟨S8x1024x256, .f32⟩
  | .hbm, ⟨104, _⟩ => ⟨S1x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S1x1024, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S8x1024, .f32⟩
  | .hbm, ⟨113, _⟩ => ⟨S4096x1024, .bf16⟩
  | .hbm, ⟨114, _⟩ => ⟨S1x1024, .f32⟩
  | .hbm, ⟨115, _⟩ => ⟨S1x1024, .f32⟩
  | .hbm, ⟨116, _⟩ => ⟨S1x1024, .f32⟩
  | .hbm, ⟨117, _⟩ => ⟨S1x1024, .f32⟩
  | .hbm, ⟨118, _⟩ => ⟨S1x1024, .f32⟩
  | .hbm, ⟨119, _⟩ => ⟨S1x1024, .f32⟩
  | .hbm, ⟨120, _⟩ => ⟨S1x1024, .f32⟩
  | .hbm, ⟨121, _⟩ => ⟨S1x1024, .f32⟩
  | .hbm, ⟨122, _⟩ => ⟨S8x1024, .f32⟩
  | .hbm, ⟨123, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]
-- ==== KernelMixInFwd.lean ====
abbrev S4096x1024 : Shape := ⟨2, ![4096, 1024]⟩
abbrev S1024 : Shape := ⟨1, ![1024]⟩
abbrev S1024x2048 : Shape := ⟨2, ![1024, 2048]⟩
abbrev S1024x8x256 : Shape := ⟨3, ![1024, 8, 256]⟩
abbrev S8x1024x256 : Shape := ⟨3, ![8, 1024, 256]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 16
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S5x1024, .f32⟩
  | .hbm, ⟨13, _⟩ => ⟨S8x1024, .f32⟩
  | .hbm, ⟨14, _⟩ => ⟨S4096x1024, .bf16⟩
  | .hbm, ⟨15, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024x256, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMixInFwdIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== KernelConvFwd.lean ====
abbrev S4096x2048 : Shape := ⟨2, ![4096, 2048]⟩
abbrev S31x512 : Shape := ⟨2, ![31, 512]⟩
abbrev S512 : Shape := ⟨1, ![512]⟩
abbrev S1x512 : Shape := ⟨2, ![1, 512]⟩
abbrev S32x512 : Shape := ⟨2, ![32, 512]⟩
abbrev S4096x512 : Shape := ⟨2, ![4096, 512]⟩
abbrev S4096x128 : Shape := ⟨2, ![4096, 128]⟩
abbrev S32x128 : Shape := ⟨2, ![32, 128]⟩
abbrev S4128x128 : Shape := ⟨2, ![4128, 128]⟩
abbrev S1x128 : Shape := ⟨2, ![1, 128]⟩
abbrev S128x128 : Shape := ⟨2, ![128, 128]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S31x512, .f32⟩
  | .hbm, ⟨2, _⟩ => ⟨S512, .f32⟩
  | .hbm, ⟨3, _⟩ => ⟨S1x512, .f32⟩
  | .hbm, ⟨4, _⟩ => ⟨S32x512, .f32⟩
  | .hbm, ⟨5, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S32x128, .f32⟩
  | .local _ .vmem, ⟨5, _⟩ => ⟨S32x128, .f32⟩
  | .local _ .vmem, ⟨6, _⟩ => ⟨S4096x128, .f32⟩
  | .local _ .vmem, ⟨7, _⟩ => ⟨S4096x128, .f32⟩
  | .local _ .vmem, ⟨8, _⟩ => ⟨S4128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceConvFwdIdeal.lean ====
abbrev S4096x2048 : Shape := ⟨2, ![4096, 2048]⟩
abbrev S31x512 : Shape := ⟨2, ![31, 512]⟩
abbrev S512 : Shape := ⟨1, ![512]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩

abbrev nBuf : Space → Nat
  | .hbm => 239
  | .vmem => 0
  | .smem => 0
  | _ => 0

abbrev hbmTy0_0 (i : Nat) : BufTy := match i % 128 with
  | 0 => ⟨S4096x2048, .f32⟩
  | 1 => ⟨S31x512, .f32⟩
  | 2 => ⟨S512, .f32⟩
  | 3 => ⟨S4096x512, .f32⟩
  | 4 => ⟨S4096x512, .f32⟩
  | 5 => ⟨S_, .f32⟩
  | 6 => ⟨S30x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S4096x512, .f32⟩
  | 16 => ⟨S4126x512, .f32⟩
  | 17 => ⟨S1x512, .f32⟩
  | 18 => ⟨S512, .f32⟩
  | 19 => ⟨S4096x512, .f32⟩
  | 20 => ⟨S1x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S1x512, .f32⟩
  | 27 => ⟨S512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S4096x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S1x512, .f32⟩
  | 90 => ⟨S512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S1x512, .f32⟩
  | 111 => ⟨S512, .f32⟩
  | 112 => ⟨S4096x512, .f32⟩
  | 113 => ⟨S1x512, .f32⟩
  | 114 => ⟨S4096x512, .f32⟩
  | 115 => ⟨S4096x512, .f32⟩
  | 116 => ⟨S4096x512, .f32⟩
  | 117 => ⟨S1x512, .f32⟩
  | 118 => ⟨S512, .f32⟩
  | 119 => ⟨S4096x512, .f32⟩
  | 120 => ⟨S1x512, .f32⟩
  | 121 => ⟨S4096x512, .f32⟩
  | 122 => ⟨S4096x512, .f32⟩
  | 123 => ⟨S4096x512, .f32⟩
  | 124 => ⟨S1x512, .f32⟩
  | 125 => ⟨S512, .f32⟩
  | 126 => ⟨S4096x512, .f32⟩
  | 127 => ⟨S1x512, .f32⟩
  | _ => ⟨S4096x2048, .f32⟩

abbrev hbmTy0_1 (i : Nat) : BufTy := match i % 128 with
  | 0 => ⟨S4096x512, .f32⟩
  | 1 => ⟨S4096x512, .f32⟩
  | 2 => ⟨S4096x512, .f32⟩
  | 3 => ⟨S1x512, .f32⟩
  | 4 => ⟨S512, .f32⟩
  | 5 => ⟨S4096x512, .f32⟩
  | 6 => ⟨S1x512, .f32⟩
  | 7 => ⟨S4096x512, .f32⟩
  | 8 => ⟨S4096x512, .f32⟩
  | 9 => ⟨S4096x512, .f32⟩
  | 10 => ⟨S1x512, .f32⟩
  | 11 => ⟨S512, .f32⟩
  | 12 => ⟨S4096x512, .f32⟩
  | 13 => ⟨S1x512, .f32⟩
  | 14 => ⟨S4096x512, .f32⟩
  | 15 => ⟨S4096x512, .f32⟩
  | 16 => ⟨S4096x512, .f32⟩
  | 17 => ⟨S1x512, .f32⟩
  | 18 => ⟨S512, .f32⟩
  | 19 => ⟨S4096x512, .f32⟩
  | 20 => ⟨S1x512, .f32⟩
  | 21 => ⟨S4096x512, .f32⟩
  | 22 => ⟨S4096x512, .f32⟩
  | 23 => ⟨S4096x512, .f32⟩
  | 24 => ⟨S1x512, .f32⟩
  | 25 => ⟨S512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S1x512, .f32⟩
  | 46 => ⟨S512, .f32⟩
  | 47 => ⟨S4096x512, .f32⟩
  | 48 => ⟨S1x512, .f32⟩
  | 49 => ⟨S4096x512, .f32⟩
  | 50 => ⟨S4096x512, .f32⟩
  | 51 => ⟨S4096x512, .f32⟩
  | 52 => ⟨S1x512, .f32⟩
  | 53 => ⟨S512, .f32⟩
  | 54 => ⟨S4096x512, .f32⟩
  | 55 => ⟨S1x512, .f32⟩
  | 56 => ⟨S4096x512, .f32⟩
  | 57 => ⟨S4096x512, .f32⟩
  | 58 => ⟨S4096x512, .f32⟩
  | 59 => ⟨S1x512, .f32⟩
  | 60 => ⟨S512, .f32⟩
  | 61 => ⟨S4096x512, .f32⟩
  | 62 => ⟨S1x512, .f32⟩
  | 63 => ⟨S4096x512, .f32⟩
  | 64 => ⟨S4096x512, .f32⟩
  | 65 => ⟨S4096x512, .f32⟩
  | 66 => ⟨S1x512, .f32⟩
  | 67 => ⟨S512, .f32⟩
  | 68 => ⟨S4096x512, .f32⟩
  | 69 => ⟨S1x512, .f32⟩
  | 70 => ⟨S4096x512, .f32⟩
  | 71 => ⟨S4096x512, .f32⟩
  | 72 => ⟨S4096x512, .f32⟩
  | 73 => ⟨S1x512, .f32⟩
  | 74 => ⟨S512, .f32⟩
  | 75 => ⟨S4096x512, .f32⟩
  | 76 => ⟨S1x512, .f32⟩
  | 77 => ⟨S4096x512, .f32⟩
  | 78 => ⟨S4096x512, .f32⟩
  | 79 => ⟨S4096x512, .f32⟩
  | 80 => ⟨S1x512, .f32⟩
  | 81 => ⟨S512, .f32⟩
  | 82 => ⟨S4096x512, .f32⟩
  | 83 => ⟨S1x512, .f32⟩
  | 84 => ⟨S4096x512, .f32⟩
  | 85 => ⟨S4096x512, .f32⟩
  | 86 => ⟨S4096x512, .f32⟩
  | 87 => ⟨S1x512, .f32⟩
  | 88 => ⟨S512, .f32⟩
  | 89 => ⟨S4096x512, .f32⟩
  | 90 => ⟨S1x512, .f32⟩
  | 91 => ⟨S4096x512, .f32⟩
  | 92 => ⟨S4096x512, .f32⟩
  | 93 => ⟨S4096x512, .f32⟩
  | 94 => ⟨S1x512, .f32⟩
  | 95 => ⟨S512, .f32⟩
  | 96 => ⟨S4096x512, .f32⟩
  | 97 => ⟨S1x512, .f32⟩
  | 98 => ⟨S4096x512, .f32⟩
  | 99 => ⟨S4096x512, .f32⟩
  | 100 => ⟨S4096x512, .f32⟩
  | 101 => ⟨S1x512, .f32⟩
  | 102 => ⟨S512, .f32⟩
  | 103 => ⟨S4096x512, .f32⟩
  | 104 => ⟨S1x512, .f32⟩
  | 105 => ⟨S4096x512, .f32⟩
  | 106 => ⟨S4096x512, .f32⟩
  | 107 => ⟨S4096x512, .f32⟩
  | 108 => ⟨S1x512, .f32⟩
  | 109 => ⟨S4096x512, .f32⟩
  | 110 => ⟨S4096x512, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩

abbrev nD : Nat := 1
abbrev τ : Topo := Topo.v7x

variable {F : FTy → Type} [FloatOps F]
-- ==== KernelMixOutFwd.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1x512 : Shape := ⟨2, ![1, 512]⟩
abbrev S6x512 : Shape := ⟨2, ![6, 512]⟩
abbrev S8x512 : Shape := ⟨2, ![8, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S4096x512, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S4x1024, .f32⟩
  | .hbm, ⟨14, _⟩ => ⟨S8x1024, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S6x512, .f32⟩
  | .hbm, ⟨19, _⟩ => ⟨S8x512, .f32⟩
  | .hbm, ⟨20, _⟩ => ⟨S1024x1024, .bf16⟩
  | .hbm, ⟨21, _⟩ => ⟨S4096x1024, .f32⟩
  | .hbm, ⟨22, _⟩ => ⟨S4096x1024, .bf16⟩
  | .hbm, ⟨23, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S8x1024, .f32⟩
  | .local _ .vmem, ⟨7, _⟩ => ⟨S8x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMixOutFwdIdeal.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x512, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== KernelRnnFwd.lean ====
abbrev S4096x2048 : Shape := ⟨2, ![4096, 2048]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S8x512 : Shape := ⟨2, ![8, 512]⟩
abbrev S1x512 : Shape := ⟨2, ![1, 512]⟩
abbrev S4x64x64 : Shape := ⟨3, ![4, 64, 64]⟩
abbrev S4x64x128 : Shape := ⟨3, ![4, 64, 128]⟩
abbrev S4x128x128 : Shape := ⟨3, ![4, 128, 128]⟩
abbrev S4096x512 : Shape := ⟨2, ![4096, 512]⟩
abbrev S4096x128 : Shape := ⟨2, ![4096, 128]⟩
abbrev S8x128 : Shape := ⟨2, ![8, 128]⟩
abbrev S1x128x128 : Shape := ⟨3, ![1, 128, 128]⟩
abbrev S4104x128 : Shape := ⟨2, ![4104, 128]⟩
abbrev S512x128 : Shape := ⟨2, ![512, 128]⟩
abbrev S1x128 : Shape := ⟨2, ![1, 128]⟩
abbrev S128x128 : Shape := ⟨2, ![128, 128]⟩

abbrev nBuf : Space → Nat
  | .hbm => 36
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S4x512, .f32⟩
  | .hbm, ⟨10, _⟩ => ⟨S8x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S4x512, .f32⟩
  | .hbm, ⟨17, _⟩ => ⟨S8x512, .f32⟩
  | .hbm, ⟨18, _⟩ => ⟨S_, .f32⟩
  | .hbm, ⟨19, _⟩ => ⟨S4x64x64, .f32⟩
  | .hbm, ⟨20, _⟩ => ⟨S4x64x64, .f32⟩
  | .hbm, ⟨21, _⟩ => ⟨S4x64x128, .f32⟩
  | .hbm, ⟨22, _⟩ => ⟨S4x64x64, .f32⟩
  | .hbm, ⟨23, _⟩ => ⟨S4x64x128, .f32⟩
  | .hbm, ⟨24, _⟩ => ⟨S4x128x128, .f32⟩
  | .hbm, ⟨25, _⟩ => ⟨S4x128x128, .bf16⟩
  | .hbm, ⟨26, _⟩ => ⟨S_, .f32⟩
  | .hbm, ⟨27, _⟩ => ⟨S4x64x64, .f32⟩
  | .hbm, ⟨28, _⟩ => ⟨S4x64x64, .f32⟩
  | .hbm, ⟨29, _⟩ => ⟨S4x64x128, .f32⟩
  | .hbm, ⟨30, _⟩ => ⟨S4x64x64, .f32⟩
  | .hbm, ⟨31, _⟩ => ⟨S4x64x128, .f32⟩
  | .hbm, ⟨32, _⟩ => ⟨S4x128x128, .f32⟩
  | .hbm, ⟨33, _⟩ => ⟨S4x128x128, .bf16⟩
  | .hbm, ⟨34, _⟩ => ⟨S4096x512, .f32⟩
  | .hbm, ⟨35, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .bf16⟩
  | .local _ .vmem, ⟨15, _⟩ => ⟨S4096x128, .bf16⟩
  | .local _ .vmem, ⟨16, _⟩ => ⟨S4104x128, .f32⟩
  | .local _ .vmem, ⟨17, _⟩ => ⟨S4096x128, .f32⟩
  | .local _ .vmem, ⟨18, _⟩ => ⟨S4096x128, .f32⟩
  | .local _ .vmem, ⟨19, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelRnnFwdIdeal.lean ====
variable {F : FTy → Type} [FloatOps F] [Named F]
def κ : String → Option EReal := fun
  | "gelu_c" => some ((8943 / 200000 : ℝ) : EReal)
  | _ => none
-- ==== ReferenceRnnFwdIdeal.lean ====
abbrev S4096x2048 : Shape := ⟨2, ![4096, 2048]⟩
abbrev S4x512 : Shape := ⟨2, ![4, 512]⟩
abbrev S512 : Shape := ⟨1, ![512]⟩
abbrev S8x64x64 : Shape := ⟨3, ![8, 64, 64]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩
abbrev S4096x8x64 : Shape := ⟨3, ![4096, 8, 64]⟩
abbrev S8x64x4096 : Shape := ⟨3, ![8, 64, 4096]⟩
abbrev S2048x512 : Shape := ⟨2, ![2048, 512]⟩
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S2x512 : Shape := ⟨2, ![2, 512]⟩
abbrev S0x512 : Shape := ⟨2, ![0, 512]⟩
abbrev S7x512 : Shape := ⟨2, ![7, 512]⟩
abbrev S15x512 : Shape := ⟨2, ![15, 512]⟩
abbrev S31x512 : Shape := ⟨2, ![31, 512]⟩
abbrev S63x512 : Shape := ⟨2, ![63, 512]⟩
abbrev S127x512 : Shape := ⟨2, ![127, 512]⟩
abbrev S255x512 : Shape := ⟨2, ![255, 512]⟩
abbrev S511x512 : Shape := ⟨2, ![511, 512]⟩
abbrev S1023x512 : Shape := ⟨2, ![1023, 512]⟩
abbrev S2047x512 : Shape := ⟨2, ![2047, 512]⟩

abbrev nBuf : Space → Nat
  | .hbm => 464
  | .vmem => 0
  | .smem => 0
  | _ => 0

abbrev hbmTy0_0 (i : Nat) : BufTy := match i % 128 with
  | 0 => ⟨S4096x2048, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S4096x512, .f32⟩
  | 9 => ⟨S_, .f32⟩
  | 10 => ⟨S3x512, .f32⟩
  | 11 => ⟨S4099x512, .f32⟩
  | 12 => ⟨S1x512, .f32⟩
  | 13 => ⟨S512, .f32⟩
  | 14 => ⟨S4096x512, .f32⟩
  | 15 => ⟨S1x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S1x512, .f32⟩
  | 22 => ⟨S512, .f32⟩
  | 23 => ⟨S4096x512, .f32⟩
  | 24 => ⟨S1x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S4096x512, .f32⟩
  | 31 => ⟨S1x512, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S4096x512, .f32⟩
  | 38 => ⟨S1x512, .f32⟩
  | 39 => ⟨S4096x512, .f32⟩
  | 40 => ⟨S4096x512, .f32⟩
  | 41 => ⟨S4096x512, .f32⟩
  | 42 => ⟨S1x512, .f32⟩
  | 43 => ⟨S4096x512, .f32⟩
  | 44 => ⟨S4096x512, .f32⟩
  | 45 => ⟨S4096x8x64, .f32⟩
  | 46 => ⟨S8x64x4096, .f32⟩
  | 47 => ⟨S4096x8x64, .f32⟩
  | 48 => ⟨S4096x512, .f32⟩
  | 49 => ⟨S1x512, .f32⟩
  | 50 => ⟨S4096x512, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x8x64, .f32⟩
  | 61 => ⟨S8x64x4096, .f32⟩
  | 62 => ⟨S4096x8x64, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S512, .f32⟩
  | 79 => ⟨S_, .f32⟩
  | 80 => ⟨S512, .f32⟩
  | 81 => ⟨S512, .f32⟩
  | 82 => ⟨S512, .f32⟩
  | 83 => ⟨S512, .f32⟩
  | 84 => ⟨S512, .i1⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S1x512, .f32⟩
  | 95 => ⟨S4096x512, .f32⟩
  | 96 => ⟨S4096x512, .f32⟩
  | 97 => ⟨S4096x512, .f32⟩
  | 98 => ⟨S_, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S1024x512, .f32⟩
  | 114 => ⟨S1024x512, .f32⟩
  | 115 => ⟨S1024x512, .f32⟩
  | 116 => ⟨S1024x512, .f32⟩
  | 117 => ⟨S1024x512, .f32⟩
  | 118 => ⟨S1024x512, .f32⟩
  | 119 => ⟨S1024x512, .f32⟩
  | 120 => ⟨S512x512, .f32⟩
  | 121 => ⟨S512x512, .f32⟩
  | 122 => ⟨S512x512, .f32⟩
  | 123 => ⟨S512x512, .f32⟩
  | 124 => ⟨S512x512, .f32⟩
  | 125 => ⟨S512x512, .f32⟩
  | 126 => ⟨S512x512, .f32⟩
  | 127 => ⟨S256x512, .f32⟩
  | _ => ⟨S4096x2048, .f32⟩

abbrev hbmTy0_1 (i : Nat) : BufTy := match i % 128 with
  | 0 => ⟨S256x512, .f32⟩
  | 1 => ⟨S256x512, .f32⟩
  | 2 => ⟨S256x512, .f32⟩
  | 3 => ⟨S256x512, .f32⟩
  | 4 => ⟨S256x512, .f32⟩
  | 5 => ⟨S256x512, .f32⟩
  | 6 => ⟨S128x512, .f32⟩
  | 7 => ⟨S128x512, .f32⟩
  | 8 => ⟨S128x512, .f32⟩
  | 9 => ⟨S128x512, .f32⟩
  | 10 => ⟨S128x512, .f32⟩
  | 11 => ⟨S128x512, .f32⟩
  | 12 => ⟨S128x512, .f32⟩
  | 13 => ⟨S64x512, .f32⟩
  | 14 => ⟨S64x512, .f32⟩
  | 15 => ⟨S64x512, .f32⟩
  | 16 => ⟨S64x512, .f32⟩
  | 17 => ⟨S64x512, .f32⟩
  | 18 => ⟨S64x512, .f32⟩
  | 19 => ⟨S64x512, .f32⟩
  | 20 => ⟨S32x512, .f32⟩
  | 21 => ⟨S32x512, .f32⟩
  | 22 => ⟨S32x512, .f32⟩
  | 23 => ⟨S32x512, .f32⟩
  | 24 => ⟨S32x512, .f32⟩
  | 25 => ⟨S32x512, .f32⟩
  | 26 => ⟨S32x512, .f32⟩
  | 27 => ⟨S16x512, .f32⟩
  | 28 => ⟨S16x512, .f32⟩
  | 29 => ⟨S16x512, .f32⟩
  | 30 => ⟨S16x512, .f32⟩
  | 31 => ⟨S16x512, .f32⟩
  | 32 => ⟨S16x512, .f32⟩
  | 33 => ⟨S16x512, .f32⟩
  | 34 => ⟨S8x512, .f32⟩
  | 35 => ⟨S8x512, .f32⟩
  | 36 => ⟨S8x512, .f32⟩
  | 37 => ⟨S8x512, .f32⟩
  | 38 => ⟨S8x512, .f32⟩
  | 39 => ⟨S8x512, .f32⟩
  | 40 => ⟨S8x512, .f32⟩
  | 41 => ⟨S4x512, .f32⟩
  | 42 => ⟨S4x512, .f32⟩
  | 43 => ⟨S4x512, .f32⟩
  | 44 => ⟨S4x512, .f32⟩
  | 45 => ⟨S4x512, .f32⟩
  | 46 => ⟨S4x512, .f32⟩
  | 47 => ⟨S4x512, .f32⟩
  | 48 => ⟨S2x512, .f32⟩
  | 49 => ⟨S2x512, .f32⟩
  | 50 => ⟨S2x512, .f32⟩
  | 51 => ⟨S2x512, .f32⟩
  | 52 => ⟨S2x512, .f32⟩
  | 53 => ⟨S2x512, .f32⟩
  | 54 => ⟨S2x512, .f32⟩
  | 55 => ⟨S1x512, .f32⟩
  | 56 => ⟨S1x512, .f32⟩
  | 57 => ⟨S1x512, .f32⟩
  | 58 => ⟨S1x512, .f32⟩
  | 59 => ⟨S1x512, .f32⟩
  | 60 => ⟨S1x512, .f32⟩
  | 61 => ⟨S1x512, .f32⟩
  | 62 => ⟨S0x512, .f32⟩
  | 63 => ⟨S0x512, .f32⟩
  | 64 => ⟨S0x512, .f32⟩
  | 65 => ⟨S0x512, .f32⟩
  | 66 => ⟨S0x512, .f32⟩
  | 67 => ⟨S0x512, .f32⟩
  | 68 => ⟨S0x512, .f32⟩
  | 69 => ⟨S1x512, .f32⟩
  | 70 => ⟨S1x512, .f32⟩
  | 71 => ⟨S1x512, .f32⟩
  | 72 => ⟨S1x512, .f32⟩
  | 73 => ⟨S_, .f32⟩
  | 74 => ⟨S2x512, .f32⟩
  | 75 => ⟨S_, .f32⟩
  | 76 => ⟨S2x512, .f32⟩
  | 77 => ⟨S2x512, .f32⟩
  | 78 => ⟨S_, .f32⟩
  | 79 => ⟨S2x512, .f32⟩
  | 80 => ⟨S_, .f32⟩
  | 81 => ⟨S2x512, .f32⟩
  | 82 => ⟨S2x512, .f32⟩
  | 83 => ⟨S1x512, .f32⟩
  | 84 => ⟨S1x512, .f32⟩
  | 85 => ⟨S1x512, .f32⟩
  | 86 => ⟨S1x512, .f32⟩
  | 87 => ⟨S1x512, .f32⟩
  | 88 => ⟨S1x512, .f32⟩
  | 89 => ⟨S1x512, .f32⟩
  | 90 => ⟨S1x512, .f32⟩
  | 91 => ⟨S2x512, .f32⟩
  | 92 => ⟨S1x512, .f32⟩
  | 93 => ⟨S2x512, .f32⟩
  | 94 => ⟨S_, .f32⟩
  | 95 => ⟨S4x512, .f32⟩
  | 96 => ⟨S_, .f32⟩
  | 97 => ⟨S4x512, .f32⟩
  | 98 => ⟨S4x512, .f32⟩
  | 99 => ⟨S_, .f32⟩
  | 100 => ⟨S4x512, .f32⟩
  | 101 => ⟨S_, .f32⟩
  | 102 => ⟨S4x512, .f32⟩
  | 103 => ⟨S4x512, .f32⟩
  | 104 => ⟨S3x512, .f32⟩
  | 105 => ⟨S3x512, .f32⟩
  | 106 => ⟨S3x512, .f32⟩
  | 107 => ⟨S3x512, .f32⟩
  | 108 => ⟨S3x512, .f32⟩
  | 109 => ⟨S3x512, .f32⟩
  | 110 => ⟨S3x512, .f32⟩
  | 111 => ⟨S1x512, .f32⟩
  | 112 => ⟨S4x512, .f32⟩
  | 113 => ⟨S1x512, .f32⟩
  | 114 => ⟨S4x512, .f32⟩
  | 115 => ⟨S_, .f32⟩
  | 116 => ⟨S8x512, .f32⟩
  | 117 => ⟨S_, .f32⟩
  | 118 => ⟨S8x512, .f32⟩
  | 119 => ⟨S8x512, .f32⟩
  | 120 => ⟨S_, .f32⟩
  | 121 => ⟨S8x512, .f32⟩
  | 122 => ⟨S_, .f32⟩
  | 123 => ⟨S8x512, .f32⟩
  | 124 => ⟨S8x512, .f32⟩
  | 125 => ⟨S7x512, .f32⟩
  | 126 => ⟨S7x512, .f32⟩
  | 127 => ⟨S7x512, .f32⟩
  | _ => ⟨S4096x2048, .f32⟩

abbrev hbmTy0_2 (i : Nat) : BufTy := match i % 128 with
  | 0 => ⟨S7x512, .f32⟩
  | 1 => ⟨S7x512, .f32⟩
  | 2 => ⟨S7x512, .f32⟩
  | 3 => ⟨S7x512, .f32⟩
  | 4 => ⟨S1x512, .f32⟩
  | 5 => ⟨S8x512, .f32⟩
  | 6 => ⟨S1x512, .f32⟩
  | 7 => ⟨S8x512, .f32⟩
  | 8 => ⟨S_, .f32⟩
  | 9 => ⟨S16x512, .f32⟩
  | 10 => ⟨S_, .f32⟩
  | 11 => ⟨S16x512, .f32⟩
  | 12 => ⟨S16x512, .f32⟩
  | 13 => ⟨S_, .f32⟩
  | 14 => ⟨S16x512, .f32⟩
  | 15 => ⟨S_, .f32⟩
  | 16 => ⟨S16x512, .f32⟩
  | 17 => ⟨S16x512, .f32⟩
  | 18 => ⟨S15x512, .f32⟩
  | 19 => ⟨S15x512, .f32⟩
  | 20 => ⟨S15x512, .f32⟩
  | 21 => ⟨S15x512, .f32⟩
  | 22 => ⟨S15x512, .f32⟩
  | 23 => ⟨S15x512, .f32⟩
  | 24 => ⟨S15x512, .f32⟩
  | 25 => ⟨S1x512, .f32⟩
  | 26 => ⟨S16x512, .f32⟩
  | 27 => ⟨S1x512, .f32⟩
  | 28 => ⟨S16x512, .f32⟩
  | 29 => ⟨S_, .f32⟩
  | 30 => ⟨S32x512, .f32⟩
  | 31 => ⟨S_, .f32⟩
  | 32 => ⟨S32x512, .f32⟩
  | 33 => ⟨S32x512, .f32⟩
  | 34 => ⟨S_, .f32⟩
  | 35 => ⟨S32x512, .f32⟩
  | 36 => ⟨S_, .f32⟩
  | 37 => ⟨S32x512, .f32⟩
  | 38 => ⟨S32x512, .f32⟩
  | 39 => ⟨S31x512, .f32⟩
  | 40 => ⟨S31x512, .f32⟩
  | 41 => ⟨S31x512, .f32⟩
  | 42 => ⟨S31x512, .f32⟩
  | 43 => ⟨S31x512, .f32⟩
  | 44 => ⟨S31x512, .f32⟩
  | 45 => ⟨S31x512, .f32⟩
  | 46 => ⟨S1x512, .f32⟩
  | 47 => ⟨S32x512, .f32⟩
  | 48 => ⟨S1x512, .f32⟩
  | 49 => ⟨S32x512, .f32⟩
  | 50 => ⟨S_, .f32⟩
  | 51 => ⟨S64x512, .f32⟩
  | 52 => ⟨S_, .f32⟩
  | 53 => ⟨S64x512, .f32⟩
  | 54 => ⟨S64x512, .f32⟩
  | 55 => ⟨S_, .f32⟩
  | 56 => ⟨S64x512, .f32⟩
  | 57 => ⟨S_, .f32⟩
  | 58 => ⟨S64x512, .f32⟩
  | 59 => ⟨S64x512, .f32⟩
  | 60 => ⟨S63x512, .f32⟩
  | 61 => ⟨S63x512, .f32⟩
  | 62 => ⟨S63x512, .f32⟩
  | 63 => ⟨S63x512, .f32⟩
  | 64 => ⟨S63x512, .f32⟩
  | 65 => ⟨S63x512, .f32⟩
  | 66 => ⟨S63x512, .f32⟩
  | 67 => ⟨S1x512, .f32⟩
  | 68 => ⟨S64x512, .f32⟩
  | 69 => ⟨S1x512, .f32⟩
  | 70 => ⟨S64x512, .f32⟩
  | 71 => ⟨S_, .f32⟩
  | 72 => ⟨S128x512, .f32⟩
  | 73 => ⟨S_, .f32⟩
  | 74 => ⟨S128x512, .f32⟩
  | 75 => ⟨S128x512, .f32⟩
  | 76 => ⟨S_, .f32⟩
  | 77 => ⟨S128x512, .f32⟩
  | 78 => ⟨S_, .f32⟩
  | 79 => ⟨S128x512, .f32⟩
  | 80 => ⟨S128x512, .f32⟩
  | 81 => ⟨S127x512, .f32⟩
  | 82 => ⟨S127x512, .f32⟩
  | 83 => ⟨S127x512, .f32⟩
  | 84 => ⟨S127x512, .f32⟩
  | 85 => ⟨S127x512, .f32⟩
  | 86 => ⟨S127x512, .f32⟩
  | 87 => ⟨S127x512, .f32⟩
  | 88 => ⟨S1x512, .f32⟩
  | 89 => ⟨S128x512, .f32⟩
  | 90 => ⟨S1x512, .f32⟩
  | 91 => ⟨S128x512, .f32⟩
  | 92 => ⟨S_, .f32⟩
  | 93 => ⟨S256x512, .f32⟩
  | 94 => ⟨S_, .f32⟩
  | 95 => ⟨S256x512, .f32⟩
  | 96 => ⟨S256x512, .f32⟩
  | 97 => ⟨S_, .f32⟩
  | 98 => ⟨S256x512, .f32⟩
  | 99 => ⟨S_, .f32⟩
  | 100 => ⟨S256x512, .f32⟩
  | 101 => ⟨S256x512, .f32⟩
  | 102 => ⟨S255x512, .f32⟩
  | 103 => ⟨S255x512, .f32⟩
  | 104 => ⟨S255x512, .f32⟩
  | 105 => ⟨S255x512, .f32⟩
  | 106 => ⟨S255x512, .f32⟩
  | 107 => ⟨S255x512, .f32⟩
  | 108 => ⟨S255x512, .f32⟩
  | 109 => ⟨S1x512, .f32⟩
  | 110 => ⟨S256x512, .f32⟩
  | 111 => ⟨S1x512, .f32⟩
  | 112 => ⟨S256x512, .f32⟩
  | 113 => ⟨S_, .f32⟩
  | 114 => ⟨S512x512, .f32⟩
  | 115 => ⟨S_, .f32⟩
  | 116 => ⟨S512x512, .f32⟩
  | 117 => ⟨S512x512, .f32⟩
  | 118 => ⟨S_, .f32⟩
  | 119 => ⟨S512x512, .f32⟩
  | 120 => ⟨S_, .f32⟩
  | 121 => ⟨S512x512, .f32⟩
  | 122 => ⟨S512x512, .f32⟩
  | 123 => ⟨S511x512, .f32⟩
  | 124 => ⟨S511x512, .f32⟩
  | 125 => ⟨S511x512, .f32⟩
  | 126 => ⟨S511x512, .f32⟩
  | 127 => ⟨S511x512, .f32⟩
  | _ => ⟨S4096x2048, .f32⟩

abbrev hbmTy0_3 (i : Nat) : BufTy := match i % 128 with
  | 0 => ⟨S511x512, .f32⟩
  | 1 => ⟨S511x512, .f32⟩
  | 2 => ⟨S1x512, .f32⟩
  | 3 => ⟨S512x512, .f32⟩
  | 4 => ⟨S1x512, .f32⟩
  | 5 => ⟨S512x512, .f32⟩
  | 6 => ⟨S_, .f32⟩
  | 7 => ⟨S1024x512, .f32⟩
  | 8 => ⟨S_, .f32⟩
  | 9 => ⟨S1024x512, .f32⟩
  | 10 => ⟨S1024x512, .f32⟩
  | 11 => ⟨S_, .f32⟩
  | 12 => ⟨S1024x512, .f32⟩
  | 13 => ⟨S_, .f32⟩
  | 14 => ⟨S1024x512, .f32⟩
  | 15 => ⟨S1024x512, .f32⟩
  | 16 => ⟨S1023x512, .f32⟩
  | 17 => ⟨S1023x512, .f32⟩
  | 18 => ⟨S1023x512, .f32⟩
  | 19 => ⟨S1023x512, .f32⟩
  | 20 => ⟨S1023x512, .f32⟩
  | 21 => ⟨S1023x512, .f32⟩
  | 22 => ⟨S1023x512, .f32⟩
  | 23 => ⟨S1x512, .f32⟩
  | 24 => ⟨S1024x512, .f32⟩
  | 25 => ⟨S1x512, .f32⟩
  | 26 => ⟨S1024x512, .f32⟩
  | 27 => ⟨S_, .f32⟩
  | 28 => ⟨S2048x512, .f32⟩
  | 29 => ⟨S_, .f32⟩
  | 30 => ⟨S2048x512, .f32⟩
  | 31 => ⟨S2048x512, .f32⟩
  | 32 => ⟨S_, .f32⟩
  | 33 => ⟨S2048x512, .f32⟩
  | 34 => ⟨S_, .f32⟩
  | 35 => ⟨S2048x512, .f32⟩
  | 36 => ⟨S2048x512, .f32⟩
  | 37 => ⟨S2047x512, .f32⟩
  | 38 => ⟨S2047x512, .f32⟩
  | 39 => ⟨S2047x512, .f32⟩
  | 40 => ⟨S2047x512, .f32⟩
  | 41 => ⟨S2047x512, .f32⟩
  | 42 => ⟨S2047x512, .f32⟩
  | 43 => ⟨S2047x512, .f32⟩
  | 44 => ⟨S1x512, .f32⟩
  | 45 => ⟨S2048x512, .f32⟩
  | 46 => ⟨S1x512, .f32⟩
  | 47 => ⟨S2048x512, .f32⟩
  | 48 => ⟨S_, .f32⟩
  | 49 => ⟨S4096x512, .f32⟩
  | 50 => ⟨S_, .f32⟩
  | 51 => ⟨S4096x512, .f32⟩
  | 52 => ⟨S4096x512, .f32⟩
  | 53 => ⟨S_, .f32⟩
  | 54 => ⟨S4096x512, .f32⟩
  | 55 => ⟨S_, .f32⟩
  | 56 => ⟨S4096x512, .f32⟩
  | 57 => ⟨S4096x512, .f32⟩
  | 58 => ⟨S4096x512, .f32⟩
  | 59 => ⟨S_, .f32⟩
  | 60 => ⟨S_, .f32⟩
  | 61 => ⟨S_, .f32⟩
  | 62 => ⟨S4096x512, .f32⟩
  | 63 => ⟨S4096x512, .f32⟩
  | 64 => ⟨S4096x512, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S_, .f32⟩
  | 75 => ⟨S4096x512, .f32⟩
  | 76 => ⟨S4096x512, .f32⟩
  | 77 => ⟨S4096x512, .f32⟩
  | 78 => ⟨S4096x512, .f32⟩
  | 79 => ⟨S4096x512, .bf16⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_call0_v0 : Ref sig .tc := ⟨.hbm, 78, rfl⟩
abbrev main_call0_call0_cst : Ref sig .tc := ⟨.hbm, 79, rfl⟩
abbrev main_call0_call0_v0 : Ref sig .tc := ⟨.hbm, 80, rfl⟩
abbrev main_call0_call0_v1 : Ref sig .tc := ⟨.hbm, 81, rfl⟩
abbrev main_call0_call0_v2 : Ref sig .tc := ⟨.hbm, 82, rfl⟩
abbrev main_call0_call0_v3 : Ref sig .tc := ⟨.hbm, 83, rfl⟩
abbrev main_call0_call0_v4 : Ref sig .tc := ⟨.hbm, 84, rfl⟩
abbrev main_call0_call0_v5 : Ref sig .tc := ⟨.hbm, 85, rfl⟩
abbrev main_call0_call0_v6 : Ref sig .tc := ⟨.hbm, 86, rfl⟩
abbrev main_call0_call0_v7 : Ref sig .tc := ⟨.hbm, 87, rfl⟩
abbrev main_call0_call0_v8 : Ref sig .tc := ⟨.hbm, 88, rfl⟩
abbrev main_call0_call0_v9 : Ref sig .tc := ⟨.hbm, 89, rfl⟩
abbrev main_call0_call0_v10 : Ref sig .tc := ⟨.hbm, 90, rfl⟩
abbrev main_call0_call0_v11 : Ref sig .tc := ⟨.hbm, 91, rfl⟩
abbrev main_call0_v1 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_6 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_cst_7 : Ref sig .tc := ⟨.hbm, 201, rfl⟩
abbrev main_v170 : Ref sig .tc := ⟨.hbm, 202, rfl⟩
abbrev main_cst_8 : Ref sig .tc := ⟨.hbm, 203, rfl⟩
abbrev main_v171 : Ref sig .tc := ⟨.hbm, 204, rfl⟩
abbrev main_v172 : Ref sig .tc := ⟨.hbm, 205, rfl⟩
abbrev main_cst_9 : Ref sig .tc := ⟨.hbm, 206, rfl⟩
abbrev main_v173 : Ref sig .tc := ⟨.hbm, 207, rfl⟩
abbrev main_cst_10 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_cst_11 : Ref sig .tc := ⟨.hbm, 222, rfl⟩
abbrev main_v187 : Ref sig .tc := ⟨.hbm, 223, rfl⟩
abbrev main_cst_12 : Ref sig .tc := ⟨.hbm, 224, rfl⟩
abbrev main_v188 : Ref sig .tc := ⟨.hbm, 225, rfl⟩
abbrev main_v189 : Ref sig .tc := ⟨.hbm, 226, rfl⟩
abbrev main_cst_13 : Ref sig .tc := ⟨.hbm, 227, rfl⟩
abbrev main_v190 : Ref sig .tc := ⟨.hbm, 228, rfl⟩
abbrev main_cst_14 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_cst_15 : Ref sig .tc := ⟨.hbm, 243, rfl⟩
abbrev main_v204 : Ref sig .tc := ⟨.hbm, 244, rfl⟩
abbrev main_cst_16 : Ref sig .tc := ⟨.hbm, 245, rfl⟩
abbrev main_v205 : Ref sig .tc := ⟨.hbm, 246, rfl⟩
abbrev main_v206 : Ref sig .tc := ⟨.hbm, 247, rfl⟩
abbrev main_cst_17 : Ref sig .tc := ⟨.hbm, 248, rfl⟩
abbrev main_v207 : Ref sig .tc := ⟨.hbm, 249, rfl⟩
abbrev main_cst_18 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_cst_19 : Ref sig .tc := ⟨.hbm, 264, rfl⟩
abbrev main_v221 : Ref sig .tc := ⟨.hbm, 265, rfl⟩
abbrev main_cst_20 : Ref sig .tc := ⟨.hbm, 266, rfl⟩
abbrev main_v222 : Ref sig .tc := ⟨.hbm, 267, rfl⟩
abbrev main_v223 : Ref sig .tc := ⟨.hbm, 268, rfl⟩
abbrev main_cst_21 : Ref sig .tc := ⟨.hbm, 269, rfl⟩
abbrev main_v224 : Ref sig .tc := ⟨.hbm, 270, rfl⟩
abbrev main_cst_22 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_cst_23 : Ref sig .tc := ⟨.hbm, 285, rfl⟩
abbrev main_v238 : Ref sig .tc := ⟨.hbm, 286, rfl⟩
abbrev main_cst_24 : Ref sig .tc := ⟨.hbm, 287, rfl⟩
abbrev main_v239 : Ref sig .tc := ⟨.hbm, 288, rfl⟩
abbrev main_v240 : Ref sig .tc := ⟨.hbm, 289, rfl⟩
abbrev main_cst_25 : Ref sig .tc := ⟨.hbm, 290, rfl⟩
abbrev main_v241 : Ref sig .tc := ⟨.hbm, 291, rfl⟩
abbrev main_cst_26 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_cst_27 : Ref sig .tc := ⟨.hbm, 306, rfl⟩
abbrev main_v255 : Ref sig .tc := ⟨.hbm, 307, rfl⟩
abbrev main_cst_28 : Ref sig .tc := ⟨.hbm, 308, rfl⟩
abbrev main_v256 : Ref sig .tc := ⟨.hbm, 309, rfl⟩
abbrev main_v257 : Ref sig .tc := ⟨.hbm, 310, rfl⟩
abbrev main_cst_29 : Ref sig .tc := ⟨.hbm, 311, rfl⟩
abbrev main_v258 : Ref sig .tc := ⟨.hbm, 312, rfl⟩
abbrev main_cst_30 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_cst_31 : Ref sig .tc := ⟨.hbm, 327, rfl⟩
abbrev main_v272 : Ref sig .tc := ⟨.hbm, 328, rfl⟩
abbrev main_cst_32 : Ref sig .tc := ⟨.hbm, 329, rfl⟩
abbrev main_v273 : Ref sig .tc := ⟨.hbm, 330, rfl⟩
abbrev main_v274 : Ref sig .tc := ⟨.hbm, 331, rfl⟩
abbrev main_cst_33 : Ref sig .tc := ⟨.hbm, 332, rfl⟩
abbrev main_v275 : Ref sig .tc := ⟨.hbm, 333, rfl⟩
abbrev main_cst_34 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_cst_35 : Ref sig .tc := ⟨.hbm, 348, rfl⟩
abbrev main_v289 : Ref sig .tc := ⟨.hbm, 349, rfl⟩
abbrev main_cst_36 : Ref sig .tc := ⟨.hbm, 350, rfl⟩
abbrev main_v290 : Ref sig .tc := ⟨.hbm, 351, rfl⟩
abbrev main_v291 : Ref sig .tc := ⟨.hbm, 352, rfl⟩
abbrev main_cst_37 : Ref sig .tc := ⟨.hbm, 353, rfl⟩
abbrev main_v292 : Ref sig .tc := ⟨.hbm, 354, rfl⟩
abbrev main_cst_38 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_cst_39 : Ref sig .tc := ⟨.hbm, 369, rfl⟩
abbrev main_v306 : Ref sig .tc := ⟨.hbm, 370, rfl⟩
abbrev main_cst_40 : Ref sig .tc := ⟨.hbm, 371, rfl⟩
abbrev main_v307 : Ref sig .tc := ⟨.hbm, 372, rfl⟩
abbrev main_v308 : Ref sig .tc := ⟨.hbm, 373, rfl⟩
abbrev main_cst_41 : Ref sig .tc := ⟨.hbm, 374, rfl⟩
abbrev main_v309 : Ref sig .tc := ⟨.hbm, 375, rfl⟩
abbrev main_cst_42 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_cst_43 : Ref sig .tc := ⟨.hbm, 390, rfl⟩
abbrev main_v323 : Ref sig .tc := ⟨.hbm, 391, rfl⟩
abbrev main_cst_44 : Ref sig .tc := ⟨.hbm, 392, rfl⟩
abbrev main_v324 : Ref sig .tc := ⟨.hbm, 393, rfl⟩
abbrev main_v325 : Ref sig .tc := ⟨.hbm, 394, rfl⟩
abbrev main_cst_45 : Ref sig .tc := ⟨.hbm, 395, rfl⟩
abbrev main_v326 : Ref sig .tc := ⟨.hbm, 396, rfl⟩
abbrev main_cst_46 : Ref sig .tc := ⟨.hbm, 397, rfl⟩
abbrev main_v327 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_v338 : Ref sig .tc := ⟨.hbm, 409, rfl⟩
abbrev main_v339 : Ref sig .tc := ⟨.hbm, 410, rfl⟩
abbrev main_cst_47 : Ref sig .tc := ⟨.hbm, 411, rfl⟩
abbrev main_v340 : Ref sig .tc := ⟨.hbm, 412, rfl⟩
abbrev main_cst_48 : Ref sig .tc := ⟨.hbm, 413, rfl⟩
abbrev main_v341 : Ref sig .tc := ⟨.hbm, 414, rfl⟩
abbrev main_v342 : Ref sig .tc := ⟨.hbm, 415, rfl⟩
abbrev main_cst_49 : Ref sig .tc := ⟨.hbm, 416, rfl⟩
abbrev main_v343 : Ref sig .tc := ⟨.hbm, 417, rfl⟩
abbrev main_cst_50 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_v356 : Ref sig .tc := ⟨.hbm, 431, rfl⟩
abbrev main_cst_51 : Ref sig .tc := ⟨.hbm, 432, rfl⟩
abbrev main_v357 : Ref sig .tc := ⟨.hbm, 433, rfl⟩
abbrev main_cst_52 : Ref sig .tc := ⟨.hbm, 434, rfl⟩
abbrev main_v358 : Ref sig .tc := ⟨.hbm, 435, rfl⟩
abbrev main_v359 : Ref sig .tc := ⟨.hbm, 436, rfl⟩
abbrev main_cst_53 : Ref sig .tc := ⟨.hbm, 437, rfl⟩
abbrev main_v360 : Ref sig .tc := ⟨.hbm, 438, rfl⟩
abbrev main_cst_54 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_cst_55 : Ref sig .tc := ⟨.hbm, 443, rfl⟩
abbrev main_cst_56 : Ref sig .tc := ⟨.hbm, 444, rfl⟩
abbrev main_v364 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_v368 : Ref sig .tc := ⟨.hbm, 449, rfl⟩
abbrev main_v369 : Ref sig .tc := ⟨.hbm, 450, rfl⟩
abbrev main_cst_57 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_cst_58 : Ref sig .tc := ⟨.hbm, 455, rfl⟩
abbrev main_v373 : Ref sig .tc := ⟨.hbm, 456, rfl⟩
abbrev main_v374 : Ref sig .tc := ⟨.hbm, 457, rfl⟩
abbrev main_cst_59 : Ref sig .tc := ⟨.hbm, 458, rfl⟩
abbrev main_v375 : Ref sig .tc := ⟨.hbm, 459, rfl⟩
abbrev main_v376 : Ref sig .tc := ⟨.hbm, 460, rfl⟩
abbrev main_v377 : Ref sig .tc := ⟨.hbm, 461, rfl⟩
abbrev main_v378 : Ref sig .tc := ⟨.hbm, 462, rfl⟩
abbrev main_v379 : Ref sig .tc := ⟨.hbm, 463, rfl⟩

abbrev nD : Nat := 1
abbrev τ : Topo := Topo.v7x

variable {F : FTy → Type} [FloatOps F]
-- ==== KernelRnnBwd.lean ====
abbrev S4096x2048 : Shape := ⟨2, ![4096, 2048]⟩
abbrev S4x512 : Shape := ⟨2, ![4, 512]⟩
abbrev S512 : Shape := ⟨1, ![512]⟩
abbrev S8x64x64 : Shape := ⟨3, ![8, 64, 64]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩
abbrev S4096x8x64 : Shape := ⟨3, ![4096, 8, 64]⟩
abbrev S8x64x4096 : Shape := ⟨3, ![8, 64, 4096]⟩
abbrev S4095x512 : Shape := ⟨2, ![4095, 512]⟩
abbrev S2x512 : Shape := ⟨2, ![2, 512]⟩
abbrev S4094x512 : Shape := ⟨2, ![4094, 512]⟩
abbrev S4092x512 : Shape := ⟨2, ![4092, 512]⟩
abbrev S8x512 : Shape := ⟨2, ![8, 512]⟩
abbrev S4088x512 : Shape := ⟨2, ![4088, 512]⟩
abbrev S16x512 : Shape := ⟨2, ![16, 512]⟩
abbrev S4080x512 : Shape := ⟨2, ![4080, 512]⟩
abbrev S32x512 : Shape := ⟨2, ![32, 512]⟩
abbrev S4064x512 : Shape := ⟨2, ![4064, 512]⟩
abbrev S64x512 : Shape := ⟨2, ![64, 512]⟩
abbrev S4032x512 : Shape := ⟨2, ![4032, 512]⟩
abbrev S128x512 : Shape := ⟨2, ![128, 512]⟩
abbrev S3968x512 : Shape := ⟨2, ![3968, 512]⟩
abbrev S256x512 : Shape := ⟨2, ![256, 512]⟩
abbrev S3840x512 : Shape := ⟨2, ![3840, 512]⟩
abbrev S512x512 : Shape := ⟨2, ![512, 512]⟩
abbrev S3584x512 : Shape := ⟨2, ![3584, 512]⟩
abbrev S1024x512 : Shape := ⟨2, ![1024, 512]⟩
abbrev S3072x512 : Shape := ⟨2, ![3072, 512]⟩
abbrev S2048x512 : Shape := ⟨2, ![2048, 512]⟩
abbrev S4x64x64 : Shape := ⟨3, ![4, 64, 64]⟩
abbrev S4x64x128 : Shape := ⟨3, ![4, 64, 128]⟩
abbrev S4x128x128 : Shape := ⟨3, ![4, 128, 128]⟩
abbrev S4096x128 : Shape := ⟨2, ![4096, 128]⟩
abbrev S8x128 : Shape := ⟨2, ![8, 128]⟩
abbrev S1x128x128 : Shape := ⟨3, ![1, 128, 128]⟩
abbrev S2x64x64 : Shape := ⟨3, ![2, 64, 64]⟩
abbrev S4104x128 : Shape := ⟨2, ![4104, 128]⟩
abbrev S512x128 : Shape := ⟨2, ![512, 128]⟩
abbrev S1x128 : Shape := ⟨2, ![1, 128]⟩
abbrev S128x128 : Shape := ⟨2, ![128, 128]⟩
abbrev S128 : Shape := ⟨1, ![128]⟩
abbrev S64x64 : Shape := ⟨2, ![64, 64]⟩
abbrev S1x64x64 : Shape := ⟨3, ![1, 64, 64]⟩

abbrev nBuf : Space → Nat
  | .hbm => 270
  | .vmem => 27
  | .smem => 0
  | _ => 0

abbrev hbmTy0_0 (i : Nat) : BufTy := match i % 128 with
  | 0 => ⟨S4096x2048, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S4096x512, .f32⟩
  | 9 => ⟨S4096x512, .f32⟩
  | 10 => ⟨S_, .f32⟩
  | 11 => ⟨S3x512, .f32⟩
  | 12 => ⟨S4099x512, .f32⟩
  | 13 => ⟨S1x512, .f32⟩
  | 14 => ⟨S512, .f32⟩
  | 15 => ⟨S4096x512, .f32⟩
  | 16 => ⟨S1x512, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S1x512, .f32⟩
  | 23 => ⟨S512, .f32⟩
  | 24 => ⟨S4096x512, .f32⟩
  | 25 => ⟨S1x512, .f32⟩
  | 26 => ⟨S4096x512, .f32⟩
  | 27 => ⟨S4096x512, .f32⟩
  | 28 => ⟨S4096x512, .f32⟩
  | 29 => ⟨S1x512, .f32⟩
  | 30 => ⟨S512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S1x512, .f32⟩
  | 37 => ⟨S512, .f32⟩
  | 38 => ⟨S4096x512, .f32⟩
  | 39 => ⟨S1x512, .f32⟩
  | 40 => ⟨S4096x512, .f32⟩
  | 41 => ⟨S4096x512, .f32⟩
  | 42 => ⟨S4096x512, .f32⟩
  | 43 => ⟨S1x512, .f32⟩
  | 44 => ⟨S4096x512, .f32⟩
  | 45 => ⟨S4096x512, .f32⟩
  | 46 => ⟨S4096x8x64, .f32⟩
  | 47 => ⟨S8x64x4096, .f32⟩
  | 48 => ⟨S4096x8x64, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S4096x8x64, .f32⟩
  | 62 => ⟨S8x64x4096, .f32⟩
  | 63 => ⟨S4096x8x64, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S512, .f32⟩
  | 80 => ⟨S_, .f32⟩
  | 81 => ⟨S512, .f32⟩
  | 82 => ⟨S512, .f32⟩
  | 83 => ⟨S512, .f32⟩
  | 84 => ⟨S512, .f32⟩
  | 85 => ⟨S512, .i1⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S1x512, .f32⟩
  | 96 => ⟨S4096x512, .f32⟩
  | 97 => ⟨S4096x512, .f32⟩
  | 98 => ⟨S4096x512, .f32⟩
  | 99 => ⟨S_, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S_, .f32⟩
  | 108 => ⟨S1x512, .f32⟩
  | 109 => ⟨S4095x512, .f32⟩
  | 110 => ⟨S4096x512, .f32⟩
  | 111 => ⟨S4096x512, .f32⟩
  | 112 => ⟨S4096x512, .f32⟩
  | 113 => ⟨S_, .f32⟩
  | 114 => ⟨S1x512, .f32⟩
  | 115 => ⟨S4095x512, .f32⟩
  | 116 => ⟨S4096x512, .f32⟩
  | 117 => ⟨S4096x512, .f32⟩
  | 118 => ⟨S_, .f32⟩
  | 119 => ⟨S2x512, .f32⟩
  | 120 => ⟨S4094x512, .f32⟩
  | 121 => ⟨S4096x512, .f32⟩
  | 122 => ⟨S4096x512, .f32⟩
  | 123 => ⟨S4096x512, .f32⟩
  | 124 => ⟨S_, .f32⟩
  | 125 => ⟨S2x512, .f32⟩
  | 126 => ⟨S4094x512, .f32⟩
  | 127 => ⟨S4096x512, .f32⟩
  | _ => ⟨S4096x2048, .f32⟩

abbrev hbmTy0_1 (i : Nat) : BufTy := match i % 128 with
  | 0 => ⟨S4096x512, .f32⟩
  | 1 => ⟨S_, .f32⟩
  | 2 => ⟨S4x512, .f32⟩
  | 3 => ⟨S4092x512, .f32⟩
  | 4 => ⟨S4096x512, .f32⟩
  | 5 => ⟨S4096x512, .f32⟩
  | 6 => ⟨S4096x512, .f32⟩
  | 7 => ⟨S_, .f32⟩
  | 8 => ⟨S4x512, .f32⟩
  | 9 => ⟨S4092x512, .f32⟩
  | 10 => ⟨S4096x512, .f32⟩
  | 11 => ⟨S4096x512, .f32⟩
  | 12 => ⟨S_, .f32⟩
  | 13 => ⟨S8x512, .f32⟩
  | 14 => ⟨S4088x512, .f32⟩
  | 15 => ⟨S4096x512, .f32⟩
  | 16 => ⟨S4096x512, .f32⟩
  | 17 => ⟨S4096x512, .f32⟩
  | 18 => ⟨S_, .f32⟩
  | 19 => ⟨S8x512, .f32⟩
  | 20 => ⟨S4088x512, .f32⟩
  | 21 => ⟨S4096x512, .f32⟩
  | 22 => ⟨S4096x512, .f32⟩
  | 23 => ⟨S_, .f32⟩
  | 24 => ⟨S16x512, .f32⟩
  | 25 => ⟨S4080x512, .f32⟩
  | 26 => ⟨S4096x512, .f32⟩
  | 27 => ⟨S4096x512, .f32⟩
  | 28 => ⟨S4096x512, .f32⟩
  | 29 => ⟨S_, .f32⟩
  | 30 => ⟨S16x512, .f32⟩
  | 31 => ⟨S4080x512, .f32⟩
  | 32 => ⟨S4096x512, .f32⟩
  | 33 => ⟨S4096x512, .f32⟩
  | 34 => ⟨S_, .f32⟩
  | 35 => ⟨S32x512, .f32⟩
  | 36 => ⟨S4064x512, .f32⟩
  | 37 => ⟨S4096x512, .f32⟩
  | 38 => ⟨S4096x512, .f32⟩
  | 39 => ⟨S4096x512, .f32⟩
  | 40 => ⟨S_, .f32⟩
  | 41 => ⟨S32x512, .f32⟩
  | 42 => ⟨S4064x512, .f32⟩
  | 43 => ⟨S4096x512, .f32⟩
  | 44 => ⟨S4096x512, .f32⟩
  | 45 => ⟨S_, .f32⟩
  | 46 => ⟨S64x512, .f32⟩
  | 47 => ⟨S4032x512, .f32⟩
  | 48 => ⟨S4096x512, .f32⟩
  | 49 => ⟨S4096x512, .f32⟩
  | 50 => ⟨S4096x512, .f32⟩
  | 51 => ⟨S_, .f32⟩
  | 52 => ⟨S64x512, .f32⟩
  | 53 => ⟨S4032x512, .f32⟩
  | 54 => ⟨S4096x512, .f32⟩
  | 55 => ⟨S4096x512, .f32⟩
  | 56 => ⟨S_, .f32⟩
  | 57 => ⟨S128x512, .f32⟩
  | 58 => ⟨S3968x512, .f32⟩
  | 59 => ⟨S4096x512, .f32⟩
  | 60 => ⟨S4096x512, .f32⟩
  | 61 => ⟨S4096x512, .f32⟩
  | 62 => ⟨S_, .f32⟩
  | 63 => ⟨S128x512, .f32⟩
  | 64 => ⟨S3968x512, .f32⟩
  | 65 => ⟨S4096x512, .f32⟩
  | 66 => ⟨S4096x512, .f32⟩
  | 67 => ⟨S_, .f32⟩
  | 68 => ⟨S256x512, .f32⟩
  | 69 => ⟨S3840x512, .f32⟩
  | 70 => ⟨S4096x512, .f32⟩
  | 71 => ⟨S4096x512, .f32⟩
  | 72 => ⟨S4096x512, .f32⟩
  | 73 => ⟨S_, .f32⟩
  | 74 => ⟨S256x512, .f32⟩
  | 75 => ⟨S3840x512, .f32⟩
  | 76 => ⟨S4096x512, .f32⟩
  | 77 => ⟨S4096x512, .f32⟩
  | 78 => ⟨S_, .f32⟩
  | 79 => ⟨S512x512, .f32⟩
  | 80 => ⟨S3584x512, .f32⟩
  | 81 => ⟨S4096x512, .f32⟩
  | 82 => ⟨S4096x512, .f32⟩
  | 83 => ⟨S4096x512, .f32⟩
  | 84 => ⟨S_, .f32⟩
  | 85 => ⟨S512x512, .f32⟩
  | 86 => ⟨S3584x512, .f32⟩
  | 87 => ⟨S4096x512, .f32⟩
  | 88 => ⟨S4096x512, .f32⟩
  | 89 => ⟨S_, .f32⟩
  | 90 => ⟨S1024x512, .f32⟩
  | 91 => ⟨S3072x512, .f32⟩
  | 92 => ⟨S4096x512, .f32⟩
  | 93 => ⟨S4096x512, .f32⟩
  | 94 => ⟨S4096x512, .f32⟩
  | 95 => ⟨S_, .f32⟩
  | 96 => ⟨S1024x512, .f32⟩
  | 97 => ⟨S3072x512, .f32⟩
  | 98 => ⟨S4096x512, .f32⟩
  | 99 => ⟨S4096x512, .f32⟩
  | 100 => ⟨S_, .f32⟩
  | 101 => ⟨S2048x512, .f32⟩
  | 102 => ⟨S2048x512, .f32⟩
  | 103 => ⟨S4096x512, .f32⟩
  | 104 => ⟨S4096x512, .f32⟩
  | 105 => ⟨S4096x512, .f32⟩
  | 106 => ⟨S_, .f32⟩
  | 107 => ⟨S2048x512, .f32⟩
  | 108 => ⟨S2048x512, .f32⟩
  | 109 => ⟨S4096x512, .f32⟩
  | 110 => ⟨S4096x512, .f32⟩
  | 111 => ⟨S_, .f32⟩
  | 112 => ⟨S4x512, .f32⟩
  | 113 => ⟨S8x512, .f32⟩
  | 114 => ⟨S4096x512, .bf16⟩
  | 115 => ⟨S1x512, .f32⟩
  | 116 => ⟨S1x512, .f32⟩
  | 117 => ⟨S1x512, .f32⟩
  | 118 => ⟨S1x512, .f32⟩
  | 119 => ⟨S_, .f32⟩
  | 120 => ⟨S4x512, .f32⟩
  | 121 => ⟨S8x512, .f32⟩
  | 122 => ⟨S_, .f32⟩
  | 123 => ⟨S4x64x64, .f32⟩
  | 124 => ⟨S4x64x64, .f32⟩
  | 125 => ⟨S4x64x128, .f32⟩
  | 126 => ⟨S4x64x64, .f32⟩
  | 127 => ⟨S4x64x128, .f32⟩
  | _ => ⟨S4096x2048, .f32⟩

abbrev hbmTy0_2 (i : Nat) : BufTy := match i % 128 with
  | 0 => ⟨S4x128x128, .f32⟩
  | 1 => ⟨S4x128x128, .bf16⟩
  | 2 => ⟨S_, .f32⟩
  | 3 => ⟨S4x64x64, .f32⟩
  | 4 => ⟨S4x64x64, .f32⟩
  | 5 => ⟨S4x64x128, .f32⟩
  | 6 => ⟨S4x64x64, .f32⟩
  | 7 => ⟨S4x64x128, .f32⟩
  | 8 => ⟨S4x128x128, .f32⟩
  | 9 => ⟨S4x128x128, .bf16⟩
  | 10 => ⟨S4096x512, .bf16⟩
  | 11 => ⟨S8x512, .f32⟩
  | 12 => ⟨S8x64x64, .f32⟩
  | 13 => ⟨S8x64x64, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .bf16⟩
  | .local _ .vmem, ⟨5, _⟩ => ⟨S4096x128, .bf16⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S4096x128, .bf16⟩
  | .local _ .vmem, ⟨15, _⟩ => ⟨S4096x128, .bf16⟩
  | .local _ .vmem, ⟨16, _⟩ => ⟨S8x128, .f32⟩
  | .local _ .vmem, ⟨17, _⟩ => ⟨S8x128, .f32⟩
  | .local _ .vmem, ⟨18, _⟩ => ⟨S2x64x64, .f32⟩
  | .local _ .vmem, ⟨19, _⟩ => ⟨S2x64x64, .f32⟩
  | .local _ .vmem, ⟨20, _⟩ => ⟨S2x64x64, .f32⟩
  | .local _ .vmem, ⟨21, _⟩ => ⟨S2x64x64, .f32⟩
  | .local _ .vmem, ⟨22, _⟩ => ⟨S4104x128, .f32⟩
  | .local _ .vmem, ⟨23, _⟩ => ⟨S4104x128, .f32⟩
  | .local _ .vmem, ⟨24, _⟩ => ⟨S4096x128, .f32⟩
  | .local _ .vmem, ⟨25, _⟩ => ⟨S4096x128, .f32⟩
  | .local _ .vmem, ⟨26, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_1 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_3 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_call0_v0 : Ref sig .tc := ⟨.hbm, 79, rfl⟩
abbrev main_call0_call0_cst : Ref sig .tc := ⟨.hbm, 80, rfl⟩
abbrev main_call0_call0_v0 : Ref sig .tc := ⟨.hbm, 81, rfl⟩
abbrev main_call0_call0_v1 : Ref sig .tc := ⟨.hbm, 82, rfl⟩
abbrev main_call0_call0_v2 : Ref sig .tc := ⟨.hbm, 83, rfl⟩
abbrev main_call0_call0_v3 : Ref sig .tc := ⟨.hbm, 84, rfl⟩
abbrev main_call0_call0_v4 : Ref sig .tc := ⟨.hbm, 85, rfl⟩
abbrev main_call0_call0_v5 : Ref sig .tc := ⟨.hbm, 86, rfl⟩
abbrev main_call0_call0_v6 : Ref sig .tc := ⟨.hbm, 87, rfl⟩
abbrev main_call0_call0_v7 : Ref sig .tc := ⟨.hbm, 88, rfl⟩
abbrev main_call0_call0_v8 : Ref sig .tc := ⟨.hbm, 89, rfl⟩
abbrev main_call0_call0_v9 : Ref sig .tc := ⟨.hbm, 90, rfl⟩
abbrev main_call0_call0_v10 : Ref sig .tc := ⟨.hbm, 91, rfl⟩
abbrev main_call0_call0_v11 : Ref sig .tc := ⟨.hbm, 92, rfl⟩
abbrev main_call0_v1 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_6 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_7 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_9 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_10 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_11 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_12 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_13 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_14 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_15 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_16 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_17 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_18 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_19 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_20 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_21 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_22 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_23 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_24 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_25 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_26 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_27 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_28 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_29 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_30 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_31 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_32 : Ref sig .tc := ⟨.hbm, 247, rfl⟩
abbrev main_v190 : Ref sig .tc := ⟨.hbm, 248, rfl⟩
abbrev main_v191 : Ref sig .tc := ⟨.hbm, 249, rfl⟩
abbrev main_cst_33 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_cst_34 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206_0 : Ref sig .tc := ⟨.hbm, 266, rfl⟩
abbrev main_v206_1 : Ref sig .tc := ⟨.hbm, 267, rfl⟩
abbrev main_v206_2 : Ref sig .tc := ⟨.hbm, 268, rfl⟩
abbrev main_v206_3 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceRnnBwdIdeal.lean ====
abbrev S4096x2048 : Shape := ⟨2, ![4096, 2048]⟩
abbrev S4x512 : Shape := ⟨2, ![4, 512]⟩
abbrev S512 : Shape := ⟨1, ![512]⟩
abbrev S8x64x64 : Shape := ⟨3, ![8, 64, 64]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩
abbrev S4096x8x64 : Shape := ⟨3, ![4096, 8, 64]⟩
abbrev S8x64x4096 : Shape := ⟨3, ![8, 64, 4096]⟩
abbrev S2048x512 : Shape := ⟨2, ![2048, 512]⟩
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S2x512 : Shape := ⟨2, ![2, 512]⟩
abbrev S0x512 : Shape := ⟨2, ![0, 512]⟩
abbrev S1x1x512 : Shape := ⟨3, ![1, 1, 512]⟩
abbrev S1x2x512 : Shape := ⟨3, ![1, 2, 512]⟩
abbrev S2x1x512 : Shape := ⟨3, ![2, 1, 512]⟩
abbrev S2x2x512 : Shape := ⟨3, ![2, 2, 512]⟩
abbrev S4x1x512 : Shape := ⟨3, ![4, 1, 512]⟩
abbrev S4x2x512 : Shape := ⟨3, ![4, 2, 512]⟩
abbrev S7x512 : Shape := ⟨2, ![7, 512]⟩
abbrev S8x1x512 : Shape := ⟨3, ![8, 1, 512]⟩
abbrev S8x2x512 : Shape := ⟨3, ![8, 2, 512]⟩
abbrev S15x512 : Shape := ⟨2, ![15, 512]⟩
abbrev S16x1x512 : Shape := ⟨3, ![16, 1, 512]⟩
abbrev S16x2x512 : Shape := ⟨3, ![16, 2, 512]⟩
abbrev S31x512 : Shape := ⟨2, ![31, 512]⟩
abbrev S32x1x512 : Shape := ⟨3, ![32, 1, 512]⟩
abbrev S32x2x512 : Shape := ⟨3, ![32, 2, 512]⟩
abbrev S63x512 : Shape := ⟨2, ![63, 512]⟩
abbrev S64x1x512 : Shape := ⟨3, ![64, 1, 512]⟩
abbrev S64x2x512 : Shape := ⟨3, ![64, 2, 512]⟩
abbrev S127x512 : Shape := ⟨2, ![127, 512]⟩
abbrev S128x1x512 : Shape := ⟨3, ![128, 1, 512]⟩
abbrev S128x2x512 : Shape := ⟨3, ![128, 2, 512]⟩
abbrev S255x512 : Shape := ⟨2, ![255, 512]⟩
abbrev S256x1x512 : Shape := ⟨3, ![256, 1, 512]⟩
abbrev S256x2x512 : Shape := ⟨3, ![256, 2, 512]⟩
abbrev S511x512 : Shape := ⟨2, ![511, 512]⟩
abbrev S512x1x512 : Shape := ⟨3, ![512, 1, 512]⟩
abbrev S512x2x512 : Shape := ⟨3, ![512, 2, 512]⟩
abbrev S1023x512 : Shape := ⟨2, ![1023, 512]⟩
abbrev S1024x1x512 : Shape := ⟨3, ![1024, 1, 512]⟩
abbrev S1024x2x512 : Shape := ⟨3, ![1024, 2, 512]⟩
abbrev S2047x512 : Shape := ⟨2, ![2047, 512]⟩
abbrev S2048x1x512 : Shape := ⟨3, ![2048, 1, 512]⟩
abbrev S2048x2x512 : Shape := ⟨3, ![2048, 2, 512]⟩
abbrev S8x4096x64 : Shape := ⟨3, ![8, 4096, 64]⟩

abbrev nBuf : Space → Nat
  | .hbm => 1017
  | .vmem => 0
  | .smem => 0
  | _ => 0

abbrev hbmTy0_0 (i : Nat) : BufTy := match i % 128 with
  | 0 => ⟨S4096x2048, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S4096x512, .f32⟩
  | 9 => ⟨S4096x512, .f32⟩
  | 10 => ⟨S_, .f32⟩
  | 11 => ⟨S3x512, .f32⟩
  | 12 => ⟨S4099x512, .f32⟩
  | 13 => ⟨S_, .f32⟩
  | 14 => ⟨S3x512, .f32⟩
  | 15 => ⟨S1x512, .f32⟩
  | 16 => ⟨S512, .f32⟩
  | 17 => ⟨S4096x512, .f32⟩
  | 18 => ⟨S1x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S1x512, .f32⟩
  | 25 => ⟨S512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S1x512, .f32⟩
  | 46 => ⟨S4096x512, .f32⟩
  | 47 => ⟨S4096x512, .f32⟩
  | 48 => ⟨S4096x8x64, .f32⟩
  | 49 => ⟨S8x64x4096, .f32⟩
  | 50 => ⟨S4096x8x64, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S4096x512, .f32⟩
  | 67 => ⟨S4096x8x64, .f32⟩
  | 68 => ⟨S8x64x4096, .f32⟩
  | 69 => ⟨S4096x8x64, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S512, .f32⟩
  | 90 => ⟨S_, .f32⟩
  | 91 => ⟨S512, .f32⟩
  | 92 => ⟨S512, .f32⟩
  | 93 => ⟨S512, .f32⟩
  | 94 => ⟨S512, .f32⟩
  | 95 => ⟨S512, .i1⟩
  | 96 => ⟨S512, .f32⟩
  | 97 => ⟨S512, .f32⟩
  | 98 => ⟨S512, .f32⟩
  | 99 => ⟨S512, .f32⟩
  | 100 => ⟨S512, .f32⟩
  | 101 => ⟨S512, .f32⟩
  | 102 => ⟨S512, .f32⟩
  | 103 => ⟨S512, .f32⟩
  | 104 => ⟨S_, .f32⟩
  | 105 => ⟨S512, .f32⟩
  | 106 => ⟨S512, .i1⟩
  | 107 => ⟨S_, .f32⟩
  | 108 => ⟨S512, .f32⟩
  | 109 => ⟨S512, .f32⟩
  | 110 => ⟨S_, .f32⟩
  | 111 => ⟨S512, .f32⟩
  | 112 => ⟨S512, .i1⟩
  | 113 => ⟨S_, .f32⟩
  | 114 => ⟨S512, .f32⟩
  | 115 => ⟨S512, .f32⟩
  | 116 => ⟨S512, .f32⟩
  | 117 => ⟨S512, .f32⟩
  | 118 => ⟨S_, .f32⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S512, .f32⟩
  | 126 => ⟨S512, .i1⟩
  | 127 => ⟨S_, .f32⟩
  | _ => ⟨S4096x2048, .f32⟩

abbrev hbmTy0_1 (i : Nat) : BufTy := match i % 128 with
  | 0 => ⟨S512, .f32⟩
  | 1 => ⟨S512, .f32⟩
  | 2 => ⟨S512, .f32⟩
  | 3 => ⟨S512, .f32⟩
  | 4 => ⟨S512, .f32⟩
  | 5 => ⟨S_, .f32⟩
  | 6 => ⟨S512, .f32⟩
  | 7 => ⟨S512, .f32⟩
  | 8 => ⟨S512, .f32⟩
  | 9 => ⟨S1x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S4096x512, .f32⟩
  | 25 => ⟨S2048x512, .f32⟩
  | 26 => ⟨S2048x512, .f32⟩
  | 27 => ⟨S2048x512, .f32⟩
  | 28 => ⟨S2048x512, .f32⟩
  | 29 => ⟨S2048x512, .f32⟩
  | 30 => ⟨S2048x512, .f32⟩
  | 31 => ⟨S2048x512, .f32⟩
  | 32 => ⟨S1024x512, .f32⟩
  | 33 => ⟨S1024x512, .f32⟩
  | 34 => ⟨S1024x512, .f32⟩
  | 35 => ⟨S1024x512, .f32⟩
  | 36 => ⟨S1024x512, .f32⟩
  | 37 => ⟨S1024x512, .f32⟩
  | 38 => ⟨S1024x512, .f32⟩
  | 39 => ⟨S512x512, .f32⟩
  | 40 => ⟨S512x512, .f32⟩
  | 41 => ⟨S512x512, .f32⟩
  | 42 => ⟨S512x512, .f32⟩
  | 43 => ⟨S512x512, .f32⟩
  | 44 => ⟨S512x512, .f32⟩
  | 45 => ⟨S512x512, .f32⟩
  | 46 => ⟨S256x512, .f32⟩
  | 47 => ⟨S256x512, .f32⟩
  | 48 => ⟨S256x512, .f32⟩
  | 49 => ⟨S256x512, .f32⟩
  | 50 => ⟨S256x512, .f32⟩
  | 51 => ⟨S256x512, .f32⟩
  | 52 => ⟨S256x512, .f32⟩
  | 53 => ⟨S128x512, .f32⟩
  | 54 => ⟨S128x512, .f32⟩
  | 55 => ⟨S128x512, .f32⟩
  | 56 => ⟨S128x512, .f32⟩
  | 57 => ⟨S128x512, .f32⟩
  | 58 => ⟨S128x512, .f32⟩
  | 59 => ⟨S128x512, .f32⟩
  | 60 => ⟨S64x512, .f32⟩
  | 61 => ⟨S64x512, .f32⟩
  | 62 => ⟨S64x512, .f32⟩
  | 63 => ⟨S64x512, .f32⟩
  | 64 => ⟨S64x512, .f32⟩
  | 65 => ⟨S64x512, .f32⟩
  | 66 => ⟨S64x512, .f32⟩
  | 67 => ⟨S32x512, .f32⟩
  | 68 => ⟨S32x512, .f32⟩
  | 69 => ⟨S32x512, .f32⟩
  | 70 => ⟨S32x512, .f32⟩
  | 71 => ⟨S32x512, .f32⟩
  | 72 => ⟨S32x512, .f32⟩
  | 73 => ⟨S32x512, .f32⟩
  | 74 => ⟨S16x512, .f32⟩
  | 75 => ⟨S16x512, .f32⟩
  | 76 => ⟨S16x512, .f32⟩
  | 77 => ⟨S16x512, .f32⟩
  | 78 => ⟨S16x512, .f32⟩
  | 79 => ⟨S16x512, .f32⟩
  | 80 => ⟨S16x512, .f32⟩
  | 81 => ⟨S8x512, .f32⟩
  | 82 => ⟨S8x512, .f32⟩
  | 83 => ⟨S8x512, .f32⟩
  | 84 => ⟨S8x512, .f32⟩
  | 85 => ⟨S8x512, .f32⟩
  | 86 => ⟨S8x512, .f32⟩
  | 87 => ⟨S8x512, .f32⟩
  | 88 => ⟨S4x512, .f32⟩
  | 89 => ⟨S4x512, .f32⟩
  | 90 => ⟨S4x512, .f32⟩
  | 91 => ⟨S4x512, .f32⟩
  | 92 => ⟨S4x512, .f32⟩
  | 93 => ⟨S4x512, .f32⟩
  | 94 => ⟨S4x512, .f32⟩
  | 95 => ⟨S2x512, .f32⟩
  | 96 => ⟨S2x512, .f32⟩
  | 97 => ⟨S2x512, .f32⟩
  | 98 => ⟨S2x512, .f32⟩
  | 99 => ⟨S2x512, .f32⟩
  | 100 => ⟨S2x512, .f32⟩
  | 101 => ⟨S2x512, .f32⟩
  | 102 => ⟨S1x512, .f32⟩
  | 103 => ⟨S1x512, .f32⟩
  | 104 => ⟨S1x512, .f32⟩
  | 105 => ⟨S1x512, .f32⟩
  | 106 => ⟨S1x512, .f32⟩
  | 107 => ⟨S1x512, .f32⟩
  | 108 => ⟨S1x512, .f32⟩
  | 109 => ⟨S0x512, .f32⟩
  | 110 => ⟨S0x512, .f32⟩
  | 111 => ⟨S0x512, .f32⟩
  | 112 => ⟨S0x512, .f32⟩
  | 113 => ⟨S0x512, .f32⟩
  | 114 => ⟨S0x512, .f32⟩
  | 115 => ⟨S0x512, .f32⟩
  | 116 => ⟨S1x512, .f32⟩
  | 117 => ⟨S1x512, .f32⟩
  | 118 => ⟨S1x512, .f32⟩
  | 119 => ⟨S1x512, .f32⟩
  | 120 => ⟨S1x1x512, .f32⟩
  | 121 => ⟨S1x1x512, .f32⟩
  | 122 => ⟨S1x2x512, .f32⟩
  | 123 => ⟨S2x512, .f32⟩
  | 124 => ⟨S1x1x512, .f32⟩
  | 125 => ⟨S1x1x512, .f32⟩
  | 126 => ⟨S1x2x512, .f32⟩
  | 127 => ⟨S2x512, .f32⟩
  | _ => ⟨S4096x2048, .f32⟩

abbrev hbmTy0_2 (i : Nat) : BufTy := match i % 128 with
  | 0 => ⟨S1x512, .f32⟩
  | 1 => ⟨S1x512, .f32⟩
  | 2 => ⟨S1x512, .f32⟩
  | 3 => ⟨S1x512, .f32⟩
  | 4 => ⟨S1x512, .f32⟩
  | 5 => ⟨S1x512, .f32⟩
  | 6 => ⟨S1x512, .f32⟩
  | 7 => ⟨S1x512, .f32⟩
  | 8 => ⟨S2x512, .f32⟩
  | 9 => ⟨S1x512, .f32⟩
  | 10 => ⟨S2x512, .f32⟩
  | 11 => ⟨S2x1x512, .f32⟩
  | 12 => ⟨S2x1x512, .f32⟩
  | 13 => ⟨S2x2x512, .f32⟩
  | 14 => ⟨S4x512, .f32⟩
  | 15 => ⟨S2x1x512, .f32⟩
  | 16 => ⟨S2x1x512, .f32⟩
  | 17 => ⟨S2x2x512, .f32⟩
  | 18 => ⟨S4x512, .f32⟩
  | 19 => ⟨S3x512, .f32⟩
  | 20 => ⟨S3x512, .f32⟩
  | 21 => ⟨S3x512, .f32⟩
  | 22 => ⟨S3x512, .f32⟩
  | 23 => ⟨S3x512, .f32⟩
  | 24 => ⟨S3x512, .f32⟩
  | 25 => ⟨S3x512, .f32⟩
  | 26 => ⟨S1x512, .f32⟩
  | 27 => ⟨S4x512, .f32⟩
  | 28 => ⟨S1x512, .f32⟩
  | 29 => ⟨S4x512, .f32⟩
  | 30 => ⟨S4x1x512, .f32⟩
  | 31 => ⟨S4x1x512, .f32⟩
  | 32 => ⟨S4x2x512, .f32⟩
  | 33 => ⟨S8x512, .f32⟩
  | 34 => ⟨S4x1x512, .f32⟩
  | 35 => ⟨S4x1x512, .f32⟩
  | 36 => ⟨S4x2x512, .f32⟩
  | 37 => ⟨S8x512, .f32⟩
  | 38 => ⟨S7x512, .f32⟩
  | 39 => ⟨S7x512, .f32⟩
  | 40 => ⟨S7x512, .f32⟩
  | 41 => ⟨S7x512, .f32⟩
  | 42 => ⟨S7x512, .f32⟩
  | 43 => ⟨S7x512, .f32⟩
  | 44 => ⟨S7x512, .f32⟩
  | 45 => ⟨S1x512, .f32⟩
  | 46 => ⟨S8x512, .f32⟩
  | 47 => ⟨S1x512, .f32⟩
  | 48 => ⟨S8x512, .f32⟩
  | 49 => ⟨S8x1x512, .f32⟩
  | 50 => ⟨S8x1x512, .f32⟩
  | 51 => ⟨S8x2x512, .f32⟩
  | 52 => ⟨S16x512, .f32⟩
  | 53 => ⟨S8x1x512, .f32⟩
  | 54 => ⟨S8x1x512, .f32⟩
  | 55 => ⟨S8x2x512, .f32⟩
  | 56 => ⟨S16x512, .f32⟩
  | 57 => ⟨S15x512, .f32⟩
  | 58 => ⟨S15x512, .f32⟩
  | 59 => ⟨S15x512, .f32⟩
  | 60 => ⟨S15x512, .f32⟩
  | 61 => ⟨S15x512, .f32⟩
  | 62 => ⟨S15x512, .f32⟩
  | 63 => ⟨S15x512, .f32⟩
  | 64 => ⟨S1x512, .f32⟩
  | 65 => ⟨S16x512, .f32⟩
  | 66 => ⟨S1x512, .f32⟩
  | 67 => ⟨S16x512, .f32⟩
  | 68 => ⟨S16x1x512, .f32⟩
  | 69 => ⟨S16x1x512, .f32⟩
  | 70 => ⟨S16x2x512, .f32⟩
  | 71 => ⟨S32x512, .f32⟩
  | 72 => ⟨S16x1x512, .f32⟩
  | 73 => ⟨S16x1x512, .f32⟩
  | 74 => ⟨S16x2x512, .f32⟩
  | 75 => ⟨S32x512, .f32⟩
  | 76 => ⟨S31x512, .f32⟩
  | 77 => ⟨S31x512, .f32⟩
  | 78 => ⟨S31x512, .f32⟩
  | 79 => ⟨S31x512, .f32⟩
  | 80 => ⟨S31x512, .f32⟩
  | 81 => ⟨S31x512, .f32⟩
  | 82 => ⟨S31x512, .f32⟩
  | 83 => ⟨S1x512, .f32⟩
  | 84 => ⟨S32x512, .f32⟩
  | 85 => ⟨S1x512, .f32⟩
  | 86 => ⟨S32x512, .f32⟩
  | 87 => ⟨S32x1x512, .f32⟩
  | 88 => ⟨S32x1x512, .f32⟩
  | 89 => ⟨S32x2x512, .f32⟩
  | 90 => ⟨S64x512, .f32⟩
  | 91 => ⟨S32x1x512, .f32⟩
  | 92 => ⟨S32x1x512, .f32⟩
  | 93 => ⟨S32x2x512, .f32⟩
  | 94 => ⟨S64x512, .f32⟩
  | 95 => ⟨S63x512, .f32⟩
  | 96 => ⟨S63x512, .f32⟩
  | 97 => ⟨S63x512, .f32⟩
  | 98 => ⟨S63x512, .f32⟩
  | 99 => ⟨S63x512, .f32⟩
  | 100 => ⟨S63x512, .f32⟩
  | 101 => ⟨S63x512, .f32⟩
  | 102 => ⟨S1x512, .f32⟩
  | 103 => ⟨S64x512, .f32⟩
  | 104 => ⟨S1x512, .f32⟩
  | 105 => ⟨S64x512, .f32⟩
  | 106 => ⟨S64x1x512, .f32⟩
  | 107 => ⟨S64x1x512, .f32⟩
  | 108 => ⟨S64x2x512, .f32⟩
  | 109 => ⟨S128x512, .f32⟩
  | 110 => ⟨S64x1x512, .f32⟩
  | 111 => ⟨S64x1x512, .f32⟩
  | 112 => ⟨S64x2x512, .f32⟩
  | 113 => ⟨S128x512, .f32⟩
  | 114 => ⟨S127x512, .f32⟩
  | 115 => ⟨S127x512, .f32⟩
  | 116 => ⟨S127x512, .f32⟩
  | 117 => ⟨S127x512, .f32⟩
  | 118 => ⟨S127x512, .f32⟩
  | 119 => ⟨S127x512, .f32⟩
  | 120 => ⟨S127x512, .f32⟩
  | 121 => ⟨S1x512, .f32⟩
  | 122 => ⟨S128x512, .f32⟩
  | 123 => ⟨S1x512, .f32⟩
  | 124 => ⟨S128x512, .f32⟩
  | 125 => ⟨S128x1x512, .f32⟩
  | 126 => ⟨S128x1x512, .f32⟩
  | 127 => ⟨S128x2x512, .f32⟩
  | _ => ⟨S4096x2048, .f32⟩

abbrev hbmTy0_3 (i : Nat) : BufTy := match i % 128 with
  | 0 => ⟨S256x512, .f32⟩
  | 1 => ⟨S128x1x512, .f32⟩
  | 2 => ⟨S128x1x512, .f32⟩
  | 3 => ⟨S128x2x512, .f32⟩
  | 4 => ⟨S256x512, .f32⟩
  | 5 => ⟨S255x512, .f32⟩
  | 6 => ⟨S255x512, .f32⟩
  | 7 => ⟨S255x512, .f32⟩
  | 8 => ⟨S255x512, .f32⟩
  | 9 => ⟨S255x512, .f32⟩
  | 10 => ⟨S255x512, .f32⟩
  | 11 => ⟨S255x512, .f32⟩
  | 12 => ⟨S1x512, .f32⟩
  | 13 => ⟨S256x512, .f32⟩
  | 14 => ⟨S1x512, .f32⟩
  | 15 => ⟨S256x512, .f32⟩
  | 16 => ⟨S256x1x512, .f32⟩
  | 17 => ⟨S256x1x512, .f32⟩
  | 18 => ⟨S256x2x512, .f32⟩
  | 19 => ⟨S512x512, .f32⟩
  | 20 => ⟨S256x1x512, .f32⟩
  | 21 => ⟨S256x1x512, .f32⟩
  | 22 => ⟨S256x2x512, .f32⟩
  | 23 => ⟨S512x512, .f32⟩
  | 24 => ⟨S511x512, .f32⟩
  | 25 => ⟨S511x512, .f32⟩
  | 26 => ⟨S511x512, .f32⟩
  | 27 => ⟨S511x512, .f32⟩
  | 28 => ⟨S511x512, .f32⟩
  | 29 => ⟨S511x512, .f32⟩
  | 30 => ⟨S511x512, .f32⟩
  | 31 => ⟨S1x512, .f32⟩
  | 32 => ⟨S512x512, .f32⟩
  | 33 => ⟨S1x512, .f32⟩
  | 34 => ⟨S512x512, .f32⟩
  | 35 => ⟨S512x1x512, .f32⟩
  | 36 => ⟨S512x1x512, .f32⟩
  | 37 => ⟨S512x2x512, .f32⟩
  | 38 => ⟨S1024x512, .f32⟩
  | 39 => ⟨S512x1x512, .f32⟩
  | 40 => ⟨S512x1x512, .f32⟩
  | 41 => ⟨S512x2x512, .f32⟩
  | 42 => ⟨S1024x512, .f32⟩
  | 43 => ⟨S1023x512, .f32⟩
  | 44 => ⟨S1023x512, .f32⟩
  | 45 => ⟨S1023x512, .f32⟩
  | 46 => ⟨S1023x512, .f32⟩
  | 47 => ⟨S1023x512, .f32⟩
  | 48 => ⟨S1023x512, .f32⟩
  | 49 => ⟨S1023x512, .f32⟩
  | 50 => ⟨S1x512, .f32⟩
  | 51 => ⟨S1024x512, .f32⟩
  | 52 => ⟨S1x512, .f32⟩
  | 53 => ⟨S1024x512, .f32⟩
  | 54 => ⟨S1024x1x512, .f32⟩
  | 55 => ⟨S1024x1x512, .f32⟩
  | 56 => ⟨S1024x2x512, .f32⟩
  | 57 => ⟨S2048x512, .f32⟩
  | 58 => ⟨S1024x1x512, .f32⟩
  | 59 => ⟨S1024x1x512, .f32⟩
  | 60 => ⟨S1024x2x512, .f32⟩
  | 61 => ⟨S2048x512, .f32⟩
  | 62 => ⟨S2047x512, .f32⟩
  | 63 => ⟨S2047x512, .f32⟩
  | 64 => ⟨S2047x512, .f32⟩
  | 65 => ⟨S2047x512, .f32⟩
  | 66 => ⟨S2047x512, .f32⟩
  | 67 => ⟨S2047x512, .f32⟩
  | 68 => ⟨S2047x512, .f32⟩
  | 69 => ⟨S1x512, .f32⟩
  | 70 => ⟨S2048x512, .f32⟩
  | 71 => ⟨S1x512, .f32⟩
  | 72 => ⟨S2048x512, .f32⟩
  | 73 => ⟨S2048x1x512, .f32⟩
  | 74 => ⟨S2048x1x512, .f32⟩
  | 75 => ⟨S2048x2x512, .f32⟩
  | 76 => ⟨S4096x512, .f32⟩
  | 77 => ⟨S2048x1x512, .f32⟩
  | 78 => ⟨S2048x1x512, .f32⟩
  | 79 => ⟨S2048x2x512, .f32⟩
  | 80 => ⟨S4096x512, .f32⟩
  | 81 => ⟨S2048x2x512, .f32⟩
  | 82 => ⟨S2048x1x512, .f32⟩
  | 83 => ⟨S2048x512, .f32⟩
  | 84 => ⟨S2048x1x512, .f32⟩
  | 85 => ⟨S2048x512, .f32⟩
  | 86 => ⟨S1x512, .f32⟩
  | 87 => ⟨S2047x512, .f32⟩
  | 88 => ⟨S_, .f32⟩
  | 89 => ⟨S4096x512, .f32⟩
  | 90 => ⟨S2047x512, .f32⟩
  | 91 => ⟨S2047x512, .f32⟩
  | 92 => ⟨S_, .f32⟩
  | 93 => ⟨S4096x512, .f32⟩
  | 94 => ⟨S4096x512, .f32⟩
  | 95 => ⟨S_, .f32⟩
  | 96 => ⟨S4096x512, .f32⟩
  | 97 => ⟨S_, .f32⟩
  | 98 => ⟨S2048x512, .f32⟩
  | 99 => ⟨S2048x512, .f32⟩
  | 100 => ⟨S1024x2x512, .f32⟩
  | 101 => ⟨S1024x1x512, .f32⟩
  | 102 => ⟨S1024x512, .f32⟩
  | 103 => ⟨S1024x1x512, .f32⟩
  | 104 => ⟨S1024x512, .f32⟩
  | 105 => ⟨S1x512, .f32⟩
  | 106 => ⟨S1023x512, .f32⟩
  | 107 => ⟨S_, .f32⟩
  | 108 => ⟨S2048x512, .f32⟩
  | 109 => ⟨S1023x512, .f32⟩
  | 110 => ⟨S1023x512, .f32⟩
  | 111 => ⟨S_, .f32⟩
  | 112 => ⟨S2048x512, .f32⟩
  | 113 => ⟨S2048x512, .f32⟩
  | 114 => ⟨S_, .f32⟩
  | 115 => ⟨S2048x512, .f32⟩
  | 116 => ⟨S_, .f32⟩
  | 117 => ⟨S1024x512, .f32⟩
  | 118 => ⟨S1024x512, .f32⟩
  | 119 => ⟨S512x2x512, .f32⟩
  | 120 => ⟨S512x1x512, .f32⟩
  | 121 => ⟨S512x512, .f32⟩
  | 122 => ⟨S512x1x512, .f32⟩
  | 123 => ⟨S512x512, .f32⟩
  | 124 => ⟨S1x512, .f32⟩
  | 125 => ⟨S511x512, .f32⟩
  | 126 => ⟨S_, .f32⟩
  | 127 => ⟨S1024x512, .f32⟩
  | _ => ⟨S4096x2048, .f32⟩

abbrev hbmTy0_4 (i : Nat) : BufTy := match i % 128 with
  | 0 => ⟨S511x512, .f32⟩
  | 1 => ⟨S511x512, .f32⟩
  | 2 => ⟨S_, .f32⟩
  | 3 => ⟨S1024x512, .f32⟩
  | 4 => ⟨S1024x512, .f32⟩
  | 5 => ⟨S_, .f32⟩
  | 6 => ⟨S1024x512, .f32⟩
  | 7 => ⟨S_, .f32⟩
  | 8 => ⟨S512x512, .f32⟩
  | 9 => ⟨S512x512, .f32⟩
  | 10 => ⟨S256x2x512, .f32⟩
  | 11 => ⟨S256x1x512, .f32⟩
  | 12 => ⟨S256x512, .f32⟩
  | 13 => ⟨S256x1x512, .f32⟩
  | 14 => ⟨S256x512, .f32⟩
  | 15 => ⟨S1x512, .f32⟩
  | 16 => ⟨S255x512, .f32⟩
  | 17 => ⟨S_, .f32⟩
  | 18 => ⟨S512x512, .f32⟩
  | 19 => ⟨S255x512, .f32⟩
  | 20 => ⟨S255x512, .f32⟩
  | 21 => ⟨S_, .f32⟩
  | 22 => ⟨S512x512, .f32⟩
  | 23 => ⟨S512x512, .f32⟩
  | 24 => ⟨S_, .f32⟩
  | 25 => ⟨S512x512, .f32⟩
  | 26 => ⟨S_, .f32⟩
  | 27 => ⟨S256x512, .f32⟩
  | 28 => ⟨S256x512, .f32⟩
  | 29 => ⟨S128x2x512, .f32⟩
  | 30 => ⟨S128x1x512, .f32⟩
  | 31 => ⟨S128x512, .f32⟩
  | 32 => ⟨S128x1x512, .f32⟩
  | 33 => ⟨S128x512, .f32⟩
  | 34 => ⟨S1x512, .f32⟩
  | 35 => ⟨S127x512, .f32⟩
  | 36 => ⟨S_, .f32⟩
  | 37 => ⟨S256x512, .f32⟩
  | 38 => ⟨S127x512, .f32⟩
  | 39 => ⟨S127x512, .f32⟩
  | 40 => ⟨S_, .f32⟩
  | 41 => ⟨S256x512, .f32⟩
  | 42 => ⟨S256x512, .f32⟩
  | 43 => ⟨S_, .f32⟩
  | 44 => ⟨S256x512, .f32⟩
  | 45 => ⟨S_, .f32⟩
  | 46 => ⟨S128x512, .f32⟩
  | 47 => ⟨S128x512, .f32⟩
  | 48 => ⟨S64x2x512, .f32⟩
  | 49 => ⟨S64x1x512, .f32⟩
  | 50 => ⟨S64x512, .f32⟩
  | 51 => ⟨S64x1x512, .f32⟩
  | 52 => ⟨S64x512, .f32⟩
  | 53 => ⟨S1x512, .f32⟩
  | 54 => ⟨S63x512, .f32⟩
  | 55 => ⟨S_, .f32⟩
  | 56 => ⟨S128x512, .f32⟩
  | 57 => ⟨S63x512, .f32⟩
  | 58 => ⟨S63x512, .f32⟩
  | 59 => ⟨S_, .f32⟩
  | 60 => ⟨S128x512, .f32⟩
  | 61 => ⟨S128x512, .f32⟩
  | 62 => ⟨S_, .f32⟩
  | 63 => ⟨S128x512, .f32⟩
  | 64 => ⟨S_, .f32⟩
  | 65 => ⟨S64x512, .f32⟩
  | 66 => ⟨S64x512, .f32⟩
  | 67 => ⟨S32x2x512, .f32⟩
  | 68 => ⟨S32x1x512, .f32⟩
  | 69 => ⟨S32x512, .f32⟩
  | 70 => ⟨S32x1x512, .f32⟩
  | 71 => ⟨S32x512, .f32⟩
  | 72 => ⟨S1x512, .f32⟩
  | 73 => ⟨S31x512, .f32⟩
  | 74 => ⟨S_, .f32⟩
  | 75 => ⟨S64x512, .f32⟩
  | 76 => ⟨S31x512, .f32⟩
  | 77 => ⟨S31x512, .f32⟩
  | 78 => ⟨S_, .f32⟩
  | 79 => ⟨S64x512, .f32⟩
  | 80 => ⟨S64x512, .f32⟩
  | 81 => ⟨S_, .f32⟩
  | 82 => ⟨S64x512, .f32⟩
  | 83 => ⟨S_, .f32⟩
  | 84 => ⟨S32x512, .f32⟩
  | 85 => ⟨S32x512, .f32⟩
  | 86 => ⟨S16x2x512, .f32⟩
  | 87 => ⟨S16x1x512, .f32⟩
  | 88 => ⟨S16x512, .f32⟩
  | 89 => ⟨S16x1x512, .f32⟩
  | 90 => ⟨S16x512, .f32⟩
  | 91 => ⟨S1x512, .f32⟩
  | 92 => ⟨S15x512, .f32⟩
  | 93 => ⟨S_, .f32⟩
  | 94 => ⟨S32x512, .f32⟩
  | 95 => ⟨S15x512, .f32⟩
  | 96 => ⟨S15x512, .f32⟩
  | 97 => ⟨S_, .f32⟩
  | 98 => ⟨S32x512, .f32⟩
  | 99 => ⟨S32x512, .f32⟩
  | 100 => ⟨S_, .f32⟩
  | 101 => ⟨S32x512, .f32⟩
  | 102 => ⟨S_, .f32⟩
  | 103 => ⟨S16x512, .f32⟩
  | 104 => ⟨S16x512, .f32⟩
  | 105 => ⟨S8x2x512, .f32⟩
  | 106 => ⟨S8x1x512, .f32⟩
  | 107 => ⟨S8x512, .f32⟩
  | 108 => ⟨S8x1x512, .f32⟩
  | 109 => ⟨S8x512, .f32⟩
  | 110 => ⟨S1x512, .f32⟩
  | 111 => ⟨S7x512, .f32⟩
  | 112 => ⟨S_, .f32⟩
  | 113 => ⟨S16x512, .f32⟩
  | 114 => ⟨S7x512, .f32⟩
  | 115 => ⟨S7x512, .f32⟩
  | 116 => ⟨S_, .f32⟩
  | 117 => ⟨S16x512, .f32⟩
  | 118 => ⟨S16x512, .f32⟩
  | 119 => ⟨S_, .f32⟩
  | 120 => ⟨S16x512, .f32⟩
  | 121 => ⟨S_, .f32⟩
  | 122 => ⟨S8x512, .f32⟩
  | 123 => ⟨S8x512, .f32⟩
  | 124 => ⟨S4x2x512, .f32⟩
  | 125 => ⟨S4x1x512, .f32⟩
  | 126 => ⟨S4x512, .f32⟩
  | 127 => ⟨S4x1x512, .f32⟩
  | _ => ⟨S4096x2048, .f32⟩

abbrev hbmTy0_5 (i : Nat) : BufTy := match i % 128 with
  | 0 => ⟨S4x512, .f32⟩
  | 1 => ⟨S1x512, .f32⟩
  | 2 => ⟨S3x512, .f32⟩
  | 3 => ⟨S_, .f32⟩
  | 4 => ⟨S8x512, .f32⟩
  | 5 => ⟨S3x512, .f32⟩
  | 6 => ⟨S3x512, .f32⟩
  | 7 => ⟨S_, .f32⟩
  | 8 => ⟨S8x512, .f32⟩
  | 9 => ⟨S8x512, .f32⟩
  | 10 => ⟨S_, .f32⟩
  | 11 => ⟨S8x512, .f32⟩
  | 12 => ⟨S_, .f32⟩
  | 13 => ⟨S4x512, .f32⟩
  | 14 => ⟨S4x512, .f32⟩
  | 15 => ⟨S2x2x512, .f32⟩
  | 16 => ⟨S2x1x512, .f32⟩
  | 17 => ⟨S2x512, .f32⟩
  | 18 => ⟨S2x1x512, .f32⟩
  | 19 => ⟨S2x512, .f32⟩
  | 20 => ⟨S1x512, .f32⟩
  | 21 => ⟨S1x512, .f32⟩
  | 22 => ⟨S_, .f32⟩
  | 23 => ⟨S4x512, .f32⟩
  | 24 => ⟨S1x512, .f32⟩
  | 25 => ⟨S1x512, .f32⟩
  | 26 => ⟨S_, .f32⟩
  | 27 => ⟨S4x512, .f32⟩
  | 28 => ⟨S4x512, .f32⟩
  | 29 => ⟨S_, .f32⟩
  | 30 => ⟨S4x512, .f32⟩
  | 31 => ⟨S_, .f32⟩
  | 32 => ⟨S2x512, .f32⟩
  | 33 => ⟨S2x512, .f32⟩
  | 34 => ⟨S1x2x512, .f32⟩
  | 35 => ⟨S1x1x512, .f32⟩
  | 36 => ⟨S1x512, .f32⟩
  | 37 => ⟨S1x1x512, .f32⟩
  | 38 => ⟨S1x512, .f32⟩
  | 39 => ⟨S1x512, .f32⟩
  | 40 => ⟨S0x512, .f32⟩
  | 41 => ⟨S_, .f32⟩
  | 42 => ⟨S2x512, .f32⟩
  | 43 => ⟨S0x512, .f32⟩
  | 44 => ⟨S0x512, .f32⟩
  | 45 => ⟨S_, .f32⟩
  | 46 => ⟨S2x512, .f32⟩
  | 47 => ⟨S2x512, .f32⟩
  | 48 => ⟨S_, .f32⟩
  | 49 => ⟨S2x512, .f32⟩
  | 50 => ⟨S_, .f32⟩
  | 51 => ⟨S1x512, .f32⟩
  | 52 => ⟨S1x512, .f32⟩
  | 53 => ⟨S1x512, .f32⟩
  | 54 => ⟨S1x512, .f32⟩
  | 55 => ⟨S_, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S_, .f32⟩
  | 62 => ⟨S2x512, .f32⟩
  | 63 => ⟨S2x512, .f32⟩
  | 64 => ⟨S2x512, .f32⟩
  | 65 => ⟨S2x512, .f32⟩
  | 66 => ⟨S2x512, .f32⟩
  | 67 => ⟨S2x512, .f32⟩
  | 68 => ⟨S2x512, .f32⟩
  | 69 => ⟨S_, .f32⟩
  | 70 => ⟨S4x512, .f32⟩
  | 71 => ⟨S4x512, .f32⟩
  | 72 => ⟨S_, .f32⟩
  | 73 => ⟨S4x512, .f32⟩
  | 74 => ⟨S4x512, .f32⟩
  | 75 => ⟨S_, .f32⟩
  | 76 => ⟨S4x512, .f32⟩
  | 77 => ⟨S4x512, .f32⟩
  | 78 => ⟨S_, .f32⟩
  | 79 => ⟨S4x512, .f32⟩
  | 80 => ⟨S4x512, .f32⟩
  | 81 => ⟨S4x512, .f32⟩
  | 82 => ⟨S4x512, .f32⟩
  | 83 => ⟨S4x512, .f32⟩
  | 84 => ⟨S4x512, .f32⟩
  | 85 => ⟨S4x512, .f32⟩
  | 86 => ⟨S_, .f32⟩
  | 87 => ⟨S8x512, .f32⟩
  | 88 => ⟨S8x512, .f32⟩
  | 89 => ⟨S_, .f32⟩
  | 90 => ⟨S8x512, .f32⟩
  | 91 => ⟨S8x512, .f32⟩
  | 92 => ⟨S_, .f32⟩
  | 93 => ⟨S8x512, .f32⟩
  | 94 => ⟨S8x512, .f32⟩
  | 95 => ⟨S_, .f32⟩
  | 96 => ⟨S8x512, .f32⟩
  | 97 => ⟨S8x512, .f32⟩
  | 98 => ⟨S8x512, .f32⟩
  | 99 => ⟨S8x512, .f32⟩
  | 100 => ⟨S8x512, .f32⟩
  | 101 => ⟨S8x512, .f32⟩
  | 102 => ⟨S8x512, .f32⟩
  | 103 => ⟨S_, .f32⟩
  | 104 => ⟨S16x512, .f32⟩
  | 105 => ⟨S16x512, .f32⟩
  | 106 => ⟨S_, .f32⟩
  | 107 => ⟨S16x512, .f32⟩
  | 108 => ⟨S16x512, .f32⟩
  | 109 => ⟨S_, .f32⟩
  | 110 => ⟨S16x512, .f32⟩
  | 111 => ⟨S16x512, .f32⟩
  | 112 => ⟨S_, .f32⟩
  | 113 => ⟨S16x512, .f32⟩
  | 114 => ⟨S16x512, .f32⟩
  | 115 => ⟨S16x512, .f32⟩
  | 116 => ⟨S16x512, .f32⟩
  | 117 => ⟨S16x512, .f32⟩
  | 118 => ⟨S16x512, .f32⟩
  | 119 => ⟨S16x512, .f32⟩
  | 120 => ⟨S_, .f32⟩
  | 121 => ⟨S32x512, .f32⟩
  | 122 => ⟨S32x512, .f32⟩
  | 123 => ⟨S_, .f32⟩
  | 124 => ⟨S32x512, .f32⟩
  | 125 => ⟨S32x512, .f32⟩
  | 126 => ⟨S_, .f32⟩
  | 127 => ⟨S32x512, .f32⟩
  | _ => ⟨S4096x2048, .f32⟩

abbrev hbmTy0_6 (i : Nat) : BufTy := match i % 128 with
  | 0 => ⟨S32x512, .f32⟩
  | 1 => ⟨S_, .f32⟩
  | 2 => ⟨S32x512, .f32⟩
  | 3 => ⟨S32x512, .f32⟩
  | 4 => ⟨S32x512, .f32⟩
  | 5 => ⟨S32x512, .f32⟩
  | 6 => ⟨S32x512, .f32⟩
  | 7 => ⟨S32x512, .f32⟩
  | 8 => ⟨S32x512, .f32⟩
  | 9 => ⟨S_, .f32⟩
  | 10 => ⟨S64x512, .f32⟩
  | 11 => ⟨S64x512, .f32⟩
  | 12 => ⟨S_, .f32⟩
  | 13 => ⟨S64x512, .f32⟩
  | 14 => ⟨S64x512, .f32⟩
  | 15 => ⟨S_, .f32⟩
  | 16 => ⟨S64x512, .f32⟩
  | 17 => ⟨S64x512, .f32⟩
  | 18 => ⟨S_, .f32⟩
  | 19 => ⟨S64x512, .f32⟩
  | 20 => ⟨S64x512, .f32⟩
  | 21 => ⟨S64x512, .f32⟩
  | 22 => ⟨S64x512, .f32⟩
  | 23 => ⟨S64x512, .f32⟩
  | 24 => ⟨S64x512, .f32⟩
  | 25 => ⟨S64x512, .f32⟩
  | 26 => ⟨S_, .f32⟩
  | 27 => ⟨S128x512, .f32⟩
  | 28 => ⟨S128x512, .f32⟩
  | 29 => ⟨S_, .f32⟩
  | 30 => ⟨S128x512, .f32⟩
  | 31 => ⟨S128x512, .f32⟩
  | 32 => ⟨S_, .f32⟩
  | 33 => ⟨S128x512, .f32⟩
  | 34 => ⟨S128x512, .f32⟩
  | 35 => ⟨S_, .f32⟩
  | 36 => ⟨S128x512, .f32⟩
  | 37 => ⟨S128x512, .f32⟩
  | 38 => ⟨S128x512, .f32⟩
  | 39 => ⟨S128x512, .f32⟩
  | 40 => ⟨S128x512, .f32⟩
  | 41 => ⟨S128x512, .f32⟩
  | 42 => ⟨S128x512, .f32⟩
  | 43 => ⟨S_, .f32⟩
  | 44 => ⟨S256x512, .f32⟩
  | 45 => ⟨S256x512, .f32⟩
  | 46 => ⟨S_, .f32⟩
  | 47 => ⟨S256x512, .f32⟩
  | 48 => ⟨S256x512, .f32⟩
  | 49 => ⟨S_, .f32⟩
  | 50 => ⟨S256x512, .f32⟩
  | 51 => ⟨S256x512, .f32⟩
  | 52 => ⟨S_, .f32⟩
  | 53 => ⟨S256x512, .f32⟩
  | 54 => ⟨S256x512, .f32⟩
  | 55 => ⟨S256x512, .f32⟩
  | 56 => ⟨S256x512, .f32⟩
  | 57 => ⟨S256x512, .f32⟩
  | 58 => ⟨S256x512, .f32⟩
  | 59 => ⟨S256x512, .f32⟩
  | 60 => ⟨S_, .f32⟩
  | 61 => ⟨S512x512, .f32⟩
  | 62 => ⟨S512x512, .f32⟩
  | 63 => ⟨S_, .f32⟩
  | 64 => ⟨S512x512, .f32⟩
  | 65 => ⟨S512x512, .f32⟩
  | 66 => ⟨S_, .f32⟩
  | 67 => ⟨S512x512, .f32⟩
  | 68 => ⟨S512x512, .f32⟩
  | 69 => ⟨S_, .f32⟩
  | 70 => ⟨S512x512, .f32⟩
  | 71 => ⟨S512x512, .f32⟩
  | 72 => ⟨S512x512, .f32⟩
  | 73 => ⟨S512x512, .f32⟩
  | 74 => ⟨S512x512, .f32⟩
  | 75 => ⟨S512x512, .f32⟩
  | 76 => ⟨S512x512, .f32⟩
  | 77 => ⟨S_, .f32⟩
  | 78 => ⟨S1024x512, .f32⟩
  | 79 => ⟨S1024x512, .f32⟩
  | 80 => ⟨S_, .f32⟩
  | 81 => ⟨S1024x512, .f32⟩
  | 82 => ⟨S1024x512, .f32⟩
  | 83 => ⟨S_, .f32⟩
  | 84 => ⟨S1024x512, .f32⟩
  | 85 => ⟨S1024x512, .f32⟩
  | 86 => ⟨S_, .f32⟩
  | 87 => ⟨S1024x512, .f32⟩
  | 88 => ⟨S1024x512, .f32⟩
  | 89 => ⟨S1024x512, .f32⟩
  | 90 => ⟨S1024x512, .f32⟩
  | 91 => ⟨S1024x512, .f32⟩
  | 92 => ⟨S1024x512, .f32⟩
  | 93 => ⟨S1024x512, .f32⟩
  | 94 => ⟨S_, .f32⟩
  | 95 => ⟨S2048x512, .f32⟩
  | 96 => ⟨S2048x512, .f32⟩
  | 97 => ⟨S_, .f32⟩
  | 98 => ⟨S2048x512, .f32⟩
  | 99 => ⟨S2048x512, .f32⟩
  | 100 => ⟨S_, .f32⟩
  | 101 => ⟨S2048x512, .f32⟩
  | 102 => ⟨S2048x512, .f32⟩
  | 103 => ⟨S_, .f32⟩
  | 104 => ⟨S2048x512, .f32⟩
  | 105 => ⟨S2048x512, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S_, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S_, .f32⟩
  | 121 => ⟨S4096x512, .f32⟩
  | 122 => ⟨S4096x512, .f32⟩
  | 123 => ⟨S4096x512, .f32⟩
  | 124 => ⟨S4096x512, .f32⟩
  | 125 => ⟨S4096x512, .f32⟩
  | 126 => ⟨S4096x512, .f32⟩
  | 127 => ⟨S4096x512, .f32⟩
  | _ => ⟨S4096x2048, .f32⟩

abbrev hbmTy0_7 (i : Nat) : BufTy := match i % 128 with
  | 0 => ⟨S4096x512, .f32⟩
  | 1 => ⟨S4096x512, .f32⟩
  | 2 => ⟨S_, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S512, .f32⟩
  | 10 => ⟨S1x512, .f32⟩
  | 11 => ⟨S4096x512, .f32⟩
  | 12 => ⟨S4096x512, .f32⟩
  | 13 => ⟨S_, .f32⟩
  | 14 => ⟨S512, .f32⟩
  | 15 => ⟨S512, .f32⟩
  | 16 => ⟨S512, .f32⟩
  | 17 => ⟨S512, .f32⟩
  | 18 => ⟨S_, .f32⟩
  | 19 => ⟨S4096x512, .f32⟩
  | 20 => ⟨S4096x512, .f32⟩
  | 21 => ⟨S4096x512, .f32⟩
  | 22 => ⟨S_, .f32⟩
  | 23 => ⟨S512, .f32⟩
  | 24 => ⟨S1x512, .f32⟩
  | 25 => ⟨S_, .f32⟩
  | 26 => ⟨S512, .f32⟩
  | 27 => ⟨S4096x8x64, .f32⟩
  | 28 => ⟨S8x64x4096, .f32⟩
  | 29 => ⟨S8x4096x64, .f32⟩
  | 30 => ⟨S4096x8x64, .f32⟩
  | 31 => ⟨S8x64x64, .f32⟩
  | 32 => ⟨S8x64x64, .f32⟩
  | 33 => ⟨S4096x512, .f32⟩
  | 34 => ⟨S4096x512, .f32⟩
  | 35 => ⟨S4096x512, .f32⟩
  | 36 => ⟨S_, .f32⟩
  | 37 => ⟨S512, .f32⟩
  | 38 => ⟨S1x512, .f32⟩
  | 39 => ⟨S_, .f32⟩
  | 40 => ⟨S512, .f32⟩
  | 41 => ⟨S4096x8x64, .f32⟩
  | 42 => ⟨S8x64x4096, .f32⟩
  | 43 => ⟨S8x4096x64, .f32⟩
  | 44 => ⟨S4096x8x64, .f32⟩
  | 45 => ⟨S8x64x64, .f32⟩
  | 46 => ⟨S8x64x64, .f32⟩
  | 47 => ⟨S4096x512, .f32⟩
  | 48 => ⟨S4096x512, .f32⟩
  | 49 => ⟨S_, .f32⟩
  | 50 => ⟨S512, .f32⟩
  | 51 => ⟨S1x512, .f32⟩
  | 52 => ⟨S_, .f32⟩
  | 53 => ⟨S512, .f32⟩
  | 54 => ⟨S4096x512, .f32⟩
  | 55 => ⟨S4096x512, .f32⟩
  | 56 => ⟨S4096x512, .f32⟩
  | 57 => ⟨S_, .f32⟩
  | 58 => ⟨S512, .f32⟩
  | 59 => ⟨S1x512, .f32⟩
  | 60 => ⟨S_, .f32⟩
  | 61 => ⟨S512, .f32⟩
  | 62 => ⟨S_, .f32⟩
  | 63 => ⟨S4099x512, .f32⟩
  | 64 => ⟨S1x512, .f32⟩
  | 65 => ⟨S_, .f32⟩
  | 66 => ⟨S4x512, .f32⟩
  | 67 => ⟨S4096x512, .f32⟩
  | 68 => ⟨S4096x512, .f32⟩
  | 69 => ⟨S4096x512, .f32⟩
  | 70 => ⟨S_, .f32⟩
  | 71 => ⟨S512, .f32⟩
  | 72 => ⟨S1x512, .f32⟩
  | 73 => ⟨S_, .f32⟩
  | 74 => ⟨S512, .f32⟩
  | 75 => ⟨S_, .f32⟩
  | 76 => ⟨S4099x512, .f32⟩
  | 77 => ⟨S4099x512, .f32⟩
  | 78 => ⟨S1x512, .f32⟩
  | 79 => ⟨S_, .f32⟩
  | 80 => ⟨S4x512, .f32⟩
  | 81 => ⟨S4x512, .f32⟩
  | 82 => ⟨S4096x512, .f32⟩
  | 83 => ⟨S4096x512, .f32⟩
  | 84 => ⟨S4096x512, .f32⟩
  | 85 => ⟨S_, .f32⟩
  | 86 => ⟨S512, .f32⟩
  | 87 => ⟨S1x512, .f32⟩
  | 88 => ⟨S_, .f32⟩
  | 89 => ⟨S512, .f32⟩
  | 90 => ⟨S_, .f32⟩
  | 91 => ⟨S4099x512, .f32⟩
  | 92 => ⟨S4099x512, .f32⟩
  | 93 => ⟨S1x512, .f32⟩
  | 94 => ⟨S_, .f32⟩
  | 95 => ⟨S4x512, .f32⟩
  | 96 => ⟨S4x512, .f32⟩
  | 97 => ⟨S4096x512, .f32⟩
  | 98 => ⟨S4096x512, .f32⟩
  | 99 => ⟨S4096x512, .f32⟩
  | 100 => ⟨S_, .f32⟩
  | 101 => ⟨S512, .f32⟩
  | 102 => ⟨S1x512, .f32⟩
  | 103 => ⟨S_, .f32⟩
  | 104 => ⟨S512, .f32⟩
  | 105 => ⟨S_, .f32⟩
  | 106 => ⟨S4099x512, .f32⟩
  | 107 => ⟨S4099x512, .f32⟩
  | 108 => ⟨S1x512, .f32⟩
  | 109 => ⟨S_, .f32⟩
  | 110 => ⟨S4x512, .f32⟩
  | 111 => ⟨S4x512, .f32⟩
  | 112 => ⟨S3x512, .f32⟩
  | 113 => ⟨S4096x512, .f32⟩
  | 114 => ⟨S4096x512, .bf16⟩
  | 115 => ⟨S1x512, .f32⟩
  | 116 => ⟨S1x512, .f32⟩
  | 117 => ⟨S1x512, .f32⟩
  | 118 => ⟨S1x512, .f32⟩
  | 119 => ⟨S4x512, .f32⟩
  | 120 => ⟨S8x512, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_call0_v0 : Ref sig .tc := ⟨.hbm, 89, rfl⟩
abbrev main_call0_call0_cst : Ref sig .tc := ⟨.hbm, 90, rfl⟩
abbrev main_call0_call0_v0 : Ref sig .tc := ⟨.hbm, 91, rfl⟩
abbrev main_call0_call0_v1 : Ref sig .tc := ⟨.hbm, 92, rfl⟩
abbrev main_call0_call0_v2 : Ref sig .tc := ⟨.hbm, 93, rfl⟩
abbrev main_call0_call0_v3 : Ref sig .tc := ⟨.hbm, 94, rfl⟩
abbrev main_call0_call0_v4 : Ref sig .tc := ⟨.hbm, 95, rfl⟩
abbrev main_call0_call0_v5 : Ref sig .tc := ⟨.hbm, 96, rfl⟩
abbrev main_call0_call0_v6 : Ref sig .tc := ⟨.hbm, 97, rfl⟩
abbrev main_call0_call0_v7 : Ref sig .tc := ⟨.hbm, 98, rfl⟩
abbrev main_call0_call0_v8 : Ref sig .tc := ⟨.hbm, 99, rfl⟩
abbrev main_call0_call0_v9 : Ref sig .tc := ⟨.hbm, 100, rfl⟩
abbrev main_call0_call0_v10 : Ref sig .tc := ⟨.hbm, 101, rfl⟩
abbrev main_call0_call0_v11 : Ref sig .tc := ⟨.hbm, 102, rfl⟩
abbrev main_call0_v1_0 : Ref sig .tc := ⟨.hbm, 103, rfl⟩
abbrev main_call0_call0_cst_0 : Ref sig .tc := ⟨.hbm, 104, rfl⟩
abbrev main_call0_call0_v13 : Ref sig .tc := ⟨.hbm, 105, rfl⟩
abbrev main_call0_call0_v14 : Ref sig .tc := ⟨.hbm, 106, rfl⟩
abbrev main_call0_call0_cst_1 : Ref sig .tc := ⟨.hbm, 107, rfl⟩
abbrev main_call0_call0_v15 : Ref sig .tc := ⟨.hbm, 108, rfl⟩
abbrev main_call0_call0_v16 : Ref sig .tc := ⟨.hbm, 109, rfl⟩
abbrev main_call0_call0_cst_2 : Ref sig .tc := ⟨.hbm, 110, rfl⟩
abbrev main_call0_call0_v17 : Ref sig .tc := ⟨.hbm, 111, rfl⟩
abbrev main_call0_call0_v18 : Ref sig .tc := ⟨.hbm, 112, rfl⟩
abbrev main_call0_call0_cst_3 : Ref sig .tc := ⟨.hbm, 113, rfl⟩
abbrev main_call0_call0_v19 : Ref sig .tc := ⟨.hbm, 114, rfl⟩
abbrev main_call0_call0_v20 : Ref sig .tc := ⟨.hbm, 115, rfl⟩
abbrev main_call0_call0_v21 : Ref sig .tc := ⟨.hbm, 116, rfl⟩
abbrev main_v70_1 : Ref sig .tc := ⟨.hbm, 117, rfl⟩
abbrev main_call0_call0_cst_4 : Ref sig .tc := ⟨.hbm, 118, rfl⟩
abbrev main_call0_call0_cst_5 : Ref sig .tc := ⟨.hbm, 119, rfl⟩
abbrev main_call0_call0_v23 : Ref sig .tc := ⟨.hbm, 120, rfl⟩
abbrev main_call0_call0_cst_6 : Ref sig .tc := ⟨.hbm, 121, rfl⟩
abbrev main_call0_call0_cst_7 : Ref sig .tc := ⟨.hbm, 122, rfl⟩
abbrev main_call0_call0_v24 : Ref sig .tc := ⟨.hbm, 123, rfl⟩
abbrev main_call0_call0_cst_8 : Ref sig .tc := ⟨.hbm, 124, rfl⟩
abbrev main_call0_call0_v25 : Ref sig .tc := ⟨.hbm, 125, rfl⟩
abbrev main_call0_call0_v26 : Ref sig .tc := ⟨.hbm, 126, rfl⟩
abbrev main_call0_call0_cst_9 : Ref sig .tc := ⟨.hbm, 127, rfl⟩
abbrev main_call0_call0_v27 : Ref sig .tc := ⟨.hbm, 128, rfl⟩
abbrev main_call0_call0_v28 : Ref sig .tc := ⟨.hbm, 129, rfl⟩
abbrev main_call0_call0_v29 : Ref sig .tc := ⟨.hbm, 130, rfl⟩
abbrev main_call0_call0_v30 : Ref sig .tc := ⟨.hbm, 131, rfl⟩
abbrev main_call0_call0_v31 : Ref sig .tc := ⟨.hbm, 132, rfl⟩
abbrev main_call0_call0_cst_10 : Ref sig .tc := ⟨.hbm, 133, rfl⟩
abbrev main_call0_call0_v32 : Ref sig .tc := ⟨.hbm, 134, rfl⟩
abbrev main_v70_2 : Ref sig .tc := ⟨.hbm, 135, rfl⟩
abbrev main_v70_0 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_9 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_10 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_v310 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_v364 : Ref sig .tc := ⟨.hbm, 432, rfl⟩
abbrev main_v365 : Ref sig .tc := ⟨.hbm, 433, rfl⟩
abbrev main_v366 : Ref sig .tc := ⟨.hbm, 434, rfl⟩
abbrev main_v367 : Ref sig .tc := ⟨.hbm, 435, rfl⟩
abbrev main_v368 : Ref sig .tc := ⟨.hbm, 436, rfl⟩
abbrev main_v369 : Ref sig .tc := ⟨.hbm, 437, rfl⟩
abbrev main_v370 : Ref sig .tc := ⟨.hbm, 438, rfl⟩
abbrev main_v371 : Ref sig .tc := ⟨.hbm, 439, rfl⟩
abbrev main_v372 : Ref sig .tc := ⟨.hbm, 440, rfl⟩
abbrev main_v373 : Ref sig .tc := ⟨.hbm, 441, rfl⟩
abbrev main_v374 : Ref sig .tc := ⟨.hbm, 442, rfl⟩
abbrev main_v375 : Ref sig .tc := ⟨.hbm, 443, rfl⟩
abbrev main_v376 : Ref sig .tc := ⟨.hbm, 444, rfl⟩
abbrev main_v377 : Ref sig .tc := ⟨.hbm, 445, rfl⟩
abbrev main_v378 : Ref sig .tc := ⟨.hbm, 446, rfl⟩
abbrev main_v379 : Ref sig .tc := ⟨.hbm, 447, rfl⟩
abbrev main_v380 : Ref sig .tc := ⟨.hbm, 448, rfl⟩
abbrev main_v381 : Ref sig .tc := ⟨.hbm, 449, rfl⟩
abbrev main_v382 : Ref sig .tc := ⟨.hbm, 450, rfl⟩
abbrev main_v383 : Ref sig .tc := ⟨.hbm, 451, rfl⟩
abbrev main_v384 : Ref sig .tc := ⟨.hbm, 452, rfl⟩
abbrev main_v385 : Ref sig .tc := ⟨.hbm, 453, rfl⟩
abbrev main_v386 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_v390 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_v397 : Ref sig .tc := ⟨.hbm, 465, rfl⟩
abbrev main_v398 : Ref sig .tc := ⟨.hbm, 466, rfl⟩
abbrev main_v399 : Ref sig .tc := ⟨.hbm, 467, rfl⟩
abbrev main_v400 : Ref sig .tc := ⟨.hbm, 468, rfl⟩
abbrev main_v401 : Ref sig .tc := ⟨.hbm, 469, rfl⟩
abbrev main_v402 : Ref sig .tc := ⟨.hbm, 470, rfl⟩
abbrev main_v403 : Ref sig .tc := ⟨.hbm, 471, rfl⟩
abbrev main_cst_11 : Ref sig .tc := ⟨.hbm, 472, rfl⟩
abbrev main_v404 : Ref sig .tc := ⟨.hbm, 473, rfl⟩
abbrev main_v405 : Ref sig .tc := ⟨.hbm, 474, rfl⟩
abbrev main_v406 : Ref sig .tc := ⟨.hbm, 475, rfl⟩
abbrev main_cst_12 : Ref sig .tc := ⟨.hbm, 476, rfl⟩
abbrev main_v407 : Ref sig .tc := ⟨.hbm, 477, rfl⟩
abbrev main_v408 : Ref sig .tc := ⟨.hbm, 478, rfl⟩
abbrev main_cst_13 : Ref sig .tc := ⟨.hbm, 479, rfl⟩
abbrev main_v409 : Ref sig .tc := ⟨.hbm, 480, rfl⟩
abbrev main_cst_14 : Ref sig .tc := ⟨.hbm, 481, rfl⟩
abbrev main_v410 : Ref sig .tc := ⟨.hbm, 482, rfl⟩
abbrev main_v411 : Ref sig .tc := ⟨.hbm, 483, rfl⟩
abbrev main_v412 : Ref sig .tc := ⟨.hbm, 484, rfl⟩
abbrev main_v413 : Ref sig .tc := ⟨.hbm, 485, rfl⟩
abbrev main_v414 : Ref sig .tc := ⟨.hbm, 486, rfl⟩
abbrev main_v415 : Ref sig .tc := ⟨.hbm, 487, rfl⟩
abbrev main_v416 : Ref sig .tc := ⟨.hbm, 488, rfl⟩
abbrev main_v417 : Ref sig .tc := ⟨.hbm, 489, rfl⟩
abbrev main_v418 : Ref sig .tc := ⟨.hbm, 490, rfl⟩
abbrev main_cst_15 : Ref sig .tc := ⟨.hbm, 491, rfl⟩
abbrev main_v419 : Ref sig .tc := ⟨.hbm, 492, rfl⟩
abbrev main_v420 : Ref sig .tc := ⟨.hbm, 493, rfl⟩
abbrev main_v421 : Ref sig .tc := ⟨.hbm, 494, rfl⟩
abbrev main_cst_16 : Ref sig .tc := ⟨.hbm, 495, rfl⟩
abbrev main_v422 : Ref sig .tc := ⟨.hbm, 496, rfl⟩
abbrev main_v423 : Ref sig .tc := ⟨.hbm, 497, rfl⟩
abbrev main_cst_17 : Ref sig .tc := ⟨.hbm, 498, rfl⟩
abbrev main_v424 : Ref sig .tc := ⟨.hbm, 499, rfl⟩
abbrev main_cst_18 : Ref sig .tc := ⟨.hbm, 500, rfl⟩
abbrev main_v425 : Ref sig .tc := ⟨.hbm, 501, rfl⟩
abbrev main_v426 : Ref sig .tc := ⟨.hbm, 502, rfl⟩
abbrev main_v427 : Ref sig .tc := ⟨.hbm, 503, rfl⟩
abbrev main_v428 : Ref sig .tc := ⟨.hbm, 504, rfl⟩
abbrev main_v429 : Ref sig .tc := ⟨.hbm, 505, rfl⟩
abbrev main_v430 : Ref sig .tc := ⟨.hbm, 506, rfl⟩
abbrev main_v431 : Ref sig .tc := ⟨.hbm, 507, rfl⟩
abbrev main_v432 : Ref sig .tc := ⟨.hbm, 508, rfl⟩
abbrev main_v433 : Ref sig .tc := ⟨.hbm, 509, rfl⟩
abbrev main_cst_19 : Ref sig .tc := ⟨.hbm, 510, rfl⟩
abbrev main_v434 : Ref sig .tc := ⟨.hbm, 511, rfl⟩
abbrev main_v435 : Ref sig .tc := ⟨.hbm, 512, rfl⟩
abbrev main_v436 : Ref sig .tc := ⟨.hbm, 513, rfl⟩
abbrev main_cst_20 : Ref sig .tc := ⟨.hbm, 514, rfl⟩
abbrev main_v437 : Ref sig .tc := ⟨.hbm, 515, rfl⟩
abbrev main_v438 : Ref sig .tc := ⟨.hbm, 516, rfl⟩
abbrev main_cst_21 : Ref sig .tc := ⟨.hbm, 517, rfl⟩
abbrev main_v439 : Ref sig .tc := ⟨.hbm, 518, rfl⟩
abbrev main_cst_22 : Ref sig .tc := ⟨.hbm, 519, rfl⟩
abbrev main_v440 : Ref sig .tc := ⟨.hbm, 520, rfl⟩
abbrev main_v441 : Ref sig .tc := ⟨.hbm, 521, rfl⟩
abbrev main_v442 : Ref sig .tc := ⟨.hbm, 522, rfl⟩
abbrev main_v443 : Ref sig .tc := ⟨.hbm, 523, rfl⟩
abbrev main_v444 : Ref sig .tc := ⟨.hbm, 524, rfl⟩
abbrev main_v445 : Ref sig .tc := ⟨.hbm, 525, rfl⟩
abbrev main_v446 : Ref sig .tc := ⟨.hbm, 526, rfl⟩
abbrev main_v447 : Ref sig .tc := ⟨.hbm, 527, rfl⟩
abbrev main_v448 : Ref sig .tc := ⟨.hbm, 528, rfl⟩
abbrev main_cst_23 : Ref sig .tc := ⟨.hbm, 529, rfl⟩
abbrev main_v449 : Ref sig .tc := ⟨.hbm, 530, rfl⟩
abbrev main_v450 : Ref sig .tc := ⟨.hbm, 531, rfl⟩
abbrev main_v451 : Ref sig .tc := ⟨.hbm, 532, rfl⟩
abbrev main_cst_24 : Ref sig .tc := ⟨.hbm, 533, rfl⟩
abbrev main_v452 : Ref sig .tc := ⟨.hbm, 534, rfl⟩
abbrev main_v453 : Ref sig .tc := ⟨.hbm, 535, rfl⟩
abbrev main_cst_25 : Ref sig .tc := ⟨.hbm, 536, rfl⟩
abbrev main_v454 : Ref sig .tc := ⟨.hbm, 537, rfl⟩
abbrev main_cst_26 : Ref sig .tc := ⟨.hbm, 538, rfl⟩
abbrev main_v455 : Ref sig .tc := ⟨.hbm, 539, rfl⟩
abbrev main_v456 : Ref sig .tc := ⟨.hbm, 540, rfl⟩
abbrev main_v457 : Ref sig .tc := ⟨.hbm, 541, rfl⟩
abbrev main_v458 : Ref sig .tc := ⟨.hbm, 542, rfl⟩
abbrev main_v459 : Ref sig .tc := ⟨.hbm, 543, rfl⟩
abbrev main_v460 : Ref sig .tc := ⟨.hbm, 544, rfl⟩
abbrev main_v461 : Ref sig .tc := ⟨.hbm, 545, rfl⟩
abbrev main_v462 : Ref sig .tc := ⟨.hbm, 546, rfl⟩
abbrev main_v463 : Ref sig .tc := ⟨.hbm, 547, rfl⟩
abbrev main_cst_27 : Ref sig .tc := ⟨.hbm, 548, rfl⟩
abbrev main_v464 : Ref sig .tc := ⟨.hbm, 549, rfl⟩
abbrev main_v465 : Ref sig .tc := ⟨.hbm, 550, rfl⟩
abbrev main_v466 : Ref sig .tc := ⟨.hbm, 551, rfl⟩
abbrev main_cst_28 : Ref sig .tc := ⟨.hbm, 552, rfl⟩
abbrev main_v467 : Ref sig .tc := ⟨.hbm, 553, rfl⟩
abbrev main_v468 : Ref sig .tc := ⟨.hbm, 554, rfl⟩
abbrev main_cst_29 : Ref sig .tc := ⟨.hbm, 555, rfl⟩
abbrev main_v469 : Ref sig .tc := ⟨.hbm, 556, rfl⟩
abbrev main_cst_30 : Ref sig .tc := ⟨.hbm, 557, rfl⟩
abbrev main_v470 : Ref sig .tc := ⟨.hbm, 558, rfl⟩
abbrev main_v471 : Ref sig .tc := ⟨.hbm, 559, rfl⟩
abbrev main_v472 : Ref sig .tc := ⟨.hbm, 560, rfl⟩
abbrev main_v473 : Ref sig .tc := ⟨.hbm, 561, rfl⟩
abbrev main_v474 : Ref sig .tc := ⟨.hbm, 562, rfl⟩
abbrev main_v475 : Ref sig .tc := ⟨.hbm, 563, rfl⟩
abbrev main_v476 : Ref sig .tc := ⟨.hbm, 564, rfl⟩
abbrev main_v477 : Ref sig .tc := ⟨.hbm, 565, rfl⟩
abbrev main_v478 : Ref sig .tc := ⟨.hbm, 566, rfl⟩
abbrev main_cst_31 : Ref sig .tc := ⟨.hbm, 567, rfl⟩
abbrev main_v479 : Ref sig .tc := ⟨.hbm, 568, rfl⟩
abbrev main_v480 : Ref sig .tc := ⟨.hbm, 569, rfl⟩
abbrev main_v481 : Ref sig .tc := ⟨.hbm, 570, rfl⟩
abbrev main_cst_32 : Ref sig .tc := ⟨.hbm, 571, rfl⟩
abbrev main_v482 : Ref sig .tc := ⟨.hbm, 572, rfl⟩
abbrev main_v483 : Ref sig .tc := ⟨.hbm, 573, rfl⟩
abbrev main_cst_33 : Ref sig .tc := ⟨.hbm, 574, rfl⟩
abbrev main_v484 : Ref sig .tc := ⟨.hbm, 575, rfl⟩
abbrev main_cst_34 : Ref sig .tc := ⟨.hbm, 576, rfl⟩
abbrev main_v485 : Ref sig .tc := ⟨.hbm, 577, rfl⟩
abbrev main_v486 : Ref sig .tc := ⟨.hbm, 578, rfl⟩
abbrev main_v487 : Ref sig .tc := ⟨.hbm, 579, rfl⟩
abbrev main_v488 : Ref sig .tc := ⟨.hbm, 580, rfl⟩
abbrev main_v489 : Ref sig .tc := ⟨.hbm, 581, rfl⟩
abbrev main_v490 : Ref sig .tc := ⟨.hbm, 582, rfl⟩
abbrev main_v491 : Ref sig .tc := ⟨.hbm, 583, rfl⟩
abbrev main_v492 : Ref sig .tc := ⟨.hbm, 584, rfl⟩
abbrev main_v493 : Ref sig .tc := ⟨.hbm, 585, rfl⟩
abbrev main_cst_35 : Ref sig .tc := ⟨.hbm, 586, rfl⟩
abbrev main_v494 : Ref sig .tc := ⟨.hbm, 587, rfl⟩
abbrev main_v495 : Ref sig .tc := ⟨.hbm, 588, rfl⟩
abbrev main_v496 : Ref sig .tc := ⟨.hbm, 589, rfl⟩
abbrev main_cst_36 : Ref sig .tc := ⟨.hbm, 590, rfl⟩
abbrev main_v497 : Ref sig .tc := ⟨.hbm, 591, rfl⟩
abbrev main_v498 : Ref sig .tc := ⟨.hbm, 592, rfl⟩
abbrev main_cst_37 : Ref sig .tc := ⟨.hbm, 593, rfl⟩
abbrev main_v499 : Ref sig .tc := ⟨.hbm, 594, rfl⟩
abbrev main_cst_38 : Ref sig .tc := ⟨.hbm, 595, rfl⟩
abbrev main_v500 : Ref sig .tc := ⟨.hbm, 596, rfl⟩
abbrev main_v501 : Ref sig .tc := ⟨.hbm, 597, rfl⟩
abbrev main_v502 : Ref sig .tc := ⟨.hbm, 598, rfl⟩
abbrev main_v503 : Ref sig .tc := ⟨.hbm, 599, rfl⟩
abbrev main_v504 : Ref sig .tc := ⟨.hbm, 600, rfl⟩
abbrev main_v505 : Ref sig .tc := ⟨.hbm, 601, rfl⟩
abbrev main_v506 : Ref sig .tc := ⟨.hbm, 602, rfl⟩
abbrev main_v507 : Ref sig .tc := ⟨.hbm, 603, rfl⟩
abbrev main_v508 : Ref sig .tc := ⟨.hbm, 604, rfl⟩
abbrev main_cst_39 : Ref sig .tc := ⟨.hbm, 605, rfl⟩
abbrev main_v509 : Ref sig .tc := ⟨.hbm, 606, rfl⟩
abbrev main_v510 : Ref sig .tc := ⟨.hbm, 607, rfl⟩
abbrev main_v511 : Ref sig .tc := ⟨.hbm, 608, rfl⟩
abbrev main_cst_40 : Ref sig .tc := ⟨.hbm, 609, rfl⟩
abbrev main_v512 : Ref sig .tc := ⟨.hbm, 610, rfl⟩
abbrev main_v513 : Ref sig .tc := ⟨.hbm, 611, rfl⟩
abbrev main_cst_41 : Ref sig .tc := ⟨.hbm, 612, rfl⟩
abbrev main_v514 : Ref sig .tc := ⟨.hbm, 613, rfl⟩
abbrev main_cst_42 : Ref sig .tc := ⟨.hbm, 614, rfl⟩
abbrev main_v515 : Ref sig .tc := ⟨.hbm, 615, rfl⟩
abbrev main_v516 : Ref sig .tc := ⟨.hbm, 616, rfl⟩
abbrev main_v517 : Ref sig .tc := ⟨.hbm, 617, rfl⟩
abbrev main_v518 : Ref sig .tc := ⟨.hbm, 618, rfl⟩
abbrev main_v519 : Ref sig .tc := ⟨.hbm, 619, rfl⟩
abbrev main_v520 : Ref sig .tc := ⟨.hbm, 620, rfl⟩
abbrev main_v521 : Ref sig .tc := ⟨.hbm, 621, rfl⟩
abbrev main_v522 : Ref sig .tc := ⟨.hbm, 622, rfl⟩
abbrev main_v523 : Ref sig .tc := ⟨.hbm, 623, rfl⟩
abbrev main_cst_43 : Ref sig .tc := ⟨.hbm, 624, rfl⟩
abbrev main_v524 : Ref sig .tc := ⟨.hbm, 625, rfl⟩
abbrev main_v525 : Ref sig .tc := ⟨.hbm, 626, rfl⟩
abbrev main_v526 : Ref sig .tc := ⟨.hbm, 627, rfl⟩
abbrev main_cst_44 : Ref sig .tc := ⟨.hbm, 628, rfl⟩
abbrev main_v527 : Ref sig .tc := ⟨.hbm, 629, rfl⟩
abbrev main_v528 : Ref sig .tc := ⟨.hbm, 630, rfl⟩
abbrev main_cst_45 : Ref sig .tc := ⟨.hbm, 631, rfl⟩
abbrev main_v529 : Ref sig .tc := ⟨.hbm, 632, rfl⟩
abbrev main_cst_46 : Ref sig .tc := ⟨.hbm, 633, rfl⟩
abbrev main_v530 : Ref sig .tc := ⟨.hbm, 634, rfl⟩
abbrev main_v531 : Ref sig .tc := ⟨.hbm, 635, rfl⟩
abbrev main_v532 : Ref sig .tc := ⟨.hbm, 636, rfl⟩
abbrev main_v533 : Ref sig .tc := ⟨.hbm, 637, rfl⟩
abbrev main_v534 : Ref sig .tc := ⟨.hbm, 638, rfl⟩
abbrev main_v535 : Ref sig .tc := ⟨.hbm, 639, rfl⟩
abbrev main_v536 : Ref sig .tc := ⟨.hbm, 640, rfl⟩
abbrev main_v537 : Ref sig .tc := ⟨.hbm, 641, rfl⟩
abbrev main_v538 : Ref sig .tc := ⟨.hbm, 642, rfl⟩
abbrev main_cst_47 : Ref sig .tc := ⟨.hbm, 643, rfl⟩
abbrev main_v539 : Ref sig .tc := ⟨.hbm, 644, rfl⟩
abbrev main_v540 : Ref sig .tc := ⟨.hbm, 645, rfl⟩
abbrev main_v541 : Ref sig .tc := ⟨.hbm, 646, rfl⟩
abbrev main_cst_48 : Ref sig .tc := ⟨.hbm, 647, rfl⟩
abbrev main_v542 : Ref sig .tc := ⟨.hbm, 648, rfl⟩
abbrev main_v543 : Ref sig .tc := ⟨.hbm, 649, rfl⟩
abbrev main_cst_49 : Ref sig .tc := ⟨.hbm, 650, rfl⟩
abbrev main_v544 : Ref sig .tc := ⟨.hbm, 651, rfl⟩
abbrev main_cst_50 : Ref sig .tc := ⟨.hbm, 652, rfl⟩
abbrev main_v545 : Ref sig .tc := ⟨.hbm, 653, rfl⟩
abbrev main_v546 : Ref sig .tc := ⟨.hbm, 654, rfl⟩
abbrev main_v547 : Ref sig .tc := ⟨.hbm, 655, rfl⟩
abbrev main_v548 : Ref sig .tc := ⟨.hbm, 656, rfl⟩
abbrev main_v549 : Ref sig .tc := ⟨.hbm, 657, rfl⟩
abbrev main_v550 : Ref sig .tc := ⟨.hbm, 658, rfl⟩
abbrev main_v551 : Ref sig .tc := ⟨.hbm, 659, rfl⟩
abbrev main_v552 : Ref sig .tc := ⟨.hbm, 660, rfl⟩
abbrev main_v553 : Ref sig .tc := ⟨.hbm, 661, rfl⟩
abbrev main_cst_51 : Ref sig .tc := ⟨.hbm, 662, rfl⟩
abbrev main_v554 : Ref sig .tc := ⟨.hbm, 663, rfl⟩
abbrev main_v555 : Ref sig .tc := ⟨.hbm, 664, rfl⟩
abbrev main_v556 : Ref sig .tc := ⟨.hbm, 665, rfl⟩
abbrev main_cst_52 : Ref sig .tc := ⟨.hbm, 666, rfl⟩
abbrev main_v557 : Ref sig .tc := ⟨.hbm, 667, rfl⟩
abbrev main_v558 : Ref sig .tc := ⟨.hbm, 668, rfl⟩
abbrev main_cst_53 : Ref sig .tc := ⟨.hbm, 669, rfl⟩
abbrev main_v559 : Ref sig .tc := ⟨.hbm, 670, rfl⟩
abbrev main_cst_54 : Ref sig .tc := ⟨.hbm, 671, rfl⟩
abbrev main_v560 : Ref sig .tc := ⟨.hbm, 672, rfl⟩
abbrev main_v561 : Ref sig .tc := ⟨.hbm, 673, rfl⟩
abbrev main_v562 : Ref sig .tc := ⟨.hbm, 674, rfl⟩
abbrev main_v563 : Ref sig .tc := ⟨.hbm, 675, rfl⟩
abbrev main_v564 : Ref sig .tc := ⟨.hbm, 676, rfl⟩
abbrev main_v565 : Ref sig .tc := ⟨.hbm, 677, rfl⟩
abbrev main_v566 : Ref sig .tc := ⟨.hbm, 678, rfl⟩
abbrev main_v567 : Ref sig .tc := ⟨.hbm, 679, rfl⟩
abbrev main_v568 : Ref sig .tc := ⟨.hbm, 680, rfl⟩
abbrev main_cst_55 : Ref sig .tc := ⟨.hbm, 681, rfl⟩
abbrev main_v569 : Ref sig .tc := ⟨.hbm, 682, rfl⟩
abbrev main_v570 : Ref sig .tc := ⟨.hbm, 683, rfl⟩
abbrev main_v571 : Ref sig .tc := ⟨.hbm, 684, rfl⟩
abbrev main_cst_56 : Ref sig .tc := ⟨.hbm, 685, rfl⟩
abbrev main_v572 : Ref sig .tc := ⟨.hbm, 686, rfl⟩
abbrev main_v573 : Ref sig .tc := ⟨.hbm, 687, rfl⟩
abbrev main_cst_57 : Ref sig .tc := ⟨.hbm, 688, rfl⟩
abbrev main_v574 : Ref sig .tc := ⟨.hbm, 689, rfl⟩
abbrev main_cst_58 : Ref sig .tc := ⟨.hbm, 690, rfl⟩
abbrev main_v575 : Ref sig .tc := ⟨.hbm, 691, rfl⟩
abbrev main_v576 : Ref sig .tc := ⟨.hbm, 692, rfl⟩
abbrev main_v577 : Ref sig .tc := ⟨.hbm, 693, rfl⟩
abbrev main_v578 : Ref sig .tc := ⟨.hbm, 694, rfl⟩
abbrev main_cst_59 : Ref sig .tc := ⟨.hbm, 695, rfl⟩
abbrev main_v579 : Ref sig .tc := ⟨.hbm, 696, rfl⟩
abbrev main_v580 : Ref sig .tc := ⟨.hbm, 697, rfl⟩
abbrev main_cst_60 : Ref sig .tc := ⟨.hbm, 698, rfl⟩
abbrev main_v581 : Ref sig .tc := ⟨.hbm, 699, rfl⟩
abbrev main_v582 : Ref sig .tc := ⟨.hbm, 700, rfl⟩
abbrev main_cst_61 : Ref sig .tc := ⟨.hbm, 701, rfl⟩
abbrev main_v583 : Ref sig .tc := ⟨.hbm, 702, rfl⟩
abbrev main_v584 : Ref sig .tc := ⟨.hbm, 703, rfl⟩
abbrev main_v585 : Ref sig .tc := ⟨.hbm, 704, rfl⟩
abbrev main_v586 : Ref sig .tc := ⟨.hbm, 705, rfl⟩
abbrev main_v587 : Ref sig .tc := ⟨.hbm, 706, rfl⟩
abbrev main_v588 : Ref sig .tc := ⟨.hbm, 707, rfl⟩
abbrev main_v589 : Ref sig .tc := ⟨.hbm, 708, rfl⟩
abbrev main_cst_62 : Ref sig .tc := ⟨.hbm, 709, rfl⟩
abbrev main_v590 : Ref sig .tc := ⟨.hbm, 710, rfl⟩
abbrev main_v591 : Ref sig .tc := ⟨.hbm, 711, rfl⟩
abbrev main_cst_63 : Ref sig .tc := ⟨.hbm, 712, rfl⟩
abbrev main_v592 : Ref sig .tc := ⟨.hbm, 713, rfl⟩
abbrev main_v593 : Ref sig .tc := ⟨.hbm, 714, rfl⟩
abbrev main_cst_64 : Ref sig .tc := ⟨.hbm, 715, rfl⟩
abbrev main_v594 : Ref sig .tc := ⟨.hbm, 716, rfl⟩
abbrev main_v595 : Ref sig .tc := ⟨.hbm, 717, rfl⟩
abbrev main_cst_65 : Ref sig .tc := ⟨.hbm, 718, rfl⟩
abbrev main_v596 : Ref sig .tc := ⟨.hbm, 719, rfl⟩
abbrev main_v597 : Ref sig .tc := ⟨.hbm, 720, rfl⟩
abbrev main_v598 : Ref sig .tc := ⟨.hbm, 721, rfl⟩
abbrev main_v599 : Ref sig .tc := ⟨.hbm, 722, rfl⟩
abbrev main_v600 : Ref sig .tc := ⟨.hbm, 723, rfl⟩
abbrev main_v601 : Ref sig .tc := ⟨.hbm, 724, rfl⟩
abbrev main_v602 : Ref sig .tc := ⟨.hbm, 725, rfl⟩
abbrev main_cst_66 : Ref sig .tc := ⟨.hbm, 726, rfl⟩
abbrev main_v603 : Ref sig .tc := ⟨.hbm, 727, rfl⟩
abbrev main_v604 : Ref sig .tc := ⟨.hbm, 728, rfl⟩
abbrev main_cst_67 : Ref sig .tc := ⟨.hbm, 729, rfl⟩
abbrev main_v605 : Ref sig .tc := ⟨.hbm, 730, rfl⟩
abbrev main_v606 : Ref sig .tc := ⟨.hbm, 731, rfl⟩
abbrev main_cst_68 : Ref sig .tc := ⟨.hbm, 732, rfl⟩
abbrev main_v607 : Ref sig .tc := ⟨.hbm, 733, rfl⟩
abbrev main_v608 : Ref sig .tc := ⟨.hbm, 734, rfl⟩
abbrev main_cst_69 : Ref sig .tc := ⟨.hbm, 735, rfl⟩
abbrev main_v609 : Ref sig .tc := ⟨.hbm, 736, rfl⟩
abbrev main_v610 : Ref sig .tc := ⟨.hbm, 737, rfl⟩
abbrev main_v611 : Ref sig .tc := ⟨.hbm, 738, rfl⟩
abbrev main_v612 : Ref sig .tc := ⟨.hbm, 739, rfl⟩
abbrev main_v613 : Ref sig .tc := ⟨.hbm, 740, rfl⟩
abbrev main_v614 : Ref sig .tc := ⟨.hbm, 741, rfl⟩
abbrev main_v615 : Ref sig .tc := ⟨.hbm, 742, rfl⟩
abbrev main_cst_70 : Ref sig .tc := ⟨.hbm, 743, rfl⟩
abbrev main_v616 : Ref sig .tc := ⟨.hbm, 744, rfl⟩
abbrev main_v617 : Ref sig .tc := ⟨.hbm, 745, rfl⟩
abbrev main_cst_71 : Ref sig .tc := ⟨.hbm, 746, rfl⟩
abbrev main_v618 : Ref sig .tc := ⟨.hbm, 747, rfl⟩
abbrev main_v619 : Ref sig .tc := ⟨.hbm, 748, rfl⟩
abbrev main_cst_72 : Ref sig .tc := ⟨.hbm, 749, rfl⟩
abbrev main_v620 : Ref sig .tc := ⟨.hbm, 750, rfl⟩
abbrev main_v621 : Ref sig .tc := ⟨.hbm, 751, rfl⟩
abbrev main_cst_73 : Ref sig .tc := ⟨.hbm, 752, rfl⟩
abbrev main_v622 : Ref sig .tc := ⟨.hbm, 753, rfl⟩
abbrev main_v623 : Ref sig .tc := ⟨.hbm, 754, rfl⟩
abbrev main_v624 : Ref sig .tc := ⟨.hbm, 755, rfl⟩
abbrev main_v625 : Ref sig .tc := ⟨.hbm, 756, rfl⟩
abbrev main_v626 : Ref sig .tc := ⟨.hbm, 757, rfl⟩
abbrev main_v627 : Ref sig .tc := ⟨.hbm, 758, rfl⟩
abbrev main_v628 : Ref sig .tc := ⟨.hbm, 759, rfl⟩
abbrev main_cst_74 : Ref sig .tc := ⟨.hbm, 760, rfl⟩
abbrev main_v629 : Ref sig .tc := ⟨.hbm, 761, rfl⟩
abbrev main_v630 : Ref sig .tc := ⟨.hbm, 762, rfl⟩
abbrev main_cst_75 : Ref sig .tc := ⟨.hbm, 763, rfl⟩
abbrev main_v631 : Ref sig .tc := ⟨.hbm, 764, rfl⟩
abbrev main_v632 : Ref sig .tc := ⟨.hbm, 765, rfl⟩
abbrev main_cst_76 : Ref sig .tc := ⟨.hbm, 766, rfl⟩
abbrev main_v633 : Ref sig .tc := ⟨.hbm, 767, rfl⟩
abbrev main_v634 : Ref sig .tc := ⟨.hbm, 768, rfl⟩
abbrev main_cst_77 : Ref sig .tc := ⟨.hbm, 769, rfl⟩
abbrev main_v635 : Ref sig .tc := ⟨.hbm, 770, rfl⟩
abbrev main_v636 : Ref sig .tc := ⟨.hbm, 771, rfl⟩
abbrev main_v637 : Ref sig .tc := ⟨.hbm, 772, rfl⟩
abbrev main_v638 : Ref sig .tc := ⟨.hbm, 773, rfl⟩
abbrev main_v639 : Ref sig .tc := ⟨.hbm, 774, rfl⟩
abbrev main_v640 : Ref sig .tc := ⟨.hbm, 775, rfl⟩
abbrev main_v641 : Ref sig .tc := ⟨.hbm, 776, rfl⟩
abbrev main_cst_78 : Ref sig .tc := ⟨.hbm, 777, rfl⟩
abbrev main_v642 : Ref sig .tc := ⟨.hbm, 778, rfl⟩
abbrev main_v643 : Ref sig .tc := ⟨.hbm, 779, rfl⟩
abbrev main_cst_79 : Ref sig .tc := ⟨.hbm, 780, rfl⟩
abbrev main_v644 : Ref sig .tc := ⟨.hbm, 781, rfl⟩
abbrev main_v645 : Ref sig .tc := ⟨.hbm, 782, rfl⟩
abbrev main_cst_80 : Ref sig .tc := ⟨.hbm, 783, rfl⟩
abbrev main_v646 : Ref sig .tc := ⟨.hbm, 784, rfl⟩
abbrev main_v647 : Ref sig .tc := ⟨.hbm, 785, rfl⟩
abbrev main_cst_81 : Ref sig .tc := ⟨.hbm, 786, rfl⟩
abbrev main_v648 : Ref sig .tc := ⟨.hbm, 787, rfl⟩
abbrev main_v649 : Ref sig .tc := ⟨.hbm, 788, rfl⟩
abbrev main_v650 : Ref sig .tc := ⟨.hbm, 789, rfl⟩
abbrev main_v651 : Ref sig .tc := ⟨.hbm, 790, rfl⟩
abbrev main_v652 : Ref sig .tc := ⟨.hbm, 791, rfl⟩
abbrev main_v653 : Ref sig .tc := ⟨.hbm, 792, rfl⟩
abbrev main_v654 : Ref sig .tc := ⟨.hbm, 793, rfl⟩
abbrev main_cst_82 : Ref sig .tc := ⟨.hbm, 794, rfl⟩
abbrev main_v655 : Ref sig .tc := ⟨.hbm, 795, rfl⟩
abbrev main_v656 : Ref sig .tc := ⟨.hbm, 796, rfl⟩
abbrev main_cst_83 : Ref sig .tc := ⟨.hbm, 797, rfl⟩
abbrev main_v657 : Ref sig .tc := ⟨.hbm, 798, rfl⟩
abbrev main_v658 : Ref sig .tc := ⟨.hbm, 799, rfl⟩
abbrev main_cst_84 : Ref sig .tc := ⟨.hbm, 800, rfl⟩
abbrev main_v659 : Ref sig .tc := ⟨.hbm, 801, rfl⟩
abbrev main_v660 : Ref sig .tc := ⟨.hbm, 802, rfl⟩
abbrev main_cst_85 : Ref sig .tc := ⟨.hbm, 803, rfl⟩
abbrev main_v661 : Ref sig .tc := ⟨.hbm, 804, rfl⟩
abbrev main_v662 : Ref sig .tc := ⟨.hbm, 805, rfl⟩
abbrev main_v663 : Ref sig .tc := ⟨.hbm, 806, rfl⟩
abbrev main_v664 : Ref sig .tc := ⟨.hbm, 807, rfl⟩
abbrev main_v665 : Ref sig .tc := ⟨.hbm, 808, rfl⟩
abbrev main_v666 : Ref sig .tc := ⟨.hbm, 809, rfl⟩
abbrev main_v667 : Ref sig .tc := ⟨.hbm, 810, rfl⟩
abbrev main_cst_86 : Ref sig .tc := ⟨.hbm, 811, rfl⟩
abbrev main_v668 : Ref sig .tc := ⟨.hbm, 812, rfl⟩
abbrev main_v669 : Ref sig .tc := ⟨.hbm, 813, rfl⟩
abbrev main_cst_87 : Ref sig .tc := ⟨.hbm, 814, rfl⟩
abbrev main_v670 : Ref sig .tc := ⟨.hbm, 815, rfl⟩
abbrev main_v671 : Ref sig .tc := ⟨.hbm, 816, rfl⟩
abbrev main_cst_88 : Ref sig .tc := ⟨.hbm, 817, rfl⟩
abbrev main_v672 : Ref sig .tc := ⟨.hbm, 818, rfl⟩
abbrev main_v673 : Ref sig .tc := ⟨.hbm, 819, rfl⟩
abbrev main_cst_89 : Ref sig .tc := ⟨.hbm, 820, rfl⟩
abbrev main_v674 : Ref sig .tc := ⟨.hbm, 821, rfl⟩
abbrev main_v675 : Ref sig .tc := ⟨.hbm, 822, rfl⟩
abbrev main_v676 : Ref sig .tc := ⟨.hbm, 823, rfl⟩
abbrev main_v677 : Ref sig .tc := ⟨.hbm, 824, rfl⟩
abbrev main_v678 : Ref sig .tc := ⟨.hbm, 825, rfl⟩
abbrev main_v679 : Ref sig .tc := ⟨.hbm, 826, rfl⟩
abbrev main_v680 : Ref sig .tc := ⟨.hbm, 827, rfl⟩
abbrev main_cst_90 : Ref sig .tc := ⟨.hbm, 828, rfl⟩
abbrev main_v681 : Ref sig .tc := ⟨.hbm, 829, rfl⟩
abbrev main_v682 : Ref sig .tc := ⟨.hbm, 830, rfl⟩
abbrev main_cst_91 : Ref sig .tc := ⟨.hbm, 831, rfl⟩
abbrev main_v683 : Ref sig .tc := ⟨.hbm, 832, rfl⟩
abbrev main_v684 : Ref sig .tc := ⟨.hbm, 833, rfl⟩
abbrev main_cst_92 : Ref sig .tc := ⟨.hbm, 834, rfl⟩
abbrev main_v685 : Ref sig .tc := ⟨.hbm, 835, rfl⟩
abbrev main_v686 : Ref sig .tc := ⟨.hbm, 836, rfl⟩
abbrev main_cst_93 : Ref sig .tc := ⟨.hbm, 837, rfl⟩
abbrev main_v687 : Ref sig .tc := ⟨.hbm, 838, rfl⟩
abbrev main_v688 : Ref sig .tc := ⟨.hbm, 839, rfl⟩
abbrev main_v689 : Ref sig .tc := ⟨.hbm, 840, rfl⟩
abbrev main_v690 : Ref sig .tc := ⟨.hbm, 841, rfl⟩
abbrev main_v691 : Ref sig .tc := ⟨.hbm, 842, rfl⟩
abbrev main_v692 : Ref sig .tc := ⟨.hbm, 843, rfl⟩
abbrev main_v693 : Ref sig .tc := ⟨.hbm, 844, rfl⟩
abbrev main_cst_94 : Ref sig .tc := ⟨.hbm, 845, rfl⟩
abbrev main_v694 : Ref sig .tc := ⟨.hbm, 846, rfl⟩
abbrev main_v695 : Ref sig .tc := ⟨.hbm, 847, rfl⟩
abbrev main_cst_95 : Ref sig .tc := ⟨.hbm, 848, rfl⟩
abbrev main_v696 : Ref sig .tc := ⟨.hbm, 849, rfl⟩
abbrev main_v697 : Ref sig .tc := ⟨.hbm, 850, rfl⟩
abbrev main_cst_96 : Ref sig .tc := ⟨.hbm, 851, rfl⟩
abbrev main_v698 : Ref sig .tc := ⟨.hbm, 852, rfl⟩
abbrev main_v699 : Ref sig .tc := ⟨.hbm, 853, rfl⟩
abbrev main_cst_97 : Ref sig .tc := ⟨.hbm, 854, rfl⟩
abbrev main_v700 : Ref sig .tc := ⟨.hbm, 855, rfl⟩
abbrev main_v701 : Ref sig .tc := ⟨.hbm, 856, rfl⟩
abbrev main_v702 : Ref sig .tc := ⟨.hbm, 857, rfl⟩
abbrev main_v703 : Ref sig .tc := ⟨.hbm, 858, rfl⟩
abbrev main_v704 : Ref sig .tc := ⟨.hbm, 859, rfl⟩
abbrev main_v705 : Ref sig .tc := ⟨.hbm, 860, rfl⟩
abbrev main_v706 : Ref sig .tc := ⟨.hbm, 861, rfl⟩
abbrev main_cst_98 : Ref sig .tc := ⟨.hbm, 862, rfl⟩
abbrev main_v707 : Ref sig .tc := ⟨.hbm, 863, rfl⟩
abbrev main_v708 : Ref sig .tc := ⟨.hbm, 864, rfl⟩
abbrev main_cst_99 : Ref sig .tc := ⟨.hbm, 865, rfl⟩
abbrev main_v709 : Ref sig .tc := ⟨.hbm, 866, rfl⟩
abbrev main_v710 : Ref sig .tc := ⟨.hbm, 867, rfl⟩
abbrev main_cst_100 : Ref sig .tc := ⟨.hbm, 868, rfl⟩
abbrev main_v711 : Ref sig .tc := ⟨.hbm, 869, rfl⟩
abbrev main_v712 : Ref sig .tc := ⟨.hbm, 870, rfl⟩
abbrev main_cst_101 : Ref sig .tc := ⟨.hbm, 871, rfl⟩
abbrev main_v713 : Ref sig .tc := ⟨.hbm, 872, rfl⟩
abbrev main_v714 : Ref sig .tc := ⟨.hbm, 873, rfl⟩
abbrev main_v715 : Ref sig .tc := ⟨.hbm, 874, rfl⟩
abbrev main_v716 : Ref sig .tc := ⟨.hbm, 875, rfl⟩
abbrev main_v717 : Ref sig .tc := ⟨.hbm, 876, rfl⟩
abbrev main_v718 : Ref sig .tc := ⟨.hbm, 877, rfl⟩
abbrev main_v719 : Ref sig .tc := ⟨.hbm, 878, rfl⟩
abbrev main_cst_102 : Ref sig .tc := ⟨.hbm, 879, rfl⟩
abbrev main_v720 : Ref sig .tc := ⟨.hbm, 880, rfl⟩
abbrev main_v721 : Ref sig .tc := ⟨.hbm, 881, rfl⟩
abbrev main_cst_103 : Ref sig .tc := ⟨.hbm, 882, rfl⟩
abbrev main_v722 : Ref sig .tc := ⟨.hbm, 883, rfl⟩
abbrev main_v723 : Ref sig .tc := ⟨.hbm, 884, rfl⟩
abbrev main_cst_104 : Ref sig .tc := ⟨.hbm, 885, rfl⟩
abbrev main_v724 : Ref sig .tc := ⟨.hbm, 886, rfl⟩
abbrev main_v725 : Ref sig .tc := ⟨.hbm, 887, rfl⟩
abbrev main_cst_105 : Ref sig .tc := ⟨.hbm, 888, rfl⟩
abbrev main_v726 : Ref sig .tc := ⟨.hbm, 889, rfl⟩
abbrev main_v727 : Ref sig .tc := ⟨.hbm, 890, rfl⟩
abbrev main_v728 : Ref sig .tc := ⟨.hbm, 891, rfl⟩
abbrev main_v729 : Ref sig .tc := ⟨.hbm, 892, rfl⟩
abbrev main_v730 : Ref sig .tc := ⟨.hbm, 893, rfl⟩
abbrev main_v731 : Ref sig .tc := ⟨.hbm, 894, rfl⟩
abbrev main_v732 : Ref sig .tc := ⟨.hbm, 895, rfl⟩
abbrev main_v733 : Ref sig .tc := ⟨.hbm, 896, rfl⟩
abbrev main_v734 : Ref sig .tc := ⟨.hbm, 897, rfl⟩
abbrev main_cst_106 : Ref sig .tc := ⟨.hbm, 898, rfl⟩
abbrev main_v735 : Ref sig .tc := ⟨.hbm, 899, rfl⟩
abbrev main_v736 : Ref sig .tc := ⟨.hbm, 900, rfl⟩
abbrev main_v737 : Ref sig .tc := ⟨.hbm, 901, rfl⟩
abbrev main_v738 : Ref sig .tc := ⟨.hbm, 902, rfl⟩
abbrev main_v739 : Ref sig .tc := ⟨.hbm, 903, rfl⟩
abbrev main_cst_107 : Ref sig .tc := ⟨.hbm, 904, rfl⟩
abbrev main_v740 : Ref sig .tc := ⟨.hbm, 905, rfl⟩
abbrev main_v741 : Ref sig .tc := ⟨.hbm, 906, rfl⟩
abbrev main_v742 : Ref sig .tc := ⟨.hbm, 907, rfl⟩
abbrev main_v743 : Ref sig .tc := ⟨.hbm, 908, rfl⟩
abbrev main_cst_108 : Ref sig .tc := ⟨.hbm, 909, rfl⟩
abbrev main_v744 : Ref sig .tc := ⟨.hbm, 910, rfl⟩
abbrev main_call1_v0 : Ref sig .tc := ⟨.hbm, 911, rfl⟩
abbrev main_call1_v1 : Ref sig .tc := ⟨.hbm, 912, rfl⟩
abbrev main_v745 : Ref sig .tc := ⟨.hbm, 913, rfl⟩
abbrev main_cst_109 : Ref sig .tc := ⟨.hbm, 914, rfl⟩
abbrev main_v746 : Ref sig .tc := ⟨.hbm, 915, rfl⟩
abbrev main_v747 : Ref sig .tc := ⟨.hbm, 916, rfl⟩
abbrev main_v748 : Ref sig .tc := ⟨.hbm, 917, rfl⟩
abbrev main_cst_110 : Ref sig .tc := ⟨.hbm, 918, rfl⟩
abbrev main_v749 : Ref sig .tc := ⟨.hbm, 919, rfl⟩
abbrev main_v750 : Ref sig .tc := ⟨.hbm, 920, rfl⟩
abbrev main_cst_111 : Ref sig .tc := ⟨.hbm, 921, rfl⟩
abbrev main_v751 : Ref sig .tc := ⟨.hbm, 922, rfl⟩
abbrev main_v752 : Ref sig .tc := ⟨.hbm, 923, rfl⟩
abbrev main_v753 : Ref sig .tc := ⟨.hbm, 924, rfl⟩
abbrev main_v754 : Ref sig .tc := ⟨.hbm, 925, rfl⟩
abbrev main_v755 : Ref sig .tc := ⟨.hbm, 926, rfl⟩
abbrev main_v756 : Ref sig .tc := ⟨.hbm, 927, rfl⟩
abbrev main_v757 : Ref sig .tc := ⟨.hbm, 928, rfl⟩
abbrev main_v758 : Ref sig .tc := ⟨.hbm, 929, rfl⟩
abbrev main_v759 : Ref sig .tc := ⟨.hbm, 930, rfl⟩
abbrev main_v760 : Ref sig .tc := ⟨.hbm, 931, rfl⟩
abbrev main_cst_112 : Ref sig .tc := ⟨.hbm, 932, rfl⟩
abbrev main_v761 : Ref sig .tc := ⟨.hbm, 933, rfl⟩
abbrev main_v762 : Ref sig .tc := ⟨.hbm, 934, rfl⟩
abbrev main_cst_113 : Ref sig .tc := ⟨.hbm, 935, rfl⟩
abbrev main_v763 : Ref sig .tc := ⟨.hbm, 936, rfl⟩
abbrev main_v764 : Ref sig .tc := ⟨.hbm, 937, rfl⟩
abbrev main_v765 : Ref sig .tc := ⟨.hbm, 938, rfl⟩
abbrev main_v766 : Ref sig .tc := ⟨.hbm, 939, rfl⟩
abbrev main_v767 : Ref sig .tc := ⟨.hbm, 940, rfl⟩
abbrev main_v768 : Ref sig .tc := ⟨.hbm, 941, rfl⟩
abbrev main_v769 : Ref sig .tc := ⟨.hbm, 942, rfl⟩
abbrev main_v770 : Ref sig .tc := ⟨.hbm, 943, rfl⟩
abbrev main_v771 : Ref sig .tc := ⟨.hbm, 944, rfl⟩
abbrev main_cst_114 : Ref sig .tc := ⟨.hbm, 945, rfl⟩
abbrev main_v772 : Ref sig .tc := ⟨.hbm, 946, rfl⟩
abbrev main_v773 : Ref sig .tc := ⟨.hbm, 947, rfl⟩
abbrev main_cst_115 : Ref sig .tc := ⟨.hbm, 948, rfl⟩
abbrev main_v774 : Ref sig .tc := ⟨.hbm, 949, rfl⟩
abbrev main_v775 : Ref sig .tc := ⟨.hbm, 950, rfl⟩
abbrev main_v776 : Ref sig .tc := ⟨.hbm, 951, rfl⟩
abbrev main_v777 : Ref sig .tc := ⟨.hbm, 952, rfl⟩
abbrev main_cst_116 : Ref sig .tc := ⟨.hbm, 953, rfl⟩
abbrev main_v778 : Ref sig .tc := ⟨.hbm, 954, rfl⟩
abbrev main_v779 : Ref sig .tc := ⟨.hbm, 955, rfl⟩
abbrev main_cst_117 : Ref sig .tc := ⟨.hbm, 956, rfl⟩
abbrev main_v780 : Ref sig .tc := ⟨.hbm, 957, rfl⟩
abbrev main_cst_118 : Ref sig .tc := ⟨.hbm, 958, rfl⟩
abbrev main_v781 : Ref sig .tc := ⟨.hbm, 959, rfl⟩
abbrev main_v782 : Ref sig .tc := ⟨.hbm, 960, rfl⟩
abbrev main_cst_119 : Ref sig .tc := ⟨.hbm, 961, rfl⟩
abbrev main_v783 : Ref sig .tc := ⟨.hbm, 962, rfl⟩
abbrev main_v784 : Ref sig .tc := ⟨.hbm, 963, rfl⟩
abbrev main_v785 : Ref sig .tc := ⟨.hbm, 964, rfl⟩
abbrev main_v786 : Ref sig .tc := ⟨.hbm, 965, rfl⟩
abbrev main_cst_120 : Ref sig .tc := ⟨.hbm, 966, rfl⟩
abbrev main_v787 : Ref sig .tc := ⟨.hbm, 967, rfl⟩
abbrev main_v788 : Ref sig .tc := ⟨.hbm, 968, rfl⟩
abbrev main_cst_121 : Ref sig .tc := ⟨.hbm, 969, rfl⟩
abbrev main_v789 : Ref sig .tc := ⟨.hbm, 970, rfl⟩
abbrev main_cst_122 : Ref sig .tc := ⟨.hbm, 971, rfl⟩
abbrev main_v790 : Ref sig .tc := ⟨.hbm, 972, rfl⟩
abbrev main_v791 : Ref sig .tc := ⟨.hbm, 973, rfl⟩
abbrev main_v792 : Ref sig .tc := ⟨.hbm, 974, rfl⟩
abbrev main_cst_123 : Ref sig .tc := ⟨.hbm, 975, rfl⟩
abbrev main_v793 : Ref sig .tc := ⟨.hbm, 976, rfl⟩
abbrev main_v794 : Ref sig .tc := ⟨.hbm, 977, rfl⟩
abbrev main_v795 : Ref sig .tc := ⟨.hbm, 978, rfl⟩
abbrev main_v796 : Ref sig .tc := ⟨.hbm, 979, rfl⟩
abbrev main_v797 : Ref sig .tc := ⟨.hbm, 980, rfl⟩
abbrev main_cst_124 : Ref sig .tc := ⟨.hbm, 981, rfl⟩
abbrev main_v798 : Ref sig .tc := ⟨.hbm, 982, rfl⟩
abbrev main_v799 : Ref sig .tc := ⟨.hbm, 983, rfl⟩
abbrev main_cst_125 : Ref sig .tc := ⟨.hbm, 984, rfl⟩
abbrev main_v800 : Ref sig .tc := ⟨.hbm, 985, rfl⟩
abbrev main_cst_126 : Ref sig .tc := ⟨.hbm, 986, rfl⟩
abbrev main_v801 : Ref sig .tc := ⟨.hbm, 987, rfl⟩
abbrev main_v802 : Ref sig .tc := ⟨.hbm, 988, rfl⟩
abbrev main_v803 : Ref sig .tc := ⟨.hbm, 989, rfl⟩
abbrev main_cst_127 : Ref sig .tc := ⟨.hbm, 990, rfl⟩
abbrev main_v804 : Ref sig .tc := ⟨.hbm, 991, rfl⟩
abbrev main_v805 : Ref sig .tc := ⟨.hbm, 992, rfl⟩
abbrev main_v806 : Ref sig .tc := ⟨.hbm, 993, rfl⟩
abbrev main_v807 : Ref sig .tc := ⟨.hbm, 994, rfl⟩
abbrev main_v808 : Ref sig .tc := ⟨.hbm, 995, rfl⟩
abbrev main_cst_128 : Ref sig .tc := ⟨.hbm, 996, rfl⟩
abbrev main_v809 : Ref sig .tc := ⟨.hbm, 997, rfl⟩
abbrev main_v810 : Ref sig .tc := ⟨.hbm, 998, rfl⟩
abbrev main_cst_129 : Ref sig .tc := ⟨.hbm, 999, rfl⟩
abbrev main_v811 : Ref sig .tc := ⟨.hbm, 1000, rfl⟩
abbrev main_cst_130 : Ref sig .tc := ⟨.hbm, 1001, rfl⟩
abbrev main_v812 : Ref sig .tc := ⟨.hbm, 1002, rfl⟩
abbrev main_v813 : Ref sig .tc := ⟨.hbm, 1003, rfl⟩
abbrev main_v814 : Ref sig .tc := ⟨.hbm, 1004, rfl⟩
abbrev main_cst_131 : Ref sig .tc := ⟨.hbm, 1005, rfl⟩
abbrev main_v815 : Ref sig .tc := ⟨.hbm, 1006, rfl⟩
abbrev main_v816 : Ref sig .tc := ⟨.hbm, 1007, rfl⟩
abbrev main_v817 : Ref sig .tc := ⟨.hbm, 1008, rfl⟩
abbrev main_v818 : Ref sig .tc := ⟨.hbm, 1009, rfl⟩
abbrev main_v819 : Ref sig .tc := ⟨.hbm, 1010, rfl⟩
abbrev main_v820 : Ref sig .tc := ⟨.hbm, 1011, rfl⟩
abbrev main_v821 : Ref sig .tc := ⟨.hbm, 1012, rfl⟩
abbrev main_v822 : Ref sig .tc := ⟨.hbm, 1013, rfl⟩
abbrev main_v823 : Ref sig .tc := ⟨.hbm, 1014, rfl⟩
abbrev main_v824 : Ref sig .tc := ⟨.hbm, 1015, rfl⟩
abbrev main_v825 : Ref sig .tc := ⟨.hbm, 1016, rfl⟩

abbrev nD : Nat := 1
abbrev τ : Topo := Topo.v7x

variable {F : FTy → Type} [FloatOps F]
-- ==== KernelModUpdate.lean ====
abbrev S8x1024 : Shape := ⟨2, ![8, 1024]⟩
abbrev S8x1152 : Shape := ⟨2, ![8, 1152]⟩
abbrev S1024x1152 : Shape := ⟨2, ![1024, 1152]⟩
abbrev S_ : Shape := ⟨0, ![]⟩
abbrev S8x256 : Shape := ⟨2, ![8, 256]⟩
abbrev S256x1152 : Shape := ⟨2, ![256, 1152]⟩

abbrev nBuf : Space → Nat
  | .hbm => 18
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x1152, .f32⟩
  | .hbm, ⟨15, _⟩ => ⟨S1024x1152, .f32⟩
  | .hbm, ⟨16, _⟩ => ⟨S1024x1152, .f32⟩
  | .hbm, ⟨17, _⟩ => ⟨S1024x1152, .f32⟩
  | .local _ .vmem, ⟨0, _⟩ => ⟨S8x256, .f32⟩
  | .local _ .vmem, ⟨1, _⟩ => ⟨S8x256, .f32⟩
  | .local _ .vmem, ⟨2, _⟩ => ⟨S8x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceModUpdateIdeal.lean ====
abbrev S8x1024 : Shape := ⟨2, ![8, 1024]⟩
abbrev S8x1152 : Shape := ⟨2, ![8, 1152]⟩
abbrev S1024x1152 : Shape := ⟨2, ![1024, 1152]⟩
abbrev S_ : Shape := ⟨0, ![]⟩
abbrev S1152x1024 : Shape := ⟨2, ![1152, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1152, .f32⟩
  | .hbm, ⟨15, _⟩ => ⟨S1152x1024, .f32⟩
  | .hbm, ⟨16, _⟩ => ⟨S1024x1152, .f32⟩
  | .hbm, ⟨17, _⟩ => ⟨S_, .f32⟩
  | .hbm, ⟨18, _⟩ => ⟨S1024x1152, .f32⟩
  | .hbm, ⟨19, _⟩ => ⟨S1024x1152, .f32⟩
  | .hbm, ⟨20, _⟩ => ⟨S_, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S_, .f32⟩
  | .hbm, ⟨36, _⟩ => ⟨S1024x1152, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | .hbm, ⟨42, _⟩ => ⟨S1024x1152, .f32⟩
  | .hbm, ⟨43, _⟩ => ⟨S_, .f32⟩
  | .hbm, ⟨44, _⟩ => ⟨S1024x1152, .f32⟩
  | .hbm, ⟨45, _⟩ => ⟨S1024x1152, .f32⟩
  | .hbm, ⟨46, _⟩ => ⟨S1024x1152, .f32⟩
  | .hbm, ⟨47, _⟩ => ⟨S_, .f32⟩
  | .hbm, ⟨48, _⟩ => ⟨S1024x1152, .f32⟩
  | .hbm, ⟨49, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== KernelTableSum.lean ====
abbrev S8x144x1024 : Shape := ⟨3, ![8, 144, 1024]⟩
abbrev S8x8x1024 : Shape := ⟨3, ![8, 8, 1024]⟩
abbrev S144x1024 : Shape := ⟨2, ![144, 1024]⟩
abbrev S8x1024 : Shape := ⟨2, ![8, 1024]⟩
abbrev S1x144x1024 : Shape := ⟨3, ![1, 144, 1024]⟩
abbrev S1x8x1024 : Shape := ⟨3, ![1, 8, 1024]⟩

abbrev nBuf : Space → Nat
  | .hbm => 4
  | .vmem => 4
  | .smem => 0
  | _ => 0

abbrev bufTy : (tb : Table) → Fin (tcTables nBuf tb) → BufTy
  | .hbm, ⟨0, _⟩ => ⟨S8x144x1024, .f32⟩
  | .hbm, ⟨1, _⟩ => ⟨S8x8x1024, .f32⟩
  | .hbm, ⟨2, _⟩ => ⟨S144x1024, .f32⟩
  | .hbm, ⟨3, _⟩ => ⟨S8x1024, .f32⟩
  | .local _ .vmem, ⟨0, _⟩ => ⟨S8x144x1024, .f32⟩
  | .local _ .vmem, ⟨1, _⟩ => ⟨S8x8x1024, .f32⟩
  | .local _ .vmem, ⟨2, _⟩ => ⟨S144x1024, .f32⟩
  | .local _ .vmem, ⟨3, _⟩ => ⟨S8x1024, .f32⟩
  | _, _ => ⟨S8x144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceTableSumIdeal.lean ====
abbrev S8x144x1024 : Shape := ⟨3, ![8, 144, 1024]⟩
abbrev S8x8x1024 : Shape := ⟨3, ![8, 8, 1024]⟩
abbrev S_ : Shape := ⟨0, ![]⟩
abbrev S144x1024 : Shape := ⟨2, ![144, 1024]⟩
abbrev S8x1024 : Shape := ⟨2, ![8, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S8x8x1024, .f32⟩
  | .hbm, ⟨2, _⟩ => ⟨S_, .f32⟩
  | .hbm, ⟨3, _⟩ => ⟨S144x1024, .f32⟩
  | .hbm, ⟨4, _⟩ => ⟨S_, .f32⟩
  | .hbm, ⟨5, _⟩ => ⟨S8x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Proof.Lift.lean ====
module

public import Idealize.ShloMosaic.Lib.Pipeline.ValueKit
public import Idealize.ShloMosaic.Lib.Pointwise
public import Idealize.ShloMosaic.Lib.Claim
public import Idealize.ShloMosaic.Lib.WritesUnit

@[expose] public section

noncomputable section

/-! Ideal floats that are real numbers: the constants the programs use, and how the ideal operations act on
    reals. A finite array is a real one, so the gradients are compared over the reals. -/

namespace Cert.Lift

open Idealize.ShloMosaic

/-- `1024.0`, the length of a row of features. -/
theorem c1024 : Ideal.ofBits .f32 0x44800000#32 = ((1024 : ℝ) : EReal) := by
  simp [Ideal.ofBits, Ideal.ieee, -EReal.coe_mul]; norm_num

/-- The real number the pattern of `1e-6` denotes. -/
def eps : ℝ := 8796093 * 2 ^ (-43 : ℤ)

theorem eps_pos : 0 < eps := by unfold eps; positivity

theorem c_eps : Ideal.ofBits .f32 0x358637BD#32 = ((eps : ℝ) : EReal) := by
  simp [Ideal.ofBits, Ideal.ieee, -EReal.coe_mul, eps]

theorem c_neg_half : Ideal.ofBits .f32 0xBF000000#32 = ((-(1 / 2) : ℝ) : EReal) := by
  simp [Ideal.ofBits, Ideal.ieee, -EReal.coe_mul]; norm_num

theorem c_inf : Ideal.ofBits .f32 0x7F800000#32 = ⊤ := by
  simp [Ideal.ofBits, Ideal.ieee]

theorem sum_coe {n : ℕ} (f : Fin n → ℝ) : (∑ k, ((f k : ℝ) : EReal)) = ((∑ k, f k : ℝ) : EReal) :=
  (map_sum (⟨⟨fun r : ℝ => (r : EReal), EReal.coe_zero⟩, EReal.coe_add⟩ : ℝ →+ EReal) f Finset.univ).symm

/-- A finite ideal value is a real number. -/
theorem exists_real {x : EReal} (h : max x (-x) < ⊤) : ∃ r : ℝ, x = (r : EReal) := by
  induction x using EReal.rec with
  | bot => simp at h
  | coe r => exact ⟨r, rfl⟩
  | top => simp at h

/-- An array a precondition calls finite is an array of real numbers. -/
theorem reals_of {s : Shape} {X : FVec Ideal s .f32} {hb : (⟨0, ![]⟩ : Shape).BroadcastsInDim s (![] : Fin 0 → Fin s.rank)}
    (h : cmpf .olt (Host.absf X) (broadcastInDim s ![] hb (constant ⟨0, ![]⟩ .f32 0x7F800000#32)) = fun _ => 1#1) :
    ∃ x : s.Idx → ℝ, ∀ i, X i = ((x i : ℝ) : EReal) := by
  refine ⟨fun i => (X i).toReal, fun i => ?_⟩
  have hi := congrFun h i
  change BitVec.ofBool (decide (max (X i) (-X i) < Ideal.ofBits .f32 0x7F800000#32)) = 1#1 at hi
  obtain ⟨r, hr⟩ := exists_real (x := X i) (by
    have : max (X i) (-X i) < Ideal.ofBits .f32 0x7F800000#32 := by
      by_contra hn
      simp [hn] at hi
    simpa only [c_inf] using this)
  simp only [hr, EReal.toReal_coe]

theorem div_real {y : ℝ} (h : y ≠ 0) (x : ℝ) : Ideal.div (x : EReal) (y : EReal) = ((x / y : ℝ) : EReal) := by
  rw [Ideal.div_coe h, ← EReal.coe_mul]; congr 1; ring

theorem div_1024 (x : ℝ) : Ideal.div (x : EReal) ((1024 : ℝ) : EReal) = ((x / 1024 : ℝ) : EReal) :=
  div_real (by norm_num) x

theorem rsqrt_real {x : ℝ} (h : 0 < x) : Ideal.rsqrt (x : EReal) = (((√x)⁻¹ : ℝ) : EReal) := by
  rw [Ideal.rsqrt_coe, if_neg (not_lt.2 h.le), if_neg h.ne']

theorem one_coe : (1 : EReal) = ((1 : ℝ) : EReal) := rfl
theorem zero_coe : (0 : EReal) = ((0 : ℝ) : EReal) := rfl

section stores
variable {Val : EltTy → Type} {S : Shape} {e : EltTy} [∀ e, Nonempty (Val e)]

/-- A store's own index reads that store. -/
theorem canon_hit {off size : Fin S.rank → ℕ} (inb : ∀ a, off a + size a ≤ S.size a) (v : (Rect.unit off size inb).shape.Idx → Val e)
    (L : List (View.Piece Val S e)) (y : S.Idx) (j : (Rect.unit off size inb).shape.Idx) (h : ∀ a, (y a).val = off a + (j a).val) :
    View.canon (⟨Rect.unit off size inb, v⟩ :: L) y = v j := by
  have hy : (Rect.unit off size inb).emb j = y := funext fun a => Fin.ext (by
    show off a + 1 * (j a).val = (y a).val
    rw [h a, Nat.one_mul])
  rw [← hy, View.canon_cons_emb]

/-- An index a store leaves alone reads the stores before it. -/
theorem canon_miss {off size : Fin S.rank → ℕ} (inb : ∀ a, off a + size a ≤ S.size a) (v : (Rect.unit off size inb).shape.Idx → Val e)
    (L : List (View.Piece Val S e)) (y : S.Idx) (a : Fin S.rank) (h : (y a).val < off a ∨ off a + size a ≤ (y a).val) :
    View.canon (⟨Rect.unit off size inb, v⟩ :: L) y = View.canon L y := by
  refine View.canon_cons_of_not_mem _ _ fun hm => ?_
  have := Rect.mem_set_unit.mp (show y ∈ (Rect.unit off size inb).set from hm) a
  omega

variable {R n o r : ℕ}

/-- A store of whole rows, read at one of them. -/
theorem row_hit (inb : ∀ a, (![o, 0] : Fin 2 → ℕ) a + (![r, n] : Fin 2 → ℕ) a ≤ (⟨2, ![R, n]⟩ : Shape).size a) (v : (Rect.unit (s := ⟨2, ![R, n]⟩) ![o, 0] ![r, n] inb).shape.Idx → Val e)
    (L : List (View.Piece Val ⟨2, ![R, n]⟩ e)) (i : Fin R) (k : Fin r) (d : Fin n) (h : i.val = o + k.val) :
    View.canon (⟨Rect.unit (s := ⟨2, ![R, n]⟩) ![o, 0] ![r, n] inb, v⟩ :: L) (ix2 i d) = v (ix2 k d) :=
  canon_hit inb v L _ _ (Fin.forall_fin_two.mpr ⟨h, (Nat.zero_add _).symm⟩)

theorem row_miss (inb : ∀ a, (![o, 0] : Fin 2 → ℕ) a + (![r, n] : Fin 2 → ℕ) a ≤ (⟨2, ![R, n]⟩ : Shape).size a) (v : (Rect.unit (s := ⟨2, ![R, n]⟩) ![o, 0] ![r, n] inb).shape.Idx → Val e)
    (L : List (View.Piece Val ⟨2, ![R, n]⟩ e)) (i : Fin R) (d : Fin n) (h : i.val < o ∨ o + r ≤ i.val) :
    View.canon (⟨Rect.unit (s := ⟨2, ![R, n]⟩) ![o, 0] ![r, n] inb, v⟩ :: L) (ix2 i d) = View.canon L (ix2 i d) :=
  canon_miss inb v L _ 0 h

variable {sig : RefSig} {κ : Kind} {sp : Space}

/-- A load of a row of a buffer, after the stores `L` to it. -/
theorem row_cov (b : View sig κ sp ⟨2, ![R, n]⟩ e) (L : List (View.Piece Val ⟨2, ![R, n]⟩ e))
    (inb : ∀ a, (![o, 0] : Fin 2 → ℕ) a + (![r, n] : Fin 2 → ℕ) a ≤ (⟨2, ![R, n]⟩ : Shape).size a) (i : Fin R) (k : Fin r) (d : Fin n) (h : i.val = o + k.val) :
    b.readCov L (Rect.unit (s := ⟨2, ![R, n]⟩) ![o, 0] ![r, n] inb).toLoadRect (ix2 k d) = View.canon L (ix2 i d) := by
  rw [View.readCov_eq_canon']
  refine congrArg (View.canon L) (funext (Fin.forall_fin_two.mpr ⟨Fin.ext ?_, Fin.ext ?_⟩))
  · show o + 1 * k.val = i.val
    omega
  · show 0 + 1 * d.val = d.val
    omega

variable (b : View sig κ sp ⟨2, ![R, n]⟩ e) (f : b.ty.Contents Val)

theorem row_hit' (inb : ∀ a, (![o, 0] : Fin 2 → ℕ) a + (![r, n] : Fin 2 → ℕ) a ≤ (⟨2, ![R, n]⟩ : Shape).size a) (v : (Rect.unit (s := ⟨2, ![R, n]⟩) ![o, 0] ![r, n] inb).shape.Idx → Val e)
    (L : List (View.Piece Val ⟨2, ![R, n]⟩ e)) (i : Fin R) (k : Fin r) (d : Fin n) (h : i.val = o + k.val) :
    b.read Val (b.writes Val f (⟨Rect.unit (s := ⟨2, ![R, n]⟩) ![o, 0] ![r, n] inb, v⟩ :: L)) (ix2 i d) = v (ix2 k d) :=
  View.read_writes_cons_unit_of_mem b f inb v L _ _ rfl (Fin.forall_fin_two.mpr ⟨h, (Nat.zero_add _).symm⟩)

theorem row_miss' (inb : ∀ a, (![o, 0] : Fin 2 → ℕ) a + (![r, n] : Fin 2 → ℕ) a ≤ (⟨2, ![R, n]⟩ : Shape).size a) (v : (Rect.unit (s := ⟨2, ![R, n]⟩) ![o, 0] ![r, n] inb).shape.Idx → Val e)
    (L : List (View.Piece Val ⟨2, ![R, n]⟩ e)) (i : Fin R) (d : Fin n) (h : i.val < o ∨ o + r ≤ i.val) :
    b.read Val (b.writes Val f (⟨Rect.unit (s := ⟨2, ![R, n]⟩) ![o, 0] ![r, n] inb, v⟩ :: L)) (ix2 i d) = b.read Val (b.writes Val f L) (ix2 i d) :=
  View.read_writes_cons_unit_of_not_mem b f inb v L _ rfl 0 h

end stores

/-- Row `i` of tile `p`, of `n` rows each, in an array of `N` rows. -/
def tileRow (N n : ℕ) [NeZero N] (p : ℕ) (i : Fin n) : Fin N := Fin.ofNat N (p * n + i.val)

theorem tileRow_val {N n p : ℕ} [NeZero N] (i : Fin n) (h : p * n + i.val < N) : (tileRow N n p i).val = p * n + i.val :=
  Nat.mod_eq_of_lt h

theorem sum_tiles {N n P : ℕ} [NeZero N] {M : Type*} [AddCommMonoid M] (h : P * n = N) (f : Fin N → M) :
    ∑ p ∈ Finset.range P, ∑ i : Fin n, f (tileRow N n p i) = ∑ r, f r := by
  subst h
  rw [Finset.sum_range, ← Fin.sum_mul_add_fin P (n := n) f]
  refine Finset.sum_congr rfl fun p _ => Finset.sum_congr rfl fun i _ => congrArg f (Fin.ext ?_)
  refine tileRow_val i ?_
  calc p.val * n + i.val < p.val * n + n := by omega
    _ = (p.val + 1) * n := by ring
    _ ≤ P * n := Nat.mul_le_mul_right _ p.isLt

/-- What is carried from tile to tile, each adding its part, is the sum of the parts. -/
theorem carry {N : ℕ} (o : (n : ℕ) → n < N → EReal) (q : ℕ → EReal) (h0 : ∀ h, o 0 h = q 0)
    (hs : ∀ n (h : n + 1 < N), o (n + 1) h = o n (Nat.lt_of_succ_lt h) + q (n + 1)) : ∀ n h, o n h = ∑ p ∈ Finset.range (n + 1), q p
  | 0, h => by rw [Finset.sum_range_one]; exact h0 h
  | n + 1, h => by rw [Finset.sum_range_succ, hs, carry o q h0 hs n]

end Cert.Lift

end
-- ==== Proof.FfnIn.Dx.lean ====
module

public import proofs.«01_k».proof.Proof.Gen.KernelFfnInIdeal.Value
public import proofs.«01_k».proof.Proof.Gen.ReferenceFfnInIdeal.Read
public import proofs.«01_k».proof.Proof.Lift

@[expose] public section

set_option maxRecDepth 16384

noncomputable section

namespace Cert.FfnIn

open Idealize.ShloMosaic Idealize.ShloMosaic.TcCoe Idealize.SL.Sem
open Idealize.ShloMosaic.Pipeline (Dat)
open Cert.KernelFfnInIdeal Cert.KernelFfnInIdeal.Gen
open Cert.ReferenceFfnInIdeal.Read Cert.Lift

variable (m : (ℓ : Loc nD τ sig) → Buf (Elt Ideal) ℓ)

/-- The reciprocal root mean square of a row. -/
def rstd (x : Fin 1024 → ℝ) : ℝ := (√((∑ k, x k * x k) / 1024 + eps))⁻¹

theorem ms_pos (x : Fin 1024 → ℝ) : 0 < (∑ k, x k * x k) / 1024 + eps :=
  add_pos_of_nonneg_of_pos (div_nonneg (Finset.sum_nonneg fun k _ => mul_self_nonneg _) (by norm_num)) eps_pos

/-- The gradient of the normalised row with respect to the row, as the kernel splits it. -/
def back (x dh gs : Fin 1024 → ℝ) (d : Fin 1024) : ℝ :=
  rstd x * (dh d * gs d - x d * rstd x * ((∑ k, dh k * gs k * (x k * rstd x)) / 1024))

theorem rstd_at (x1 : FVec Ideal S512x1024 .f32) (x : Fin 1024 → ℝ) (i : Fin 512) (hx : ∀ k, x1 (ix2 i k) = x k) :
    k0_pay11 (F := Ideal) x1 (ix2 i 0) = ((rstd x : ℝ) : EReal) := by
  pointwise [k0_pay11, hx]
  simp only [← EReal.coe_mul, sum_coe, c1024, c_eps, div_1024, ← EReal.coe_add, rsqrt_real (ms_pos x), rstd]

theorem pay1_at (dh x0 x1 : FVec Ideal S512x1024 .f32) (g s : FVec Ideal S1x1024 .f32) (x xd gr sr : Fin 1024 → ℝ) (i : Fin 512) (d : Fin 1024)
    (hx : ∀ k, x1 (ix2 i k) = x k) (hd : ∀ k, dh (ix2 i k) = xd k) (hg : ∀ k, g (ix2 0 k) = gr k) (hs : ∀ k, s (ix2 0 k) = sr k) :
    k0_pay1 (F := Ideal) dh x0 (k0_pay11 x1) (k0_pay12 x1) (k0_pay15 g) s (ix2 i d)
      = x0 (ix2 i d) + ((back x xd (fun k => gr k * (1 + sr k)) d : ℝ) : EReal) := by
  pointwise [k0_pay1, k0_pay12, k0_pay15, hx, hd, hg, hs, rstd_at x1 x i hx]
  simp only [one_coe, ← EReal.coe_mul, sum_coe, c1024, div_1024, ← EReal.coe_add, ← EReal.coe_sub, back]

theorem ref_rstd (X : FVec Ideal S4096x1024 .f32) (x : Fin 1024 → ℝ) (r : Fin 4096) (hx : ∀ k, X (ix2 r k) = x k) :
    val_main_v7 (F := Ideal) X (ix2 r 0) = ((rstd x : ℝ) : EReal) := by
  pointwise [val_main_v7, val_main_v6, val_main_v5, val_main_cst_1, val_main_v4, val_main_v3, val_main_cst_0, val_main_v2, val_main_v1, val_main_cst, val_main_v0, hx]
  simp only [zero_add, ← EReal.coe_mul, sum_coe, c1024, c_eps, div_1024, ← EReal.coe_add, rsqrt_real (ms_pos x), rstd]

theorem ref_rstd' (X : FVec Ideal S4096x1024 .f32) (x : Fin 1024 → ℝ) (r : Fin 4096) (u : Fin 1) (hx : ∀ k, X (ix2 r k) = x k) :
    val_main_v10 (F := Ideal) X (ix2 r u) = ((-(1 / 2) * (rstd x * (rstd x * rstd x)) : ℝ) : EReal) := by
  obtain rfl : u = 0 := Subsingleton.elim _ _
  pointwise [val_main_v10, val_main_v9, val_main_cst_2, val_main_v8, ref_rstd X x r hx, val_main_v6, val_main_v5, val_main_cst_1, val_main_v4, val_main_v3, val_main_cst_0, val_main_v2, val_main_v1, val_main_cst, val_main_v0, hx]
  simp only [zero_add, ← EReal.coe_mul, sum_coe, c1024, c_eps, div_1024, ← EReal.coe_add, div_real (ms_pos x).ne', c_neg_half]
  have h : rstd x * rstd x = ((∑ k, x k * x k) / 1024 + eps)⁻¹ := by
    rw [rstd, ← mul_inv, Real.mul_self_sqrt (ms_pos x).le]
  rw [h]; congr 1

theorem ref_dxhat (G S : FVec Ideal S1024 .f32) (W : FVec Ideal S1024x5632 .f32) (U : FVec Ideal S4096x5632 .f32) (xd gr sr : Fin 1024 → ℝ) (r : Fin 4096) (d : Fin 1024)
    (hd : ∀ k, val_main_v25 (F := Ideal) W U (ix2 r k) = xd k) (hg : ∀ k, G (ix1 k) = gr k) (hs : ∀ k, S (ix1 k) = sr k) :
    val_main_v39 (F := Ideal) G S W U (ix2 r d) = ((xd d * (gr d * (1 + sr d)) : ℝ) : EReal) := by
  pointwise [val_main_v39, val_main_v38, val_main_v13, val_main_v33, val_main_v32, val_main_v18, val_main_v17, val_main_cst_3, val_main_v16, hd, hg, hs]
  simp only [one_coe, ← EReal.coe_mul, ← EReal.coe_add]
  congr 1; ring

theorem ref_at (X : FVec Ideal S4096x1024 .f32) (G S : FVec Ideal S1024 .f32) (W : FVec Ideal S1024x5632 .f32) (D : FVec Ideal S4096x1024 .f32) (U : FVec Ideal S4096x5632 .f32)
    (x xd gr sr : Fin 1024 → ℝ) (r : Fin 4096) (d : Fin 1024)
    (hx : ∀ k, X (ix2 r k) = x k) (hd : ∀ k, val_main_v25 (F := Ideal) W U (ix2 r k) = xd k) (hg : ∀ k, G (ix1 k) = gr k) (hs : ∀ k, S (ix1 k) = sr k) :
    val_main_v55 (F := Ideal) X G S W D U (ix2 r d)
      = D (ix2 r d) + ((back x xd (fun k => gr k * (1 + sr k)) d : ℝ) : EReal) := by
  have hr (u) := ref_rstd' X x r u hx
  have hv (k) := ref_dxhat G S W U xd gr sr r k hd hg hs
  pointwise [val_main_v55, val_main_v54, val_main_v53, val_main_v52, val_main_v51, val_main_v50, val_main_cst_12, val_main_v49, val_main_v48, val_main_cst_11, val_main_v47, val_main_v46, val_main_v45,
    val_main_v44, val_main_v43, val_main_v42, val_main_cst_10, val_main_v41, ref_rstd X x r hx, hr, hv, hx]
  simp only [zero_add, Finset.univ_unique, Finset.sum_singleton, ← EReal.coe_mul, sum_coe, c1024, div_1024]
  rw [add_assoc, add_assoc, ← EReal.coe_add, ← EReal.coe_add]
  congr 2
  have h : ∑ k, xd k * (gr k * (1 + sr k)) * (x k * rstd x) = rstd x * ∑ k, x k * (xd k * (gr k * (1 + sr k))) := by
    rw [Finset.mul_sum]; exact Finset.sum_congr rfl fun k _ => by ring
  rw [back, h]; ring

/-- The gradient of the normalised row: the gate and up gradients against the weights. -/
def dh (w : Fin 1024 → Fin 5632 → ℝ) (u : Fin 4096 → Fin 5632 → ℝ) (r : Fin 4096) (d : Fin 1024) : ℝ := ∑ l, u r l * w d l

theorem ref_dh (W : FVec Ideal S1024x5632 .f32) (U : FVec Ideal S4096x5632 .f32) (w : Fin 1024 → Fin 5632 → ℝ) (u : Fin 4096 → Fin 5632 → ℝ)
    (hw : ∀ d l, W (ix2 d l) = w d l) (hu : ∀ r l, U (ix2 r l) = u r l) (r : Fin 4096) (d : Fin 1024) :
    val_main_v25 (F := Ideal) W U (ix2 r d) = ((dh w u r d : ℝ) : EReal) := by
  pointwise [val_main_v25, hw, hu]
  simp only [← EReal.coe_mul, sum_coe, dh]

theorem chain_at (u0 u1 u2 u3 u4 u5 u6 u7 : FVec Ideal S1x1x512x704 .bf16) (w0 w1 w2 w3 w4 w5 w6 w7 : FVec Ideal S1x1x704x1024 .bf16) (i : Fin 512) (d : Fin 1024) (a b : Fin 8 → Fin 704 → ℝ)
    (hu0 : ∀ k : Fin 704, u0 (ix4 0 0 i k) = a 0 k) (hu1 : ∀ k : Fin 704, u1 (ix4 0 0 i k) = a 1 k) (hu2 : ∀ k : Fin 704, u2 (ix4 0 0 i k) = a 2 k) (hu3 : ∀ k : Fin 704, u3 (ix4 0 0 i k) = a 3 k) (hu4 : ∀ k : Fin 704, u4 (ix4 0 0 i k) = a 4 k) (hu5 : ∀ k : Fin 704, u5 (ix4 0 0 i k) = a 5 k) (hu6 : ∀ k : Fin 704, u6 (ix4 0 0 i k) = a 6 k) (hu7 : ∀ k : Fin 704, u7 (ix4 0 0 i k) = a 7 k)
    (hw0 : ∀ k : Fin 704, w0 (ix4 0 0 k d) = b 0 k) (hw1 : ∀ k : Fin 704, w1 (ix4 0 0 k d) = b 1 k) (hw2 : ∀ k : Fin 704, w2 (ix4 0 0 k d) = b 2 k) (hw3 : ∀ k : Fin 704, w3 (ix4 0 0 k d) = b 3 k) (hw4 : ∀ k : Fin 704, w4 (ix4 0 0 k d) = b 4 k) (hw5 : ∀ k : Fin 704, w5 (ix4 0 0 k d) = b 5 k) (hw6 : ∀ k : Fin 704, w6 (ix4 0 0 k d) = b 6 k) (hw7 : ∀ k : Fin 704, w7 (ix4 0 0 k d) = b 7 k) :
    k0_pay10 (F := Ideal) (k0_pay8 (k0_pay6 u0 w0 u1 w1 u2 w2) (k0_pay7 u3) w3 u4 w4 u5 w5 u6 w6) (k0_pay9 u7) w7 (ix2 i d)
      = ((∑ s, ∑ k, a s k * b s k : ℝ) : EReal) := by
  pointwise [k0_pay10, k0_pay9, k0_pay8, k0_pay7, k0_pay6, hu0, hw0, hu1, hw1, hu2, hw2, hu3, hw3, hu4, hw4, hu5, hw5, hu6, hw6, hu7, hw7]
  simp only [zero_add, ← EReal.coe_mul, sum_coe, ← EReal.coe_add, Fin.sum_univ_eight]

theorem idx : ∀ t : Fin cfg0.N, win0_0.index t = ![t.val, 0] ∧ win0_1.index t = ![t.val, 0] ∧ win0_2.index t = ![0, 0] ∧ win0_3.index t = ![0, 0, t.val, 0] ∧ win0_4.index t = ![0, 0, 0, 0]
    ∧ win0_5.index t = ![t.val, 0] ∧ win0_6.index t = ![0, 0] := (by decide +kernel : ∀ t : Fin grid0.N, _)

/-- The arguments of the run, by name. -/
def aX (c : Dev nD) : FVec Ideal S4096x1024 .f32 := m ((c : Thread nD τ).loc main_arg0)
def aG (c : Dev nD) : FVec Ideal S1024 .f32 := m ((c : Thread nD τ).loc main_arg1)
def aS (c : Dev nD) : FVec Ideal S1024 .f32 := m ((c : Thread nD τ).loc main_arg3)
def aW (c : Dev nD) : FVec Ideal S1024x5632 .f32 := m ((c : Thread nD τ).loc main_arg4)
def aD (c : Dev nD) : FVec Ideal S4096x1024 .f32 := m ((c : Thread nD τ).loc main_arg5)
def aU (c : Dev nD) : FVec Ideal S4096x5632 .f32 := m ((c : Thread nD τ).loc main_arg6)

/-- The arguments are finite: they are these real numbers. -/
structure Reals (c : Dev nD) (x : Fin 4096 → Fin 1024 → ℝ) (g s : Fin 1024 → ℝ) (w : Fin 1024 → Fin 5632 → ℝ) (u : Fin 4096 → Fin 5632 → ℝ) : Prop where
  hx : ∀ r k, aX m c (ix2 r k) = x r k
  hg : ∀ k, aG m c (ix1 k) = g k
  hs : ∀ k, aS m c (ix1 k) = s k
  hw : ∀ d l, aW m c (ix2 d l) = w d l
  hu : ∀ r l, aU m c (ix2 r l) = u r l

section blocks
variable (c : Dev nD) (t : Fin cfg0.N)

theorem blk_dxo (i : Fin 512) (k : Fin 1024) (r : Fin 4096) (hr : r.val = t.val * 512 + i.val) :
    iblk (F := Ideal) m c 0 t (ix2 i k) = aD m c (ix2 r k) := by unfold aD; blk_point [iblk, V, idx t]
theorem blk_x (i : Fin 512) (k : Fin 1024) (r : Fin 4096) (hr : r.val = t.val * 512 + i.val) :
    iblk (F := Ideal) m c 1 t (ix2 i k) = aX m c (ix2 r k) := by unfold aX; blk_point [iblk, V, idx t]
/-- The packed table of vectors, in terms of the pieces it is packed from. -/
theorem V_vec : V (F := Ideal) m c main_v10 = concatenate S8x1024 0 [⟨S1x1024, V (F := Ideal) m c main_v6⟩, ⟨S1x1024, V (F := Ideal) m c main_v7⟩, ⟨S1x1024, V (F := Ideal) m c main_v8⟩, ⟨S5x1024, V (F := Ideal) m c main_v9⟩] concatenates_S1x1024_S1x1024_S1x1024_S5x1024_S8x1024_d0 := by
  unfold V hostOps0
  simp only [StableHlo.after_cons, StableHlo.after_nil]
  generalize (StableHlo.unary main_cst main_v9 _ _ _).result _ = A
  rw [StableHlo.nary_result]
  repeat rw [StableHlo.nary_result_ne _ _ _ _ _ _ (by decide)]
  rfl
theorem vec_g (k : Fin 1024) : V (F := Ideal) m c main_v10 (ix2 0 k) = aG m c (ix1 k) := by
  rw [V_vec]
  pointwise
  entry_read
  show shapeCast S1x1024 (aG m c) shapeCasts_S1024_S1x1024 (ix2 0 k) = _
  pointwise
theorem vec_s (k : Fin 1024) : V (F := Ideal) m c main_v10 (ix2 2 k) = aS m c (ix1 k) := by
  rw [V_vec]
  pointwise
  entry_read
  show shapeCast S1x1024 (aS m c) shapeCasts_S1024_S1x1024 (ix2 0 k) = _
  pointwise
theorem blk_vec (i : Fin 8) (k : Fin 1024) : iblk (F := Ideal) m c 2 t (ix2 i k) = V (F := Ideal) m c main_v10 (ix2 i k) := by
  blk_simp [iblk]
  exact congrArg _ (by blk_ext [idx t])
theorem blk_u (a : Fin 2) (b : Fin 4) (i : Fin 512) (k : Fin 704) (r : Fin 4096) (l : Fin 5632) (hr : r.val = t.val * 512 + i.val) (hl : l.val = (a.val * 4 + b.val) * 704 + k.val) :
    iblk (F := Ideal) m c 3 t (ix4 a b i k) = aU m c (ix2 r l) := by unfold aU; blk_point [iblk, V, idx t]
theorem blk_w (a : Fin 2) (b : Fin 4) (k : Fin 704) (d : Fin 1024) (l : Fin 5632) (hl : l.val = (a.val * 4 + b.val) * 704 + k.val) :
    iblk (F := Ideal) m c 4 t (ix4 a b k d) = aW m c (ix2 d l) := by unfold aW; blk_point [iblk, V, idx t]

end blocks

section dx
variable (c : Dev nD) (x : Fin 4096 → Fin 1024 → ℝ) (g s : Fin 1024 → ℝ) (w : Fin 1024 → Fin 5632 → ℝ) (u : Fin 4096 → Fin 5632 → ℝ) (H : Reals m c x g s w u) (t : Fin cfg0.N)
include H

theorem chain_dh (u0 u1 u2 u3 u4 u5 u6 u7 : FVec Ideal S1x1x512x704 .bf16) (w0 w1 w2 w3 w4 w5 w6 w7 : FVec Ideal S1x1x704x1024 .bf16) (i : Fin 512) (d : Fin 1024) (r : Fin 4096) (hr : r.val = t.val * 512 + i.val)
    (hu0 : ∀ k : Fin 704, u0 (ix4 0 0 i k) = iblk (F := Ideal) m c 3 t (ix4 0 0 i k))
    (hu1 : ∀ k : Fin 704, u1 (ix4 0 0 i k) = iblk (F := Ideal) m c 3 t (ix4 0 1 i k))
    (hu2 : ∀ k : Fin 704, u2 (ix4 0 0 i k) = iblk (F := Ideal) m c 3 t (ix4 0 2 i k))
    (hu3 : ∀ k : Fin 704, u3 (ix4 0 0 i k) = iblk (F := Ideal) m c 3 t (ix4 0 3 i k))
    (hu4 : ∀ k : Fin 704, u4 (ix4 0 0 i k) = iblk (F := Ideal) m c 3 t (ix4 1 0 i k))
    (hu5 : ∀ k : Fin 704, u5 (ix4 0 0 i k) = iblk (F := Ideal) m c 3 t (ix4 1 1 i k))
    (hu6 : ∀ k : Fin 704, u6 (ix4 0 0 i k) = iblk (F := Ideal) m c 3 t (ix4 1 2 i k))
    (hu7 : ∀ k : Fin 704, u7 (ix4 0 0 i k) = iblk (F := Ideal) m c 3 t (ix4 1 3 i k))
    (hw0 : ∀ k : Fin 704, w0 (ix4 0 0 k d) = iblk (F := Ideal) m c 4 t (ix4 0 0 k d))
    (hw1 : ∀ k : Fin 704, w1 (ix4 0 0 k d) = iblk (F := Ideal) m c 4 t (ix4 0 1 k d))
    (hw2 : ∀ k : Fin 704, w2 (ix4 0 0 k d) = iblk (F := Ideal) m c 4 t (ix4 0 2 k d))
    (hw3 : ∀ k : Fin 704, w3 (ix4 0 0 k d) = iblk (F := Ideal) m c 4 t (ix4 0 3 k d))
    (hw4 : ∀ k : Fin 704, w4 (ix4 0 0 k d) = iblk (F := Ideal) m c 4 t (ix4 1 0 k d))
    (hw5 : ∀ k : Fin 704, w5 (ix4 0 0 k d) = iblk (F := Ideal) m c 4 t (ix4 1 1 k d))
    (hw6 : ∀ k : Fin 704, w6 (ix4 0 0 k d) = iblk (F := Ideal) m c 4 t (ix4 1 2 k d))
    (hw7 : ∀ k : Fin 704, w7 (ix4 0 0 k d) = iblk (F := Ideal) m c 4 t (ix4 1 3 k d)) :
    k0_pay10 (F := Ideal) (k0_pay8 (k0_pay6 u0 w0 u1 w1 u2 w2) (k0_pay7 u3) w3 u4 w4 u5 w5 u6 w6) (k0_pay9 u7) w7 (ix2 i d)
      = ((dh w u r d : ℝ) : EReal) := by
  have eu (a : Fin 2) (b : Fin 4) (j : Fin 8) (k : Fin 704) (hj : j.val = a.val * 4 + b.val) :
      iblk (F := Ideal) m c 3 t (ix4 a b i k) = ((u r ⟨j.val * 704 + k.val, by omega⟩ : ℝ) : EReal) :=
    (blk_u m c t a b i k r _ hr (by rw [← hj])).trans (H.hu _ _)
  have ew (a : Fin 2) (b : Fin 4) (j : Fin 8) (k : Fin 704) (hj : j.val = a.val * 4 + b.val) :
      iblk (F := Ideal) m c 4 t (ix4 a b k d) = ((w d ⟨j.val * 704 + k.val, by omega⟩ : ℝ) : EReal) :=
    (blk_w m c t a b k d _ (by rw [← hj])).trans (H.hw _ _)
  refine (chain_at u0 u1 u2 u3 u4 u5 u6 u7 w0 w1 w2 w3 w4 w5 w6 w7 i d (fun j k => u r ⟨j.val * 704 + k.val, by omega⟩) (fun j k => w d ⟨j.val * 704 + k.val, by omega⟩)
    (fun k => (hu0 k).trans (eu 0 0 0 k rfl)) (fun k => (hu1 k).trans (eu 0 1 1 k rfl)) (fun k => (hu2 k).trans (eu 0 2 2 k rfl)) (fun k => (hu3 k).trans (eu 0 3 3 k rfl)) (fun k => (hu4 k).trans (eu 1 0 4 k rfl)) (fun k => (hu5 k).trans (eu 1 1 5 k rfl)) (fun k => (hu6 k).trans (eu 1 2 6 k rfl)) (fun k => (hu7 k).trans (eu 1 3 7 k rfl))
    (fun k => (hw0 k).trans (ew 0 0 0 k rfl)) (fun k => (hw1 k).trans (ew 0 1 1 k rfl)) (fun k => (hw2 k).trans (ew 0 2 2 k rfl)) (fun k => (hw3 k).trans (ew 0 3 3 k rfl)) (fun k => (hw4 k).trans (ew 1 0 4 k rfl)) (fun k => (hw5 k).trans (ew 1 1 5 k rfl)) (fun k => (hw6 k).trans (ew 1 2 6 k rfl)) (fun k => (hw7 k).trans (ew 1 3 7 k rfl))).trans ?_
  rw [dh, ← Fin.sum_mul_add_fin 8 (n := 704) (fun l => u r l * w d l)]

set_option maxHeartbeats 2000000 in
theorem dx_final : (dats (F := Ideal) m 0 c).arrAt 5 cfg0.N = val_main_v55 (F := Ideal) (aX m c) (aG m c) (aS m c) (aW m c) (aD m c) (aU m c) := by
  refine (dats (F := Ideal) m 0 c).arrAt_eq_of_covers 5 _ (by decide +kernel) fun t _ y => ?_
  blk_simp
  rw [after0_5]
  have hN := N_0
  have ht : t.val < 8 := lt_of_lt_of_eq t.isLt N_0
  idx_vars y
  have hr : (⟨t.val * 512 + y0.val, by omega⟩ : Fin 4096).val = t.val * 512 + y0.val := rfl
  generalize (⟨t.val * 512 + y0.val, by omega⟩ : Fin 4096) = r at hr
  have he : ((View.whole main_v11_0).slice (win0_5.rect t)).emb (ix2 y0 y1) = ix2 r y1 := by blk_ext [idx t]
  rw [he, ref_at (aX m c) (aG m c) (aS m c) (aW m c) (aD m c) (aU m c) (x r) (dh w u r) g s r y1 (H.hx r) (ref_dh _ _ w u H.hw H.hu r) H.hg H.hs]
  have h : t.val % 8 = 0 ∧ ¬t.val % 8 = 7 ∨ ¬t.val % 8 = 0 ∧ ¬t.val % 8 = 7 ∨ ¬t.val % 8 = 0 ∧ t.val % 8 = 7 := by omega
  rcases h with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals frame_out
  all_goals refine (pay1_at _ _ _ _ _ (x r) (dh w u r) g s y0 y1 (fun k => (blk_x m c t _ _ r hr).trans (H.hx _ _)) (fun k => ?_) (fun k => ?_) (fun k => ?_)).trans (by rw [blk_dxo m c t _ _ r hr])
  any_goals first
    | refine chain_dh m c x g s w u H t _ _ _ _ _ _ _ _ _ _ _ _ _ _ _ _ y0 k r hr ?_ ?_ ?_ ?_ ?_ ?_ ?_ ?_ ?_ ?_ ?_ ?_ ?_ ?_ ?_ ?_ <;> (intro k; pointwise)
    | (refine Eq.trans ?_ ((blk_vec m c t 0 k).trans ((vec_g m c k).trans (H.hg k))); pointwise; done)
    | (refine Eq.trans ?_ ((blk_vec m c t 2 k).trans ((vec_s m c k).trans (H.hs k))); pointwise)
end dx

end Cert.FfnIn

end
-- ==== Proof.FfnIn.Dvec.lean ====
module

public import proofs.«01_k».proof.Proof.FfnIn.Dx

@[expose] public section

set_option maxRecDepth 16384

noncomputable section

namespace Cert.FfnIn

open Idealize.ShloMosaic Idealize.ShloMosaic.TcCoe Idealize.SL.Sem
open Idealize.ShloMosaic.Pipeline (Dat)
open Cert.KernelFfnInIdeal Cert.KernelFfnInIdeal.Gen
open Cert.ReferenceFfnInIdeal.Read Cert.Lift

variable (m : (ℓ : Loc nD τ sig) → Buf (Elt Ideal) ℓ)

theorem pay13_at (P8 : FVec Ideal S512x1024 .f32) (P9 : FVec Ideal S512x704 .bf16) (B : FVec Ideal S1x1x704x1024 .bf16) (x1 : FVec Ideal S512x1024 .f32) (acc : FVec Ideal S1x1024 .f32)
    (D X : Fin 512 → Fin 1024 → ℝ) (a : ℝ) (d : Fin 1024) (hD : ∀ i k, k0_pay10 (F := Ideal) P8 P9 B (ix2 i k) = ((D i k : ℝ) : EReal)) (hX : ∀ i k, x1 (ix2 i k) = ((X i k : ℝ) : EReal)) (ha : acc (ix2 0 d) = (a : EReal)) :
    k0_pay13 (F := Ideal) P8 P9 B x1 acc (ix2 0 d) = ((a + ∑ i, D i d * (X i d * rstd (X i)) : ℝ) : EReal) := by
  have hr (i) := rstd_at x1 (X i) i (hX i)
  pointwise [k0_pay13, hD, k0_pay12, hr, hX, ha]
  simp only [← EReal.coe_mul, sum_coe, ← EReal.coe_add]

theorem pay14_at (P8 : FVec Ideal S512x1024 .f32) (P9 : FVec Ideal S512x704 .bf16) (B : FVec Ideal S1x1x704x1024 .bf16) (acc : FVec Ideal S1x1024 .f32)
    (D : Fin 512 → Fin 1024 → ℝ) (a : ℝ) (d : Fin 1024) (hD : ∀ i k, k0_pay10 (F := Ideal) P8 P9 B (ix2 i k) = ((D i k : ℝ) : EReal)) (ha : acc (ix2 0 d) = (a : EReal)) :
    k0_pay14 (F := Ideal) P8 P9 B acc (ix2 0 d) = ((a + ∑ i, D i d : ℝ) : EReal) := by
  pointwise [k0_pay14, hD, ha]
  simp only [sum_coe, ← EReal.coe_add]

/-- The table of vector gradients: the gain, the shift, and the scale, at their rows. -/
def table (x : Fin 4096 → Fin 1024 → ℝ) (g s : Fin 1024 → ℝ) (D : Fin 4096 → Fin 1024 → ℝ) (i : Fin 8) (d : Fin 1024) : ℝ :=
  if i = 0 then (1 + s d) * ∑ r, D r d * (x r d * rstd (x r))
  else if i = 1 then ∑ r, D r d
  else if i = 3 then g d * ∑ r, D r d * (x r d * rstd (x r))
  else 0

theorem ref_table (X : FVec Ideal S4096x1024 .f32) (G S : FVec Ideal S1024 .f32) (W : FVec Ideal S1024x5632 .f32) (U : FVec Ideal S4096x5632 .f32)
    (x : Fin 4096 → Fin 1024 → ℝ) (g s : Fin 1024 → ℝ) (D : Fin 4096 → Fin 1024 → ℝ)
    (hx : ∀ r k, X (ix2 r k) = x r k) (hd : ∀ r k, val_main_v25 (F := Ideal) W U (ix2 r k) = D r k) (hg : ∀ k, G (ix1 k) = g k) (hs : ∀ k, S (ix1 k) = s k)
    (i : Fin 8) (d : Fin 1024) :
    val_main_v65 (F := Ideal) X G S W U (ix2 i d) = ((table x g s D i d : ℝ) : EReal) := by
  have hr (r) := ref_rstd X (x r) r (hx r)
  obtain rfl | rfl | rfl | rfl | rfl | rfl | rfl | rfl : i = 0 ∨ i = 1 ∨ i = 2 ∨ i = 3 ∨ i = 4 ∨ i = 5 ∨ i = 6 ∨ i = 7 := by omega
  all_goals pointwise [val_main_v65, val_main_v57, val_main_v58, val_main_v59, val_main_v60, val_main_v61, val_main_v62, val_main_v63, val_main_v64, val_main_v56, val_main_cst_13,
    val_main_v40, val_main_cst_9, val_main_v37, val_main_v36, val_main_cst_8, val_main_v35, val_main_v12, val_main_v11, val_main_v33, val_main_v32, val_main_v18, val_main_v17, val_main_cst_3, val_main_v16,
    val_main_v34, val_main_cst_7, val_main_v31, val_main_v30, val_main_cst_6, val_main_v29, val_main_v15, val_main_v14, val_main_v13,
    val_main_v28, val_main_cst_5, val_main_v27, val_main_v26, val_main_cst_4, hd, hx, hr, hg, hs]
  all_goals try simp only [zero_add, Finset.univ_unique, Finset.sum_singleton, one_coe, ← EReal.coe_mul, sum_coe, ← EReal.coe_add]
  · rw [table, if_pos rfl, Finset.mul_sum]
    congr 1; exact Finset.sum_congr rfl fun r _ => by ring
  · rfl
  · rfl
  · rw [table, if_neg (by decide), if_neg (by decide), if_pos rfl, Finset.mul_sum]
    congr 1; exact Finset.sum_congr rfl fun r _ => by ring
  all_goals rfl

variable (c : Dev nD) (x : Fin 4096 → Fin 1024 → ℝ) (g s : Fin 1024 → ℝ) (w : Fin 1024 → Fin 5632 → ℝ) (u : Fin 4096 → Fin 5632 → ℝ) (H : Reals m c x g s w u) (t : Fin cfg0.N)

/-- What one tile of rows adds to the two sums the kernel carries. -/
def part0 (p : ℕ) (d : Fin 1024) : ℝ := ∑ i : Fin 512, dh w u (tileRow 4096 512 p i) d * (x (tileRow 4096 512 p i) d * rstd (x (tileRow 4096 512 p i)))
def part1 (p : ℕ) (d : Fin 1024) : ℝ := ∑ i : Fin 512, dh w u (tileRow 4096 512 p i) d

include H in
/-- The first tile: both sums start from zero, the other rows are zero. -/
theorem first (h : t.val = 0) (d : Fin 1024) :
    (outsAt0 (F := Ideal) m c t.val t.isLt).2 (ix2 0 d) = ((part0 x w u t.val d : ℝ) : EReal) ∧ (outsAt0 (F := Ideal) m c t.val t.isLt).2 (ix2 1 d) = ((part1 w u t.val d : ℝ) : EReal)
    ∧ ∀ i : Fin 8, 2 ≤ i.val → (outsAt0 (F := Ideal) m c t.val t.isLt).2 (ix2 i d) = 0 := by
  have ht : t.val < 8 := lt_of_lt_of_eq t.isLt N_0
  rw [outsAt0_A m c t (by omega) (by omega)]
  frame_out
  have z (i : Fin 8) : k0_pay5 (F := Ideal) (ix2 i d) = ((0 : ℝ) : EReal) := by pointwise [k0_pay5]; exact EReal.coe_zero.symm
  have hx (i k) := (blk_x m c t i k _ (tileRow_val (N := 4096) (p := t.val) i (by omega))).trans (H.hx _ _)
  rw [← zero_add (part0 x w u t.val d), ← zero_add (part1 w u t.val d)]
  refine ⟨?_, ?_, ?_⟩
  · refine (row_miss _ _ _ _ _ (.inl Nat.one_pos)).trans ((row_hit _ _ _ _ 0 _ rfl).trans (pay13_at _ _ _ _ _ _ _ 0 d ?_ hx ?_))
    · intro i k
      refine chain_dh m c x g s w u H t _ _ _ _ _ _ _ _ _ _ _ _ _ _ _ _ i k _ (tileRow_val (N := 4096) (p := t.val) i (by omega)) ?_ ?_ ?_ ?_ ?_ ?_ ?_ ?_ ?_ ?_ ?_ ?_ ?_ ?_ ?_ ?_ <;> (intro k; pointwise)
    · exact (row_cov _ _ _ 0 _ _ rfl).trans ((row_hit _ _ _ _ 0 _ rfl).trans (z 0))
  · refine (row_hit _ _ _ _ 0 _ rfl).trans (pay14_at _ _ _ _ _ 0 d ?_ ?_)
    · intro i k
      refine chain_dh m c x g s w u H t _ _ _ _ _ _ _ _ _ _ _ _ _ _ _ _ i k _ (tileRow_val (N := 4096) (p := t.val) i (by omega)) ?_ ?_ ?_ ?_ ?_ ?_ ?_ ?_ ?_ ?_ ?_ ?_ ?_ ?_ ?_ ?_ <;> (intro k; pointwise)
    · exact (row_cov _ _ _ 1 _ _ rfl).trans ((row_miss _ _ _ _ _ (.inr (by decide))).trans ((row_hit _ _ _ _ 1 _ rfl).trans (z 1)))
  · intro i hi
    exact (row_miss _ _ _ _ _ (.inr hi)).trans ((row_miss _ _ _ _ _ (.inr (by omega))).trans ((row_hit _ _ _ _ i _ (Nat.zero_add _).symm).trans (z i)))

include H in
/-- A later tile but the last adds its part to both sums. -/
theorem next (a0 a1 : ℝ) (h0 : ¬t.val % 8 = 0) (h7 : ¬t.val % 8 = 7) (d : Fin 1024) (hp : t.val - 1 < cfg0.N)
    (e0 : (outsAt0 (F := Ideal) m c (t.val - 1) hp).2 (ix2 0 d) = (a0 : EReal)) (e1 : (outsAt0 (F := Ideal) m c (t.val - 1) hp).2 (ix2 1 d) = (a1 : EReal))
    (e2 : ∀ i : Fin 8, 2 ≤ i.val → (outsAt0 (F := Ideal) m c (t.val - 1) hp).2 (ix2 i d) = 0) :
    (outsAt0 (F := Ideal) m c t.val t.isLt).2 (ix2 0 d) = ((a0 + part0 x w u t.val d : ℝ) : EReal) ∧ (outsAt0 (F := Ideal) m c t.val t.isLt).2 (ix2 1 d) = ((a1 + part1 w u t.val d : ℝ) : EReal)
    ∧ ∀ i : Fin 8, 2 ≤ i.val → (outsAt0 (F := Ideal) m c t.val t.isLt).2 (ix2 i d) = 0 := by
  have ht : t.val < 8 := lt_of_lt_of_eq t.isLt N_0
  rw [outsAt0_B m c t h0 h7]
  frame_out
  have hx (i k) := (blk_x m c t i k _ (tileRow_val (N := 4096) (p := t.val) i (by omega))).trans (H.hx _ _)
  refine ⟨?_, ?_, ?_⟩
  · refine (row_miss' _ _ _ _ _ _ _ (.inl Nat.one_pos)).trans ((row_hit' _ _ _ _ _ _ 0 _ rfl).trans (pay13_at _ _ _ _ _ _ _ a0 d ?_ hx ?_))
    · intro i k
      refine chain_dh m c x g s w u H t _ _ _ _ _ _ _ _ _ _ _ _ _ _ _ _ i k _ (tileRow_val (N := 4096) (p := t.val) i (by omega)) ?_ ?_ ?_ ?_ ?_ ?_ ?_ ?_ ?_ ?_ ?_ ?_ ?_ ?_ ?_ ?_ <;> (intro k; pointwise)
    · refine Eq.trans ?_ e0
      pointwise
  · refine (row_hit' _ _ _ _ _ _ 0 _ rfl).trans (pay14_at _ _ _ _ _ a1 d ?_ ?_)
    · intro i k
      refine chain_dh m c x g s w u H t _ _ _ _ _ _ _ _ _ _ _ _ _ _ _ _ i k _ (tileRow_val (N := 4096) (p := t.val) i (by omega)) ?_ ?_ ?_ ?_ ?_ ?_ ?_ ?_ ?_ ?_ ?_ ?_ ?_ ?_ ?_ ?_ <;> (intro k; pointwise)
    · refine Eq.trans ?_ e1
      pointwise
  · intro i hi
    refine (row_miss' _ _ _ _ _ _ _ (.inr hi)).trans ((row_miss' _ _ _ _ _ _ _ (.inr (by omega))).trans ?_)
    refine Eq.trans ?_ (e2 i hi)
    exact congrFun ((hs0_6 t).read_unread _) _

theorem pay3_at (a : ℝ) (v101 v103 : FVec Ideal S1x1024 .f32) (g : ℝ) (d : Fin 1024) (ha : v101 (ix2 0 d) = (a : EReal)) (hg : v103 (ix2 0 d) = (g : EReal)) :
    k0_pay3 (F := Ideal) v101 v103 (ix2 0 d) = ((g * a : ℝ) : EReal) := by
  pointwise [k0_pay3, k0_pay2, ha, hg]
  rw [EReal.coe_mul]
theorem pay4_at (a : ℝ) (v101 v103 : FVec Ideal S1x1024 .f32) (s : ℝ) (d : Fin 1024) (ha : v101 (ix2 0 d) = (a : EReal)) (hs : v103 (ix2 0 d) = (s : EReal)) :
    k0_pay4 (F := Ideal) v101 v103 (ix2 0 d) = (((1 + s) * a : ℝ) : EReal) := by
  pointwise [k0_pay4, k0_pay2, ha, hs]
  rw [EReal.coe_mul, EReal.coe_add, one_coe]

include H in
/-- The last tile adds its part too, and turns the sums into the gradients. -/
theorem last (a0 a1 : ℝ) (h0 : ¬t.val % 8 = 0) (h7 : t.val % 8 = 7) (d : Fin 1024) (hp : t.val - 1 < cfg0.N)
    (e0 : (outsAt0 (F := Ideal) m c (t.val - 1) hp).2 (ix2 0 d) = (a0 : EReal)) (e1 : (outsAt0 (F := Ideal) m c (t.val - 1) hp).2 (ix2 1 d) = (a1 : EReal))
    (e2 : ∀ i : Fin 8, 2 ≤ i.val → (outsAt0 (F := Ideal) m c (t.val - 1) hp).2 (ix2 i d) = 0) (i : Fin 8) :
    (outsAt0 (F := Ideal) m c t.val t.isLt).2 (ix2 i d) = ((if i = 0 then (1 + s d) * (a0 + part0 x w u t.val d) else if i = 1 then a1 + part1 w u t.val d
      else if i = 3 then g d * (a0 + part0 x w u t.val d) else 0 : ℝ) : EReal) := by
  have ht : t.val < 8 := lt_of_lt_of_eq t.isLt N_0
  rw [outsAt0_C m c t h0 h7]
  frame_out
  have hx (i k) := (blk_x m c t i k _ (tileRow_val (N := 4096) (p := t.val) i (by omega))).trans (H.hx _ _)
  by_cases i0 : i = 0
  · subst i0
    rw [if_pos rfl]
    refine (row_hit' _ _ _ _ _ _ 0 _ rfl).trans (pay4_at _ _ _ _ d ((row_cov _ _ _ 0 _ _ rfl).trans ((row_miss _ _ _ _ _ (.inl Nat.one_pos)).trans ((row_hit _ _ _ _ 0 _ rfl).trans (pay13_at _ _ _ _ _ _ _ a0 d ?_ hx ?_)))) ?_)
    · intro i k
      refine chain_dh m c x g s w u H t _ _ _ _ _ _ _ _ _ _ _ _ _ _ _ _ i k _ (tileRow_val (N := 4096) (p := t.val) i (by omega)) ?_ ?_ ?_ ?_ ?_ ?_ ?_ ?_ ?_ ?_ ?_ ?_ ?_ ?_ ?_ ?_ <;> (intro k; pointwise)
    · refine Eq.trans ?_ e0
      pointwise
    · refine Eq.trans ?_ ((blk_vec m c t 2 d).trans ((vec_s m c d).trans (H.hs d)))
      pointwise
  refine (row_miss' _ _ _ _ _ _ _ (.inr (by omega))).trans ?_
  rw [if_neg i0]
  by_cases i3 : i = 3
  · subst i3
    rw [if_neg (by decide), if_pos rfl]
    refine (row_hit' _ _ _ _ _ _ 0 _ rfl).trans (pay3_at _ _ _ _ d ((row_cov _ _ _ 0 _ _ rfl).trans ((row_miss _ _ _ _ _ (.inl Nat.one_pos)).trans ((row_hit _ _ _ _ 0 _ rfl).trans (pay13_at _ _ _ _ _ _ _ a0 d ?_ hx ?_)))) ?_)
    · intro i k
      refine chain_dh m c x g s w u H t _ _ _ _ _ _ _ _ _ _ _ _ _ _ _ _ i k _ (tileRow_val (N := 4096) (p := t.val) i (by omega)) ?_ ?_ ?_ ?_ ?_ ?_ ?_ ?_ ?_ ?_ ?_ ?_ ?_ ?_ ?_ ?_ <;> (intro k; pointwise)
    · refine Eq.trans ?_ e0
      pointwise
    · refine Eq.trans ?_ ((blk_vec m c t 0 d).trans ((vec_g m c d).trans (H.hg d)))
      pointwise
  refine (row_miss' _ _ _ _ _ _ _ (by omega)).trans ?_
  by_cases i1 : i = 1
  · subst i1
    rw [if_pos rfl]
    refine (row_hit' _ _ _ _ _ _ 0 _ rfl).trans (pay14_at _ _ _ _ _ a1 d ?_ ?_)
    · intro i k
      refine chain_dh m c x g s w u H t _ _ _ _ _ _ _ _ _ _ _ _ _ _ _ _ i k _ (tileRow_val (N := 4096) (p := t.val) i (by omega)) ?_ ?_ ?_ ?_ ?_ ?_ ?_ ?_ ?_ ?_ ?_ ?_ ?_ ?_ ?_ ?_ <;> (intro k; pointwise)
    · refine Eq.trans ?_ e1
      pointwise
  rw [if_neg i1, if_neg i3]
  refine (row_miss' _ _ _ _ _ _ _ (.inr (by omega))).trans ((row_miss' _ _ _ _ _ _ _ (.inr (by omega))).trans ?_)
  exact (congrFun ((hs0_6 t).read_unread _) _).trans (e2 i (by omega))

include H in
/-- The sums after every tile but the last. -/
theorem carried (d : Fin 1024) : ∀ (n : ℕ) (hn : n < cfg0.N), n < 7 →
    (outsAt0 (F := Ideal) m c n hn).2 (ix2 0 d) = ((∑ p ∈ Finset.range (n + 1), part0 x w u p d : ℝ) : EReal) ∧ (outsAt0 (F := Ideal) m c n hn).2 (ix2 1 d) = ((∑ p ∈ Finset.range (n + 1), part1 w u p d : ℝ) : EReal)
    ∧ ∀ i : Fin 8, 2 ≤ i.val → (outsAt0 (F := Ideal) m c n hn).2 (ix2 i d) = 0
  | 0, hn, _ => by
    rw [Finset.sum_range_one, Finset.sum_range_one]
    exact first m c x g s w u H ⟨0, hn⟩ rfl d
  | n + 1, hn, h7 => by
    obtain ⟨e0, e1, e2⟩ := carried d n (by omega) (by omega)
    rw [Finset.sum_range_succ, Finset.sum_range_succ _ (n + 1)]
    exact next m c x g s w u H ⟨n + 1, hn⟩ _ _ (by show ¬(n + 1) % 8 = 0; omega) (by show ¬(n + 1) % 8 = 7; omega) d (by show n < _; omega) e0 e1 e2

include H in
theorem dvec_final : (dats (F := Ideal) m 0 c).arrAt 6 cfg0.N = val_main_v65 (F := Ideal) (aX m c) (aG m c) (aS m c) (aW m c) (aU m c) := by
  refine (dats (F := Ideal) m 0 c).arrAt_eq_of_after_last 6 t0_7 (by decide +kernel) _ fun j => ?_
  blk_simp
  rw [after0_6]
  idx_vars j
  rw [ref_table (aX m c) (aG m c) (aS m c) (aW m c) (aU m c) x g s (dh w u) H.hx (ref_dh _ _ w u H.hw H.hu) H.hg H.hs]
  have h7 : (t0_7 : Fin cfg0.N).val = 7 := rfl
  have h6 : (t0_7 : Fin cfg0.N).val - 1 = 6 := by rw [h7]
  obtain ⟨e0, e1, e2⟩ := carried m c x g s w u H j1 (t0_7.val - 1) (by rw [h6]; exact (by decide : 6 < 8).trans_eq N_0.symm) (by rw [h6]; decide)
  refine (last m c x g s w u H t0_7 _ _ (by rw [h7]; decide) (by rw [h7]) j1 _ e0 e1 e2 j0).trans ?_
  have s0 := sum_tiles (N := 4096) (n := 512) (P := 8) rfl fun r => dh w u r j1 * (x r j1 * rstd (x r))
  have s1 := sum_tiles (N := 4096) (n := 512) (P := 8) rfl fun r => dh w u r j1
  rw [Finset.sum_range_succ] at s0 s1
  rw [h6, h7, table, ← s0, ← s1]
  rfl

end Cert.FfnIn

end
-- ==== Proof.FfnIn.Claim.lean ====
/- The backward of the input side of a feed-forward block: the kernel computes the derivative of the adaptive
   norm followed by the product with `w_in`, on finite arguments. -/
module

public import proofs.«01_k».proof.Defs
public import proofs.«01_k».proof.Proof.FfnIn.Dvec
public import proofs.«01_k».proof.Proof.Gen.Pre_ffn_in_finite

@[expose] public section

set_option maxRecDepth 16384

noncomputable section

namespace Cert.FfnIn

open Idealize.ShloMosaic Idealize.ShloMosaic.TcCoe Idealize.SL.Sem Cert.KernelFfnInIdeal Cert.Lift

variable (m : (ℓ : Loc nD τ sig) → Buf (Elt Ideal) ℓ)

theorem reals (h : Cert.Pre_KernelFfnInIdeal_ffn_in_finite m) (c : Dev nD) : ∃ x g s w u, Reals m c x g s w u := by
  obtain ⟨h0, h1, h3, h4, h6⟩ := h c
  obtain ⟨x, hx⟩ := reals_of h0
  obtain ⟨g, hg⟩ := reals_of h1
  obtain ⟨s, hs⟩ := reals_of h3
  obtain ⟨w, hw⟩ := reals_of h4
  obtain ⟨u, hu⟩ := reals_of h6
  exact ⟨fun r k => x (ix2 r k), fun k => g (ix1 k), fun k => s (ix1 k), fun d l => w (ix2 d l), fun r l => u (ix2 r l),
    ⟨fun _ _ => hx _, fun _ => hg _, fun _ => hs _, fun _ _ => hw _, fun _ _ => hu _⟩⟩

theorem ref_frame : Cert.quiescent_ReferenceFfnInIdeal := fun m ρ _ =>
  (θ_run Cert.ReferenceFfnInIdeal.defs _ _).mono (fun r h => ⟨fun c => (h c).2.2, sem_eq_zero_of_no_sems (by decide) r.2⟩)
    (Cert.ReferenceFfnInIdeal.Value.run m ρ)

theorem algebraic : Cert.algebraic_KernelFfnInIdeal_ReferenceFfnInIdeal_pre_ffn_in_finite := by
  pair_intro
  · run_from Cert.KernelFfnInIdeal.Value.run_blocks m g
  · refine (θ_run Cert.ReferenceFfnInIdeal.defs _ _).mono (fun r h c => ?_) (Cert.ReferenceFfnInIdeal.Value.run m' g')
    obtain ⟨x, g, s, w, u, H⟩ := reals m hpre c
    obtain ⟨q0, q1, q2, q3, q4, q5, q6⟩ := hagree c
    obtain ⟨h55, h65, hargs⟩ := h c
    refine ⟨?_, ?_, hargs⟩
    · rw [h55, Cert.ReferenceFfnInIdeal.Read.val_main_v55_eq, q0, q1, q3, q4, q5, q6]
      exact (dx_final m c x g s w u H).symm
    · refine (h65.trans (Cert.ReferenceFfnInIdeal.Read.val_main_v65_eq _ _ _ _ _)).trans ?_
      rw [q0, q1, q3, q4, q6]
      exact (dvec_final m c x g s w u H).symm

end Cert.FfnIn

end
-- ==== Proof.MixOut.Row.lean ====
module

public import proofs.«01_k».proof.Proof.Lift

@[expose] public section

noncomputable section

/-! One row of the mixer's output side over the reals: the layer norm, its sigmoid-weighted unit, the tanh
    approximation of the Gaussian unit, and their gradients. -/

namespace Cert.MixOut

open Idealize.ShloMosaic Cert.Lift

theorem c512 : Ideal.ofBits .f32 0x44000000#32 = ((512 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_44715 : Ideal.ofBits .f32 0x472EAB00#32 = ((44715 : ℝ) : EReal) := by
  simp [Ideal.ofBits, Ideal.ieee, -EReal.coe_mul]; norm_num
theorem c_million : Ideal.ofBits .f32 0x49742400#32 = ((1000000 : ℝ) : EReal) := by
  simp [Ideal.ofBits, Ideal.ieee, -EReal.coe_mul]; norm_num

/-- The units of the convolution come first among the mixed ones, those of the recurrence after them. -/
abbrev lo (d : Fin 512) : Fin 1024 := ⟨d.val, Nat.lt_of_lt_of_le d.isLt (Nat.le_of_ble_eq_true rfl)⟩
abbrev hi (d : Fin 512) : Fin 1024 := ⟨512 + d.val, Nat.add_lt_add_left d.isLt 512⟩
/-- The gate's column in the projections. -/
abbrev uy (d : Fin 512) : Fin 2048 := ⟨1536 + d.val, Nat.add_lt_add_left d.isLt 1536⟩

/-- The float nearest the square root of `2/π`. -/
def kap : ℝ := 13386282 * 2 ^ (-24 : ℤ)
theorem c_kap : Ideal.ofBits .f32 0x3F4C422A#32 = ((kap : ℝ) : EReal) := by
  simp [Ideal.ofBits, Ideal.ieee, -EReal.coe_mul, kap]

theorem div_512 (x : ℝ) : Ideal.div (x : EReal) ((512 : ℝ) : EReal) = ((x / 512 : ℝ) : EReal) := div_real (by norm_num) x

def mean (x : Fin 512 → ℝ) : ℝ := (∑ k, x k) / 512
def ctr (x : Fin 512 → ℝ) (k : Fin 512) : ℝ := x k - mean x
def var (x : Fin 512 → ℝ) : ℝ := (∑ k, ctr x k * ctr x k) / 512 + eps
def rs (x : Fin 512 → ℝ) : ℝ := (√(var x))⁻¹
def hat (x : Fin 512 → ℝ) (k : Fin 512) : ℝ := ctr x k * rs x

theorem var_pos (x : Fin 512 → ℝ) : 0 < var x :=
  add_pos_of_nonneg_of_pos (div_nonneg (Finset.sum_nonneg fun k _ => mul_self_nonneg _) (by norm_num)) eps_pos

theorem rs_rs (x : Fin 512 → ℝ) : rs x * rs x = (var x)⁻¹ := by
  rw [rs, ← mul_inv, Real.mul_self_sqrt (var_pos x).le]

theorem sum_ctr (x : Fin 512 → ℝ) : ∑ k, ctr x k = 0 := by
  simp only [ctr, Finset.sum_sub_distrib, Finset.sum_const, Finset.card_univ, Fintype.card_fin, nsmul_eq_mul, mean]
  push_cast; ring

/-- The logistic function, written as both programs write it. -/
def sg (z : ℝ) : ℝ := 1 / (1 + Real.exp (-z))

theorem one_add_exp (z : ℝ) : 1 + Real.exp z ≠ 0 := (add_pos one_pos (Real.exp_pos z)).ne'

/-- The derivative of `z * sg z`. -/
def dsilu (z : ℝ) : ℝ := sg z * (1 + z * (1 - sg z))

/-- The gradient of the normalised row `hat x * g` with respect to the row. -/
def back (x eg : Fin 512 → ℝ) (d : Fin 512) : ℝ :=
  rs x * (eg d - (∑ k, eg k) / 512 - hat x d * ((∑ k, eg k * hat x k) / 512))

/-- The same gradient, term by term as the derivative of the forward lines gives it. -/
theorem back_eq (x eg : Fin 512 → ℝ) (d : Fin 512) :
    eg d * rs x + (∑ k, ctr x k * eg k) * (-(1 / 2) * (rs x / var x)) / 512 * (2 * ctr x d)
      + ((∑ k, -(eg k * rs x)) + ∑ k, -((∑ k, ctr x k * eg k) * (-(1 / 2) * (rs x / var x)) / 512 * (2 * ctr x k))) / 512 = back x eg d := by
  have h : rs x / var x = rs x * (rs x * rs x) := by rw [rs_rs, div_eq_mul_inv]
  have h1 : ∑ k, eg k * hat x k = rs x * ∑ k, ctr x k * eg k := by
    rw [Finset.mul_sum]; exact Finset.sum_congr rfl fun k _ => by rw [hat]; ring
  rw [Finset.sum_neg_distrib, Finset.sum_neg_distrib, ← Finset.mul_sum, ← Finset.mul_sum, sum_ctr, ← Finset.sum_mul, back, h1, hat, h]
  ring

def th (u : ℝ) : ℝ := Real.tanh (kap * (u + 44715 / 1000000 * (u * u * u)))
def ge (u : ℝ) : ℝ := 1 / 2 * u * (1 + th u)
def dge (u : ℝ) : ℝ := 1 / 2 * (1 + th u) + 1 / 2 * u * (1 - th u * th u) * (kap * (1 + 134145 / 1000000 * (u * u)))

end Cert.MixOut

end
-- ==== Proof.MixOut.Blocks.lean ====
module

public import proofs.«01_k».proof.Proof.MixOut.Row
public import proofs.«01_k».proof.Proof.Gen.KernelMixOutIdeal.Frame
public import proofs.«01_k».proof.Proof.Gen.ReferenceMixOutIdeal.Read
public import proofs.«01_k».proof.Proof.Lift

@[expose] public section

set_option maxRecDepth 16384

noncomputable section

namespace Cert.MixOut

open Idealize.ShloMosaic Idealize.ShloMosaic.TcCoe Idealize.SL.Sem
open Idealize.ShloMosaic.Pipeline (Dat)
open Cert.KernelMixOutIdeal Cert.KernelMixOutIdeal.Gen
open Cert.ReferenceMixOutIdeal.Read Cert.Lift

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 3]
    ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0]
    ∧ win0_13.index t = ![0, 0] ∧ win0_14.index t = ![0, 0] := (by decide +kernel : ∀ t : Fin grid0.N, _)

/-- The arguments of the run, by name. -/
def aC (c : Dev nD) : FVec Ideal S4096x512 .f32 := m ((c : Thread nD τ).loc main_arg0)
def aH (c : Dev nD) : FVec Ideal S4096x512 .f32 := m ((c : Thread nD τ).loc main_arg1)
def aP (c : Dev nD) : FVec Ideal S4096x2048 .f32 := m ((c : Thread nD τ).loc main_arg2)
def aG (c : Dev nD) : FVec Ideal S512 .f32 := m ((c : Thread nD τ).loc main_arg3)
def aB (c : Dev nD) : FVec Ideal S512 .f32 := m ((c : Thread nD τ).loc main_arg4)
def aW (c : Dev nD) : FVec Ideal S1024x1024 .f32 := m ((c : Thread nD τ).loc main_arg5)
def aT (c : Dev nD) : FVec Ideal S1024 .f32 := m ((c : Thread nD τ).loc main_arg6)
def aD (c : Dev nD) : FVec Ideal S4096x1024 .f32 := m ((c : Thread nD τ).loc main_arg7)

/-- What the forward pass saved, computed by the host lines, is what the reference's forward lines compute. -/
theorem V_ycat (c : Dev nD) : V (F := Ideal) m c main_v48 = val_main_v55 (F := Ideal) (aC m c) (aH m c) (aP m c) (aG m c) (aB m c) := by
  rfl

theorem V_ym (c : Dev nD) : V (F := Ideal) m c main_v50 = val_main_v56 (F := Ideal) (aC m c) (aH m c) (aP m c) (aG m c) (aB m c) (aW m c) := by
  rfl

section blocks
variable (c : Dev nD) (t : Fin cfg0.N)

theorem blk_dx (i : Fin 512) (k : Fin 1024) (r : Fin 4096) (hr : r.val = t.val * 512 + i.val) :
    iblk (F := Ideal) m c 0 t (ix2 i k) = aD m c (ix2 r k) := by unfold aD; blk_point [iblk, V, idx t]
theorem blk_cv (i : Fin 512) (k : Fin 512) (r : Fin 4096) (hr : r.val = t.val * 512 + i.val) :
    iblk (F := Ideal) m c 3 t (ix2 i k) = aC m c (ix2 r k) := by unfold aC; blk_point [iblk, V, idx t]
theorem blk_hr (i : Fin 512) (k : Fin 512) (r : Fin 4096) (hr : r.val = t.val * 512 + i.val) :
    iblk (F := Ideal) m c 4 t (ix2 i k) = aH m c (ix2 r k) := by unfold aH; blk_point [iblk, V, idx t]
theorem blk_uy (i : Fin 512) (k : Fin 512) (r : Fin 4096) (hr : r.val = t.val * 512 + i.val) :
    iblk (F := Ideal) m c 5 t (ix2 i k) = aP m c (ix2 r (uy k)) := by unfold aP; blk_point [iblk, V, idx t]
theorem blk_w (i : Fin 1024) (k : Fin 1024) : iblk (F := Ideal) m c 8 t (ix2 i k) = aW m c (ix2 i k) := by unfold aW; blk_point [iblk, V, idx t]
theorem blk_ym (i : Fin 512) (k : Fin 1024) (r : Fin 4096) (hr : r.val = t.val * 512 + i.val) :
    iblk (F := Ideal) m c 1 t (ix2 i k) = val_main_v56 (F := Ideal) (aC m c) (aH m c) (aP m c) (aG m c) (aB m c) (aW m c) (ix2 r k) := by
  rw [← V_ym]
  blk_simp [iblk]
  exact congrArg _ (by blk_ext [idx t])
theorem blk_ycat (i : Fin 512) (k : Fin 1024) (r : Fin 4096) (hr : r.val = t.val * 512 + i.val) :
    iblk (F := Ideal) m c 2 t (ix2 i k) = val_main_v55 (F := Ideal) (aC m c) (aH m c) (aP m c) (aG m c) (aB m c) (ix2 r k) := by
  rw [← V_ycat]
  blk_simp [iblk]
  exact congrArg _ (by blk_ext [idx t])
/-- The packed table of vectors holds the residual's scale in each of its first four rows. -/
theorem V_vec : ∃ z : FVec Ideal S4x1024 .f32, V (F := Ideal) m c main_v56 = concatenate S8x1024 0 [⟨S1x1024, shapeCast S1x1024 (aT m c) shapeCasts_S1024_S1x1024⟩, ⟨S1x1024, shapeCast S1x1024 (aT m c) shapeCasts_S1024_S1x1024⟩, ⟨S1x1024, shapeCast S1x1024 (aT m c) shapeCasts_S1024_S1x1024⟩,
    ⟨S1x1024, shapeCast S1x1024 (aT m c) shapeCasts_S1024_S1x1024⟩, ⟨S4x1024, z⟩] concatenates_S1x1024_S1x1024_S1x1024_S1x1024_S4x1024_S8x1024_d0 :=
  ⟨_, rfl⟩
theorem V_lnv : ∃ z : FVec Ideal S6x512 .f32, V (F := Ideal) m c main_v3 = concatenate S8x512 0 [⟨S1x512, shapeCast S1x512 (aG m c) shapeCasts_S512_S1x512⟩, ⟨S1x512, shapeCast S1x512 (aB m c) shapeCasts_S512_S1x512⟩, ⟨S6x512, z⟩] concatenates_S1x512_S1x512_S6x512_S8x512_d0 :=
  ⟨_, rfl⟩
theorem blk_t (k : Fin 1024) : iblk (F := Ideal) m c 6 t (ix2 3 k) = aT m c (ix1 k) := by
  have h : iblk (F := Ideal) m c 6 t (ix2 3 k) = V (F := Ideal) m c main_v56 (ix2 3 k) := by
    blk_simp [iblk]
    exact congrArg _ (by blk_ext [idx t])
  obtain ⟨z, hz⟩ := V_vec m c
  rw [h, hz]
  pointwise
theorem blk_g (k : Fin 512) : iblk (F := Ideal) m c 7 t (ix2 0 k) = aG m c (ix1 k) := by
  have h : iblk (F := Ideal) m c 7 t (ix2 0 k) = V (F := Ideal) m c main_v3 (ix2 0 k) := by
    blk_simp [iblk]
    exact congrArg _ (by blk_ext [idx t])
  obtain ⟨z, hz⟩ := V_lnv m c
  rw [h, hz]
  pointwise
theorem blk_b (k : Fin 512) : iblk (F := Ideal) m c 7 t (ix2 1 k) = aB m c (ix1 k) := by
  have h : iblk (F := Ideal) m c 7 t (ix2 1 k) = V (F := Ideal) m c main_v3 (ix2 1 k) := by
    blk_simp [iblk]
    exact congrArg _ (by blk_ext [idx t])
  obtain ⟨z, hz⟩ := V_lnv m c
  rw [h, hz]
  pointwise
end blocks

end Cert.MixOut

end
-- ==== Proof.MixOut.Pays.lean ====
module

public import proofs.«01_k».proof.Proof.Gen.KernelMixOutIdeal.Skeleton
public import Idealize.ShloMosaic.PureOps.IdealRules
public import proofs.«01_k».proof.Proof.MixOut.Row

@[expose] public section

set_option maxRecDepth 16384

noncomputable section

namespace Cert.MixOut

open Idealize.ShloMosaic Idealize.ShloMosaic.TcCoe Idealize.SL.Sem
open Cert.KernelMixOutIdeal Cert.KernelMixOutIdeal.Gen Cert.Lift

theorem nm_c : Named.named (F := Ideal) Cert.KernelMixOutIdeal.κ "gelu_c" (φ := .f32) 0x3D372713#32 = ((44715 / 1000000 : ℝ) : EReal) :=
  (IdealRules.named_const.ideal_named_scalar _ _ _ _ rfl).trans (by congr 1; norm_num)
theorem nm_3c : Named.named (F := Ideal) Cert.KernelMixOutIdeal.κ "gelu_3c" (φ := .f32) 0x3E095D4F#32 = ((134145 / 1000000 : ℝ) : EReal) :=
  (IdealRules.named_const.ideal_named_scalar _ _ _ _ rfl).trans (by congr 1; norm_num)

section norm
variable (X : FVec Ideal S512x512 .f32) (x : Fin 512 → ℝ) (i : Fin 512) (hx : ∀ k, X (ix2 i k) = x k)
include hx

theorem ctr_at (d : Fin 512) : k0_pay10 (F := Ideal) X (ix2 i d) = ((ctr x d : ℝ) : EReal) := by
  pointwise [k0_pay10, hx]
  simp only [sum_coe, c512, div_512, ← EReal.coe_sub, ctr, mean]

theorem rs_at : k0_pay11 (F := Ideal) X (ix2 i 0) = ((rs x : ℝ) : EReal) := by
  have h := ctr_at X x i hx
  pointwise [k0_pay11, h]
  simp only [← EReal.coe_mul, sum_coe, c512, c_eps, div_512, ← EReal.coe_add]
  exact rsqrt_real (var_pos x)

theorem hat_at (d : Fin 512) : k0_pay12 (F := Ideal) X (ix2 i d) = ((hat x d : ℝ) : EReal) := by
  pointwise [k0_pay12, ctr_at X x i hx, rs_at X x i hx]
  rw [hat, EReal.coe_mul]

theorem dz_at (G B : FVec Ideal S1x512 .f32) (g b : Fin 512 → ℝ) (E : FVec Ideal S512x512 .f32) (e : ℝ) (d : Fin 512)
    (hg : ∀ k, G (ix2 0 k) = g k) (hb : ∀ k, B (ix2 0 k) = b k) (he : E (ix2 i d) = e) :
    k0_pay13 (F := Ideal) E X G B (ix2 i d) = ((e * dsilu (hat x d * g d + b d) : ℝ) : EReal) := by
  pointwise [k0_pay13, hat_at X x i hx, hg, hb, he]
  simp only [one_coe, zero_coe, ← EReal.coe_mul, ← EReal.coe_add, ← EReal.coe_sub, Ideal.exp_coe, zero_sub, div_real (one_add_exp _)]
  rfl

theorem dcv_at (G : FVec Ideal S1x512 .f32) (g : Fin 512 → ℝ) (E : FVec Ideal S512x512 .f32) (e : Fin 512 → ℝ) (d : Fin 512)
    (hg : ∀ k, G (ix2 0 k) = g k) (he : ∀ k, E (ix2 i k) = e k) :
    k0_pay16 (F := Ideal) (k0_pay11 X) (k0_pay12 X) E G (ix2 i d) = ((back x (fun k => e k * g k) d : ℝ) : EReal) := by
  pointwise [k0_pay16, hat_at X x i hx, rs_at X x i hx, hg, he]
  simp only [← EReal.coe_mul, sum_coe, c512, div_512, ← EReal.coe_sub]
  rfl
end norm

theorem dg_at (X E : FVec Ideal S512x512 .f32) (A : FVec Ideal S1x512 .f32) (x e : Fin 512 → Fin 512 → ℝ) (a : ℝ) (d : Fin 512)
    (hx : ∀ i k, X (ix2 i k) = x i k) (he : ∀ i k, E (ix2 i k) = e i k) (ha : A (ix2 0 d) = a) :
    k0_pay14 (F := Ideal) (k0_pay12 X) E A (ix2 0 d) = ((a + ∑ i, e i d * hat (x i) d : ℝ) : EReal) := by
  have hh (i) := hat_at X (x i) i (hx i)
  pointwise [k0_pay14, hh, he, ha]
  simp only [← EReal.coe_mul, sum_coe, ← EReal.coe_add]

theorem db_at (E : FVec Ideal S512x512 .f32) (A : FVec Ideal S1x512 .f32) (e : Fin 512 → Fin 512 → ℝ) (a : ℝ) (d : Fin 512)
    (he : ∀ i k, E (ix2 i k) = e i k) (ha : A (ix2 0 d) = a) :
    k0_pay15 (F := Ideal) E A (ix2 0 d) = ((a + ∑ i, e i d : ℝ) : EReal) := by
  pointwise [k0_pay15, he, ha]
  simp only [sum_coe, ← EReal.coe_add]

section gelu
variable (U : FVec Ideal S512x512 .f32) (u : ℝ) (i d : Fin 512) (hu : U (ix2 i d) = u)
include hu

theorem th_at : k0_pay19 (F := Ideal) U (k0_pay17 U) k0_pay18 (ix2 i d) = ((th u : ℝ) : EReal) := by
  pointwise [k0_pay19, k0_pay17, k0_pay18, hu, nm_c]
  simp only [c_kap, ← EReal.coe_mul, ← EReal.coe_add, Ideal.tanh_coe, th]
  congr 3; ring

theorem dhr_at (E : FVec Ideal S512x512 .f32) (e : ℝ) (he : E (ix2 i d) = e) :
    k0_pay20 (F := Ideal) E U (k0_pay17 U) k0_pay18 (ix2 i d) = ((e * ge u : ℝ) : EReal) := by
  pointwise [k0_pay20, th_at U u i d hu, hu, he]
  simp only [one_coe, c_half, ← EReal.coe_mul, ← EReal.coe_add, ge]

theorem duy_at (E R : FVec Ideal S512x512 .f32) (e r : ℝ) (he : E (ix2 i d) = e) (hr : R (ix2 i d) = r) :
    k0_pay21 (F := Ideal) E U (k0_pay17 U) k0_pay18 R (ix2 i d) = ((e * r * dge u : ℝ) : EReal) := by
  have ht := th_at U u i d hu
  have h2 : k0_pay17 (F := Ideal) U (ix2 i d) = ((u * u : ℝ) : EReal) := by
    pointwise [k0_pay17, hu]
    rw [EReal.coe_mul]
  pointwise [k0_pay21, ht, hu, he, hr, h2, nm_3c]
  simp only [one_coe, c_half, c_kap, ← EReal.coe_mul, ← EReal.coe_add, ← EReal.coe_sub, dge]
end gelu

end Cert.MixOut

end
-- ==== Proof.MixOut.Ref.lean ====
module

public import proofs.«01_k».proof.Proof.Gen.ReferenceMixOutIdeal.Read
public import Idealize.ShloMosaic.PureOps.IdealRules
public import proofs.«01_k».proof.Proof.MixOut.Row

@[expose] public section

set_option maxRecDepth 16384

noncomputable section

namespace Cert.MixOut

open Idealize.ShloMosaic Idealize.ShloMosaic.TcCoe Idealize.SL.Sem
open Cert.ReferenceMixOutIdeal Cert.ReferenceMixOutIdeal.Read Cert.Lift

variable (C H : FVec Ideal S4096x512 .f32) (P : FVec Ideal S4096x2048 .f32) (G B : FVec Ideal S512 .f32) (W : FVec Ideal S1024x1024 .f32) (T : FVec Ideal S1024 .f32) (D : FVec Ideal S4096x1024 .f32)

/-- The gradient of the concatenated units of a row: the cotangent, scaled, against the weights. -/
def dcat (w : Fin 1024 → Fin 1024 → ℝ) (t : Fin 1024 → ℝ) (δ : Fin 1024 → ℝ) (j : Fin 1024) : ℝ := ∑ k, t k * δ k * w j k

section
variable (w : Fin 1024 → Fin 1024 → ℝ) (t δ : Fin 1024 → ℝ) (r : Fin 4096) (hw : ∀ j k, W (ix2 j k) = w j k) (ht : ∀ k, T (ix1 k) = t k) (hd : ∀ k, D (ix2 r k) = δ k)
include hw ht hd

theorem ref_dcat (j : Fin 1024) : val_main_v66 (F := Ideal) W T D (ix2 r j) = ((dcat w t δ j : ℝ) : EReal) := by
  pointwise [val_main_v66, val_main_v60, val_main_v59, val_main_v54, hw, ht, hd]
  simp only [← EReal.coe_mul, sum_coe, dcat]

theorem ref_dc (d : Fin 512) : val_main_v67 (F := Ideal) W T D (ix2 r d) = ((dcat w t δ (lo d) : ℝ) : EReal) := by
  pointwise [val_main_v67]
  exact ref_dcat W T D w t δ r hw ht hd _

theorem ref_dr (d : Fin 512) : val_main_v68 (F := Ideal) W T D (ix2 r d) = ((dcat w t δ (hi d) : ℝ) : EReal) := by
  pointwise [val_main_v68]
  exact ref_dcat W T D w t δ r hw ht hd _
end

section norm
variable (x : Fin 512 → ℝ) (r : Fin 4096) (hx : ∀ k, C (ix2 r k) = x k)
include hx

theorem ref_mean (u : Fin 1) : val_main_v4 (F := Ideal) C (ix2 r u) = ((mean x : ℝ) : EReal) := by
  pointwise [val_main_v4, val_main_v3, val_main_cst_0, val_main_v2, val_main_v1, val_main_cst, hx]
  simp only [zero_add, sum_coe, c512, div_512, mean]

theorem ref_ctr (d : Fin 512) : val_main_v6 (F := Ideal) C (ix2 r d) = ((ctr x d : ℝ) : EReal) := by
  have h (u) := ref_mean C x r hx u
  pointwise [val_main_v6, val_main_v5, h, hx]
  rw [ctr, EReal.coe_sub]

theorem ref_ctr' (d : Fin 512) : val_main_v15 (F := Ideal) C (ix2 r d) = ((ctr x d : ℝ) : EReal) := by
  have h (u) := ref_mean C x r hx u
  pointwise [val_main_v15, val_main_v14, h, hx]
  rw [ctr, EReal.coe_sub]

theorem ref_var (u : Fin 1) : val_main_v17 (F := Ideal) C (ix2 r u) = ((var x : ℝ) : EReal) := by
  have h := ref_ctr C x r hx
  pointwise [val_main_v17, val_main_v16, val_main_cst_4, val_main_v13, val_main_v12, val_main_cst_3, val_main_v11, val_main_v10, val_main_cst_2, val_main_v7, h]
  simp only [zero_add, ← EReal.coe_mul, sum_coe, c512, c_eps, div_512, ← EReal.coe_add, var]

theorem ref_rs (u : Fin 1) : val_main_v18 (F := Ideal) C (ix2 r u) = ((rs x : ℝ) : EReal) := by
  have h := ref_var C x r hx
  pointwise [val_main_v18, h]
  exact rsqrt_real (var_pos x)

theorem ref_drs (u : Fin 1) : val_main_v21 (F := Ideal) C (ix2 r u) = ((-(1 / 2) * (rs x / var x) : ℝ) : EReal) := by
  have h := ref_var C x r hx
  have h' := ref_rs C x r hx
  pointwise [val_main_v21, val_main_v20, val_main_cst_5, val_main_v19, h, h']
  simp only [c_neg_half, div_real (var_pos x).ne', ← EReal.coe_mul]

theorem ref_hat (d : Fin 512) : val_main_v23 (F := Ideal) C (ix2 r d) = ((hat x d : ℝ) : EReal) := by
  have h := ref_ctr' C x r hx
  have h' := ref_rs C x r hx
  pointwise [val_main_v23, val_main_v22, h, h']
  rw [hat, EReal.coe_mul]

section silu
variable (g b : Fin 512 → ℝ) (hg : ∀ k, G (ix1 k) = g k) (hb : ∀ k, B (ix1 k) = b k)
include hg hb

theorem ref_z (d : Fin 512) : val_main_v29 (F := Ideal) C G B (ix2 r d) = ((hat x d * g d + b d : ℝ) : EReal) := by
  have h := ref_hat C x r hx
  pointwise [val_main_v29, val_main_v28, val_main_v27, val_main_v26, val_main_v25, val_main_v24, h, hg, hb]
  rw [EReal.coe_add, EReal.coe_mul]

theorem ref_sg (d : Fin 512) : val_main_v30_2 (F := Ideal) C G B (ix2 r d) = ((sg (hat x d * g d + b d) : ℝ) : EReal) := by
  have h := ref_z C G B x r hx g b hg hb
  pointwise [val_main_v30_2, val_main_call0_v4, val_main_call0_cst_0, val_main_call0_v3, val_main_call0_v2, val_main_call0_cst, val_main_call0_v1, val_main_call0_v0, h]
  simp only [one_coe, ← EReal.coe_neg, Ideal.exp_coe, ← EReal.coe_add, div_real (one_add_exp _), sg]

variable (w : Fin 1024 → Fin 1024 → ℝ) (t δ : Fin 1024 → ℝ) (hw : ∀ j k, W (ix2 j k) = w j k) (ht : ∀ k, T (ix1 k) = t k) (hd : ∀ k, D (ix2 r k) = δ k)
include hw ht hd

theorem ref_dz (d : Fin 512) : val_main_v84 (F := Ideal) C G B W T D (ix2 r d) = ((dcat w t δ (lo d) * dsilu (hat x d * g d + b d) : ℝ) : EReal) := by
  have h := ref_z C G B x r hx g b hg hb
  have h' := ref_sg C G B x r hx g b hg hb
  have h2 := ref_dc W T D w t δ r hw ht hd
  pointwise [val_main_v84, val_main_call1_v2, val_main_call1_v1, val_main_call1_v0, val_main_v30_1, val_main_call0_v7, val_main_call0_v6, val_main_call0_cst_1, h, h', h2]
  simp only [one_coe, ← EReal.coe_mul, ← EReal.coe_add, ← EReal.coe_sub]
  congr 1; rw [dsilu]; ring

theorem ref_dcv (d : Fin 512) : val_main_v121 (F := Ideal) C G B W T D (ix2 r d)
    = ((back x (fun k => dcat w t δ (lo k) * dsilu (hat x k * g k + b k) * g k) d : ℝ) : EReal) := by
  have hz := ref_dz C G B W T D x r hx g b hg hb w t δ hw ht hd
  have h9 : ∀ k, val_main_v9 (F := Ideal) C (ix2 r k) = ((2 * ctr x k : ℝ) : EReal) := fun k => by
    have h := ref_ctr C x r hx
    pointwise [val_main_v9, val_main_v8, val_main_cst_1, h]
    rw [c_two, EReal.coe_mul]
  have h92 : ∀ k, val_main_v92 (F := Ideal) C G B W T D (ix2 r k) = ((dcat w t δ (lo k) * dsilu (hat x k * g k + b k) * g k : ℝ) : EReal) := fun k => by
    pointwise [val_main_v92, val_main_v91, val_main_v24, hz, hg]
    rw [EReal.coe_mul, EReal.coe_mul, EReal.coe_mul]
  revert h92
  generalize he : (fun k : Fin 512 => dcat w t δ (lo k) * dsilu (hat x k * g k + b k) * g k) = eg
  intro h92
  replace h92 : ∀ k, val_main_v92 (F := Ideal) C G B W T D (ix2 r k) = ((eg k : ℝ) : EReal) := fun k => (h92 k).trans (by rw [← he])
  clear hz he
  have hc := ref_ctr' C x r hx
  have hr := ref_rs C x r hx
  have hq := ref_drs C x r hx
  have h98 : ∀ k, val_main_v98 (F := Ideal) C G B W T D (ix2 r k) = ((eg k * rs x : ℝ) : EReal) := fun k => by
    pointwise [val_main_v98, val_main_v97, h92, hr]
    rw [EReal.coe_mul]
  have h104 : ∀ u, val_main_v104 (F := Ideal) C G B W T D (ix2 r u) = (((∑ k, ctr x k * eg k) * (-(1 / 2) * (rs x / var x)) / 512 : ℝ) : EReal) := fun u => by
    pointwise [val_main_v104, val_main_v103, val_main_cst_24, val_main_v99, val_main_v96, val_main_v95, val_main_cst_22, val_main_v94, hc, h92, hq]
    simp only [zero_add, ← EReal.coe_mul, sum_coe, c512, div_512]
  have h107 : ∀ k, val_main_v107 (F := Ideal) C G B W T D (ix2 r k) = (((∑ k, ctr x k * eg k) * (-(1 / 2) * (rs x / var x)) / 512 * (2 * ctr x k) : ℝ) : EReal) := fun k => by
    pointwise [val_main_v107, val_main_v106, val_main_v105, val_main_cst_25, h104, h9]
    simp only [zero_add, Finset.univ_unique, Finset.sum_singleton, ← EReal.coe_mul]
  rw [← back_eq]
  pointwise [val_main_v121, val_main_v117, val_main_v116, val_main_v115, val_main_cst_28, val_main_v114, val_main_v113, val_main_cst_27, val_main_v112, val_main_v111, val_main_v110, val_main_v109, val_main_cst_26, val_main_v108, val_main_v102, val_main_v101, val_main_cst_23, val_main_v100, h98, h107]
  simp only [zero_add, Finset.univ_unique, Finset.sum_singleton, ← EReal.coe_neg, sum_coe, ← EReal.coe_add, c512, div_512]
end silu
end norm

section gelu
variable (u : ℝ) (r : Fin 4096) (d : Fin 512) (hu : P (ix2 r (uy d)) = u)
include hu

theorem ref_u : val_main_v0 (F := Ideal) P (ix2 r d) = u := by
  rw [← hu]; pointwise [val_main_v0]

theorem ref_c (i : S_.Idx) : val_main_v31 (F := Ideal) i = ((44715 / 1000000 : ℝ) : EReal) := by
  pointwise [val_main_v31, val_main_cst_6, val_main_cst_7]
  rw [c_44715, c_million, div_real (by norm_num)]

theorem ref_th : val_main_v42 (F := Ideal) P (ix2 r d) = ((th u : ℝ) : EReal) := by
  have h := ref_u P u r d hu
  have hc := ref_c P u r d hu
  pointwise [val_main_v42, val_main_v41, val_main_v40, val_main_cst_9, val_main_v39, val_main_v38, val_main_v37, val_main_v33, val_main_v32, h, hc]
  simp only [c_kap, ← EReal.coe_mul, ← EReal.coe_add, Ideal.tanh_coe, th]

theorem ref_ge : val_main_v52 (F := Ideal) P (ix2 r d) = ((ge u : ℝ) : EReal) := by
  have h := ref_u P u r d hu
  have h' := ref_th P u r d hu
  pointwise [val_main_v52, val_main_v51, val_main_v50, val_main_cst_13, val_main_v49, val_main_v48, val_main_cst_12, h, h']
  simp only [one_coe, c_half, ← EReal.coe_mul, ← EReal.coe_add, ge]
  congr 1; ring

variable (w : Fin 1024 → Fin 1024 → ℝ) (t δ : Fin 1024 → ℝ) (hw : ∀ j k, W (ix2 j k) = w j k) (ht : ∀ k, T (ix1 k) = t k) (hd : ∀ k, D (ix2 r k) = δ k)
include hw ht hd

theorem ref_dhr : val_main_v122 (F := Ideal) P W T D (ix2 r d) = ((dcat w t δ (hi d) * ge u : ℝ) : EReal) := by
  have h := ref_ge P u r d hu
  have h' := ref_dr W T D w t δ r hw ht hd
  pointwise [val_main_v122, val_main_v70, h, h']
  rw [← EReal.coe_mul, mul_comm]

theorem ref_duy (h1 : ℝ) (hh : H (ix2 r d) = h1) : val_main_v123 (F := Ideal) H P W T D (ix2 r d) = ((dcat w t δ (hi d) * h1 * dge u : ℝ) : EReal) := by
  have h := ref_u P u r d hu
  have ht' := ref_th P u r d hu
  have hc := ref_c P u r d hu
  have h' := ref_dr W T D w t δ r hw ht hd
  pointwise [val_main_v123, val_main_v83, val_main_v82, val_main_v81, val_main_v80, val_main_v79, val_main_v78, val_main_v77, val_main_cst_17, val_main_v76, val_main_v75, val_main_v74, val_main_cst_16, val_main_v73, val_main_v72, val_main_v71,
    val_main_v51, val_main_v50, val_main_cst_13, val_main_v49, val_main_v48, val_main_cst_12, val_main_v47, val_main_v46, val_main_v45, val_main_cst_11, val_main_v44, val_main_v43, val_main_cst_10, val_main_v36, val_main_v35, val_main_cst_8, val_main_v34, h, ht', hc, h', hh]
  simp only [one_coe, c_half, c_three, c_kap, ← EReal.coe_mul, ← EReal.coe_add, ← EReal.coe_sub]
  congr 1; rw [dge]; ring
end gelu

end Cert.MixOut

end
-- ==== Proof.MixOut.Tiles.lean ====
module

public import proofs.«01_k».proof.Proof.Gen.KernelMixOutIdeal.Value
public import proofs.«01_k».proof.Proof.MixOut.Blocks
public import proofs.«01_k».proof.Proof.MixOut.Pays
public import proofs.«01_k».proof.Proof.MixOut.Ref

@[expose] public section

set_option maxRecDepth 16384

noncomputable section

namespace Cert.MixOut

open Idealize.ShloMosaic Idealize.ShloMosaic.TcCoe Idealize.SL.Sem
open Idealize.ShloMosaic.Pipeline (Dat)
open Cert.KernelMixOutIdeal Cert.KernelMixOutIdeal.Gen
open Cert.ReferenceMixOutIdeal.Read Cert.Lift

variable (m : (ℓ : Loc nD τ sig) → Buf (Elt Ideal) ℓ)

/-- The arguments are finite: they are these real numbers. -/
structure Reals (c : Dev nD) (x h : Fin 4096 → Fin 512 → ℝ) (p : Fin 4096 → Fin 2048 → ℝ) (g b : Fin 512 → ℝ) (w : Fin 1024 → Fin 1024 → ℝ) (t : Fin 1024 → ℝ) (δ : Fin 4096 → Fin 1024 → ℝ) : Prop where
  hx : ∀ r k, aC m c (ix2 r k) = x r k
  hh : ∀ r k, aH m c (ix2 r k) = h r k
  hp : ∀ r k, aP m c (ix2 r k) = p r k
  hg : ∀ k, aG m c (ix1 k) = g k
  hb : ∀ k, aB m c (ix1 k) = b k
  hw : ∀ j k, aW m c (ix2 j k) = w j k
  ht : ∀ k, aT m c (ix1 k) = t k
  hd : ∀ r k, aD m c (ix2 r k) = δ r k

/-- The gradient of the normalised units of the convolution, from the products of the cotangent with the weights. -/
theorem dyc_at (D : FVec Ideal S512x1024 .f32) (T : FVec Ideal S1x1024 .f32) (W : FVec Ideal S512x1024 .bf16) (w : Fin 1024 → Fin 1024 → ℝ) (t δ : Fin 1024 → ℝ) (i d : Fin 512) (j : Fin 1024)
    (hd : ∀ k, D (ix2 i k) = δ k) (ht : ∀ k, T (ix2 0 k) = t k) (hw : ∀ k, W (ix2 d k) = w j k) :
    k0_pay8 (F := Ideal) D T W (ix2 i d) = ((dcat w t δ j : ℝ) : EReal) := by
  pointwise [k0_pay8, k0_pay5, hd, ht, hw]
  simp only [← EReal.coe_mul, sum_coe, dcat]
theorem dyr_at (D : FVec Ideal S512x1024 .f32) (T : FVec Ideal S1x1024 .f32) (W : FVec Ideal S512x1024 .bf16) (w : Fin 1024 → Fin 1024 → ℝ) (t δ : Fin 1024 → ℝ) (i d : Fin 512) (j : Fin 1024)
    (hd : ∀ k, D (ix2 i k) = δ k) (ht : ∀ k, T (ix2 0 k) = t k) (hw : ∀ k, W (ix2 d k) = w j k) :
    k0_pay9 (F := Ideal) (k0_pay5 D T) W (ix2 i d) = ((dcat w t δ j : ℝ) : EReal) := by
  pointwise [k0_pay9, k0_pay5, hd, ht, hw]
  simp only [← EReal.coe_mul, sum_coe, dcat]

/-- The gradient of what the normalisation yields, at a row. -/
def dz (x : Fin 512 → ℝ) (g b : Fin 512 → ℝ) (w : Fin 1024 → Fin 1024 → ℝ) (t δ : Fin 1024 → ℝ) (k : Fin 512) : ℝ := dcat w t δ (lo k) * dsilu (hat x k * g k + b k)

variable (c : Dev nD) (x h : Fin 4096 → Fin 512 → ℝ) (p : Fin 4096 → Fin 2048 → ℝ) (g b : Fin 512 → ℝ) (w : Fin 1024 → Fin 1024 → ℝ) (t : Fin 1024 → ℝ) (δ : Fin 4096 → Fin 1024 → ℝ) (H : Reals m c x h p g b w t δ)
include H

section point
variable (t' : Fin cfg0.N) (i : Fin 512) (r : Fin 4096) (hr : r.val = t'.val * 512 + i.val)
include hr

theorem cv_at (k : Fin 512) : iblk (F := Ideal) m c 3 t' (ix2 i k) = ((x r k : ℝ) : EReal) := (blk_cv m c t' i k r hr).trans (H.hx r k)
theorem g_at (k : Fin 512) : View.ld (iblk (F := Ideal) m c 7 t') (Rect.unit ![0, 0] ![1, 512] inb_S8x512_S1x512_0_0) (ix2 0 k) = ((g k : ℝ) : EReal) := by
  refine Eq.trans ?_ ((blk_g m c t' k).trans (H.hg k))
  pointwise
theorem b_at (k : Fin 512) : View.ld (iblk (F := Ideal) m c 7 t') (Rect.unit ![1, 0] ![1, 512] inb_S8x512_S1x512_1_0) (ix2 0 k) = ((b k : ℝ) : EReal) := by
  refine Eq.trans ?_ ((blk_b m c t' k).trans (H.hb k))
  pointwise
theorem t_at (k : Fin 1024) : View.ld (iblk (F := Ideal) m c 6 t') (Rect.unit ![3, 0] ![1, 1024] inb_S8x1024_S1x1024_3_0) (ix2 0 k) = ((t k : ℝ) : EReal) := by
  refine Eq.trans ?_ ((blk_t m c t' k).trans (H.ht k))
  pointwise
theorem dc_at (d : Fin 512) :
    k0_pay8 (iblk (F := Ideal) m c 0 t') (View.ld (iblk (F := Ideal) m c 6 t') (Rect.unit ![3, 0] ![1, 1024] inb_S8x1024_S1x1024_3_0))
      (View.ld (iblk (F := Ideal) m c 8 t') (Rect.unit ![0, 0] ![512, 1024] inb_S1024x1024_S512x1024_0_0)) (ix2 i d) = ((dcat w t (δ r) (lo d) : ℝ) : EReal) := by
  refine dyc_at _ _ _ w t (δ r) i d _ (fun k => (blk_dx m c t' i k r hr).trans (H.hd r k)) (t_at m c x h p g b w t δ H t' i r hr) fun k => ?_
  refine Eq.trans ?_ ((blk_w m c t' (lo d) k).trans (H.hw _ k))
  pointwise
theorem dr_at (d : Fin 512) :
    k0_pay9 (k0_pay5 (iblk (F := Ideal) m c 0 t') (View.ld (iblk (F := Ideal) m c 6 t') (Rect.unit ![3, 0] ![1, 1024] inb_S8x1024_S1x1024_3_0)))
      (View.ld (iblk (F := Ideal) m c 8 t') (Rect.unit ![512, 0] ![512, 1024] inb_S1024x1024_S512x1024_512_0)) (ix2 i d) = ((dcat w t (δ r) (hi d) : ℝ) : EReal) := by
  refine dyr_at _ _ _ w t (δ r) i d _ (fun k => (blk_dx m c t' i k r hr).trans (H.hd r k)) (t_at m c x h p g b w t δ H t' i r hr) fun k => ?_
  refine Eq.trans ?_ ((blk_w m c t' (hi d) k).trans (H.hw _ k))
  pointwise
theorem dz_point (d : Fin 512) :
    k0_pay13 (k0_pay8 (iblk (F := Ideal) m c 0 t') (View.ld (iblk (F := Ideal) m c 6 t') (Rect.unit ![3, 0] ![1, 1024] inb_S8x1024_S1x1024_3_0))
          (View.ld (iblk (F := Ideal) m c 8 t') (Rect.unit ![0, 0] ![512, 1024] inb_S1024x1024_S512x1024_0_0)))
        (iblk (F := Ideal) m c 3 t') (View.ld (iblk (F := Ideal) m c 7 t') (Rect.unit ![0, 0] ![1, 512] inb_S8x512_S1x512_0_0))
        (View.ld (iblk (F := Ideal) m c 7 t') (Rect.unit ![1, 0] ![1, 512] inb_S8x512_S1x512_1_0)) (ix2 i d) = ((dz (x r) g b w t (δ r) d : ℝ) : EReal) :=
  dz_at _ (x r) i (cv_at m c x h p g b w t δ H t' i r hr) _ _ g b _ _ d (g_at m c x h p g b w t δ H t' i r hr) (b_at m c x h p g b w t δ H t' i r hr) (dc_at m c x h p g b w t δ H t' i r hr d)
end point

theorem dcv_final : (dats (F := Ideal) m 0 c).arrAt 10 cfg0.N = val_main_v121 (F := Ideal) (aC m c) (aG m c) (aB m c) (aW m c) (aT m c) (aD m c) := by
  refine (dats (F := Ideal) m 0 c).arrAt_eq_of_covers 10 _ (by decide +kernel) fun t' _ y => ?_
  blk_simp
  rw [after0_10]
  have hN := N_0
  have ht : t'.val < 8 := lt_of_lt_of_eq t'.isLt N_0
  idx_vars y
  have hr : (⟨t'.val * 512 + y0.val, by omega⟩ : Fin 4096).val = t'.val * 512 + y0.val := rfl
  generalize (⟨t'.val * 512 + y0.val, by omega⟩ : Fin 4096) = r at hr
  have he : ((View.whole main_v57_1).slice (win0_10.rect t')).emb (ix2 y0 y1) = ix2 r y1 := by blk_ext [idx t']
  rw [he, ref_dcv _ _ _ _ _ _ (x r) r (H.hx r) g b H.hg H.hb w t (δ r) H.hw H.ht (H.hd r)]
  have h : t'.val % 8 = 0 ∧ ¬t'.val % 8 = 7 ∨ ¬t'.val % 8 = 0 ∧ ¬t'.val % 8 = 7 ∨ ¬t'.val % 8 = 0 ∧ t'.val % 8 = 7 := by omega
  rcases h with ⟨h0, h1⟩ | ⟨h0, h1⟩ | ⟨h0, h1⟩
  on_goal 1 => rw [outsAt0_A m c t' h0 h1]
  on_goal 2 => rw [outsAt0_B m c t' h0 h1]
  on_goal 3 => rw [outsAt0_C m c t' h0 h1]
  all_goals frame_out
  all_goals exact dcv_at _ (x r) y0 (cv_at m c x h p g b w t δ H t' y0 r hr) _ g _ _ y1 (g_at m c x h p g b w t δ H t' y0 r hr) (dz_point m c x h p g b w t δ H t' y0 r hr)

theorem dhr_final : (dats (F := Ideal) m 0 c).arrAt 11 cfg0.N = val_main_v122 (F := Ideal) (aP m c) (aW m c) (aT m c) (aD m c) := by
  refine (dats (F := Ideal) m 0 c).arrAt_eq_of_covers 11 _ (by decide +kernel) fun t' _ y => ?_
  blk_simp
  rw [after0_11]
  have hN := N_0
  have ht : t'.val < 8 := lt_of_lt_of_eq t'.isLt N_0
  idx_vars y
  have hr : (⟨t'.val * 512 + y0.val, by omega⟩ : Fin 4096).val = t'.val * 512 + y0.val := rfl
  generalize (⟨t'.val * 512 + y0.val, by omega⟩ : Fin 4096) = r at hr
  have he : ((View.whole main_v57_2).slice (win0_11.rect t')).emb (ix2 y0 y1) = ix2 r y1 := by blk_ext [idx t']
  rw [he, ref_dhr _ _ _ _ (p r (uy y1)) r y1 (H.hp r _) w t (δ r) H.hw H.ht (H.hd r)]
  have h : t'.val % 8 = 0 ∧ ¬t'.val % 8 = 7 ∨ ¬t'.val % 8 = 0 ∧ ¬t'.val % 8 = 7 ∨ ¬t'.val % 8 = 0 ∧ t'.val % 8 = 7 := by omega
  rcases h with ⟨h0, h1⟩ | ⟨h0, h1⟩ | ⟨h0, h1⟩
  on_goal 1 => rw [outsAt0_A m c t' h0 h1]
  on_goal 2 => rw [outsAt0_B m c t' h0 h1]
  on_goal 3 => rw [outsAt0_C m c t' h0 h1]
  all_goals frame_out
  all_goals exact dhr_at _ _ y0 y1 ((blk_uy m c t' y0 y1 r hr).trans (H.hp r _)) _ _ (dr_at m c x h p g b w t δ H t' y0 r hr y1)

theorem duy_final : (dats (F := Ideal) m 0 c).arrAt 12 cfg0.N = val_main_v123 (F := Ideal) (aH m c) (aP m c) (aW m c) (aT m c) (aD m c) := by
  refine (dats (F := Ideal) m 0 c).arrAt_eq_of_covers 12 _ (by decide +kernel) fun t' _ y => ?_
  blk_simp
  rw [after0_12]
  have hN := N_0
  have ht : t'.val < 8 := lt_of_lt_of_eq t'.isLt N_0
  idx_vars y
  have hr : (⟨t'.val * 512 + y0.val, by omega⟩ : Fin 4096).val = t'.val * 512 + y0.val := rfl
  generalize (⟨t'.val * 512 + y0.val, by omega⟩ : Fin 4096) = r at hr
  have he : ((View.whole main_v57_3).slice (win0_12.rect t')).emb (ix2 y0 y1) = ix2 r y1 := by blk_ext [idx t']
  rw [he, ref_duy _ _ _ _ _ (p r (uy y1)) r y1 (H.hp r _) w t (δ r) H.hw H.ht (H.hd r) _ (H.hh r y1)]
  have h : t'.val % 8 = 0 ∧ ¬t'.val % 8 = 7 ∨ ¬t'.val % 8 = 0 ∧ ¬t'.val % 8 = 7 ∨ ¬t'.val % 8 = 0 ∧ t'.val % 8 = 7 := by omega
  rcases h with ⟨h0, h1⟩ | ⟨h0, h1⟩ | ⟨h0, h1⟩
  on_goal 1 => rw [outsAt0_A m c t' h0 h1]
  on_goal 2 => rw [outsAt0_B m c t' h0 h1]
  on_goal 3 => rw [outsAt0_C m c t' h0 h1]
  all_goals frame_out
  all_goals exact duy_at _ _ y0 y1 ((blk_uy m c t' y0 y1 r hr).trans (H.hp r _)) _ _ _ _ (dr_at m c x h p g b w t δ H t' y0 r hr y1) ((blk_hr m c t' y0 y1 r hr).trans (H.hh r y1))

end Cert.MixOut

end
-- ==== Proof.MixOut.Acc.lean ====
module

public import proofs.«01_k».proof.Proof.Gen.KernelMixOutIdeal.Value
public import proofs.«01_k».proof.Proof.MixOut.Blocks
public import proofs.«01_k».proof.Proof.MixOut.Pays
public import proofs.«01_k».proof.Proof.MixOut.Tiles

@[expose] public section

set_option maxRecDepth 16384

noncomputable section

namespace Cert.MixOut

open Idealize.ShloMosaic Idealize.ShloMosaic.TcCoe Idealize.SL.Sem
open Idealize.ShloMosaic.Pipeline (Dat)
open Cert.KernelMixOutIdeal Cert.KernelMixOutIdeal.Gen
open Cert.ReferenceMixOutIdeal.Read Cert.Lift

variable (m : (ℓ : Loc nD τ sig) → Buf (Elt Ideal) ℓ)

/-! The kernel's sums over a tile's rows, and the reference's over all rows. -/

theorem dw_pay (D : FVec Ideal S512x1024 .f32) (T : FVec Ideal S1x1024 .f32) (A : FVec Ideal S1024x1024 .f32) (Y : FVec Ideal S512x1024 .bf16) (j k : Fin 1024) :
    k0_pay6 (F := Ideal) D T A Y (ix2 j k) = A (ix2 j k) + ∑ i, Y (ix2 i j) * (T (ix2 0 k) * D (ix2 i k)) := by
  pointwise [k0_pay6, k0_pay5]
theorem dgt_pay (D : FVec Ideal S512x1024 .f32) (A : FVec Ideal S1x1024 .f32) (Y : FVec Ideal S512x1024 .bf16) (k : Fin 1024) :
    k0_pay7 (F := Ideal) D A Y (ix2 0 k) = A (ix2 0 k) + ∑ i, D (ix2 i k) * Y (ix2 i k) := by
  pointwise [k0_pay7]
theorem dg_pay (E Z : FVec Ideal S512x512 .f32) (A : FVec Ideal S1x512 .f32) (d : Fin 512) :
    k0_pay14 (F := Ideal) Z E A (ix2 0 d) = A (ix2 0 d) + ∑ i, E (ix2 i d) * Z (ix2 i d) := by
  pointwise [k0_pay14]
theorem db_pay (E : FVec Ideal S512x512 .f32) (A : FVec Ideal S1x512 .f32) (d : Fin 512) :
    k0_pay15 (F := Ideal) E A (ix2 0 d) = A (ix2 0 d) + ∑ i, E (ix2 i d) := by
  pointwise [k0_pay15]

section ref
variable (C H : FVec Ideal S4096x512 .f32) (P : FVec Ideal S4096x2048 .f32) (G B : FVec Ideal S512 .f32) (W : FVec Ideal S1024x1024 .f32) (T : FVec Ideal S1024 .f32) (D : FVec Ideal S4096x1024 .f32)

theorem ref_dw (j k : Fin 1024) : val_main_v120 (F := Ideal) C H P G B T D (ix2 j k) = ∑ r, val_main_v55 (F := Ideal) C H P G B (ix2 r j) * (T (ix1 k) * D (ix2 r k)) := by
  pointwise [val_main_v120, val_main_v65, val_main_v64, val_main_v60, val_main_v59, val_main_v54]
  exact Finset.sum_congr rfl fun r _ => mul_comm _ _

/-- The table of the normalisation's gradients: the gain's, then the shift's. -/
theorem ref_dln (i : Fin 8) (d : Fin 512) : val_main_v132 (F := Ideal) C G B W T D (ix2 i d) = if i = 0 then ∑ r, val_main_v84 (F := Ideal) C G B W T D (ix2 r d) * val_main_v23 (F := Ideal) C (ix2 r d)
    else if i = 1 then ∑ r, val_main_v84 (F := Ideal) C G B W T D (ix2 r d) else 0 := by
  obtain rfl | rfl | rfl | rfl | rfl | rfl | rfl | rfl : i = 0 ∨ i = 1 ∨ i = 2 ∨ i = 3 ∨ i = 4 ∨ i = 5 ∨ i = 6 ∨ i = 7 := by omega
  all_goals pointwise [val_main_v132, val_main_v124, val_main_v125, val_main_v126, val_main_v127, val_main_v128, val_main_v129, val_main_v130, val_main_v131, val_main_v118, val_main_cst_29,
    val_main_v93, val_main_cst_21, val_main_v90, val_main_v89, val_main_cst_20, val_main_v88, val_main_v87, val_main_cst_19, val_main_v86, val_main_v85, val_main_cst_18]
  all_goals try simp only [zero_add, Finset.univ_unique, Finset.sum_singleton]
  · exact Finset.sum_congr rfl fun r _ => mul_comm _ _
  all_goals rfl

theorem ref_dgt (i : Fin 8) (k : Fin 1024) : val_main_v141 (F := Ideal) C H P G B W D (ix2 i k) = if i = 0 then ∑ r, D (ix2 r k) * val_main_v56 (F := Ideal) C H P G B W (ix2 r k) else 0 := by
  obtain rfl | rfl | rfl | rfl | rfl | rfl | rfl | rfl : i = 0 ∨ i = 1 ∨ i = 2 ∨ i = 3 ∨ i = 4 ∨ i = 5 ∨ i = 6 ∨ i = 7 := by omega
  all_goals pointwise [val_main_v141, val_main_v133, val_main_v134, val_main_v135, val_main_v136, val_main_v137, val_main_v138, val_main_v139, val_main_v140, val_main_v119, val_main_cst_30,
    val_main_v69, val_main_cst_15, val_main_v63, val_main_v62, val_main_cst_14, val_main_v61]
  all_goals try simp only [zero_add, Finset.univ_unique, Finset.sum_singleton]
  all_goals rfl
end ref

variable (c : Dev nD)

/-- What tile `p` adds to the gradient of the weights, of the residual's scale, and of the normalisation's gain and shift. -/
def qw (j k : Fin 1024) (p : ℕ) : EReal := ∑ i : Fin 512, val_main_v55 (F := Ideal) (aC m c) (aH m c) (aP m c) (aG m c) (aB m c) (ix2 (tileRow 4096 512 p i) j) * (aT m c (ix1 k) * aD m c (ix2 (tileRow 4096 512 p i) k))
def qt (k : Fin 1024) (p : ℕ) : EReal := ∑ i : Fin 512, aD m c (ix2 (tileRow 4096 512 p i) k) * val_main_v56 (F := Ideal) (aC m c) (aH m c) (aP m c) (aG m c) (aB m c) (aW m c) (ix2 (tileRow 4096 512 p i) k)
def qg (d : Fin 512) (p : ℕ) : EReal := ∑ i : Fin 512, val_main_v84 (F := Ideal) (aC m c) (aG m c) (aB m c) (aW m c) (aT m c) (aD m c) (ix2 (tileRow 4096 512 p i) d) * val_main_v23 (F := Ideal) (aC m c) (ix2 (tileRow 4096 512 p i) d)
def qb (d : Fin 512) (p : ℕ) : EReal := ∑ i : Fin 512, val_main_v84 (F := Ideal) (aC m c) (aG m c) (aB m c) (aW m c) (aT m c) (aD m c) (ix2 (tileRow 4096 512 p i) d)

section step
variable (t : Fin cfg0.N)

theorem dw_step (A : FVec Ideal S1024x1024 .f32) (j k : Fin 1024) :
    k0_pay6 (iblk (F := Ideal) m c 0 t) (View.ld (iblk (F := Ideal) m c 6 t) (Rect.unit ![3, 0] ![1, 1024] inb_S8x1024_S1x1024_3_0)) A (iblk (F := Ideal) m c 2 t) (ix2 j k) = A (ix2 j k) + qw m c j k t.val := by
  have ht : t.val < 8 := lt_of_lt_of_eq t.isLt N_0
  refine (dw_pay _ _ _ _ j k).trans (congrArg _ (Finset.sum_congr rfl fun i _ => ?_))
  have hr := tileRow_val (N := 4096) (p := t.val) i (by omega)
  have hv : View.ld (iblk (F := Ideal) m c 6 t) (Rect.unit ![3, 0] ![1, 1024] inb_S8x1024_S1x1024_3_0) (ix2 0 k) = aT m c (ix1 k) := by
    refine Eq.trans ?_ (blk_t m c t k)
    pointwise
  exact congrArg₂ (· * ·) (blk_ycat m c t i j _ hr) (congrArg₂ (· * ·) hv (blk_dx m c t i k _ hr))

theorem dgt_step (A : FVec Ideal S1x1024 .f32) (k : Fin 1024) :
    k0_pay7 (iblk (F := Ideal) m c 0 t) A (iblk (F := Ideal) m c 1 t) (ix2 0 k) = A (ix2 0 k) + qt m c k t.val := by
  have ht : t.val < 8 := lt_of_lt_of_eq t.isLt N_0
  refine (dgt_pay _ _ _ k).trans (congrArg _ (Finset.sum_congr rfl fun i _ => ?_))
  have hr := tileRow_val (N := 4096) (p := t.val) i (by omega)
  exact congrArg₂ (· * ·) (blk_dx m c t i k _ hr) (blk_ym m c t i k _ hr)

/-- The gradient of the normalised units, as the kernel computes it at a tile. -/
abbrev dzk : FVec Ideal S512x512 .f32 :=
  k0_pay13 (k0_pay8 (iblk (F := Ideal) m c 0 t) (View.ld (iblk (F := Ideal) m c 6 t) (Rect.unit ![3, 0] ![1, 1024] inb_S8x1024_S1x1024_3_0))
          (View.ld (iblk (F := Ideal) m c 8 t) (Rect.unit ![0, 0] ![512, 1024] inb_S1024x1024_S512x1024_0_0)))
        (iblk (F := Ideal) m c 3 t) (View.ld (iblk (F := Ideal) m c 7 t) (Rect.unit ![0, 0] ![1, 512] inb_S8x512_S1x512_0_0))
        (View.ld (iblk (F := Ideal) m c 7 t) (Rect.unit ![1, 0] ![1, 512] inb_S8x512_S1x512_1_0))

variable (x h : Fin 4096 → Fin 512 → ℝ) (p : Fin 4096 → Fin 2048 → ℝ) (g b : Fin 512 → ℝ) (w : Fin 1024 → Fin 1024 → ℝ) (s : Fin 1024 → ℝ) (δ : Fin 4096 → Fin 1024 → ℝ) (H : Reals m c x h p g b w s δ)
include H

theorem dz_ref (i d : Fin 512) (r : Fin 4096) (hr : r.val = t.val * 512 + i.val) : dzk m c t (ix2 i d) = val_main_v84 (F := Ideal) (aC m c) (aG m c) (aB m c) (aW m c) (aT m c) (aD m c) (ix2 r d) :=
  (dz_point m c x h p g b w s δ H t i r hr d).trans (ref_dz _ _ _ _ _ _ (x r) r (H.hx r) g b H.hg H.hb w s (δ r) H.hw H.ht (H.hd r) d).symm

theorem dg_step (A : FVec Ideal S1x512 .f32) (d : Fin 512) :
    k0_pay14 (k0_pay12 (iblk (F := Ideal) m c 3 t)) (dzk m c t) A (ix2 0 d) = A (ix2 0 d) + qg m c d t.val := by
  have ht : t.val < 8 := lt_of_lt_of_eq t.isLt N_0
  refine (dg_pay _ _ _ d).trans (congrArg _ (Finset.sum_congr rfl fun i _ => ?_))
  have hr := tileRow_val (N := 4096) (p := t.val) i (by omega)
  exact congrArg₂ (· * ·) (dz_ref m c t x h p g b w s δ H i d _ hr)
    ((hat_at _ (x _) i (cv_at m c x h p g b w s δ H t i _ hr) d).trans (ref_hat _ _ _ (H.hx _) d).symm)

theorem db_step (A : FVec Ideal S1x512 .f32) (d : Fin 512) :
    k0_pay15 (dzk m c t) A (ix2 0 d) = A (ix2 0 d) + qb m c d t.val := by
  have ht : t.val < 8 := lt_of_lt_of_eq t.isLt N_0
  refine (db_pay _ _ d).trans (congrArg _ (Finset.sum_congr rfl fun i _ => ?_))
  exact dz_ref m c t x h p g b w s δ H i d _ (tileRow_val (N := 4096) (p := t.val) i (by omega))
end step

section carried
variable (t : Fin cfg0.N)

theorem first_w (h : t.val = 0) (j k : Fin 1024) : (outsAt0 (F := Ideal) m c t.val t.isLt).2.2.2.2.2.2 (ix2 j k) = qw m c j k t.val := by
  rw [outsAt0_A m c t (by omega) (by omega)]
  frame_out
  refine (dw_step m c t _ j k).trans ?_
  rw [show k0_pay4 (F := Ideal) (ix2 j k) = 0 by pointwise [k0_pay4], zero_add]

theorem next_w (h : ¬t.val % 8 = 0) (j k : Fin 1024) (hp : t.val - 1 < cfg0.N) :
    (outsAt0 (F := Ideal) m c t.val t.isLt).2.2.2.2.2.2 (ix2 j k) = (outsAt0 (F := Ideal) m c (t.val - 1) hp).2.2.2.2.2.2 (ix2 j k) + qw m c j k t.val := by
  by_cases h7 : t.val % 8 = 7
  on_goal 1 => rw [outsAt0_C m c t h h7]
  on_goal 2 => rw [outsAt0_B m c t h h7]
  all_goals frame_out
  all_goals
    exact (dw_step m c t _ j k).trans (congrArg (· + _) (congrFun (Memref.IsWhole.read_unread (m := Memref.whole cc0_scratch0) _ _) _))

theorem first_t (h : t.val = 0) (k : Fin 1024) : (outsAt0 (F := Ideal) m c t.val t.isLt).2.2.2.2.2.1 (ix2 0 k) = qt m c k t.val
    ∧ ∀ i : Fin 8, 1 ≤ i.val → (outsAt0 (F := Ideal) m c t.val t.isLt).2.2.2.2.2.1 (ix2 i k) = 0 := by
  rw [outsAt0_A m c t (by omega) (by omega)]
  frame_out
  have z (i : Fin 8) : k0_pay3 (F := Ideal) (ix2 i k) = 0 := by pointwise [k0_pay3]
  refine ⟨?_, fun i hi => ?_⟩
  · refine (row_hit _ _ _ _ 0 _ rfl).trans ((dgt_step m c t _ k).trans ?_)
    rw [row_cov _ _ _ 0 _ _ rfl, row_hit _ _ _ _ 0 _ rfl, z, zero_add]
  · exact (row_miss _ _ _ _ _ (.inr hi)).trans ((row_hit _ _ _ _ i _ (Nat.zero_add _).symm).trans (z i))

theorem next_t (h : ¬t.val % 8 = 0) (k : Fin 1024) (hp : t.val - 1 < cfg0.N) :
    (outsAt0 (F := Ideal) m c t.val t.isLt).2.2.2.2.2.1 (ix2 0 k) = (outsAt0 (F := Ideal) m c (t.val - 1) hp).2.2.2.2.2.1 (ix2 0 k) + qt m c k t.val
    ∧ ∀ i : Fin 8, 1 ≤ i.val → (outsAt0 (F := Ideal) m c t.val t.isLt).2.2.2.2.2.1 (ix2 i k) = (outsAt0 (F := Ideal) m c (t.val - 1) hp).2.2.2.2.2.1 (ix2 i k) := by
  by_cases h7 : t.val % 8 = 7
  on_goal 1 => rw [outsAt0_C m c t h h7]
  on_goal 2 => rw [outsAt0_B m c t h h7]
  all_goals frame_out
  all_goals
    refine ⟨?_, fun i hi => ?_⟩
    · refine (row_hit' _ _ _ _ _ _ 0 _ rfl).trans ((dgt_step m c t _ k).trans (congrArg (· + _) ?_))
      pointwise
    · exact (row_miss' _ _ _ _ _ _ _ (.inr hi)).trans (congrFun ((hs0_14 t).read_unread _) _)

variable (x h : Fin 4096 → Fin 512 → ℝ) (p : Fin 4096 → Fin 2048 → ℝ) (g b : Fin 512 → ℝ) (w : Fin 1024 → Fin 1024 → ℝ) (s : Fin 1024 → ℝ) (δ : Fin 4096 → Fin 1024 → ℝ) (H : Reals m c x h p g b w s δ)
include H

theorem first_n (h0 : t.val = 0) (d : Fin 512) : (outsAt0 (F := Ideal) m c t.val t.isLt).2.2.2.2.1 (ix2 0 d) = qg m c d t.val ∧ (outsAt0 (F := Ideal) m c t.val t.isLt).2.2.2.2.1 (ix2 1 d) = qb m c d t.val
    ∧ ∀ i : Fin 8, 2 ≤ i.val → (outsAt0 (F := Ideal) m c t.val t.isLt).2.2.2.2.1 (ix2 i d) = 0 := by
  rw [outsAt0_A m c t (by omega) (by omega)]
  frame_out
  have z (i : Fin 8) : k0_pay2 (F := Ideal) (ix2 i d) = 0 := by pointwise [k0_pay2]
  refine ⟨?_, ?_, fun i hi => ?_⟩
  · refine (row_miss _ _ _ _ _ (.inl Nat.one_pos)).trans ((row_hit _ _ _ _ 0 _ rfl).trans ((dg_step m c t x h p g b w s δ H _ d).trans ?_))
    rw [row_cov _ _ _ 0 _ _ rfl, row_hit _ _ _ _ 0 _ rfl, z, zero_add]
  · refine (row_hit _ _ _ _ 0 _ rfl).trans ((db_step m c t x h p g b w s δ H _ d).trans ?_)
    rw [row_cov _ _ _ 1 _ _ rfl, row_miss _ _ _ _ _ (.inr (by decide)), row_hit _ _ _ _ 1 _ rfl, z, zero_add]
  · exact (row_miss _ _ _ _ _ (.inr hi)).trans ((row_miss _ _ _ _ _ (.inr (by omega))).trans ((row_hit _ _ _ _ i _ (Nat.zero_add _).symm).trans (z i)))

theorem next_n (h0 : ¬t.val % 8 = 0) (d : Fin 512) (hp : t.val - 1 < cfg0.N) :
    (outsAt0 (F := Ideal) m c t.val t.isLt).2.2.2.2.1 (ix2 0 d) = (outsAt0 (F := Ideal) m c (t.val - 1) hp).2.2.2.2.1 (ix2 0 d) + qg m c d t.val
    ∧ (outsAt0 (F := Ideal) m c t.val t.isLt).2.2.2.2.1 (ix2 1 d) = (outsAt0 (F := Ideal) m c (t.val - 1) hp).2.2.2.2.1 (ix2 1 d) + qb m c d t.val
    ∧ ∀ i : Fin 8, 2 ≤ i.val → (outsAt0 (F := Ideal) m c t.val t.isLt).2.2.2.2.1 (ix2 i d) = (outsAt0 (F := Ideal) m c (t.val - 1) hp).2.2.2.2.1 (ix2 i d) := by
  by_cases h7 : t.val % 8 = 7
  on_goal 1 => rw [outsAt0_C m c t h0 h7]
  on_goal 2 => rw [outsAt0_B m c t h0 h7]
  all_goals frame_out
  all_goals
    refine ⟨?_, ?_, fun i hi => ?_⟩
    · refine (row_miss' _ _ _ _ _ _ _ (.inl Nat.one_pos)).trans ((row_hit' _ _ _ _ _ _ 0 _ rfl).trans ((dg_step m c t x h p g b w s δ H _ d).trans (congrArg (· + _) ?_)))
      pointwise
    · refine (row_hit' _ _ _ _ _ _ 0 _ rfl).trans ((db_step m c t x h p g b w s δ H _ d).trans (congrArg (· + _) ?_))
      pointwise
    · exact (row_miss' _ _ _ _ _ _ _ (.inr hi)).trans ((row_miss' _ _ _ _ _ _ _ (.inr (by omega))).trans (congrFun ((hs0_13 t).read_unread _) _))
end carried

theorem later (n : ℕ) (hn : n + 1 < cfg0.N) : ¬(n + 1) % 8 = 0 := by
  have : n + 1 < 8 := lt_of_lt_of_eq hn N_0
  omega

theorem dw_final : (dats (F := Ideal) m 0 c).arrAt 9 cfg0.N = val_main_v120 (F := Ideal) (aC m c) (aH m c) (aP m c) (aG m c) (aB m c) (aT m c) (aD m c) := by
  refine (dats (F := Ideal) m 0 c).arrAt_eq_of_after_last 9 t0_7 (by decide +kernel) _ fun j => ?_
  blk_simp
  rw [after0_9]
  idx_vars j
  have e : (outsAt0 (F := Ideal) m c t0_7.val t0_7.isLt).1 (ix2 j0 j1) = (outsAt0 (F := Ideal) m c t0_7.val t0_7.isLt).2.2.2.2.2.2 (ix2 j0 j1) := by
    rw [outsAt0_C m c t0_7 (by decide) (by decide)]
    frame_out
    rfl
  rw [e, ref_dw, carry (fun n hn => (outsAt0 (F := Ideal) m c n hn).2.2.2.2.2.2 (ix2 j0 j1)) (qw m c j0 j1) (fun hn => first_w m c ⟨0, hn⟩ rfl j0 j1)
    (fun n hn => next_w m c ⟨n + 1, hn⟩ (later n hn) j0 j1 _) t0_7.val t0_7.isLt]
  exact sum_tiles (N := 4096) (n := 512) (P := 8) rfl fun r => val_main_v55 (F := Ideal) (aC m c) (aH m c) (aP m c) (aG m c) (aB m c) (ix2 r j0) * (aT m c (ix1 j1) * aD m c (ix2 r j1))

/-- Rows that nothing is added to stay zero. -/
theorem stay {N : ℕ} (o : (n : ℕ) → n < N → EReal) (h0 : ∀ h, o 0 h = 0) (hs : ∀ n (h : n + 1 < N), o (n + 1) h = o n (Nat.lt_of_succ_lt h)) : ∀ n h, o n h = 0
  | 0, h => h0 h
  | n + 1, h => (hs n h).trans (stay o h0 hs n _)

theorem dgt_final : (dats (F := Ideal) m 0 c).arrAt 14 cfg0.N = val_main_v141 (F := Ideal) (aC m c) (aH m c) (aP m c) (aG m c) (aB m c) (aW m c) (aD m c) := by
  refine (dats (F := Ideal) m 0 c).arrAt_eq_of_after_last 14 t0_7 (by decide +kernel) _ fun j => ?_
  blk_simp
  rw [after0_14]
  idx_vars j
  rw [ref_dgt]
  by_cases hj : j0 = 0
  · subst hj
    rw [if_pos rfl, carry (fun n hn => (outsAt0 (F := Ideal) m c n hn).2.2.2.2.2.1 (ix2 0 j1)) (qt m c j1) (fun hn => (first_t m c ⟨0, hn⟩ rfl j1).1)
      (fun n hn => (next_t m c ⟨n + 1, hn⟩ (later n hn) j1 _).1) t0_7.val t0_7.isLt]
    exact sum_tiles (N := 4096) (n := 512) (P := 8) rfl fun r => aD m c (ix2 r j1) * val_main_v56 (F := Ideal) (aC m c) (aH m c) (aP m c) (aG m c) (aB m c) (aW m c) (ix2 r j1)
  · rw [if_neg hj]
    exact stay (fun n hn => (outsAt0 (F := Ideal) m c n hn).2.2.2.2.2.1 (ix2 j0 j1)) (fun hn => (first_t m c ⟨0, hn⟩ rfl j1).2 j0 (by omega))
      (fun n hn => (next_t m c ⟨n + 1, hn⟩ (later n hn) j1 _).2 j0 (by omega)) t0_7.val t0_7.isLt

variable (x h : Fin 4096 → Fin 512 → ℝ) (p : Fin 4096 → Fin 2048 → ℝ) (g b : Fin 512 → ℝ) (w : Fin 1024 → Fin 1024 → ℝ) (s : Fin 1024 → ℝ) (δ : Fin 4096 → Fin 1024 → ℝ) (H : Reals m c x h p g b w s δ)
include H

theorem dln_final : (dats (F := Ideal) m 0 c).arrAt 13 cfg0.N = val_main_v132 (F := Ideal) (aC m c) (aG m c) (aB m c) (aW m c) (aT m c) (aD m c) := by
  refine (dats (F := Ideal) m 0 c).arrAt_eq_of_after_last 13 t0_7 (by decide +kernel) _ fun j => ?_
  blk_simp
  rw [after0_13]
  idx_vars j
  rw [ref_dln]
  by_cases hj : j0 = 0
  · subst hj
    rw [if_pos rfl, carry (fun n hn => (outsAt0 (F := Ideal) m c n hn).2.2.2.2.1 (ix2 0 j1)) (qg m c j1) (fun hn => (first_n m c ⟨0, hn⟩ x h p g b w s δ H rfl j1).1)
      (fun n hn => (next_n m c ⟨n + 1, hn⟩ x h p g b w s δ H (later n hn) j1 _).1) t0_7.val t0_7.isLt]
    exact sum_tiles (N := 4096) (n := 512) (P := 8) rfl fun r => val_main_v84 (F := Ideal) (aC m c) (aG m c) (aB m c) (aW m c) (aT m c) (aD m c) (ix2 r j1) * val_main_v23 (F := Ideal) (aC m c) (ix2 r j1)
  rw [if_neg hj]
  by_cases h1 : j0 = 1
  · subst h1
    rw [if_pos rfl, carry (fun n hn => (outsAt0 (F := Ideal) m c n hn).2.2.2.2.1 (ix2 1 j1)) (qb m c j1) (fun hn => (first_n m c ⟨0, hn⟩ x h p g b w s δ H rfl j1).2.1)
      (fun n hn => (next_n m c ⟨n + 1, hn⟩ x h p g b w s δ H (later n hn) j1 _).2.1) t0_7.val t0_7.isLt]
    exact sum_tiles (N := 4096) (n := 512) (P := 8) rfl fun r => val_main_v84 (F := Ideal) (aC m c) (aG m c) (aB m c) (aW m c) (aT m c) (aD m c) (ix2 r j1)
  · rw [if_neg h1]
    exact stay (fun n hn => (outsAt0 (F := Ideal) m c n hn).2.2.2.2.1 (ix2 j0 j1)) (fun hn => (first_n m c ⟨0, hn⟩ x h p g b w s δ H rfl j1).2.2 j0 (by omega))
      (fun n hn => (next_n m c ⟨n + 1, hn⟩ x h p g b w s δ H (later n hn) j1 _).2.2 j0 (by omega)) t0_7.val t0_7.isLt

end Cert.MixOut

end
-- ==== Proof.MixOut.Claim.lean ====
/- The backward of the output side of a mixer block: the kernel computes the derivative of the gated
   normalisation and the gated recurrence, concatenated and multiplied by `w_out`, on finite arguments. -/
module

public import proofs.«01_k».proof.Defs
public import proofs.«01_k».proof.Proof.MixOut.Acc
public import proofs.«01_k».proof.Proof.Gen.ReferenceMixOutIdeal.Run
public import proofs.«01_k».proof.Proof.Gen.Pre_mixout_finite

@[expose] public section

set_option maxRecDepth 16384

noncomputable section

namespace Cert.MixOut

open Idealize.ShloMosaic Idealize.ShloMosaic.TcCoe Idealize.SL.Sem Cert.KernelMixOutIdeal Cert.KernelMixOutIdeal.Gen Cert.ReferenceMixOutIdeal.Read Cert.Lift

variable (m : (ℓ : Loc nD τ sig) → Buf (Elt Ideal) ℓ)

theorem reals (h : Cert.Pre_KernelMixOutIdeal_mixout_finite m) (c : Dev nD) : ∃ x h p g b w t δ, Reals m c x h p g b w t δ := by
  obtain ⟨h0, h1, h2, h3, h4, h5, h6, h7⟩ := h c
  obtain ⟨x, hx⟩ := reals_of h0
  obtain ⟨h, hh⟩ := reals_of h1
  obtain ⟨p, hp⟩ := reals_of h2
  obtain ⟨g, hg⟩ := reals_of h3
  obtain ⟨b, hb⟩ := reals_of h4
  obtain ⟨w, hw⟩ := reals_of h5
  obtain ⟨t, ht⟩ := reals_of h6
  obtain ⟨δ, hd⟩ := reals_of h7
  exact ⟨fun r k => x (ix2 r k), fun r k => h (ix2 r k), fun r k => p (ix2 r k), fun k => g (ix1 k), fun k => b (ix1 k), fun j k => w (ix2 j k), fun k => t (ix1 k), fun r k => δ (ix2 r k),
    ⟨fun _ _ => hx _, fun _ _ => hh _, fun _ _ => hp _, fun _ => hg _, fun _ => hb _, fun _ _ => hw _, fun _ => ht _, fun _ _ => hd _⟩⟩

theorem ref_frame : Cert.quiescent_ReferenceMixOutIdeal := fun m ρ _ =>
  (θ_run Cert.ReferenceMixOutIdeal.defs _ _).mono (fun r h => ⟨fun c => (h c).2.2.2.2.2.2, sem_eq_zero_of_no_sems (by decide) r.2⟩)
    (Cert.ReferenceMixOutIdeal.Value.run m ρ)

/-- The two named constants of the kernel's tanh are the numbers they stand for. -/
theorem preserves : Cert.preserves_KernelMixOut_KernelMixOutIdeal :=
  ⟨IdealRules.named_const.statement Cert.KernelMixOutIdeal.κ "gelu_c" .f32 0x3D372713#32 ((8943 / 200000 : ℝ) : EReal) rfl,
    IdealRules.named_const.statement Cert.KernelMixOutIdeal.κ "gelu_3c" .f32 0x3E095D4F#32 ((26829 / 200000 : ℝ) : EReal) rfl⟩

/-- Every result of the kernel is the reference's, of equal arguments. -/
theorem final (c : Dev nD) (x h : Fin 4096 → Fin 512 → ℝ) (p : Fin 4096 → Fin 2048 → ℝ) (g b : Fin 512 → ℝ) (w : Fin 1024 → Fin 1024 → ℝ) (t : Fin 1024 → ℝ) (δ : Fin 4096 → Fin 1024 → ℝ) (R : Reals m c x h p g b w t δ)
    (C : FVec Ideal S4096x512 .f32) (H : FVec Ideal S4096x512 .f32) (P : FVec Ideal S4096x2048 .f32) (G : FVec Ideal S512 .f32) (B : FVec Ideal S512 .f32) (W : FVec Ideal S1024x1024 .f32) (T : FVec Ideal S1024 .f32) (D : FVec Ideal S4096x1024 .f32)
    (e0 : C = aC m c) (e1 : H = aH m c) (e2 : P = aP m c) (e3 : G = aG m c) (e4 : B = aB m c) (e5 : W = aW m c) (e6 : T = aT m c) (e7 : D = aD m c) :
    val_main_v120 (F := Ideal) C H P G B T D = (dats (F := Ideal) m 0 c).arrAt 9 cfg0.N
    ∧ val_main_v121 (F := Ideal) C G B W T D = (dats (F := Ideal) m 0 c).arrAt 10 cfg0.N
    ∧ val_main_v122 (F := Ideal) P W T D = (dats (F := Ideal) m 0 c).arrAt 11 cfg0.N
    ∧ val_main_v123 (F := Ideal) H P W T D = (dats (F := Ideal) m 0 c).arrAt 12 cfg0.N
    ∧ val_main_v132 (F := Ideal) C G B W T D = (dats (F := Ideal) m 0 c).arrAt 13 cfg0.N
    ∧ val_main_v141 (F := Ideal) C H P G B W D = (dats (F := Ideal) m 0 c).arrAt 14 cfg0.N := by
  subst e0 e1 e2 e3 e4 e5 e6 e7
  exact ⟨(dw_final m c).symm, (dcv_final m c x h p g b w t δ R).symm, (dhr_final m c x h p g b w t δ R).symm, (duy_final m c x h p g b w t δ R).symm, (dln_final m c x h p g b w t δ R).symm, (dgt_final m c).symm⟩

theorem algebraic : Cert.algebraic_KernelMixOutIdeal_ReferenceMixOutIdeal_pre_mixout_finite := by
  pair_intro
  · run_from Cert.KernelMixOutIdeal.Value.run_blocks m g
  · refine (θ_run Cert.ReferenceMixOutIdeal.defs _ _).mono (fun r h c => ?_) (Cert.ReferenceMixOutIdeal.Value.run m' g')
    obtain ⟨x, u, p, a, b, w, t, δ, H⟩ := reals m hpre c
    obtain ⟨q0, q1, q2, q3, q4, q5, q6, q7⟩ := hagree c
    obtain ⟨f0, f1, f2, f3, f4, f5⟩ := final m c x u p a b w t δ H
      (StableHlo.launchContents m' c (Proc.devRef .tc Cert.ReferenceMixOutIdeal.main_arg0))
      (StableHlo.launchContents m' c (Proc.devRef .tc Cert.ReferenceMixOutIdeal.main_arg1))
      (StableHlo.launchContents m' c (Proc.devRef .tc Cert.ReferenceMixOutIdeal.main_arg2))
      (StableHlo.launchContents m' c (Proc.devRef .tc Cert.ReferenceMixOutIdeal.main_arg3))
      (StableHlo.launchContents m' c (Proc.devRef .tc Cert.ReferenceMixOutIdeal.main_arg4))
      (StableHlo.launchContents m' c (Proc.devRef .tc Cert.ReferenceMixOutIdeal.main_arg5))
      (StableHlo.launchContents m' c (Proc.devRef .tc Cert.ReferenceMixOutIdeal.main_arg6))
      (StableHlo.launchContents m' c (Proc.devRef .tc Cert.ReferenceMixOutIdeal.main_arg7)) q0 q1 q2 q3 q4 q5 q6 q7
    obtain ⟨r0, r1, r2, r3, r4, r5, hargs⟩ := h c
    exact ⟨(r0.trans (val_main_v120_eq _)).trans f0,
      (r1.trans (val_main_v121_eq _)).trans f1,
      (r2.trans (val_main_v122_eq _)).trans f2,
      (r3.trans (val_main_v123_eq _)).trans f3,
      (r4.trans (val_main_v132_eq _)).trans f4,
      (r5.trans (val_main_v141_eq _)).trans f5, hargs⟩

end Cert.MixOut

end
-- ==== Proof.TableSum.Claim.lean ====
/- The sum of the devices' tables: the kernel adds the eight tables one after the other. -/
module

public import proofs.«01_k».proof.Defs
public import proofs.«01_k».proof.Proof.Gen.KernelTableSumIdeal.Value
public import proofs.«01_k».proof.Proof.Gen.ReferenceTableSumIdeal.Read
public import proofs.«01_k».proof.Proof.Gen.ReferenceTableSumIdeal.Run
public import proofs.«01_k».proof.Proof.Lift

@[expose] public section

set_option maxRecDepth 16384

noncomputable section

namespace Cert.TableSum

open Idealize.ShloMosaic Idealize.ShloMosaic.TcCoe Idealize.SL.Sem
open Idealize.ShloMosaic.Pipeline (Dat)
open Cert.KernelTableSumIdeal Cert.KernelTableSumIdeal.Gen Cert.ReferenceTableSumIdeal.Read Cert.Lift

variable (m : (ℓ : Loc nD τ sig) → Buf (Elt Ideal) ℓ)

theorem idx : ∀ t : Fin cfg0.N, win0_0.index t = ![0, 0, 0] ∧ win0_1.index t = ![0, 0, 0] ∧ win0_2.index t = ![0, 0] ∧ win0_3.index t = ![0, 0] := (by decide +kernel : ∀ t : Fin grid0.N, _)

/-- The arguments of the run, by name: the two stacks of tables. -/
def aE (c : Dev nD) : FVec Ideal S8x144x1024 .f32 := m ((c : Thread nD τ).loc main_arg0)
def aL (c : Dev nD) : FVec Ideal S8x8x1024 .f32 := m ((c : Thread nD τ).loc main_arg1)

section blocks
variable (c : Dev nD) (t : Fin cfg0.N) (d : Fin 8) (j : Fin 1024)

theorem blk_e (i : Fin 144) : iblk (F := Ideal) m c 0 t (ix3 d i j) = aE m c (ix3 d i j) := by unfold aE; blk_point [iblk, V, idx t]
theorem blk_l (i : Fin 8) : iblk (F := Ideal) m c 1 t (ix3 d i j) = aL m c (ix3 d i j) := by unfold aL; blk_point [iblk, V, idx t]

end blocks

theorem e_final (c : Dev nD) : (dats (F := Ideal) m 0 c).arrAt 2 cfg0.N = val_main_v0 (F := Ideal) (aE m c) := by
  refine (dats (F := Ideal) m 0 c).arrAt_eq_of_covers 2 _ (by decide +kernel) fun t _ y => ?_
  blk_simp
  rw [after0_2]
  idx_vars y
  have he : ((View.whole main_v0_0).slice (win0_2.rect t)).emb (ix2 y0 y1) = ix2 y0 y1 := by blk_ext [idx t]
  rw [he]
  unfold out0_2
  canon_tiles x h
  rw [eq_ix2 x, show x 0 = y0 from Fin.ext h0.symm, show x 1 = y1 from Fin.ext h1.symm]
  pointwise [k0_pay2, blk_e m c t, val_main_v0, val_main_cst, Fin.sum_univ_eight]

theorem l_final (c : Dev nD) : (dats (F := Ideal) m 0 c).arrAt 3 cfg0.N = val_main_v1 (F := Ideal) (aL m c) := by
  refine (dats (F := Ideal) m 0 c).arrAt_eq_of_covers 3 _ (by decide +kernel) fun t _ y => ?_
  blk_simp
  rw [after0_3]
  idx_vars y
  have he : ((View.whole main_v0_1).slice (win0_3.rect t)).emb (ix2 y0 y1) = ix2 y0 y1 := by blk_ext [idx t]
  rw [he]
  unfold out0_3
  canon_tiles x h
  rw [eq_ix2 x, show x 0 = y0 from Fin.ext h0.symm, show x 1 = y1 from Fin.ext h1.symm]
  pointwise [k0_pay1, k0_pay3, blk_l m c t, val_main_v1, val_main_cst_0, Fin.sum_univ_eight]

theorem ref_frame : Cert.quiescent_ReferenceTableSumIdeal := fun m ρ _ =>
  (θ_run Cert.ReferenceTableSumIdeal.defs _ _).mono (fun r h => ⟨fun c => (h c).2.2, sem_eq_zero_of_no_sems (by decide) r.2⟩)
    (Cert.ReferenceTableSumIdeal.Value.run m ρ)

/-- Both sums of the kernel are the reference's, of equal arguments. -/
theorem final (c : Dev nD) (E : FVec Ideal S8x144x1024 .f32) (L : FVec Ideal S8x8x1024 .f32) (e0 : E = aE m c) (e1 : L = aL m c) :
    val_main_v0 (F := Ideal) E = (dats (F := Ideal) m 0 c).arrAt 2 cfg0.N ∧ val_main_v1 (F := Ideal) L = (dats (F := Ideal) m 0 c).arrAt 3 cfg0.N := by
  subst e0 e1
  exact ⟨(e_final m c).symm, (l_final m c).symm⟩

theorem algebraic : Cert.algebraic_KernelTableSumIdeal_ReferenceTableSumIdeal := by
  pair_intro
  · run_from Cert.KernelTableSumIdeal.Value.run_blocks m g
  · refine (θ_run Cert.ReferenceTableSumIdeal.defs _ _).mono (fun r h c => ?_) (Cert.ReferenceTableSumIdeal.Value.run m' g')
    obtain ⟨q0, q1⟩ := hagree c
    obtain ⟨f0, f1⟩ := final m c _ _ q0 q1
    obtain ⟨r0, r1, hargs⟩ := h c
    exact ⟨(r0.trans (val_main_v0_eq _)).trans f0, (r1.trans (val_main_v1_eq _)).trans f1, hargs⟩

end Cert.TableSum

end
-- ==== Proof.ModUpdate.Claim.lean ====
/- The modulation's weight: the kernel computes its gradient, a sum over the batch, and the optimiser's step with it. -/
module

public import proofs.«01_k».proof.Defs
public import proofs.«01_k».proof.Proof.Gen.KernelModUpdateIdeal.Value
public import proofs.«01_k».proof.Proof.Gen.ReferenceModUpdateIdeal.Read
public import proofs.«01_k».proof.Proof.Gen.ReferenceModUpdateIdeal.Run
public import proofs.«01_k».proof.Proof.Lift

@[expose] public section

set_option maxRecDepth 16384

noncomputable section

namespace Cert.ModUpdate

open Idealize.ShloMosaic Idealize.ShloMosaic.TcCoe Idealize.SL.Sem
open Idealize.ShloMosaic.Pipeline (Dat)
open Cert.KernelModUpdateIdeal Cert.KernelModUpdateIdeal.Gen Cert.ReferenceModUpdateIdeal.Read Cert.Lift

variable (m : (ℓ : Loc nD τ sig) → Buf (Elt Ideal) ℓ)

theorem idx : ∀ t : Fin cfg0.N, win0_0.index t = ![0, t.val] ∧ win0_1.index t = ![0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := (by decide +kernel : ∀ t : Fin grid0.N, _)

/-- The arguments of the run, by name: the condition, the weight's cotangent, the weight and its moments. -/
def aC (c : Dev nD) : FVec Ideal S8x1024 .f32 := m ((c : Thread nD τ).loc main_arg0)
def aD (c : Dev nD) : FVec Ideal S8x1152 .f32 := m ((c : Thread nD τ).loc main_arg1)
def aW (c : Dev nD) : FVec Ideal S1024x1152 .f32 := m ((c : Thread nD τ).loc main_arg2)
def aM (c : Dev nD) : FVec Ideal S1024x1152 .f32 := m ((c : Thread nD τ).loc main_arg3)
def aV (c : Dev nD) : FVec Ideal S1024x1152 .f32 := m ((c : Thread nD τ).loc main_arg4)

section blocks
variable (c : Dev nD) (t : Fin cfg0.N) (i : Fin 256) (j : Fin 1152) (r : Fin 1024) (hr : r.val = t.val * 256 + i.val)

theorem V_silu : V (F := Ideal) m c main_v0 = val_main_v0 (F := Ideal) (aC m c) := rfl

include hr
theorem blk_c (b : Fin 8) : iblk (F := Ideal) m c 0 t (ix2 b i) = val_main_v0 (F := Ideal) (aC m c) (ix2 b r) := by
  rw [← V_silu]
  blk_simp [iblk]
  exact congrArg _ (by blk_ext [idx t])
theorem blk_w : iblk (F := Ideal) m c 2 t (ix2 i j) = aW m c (ix2 r j) := by unfold aW; blk_point [iblk, V, idx t]
theorem blk_m : iblk (F := Ideal) m c 3 t (ix2 i j) = aM m c (ix2 r j) := by unfold aM; blk_point [iblk, V, idx t]
theorem blk_v : iblk (F := Ideal) m c 4 t (ix2 i j) = aV m c (ix2 r j) := by unfold aV; blk_point [iblk, V, idx t]
omit hr
theorem blk_d (b : Fin 8) : iblk (F := Ideal) m c 1 t (ix2 b j) = aD m c (ix2 b j) := by unfold aD; blk_point [iblk, V, idx t]

include hr
/-- A tile's gradient. -/
theorem tile_g : k0_pay1 (F := Ideal) (View.ld (iblk m c 0 t) r0_0) (View.ld (iblk m c 1 t) r0_1) (ix2 i j) = val_main_v3 (F := Ideal) (aC m c) (aD m c) (ix2 r j) := by
  have h : val_main_v3 (F := Ideal) (aC m c) (aD m c) (ix2 r j) = ∑ b : Fin 8, val_main_v0 (F := Ideal) (aC m c) (ix2 b r) * aD m c (ix2 b j) := by
    pointwise [val_main_v3, val_main_v2]
    exact Finset.sum_congr rfl fun _ _ => mul_comm _ _
  rw [h]
  refine Eq.trans ?_ (Finset.sum_congr rfl fun b _ => congrArg₂ (· * ·) (blk_c m c t i r hr b) (blk_d m c t j b))
  pointwise [k0_pay1]

theorem tile_m : k0_pay2 (F := Ideal) (View.ld (iblk m c 0 t) r0_0) (View.ld (iblk m c 1 t) r0_1) (View.ld (iblk m c 3 t) r0_2) (ix2 i j) = val_main_v8 (F := Ideal) (aC m c) (aD m c) (aM m c) (ix2 r j) := by
  pointwise [k0_pay2, tile_g m c t i j r hr, blk_m m c t i j r hr, val_main_v8, val_main_v7, val_main_v6, val_main_cst_0, val_main_v5, val_main_v4, val_main_cst]

theorem tile_v : k0_pay3 (F := Ideal) (View.ld (iblk m c 0 t) r0_0) (View.ld (iblk m c 1 t) r0_1) (View.ld (iblk m c 4 t) r0_2) (ix2 i j) = val_main_v14 (F := Ideal) (aC m c) (aD m c) (aV m c) (ix2 r j) := by
  pointwise [k0_pay3, tile_g m c t i j r hr, blk_v m c t i j r hr, val_main_v14, val_main_v13, val_main_v12, val_main_cst_2, val_main_v11, val_main_v10, val_main_v9, val_main_cst_1]

theorem tile_d : k0_pay4 (F := Ideal) (View.ld (iblk m c 0 t) r0_0) (View.ld (iblk m c 1 t) r0_1) (View.ld (iblk m c 2 t) r0_2) (View.ld (iblk m c 3 t) r0_2) (View.ld (iblk m c 4 t) r0_2) (ix2 i j)
    = val_main_v27 (F := Ideal) (aC m c) (aD m c) (aW m c) (aM m c) (aV m c) (ix2 r j) := by
  pointwise [k0_pay4, tile_m m c t i j r hr, tile_v m c t i j r hr, blk_w m c t i j r hr, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3]
end blocks

/-- A tile's row in the whole array. -/
theorem row (t : Fin cfg0.N) (i : Fin 256) : ∃ r : Fin 1024, r.val = t.val * 256 + i.val :=
  ⟨⟨t.val * 256 + i.val, by have := lt_of_lt_of_eq t.isLt N_0; omega⟩, rfl⟩

theorem g_final (c : Dev nD) : (dats (F := Ideal) m 0 c).arrAt 5 cfg0.N = val_main_v3 (F := Ideal) (aC m c) (aD m c) := by
  refine (dats (F := Ideal) m 0 c).arrAt_eq_of_covers 5 _ (by decide +kernel) fun t _ y => ?_
  blk_simp
  rw [after0_5]
  idx_vars y
  obtain ⟨r, hr⟩ := row t y0
  have he : ((View.whole main_v1_0).slice (win0_5.rect t)).emb (ix2 y0 y1) = ix2 r y1 := by blk_ext [idx t]
  rw [he]
  unfold out0_5
  canon_tiles x h
  rw [eq_ix2 x, show x 0 = y0 from Fin.ext h0.symm, show x 1 = y1 from Fin.ext h1.symm]
  exact tile_g m c t y0 y1 r hr

theorem d_final (c : Dev nD) : (dats (F := Ideal) m 0 c).arrAt 6 cfg0.N = val_main_v27 (F := Ideal) (aC m c) (aD m c) (aW m c) (aM m c) (aV m c) := by
  refine (dats (F := Ideal) m 0 c).arrAt_eq_of_covers 6 _ (by decide +kernel) fun t _ y => ?_
  blk_simp
  rw [after0_6]
  idx_vars y
  obtain ⟨r, hr⟩ := row t y0
  have he : ((View.whole main_v1_1).slice (win0_6.rect t)).emb (ix2 y0 y1) = ix2 r y1 := by blk_ext [idx t]
  rw [he]
  unfold out0_6
  canon_tiles x h
  rw [eq_ix2 x, show x 0 = y0 from Fin.ext h0.symm, show x 1 = y1 from Fin.ext h1.symm]
  exact tile_d m c t y0 y1 r hr

theorem m_final (c : Dev nD) : (dats (F := Ideal) m 0 c).arrAt 7 cfg0.N = val_main_v8 (F := Ideal) (aC m c) (aD m c) (aM m c) := by
  refine (dats (F := Ideal) m 0 c).arrAt_eq_of_covers 7 _ (by decide +kernel) fun t _ y => ?_
  blk_simp
  rw [after0_7]
  idx_vars y
  obtain ⟨r, hr⟩ := row t y0
  have he : ((View.whole main_v1_2).slice (win0_7.rect t)).emb (ix2 y0 y1) = ix2 r y1 := by blk_ext [idx t]
  rw [he]
  unfold out0_7
  canon_tiles x h
  rw [eq_ix2 x, show x 0 = y0 from Fin.ext h0.symm, show x 1 = y1 from Fin.ext h1.symm]
  exact tile_m m c t y0 y1 r hr

theorem v_final (c : Dev nD) : (dats (F := Ideal) m 0 c).arrAt 8 cfg0.N = val_main_v14 (F := Ideal) (aC m c) (aD m c) (aV m c) := by
  refine (dats (F := Ideal) m 0 c).arrAt_eq_of_covers 8 _ (by decide +kernel) fun t _ y => ?_
  blk_simp
  rw [after0_8]
  idx_vars y
  obtain ⟨r, hr⟩ := row t y0
  have he : ((View.whole main_v1_3).slice (win0_8.rect t)).emb (ix2 y0 y1) = ix2 r y1 := by blk_ext [idx t]
  rw [he]
  unfold out0_8
  canon_tiles x h
  rw [eq_ix2 x, show x 0 = y0 from Fin.ext h0.symm, show x 1 = y1 from Fin.ext h1.symm]
  exact tile_v m c t y0 y1 r hr

theorem ref_frame : Cert.quiescent_ReferenceModUpdateIdeal := fun m ρ _ =>
  (θ_run Cert.ReferenceModUpdateIdeal.defs _ _).mono (fun r h => ⟨fun c => (h c).2.2.2.2, sem_eq_zero_of_no_sems (by decide) r.2⟩)
    (Cert.ReferenceModUpdateIdeal.Value.run m ρ)

/-- The four results of the kernel are the reference's, of equal arguments. -/
theorem final (c : Dev nD) (C : FVec Ideal S8x1024 .f32) (D : FVec Ideal S8x1152 .f32) (W M V : FVec Ideal S1024x1152 .f32)
    (e0 : C = aC m c) (e1 : D = aD m c) (e2 : W = aW m c) (e3 : M = aM m c) (e4 : V = aV m c) :
    val_main_v3 (F := Ideal) C D = (dats (F := Ideal) m 0 c).arrAt 5 cfg0.N ∧ val_main_v27 (F := Ideal) C D W M V = (dats (F := Ideal) m 0 c).arrAt 6 cfg0.N
      ∧ val_main_v8 (F := Ideal) C D M = (dats (F := Ideal) m 0 c).arrAt 7 cfg0.N ∧ val_main_v14 (F := Ideal) C D V = (dats (F := Ideal) m 0 c).arrAt 8 cfg0.N := by
  subst e0 e1 e2 e3 e4
  exact ⟨(g_final m c).symm, (d_final m c).symm, (m_final m c).symm, (v_final m c).symm⟩

theorem algebraic : Cert.algebraic_KernelModUpdateIdeal_ReferenceModUpdateIdeal := by
  pair_intro
  · run_from Cert.KernelModUpdateIdeal.Value.run_blocks m g
  · refine (θ_run Cert.ReferenceModUpdateIdeal.defs _ _).mono (fun r h c => ?_) (Cert.ReferenceModUpdateIdeal.Value.run m' g')
    obtain ⟨q0, q1, q2, q3, q4⟩ := hagree c
    obtain ⟨f0, f1, f2, f3⟩ := final m c _ _ _ _ _ q0 q1 q2 q3 q4
    obtain ⟨r0, r1, r2, r3, hargs⟩ := h c
    exact ⟨(r0.trans (val_main_v3_eq _ _)).trans f0, (r1.trans (val_main_v27_eq _ _ _ _ _)).trans f1, (r2.trans (val_main_v8_eq _ _ _)).trans f2, (r3.trans (val_main_v14_eq _ _ _)).trans f3, hargs⟩

end Cert.ModUpdate

end
-- ==== Proof.RnnFwd.Scan.lean ====
/- A linear recurrence `h n = a n * h (n - 1) + b n` over the reals, taken over a stretch of its steps: how two stretches
   join, how a scan by doubling grows its stretches, and how a scan by halves rebuilds the odd and the even steps. -/
module

public import proofs.«01_k».proof.Proof.Lift
public import Idealize.ShloMosaic.Lib.KernelVsHost

@[expose] public section

set_option maxRecDepth 16384

noncomputable section

namespace Cert.RnnFwd

open Idealize.ShloMosaic Idealize.ShloMosaic.TcCoe Idealize.SL.Sem
open Cert.Lift

/-- The product of the `n` factors from step `i` on. -/
def pA (a : ℕ → ℝ) (i : ℕ) : ℕ → ℝ
  | 0 => 1
  | n + 1 => a (i + n) * pA a i n

/-- The recurrence run from zero over the `n` steps from step `i` on. -/
def pH (a b : ℕ → ℝ) (i : ℕ) : ℕ → ℝ
  | 0 => 0
  | n + 1 => a (i + n) * pH a b i n + b (i + n)

theorem pA_add (a : ℕ → ℝ) (i n : ℕ) : ∀ m, pA a i (n + m) = pA a (i + n) m * pA a i n
  | 0 => (one_mul _).symm
  | m + 1 => by
    show a (i + (n + m)) * pA a i (n + m) = a (i + n + m) * pA a (i + n) m * pA a i n
    rw [pA_add a i n m, ← Nat.add_assoc, mul_assoc]

theorem pH_add (a b : ℕ → ℝ) (i n : ℕ) : ∀ m, pH a b i (n + m) = pA a (i + n) m * pH a b i n + pH a b (i + n) m
  | 0 => by show pH a b i n = 1 * pH a b i n + 0; ring
  | m + 1 => by
    show a (i + (n + m)) * pH a b i (n + m) + b (i + (n + m)) = a (i + n + m) * pA a (i + n) m * pH a b i n + (a (i + n + m) * pH a b (i + n) m + b (i + n + m))
    rw [pH_add a b i n m, ← Nat.add_assoc]; ring

/-- The last `s` steps up to step `t`, or fewer where a block of `N` steps begins. -/
def wA (N s : ℕ) (a : ℕ → ℝ) (t : ℕ) : ℝ := pA a (t + 1 - min (t % N + 1) s) (min (t % N + 1) s)
def wH (N s : ℕ) (a b : ℕ → ℝ) (t : ℕ) : ℝ := pH a b (t + 1 - min (t % N + 1) s) (min (t % N + 1) s)

theorem wA_one (N : ℕ) (a : ℕ → ℝ) (t : ℕ) : wA N 1 a t = a t := by
  have h : min (t % N + 1) 1 = 1 := by omega
  rw [wA, h]; show a (t + 1 - 1 + 0) * 1 = _; rw [mul_one]; rfl

theorem wH_one (N : ℕ) (a b : ℕ → ℝ) (t : ℕ) : wH N 1 a b t = b t := by
  have h : min (t % N + 1) 1 = 1 := by omega
  rw [wH, h]; show a (t + 1 - 1 + 0) * 0 + b (t + 1 - 1 + 0) = _; rw [mul_zero, zero_add]; rfl

theorem mod_sub {N s t : ℕ} (hN : 0 < N) (h : s ≤ t % N) : (t - s) % N = t % N - s := by
  have e : t - s = t % N - s + N * (t / N) := by have := Nat.mod_add_div t N; omega
  rw [e, Nat.add_mul_mod_self_left, Nat.mod_eq_of_lt (by have := Nat.mod_lt t hN; omega)]

theorem split_window {N s t : ℕ} (hN : 0 < N) (hs : 0 < s) (h : s ≤ t % N) :
    min (t % N + 1) s = s ∧ min (t % N + 1) (s + s) = min ((t - s) % N + 1) s + s
      ∧ t + 1 - min (t % N + 1) (s + s) = t - s + 1 - min ((t - s) % N + 1) s ∧ t + 1 - s = t - s + 1 - min ((t - s) % N + 1) s + min ((t - s) % N + 1) s := by
  have := mod_sub hN h
  have := Nat.mod_le t N
  omega

theorem wA_step {N s : ℕ} (hN : 0 < N) (hs : 0 < s) (a : ℕ → ℝ) (t : ℕ) :
    wA N (s + s) a t = wA N s a t * (if s ≤ t % N then wA N s a (t - s) else 1) := by
  unfold wA
  split
  case isTrue h =>
    obtain ⟨h1, h2, h3, h4⟩ := split_window hN hs h
    rw [h3, h2, pA_add, h1, h4]
  case isFalse h =>
    rw [mul_one, show min (t % N + 1) (s + s) = min (t % N + 1) s by omega]

theorem wH_step {N s : ℕ} (hN : 0 < N) (hs : 0 < s) (a b : ℕ → ℝ) (t : ℕ) :
    wH N (s + s) a b t = wA N s a t * (if s ≤ t % N then wH N s a b (t - s) else 0) + wH N s a b t := by
  unfold wH wA
  split
  case isTrue h =>
    obtain ⟨h1, h2, h3, h4⟩ := split_window hN hs h
    rw [h3, h2, pH_add, h1, h4]
  case isFalse h =>
    rw [mul_zero, zero_add, show min (t % N + 1) (s + s) = min (t % N + 1) s by omega]

/-- The last step of a block of `8` joined with all blocks before it. -/
theorem blocks (a b : ℕ → ℝ) : ∀ r, pH (fun q => pA a (8 * q) 8) (fun q => pH a b (8 * q) 8) 0 r = pH a b 0 (8 * r)
  | 0 => rfl
  | r + 1 => by
    show pA a (8 * (0 + r)) 8 * pH _ _ 0 r + pH a b (8 * (0 + r)) 8 = _
    rw [blocks a b r, Nat.zero_add, show 8 * (r + 1) = 8 * r + 8 by ring, pH_add, Nat.zero_add]

/-- Pairs of steps taken as one. -/
theorem pairs (a b : ℕ → ℝ) : ∀ r, pH (fun q => pA a (2 * q) 2) (fun q => pH a b (2 * q) 2) 0 r = pH a b 0 (2 * r)
  | 0 => rfl
  | r + 1 => by
    show pA a (2 * (0 + r)) 2 * pH _ _ 0 r + pH a b (2 * (0 + r)) 2 = _
    rw [pairs a b r, Nat.zero_add, show 2 * (r + 1) = 2 * r + 2 by ring, pH_add, Nat.zero_add]

/-- An array of real rows, by column. -/
def Rows {M C : ℕ} (v : FVec Ideal ⟨2, ![M, C]⟩ .f32) (f : Fin C → ℕ → ℝ) : Prop := ∀ i c, v (ix2 i c) = ((f c i.val : ℝ) : EReal)

section doubling
variable {M C N s : ℕ} (sh : BitVec 32) (hsh : sh.toNat = s) (hs : 0 < s) (hM : s < M) (hN : 0 < N)
  (ok : IVec ⟨2, ![M, C]⟩ 1) (hok : ∀ i c, ok (ix2 i c) = 1#1 ↔ s ≤ i.val % N) (hr : (⟨2, ![M, C]⟩ : Shape).Rotates 0 none)
include hsh hs hM hok

theorem rolled (v : FVec Ideal ⟨2, ![M, C]⟩ .f32) (f : Fin C → ℕ → ℝ) (z : ℝ) (zb : EReal) (hz : zb = ((z : ℝ) : EReal)) (h : Rows v f) :
    Rows (select ok (dynamicRotate 0 sh none v hr) (fun _ => zb)) (fun c t => if s ≤ t % N then f c (t - s) else z) := by
  intro i c
  have hi := i.isLt
  show _ = (((if s ≤ i.val % N then f c (i.val - s) else z) : ℝ) : EReal)
  show (if ok (ix2 i c) = 1#1 then _ else zb) = _
  by_cases hk : s ≤ i.val % N
  · have hle := Nat.mod_le i.val N
    rw [if_pos ((hok i c).mpr hk), if_pos hk, ← show _ = ((f c (i.val - s) : ℝ) : EReal) from h ⟨i.val - s, by omega⟩ c]
    refine dynamicRotate_apply 0 sh v hr _ _ (Fin.forall_fin_two.mpr ⟨?_, rfl⟩)
    show i.val - s = (i.val + M - sh.toNat % M) % M
    rw [hsh, Nat.mod_eq_of_lt hM, show i.val + M - s = i.val - s + M by omega, Nat.add_mod_right, Nat.mod_eq_of_lt (by omega)]
  · rw [if_neg (mt (hok i c).mp hk), if_neg hk, hz]

include hN

theorem stepA (v : FVec Ideal ⟨2, ![M, C]⟩ .f32) (a : Fin C → ℕ → ℝ) (h : Rows v fun c => wA N s (a c)) (z : EReal) (hz : z = ((1 : ℝ) : EReal)) :
    Rows (mulf v (select ok (dynamicRotate 0 sh none v hr) (broadcast ⟨2, ![M, C]⟩ z))) fun c => wA N (s + s) (a c) := by
  intro i c
  show v (ix2 i c) * (select ok (dynamicRotate 0 sh none v hr) (fun _ => z)) (ix2 i c) = _
  rw [rolled sh hsh hs hM ok hok hr v _ _ _ hz h i c, h i c, ← EReal.coe_mul, ← wA_step hN hs]

theorem stepH (v w : FVec Ideal ⟨2, ![M, C]⟩ .f32) (a b : Fin C → ℕ → ℝ) (h : Rows v fun c => wA N s (a c)) (h' : Rows w fun c => wH N s (a c) (b c))
    (z : EReal) (hz : z = ((0 : ℝ) : EReal)) :
    Rows (addf (mulf v (select ok (dynamicRotate 0 sh none w hr) (broadcast ⟨2, ![M, C]⟩ z))) w) fun c => wH N (s + s) (a c) (b c) := by
  intro i c
  show v (ix2 i c) * (select ok (dynamicRotate 0 sh none w hr) (fun _ => z)) (ix2 i c) + w (ix2 i c) = _
  rw [rolled sh hsh hs hM ok hok hr w _ _ _ hz h' i c, h i c, h' i c, ← EReal.coe_mul, ← EReal.coe_add, ← wH_step hN hs]

end doubling

section halves
variable {n C : ℕ}

/-- The steps of a pair, of an array of rows. -/
theorem picked {R : ℕ} (o : ℕ) (v : FVec Ideal ⟨2, ![n, C]⟩ .f32) (f : Fin C → ℕ → ℝ) (h : Rows v f) (hs : (⟨2, ![n, C]⟩ : Shape).SlicesBy ![o, 0] ![2, 1] ⟨2, ![R, C]⟩)
    (hR : ∀ i : Fin R, o + 2 * i.val < n) : Rows (Host.slice ⟨2, ![R, C]⟩ ![o, 0] ![2, 1] v hs) fun c j => f c (o + 2 * j) := by
  intro i c
  rw [Host.slice_apply]
  refine Eq.trans (congrArg v ?_) (h ⟨o + 2 * i.val, hR i⟩ c)
  refine funext (Fin.forall_fin_two.mpr ⟨rfl, Fin.ext ?_⟩)
  show 0 + 1 * c.val = c.val
  omega

/-- The pairs of steps: their factors, and what they add. -/
theorem pairA {R : ℕ} (v : FVec Ideal ⟨2, ![n, C]⟩ .f32) (a : Fin C → ℕ → ℝ) (h : Rows v a) (h0 h1) (hR : R + R = n) :
    Rows (mulf (Host.slice ⟨2, ![R, C]⟩ ![0, 0] ![2, 1] v h0) (Host.slice ⟨2, ![R, C]⟩ ![1, 0] ![2, 1] v h1)) fun c j => pA (a c) (2 * j) 2 := by
  intro i c
  rw [mulf_apply, picked 0 v a h h0 (fun i => by have := i.isLt; omega) i c, picked 1 v a h h1 (fun i => by have := i.isLt; omega) i c]
  refine (EReal.coe_mul _ _).symm.trans (congrArg _ ?_)
  show a c (0 + 2 * i.val) * a c (1 + 2 * i.val) = a c (2 * i.val + 1) * (a c (2 * i.val + 0) * 1)
  rw [Nat.zero_add, Nat.add_comm 1, Nat.add_zero]; ring_nf

theorem pairH {R : ℕ} (v w : FVec Ideal ⟨2, ![n, C]⟩ .f32) (a b : Fin C → ℕ → ℝ) (h : Rows v a) (h' : Rows w b) (h0 h1 h2) (hR : R + R = n) :
    Rows (addf (mulf (Host.slice ⟨2, ![R, C]⟩ ![1, 0] ![2, 1] v h1) (Host.slice ⟨2, ![R, C]⟩ ![0, 0] ![2, 1] w h0)) (Host.slice ⟨2, ![R, C]⟩ ![1, 0] ![2, 1] w h2))
      fun c j => pH (a c) (b c) (2 * j) 2 := by
  intro i c
  rw [addf_apply, mulf_apply, picked 0 w b h' h0 (fun i => by have := i.isLt; omega) i c, picked 1 v a h h1 (fun i => by have := i.isLt; omega) i c,
    picked 1 w b h' h2 (fun i => by have := i.isLt; omega) i c]
  refine ((congrArg (· + _) (EReal.coe_mul _ _).symm).trans (EReal.coe_add _ _).symm).trans (congrArg _ ?_)
  show a c (1 + 2 * i.val) * b c (0 + 2 * i.val) + b c (1 + 2 * i.val) = a c (2 * i.val + 1) * (a c (2 * i.val + 0) * 0 + b c (2 * i.val + 0)) + b c (2 * i.val + 1)
  rw [Nat.zero_add, Nat.add_comm 1, Nat.add_zero]; ring_nf

variable {L k : ℕ} (v w : FVec Ideal ⟨2, ![L, C]⟩ .f32) (o : FVec Ideal ⟨2, ![n, C]⟩ .f32) (a b : Fin C → ℕ → ℝ)

/-- The even steps: the first one as it is, each later one joined to the odd step before it. -/
theorem evens (hv : Rows v a) (hw : Rows w b) (ho : Rows o fun c t => pH (a c) (b c) 0 (2 * (t + 1))) (hn : k + 1 = n) (hL : n + n = L) (h1 h2 h3 h4 hc) :
    Rows (concatenate ⟨2, ![n, C]⟩ 0 [⟨⟨2, ![1, C]⟩, extractStridedSlice ⟨2, ![1, C]⟩ ![0, 0] w h1⟩,
        ⟨⟨2, ![k, C]⟩, addf (mulf (Host.slice ⟨2, ![k, C]⟩ ![2, 0] ![2, 1] v h2) (extractStridedSlice ⟨2, ![k, C]⟩ ![0, 0] o h3)) (Host.slice ⟨2, ![k, C]⟩ ![2, 0] ![2, 1] w h4)⟩] hc)
      fun c t => pH (a c) (b c) 0 (2 * t + 1) := by
  intro i c
  have hi := i.isLt
  by_cases h : i.val < 1
  · refine (concatenate_pair_apply_left (s₁ := ⟨2, ![1, C]⟩) (s₂ := ⟨2, ![k, C]⟩) (t := ⟨2, ![n, C]⟩) 0 _ _ hc (ix2 i c) rfl (ix2 ⟨0, by omega⟩ c)
      (Fin.forall_fin_two.mpr ⟨(by show 0 = i.val; omega), rfl⟩)).trans ?_
    refine (extractStridedSlice_apply _ w h1 _ (ix2 ⟨0, by omega⟩ c) (Fin.forall_fin_two.mpr ⟨rfl, (Nat.zero_add _).symm⟩)).trans ((hw _ c).trans (congrArg _ ?_))
    show b c 0 = pH (a c) (b c) 0 (2 * i.val + 1)
    rw [show i.val = 0 by omega]
    show b c 0 = a c (0 + 0) * 0 + b c (0 + 0)
    rw [mul_zero, zero_add]
  · refine (concatenate_pair_apply_right (s₁ := ⟨2, ![1, C]⟩) (s₂ := ⟨2, ![k, C]⟩) (t := ⟨2, ![n, C]⟩) 0 _ _ hc (ix2 i c) rfl rfl (ix2 ⟨i.val - 1, by omega⟩ c)
      (fun x hx => ?_) ?_).trans ?_
    · match x, hx with
      | ⟨0, _⟩, hx => exact absurd rfl hx
      | ⟨1, _⟩, _ => rfl
    · show i.val - 1 + 1 = i.val
      omega
    · rw [addf_apply, mulf_apply, picked 2 v a hv h2 (fun i => by have := i.isLt; omega) _ c, picked 2 w b hw h4 (fun i => by have := i.isLt; omega) _ c,
        extractStridedSlice_apply _ o h3 _ (ix2 ⟨i.val - 1, by omega⟩ c) (Fin.forall_fin_two.mpr ⟨(Nat.zero_add _).symm, (Nat.zero_add _).symm⟩), ho _ c]
      refine ((congrArg (· + _) (EReal.coe_mul _ _).symm).trans (EReal.coe_add _ _).symm).trans (congrArg _ ?_)
      show a c (2 + 2 * (i.val - 1)) * pH (a c) (b c) 0 (2 * (i.val - 1 + 1)) + b c (2 + 2 * (i.val - 1)) = a c (0 + 2 * i.val) * pH (a c) (b c) 0 (2 * i.val) + b c (0 + 2 * i.val)
      rw [show 2 + 2 * (i.val - 1) = 0 + 2 * i.val by omega, show i.val - 1 + 1 = i.val by omega]

/-- The even and the odd steps interleaved. -/
theorem woven (q : FVec Ideal ⟨2, ![n, C]⟩ .f32) (f : Fin C → ℕ → ℝ) (hq : Rows q fun c t => f c (2 * t)) (ho : Rows o fun c t => f c (2 * t + 1)) (hL : n + n = L)
    {u : Shape} (z z' : u.Idx → EReal) (hu hu') (hz : ∀ x, z x = 0) (hz' : ∀ x, z' x = 0) (h1 h2) :
    Rows (addf (φ := .f32) (pad ⟨2, ![L, C]⟩ ![0, 0] ![1, 0] ![1, 0] q z h1 hu) (pad ⟨2, ![L, C]⟩ ![1, 0] ![0, 0] ![1, 0] o z' h2 hu')) f := by
  intro i c
  have hi := i.isLt
  rw [addf_apply]
  by_cases h : i.val % 2 = 0
  · rw [pad_apply_of_inside _ _ _ q z h1 hu _ (ix2 ⟨i.val / 2, by omega⟩ c) (Fin.forall_fin_two.mpr ⟨(by show i.val = 0 + i.val / 2 * 2; omega), (by show c.val = 0 + c.val * 1; omega)⟩),
      pad_apply_of_not_inside _ _ _ o z' h2 hu' _ 0 (by show ¬(1 ≤ i.val ∧ (i.val - 1) % 2 = 0 ∧ _); omega), hq _ c, hz']
    refine (add_zero _).trans ?_
    show ((f c (2 * (i.val / 2)) : ℝ) : EReal) = _
    rw [show 2 * (i.val / 2) = i.val by omega]
  · rw [pad_apply_of_not_inside _ _ _ q z h1 hu _ 0 (by show ¬(0 ≤ i.val ∧ (i.val - 0) % 2 = 0 ∧ _); omega),
      pad_apply_of_inside _ _ _ o z' h2 hu' _ (ix2 ⟨i.val / 2, by omega⟩ c) (Fin.forall_fin_two.mpr ⟨(by show i.val = 1 + i.val / 2 * 2; omega), (by show c.val = 0 + c.val * 1; omega)⟩), ho _ c, hz]
    refine (zero_add _).trans ?_
    show ((f c (2 * (i.val / 2) + 1) : ℝ) : EReal) = _
    rw [show 2 * (i.val / 2) + 1 = i.val by omega]

end halves

/-- The recurrence after its steps were taken in pairs `j` times. -/
def lvl (a b : ℕ → ℝ) : ℕ → (ℕ → ℝ) × (ℕ → ℝ)
  | 0 => (a, b)
  | j + 1 => (fun q => pA (lvl a b j).1 (2 * q) 2, fun q => pH (lvl a b j).1 (lvl a b j).2 (2 * q) 2)

/-- Two arrays that hold the factors and the summands after `j` times. -/
def Both {L C : ℕ} (v w : FVec Ideal ⟨2, ![L, C]⟩ .f32) (f g : Fin C → ℕ → ℝ) (j : ℕ) : Prop :=
  Rows v (fun c => (lvl (f c) (g c) j).1) ∧ Rows w (fun c => (lvl (f c) (g c) j).2)

/-- An array that holds the states after `j` times. -/
def States {L C : ℕ} (o : FVec Ideal ⟨2, ![L, C]⟩ .f32) (f g : Fin C → ℕ → ℝ) (j : ℕ) : Prop :=
  Rows o fun c t => pH (lvl (f c) (g c) j).1 (lvl (f c) (g c) j).2 0 (t + 1)

section levels
variable {L n k C : ℕ} {v w : FVec Ideal ⟨2, ![L, C]⟩ .f32} {f g : Fin C → ℕ → ℝ} {j : ℕ}

theorem down (h : Both v w f g j) (hR : n + n = L) (h0 h1 h0' h1') :
    Both (mulf (Host.slice ⟨2, ![n, C]⟩ ![0, 0] ![2, 1] v h0) (Host.slice ⟨2, ![n, C]⟩ ![1, 0] ![2, 1] v h1))
      (addf (mulf (Host.slice ⟨2, ![n, C]⟩ ![1, 0] ![2, 1] v h1) (Host.slice ⟨2, ![n, C]⟩ ![0, 0] ![2, 1] w h0')) (Host.slice ⟨2, ![n, C]⟩ ![1, 0] ![2, 1] w h1')) f g (j + 1) :=
  ⟨pairA v _ h.1 h0 h1 hR, pairH v w _ _ h.1 h.2 h0' h1 h1' hR⟩

theorem last {o : FVec Ideal ⟨2, ![1, C]⟩ .f32} {o' : FVec Ideal ⟨2, ![1, C]⟩ .f32} (h : Both o' o f g j) : States o f g j := by
  intro i c
  rw [h.2 i c, show i = 0 from Subsingleton.elim _ _]
  show (((lvl (f c) (g c) j).2 0 : ℝ) : EReal) = (((lvl (f c) (g c) j).1 (0 + 0) * 0 + (lvl (f c) (g c) j).2 (0 + 0) : ℝ) : EReal)
  rw [mul_zero, zero_add]

theorem up (h : Both v w f g j) {o : FVec Ideal ⟨2, ![n, C]⟩ .f32} (ho : States o f g (j + 1)) (hn : k + 1 = n) (hL : n + n = L)
    {u : Shape} (z z' : u.Idx → EReal) (hz : ∀ x, z x = 0) (hz' : ∀ x, z' x = 0) (h1 h2 h3 h4 hc hu hu' h5 h6) :
    States (addf (φ := .f32) (pad ⟨2, ![L, C]⟩ ![0, 0] ![1, 0] ![1, 0]
        (concatenate ⟨2, ![n, C]⟩ 0 [⟨⟨2, ![1, C]⟩, extractStridedSlice ⟨2, ![1, C]⟩ ![0, 0] w h1⟩,
          ⟨⟨2, ![k, C]⟩, addf (mulf (Host.slice ⟨2, ![k, C]⟩ ![2, 0] ![2, 1] v h2) (extractStridedSlice ⟨2, ![k, C]⟩ ![0, 0] o h3)) (Host.slice ⟨2, ![k, C]⟩ ![2, 0] ![2, 1] w h4)⟩] hc)
        z h5 hu) (pad ⟨2, ![L, C]⟩ ![1, 0] ![0, 0] ![1, 0] o z' h6 hu')) f g j := by
  have ho' : Rows o fun c t => pH (lvl (f c) (g c) j).1 (lvl (f c) (g c) j).2 0 (2 * (t + 1)) := fun i c =>
    (ho i c).trans (congrArg _ (pairs _ _ (i.val + 1)))
  exact woven o (L := L) _ (fun c t => pH (lvl (f c) (g c) j).1 (lvl (f c) (g c) j).2 0 (t + 1)) (evens v w o _ _ h.1 h.2 ho' hn hL h1 h2 h3 h4 hc) ho' hL z z' hu hu' hz hz' h5 h6

end levels

end Cert.RnnFwd
-- ==== Proof.RnnFwd.Gate.lean ====
/- The gates of the recurrence over the reals: the taps of its input, the two logistic gates of a head, the decay and
   what each step adds; and the ideal operations that compute them, at real numbers. -/
module

public import proofs.«01_k».proof.Proof.RnnFwd.Scan

@[expose] public section

set_option maxRecDepth 16384

noncomputable section

namespace Cert.RnnFwd

open Idealize.ShloMosaic Idealize.ShloMosaic.TcCoe Idealize.SL.Sem
open Cert.Lift

/-- The logistic function. -/
def sgR (z : ℝ) : ℝ := 1 / (1 + Real.exp (-z))

/-- The logarithm of the logistic function. -/
def lsR (l : ℝ) : ℝ := min l 0 - Real.log (1 + Real.exp (-|l|))

/-- Row `n` of a channel that starts with three zeros. -/
def late3 (x : ℕ → ℝ) (n : ℕ) : ℝ := if n < 3 then 0 else x (n - 3)

/-- What the recurrence reads: a sum over four rows, and the bias. -/
def xrR (x : ℕ → ℝ) (w : ℕ → ℝ) (b : ℝ) (n : ℕ) : ℝ := w 0 * late3 x n + w 1 * late3 x (1 + n) + w 2 * late3 x (2 + n) + w 3 * late3 x (3 + n) + b

/-- The logarithm of the decay, of the gate `z`. -/
def laR (z l : ℝ) : ℝ := 8 * sgR z * lsR l

/-- What a step adds. -/
def addR (z y l u : ℝ) : ℝ := Real.sqrt (1 - Real.exp (2 * laR z l)) * (sgR y * u)

theorem c_one : Ideal.ofBits .f32 0x3F800000#32 = ((1 : ℝ) : EReal) := by
  simp [Ideal.ofBits, Ideal.ieee, -EReal.coe_mul] <;> norm_num
theorem c_zero : Ideal.ofBits .f32 0x00000000#32 = ((0 : ℝ) : EReal) := by
  simp [Ideal.ofBits, Ideal.ieee, -EReal.coe_mul] <;> norm_num
theorem c_two : Ideal.ofBits .f32 0x40000000#32 = ((2 : ℝ) : EReal) := by
  simp [Ideal.ofBits, Ideal.ieee, -EReal.coe_mul] <;> norm_num
theorem c_eight : Ideal.ofBits .f32 0x41000000#32 = ((8 : ℝ) : EReal) := by
  simp [Ideal.ofBits, Ideal.ieee, -EReal.coe_mul] <;> norm_num

theorem coe_min' (x y : ℝ) : min (x : EReal) (y : EReal) = ((min x y : ℝ) : EReal) := (EReal.coe_strictMono.monotone.map_min (a := x) (b := y)).symm
theorem coe_max' (x y : ℝ) : max (x : EReal) (y : EReal) = ((max x y : ℝ) : EReal) := (EReal.coe_strictMono.monotone.map_max (a := x) (b := y)).symm

theorem abs_real (r : ℝ) : FloatOps.absf (F := Ideal) (φ := .f32) (r : EReal) = ((|r| : ℝ) : EReal) := by
  show max (r : EReal) (-(r : EReal)) = _
  rw [← EReal.coe_neg, coe_max']; rfl

theorem log_pos' {r : ℝ} (h : 0 < r) : Ideal.log (r : EReal) = ((Real.log r : ℝ) : EReal) := by
  rw [Ideal.log_coe, if_neg (not_le.mpr h)]

theorem sqrt_nonneg' {r : ℝ} (h : 0 ≤ r) : Ideal.sqrt (r : EReal) = ((Real.sqrt r : ℝ) : EReal) := by
  rw [Ideal.sqrt_coe, if_neg (not_lt.mpr h)]

theorem one_add_exp (z : ℝ) : 0 < 1 + Real.exp z := by positivity

theorem logistic_real (z : ℝ) : Ideal.div ((1 : ℝ) : EReal) (((1 : ℝ) : EReal) + ((Real.exp (-z) : ℝ) : EReal)) = ((sgR z : ℝ) : EReal) := by
  rw [← EReal.coe_add, div_real (one_add_exp _).ne']; rfl

theorem sgR_pos (z : ℝ) : 0 < sgR z := by unfold sgR; positivity

theorem lsR_neg (l : ℝ) : lsR l < 0 := by
  have h : 0 < Real.log (1 + Real.exp (-|l|)) := Real.log_pos (by have := Real.exp_pos (-|l|); linarith)
  have := min_le_right l 0
  unfold lsR; linarith

theorem laR_neg (z l : ℝ) : laR z l < 0 := mul_neg_of_pos_of_neg (mul_pos (by norm_num) (sgR_pos z)) (lsR_neg l)

theorem room (z l : ℝ) : 0 ≤ 1 - Real.exp (2 * laR z l) := by
  have := Real.exp_le_one_iff.mpr (show 2 * laR z l ≤ 0 by have := laR_neg z l; linarith)
  linarith

end Cert.RnnFwd
-- ==== Proof.RnnFwd.KScan.lean ====
/- The kernel's recurrence over one block of channels: doubling steps within blocks of eight rows, doubling steps over the
   blocks' last rows, and the two joined. -/
module

public import proofs.«01_k».proof.Proof.Gen.KernelRnnFwdIdeal.Value
public import proofs.«01_k».proof.Proof.RnnFwd.Scan
public import proofs.«01_k».proof.Proof.RnnFwd.Gate

@[expose] public section

set_option maxRecDepth 16384

noncomputable section

namespace Cert.RnnFwd

open Idealize.ShloMosaic Idealize.ShloMosaic.TcCoe Idealize.SL.Sem
open Idealize.ShloMosaic.Pipeline (Dat)
open Cert.KernelRnnFwdIdeal Cert.KernelRnnFwdIdeal.Gen Cert.Lift

section levels
variable {M C N : ℕ} (p : IVec ⟨2, ![M, C]⟩ 32) (hr : (⟨2, ![M, C]⟩ : Shape).Rotates 0 none)

/-- The rows that have a row `s` before them in their block. -/
def okAt (s : ℕ) : IVec ⟨2, ![M, C]⟩ 1 := cmpi .sge p (broadcast ⟨2, ![M, C]⟩ (BitVec.ofNat 32 s))

/-- The factors after `k` doubling steps, and the sums. -/
def kA (v : FVec Ideal ⟨2, ![M, C]⟩ .f32) : ℕ → FVec Ideal ⟨2, ![M, C]⟩ .f32
  | 0 => v
  | k + 1 => mulf (kA v k) (select (okAt p (2 ^ k)) (dynamicRotate 0 (BitVec.ofNat 32 (2 ^ k)) none (kA v k) hr)
      (broadcast ⟨2, ![M, C]⟩ (FloatOps.ofBits (F := Ideal) .f32 0x3F800000#32)))
def kH (v w : FVec Ideal ⟨2, ![M, C]⟩ .f32) : ℕ → FVec Ideal ⟨2, ![M, C]⟩ .f32
  | 0 => w
  | k + 1 => addf (mulf (kA p hr v k) (select (okAt p (2 ^ k)) (dynamicRotate 0 (BitVec.ofNat 32 (2 ^ k)) none (kH v w k) hr)
      (broadcast ⟨2, ![M, C]⟩ (FloatOps.ofBits (F := Ideal) .f32 0x00000000#32)))) (kH v w k)

theorem sge_iff {s n : ℕ} (hs : s < 2 ^ 31) (hn : n < 2 ^ 31) : IntOp.cmpi .sge (BitVec.ofNat 32 n) (BitVec.ofNat 32 s) = 1#1 ↔ s ≤ n := by
  have h : ∀ k < 2 ^ 31, (BitVec.ofNat 32 k).toInt = (k : ℤ) := fun k hk => by
    rw [BitVec.toInt_eq_toNat_of_lt (by rw [BitVec.toNat_ofNat]; omega), BitVec.toNat_ofNat]; omega
  show BitVec.ofBool ((BitVec.ofNat 32 s).sle (BitVec.ofNat 32 n)) = 1#1 ↔ _
  rw [BitVec.sle, h s hs, h n hn]
  by_cases hk : s ≤ n
  · simp [hk]
  · simp [hk]

variable (hp : ∀ i c, p (ix2 i c) = BitVec.ofNat 32 (i.val % N)) (hM : M < 2 ^ 31)
include hp hM

theorem ok_iff {s : ℕ} (hs : s < 2 ^ 31) (i : Fin M) (c : Fin C) : okAt p s (ix2 i c) = 1#1 ↔ s ≤ i.val % N := by
  show IntOp.cmpi .sge (p (ix2 i c)) (BitVec.ofNat 32 s) = 1#1 ↔ _
  rw [hp i c]
  have := Nat.mod_le i.val N
  exact sge_iff hs (by have := i.isLt; omega)

theorem levels (v w : FVec Ideal ⟨2, ![M, C]⟩ .f32) (a b : Fin C → ℕ → ℝ) (hv : Rows v a) (hw : Rows w b) (hN : 0 < N) :
    ∀ k, 2 ^ k ≤ M → Rows (kA p hr v k) (fun c => wA N (2 ^ k) (a c)) ∧ Rows (kH p hr v w k) fun c => wH N (2 ^ k) (a c) (b c)
  | 0, _ => ⟨fun i c => (hv i c).trans (congrArg _ (wA_one N (a c) i.val).symm), fun i c => (hw i c).trans (congrArg _ (wH_one N (a c) (b c) i.val).symm)⟩
  | k + 1, hk => by
    have h2 : 2 ^ (k + 1) = 2 ^ k + 2 ^ k := by ring
    have h0 : 0 < 2 ^ k := by positivity
    have hsh : (BitVec.ofNat 32 (2 ^ k)).toNat = 2 ^ k := by rw [BitVec.toNat_ofNat]; exact Nat.mod_eq_of_lt (by omega)
    obtain ⟨hA, hH⟩ := levels v w a b hv hw hN k (by omega)
    rw [h2]
    exact ⟨stepA _ hsh h0 (by omega) hN _ (ok_iff p hp hM (by omega)) hr _ a hA _ c_one,
      stepH _ hsh h0 (by omega) hN _ (ok_iff p hp hM (by omega)) hr _ _ a b hA hH _ c_zero⟩

end levels

theorem rows_cast {M C : ℕ} {v : FVec Ideal ⟨2, ![M, C]⟩ .f32} {f : Fin C → ℕ → ℝ} (h : Rows v f) (e) : Rows (shapeCast ⟨2, ![M, C]⟩ v e) f := by
  intro i c
  pointwise [h i c]

/-- A row's place within its block of eight. -/
theorem place8 (i : Fin 4096) (c : Fin 128) : k0_pay15 (ix2 i c) = BitVec.ofNat 32 (i.val % 8) := by
  have hi := i.isLt
  have hm : (BitVec.ofNat 32 i.val).msb = false := by
    rw [BitVec.msb_eq_decide, BitVec.toNat_ofNat]; simp; omega
  have h8 : (8#32 : BitVec 32).msb = false := rfl
  have h : IntOp.remsi .vector (BitVec.ofNat 32 i.val) 8#32 = BitVec.ofNat 32 (i.val % 8) := by
    show (if _ then _ else _) = _
    rw [if_neg (by unfold IntOp.SDivCorner; simp), BitVec.srem_eq, hm, h8]
    apply BitVec.eq_of_toNat_eq
    rw [BitVec.toNat_umod, BitVec.toNat_ofNat, BitVec.toNat_ofNat]
    show i.val % 2 ^ 32 % 8 = i.val % 8 % 2 ^ 32
    omega
  have hlt : i.val % 8 < 8 := Nat.mod_lt _ (by norm_num)
  pointwise [k0_pay15]
  have e8 : Scalar.select (Scalar.cmpi .eq 8#32 0#32) 1#32 8#32 = 8#32 := rfl
  simp only [e8, h]
  generalize i.val % 8 = r at hlt
  interval_cases r <;> rfl

theorem place512 (i : Fin 512) (c : Fin 128) : kernelRun0_A.sl.v176 (ix2 i c) = BitVec.ofNat 32 (i.val % 512) := by
  rw [Nat.mod_eq_of_lt i.isLt]
  pointwise [kernelRun0_A.sl.v176]

/-- Over one block of eight rows, the last `k + 1` rows up to row `k`. -/
theorem eight (v w : FVec Ideal S4096x128 .f32) (a b : Fin 128 → ℕ → ℝ) (hv : Rows v a) (hw : Rows w b) (h0 h1) :
    Rows (shapeCast S4096x128 (kA k0_pay15 rotates_S4096x128_d0 v 3) h0) (fun c => wA 8 8 (a c))
    ∧ Rows (shapeCast S4096x128 (kH k0_pay15 rotates_S4096x128_d0 v w 3) h1) (fun c => wH 8 8 (a c) (b c)) := by
  obtain ⟨hA, hH⟩ := levels k0_pay15 rotates_S4096x128_d0 place8 (by norm_num) v w a b hv hw (by norm_num) 3 (by norm_num)
  exact ⟨rows_cast hA h0, rows_cast hH h1⟩

/-- Over all blocks, and then one block later. -/
theorem carried (v w : FVec Ideal S512x128 .f32) (a b : Fin 128 → ℕ → ℝ) (hv : Rows v a) (hw : Rows w b) (h0) :
    Rows (shapeCast S512x128 (select (okAt kernelRun0_A.sl.v176 1) (dynamicRotate 0 1#32 none (kH kernelRun0_A.sl.v176 rotates_S512x128_d0 v w 9) rotates_S512x128_d0)
      (broadcast S512x128 (FloatOps.ofBits (F := Ideal) .f32 0x00000000#32))) h0) (fun c r => pH (a c) (b c) 0 r) := by
  obtain ⟨-, hH⟩ := levels kernelRun0_A.sl.v176 rotates_S512x128_d0 place512 (by norm_num) v w a b hv hw (by norm_num) 9 (by norm_num)
  refine rows_cast (fun i c => ?_) h0
  have hi := i.isLt
  refine (rolled (N := 512) 1#32 rfl (by norm_num) (by norm_num) _ (ok_iff _ place512 (by norm_num) (by norm_num)) rotates_S512x128_d0 _ _ 0 _ c_zero hH i c).trans (congrArg _ ?_)
  show (if 1 ≤ i.val % 512 then wH 512 512 (a c) (b c) (i.val - 1) else 0) = pH (a c) (b c) 0 i.val
  split
  case isTrue h =>
    rw [wH, show min ((i.val - 1) % 512 + 1) 512 = i.val by omega, show i.val - 1 + 1 - i.val = 0 by omega]
  case isFalse h =>
    rw [show i.val = 0 by omega]; rfl

section pieces
variable {S : Shape} {e : EltTy} {κ : Kind} {sp : Space}

/-- What every store of a list writes is what `G` says of its place. -/
def All (L : List (View.Piece (Elt Ideal) S e)) (G : S.Idx → Elt Ideal e) : Prop := ∀ q ∈ L, ∀ j, q.2 j = G (q.1.emb j)

theorem All.nil (G : S.Idx → Elt Ideal e) : All [] G := fun _ h => absurd h List.not_mem_nil

theorem All.cons {R : Rect S} {v : R.shape.Idx → Elt Ideal e} {L : List (View.Piece (Elt Ideal) S e)} {G : S.Idx → Elt Ideal e}
    (h : ∀ j, v j = G (R.emb j)) (hL : All L G) : All (⟨R, v⟩ :: L) G := fun q hq => by
  rcases List.mem_cons.mp hq with rfl | hq
  · exact h
  · exact hL q hq

theorem All.canon : ∀ (L : List (View.Piece (Elt Ideal) S e)) (G : S.Idx → Elt Ideal e) (_ : All L G) (y : S.Idx) (_ : ∃ q ∈ L, y ∈ q.1.set), View.canon L y = G y
  | [], _, _, _, h => by obtain ⟨q, hq, -⟩ := h; exact absurd hq List.not_mem_nil
  | p :: L, G, hL, y, h => by
    by_cases hy : y ∈ p.1.set
    · obtain ⟨j, rfl⟩ : ∃ x, p.1.emb x = y := p.1.exists_idx_of_mem hy
      exact (View.canon_cons_emb p.1 p.2 L j).trans (hL p (List.mem_cons_self ..) j)
    · rw [View.canon_cons_of_not_mem p L hy]
      obtain ⟨q, hq, hyq⟩ := h
      rcases List.mem_cons.mp hq with rfl | hq
      · exact absurd hyq hy
      · exact All.canon L G (fun q hq => hL q (List.mem_cons_of_mem _ hq)) y ⟨q, hq, hyq⟩

/-- A load of rows of a buffer that one store filled. -/
theorem row_of {R n r o : ℕ} (b : View sig κ sp ⟨2, ![R, n]⟩ .f32) (v : FVec Ideal ⟨2, ![R, n]⟩ .f32) (h inb) (k : Fin r) (d : Fin n) (i : Fin R) (hi : i.val = o + k.val) :
    b.readCov (Val := Elt Ideal) [⟨Rect.unit (s := ⟨2, ![R, n]⟩) ![0, 0] ![R, n] h, v⟩] (Rect.unit (s := ⟨2, ![R, n]⟩) ![o, 0] ![r, n] inb).toLoadRect (ix2 k d) = v (ix2 i d) :=
  (row_cov b _ inb i k d hi).trans (row_hit (Val := Elt Ideal) (e := .f32) h v [] i i d (Nat.zero_add _).symm)

/-- A load of every eighth row of such a buffer. -/
theorem last_of (b : View sig κ sp S4096x128 .f32) (v : FVec Ideal S4096x128 .f32) (h inb) (i : Fin 512) (d : Fin 128) :
    b.readCov (Val := Elt Ideal) [⟨Rect.unit (s := S4096x128) ![0, 0] ![4096, 128] h, v⟩] ⟨![7, 0], ![512, 128], ![8, 1], inb⟩ (ix2 i d) = v (ix2 ⟨8 * i.val + 7, by omega⟩ d) := by
  rw [View.readCov_eq_canon']
  have e : LoadRect.idx (s := S4096x128) ⟨![7, 0], ![512, 128], ![8, 1], inb⟩ (ix2 i d) = ix2 ⟨8 * i.val + 7, by omega⟩ d :=
    funext (Fin.forall_fin_two.mpr ⟨Fin.ext (Nat.add_comm 7 (8 * i.val)), Fin.ext (by show 0 + 1 * d.val = d.val; omega)⟩)
  exact (congrArg _ e).trans (row_hit (Val := Elt Ideal) (e := .f32) h v [] _ _ d (Nat.zero_add _).symm)

theorem last_window (r : ℕ) : 8 * r + 7 + 1 - min ((8 * r + 7) % 8 + 1) 8 = 8 * r ∧ min ((8 * r + 7) % 8 + 1) 8 = 8 := by omega

variable (a b : Fin 128 → ℕ → ℝ)

/-- The recurrence at a row. -/
def stateAt (y : S4096x128.Idx) : EReal := ((pH (a (y 1)) (b (y 1)) 0 ((y 0).val + 1) : ℝ) : EReal)

variable (b1 b2 : View sig κ sp S4096x128 .f32) (b3 : View sig κ sp S512x128 .f32) (V W : FVec Ideal S4096x128 .f32) (C : FVec Ideal S512x128 .f32)
  (hV : Rows V fun c => wA 8 8 (a c)) (hW : Rows W fun c => wH 8 8 (a c) (b c)) (hC : Rows C fun c r => pH (a c) (b c) 0 (8 * r))
include hV hW hC

theorem piece (o r : ℕ) (ho : o = 8 * r) (h1 h2 h3 i1 i2 i3 hb inb) (j : (Rect.unit (s := S4096x128) ![o, 0] ![8, 128] inb).shape.Idx) :
    addf (F := Ideal) (s := S8x128) (φ := .f32) (mulf (F := Ideal) (s := S8x128) (φ := .f32) (b1.readCov (Val := Elt Ideal) (e := .f32) [⟨Rect.unit (s := S4096x128) ![0, 0] ![4096, 128] h1, V⟩] (Rect.unit (s := S4096x128) ![o, 0] ![8, 128] i1).toLoadRect)
        (broadcastTo (α := Ideal .f32) S8x128 (b3.readCov (Val := Elt Ideal) (e := .f32) [⟨Rect.unit (s := S512x128) ![0, 0] ![512, 128] h3, C⟩] (Rect.unit (s := S512x128) ![r, 0] ![1, 128] i3).toLoadRect) hb))
      (b2.readCov (Val := Elt Ideal) (e := .f32) [⟨Rect.unit (s := S4096x128) ![0, 0] ![4096, 128] h2, W⟩] (Rect.unit (s := S4096x128) ![o, 0] ![8, 128] i2).toLoadRect) j
      = stateAt a b ((Rect.unit (s := S4096x128) ![o, 0] ![8, 128] inb).emb j) := by
  idx_vars j
  have hr : r + 1 ≤ 512 := i3 0
  have hj := j0.isLt
  have hbr : broadcastTo (α := Ideal .f32) S8x128 (b3.readCov (Val := Elt Ideal) (e := .f32) [⟨Rect.unit (s := S512x128) ![0, 0] ![512, 128] h3, C⟩] (Rect.unit (s := S512x128) ![r, 0] ![1, 128] i3).toLoadRect) hb (ix2 j0 j1)
      = C (ix2 ⟨r, by omega⟩ j1) := by
    pointwise
    exact row_of b3 C h3 i3 0 j1 ⟨r, by omega⟩ rfl
  rw [addf_apply, mulf_apply, hbr, row_of b1 V h1 i1 j0 j1 ⟨o + j0.val, by omega⟩ rfl, row_of b2 W h2 i2 j0 j1 ⟨o + j0.val, by omega⟩ rfl, hV, hW, hC]
  refine ((congrArg (· + _) (EReal.coe_mul _ _).symm).trans (EReal.coe_add _ _).symm).trans (congrArg _ ?_)
  have e1 : ((Rect.unit (s := S4096x128) ![o, 0] ![8, 128] inb).emb (ix2 j0 j1)) 1 = j1 := Fin.ext (by show 0 + 1 * j1.val = j1.val; omega)
  have e0 : (((Rect.unit (s := S4096x128) ![o, 0] ![8, 128] inb).emb (ix2 j0 j1)) 0).val = o + j0.val := by show o + 1 * j0.val = o + j0.val; omega
  rw [e1, e0]
  show pA _ (o + j0.val + 1 - min ((o + j0.val) % 8 + 1) 8) (min ((o + j0.val) % 8 + 1) 8) * pH _ _ 0 (8 * r) + pH _ _ (o + j0.val + 1 - min ((o + j0.val) % 8 + 1) 8) (min ((o + j0.val) % 8 + 1) 8) = _
  rw [show min ((o + j0.val) % 8 + 1) 8 = j0.val + 1 by omega, show o + j0.val + 1 - (j0.val + 1) = 0 + 8 * r by omega, show o + j0.val + 1 = 8 * r + (j0.val + 1) by omega]
  exact (pH_add _ _ 0 (8 * r) (j0.val + 1)).symm

end pieces

end Cert.RnnFwd
-- ==== Proof.RnnFwd.KGate.lean ====
/- The kernel's gates over one block of channels: what the recurrence reads, its decays, and what each step adds. -/
module

public import proofs.«01_k».proof.Proof.RnnFwd.KScan

@[expose] public section

set_option maxRecDepth 16384

noncomputable section

namespace Cert.RnnFwd

open Idealize.ShloMosaic Idealize.ShloMosaic.TcCoe Idealize.SL.Sem
open Idealize.ShloMosaic.Pipeline (Dat)
open Cert.KernelRnnFwdIdeal Cert.KernelRnnFwdIdeal.Gen Cert.Lift

section pays
variable (i : Fin 4096) (d : Fin 128)

theorem read_real (v0 v18 v24 v30 : FVec Ideal S4096x128 .f32) (v8 v10 v16 v22 v28 : FVec Ideal S1x128 .f32) {x e0 e1 e2 b w0 w1 w2 w3 : ℝ}
    (h0 : v0 (ix2 i d) = ((x : ℝ) : EReal)) (h18 : v18 (ix2 i d) = ((e0 : ℝ) : EReal)) (h24 : v24 (ix2 i d) = ((e1 : ℝ) : EReal)) (h30 : v30 (ix2 i d) = ((e2 : ℝ) : EReal))
    (h8 : v8 (ix2 0 d) = ((b : ℝ) : EReal)) (h10 : v10 (ix2 0 d) = ((w3 : ℝ) : EReal)) (h16 : v16 (ix2 0 d) = ((w0 : ℝ) : EReal)) (h22 : v22 (ix2 0 d) = ((w1 : ℝ) : EReal)) (h28 : v28 (ix2 0 d) = ((w2 : ℝ) : EReal)) :
    k0_pay4 (F := Ideal) v0 v8 v10 v16 v18 v22 v24 v28 v30 (ix2 i d) = ((w0 * e0 + w1 * e1 + w2 * e2 + w3 * x + b : ℝ) : EReal) := by
  pointwise [k0_pay4, h0, h18, h24, h30, h8, h10, h16, h22, h28]
  simp only [← EReal.coe_mul, ← EReal.coe_add]
  exact congrArg _ (by ring)

theorem gate_real (v : FVec Ideal S4096x128 .f32) (w : FVec Ideal S1x128x128 .bf16) (r : FVec Ideal S1x128 .f32) {u g : Fin 128 → ℝ} {b : ℝ}
    (h : ∀ k, v (ix2 i k) = ((u k : ℝ) : EReal)) (hw : ∀ k, w (ix3 0 k d) = ((g k : ℝ) : EReal)) (hr : r (ix2 0 d) = ((b : ℝ) : EReal)) :
    k0_pay6 (F := Ideal) v w r (ix2 i d) = ((sgR (∑ k, u k * g k + b) : ℝ) : EReal) := by
  have e : k0_pay6 (F := Ideal) v w r (ix2 i d) = Ideal.div 1 (1 + Ideal.exp (0 - (((∑ k, u k * g k : ℝ) : EReal) + ((b : ℝ) : EReal)))) := by
    rw [← sum_coe]
    pointwise [k0_pay6, k0_pay5, h, hw, hr, EReal.coe_mul, zero_sub]
  rw [e, zero_sub, ← EReal.coe_add, ← EReal.coe_neg, Ideal.exp_coe, one_coe, logistic_real]

variable (z : Ideal .f32) (hz : z = 1)
include hz

theorem log_real (v : FVec Ideal S4096x128 .f32) (r : FVec Ideal S1x128 .f32) {s l : ℝ} (h : v (ix2 i d) = ((s : ℝ) : EReal)) (hr : r (ix2 0 d) = ((l : ℝ) : EReal)) :
    k0_pay11 (F := Ideal) v (k0_pay8 r) (k0_pay9 r) (k0_pay10 r) z (ix2 i d) = ((8 * s * lsR l : ℝ) : EReal) := by
  have hu : Real.exp (-|l|) ≠ 0 := (Real.exp_pos _).ne'
  have hn : ¬ ((Real.exp (-|l|) : ℝ) : EReal) = ((0 : ℝ) : EReal) := fun h => hu (EReal.coe_eq_coe_iff.mp h)
  pointwise [k0_pay11, k0_pay10, k0_pay9, k0_pay8, h, hr, hz]
  rw [abs_real, zero_sub, ← EReal.coe_neg, Ideal.exp_coe, c_eight, one_coe, zero_coe, ← EReal.coe_add, ← EReal.coe_sub, add_sub_cancel_left, if_neg hn, if_neg hn, log_pos' (one_add_exp _),
    div_real hu, div_self hu, coe_min', ← EReal.coe_mul, ← EReal.coe_mul, ← EReal.coe_sub, ← EReal.coe_mul, mul_one]
  rfl

omit hz in
theorem room_real (v : FVec Ideal S4096x128 .f32) (r : FVec Ideal S1x128 .f32) {a : ℝ} (h : k0_pay11 (F := Ideal) v (k0_pay8 r) (k0_pay9 r) (k0_pay10 r) z (ix2 i d) = ((a : ℝ) : EReal))
    (hf : ((2 * a : ℝ) : EReal) ≤ Ideal.ofBits .f32 0xBD4CCCCD#32) (h0 : 0 ≤ 1 - Real.exp (2 * a)) :
    k0_pay13 (F := Ideal) v (k0_pay8 r) (k0_pay9 r) (k0_pay10 r) z (ix2 i d) = ((Real.sqrt (1 - Real.exp (2 * a)) : ℝ) : EReal) := by
  pointwise [k0_pay13, h]
  rw [c_two, ← EReal.coe_mul, if_neg (not_lt.mpr hf), Ideal.exp_coe, one_coe, ← EReal.coe_sub, sqrt_nonneg' h0]
end pays

/-- A load of rows of an input's block. -/
theorem row_in {R n r o : ℕ} (w : Memref sig .tc .vmem ⟨2, ![R, n]⟩ .f32) (h : w.IsWhole) (x : Vec Ideal ⟨2, ![R, n]⟩ .f32) (inb) (k : Fin r) (d : Fin n) (i : Fin R) (hi : i.val = o + k.val) :
    View.readAt (Elt Ideal) w.view (Rect.unit (s := ⟨2, ![R, n]⟩) ![o, 0] ![r, n] inb).toLoadRect (h.unread x) (ix2 k d) = x (ix2 i d) := by
  refine (congrFun (h.read_unread x) _).trans (congrArg x (funext (Fin.forall_fin_two.mpr ⟨Fin.ext ?_, Fin.ext ?_⟩)))
  · show o + 1 * k.val = i.val
    omega
  · show 0 + 1 * d.val = d.val
    omega

theorem whole_in (w : Memref sig .tc .vmem S1x128x128 .bf16) (h : w.IsWhole) (x : Vec Ideal S1x128x128 .bf16) (inb) (j : S1x128x128.Idx) :
    View.readAt (Elt Ideal) w.view (Rect.unit (s := S1x128x128) ![0, 0, 0] ![1, 128, 128] inb).toLoadRect (h.unread x) j = x j := by
  refine (congrFun (h.read_unread x) _).trans (congrArg x (funext fun a => Fin.ext ?_))
  show (![0, 0, 0] : Fin 3 → ℕ) a + 1 * (j a).val = (j a).val
  match a with
  | ⟨0, _⟩ => show 0 + 1 * _ = _; omega
  | ⟨1, _⟩ => show 0 + 1 * _ = _; omega
  | ⟨2, _⟩ => show 0 + 1 * _ = _; omega

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S8x128 .f32) (harg3 : arg3.IsWhole) (arg4 : Memref sig .tc .vmem S8x128 .f32) (harg4 : arg4.IsWhole)
  (arg5 : Memref sig .tc .vmem S1x128x128 .bf16) (harg5 : arg5.IsWhole) (arg6 : Memref sig .tc .vmem S1x128x128 .bf16) (harg6 : arg6.IsWhole) (arg7 : Memref sig .tc .vmem S4096x128 .f32) (harg7 : arg7.IsWhole) (arg8 : Memref sig .tc .vmem S4096x128 .bf16) (harg8 : arg8.IsWhole)
  (arg9 : Memref sig .tc .vmem S4104x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S512x128 .f32) (harg12 : arg12.IsWhole)
  (x0 x1 : Vec Ideal S4096x128 .f32) (x2 x3 : Vec Ideal S8x128 .f32) (x4 x5 : Vec Ideal S1x128x128 .bf16)

/-- The rows below eight rows of zeros. -/
theorem ext_real (ξ : Fin 128 → ℕ → ℝ) (h0 : Rows x0 ξ) (k : ℕ) (hk : k < 4) (inb) (n : Fin 4096) (d : Fin 128) :
    arg9.view.readCov (Val := Elt Ideal) (e := .f32) (kernelRun0_A.sl.HS0_2 (F := Ideal) c arg1 harg1 x0) (Rect.unit (s := S4104x128) ![5 + k, 0] ![4096, 128] inb).toLoadRect (ix2 n d)
      = ((late3 (ξ d) (k + n.val) : ℝ) : EReal) := by
  have hn := n.isLt
  refine (row_cov _ _ inb ⟨5 + k + n.val, by omega⟩ n d rfl).trans ?_
  unfold kernelRun0_A.sl.HS0_2 late3
  split
  case isTrue h =>
    refine (row_miss (R := 4104) (n := 128) (o := 8) (r := 4096) _ _ _ _ d (.inl (by dsimp only; omega))).trans ?_
    refine (row_hit (R := 4104) (n := 128) (o := 0) (r := 8) (e := .f32) (Val := Elt Ideal) _ _ [] _ ⟨5 + k + n.val, by omega⟩ d (by simp only [Nat.zero_add])).trans ?_
    pointwise [kernelRun0_A.sl.v4, kernelRun0_A.sl.v1, kernelRun0_A.sl.cst]
    exact EReal.coe_zero.symm
  case isFalse h =>
    refine (row_hit (R := 4104) (n := 128) (o := 8) (r := 4096) (e := .f32) (Val := Elt Ideal) _ _ _ _ ⟨k + n.val - 3, by omega⟩ d (by dsimp only; omega)).trans ?_
    refine (congrFun (shapeCast_self _ _) _).trans ((row_in arg1 harg1 x0 _ _ d ⟨k + n.val - 3, by omega⟩ (Nat.zero_add _).symm).trans (h0 _ _))

section block
variable (ξ wk bb : Fin 128 → ℕ → ℝ) (g g' : Fin 128 → Fin 128 → ℝ) (h0 : Rows x0 ξ) (h2 : Rows x2 wk) (h3 : Rows x3 bb)

/-- The rows a block's gates read, and a gate. -/
def uK (d : Fin 128) (n : ℕ) : ℝ := xrR (ξ d) (wk d) (bb d 0) n
def zK (g : Fin 128 → Fin 128 → ℝ) (s : ℕ) (d : Fin 128) (n : ℕ) : ℝ := ∑ k, uK ξ wk bb k n * g k d + bb d s

include h0 h2 h3

theorem xr_rows : Rows (kernelRun0_A.sl.v33 (F := Ideal) c arg1 harg1 arg3 harg3 arg4 harg4 arg9 x0 x2 x3) (uK ξ wk bb) := by
  intro n d
  exact read_real n d _ _ _ _ _ _ _ _ _ ((row_in arg1 harg1 x0 _ n d n (Nat.zero_add _).symm).trans ((h0 n d).trans (by rw [late3, if_neg (by omega), Nat.add_sub_cancel_left])))
    ((ext_real c arg1 harg1 arg9 x0 ξ h0 0 (by norm_num) _ n d).trans (by rw [Nat.zero_add])) (ext_real c arg1 harg1 arg9 x0 ξ h0 1 (by norm_num) _ n d) (ext_real c arg1 harg1 arg9 x0 ξ h0 2 (by norm_num) _ n d)
    ((row_in arg4 harg4 x3 _ 0 d 0 rfl).trans (h3 0 d)) ((row_in arg3 harg3 x2 _ 0 d 3 rfl).trans (h2 3 d)) ((row_in arg3 harg3 x2 _ 0 d 0 rfl).trans (h2 0 d))
    ((row_in arg3 harg3 x2 _ 0 d 1 rfl).trans (h2 1 d)) ((row_in arg3 harg3 x2 _ 0 d 2 rfl).trans (h2 2 d))

variable (h4 : ∀ k d, x4 (ix3 0 k d) = ((g k d : ℝ) : EReal)) (h5 : ∀ k d, x5 (ix3 0 k d) = ((g' k d : ℝ) : EReal))

include h5 in
theorem i_rows : Rows (kernelRun0_A.sl.v62 (F := Ideal) c arg1 harg1 arg3 harg3 arg4 harg4 arg6 harg6 arg9 x0 x2 x3 x5) fun d n => sgR (zK ξ wk bb g' 2 d n) := fun n d =>
  gate_real n d (kernelRun0_A.sl.v33 (F := Ideal) c arg1 harg1 arg3 harg3 arg4 harg4 arg9 x0 x2 x3) _ _ (fun k => xr_rows c arg1 harg1 arg3 harg3 arg4 harg4 arg9 x0 x2 x3 ξ wk bb h0 h2 h3 n k) (fun k => (whole_in arg6 harg6 x5 _ _).trans (h5 k d)) ((row_in arg4 harg4 x3 _ 0 d 2 rfl).trans (h3 2 d))

include h4

theorem r_rows : Rows (kernelRun0_A.sl.v48 (F := Ideal) c arg1 harg1 arg3 harg3 arg4 harg4 arg5 harg5 arg9 x0 x2 x3 x4) fun d n => sgR (zK ξ wk bb g 1 d n) := fun n d =>
  gate_real n d (kernelRun0_A.sl.v33 (F := Ideal) c arg1 harg1 arg3 harg3 arg4 harg4 arg9 x0 x2 x3) _ _ (fun k => xr_rows c arg1 harg1 arg3 harg3 arg4 harg4 arg9 x0 x2 x3 ξ wk bb h0 h2 h3 n k) (fun k => (whole_in arg5 harg5 x4 _ _).trans (h4 k d)) ((row_in arg4 harg4 x3 _ 0 d 1 rfl).trans (h3 1 d))

theorem la_rows : Rows (kernelRun0_A.sl.v89 (F := Ideal) c arg1 harg1 arg3 harg3 arg4 harg4 arg5 harg5 arg9 x0 x2 x3 x4) fun d n => laR (zK ξ wk bb g 1 d n) (bb d 3) := fun n d =>
  log_real n d _ c_one (kernelRun0_A.sl.v48 (F := Ideal) c arg1 harg1 arg3 harg3 arg4 harg4 arg5 harg5 arg9 x0 x2 x3 x4) _ (r_rows c arg1 harg1 arg3 harg3 arg4 harg4 arg5 harg5 arg9 x0 x2 x3 x4 ξ wk bb g h0 h2 h3 h4 n d) ((row_in arg4 harg4 x3 _ 0 d 3 rfl).trans (h3 3 d))

theorem a_rows : Rows (kernelRun0_A.sl.v90 (F := Ideal) c arg1 harg1 arg3 harg3 arg4 harg4 arg5 harg5 arg9 x0 x2 x3 x4) fun d n => Real.exp (laR (zK ξ wk bb g 1 d n) (bb d 3)) := fun n d =>
  (congrArg Ideal.exp (la_rows c arg1 harg1 arg3 harg3 arg4 harg4 arg5 harg5 arg9 x0 x2 x3 x4 ξ wk bb g h0 h2 h3 h4 n d)).trans (Ideal.exp_coe _)

include h5

theorem b_rows (hf : ∀ d (n : Fin 4096), ((2 * laR (zK ξ wk bb g 1 d n.val) (bb d 3) : ℝ) : EReal) ≤ Ideal.ofBits .f32 0xBD4CCCCD#32) :
    Rows (kernelRun0_A.sl.v117 (F := Ideal) c arg1 harg1 arg3 harg3 arg4 harg4 arg5 harg5 arg6 harg6 arg9 x0 x2 x3 x4 x5) fun d n => addR (zK ξ wk bb g 1 d n) (zK ξ wk bb g' 2 d n) (bb d 3) (uK ξ wk bb d n) := fun n d => by
  have e1 : kernelRun0_A.sl.v115 (F := Ideal) c arg1 harg1 arg3 harg3 arg4 harg4 arg5 harg5 arg9 x0 x2 x3 x4 (ix2 n d) = _ :=
    room_real n d _ (kernelRun0_A.sl.v48 (F := Ideal) c arg1 harg1 arg3 harg3 arg4 harg4 arg5 harg5 arg9 x0 x2 x3 x4) _ (la_rows c arg1 harg1 arg3 harg3 arg4 harg4 arg5 harg5 arg9 x0 x2 x3 x4 ξ wk bb g h0 h2 h3 h4 n d) (hf d n) (room _ _)
  have e2 := i_rows c arg1 harg1 arg3 harg3 arg4 harg4 arg6 harg6 arg9 x0 x2 x3 x5 ξ wk bb g' h0 h2 h3 h5 n d
  have e3 := xr_rows c arg1 harg1 arg3 harg3 arg4 harg4 arg9 x0 x2 x3 ξ wk bb h0 h2 h3 n d
  show (kernelRun0_A.sl.v115 (F := Ideal) c arg1 harg1 arg3 harg3 arg4 harg4 arg5 harg5 arg9 x0 x2 x3 x4) (ix2 n d) * ((kernelRun0_A.sl.v62 (F := Ideal) c arg1 harg1 arg3 harg3 arg4 harg4 arg6 harg6 arg9 x0 x2 x3 x5) (ix2 n d) * (kernelRun0_A.sl.v33 (F := Ideal) c arg1 harg1 arg3 harg3 arg4 harg4 arg9 x0 x2 x3) (ix2 n d)) = _
  rw [e1, e2, e3, ← EReal.coe_mul, ← EReal.coe_mul]
  rfl
end block

end Cert.RnnFwd
-- ==== Proof.RnnBwd.Back.lean ====
/- A linear recurrence run backwards over the reals, `g n = a (n + 1) * g (n + 1) + c n`, and how the derivative of a scan
   by halves rebuilds it from the recurrence of the pairs of steps. -/
module

public import proofs.«01_k».proof.Proof.RnnFwd.Scan

@[expose] public section

set_option maxRecDepth 16384

noncomputable section

namespace Cert.RnnBwd

open Idealize.ShloMosaic Idealize.ShloMosaic.TcCoe Idealize.SL.Sem
open Cert.Lift Cert.RnnFwd

/-- The recurrence run backwards from zero at step `L` down to step `t`. -/
def rG (a c : ℕ → ℝ) (L t : ℕ) : ℝ := pH (fun q => a (L - q)) (fun q => c (L - 1 - q)) 0 (L - t)

theorem rG_end (a c : ℕ → ℝ) {L t : ℕ} (h : L ≤ t) : rG a c L t = 0 := by
  rw [rG, Nat.sub_eq_zero_of_le h]; rfl

theorem rG_step (a c : ℕ → ℝ) {L t : ℕ} (h : t < L) : rG a c L t = a (t + 1) * rG a c L (t + 1) + c t := by
  rw [rG, show L - t = (L - (t + 1)) + 1 by omega]
  show a (L - (0 + (L - (t + 1)))) * pH _ _ 0 (L - (t + 1)) + c (L - 1 - (0 + (L - (t + 1)))) = _
  rw [show L - (0 + (L - (t + 1))) = t + 1 by omega, show L - 1 - (0 + (L - (t + 1))) = t by omega]; rfl

/-- What a pair of steps adds, run backwards. -/
def nextC (a c : ℕ → ℝ) (L q : ℕ) : ℝ := c (2 * q + 1) + if 2 * q + 2 < L then a (2 * q + 2) * c (2 * q + 2) else 0

theorem rG_pairs (a c : ℕ → ℝ) (n : ℕ) : ∀ k q, q + k = n → rG (fun q => pA a (2 * q) 2) (nextC a c (n + n)) n q = rG a c (n + n) (2 * q + 1)
  | 0, q, h => by rw [rG_end _ _ (by omega), rG_end _ _ (by omega)]
  | k + 1, q, h => by
    rw [rG_step _ _ (by omega), rG_pairs a c n k (q + 1) (by omega), rG_step a c (t := 2 * q + 1) (by omega), nextC]
    show a (2 * (q + 1) + 1) * (a (2 * (q + 1) + 0) * 1) * _ + _ = _
    rw [show 2 * (q + 1) + 1 = 2 * q + 3 by ring, show 2 * (q + 1) + 0 = 2 * q + 2 by ring]
    by_cases h2 : 2 * q + 2 < n + n
    · rw [if_pos h2, rG_step a c (t := 2 * q + 1 + 1) (by omega), show 2 * q + 1 + 1 = 2 * q + 2 by ring, show 2 * q + 2 + 1 = 2 * q + 3 by ring]; ring
    · rw [if_neg h2, rG_end a c (t := 2 * q + 3) (by omega), rG_end a c (t := 2 * q + 1 + 1) (by omega)]; ring

/-- What the steps add, run backwards, after they were taken in pairs `j` times. -/
def cl (a b c : ℕ → ℝ) : ℕ → ℕ → ℝ
  | 0 => c
  | j + 1 => nextC (lvl a b j).1 (cl a b c j) (4096 / 2 ^ j)

/-- The recurrence run backwards, after `j` times. -/
def gl (a b c : ℕ → ℝ) (j t : ℕ) : ℝ := rG (lvl a b j).1 (cl a b c j) (4096 / 2 ^ j) t

/-- The state before a step, after `j` times. -/
def hl (a b : ℕ → ℝ) (j t : ℕ) : ℝ := pH (lvl a b j).1 (lvl a b j).2 0 t

section halves
variable {C : ℕ}

/-- An array of rows spread out and padded with zeros. -/
theorem padded {L n lo hi it : ℕ} (q : FVec Ideal ⟨2, ![n, C]⟩ .f32) (f : Fin C → ℕ → ℝ) (hq : Rows q f) {u : Shape} (z : u.Idx → EReal) (hu) (hz : ∀ x, z x = 0) (h) :
    Rows (pad ⟨2, ![L, C]⟩ ![lo, 0] ![hi, 0] ![it, 0] q z h hu) (fun c t => if lo ≤ t ∧ (t - lo) % (it + 1) = 0 ∧ (t - lo) / (it + 1) < n then f c ((t - lo) / (it + 1)) else 0) := by
  intro i c
  show _ = ((if lo ≤ i.val ∧ (i.val - lo) % (it + 1) = 0 ∧ (i.val - lo) / (it + 1) < n then f c ((i.val - lo) / (it + 1)) else 0 : ℝ) : EReal)
  by_cases hk : lo ≤ i.val ∧ (i.val - lo) % (it + 1) = 0 ∧ (i.val - lo) / (it + 1) < n
  · rw [if_pos hk, pad_apply_of_inside _ _ _ q z h hu _ (ix2 ⟨(i.val - lo) / (it + 1), hk.2.2⟩ c) (Fin.forall_fin_two.mpr ⟨?_, ?_⟩)]
    · exact hq _ c
    · show i.val = lo + (i.val - lo) / (it + 1) * (it + 1)
      have := Nat.div_add_mod (i.val - lo) (it + 1)
      rw [hk.2.1, Nat.mul_comm] at this; omega
    · show c.val = 0 + c.val * 1
      omega
  · rw [if_neg hk, pad_apply_of_not_inside _ _ _ q z h hu (ix2 i c) 0 hk, hz]; rfl

variable {L n k : ℕ}

/-- The even or the odd steps of an array of rows. -/
theorem half (o : FVec Ideal ⟨2, ![L, C]⟩ .f32) (f : Fin C → ℕ → ℝ) (ho : Rows o f) (p : ℕ) (hp : p < 2) (hL : n + n = L) (h1 h2 h3) :
    Rows (shapeCast ⟨2, ![n, C]⟩ (extractStridedSlice ⟨3, ![n, 1, C]⟩ ![0, p, 0] (shapeCast ⟨3, ![n, 2, C]⟩ o h1) h2) h3) (fun c t => f c (2 * t + p)) := by
  intro i c
  have hi := i.isLt
  refine (shapeCast_apply _ h3 _ (ix3 i 0 c) ?_).trans ((extractStridedSlice_apply _ _ h2 _ (ix3 i ⟨p, hp⟩ c) ?_).trans ((shapeCast_apply o h1 _ (ix2 ⟨2 * i.val + p, by omega⟩ c) ?_).trans (ho _ c)))
  · rw [Shape.rowMajor_val_three, Shape.rowMajor_val_two]
    show (i.val * 1 + 0) * C + c.val = i.val * C + c.val
    rw [Nat.mul_one, Nat.add_zero]
  · intro a
    match a with
    | ⟨0, _⟩ => exact (Nat.zero_add _).symm
    | ⟨1, _⟩ => rfl
    | ⟨2, _⟩ => exact (Nat.zero_add _).symm
  · rw [Shape.rowMajor_val_three, Shape.rowMajor_val_two]
    show (2 * i.val + p) * C + c.val = (i.val * 2 + p) * C + c.val
    rw [Nat.mul_comm 2]

/-- The steps after the first, or all but the last. -/
theorem shifted (o : FVec Ideal ⟨2, ![n, C]⟩ .f32) (f : Fin C → ℕ → ℝ) (ho : Rows o f) (p : ℕ) (hp : p + k ≤ n) (h) :
    Rows (extractStridedSlice ⟨2, ![k, C]⟩ ![p, 0] o h) (fun c t => f c (p + t)) := by
  intro i c
  have hi := i.isLt
  exact (extractStridedSlice_apply _ o h _ (ix2 ⟨p + i.val, by omega⟩ c) (Fin.forall_fin_two.mpr ⟨rfl, (Nat.zero_add _).symm⟩)).trans (ho _ c)

theorem mul_rows {v w : FVec Ideal ⟨2, ![n, C]⟩ .f32} {f g : Fin C → ℕ → ℝ} (hv : Rows v f) (hw : Rows w g) : Rows (mulf v w) fun c t => f c t * g c t := by
  intro i c
  show v (ix2 i c) * w (ix2 i c) = _
  rw [hv, hw, ← EReal.coe_mul]

theorem add_rows {v w : FVec Ideal ⟨2, ![n, C]⟩ .f32} {f g : Fin C → ℕ → ℝ} (hv : Rows v f) (hw : Rows w g) : Rows (addf v w) fun c t => f c t + g c t := by
  intro i c
  show v (ix2 i c) + w (ix2 i c) = _
  rw [hv, hw, ← EReal.coe_add]

/-- Rows that agree on the rows there are. -/
theorem rows_congr {v : FVec Ideal ⟨2, ![n, C]⟩ .f32} {f g : Fin C → ℕ → ℝ} (hv : Rows v f) (h : ∀ c, ∀ t < n, f c t = g c t) : Rows v g :=
  fun i c => (hv i c).trans (congrArg _ (h c i.val i.isLt))

end halves

section levels
variable {L n k C : ℕ} {f g h : Fin C → ℕ → ℝ} {j : ℕ} {u : Shape}

/-- An array of what the steps add, run backwards, after `j` times. -/
def Cot (o : FVec Ideal ⟨2, ![L, C]⟩ .f32) (f g h : Fin C → ℕ → ℝ) (j : ℕ) : Prop := Rows o fun c => cl (f c) (g c) (h c) j

/-- Two arrays that hold the derivatives by the factors and by the summands. -/
def Ders (dv dw : FVec Ideal ⟨2, ![L, C]⟩ .f32) (f g h : Fin C → ℕ → ℝ) (j : ℕ) : Prop :=
  Rows dw (fun c t => gl (f c) (g c) (h c) j t) ∧ Rows dv fun c t => gl (f c) (g c) (h c) j t * hl (f c) (g c) j t

theorem cot_down {o v : FVec Ideal ⟨2, ![L, C]⟩ .f32} (ho : Cot o f g h j) (hv : Rows v fun c => (lvl (f c) (g c) j).1) (hn : k + 1 = n) (hL : n + n = L) (hj : L = 4096 / 2 ^ j)
    {z : u.Idx → EReal} (hz : ∀ x, z x = 0) (h1 h2 h3 h4 h5 h6 h7 h8 hu) :
    Cot (addf (φ := .f32) (shapeCast ⟨2, ![n, C]⟩ (extractStridedSlice ⟨3, ![n, 1, C]⟩ ![0, 1, 0] (shapeCast ⟨3, ![n, 2, C]⟩ o h1) h2) h3)
      (pad ⟨2, ![n, C]⟩ ![0, 0] ![1, 0] ![0, 0] (mulf (Host.slice ⟨2, ![k, C]⟩ ![2, 0] ![2, 1] v h4)
        (extractStridedSlice ⟨2, ![k, C]⟩ ![1, 0] (shapeCast ⟨2, ![n, C]⟩ (extractStridedSlice ⟨3, ![n, 1, C]⟩ ![0, 0, 0] (shapeCast ⟨3, ![n, 2, C]⟩ o h1) h5) h6) h7)) z h8 hu)) f g h (j + 1) := by
  refine rows_congr (add_rows (half o _ ho 1 (by norm_num) hL h1 h2 h3)
    (padded _ _ (mul_rows (picked 2 v _ hv h4 (fun i => by have := i.isLt; omega)) (shifted _ _ (half o _ ho 0 (by norm_num) hL h1 h5 h6) 1 (by omega) h7)) z hu hz h8)) fun c t ht => ?_
  show _ = nextC _ _ (4096 / 2 ^ j) t
  rw [nextC, ← hj]
  refine congrArg _ ?_
  by_cases hk : t < k
  · rw [if_pos ⟨Nat.zero_le _, Nat.mod_one _, (by rw [Nat.div_one]; omega)⟩, if_pos (by omega)]
    simp only [Nat.sub_zero, Nat.zero_add, Nat.div_one, Nat.add_zero]
    rw [Nat.add_comm 2, show 2 * (1 + t) = 2 * t + 2 by ring]
  · rw [if_neg (by simp only [Nat.sub_zero, Nat.zero_add, Nat.div_one]; omega), if_neg (by omega)]

theorem gl_pairs (a b c : ℕ → ℝ) (n q : ℕ) (h : n + n = 4096 / 2 ^ j) (h' : n = 4096 / 2 ^ (j + 1)) (hq : q ≤ n) : gl a b c (j + 1) q = gl a b c j (2 * q + 1) := by
  rw [gl, gl, ← h, ← h', cl, ← h]
  exact rG_pairs _ _ n (n - q) q (by omega)

theorem hl_pairs (a b : ℕ → ℝ) (q : ℕ) : hl a b (j + 1) q = hl a b j (2 * q) := pairs _ _ q

theorem hl_step (a b : ℕ → ℝ) (t : ℕ) : hl a b j (t + 1) = (lvl a b j).1 t * hl a b j t + (lvl a b j).2 t := by
  show (lvl a b j).1 (0 + t) * hl a b j t + (lvl a b j).2 (0 + t) = _
  rw [Nat.zero_add]

theorem gl_step (a b c : ℕ → ℝ) {t : ℕ} (ht : t < 4096 / 2 ^ j) : gl a b c j t = (lvl a b j).1 (t + 1) * gl a b c j (t + 1) + cl a b c j t := rG_step _ _ ht

/-- A row past the last is not reached. -/
theorem gl_end (a b c : ℕ → ℝ) {t : ℕ} (ht : 4096 / 2 ^ j ≤ t) : gl a b c j t = 0 := rG_end _ _ ht

theorem ders_up {o v w : FVec Ideal ⟨2, ![L, C]⟩ .f32} {s dv dw : FVec Ideal ⟨2, ![n, C]⟩ .f32} (ho : Cot o f g h j) (hb : Both v w f g j) (hs : States s f g (j + 1)) (hd : Ders dv dw f g h (j + 1))
    (hn : k + 1 = n) (hL : n + n = L) (hj : L = 4096 / 2 ^ j) (hj' : n = 4096 / 2 ^ (j + 1)) {e : ℕ}
    {z0 z1 z2 z3 z4 z5 z6 : u.Idx → EReal} (hz0 : ∀ x, z0 x = 0) (hz1 : ∀ x, z1 x = 0) (hz2 : ∀ x, z2 x = 0) (hz3 : ∀ x, z3 x = 0) (hz4 : ∀ x, z4 x = 0) (hz5 : ∀ x, z5 x = 0) (hz6 : ∀ x, z6 x = 0)
    (h1 h2 h3 h4 h5 h6 h7 h8 h9 h10 h11 h12 h13 h14 h15 h16 h17 h18 u0 u1 u2 u3 u4 u5 u6) :
    Ders
      (addf (φ := .f32) (addf (φ := .f32) (pad ⟨2, ![L, C]⟩ ![2, 0] ![e, 0] ![1, 0] (mulf (extractStridedSlice ⟨2, ![k, C]⟩ ![1, 0] (shapeCast ⟨2, ![n, C]⟩ (extractStridedSlice ⟨3, ![n, 1, C]⟩ ![0, 0, 0] (shapeCast ⟨3, ![n, 2, C]⟩ o h1) h2) h3) h4)
            (extractStridedSlice ⟨2, ![k, C]⟩ ![0, 0] s h5)) z0 h6 u0)
          (pad ⟨2, ![L, C]⟩ ![1, 0] ![0, 0] ![1, 0] (addf (mulf dw (Host.slice ⟨2, ![n, C]⟩ ![0, 0] ![2, 1] w h7)) (mulf (Host.slice ⟨2, ![n, C]⟩ ![0, 0] ![2, 1] v h8) dv)) z1 h9 u1))
        (pad ⟨2, ![L, C]⟩ ![0, 0] ![1, 0] ![1, 0] (mulf dv (Host.slice ⟨2, ![n, C]⟩ ![1, 0] ![2, 1] v h10)) z2 h11 u2))
      (addf (φ := .f32) (addf (φ := .f32) (addf (φ := .f32) (pad ⟨2, ![L, C]⟩ ![0, 0] ![h12, 0] ![0, 0] (extractStridedSlice ⟨2, ![1, C]⟩ ![0, 0] (shapeCast ⟨2, ![n, C]⟩ (extractStridedSlice ⟨3, ![n, 1, C]⟩ ![0, 0, 0] (shapeCast ⟨3, ![n, 2, C]⟩ o h1) h2) h3) h13) z3 h14 u3)
            (pad ⟨2, ![L, C]⟩ ![2, 0] ![e, 0] ![1, 0] (extractStridedSlice ⟨2, ![k, C]⟩ ![1, 0] (shapeCast ⟨2, ![n, C]⟩ (extractStridedSlice ⟨3, ![n, 1, C]⟩ ![0, 0, 0] (shapeCast ⟨3, ![n, 2, C]⟩ o h1) h2) h3) h4) z4 h15 u4))
          (pad ⟨2, ![L, C]⟩ ![1, 0] ![0, 0] ![1, 0] dw z5 h16 u5))
        (pad ⟨2, ![L, C]⟩ ![0, 0] ![1, 0] ![1, 0] (mulf (Host.slice ⟨2, ![n, C]⟩ ![1, 0] ![2, 1] v h17) dw) z6 h18 u6)) f g h j := by
  have he : ∀ hh, Rows (shapeCast ⟨2, ![n, C]⟩ (extractStridedSlice ⟨3, ![n, 1, C]⟩ ![0, 0, 0] (shapeCast ⟨3, ![n, 2, C]⟩ o h1) hh) h3) (fun c t => cl (f c) (g c) (h c) j (2 * t + 0)) := fun hh => half o _ ho 0 (by norm_num) hL h1 hh h3
  have he1 := shifted _ _ (he h2) 1 (show 1 + k ≤ n by omega) h4
  have hvo : ∀ hh, Rows (Host.slice ⟨2, ![n, C]⟩ ![1, 0] ![2, 1] v hh) (fun c t => (lvl (f c) (g c) j).1 (1 + 2 * t)) := fun hh => picked 1 v _ hb.1 hh (fun i => by have := i.isLt; omega)
  constructor
  · refine rows_congr (add_rows (add_rows (add_rows (padded _ _ (shifted _ _ (he h2) 0 (show 0 + 1 ≤ n by omega) h13) z3 u3 hz3 h14) (padded _ _ he1 z4 u4 hz4 h15)) (padded _ _ hd.1 z5 u5 hz5 h16))
      (padded _ _ (mul_rows (hvo h17) hd.1) z6 u6 hz6 h18)) fun c t ht => ?_
    beta_reduce
    rcases Nat.even_or_odd' t with ⟨q, rfl | rfl⟩
    · rw [gl_step (j := j) _ _ _ (by omega), ← gl_pairs _ _ _ n q (by omega) hj' (by omega), if_neg (c := 1 ≤ 2 * q ∧ _) (by omega), if_pos (c := 0 ≤ 2 * q ∧ (2 * q - 0) % (1 + 1) = 0 ∧ _) (by omega),
        show (2 * q - 0) / (1 + 1) = q by omega, Nat.add_comm 1 (2 * q)]
      by_cases h0 : q = 0
      · subst h0
        rw [if_pos (by omega), if_neg (by omega)]
        simp only [Nat.mul_zero, Nat.zero_sub, Nat.zero_div, Nat.add_zero, Nat.zero_add]; ring
      · rw [if_neg (by omega), if_pos (by omega), show 2 * (1 + (2 * q - 2) / (1 + 1)) + 0 = 2 * q by omega]; ring
    · rw [← gl_pairs _ _ _ n q (by omega) hj' (by omega), if_neg (by omega), if_neg (by omega), if_pos (by omega), if_neg (by omega), show (2 * q + 1 - 1) / (1 + 1) = q by omega]; ring
  · have hs' : Rows s fun c t => hl (f c) (g c) (j + 1) (t + 1) := hs
    refine rows_congr (add_rows (add_rows (padded _ _ (mul_rows he1 (shifted _ _ hs' 0 (show 0 + k ≤ n by omega) h5)) z0 u0 hz0 h6)
      (padded _ _ (add_rows (mul_rows hd.1 (picked 0 w _ hb.2 h7 (fun i => by have := i.isLt; omega))) (mul_rows (picked 0 v _ hb.1 h8 (fun i => by have := i.isLt; omega)) hd.2)) z1 u1 hz1 h9))
      (padded _ _ (mul_rows hd.2 (hvo h10)) z2 u2 hz2 h11)) fun c t ht => ?_
    beta_reduce
    simp only [hl_pairs]
    rcases Nat.even_or_odd' t with ⟨q, rfl | rfl⟩
    · rw [gl_step (j := j) _ _ _ (by omega), ← gl_pairs _ _ _ n q (by omega) hj' (by omega), if_neg (c := 1 ≤ 2 * q ∧ _) (by omega), if_pos (c := 0 ≤ 2 * q ∧ (2 * q - 0) % (1 + 1) = 0 ∧ _) (by omega),
        show (2 * q - 0) / (1 + 1) = q by omega, Nat.add_comm 1 (2 * q)]
      by_cases h0 : q = 0
      · subst h0
        rw [if_neg (by omega)]
        show 0 + 0 + gl _ _ _ (j + 1) 0 * 0 * _ = (_ + _) * 0
        ring
      · rw [if_pos (by omega), show 2 * (1 + (2 * q - 2) / (1 + 1)) + 0 = 2 * q by omega, show 2 * (0 + (2 * q - 2) / (1 + 1) + 1) = 2 * q by omega]; ring
    · rw [← gl_pairs _ _ _ n q (by omega) hj' (by omega), if_neg (by omega), if_pos (by omega), if_neg (by omega), show (2 * q + 1 - 1) / (1 + 1) = q by omega, hl_step]
      simp only [Nat.zero_add]; ring

/-- The last pair: its factors' derivatives come from one product alone. -/
theorem ders_last {o v w : FVec Ideal ⟨2, ![2, C]⟩ .f32} {s dw : FVec Ideal ⟨2, ![1, C]⟩ .f32} (ho : Cot o f g h j) (hb : Both v w f g j) (hd : Rows dw (fun c t => gl (f c) (g c) (h c) (j + 1) t))
    (hj : 2 = 4096 / 2 ^ j) (hj' : 1 = 4096 / 2 ^ (j + 1))
    {z0 z1 z3 z4 z5 z6 : u.Idx → EReal} (hz0 : ∀ x, z0 x = 0) (hz1 : ∀ x, z1 x = 0) (hz3 : ∀ x, z3 x = 0) (hz4 : ∀ x, z4 x = 0) (hz5 : ∀ x, z5 x = 0) (hz6 : ∀ x, z6 x = 0)
    (h1 h2 h3 h4 h5 h6 h7 h9 h13 h14 h15 h16 h17 h18 u0 u1 u3 u4 u5 u6) :
    Ders
      (addf (φ := .f32) (pad ⟨2, ![2, C]⟩ ![2, 0] ![0, 0] ![1, 0] (mulf (extractStridedSlice ⟨2, ![0, C]⟩ ![1, 0] (shapeCast ⟨2, ![1, C]⟩ (extractStridedSlice ⟨3, ![1, 1, C]⟩ ![0, 0, 0] (shapeCast ⟨3, ![1, 2, C]⟩ o h1) h2) h3) h4)
            (extractStridedSlice ⟨2, ![0, C]⟩ ![0, 0] s h5)) z0 h6 u0)
          (pad ⟨2, ![2, C]⟩ ![1, 0] ![0, 0] ![1, 0] (mulf dw (Host.slice ⟨2, ![1, C]⟩ ![0, 0] ![2, 1] w h7)) z1 h9 u1))
      (addf (φ := .f32) (addf (φ := .f32) (addf (φ := .f32) (pad ⟨2, ![2, C]⟩ ![0, 0] ![1, 0] ![0, 0] (extractStridedSlice ⟨2, ![1, C]⟩ ![0, 0] (shapeCast ⟨2, ![1, C]⟩ (extractStridedSlice ⟨3, ![1, 1, C]⟩ ![0, 0, 0] (shapeCast ⟨3, ![1, 2, C]⟩ o h1) h2) h3) h13) z3 h14 u3)
            (pad ⟨2, ![2, C]⟩ ![2, 0] ![0, 0] ![1, 0] (extractStridedSlice ⟨2, ![0, C]⟩ ![1, 0] (shapeCast ⟨2, ![1, C]⟩ (extractStridedSlice ⟨3, ![1, 1, C]⟩ ![0, 0, 0] (shapeCast ⟨3, ![1, 2, C]⟩ o h1) h2) h3) h4) z4 h15 u4))
          (pad ⟨2, ![2, C]⟩ ![1, 0] ![0, 0] ![1, 0] dw z5 h16 u5))
        (pad ⟨2, ![2, C]⟩ ![0, 0] ![1, 0] ![1, 0] (mulf (Host.slice ⟨2, ![1, C]⟩ ![1, 0] ![2, 1] v h17) dw) z6 h18 u6)) f g h j := by
  have he : ∀ hh, Rows (shapeCast ⟨2, ![1, C]⟩ (extractStridedSlice ⟨3, ![1, 1, C]⟩ ![0, 0, 0] (shapeCast ⟨3, ![1, 2, C]⟩ o h1) hh) h3) (fun c t => cl (f c) (g c) (h c) j (2 * t + 0)) := fun hh => half o _ ho 0 (by norm_num) (n := 1) rfl h1 hh h3
  have he1 := shifted _ _ (he h2) 1 (show 1 + 0 ≤ 1 by omega) h4
  have e1 : ∀ a b c, gl a b c (j + 1) 0 = gl a b c j 1 := fun a b c => gl_pairs a b c 1 0 hj hj' (by norm_num)
  constructor
  · refine rows_congr (add_rows (add_rows (add_rows (padded _ _ (shifted _ _ (he h2) 0 (show 0 + 1 ≤ 1 by omega) h13) z3 u3 hz3 h14) (padded _ _ he1 z4 u4 hz4 h15)) (padded _ _ hd z5 u5 hz5 h16))
      (padded _ _ (mul_rows (picked 1 v _ hb.1 h17 (fun i => by have := i.isLt; omega)) hd) z6 u6 hz6 h18)) fun c t ht => ?_
    interval_cases t
    · rw [gl_step (j := j) _ _ _ (by omega), ← e1]; norm_num; ring
    · rw [← e1]; norm_num
  · have h0 : Rows (extractStridedSlice ⟨2, ![0, C]⟩ ![0, 0] s h5) (fun _ _ => 0) := fun i => i.elim0
    refine rows_congr (add_rows (padded _ _ (mul_rows he1 h0) z0 u0 hz0 h6)
      (padded _ _ (mul_rows hd (picked 0 w _ hb.2 h7 (fun i => by have := i.isLt; omega))) z1 u1 hz1 h9)) fun c t ht => ?_
    have e0 : hl (f c) (g c) j 0 = 0 := rfl
    interval_cases t
    · rw [e0]; norm_num
    · rw [← e1, hl_step, e0]; norm_num

end levels

end Cert.RnnBwd
-- ==== Proof.RnnBwd.KScan.lean ====
/- The kernel's recurrence run backwards over one block of channels. Read from the last row up it is the recurrence that the
   forward kernel runs, so its doubling steps are those of the forward kernel. -/
module

public import proofs.«01_k».proof.Proof.Gen.KernelRnnBwdIdeal.Value
public import proofs.«01_k».proof.Proof.RnnFwd.KGate
public import proofs.«01_k».proof.Proof.RnnBwd.Back

@[expose] public section

set_option maxRecDepth 16384

noncomputable section

namespace Cert.RnnBwd

open Idealize.ShloMosaic Idealize.ShloMosaic.TcCoe Idealize.SL.Sem
open Idealize.ShloMosaic.Pipeline (Dat)
open Cert.KernelRnnBwdIdeal Cert.KernelRnnBwdIdeal.Gen Cert.Lift Cert.RnnFwd

section flips
variable {M C N : ℕ} {α : Type}

/-- An array read from its last row up. -/
def flip (v : (⟨2, ![M, C]⟩ : Shape).Idx → α) : (⟨2, ![M, C]⟩ : Shape).Idx → α := fun x => v (ix2 (Fin.rev (x 0)) (x 1))

theorem flip_ix (v : (⟨2, ![M, C]⟩ : Shape).Idx → α) (i : Fin M) (c : Fin C) : flip v (ix2 i c) = v (ix2 (Fin.rev i) c) := rfl

theorem Rows.flip {v : FVec Ideal ⟨2, ![M, C]⟩ .f32} {f : Fin C → ℕ → ℝ} (h : Rows v f) : Rows (flip v) fun c t => f c (M - 1 - t) := by
  intro i c
  refine (h (Fin.rev i) c).trans (congrArg (fun k => ((f c k : ℝ) : EReal)) ?_)
  rw [Fin.val_rev]; omega

theorem Rows.unflip {v : FVec Ideal ⟨2, ![M, C]⟩ .f32} {f : Fin C → ℕ → ℝ} (h : Rows (RnnBwd.flip v) f) : Rows v fun c t => f c (M - 1 - t) := by
  intro i c
  have e := h (Fin.rev i) c
  rw [flip_ix, Fin.rev_rev, Fin.val_rev] at e
  rw [e, show M - (i.val + 1) = M - 1 - i.val by omega]

theorem slt_iff {s n : ℕ} (hs : s < 2 ^ 31) (hn : n < 2 ^ 31) : IntOp.cmpi .slt (BitVec.ofNat 32 n) (BitVec.ofNat 32 s) = 1#1 ↔ n < s := by
  have h : ∀ k < 2 ^ 31, (BitVec.ofNat 32 k).toInt = (k : ℤ) := fun k hk => by
    rw [BitVec.toInt_eq_toNat_of_lt (by rw [BitVec.toNat_ofNat]; omega), BitVec.toNat_ofNat]; omega
  show BitVec.ofBool ((BitVec.ofNat 32 n).slt (BitVec.ofNat 32 s)) = 1#1 ↔ _
  rw [BitVec.slt, h s hs, h n hn]
  by_cases hk : n < s
  · simp [hk]
  · simp [hk]

/-- A row's place in its block of `N`. -/
def place (M C N : ℕ) : IVec ⟨2, ![M, C]⟩ 32 := fun x => BitVec.ofNat 32 ((x 0).val % N)

/-- The rows that have a row `s` after them in their block. -/
def okB (p : IVec ⟨2, ![M, C]⟩ 32) (N s : ℕ) : IVec ⟨2, ![M, C]⟩ 1 := cmpi .slt p (broadcast ⟨2, ![M, C]⟩ (BitVec.ofNat 32 (N - s)))

variable (p : IVec ⟨2, ![M, C]⟩ 32) (hr : (⟨2, ![M, C]⟩ : Shape).Rotates 0 none) (hp : ∀ i c, p (ix2 i c) = BitVec.ofNat 32 (i.val % N)) (hM : M < 2 ^ 31) (hN : 0 < N) (hd : N ∣ M)

include hN hd in
theorem mod_rev (i : Fin M) : (M - (i.val + 1)) % N = N - 1 - i.val % N := by
  obtain ⟨q, rfl⟩ := hd
  have hi := i.isLt
  have h1 := Nat.mod_lt i.val hN
  have h2 := Nat.div_add_mod i.val N
  have h3 : i.val / N < q := Nat.div_lt_of_lt_mul hi
  obtain ⟨r, hr⟩ := Nat.exists_eq_add_of_lt h3
  have e : N * q - (i.val + 1) = N - 1 - i.val % N + N * r := by
    have h4 : N * q = N * (i.val / N) + N * r + N := (congrArg (N * ·) hr).trans (by ring)
    omega
  rw [e, Nat.add_mul_mod_self_left, Nat.mod_eq_of_lt (by omega)]

include hp hM hN hd

/-- One doubling step backwards, read from the last row up. -/
theorem flip_step {s : ℕ} (hs : 0 < s) (hsN : s ≤ N) (hsM : s < M) (v : FVec Ideal ⟨2, ![M, C]⟩ .f32) (z : FVec Ideal ⟨2, ![M, C]⟩ .f32) (hz : ∀ x, flip z x = z x) :
    flip (select (okB p N s) (dynamicRotate 0 (BitVec.ofNat 32 (M - s)) none v hr) z)
      = select (okAt (place M C N) s) (dynamicRotate 0 (BitVec.ofNat 32 s) none (flip v) hr) z := by
  have hNM := Nat.le_of_dvd (by omega) hd
  funext x
  obtain ⟨x0, x1, rfl⟩ : ∃ i c, x = ix2 i c := ⟨x 0, x 1, funext (Fin.forall_fin_two.mpr ⟨rfl, rfl⟩)⟩
  have hx := x0.isLt
  have hm := Nat.mod_lt x0.val hN
  have e1 : okB p N s (ix2 (Fin.rev x0) x1) = 1#1 ↔ s ≤ x0.val % N := by
    show IntOp.cmpi .slt (p (ix2 (Fin.rev x0) x1)) (BitVec.ofNat 32 (N - s)) = 1#1 ↔ _
    rw [hp, slt_iff (by omega) (by rw [Fin.val_rev, mod_rev hN hd]; omega), Fin.val_rev, mod_rev hN hd]
    omega
  have e2 : okAt (place M C N) s (ix2 x0 x1) = 1#1 ↔ s ≤ x0.val % N := ok_iff (place M C N) (fun _ _ => rfl) hM (by omega) x0 x1
  show (if okB p N s (ix2 (Fin.rev x0) x1) = 1#1 then _ else z (ix2 (Fin.rev x0) x1)) = if okAt (place M C N) s (ix2 x0 x1) = 1#1 then _ else z (ix2 x0 x1)
  have hle := Nat.mod_le x0.val N
  by_cases hk : s ≤ x0.val % N
  · rw [if_pos (e1.mpr hk), if_pos (e2.mpr hk)]
    have r1 := dynamicRotate_apply 0 (BitVec.ofNat 32 (M - s)) v hr (ix2 (Fin.rev x0) x1) (ix2 ⟨M - 1 - x0.val + s, by omega⟩ x1) (Fin.forall_fin_two.mpr ⟨by
      show M - 1 - x0.val + s = ((Fin.rev x0).val + M - (BitVec.ofNat 32 (M - s)).toNat % M) % M
      rw [BitVec.toNat_ofNat, Nat.mod_eq_of_lt (a := M - s) (by omega), Nat.mod_eq_of_lt (a := M - s) (by omega), Fin.val_rev, show M - (x0.val + 1) + M - (M - s) = M - 1 - x0.val + s by omega,
        Nat.mod_eq_of_lt (by omega)], rfl⟩)
    have r2 := dynamicRotate_apply 0 (BitVec.ofNat 32 s) (flip v) hr (ix2 x0 x1) (ix2 ⟨x0.val - s, by omega⟩ x1) (Fin.forall_fin_two.mpr ⟨by
      show x0.val - s = (x0.val + M - (BitVec.ofNat 32 s).toNat % M) % M
      rw [BitVec.toNat_ofNat, Nat.mod_eq_of_lt (a := s) (by omega), Nat.mod_eq_of_lt (a := s) hsM, show x0.val + M - s = x0.val - s + M by omega, Nat.add_mod_right, Nat.mod_eq_of_lt (by omega)], rfl⟩)
    refine r1.trans (Eq.trans ?_ r2.symm)
    rw [flip_ix]
    refine congrArg (fun k => v (ix2 k x1)) (Fin.ext ?_)
    rw [Fin.val_rev]
    show M - 1 - x0.val + s = M - (x0.val - s + 1)
    omega
  · rw [if_neg (mt e1.mp hk), if_neg (mt e2.mp hk)]
    exact hz (ix2 x0 x1)

/-- The factors after `k` doubling steps backwards, and the sums. -/
def mA (p : IVec ⟨2, ![M, C]⟩ 32) (hr : (⟨2, ![M, C]⟩ : Shape).Rotates 0 none) (N : ℕ) (v : FVec Ideal ⟨2, ![M, C]⟩ .f32) : ℕ → FVec Ideal ⟨2, ![M, C]⟩ .f32
  | 0 => v
  | k + 1 => mulf (mA p hr N v k) (select (okB p N (2 ^ k)) (dynamicRotate 0 (BitVec.ofNat 32 (M - 2 ^ k)) none (mA p hr N v k) hr)
      (broadcast ⟨2, ![M, C]⟩ (FloatOps.ofBits (F := Ideal) .f32 0x3F800000#32)))
def mH (p : IVec ⟨2, ![M, C]⟩ 32) (hr : (⟨2, ![M, C]⟩ : Shape).Rotates 0 none) (N : ℕ) (v w : FVec Ideal ⟨2, ![M, C]⟩ .f32) : ℕ → FVec Ideal ⟨2, ![M, C]⟩ .f32
  | 0 => w
  | k + 1 => addf (mulf (mA p hr N v k) (select (okB p N (2 ^ k)) (dynamicRotate 0 (BitVec.ofNat 32 (M - 2 ^ k)) none (mH p hr N v w k) hr)
      (broadcast ⟨2, ![M, C]⟩ (FloatOps.ofBits (F := Ideal) .f32 0x00000000#32)))) (mH p hr N v w k)

theorem flip_levels (h0M : 0 < M) (v w : FVec Ideal ⟨2, ![M, C]⟩ .f32) : ∀ k, 2 ^ k ≤ N → flip (mA p hr N v k) = kA (place M C N) hr (flip v) k ∧ flip (mH p hr N v w k) = kH (place M C N) hr (flip v) (flip w) k
  | 0, _ => ⟨rfl, rfl⟩
  | k + 1, hk => by
    have h2 : 2 ^ (k + 1) = 2 ^ k + 2 ^ k := by ring
    have h0 : 0 < 2 ^ k := by positivity
    have hNM := Nat.le_of_dvd h0M hd
    obtain ⟨hA, hH⟩ := flip_levels h0M v w k (by omega)
    constructor
    · show flip (mulf _ _) = _
      refine Eq.trans (b := mulf (flip (mA p hr N v k)) (flip (select _ _ _))) rfl ?_
      rw [flip_step p hr hp hM hN hd h0 (by omega) (by omega) _ _ (fun _ => rfl), hA]; rfl
    · show flip (addf (mulf _ _) _) = _
      refine Eq.trans (b := addf (mulf (flip (mA p hr N v k)) (flip (select _ _ _))) (flip (mH p hr N v w k))) rfl ?_
      rw [flip_step p hr hp hM hN hd h0 (by omega) (by omega) _ _ (fun _ => rfl), hA, hH]; rfl

end flips

theorem pH_first (a a' b : ℕ → ℝ) (h : ∀ q, 0 < q → a q = a' q) : ∀ n, pH a b 0 n = pH a' b 0 n
  | 0 => rfl
  | 1 => by show a _ * 0 + _ = a' _ * 0 + _; rw [mul_zero, mul_zero]
  | n + 2 => by
    show a (0 + (n + 1)) * pH a b 0 (n + 1) + _ = a' (0 + (n + 1)) * pH a' b 0 (n + 1) + _
    rw [pH_first a a' b h (n + 1), h _ (by omega)]

/-- The factors and the summands, from the last step up. -/
def upA (a : ℕ → ℝ) (q : ℕ) : ℝ := if q = 0 then 0 else a (4096 - q)
def upB (b : ℕ → ℝ) (q : ℕ) : ℝ := b (4095 - q)

theorem up_rG (a b : ℕ → ℝ) (t : ℕ) : pH (upA a) (upB b) 0 (4096 - t) = rG a b 4096 t :=
  pH_first _ _ _ (fun q hq => if_neg (by omega)) _

theorem iota_at {M C : ℕ} (h) (i : Fin M) (c : Fin C) : iota .tc ⟨2, ![M, C]⟩ 32 [0] h (ix2 i c) = BitVec.ofNat 32 i.val := by
  pointwise

/-- The factors one row later. -/
theorem next_rows (v : FVec Ideal S4096x128 .f32) (a : Fin 128 → ℕ → ℝ) (h : Rows v a) : Rows (flip (k0_pay17 (F := Ideal) v kernelRun0_A.sl.v116)) fun d => upA (a d) := by
  have e := flip_step (N := 4096) kernelRun0_A.sl.v116 rotates_S4096x128_d0 (fun i c => (iota_at _ i c).trans (congrArg _ (Nat.mod_eq_of_lt i.isLt).symm)) (by norm_num) (by norm_num) dvd_rfl (s := 1)
    (by norm_num) (by norm_num) (by norm_num) v (broadcast S4096x128 (FloatOps.ofBits (F := Ideal) .f32 0x00000000#32)) (fun _ => rfl)
  have e' : flip (k0_pay17 (F := Ideal) v kernelRun0_A.sl.v116) = _ := e
  rw [e']
  intro i d
  have hi := i.isLt
  refine (rolled (N := 4096) (s := 1) 1#32 rfl (by norm_num) (by norm_num) _ (ok_iff (place 4096 128 4096) (fun _ _ => rfl) (by norm_num) (by norm_num)) rotates_S4096x128_d0 _ _ 0 _ c_zero (Rows.flip h) i d).trans (congrArg _ ?_)
  beta_reduce
  rw [upA]
  by_cases h0 : i.val = 0
  · rw [if_pos h0, if_neg (by omega)]
  · rw [if_neg h0, if_pos (by omega), show 4096 - 1 - (i.val - 1) = 4096 - i.val by omega]

theorem place8 (i : Fin 4096) (c : Fin 128) : k0_pay18 (ix2 i c) = BitVec.ofNat 32 (i.val % 8) := RnnFwd.place8 i c

theorem place512 (i : Fin 512) (c : Fin 128) : kernelRun0_A.sl.v183 (ix2 i c) = BitVec.ofNat 32 (i.val % 512) :=
  (iota_at _ i c).trans (congrArg _ (Nat.mod_eq_of_lt i.isLt).symm)

/-- Over one block of eight rows, the rows from row `k` to the block's last. -/
theorem eight (v w : FVec Ideal S4096x128 .f32) (a b : Fin 128 → ℕ → ℝ) (hv : Rows (flip v) a) (hw : Rows (flip w) b) (h0 h1) :
    Rows (shapeCast S4096x128 (mA k0_pay18 rotates_S4096x128_d0 8 v 3) h0) (fun c t => wA 8 8 (a c) (4095 - t))
    ∧ Rows (shapeCast S4096x128 (mH k0_pay18 rotates_S4096x128_d0 8 v w 3) h1) (fun c t => wH 8 8 (a c) (b c) (4095 - t)) := by
  obtain ⟨hA, hH⟩ := levels (place 4096 128 8) rotates_S4096x128_d0 (fun _ _ => rfl) (by norm_num) (flip v) (flip w) a b hv hw (by norm_num) 3 (by norm_num)
  obtain ⟨eA, eH⟩ := flip_levels k0_pay18 rotates_S4096x128_d0 place8 (by norm_num) (by norm_num) (by norm_num) (by norm_num) v w 3 (by norm_num)
  rw [← eA] at hA
  rw [← eH] at hH
  exact ⟨rows_cast (Rows.unflip hA) h0, rows_cast (Rows.unflip hH) h1⟩

/-- Over all blocks, and then one block earlier. -/
theorem carried (v w : FVec Ideal S512x128 .f32) (a b : Fin 128 → ℕ → ℝ) (hv : Rows (flip v) a) (hw : Rows (flip w) b) (h0) :
    Rows (shapeCast S512x128 (select (okB kernelRun0_A.sl.v183 512 1) (dynamicRotate 0 511#32 none (mH kernelRun0_A.sl.v183 rotates_S512x128_d0 512 v w 9) rotates_S512x128_d0)
      (broadcast S512x128 (FloatOps.ofBits (F := Ideal) .f32 0x00000000#32))) h0) (fun c r => pH (a c) (b c) 0 (511 - r)) := by
  obtain ⟨-, hH⟩ := levels (place 512 128 512) rotates_S512x128_d0 (fun _ _ => rfl) (by norm_num) (flip v) (flip w) a b hv hw (by norm_num) 9 (by norm_num)
  obtain ⟨-, eH⟩ := flip_levels kernelRun0_A.sl.v183 rotates_S512x128_d0 place512 (by norm_num) (by norm_num) dvd_rfl (by norm_num) v w 9 (by norm_num)
  have e := flip_step (N := 512) kernelRun0_A.sl.v183 rotates_S512x128_d0 place512 (by norm_num) (by norm_num) dvd_rfl (s := 1)
    (by norm_num) (by norm_num) (by norm_num) (mH kernelRun0_A.sl.v183 rotates_S512x128_d0 512 v w 9) (broadcast S512x128 (FloatOps.ofBits (F := Ideal) .f32 0x00000000#32)) (fun _ => rfl)
  rw [eH] at e
  refine rows_cast (Rows.unflip (f := fun c r => pH (a c) (b c) 0 r) (fun i c => ?_)) h0
  have hi := i.isLt
  refine (congrFun e _).trans ((rolled (N := 512) 1#32 rfl (by norm_num) (by norm_num) _ (ok_iff (place 512 128 512) (fun _ _ => rfl) (by norm_num) (by norm_num)) rotates_S512x128_d0 _ _ 0 _ c_zero hH i c).trans (congrArg _ ?_))
  show (if 1 ≤ i.val % 512 then wH 512 512 (a c) (b c) (i.val - 1) else 0) = pH (a c) (b c) 0 i.val
  split
  case isTrue h =>
    rw [wH, show min ((i.val - 1) % 512 + 1) 512 = i.val by omega, show i.val - 1 + 1 - i.val = 0 by omega]
  case isFalse h =>
    rw [show i.val = 0 by omega]; rfl

section pieces
variable {κ : Kind} {sp : Space}

/-- A load of rows of a buffer that one store filled. -/
theorem row_of {R n r o : ℕ} (b : View sig κ sp ⟨2, ![R, n]⟩ .f32) (v : FVec Ideal ⟨2, ![R, n]⟩ .f32) (h inb) (k : Fin r) (d : Fin n) (i : Fin R) (hi : i.val = o + k.val) :
    b.readCov (Val := Elt Ideal) [⟨Rect.unit (s := ⟨2, ![R, n]⟩) ![0, 0] ![R, n] h, v⟩] (Rect.unit (s := ⟨2, ![R, n]⟩) ![o, 0] ![r, n] inb).toLoadRect (ix2 k d) = v (ix2 i d) :=
  (row_cov b _ inb i k d hi).trans (row_hit (Val := Elt Ideal) (e := .f32) h v [] i i d (Nat.zero_add _).symm)

/-- A load of every eighth row of such a buffer, from the first. -/
theorem first_of (b : View sig κ sp S4096x128 .f32) (v : FVec Ideal S4096x128 .f32) (h inb) (i : Fin 512) (d : Fin 128) :
    b.readCov (Val := Elt Ideal) [⟨Rect.unit (s := S4096x128) ![0, 0] ![4096, 128] h, v⟩] ⟨![0, 0], ![512, 128], ![8, 1], inb⟩ (ix2 i d) = v (ix2 ⟨8 * i.val, by omega⟩ d) := by
  rw [View.readCov_eq_canon']
  have e : LoadRect.idx (s := S4096x128) ⟨![0, 0], ![512, 128], ![8, 1], inb⟩ (ix2 i d) = ix2 ⟨8 * i.val, by omega⟩ d :=
    funext (Fin.forall_fin_two.mpr ⟨Fin.ext (Nat.zero_add (8 * i.val)), Fin.ext (by show 0 + 1 * d.val = d.val; omega)⟩)
  exact (congrArg _ e).trans (row_hit (Val := Elt Ideal) (e := .f32) h v [] _ _ d (Nat.zero_add _).symm)

theorem first_window (r : ℕ) (hr : r < 512) : 4095 - 8 * (511 - r) + 1 - min ((4095 - 8 * (511 - r)) % 8 + 1) 8 = 8 * r ∧ min ((4095 - 8 * (511 - r)) % 8 + 1) 8 = 8 := by omega

variable (a b : Fin 128 → ℕ → ℝ)

/-- The recurrence run backwards at a row. -/
def backAt (y : S4104x128.Idx) : EReal := ((pH (a (y 1)) (b (y 1)) 0 (4096 - (y 0).val) : ℝ) : EReal)

variable (b1 b2 : View sig κ sp S4096x128 .f32) (b3 : View sig κ sp S512x128 .f32) (V W : FVec Ideal S4096x128 .f32) (C : FVec Ideal S512x128 .f32)
  (hV : Rows V fun c t => wA 8 8 (a c) (4095 - t)) (hW : Rows W fun c t => wH 8 8 (a c) (b c) (4095 - t)) (hC : Rows C fun c r => pH (a c) (b c) 0 (8 * (511 - r)))
include hV hW hC

theorem piece (o r : ℕ) (ho : o = 8 * r) (h1 h2 h3 i1 i2 i3 hb inb) (j : (Rect.unit (s := S4104x128) ![o, 0] ![8, 128] inb).shape.Idx) :
    addf (F := Ideal) (s := S8x128) (φ := .f32) (mulf (F := Ideal) (s := S8x128) (φ := .f32) (b1.readCov (Val := Elt Ideal) (e := .f32) [⟨Rect.unit (s := S4096x128) ![0, 0] ![4096, 128] h1, V⟩] (Rect.unit (s := S4096x128) ![o, 0] ![8, 128] i1).toLoadRect)
        (broadcastTo (α := Ideal .f32) S8x128 (b3.readCov (Val := Elt Ideal) (e := .f32) [⟨Rect.unit (s := S512x128) ![0, 0] ![512, 128] h3, C⟩] (Rect.unit (s := S512x128) ![r, 0] ![1, 128] i3).toLoadRect) hb))
      (b2.readCov (Val := Elt Ideal) (e := .f32) [⟨Rect.unit (s := S4096x128) ![0, 0] ![4096, 128] h2, W⟩] (Rect.unit (s := S4096x128) ![o, 0] ![8, 128] i2).toLoadRect) j
      = backAt a b ((Rect.unit (s := S4104x128) ![o, 0] ![8, 128] inb).emb j) := by
  idx_vars j
  have hr : r + 1 ≤ 512 := i3 0
  have hj := j0.isLt
  have hbr : broadcastTo (α := Ideal .f32) S8x128 (b3.readCov (Val := Elt Ideal) (e := .f32) [⟨Rect.unit (s := S512x128) ![0, 0] ![512, 128] h3, C⟩] (Rect.unit (s := S512x128) ![r, 0] ![1, 128] i3).toLoadRect) hb (ix2 j0 j1)
      = C (ix2 ⟨r, by omega⟩ j1) := by
    pointwise
    exact row_of b3 C h3 i3 0 j1 ⟨r, by omega⟩ rfl
  rw [addf_apply, mulf_apply, hbr, row_of b1 V h1 i1 j0 j1 ⟨o + j0.val, by omega⟩ rfl, row_of b2 W h2 i2 j0 j1 ⟨o + j0.val, by omega⟩ rfl, hV, hW, hC]
  refine ((congrArg (· + _) (EReal.coe_mul _ _).symm).trans (EReal.coe_add _ _).symm).trans (congrArg _ ?_)
  have e1 : ((Rect.unit (s := S4104x128) ![o, 0] ![8, 128] inb).emb (ix2 j0 j1)) 1 = j1 := Fin.ext (by show 0 + 1 * j1.val = j1.val; omega)
  have e0 : (((Rect.unit (s := S4104x128) ![o, 0] ![8, 128] inb).emb (ix2 j0 j1)) 0).val = o + j0.val := by show o + 1 * j0.val = o + j0.val; omega
  rw [e1, e0]
  show pA _ (4095 - (o + j0.val) + 1 - min ((4095 - (o + j0.val)) % 8 + 1) 8) (min ((4095 - (o + j0.val)) % 8 + 1) 8) * pH _ _ 0 (8 * (511 - r))
    + pH _ _ (4095 - (o + j0.val) + 1 - min ((4095 - (o + j0.val)) % 8 + 1) 8) (min ((4095 - (o + j0.val)) % 8 + 1) 8) = _
  rw [show min ((4095 - (o + j0.val)) % 8 + 1) 8 = 8 - j0.val by omega, show 4095 - (o + j0.val) + 1 - (8 - j0.val) = 0 + 8 * (511 - r) by omega, show 4096 - (o + j0.val) = 8 * (511 - r) + (8 - j0.val) by omega]
  exact (pH_add _ _ 0 (8 * (511 - r)) (8 - j0.val)).symm

end pieces

end Cert.RnnBwd
-- ==== Proof.RnnBwd.KGate.lean ====
/- The gates over one block of channels, which the backward kernel computes again as the forward kernel does. -/
module

public import proofs.«01_k».proof.Proof.RnnBwd.KScan

@[expose] public section

set_option maxRecDepth 16384

noncomputable section

namespace Cert.RnnBwd

open Idealize.ShloMosaic Idealize.ShloMosaic.TcCoe Idealize.SL.Sem
open Idealize.ShloMosaic.Pipeline (Dat)
open Cert.KernelRnnBwdIdeal Cert.KernelRnnBwdIdeal.Gen Cert.Lift Cert.RnnFwd

/-- The logarithm of the logistic function, of a row. -/
theorem ls_real (d : Fin 128) (z : Ideal .f32) (hz : z = 1) (r : FVec Ideal S1x128 .f32) {l : ℝ} (hr : r (ix2 0 d) = ((l : ℝ) : EReal)) :
    k0_pay13 (F := Ideal) (k0_pay10 r) (k0_pay11 r) (k0_pay12 r) z (ix2 0 d) = ((lsR l : ℝ) : EReal) := by
  have hu : Real.exp (-|l|) ≠ 0 := (Real.exp_pos _).ne'
  have hn : ¬ ((Real.exp (-|l|) : ℝ) : EReal) = ((0 : ℝ) : EReal) := fun h => hu (EReal.coe_eq_coe_iff.mp h)
  pointwise [k0_pay13, k0_pay12, k0_pay11, k0_pay10, hr, hz]
  rw [abs_real, zero_sub, ← EReal.coe_neg, Ideal.exp_coe, one_coe, zero_coe, ← EReal.coe_add, ← EReal.coe_sub, add_sub_cancel_left, if_neg hn, if_neg hn, log_pos' (one_add_exp _),
    div_real hu, div_self hu, coe_min', ← EReal.coe_mul, ← EReal.coe_sub, mul_one]
  rfl

/-- A load of rows of an input's block. -/
theorem row_in {R n r o : ℕ} {e : EltTy} (w : Memref sig .tc .vmem ⟨2, ![R, n]⟩ e) (h : w.IsWhole) (x : Vec Ideal ⟨2, ![R, n]⟩ e) (inb) (k : Fin r) (d : Fin n) (i : Fin R) (hi : i.val = o + k.val) :
    View.readAt (Elt Ideal) w.view (Rect.unit (s := ⟨2, ![R, n]⟩) ![o, 0] ![r, n] inb).toLoadRect (h.unread x) (ix2 k d) = x (ix2 i d) := by
  refine (congrFun (h.read_unread x) _).trans (congrArg x (funext (Fin.forall_fin_two.mpr ⟨Fin.ext ?_, Fin.ext ?_⟩)))
  · show o + 1 * k.val = i.val
    omega
  · show 0 + 1 * d.val = d.val
    omega

theorem whole_in (w : Memref sig .tc .vmem S1x128x128 .bf16) (h : w.IsWhole) (x : Vec Ideal S1x128x128 .bf16) (inb) (j : S1x128x128.Idx) :
    View.readAt (Elt Ideal) w.view (Rect.unit (s := S1x128x128) ![0, 0, 0] ![1, 128, 128] inb).toLoadRect (h.unread x) j = x j := by
  refine (congrFun (h.read_unread x) _).trans (congrArg x (funext fun a => Fin.ext ?_))
  show (![0, 0, 0] : Fin 3 → ℕ) a + 1 * (j a).val = (j a).val
  match a with
  | ⟨0, _⟩ => show 0 + 1 * _ = _; omega
  | ⟨1, _⟩ => show 0 + 1 * _ = _; omega
  | ⟨2, _⟩ => show 0 + 1 * _ = _; omega

variable (c : Dev nD) (arg1 : Memref sig .tc .vmem S4096x128 .f32) (harg1 : arg1.IsWhole) (arg4 : Memref sig .tc .vmem S8x128 .f32) (harg4 : arg4.IsWhole) (arg5 : Memref sig .tc .vmem S8x128 .f32) (harg5 : arg5.IsWhole)
  (arg6 : Memref sig .tc .vmem S1x128x128 .bf16) (harg6 : arg6.IsWhole) (arg7 : Memref sig .tc .vmem S1x128x128 .bf16) (harg7 : arg7.IsWhole) (arg12 : Memref sig .tc .vmem S4104x128 .f32)
  (x0 : Vec Ideal S4096x128 .f32) (x3 x4 : Vec Ideal S8x128 .f32) (x5 x6 : Vec Ideal S1x128x128 .bf16)

/-- The rows below eight rows of zeros. -/
theorem ext_real (ξ : Fin 128 → ℕ → ℝ) (h0 : Rows x0 ξ) (k : ℕ) (hk : k < 4) (inb) (n : Fin 4096) (d : Fin 128) :
    arg12.view.readCov (Val := Elt Ideal) (e := .f32) (kernelRun0_A.sl.HS0_2 (F := Ideal) c arg1 harg1 x0) (Rect.unit (s := S4104x128) ![5 + k, 0] ![4096, 128] inb).toLoadRect (ix2 n d)
      = ((late3 (ξ d) (k + n.val) : ℝ) : EReal) := by
  have hn := n.isLt
  refine (row_cov _ _ inb ⟨5 + k + n.val, by omega⟩ n d rfl).trans ?_
  unfold kernelRun0_A.sl.HS0_2 late3
  split
  case isTrue h =>
    refine (row_miss (R := 4104) (n := 128) (o := 8) (r := 4096) _ _ _ _ d (.inl (by dsimp only; omega))).trans ?_
    refine (row_hit (R := 4104) (n := 128) (o := 0) (r := 8) (e := .f32) (Val := Elt Ideal) _ _ [] _ ⟨5 + k + n.val, by omega⟩ d (by simp only [Nat.zero_add])).trans ?_
    pointwise [k0_pay4]
    exact EReal.coe_zero.symm
  case isFalse h =>
    refine (row_hit (R := 4104) (n := 128) (o := 8) (r := 4096) (e := .f32) (Val := Elt Ideal) _ _ _ _ ⟨k + n.val - 3, by omega⟩ d (by dsimp only; omega)).trans ?_
    refine (congrFun (shapeCast_self _ _) _).trans ((row_in arg1 harg1 x0 _ _ d ⟨k + n.val - 3, by omega⟩ (Nat.zero_add _).symm).trans (h0 _ _))

section block
variable (ξ wk bb : Fin 128 → ℕ → ℝ) (g g' : Fin 128 → Fin 128 → ℝ) (h0 : Rows x0 ξ) (h3 : Rows x3 wk) (h4 : Rows x4 bb)

include h4 in
theorem l_row (d : Fin 128) : kernelRun0_A.sl.r_7 (F := Ideal) c arg5 harg5 x4 (ix2 0 d) = ((lsR (bb d 3) : ℝ) : EReal) :=
  ls_real d _ c_one _ ((row_in arg5 harg5 x4 _ 0 d 3 rfl).trans (h4 3 d))

include h0 h3 h4

theorem xr_rows : Rows (kernelRun0_A.sl.r (F := Ideal) c arg1 harg1 arg4 harg4 arg5 harg5 arg12 x0 x3 x4) (uK ξ wk bb) := by
  intro n d
  exact read_real n d _ _ _ _ _ _ _ _ _ ((row_in arg1 harg1 x0 _ n d n (Nat.zero_add _).symm).trans ((h0 n d).trans (by rw [late3, if_neg (by omega), Nat.add_sub_cancel_left])))
    ((ext_real c arg1 harg1 arg12 x0 ξ h0 0 (by norm_num) _ n d).trans (by rw [Nat.zero_add])) (ext_real c arg1 harg1 arg12 x0 ξ h0 1 (by norm_num) _ n d) (ext_real c arg1 harg1 arg12 x0 ξ h0 2 (by norm_num) _ n d)
    ((row_in arg5 harg5 x4 _ 0 d 0 rfl).trans (h4 0 d)) ((row_in arg4 harg4 x3 _ 0 d 3 rfl).trans (h3 3 d)) ((row_in arg4 harg4 x3 _ 0 d 0 rfl).trans (h3 0 d))
    ((row_in arg4 harg4 x3 _ 0 d 1 rfl).trans (h3 1 d)) ((row_in arg4 harg4 x3 _ 0 d 2 rfl).trans (h3 2 d))

variable (h5 : ∀ k d, x5 (ix3 0 k d) = ((g k d : ℝ) : EReal)) (h6 : ∀ k d, x6 (ix3 0 k d) = ((g' k d : ℝ) : EReal))

include h6 in
theorem i_rows : Rows (kernelRun0_A.sl.r_3 (F := Ideal) c arg1 harg1 arg4 harg4 arg5 harg5 arg7 harg7 arg12 x0 x3 x4 x6) fun d n => sgR (zK ξ wk bb g' 2 d n) := fun n d =>
  gate_real n d (kernelRun0_A.sl.r (F := Ideal) c arg1 harg1 arg4 harg4 arg5 harg5 arg12 x0 x3 x4) _ _ (fun k => xr_rows c arg1 harg1 arg4 harg4 arg5 harg5 arg12 x0 x3 x4 ξ wk bb h0 h3 h4 n k)
    (fun k => (whole_in arg7 harg7 x6 _ _).trans (h6 k d)) ((row_in arg5 harg5 x4 _ 0 d 2 rfl).trans (h4 2 d))

include h5

theorem r_rows : Rows (kernelRun0_A.sl.r_2 (F := Ideal) c arg1 harg1 arg4 harg4 arg5 harg5 arg6 harg6 arg12 x0 x3 x4 x5) fun d n => sgR (zK ξ wk bb g 1 d n) := fun n d =>
  gate_real n d (kernelRun0_A.sl.r (F := Ideal) c arg1 harg1 arg4 harg4 arg5 harg5 arg12 x0 x3 x4) _ _ (fun k => xr_rows c arg1 harg1 arg4 harg4 arg5 harg5 arg12 x0 x3 x4 ξ wk bb h0 h3 h4 n k)
    (fun k => (whole_in arg6 harg6 x5 _ _).trans (h5 k d)) ((row_in arg5 harg5 x4 _ 0 d 1 rfl).trans (h4 1 d))

theorem la_rows : Rows (k0_pay14 (F := Ideal) (kernelRun0_A.sl.r_2 (F := Ideal) c arg1 harg1 arg4 harg4 arg5 harg5 arg6 harg6 arg12 x0 x3 x4 x5) (kernelRun0_A.sl.r_4 (F := Ideal) c arg5 harg5 x4)
    (kernelRun0_A.sl.r_5 (F := Ideal) c arg5 harg5 x4) (kernelRun0_A.sl.r_6 (F := Ideal) c arg5 harg5 x4) (kernelRun0_A.sl.cst_36 (F := Ideal))) fun d n => laR (zK ξ wk bb g 1 d n) (bb d 3) := fun n d =>
  log_real n d _ c_one (kernelRun0_A.sl.r_2 (F := Ideal) c arg1 harg1 arg4 harg4 arg5 harg5 arg6 harg6 arg12 x0 x3 x4 x5) _ (r_rows c arg1 harg1 arg4 harg4 arg5 harg5 arg6 harg6 arg12 x0 x3 x4 x5 ξ wk bb g h0 h3 h4 h5 n d)
    ((row_in arg5 harg5 x4 _ 0 d 3 rfl).trans (h4 3 d))

theorem a_rows : Rows (kernelRun0_A.sl.r_8 (F := Ideal) c arg1 harg1 arg4 harg4 arg5 harg5 arg6 harg6 arg12 x0 x3 x4 x5) fun d n => Real.exp (laR (zK ξ wk bb g 1 d n) (bb d 3)) := fun n d =>
  (congrArg Ideal.exp (la_rows c arg1 harg1 arg4 harg4 arg5 harg5 arg6 harg6 arg12 x0 x3 x4 x5 ξ wk bb g h0 h3 h4 h5 n d)).trans (Ideal.exp_coe _)

theorem m_rows (hf : ∀ d (n : Fin 4096), ((2 * laR (zK ξ wk bb g 1 d n.val) (bb d 3) : ℝ) : EReal) ≤ Ideal.ofBits .f32 0xBD4CCCCD#32) :
    Rows (kernelRun0_A.sl.r_9 (F := Ideal) c arg1 harg1 arg4 harg4 arg5 harg5 arg6 harg6 arg12 x0 x3 x4 x5) fun d n => Real.sqrt (1 - Real.exp (2 * laR (zK ξ wk bb g 1 d n) (bb d 3))) := fun n d =>
  room_real n d _ (kernelRun0_A.sl.r_2 (F := Ideal) c arg1 harg1 arg4 harg4 arg5 harg5 arg6 harg6 arg12 x0 x3 x4 x5) _
    (la_rows c arg1 harg1 arg4 harg4 arg5 harg5 arg6 harg6 arg12 x0 x3 x4 x5 ξ wk bb g h0 h3 h4 h5 n d) (hf d n) (room _ _)

end block

section scan
variable (arg3 : Memref sig .tc .vmem S4096x128 .bf16) (harg3 : arg3.IsWhole) (arg14 : Memref sig .tc .vmem S4096x128 .f32) (arg15 : Memref sig .tc .vmem S4096x128 .f32) (arg16 : Memref sig .tc .vmem S512x128 .f32) (arg13 : Memref sig .tc .vmem S4104x128 .f32)
  (x2 : Vec Ideal S4096x128 .bf16) (a δ : Fin 128 → ℕ → ℝ) (hA : Rows (kernelRun0_A.sl.r_8 (F := Ideal) c arg1 harg1 arg4 harg4 arg5 harg5 arg6 harg6 arg12 x0 x3 x4 x5) a) (h2 : ∀ i d, x2 (ix2 i d) = ((δ d i.val : ℝ) : EReal))

include hA in
theorem a_up : Rows (flip (k0_pay17 (F := Ideal) (kernelRun0_A.sl.r_8 (F := Ideal) c arg1 harg1 arg4 harg4 arg5 harg5 arg6 harg6 arg12 x0 x3 x4 x5) kernelRun0_A.sl.v116)) fun d => upA (a d) :=
  next_rows _ a hA

/-- The gradient of each state that the loss adds. -/
def dhs : FVec Ideal S4096x128 .f32 := extf .f32 (shapeCast S4096x128 (View.readAt (Elt Ideal) arg3.view (Rect.unit (s := S4096x128) ![0, 0] S4096x128.size inb_S4096x128_S4096x128_0_0).toLoadRect (harg3.unread x2)) shapeCasts_S4096x128_S4096x128) bitsLt_bf16_f32

include h2 in
theorem d_up : Rows (flip (dhs arg3 harg3 x2)) fun d => upB (δ d) := by
  intro i d
  have h : Rows (dhs arg3 harg3 x2) δ := fun n d => by
    have e := (row_in arg3 harg3 x2 inb_S4096x128_S4096x128_0_0 n d n (Nat.zero_add _).symm).trans (h2 n d)
    unfold dhs
    pointwise [e]
  exact (Rows.flip h i d).trans (congrArg (fun k => ((δ d k : ℝ) : EReal)) rfl)

include hA

theorem sa : Rows (k0_pay26 (F := Ideal) k0_pay18 (kernelRun0_A.sl.r_11 (F := Ideal) c arg1 harg1 arg4 harg4 arg5 harg5 arg6 harg6 arg12 x0 x3 x4 x5) k0_pay22) fun d t => wA 8 8 (upA (a d)) (4095 - t) :=
  (eight _ _ _ _ (a_up c arg1 harg1 arg4 harg4 arg5 harg5 arg6 harg6 arg12 x0 x3 x4 x5 a hA) (a_up c arg1 harg1 arg4 harg4 arg5 harg5 arg6 harg6 arg12 x0 x3 x4 x5 a hA) _ (by decide)).1

theorem sa_first : Rows (flip (kernelRun0_A.sl.v181 (F := Ideal) c arg1 harg1 arg4 harg4 arg5 harg5 arg6 harg6 arg12 arg14 x0 x3 x4 x5)) fun d r => pA (upA (a d)) (8 * r) 8 := by
  intro i d
  refine (first_of arg14.view _ _ _ (Fin.rev i) d).trans ((sa c arg1 harg1 arg4 harg4 arg5 harg5 arg6 harg6 arg12 x0 x3 x4 x5 a hA _ d).trans (congrArg _ ?_))
  obtain ⟨h1, h2⟩ := first_window i.val i.isLt
  rw [← show (Fin.rev i).val = 511 - i.val by rw [Fin.val_rev]; omega] at h1 h2
  show pA _ _ _ = pA _ _ _
  rw [h1, h2]

include h2

theorem sb : Rows (k0_pay27 (F := Ideal) k0_pay18 (kernelRun0_A.sl.r_10 (F := Ideal) c arg1 harg1 arg3 harg3 arg4 harg4 arg5 harg5 arg6 harg6 arg12 x0 x2 x3 x4 x5) (kernelRun0_A.sl.r_11 (F := Ideal) c arg1 harg1 arg4 harg4 arg5 harg5 arg6 harg6 arg12 x0 x3 x4 x5) k0_pay22
    (kernelRun0_A.sl.r_12 (F := Ideal) c arg1 harg1 arg3 harg3 arg4 harg4 arg5 harg5 arg6 harg6 arg12 x0 x2 x3 x4 x5)) fun d t => wH 8 8 (upA (a d)) (upB (δ d)) (4095 - t) :=
  (eight _ _ _ _ (a_up c arg1 harg1 arg4 harg4 arg5 harg5 arg6 harg6 arg12 x0 x3 x4 x5 a hA) (d_up arg3 harg3 x2 δ h2) (by decide) _).2

theorem sb_first : Rows (flip (kernelRun0_A.sl.v182 (F := Ideal) c arg1 harg1 arg3 harg3 arg4 harg4 arg5 harg5 arg6 harg6 arg12 arg15 x0 x2 x3 x4 x5)) fun d r => pH (upA (a d)) (upB (δ d)) (8 * r) 8 := by
  intro i d
  refine (first_of arg15.view _ _ _ (Fin.rev i) d).trans ((sb c arg1 harg1 arg4 harg4 arg5 harg5 arg6 harg6 arg12 x0 x3 x4 x5 arg3 harg3 x2 a δ hA h2 _ d).trans (congrArg _ ?_))
  obtain ⟨h1, h2⟩ := first_window i.val i.isLt
  rw [← show (Fin.rev i).val = 511 - i.val by rw [Fin.val_rev]; omega] at h1 h2
  show pH _ _ _ _ = pH _ _ _ _
  rw [h1, h2]

theorem carry : Rows (k0_pay48 (F := Ideal) (kernelRun0_A.sl.r_18 (F := Ideal) c arg1 harg1 arg3 harg3 arg4 harg4 arg5 harg5 arg6 harg6 arg12 arg14 arg15 x0 x2 x3 x4 x5) (kernelRun0_A.sl.r_19 (F := Ideal) c arg1 harg1 arg3 harg3 arg4 harg4 arg5 harg5 arg6 harg6 arg12 arg14 arg15 x0 x2 x3 x4 x5))
    fun d r => pH (upA (a d)) (upB (δ d)) 0 (8 * (511 - r)) := by
  intro i d
  refine (carried _ _ _ _ (sa_first c arg1 harg1 arg4 harg4 arg5 harg5 arg6 harg6 arg12 x0 x3 x4 x5 arg14 a hA) (sb_first c arg1 harg1 arg4 harg4 arg5 harg5 arg6 harg6 arg12 x0 x3 x4 x5 arg3 harg3 arg15 x2 a δ hA h2) _ i d).trans (congrArg _ ?_)
  exact RnnFwd.blocks _ _ _

end scan

end Cert.RnnBwd
-- ==== Proof.RnnFwd.RefGate.lean ====
/- The gates of the reference's recurrence, read at an index over finite arguments. -/
module

public import proofs.«01_k».proof.Proof.Gen.ReferenceRnnFwdIdeal.Read
public import proofs.«01_k».proof.Proof.RnnFwd.Gate

@[expose] public section

set_option maxRecDepth 16384

noncomputable section

namespace Cert.RnnFwd

open Idealize.ShloMosaic Idealize.ShloMosaic.TcCoe Idealize.SL.Sem
open Cert.ReferenceRnnFwdIdeal Cert.ReferenceRnnFwdIdeal.Gen Cert.ReferenceRnnFwdIdeal.Read Cert.Lift

/-- A channel of an array of rows, and zero past its last row. -/
def colR {N : ℕ} (x : (⟨2, ![N, 512]⟩ : Shape).Idx → ℝ) (j : Fin 512) (n : ℕ) : ℝ := if h : n < N then x (ix2 ⟨n, h⟩ j) else 0

section gates
variable (x0 : Vec Ideal S4096x2048 .f32) (x1 : Vec Ideal S4x512 .f32) (x2 : Vec Ideal S512 .f32) (x3 : Vec Ideal S8x64x64 .f32) (x4 : Vec Ideal S512 .f32)
  (x5 : Vec Ideal S8x64x64 .f32) (x6 x7 : Vec Ideal S512 .f32)
  (r0 : S4096x512.Idx → ℝ) (r1 : S4x512.Idx → ℝ) (r2 : S512.Idx → ℝ) (r3 : S8x64x64.Idx → ℝ) (r4 : S512.Idx → ℝ) (r5 : S8x64x64.Idx → ℝ) (r6 r7 : S512.Idx → ℝ)

theorem ref_late (h0 : ∀ i, val_main_v0 (F := Ideal) x0 i = ((r0 i : ℝ) : EReal)) (n : Fin 4099) (j : Fin 512) :
    val_main_v2 (F := Ideal) x0 (ix2 n j) = ((late3 (colR r0 j) n.val : ℝ) : EReal) := by
  have hn := n.isLt
  unfold late3 colR
  pointwise [val_main_v2, val_main_v1, val_main_cst]
  split
  case isTrue h => exact EReal.coe_zero.symm
  case isFalse h => rw [dif_pos (by omega)]; exact h0 _

theorem ref_xr (h0 : ∀ i, val_main_v0 (F := Ideal) x0 i = ((r0 i : ℝ) : EReal)) (h1 : ∀ i, x1 i = ((r1 i : ℝ) : EReal)) (h2 : ∀ i, x2 i = ((r2 i : ℝ) : EReal)) (n : Fin 4096) (j : Fin 512) :
    val_main_v34 (F := Ideal) x0 x1 x2 (ix2 n j) = ((xrR (colR r0 j) (colR r1 j) (r2 (ix1 j)) n.val : ℝ) : EReal) := by
  pointwise [val_main_v34, val_main_v33, val_main_v32, val_main_v31, val_main_v30, val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0, h1, h2]
  simp only [ref_late x0 r0 h0, zero_add, ← EReal.coe_mul, ← EReal.coe_add]
  rfl

/-- The gate of a head: the products with the head's matrix, and the bias. -/
def zR (x : Fin 512 → ℝ) (w : S8x64x64.Idx → ℝ) (b : ℝ) (j : Fin 512) : ℝ :=
  ∑ d : Fin 64, w (ix3 ⟨j.val / 64, by omega⟩ d ⟨j.val % 64, by omega⟩) * x ⟨j.val / 64 * 64 + d.val, by omega⟩ + b

variable (u : Fin 4096 → Fin 512 → ℝ) (hu : ∀ n j, val_main_v34 (F := Ideal) x0 x1 x2 (ix2 n j) = ((u n j : ℝ) : EReal))
include hu

theorem ref_za (h3 : ∀ i, x3 i = ((r3 i : ℝ) : EReal)) (h4 : ∀ i, x4 i = ((r4 i : ℝ) : EReal)) (n : Fin 4096) (j : Fin 512) :
    val_main_v41 (F := Ideal) x0 x1 x2 x3 x4 (ix2 n j) = ((zR (u n) r3 (r4 (ix1 j)) j : ℝ) : EReal) := by
  unfold zR
  rw [EReal.coe_add, ← sum_coe]
  pointwise [val_main_v41, val_main_v40, val_main_v39, val_main_v38, val_main_v37, val_main_v36, val_main_v35, h3, h4, hu, EReal.coe_mul]

theorem ref_zi (h5 : ∀ i, x5 i = ((r5 i : ℝ) : EReal)) (h6 : ∀ i, x6 i = ((r6 i : ℝ) : EReal)) (n : Fin 4096) (j : Fin 512) :
    val_main_v54 (F := Ideal) x0 x1 x2 x5 x6 (ix2 n j) = ((zR (u n) r5 (r6 (ix1 j)) j : ℝ) : EReal) := by
  unfold zR
  rw [EReal.coe_add, ← sum_coe]
  pointwise [val_main_v54, val_main_v53, val_main_v52, val_main_v51, val_main_v50, val_main_v49, val_main_v48, h5, h6, hu, EReal.coe_mul]

omit hu in
theorem ref_ls (h7 : ∀ i, x7 i = ((r7 i : ℝ) : EReal)) (j : Fin 512) : val_main_v63 (F := Ideal) x7 (ix1 j) = ((lsR (r7 (ix1 j)) : ℝ) : EReal) := by
  pointwise [val_main_v63, val_main_call0_v1, val_main_call0_v0, val_main_call0_call0_v0, val_main_call0_call0_v1, val_main_call0_call0_v2, val_main_call0_call0_v3, val_main_call0_call0_v4,
    val_main_call0_call0_v5, val_main_call0_call0_v6, val_main_call0_call0_v7, val_main_call0_call0_v8, val_main_call0_call0_v9, val_main_call0_call0_v10, val_main_call0_call0_v11, val_main_call0_call0_cst, h7]
  rw [if_neg (not_not.mpr rfl), ← EReal.coe_neg, abs_real, abs_neg, ← EReal.coe_neg, Ideal.exp_coe, Ideal.log1p, one_coe, ← EReal.coe_add, log_pos' (one_add_exp _), zero_coe, coe_max',
    ← EReal.coe_add, ← EReal.coe_neg, lsR]
  refine congrArg _ ?_
  rcases le_total (r7 (ix1 j)) 0 with h | h
  · rw [max_eq_left (by linarith), min_eq_left h]; ring
  · rw [max_eq_right (by linarith), min_eq_right h]; ring

theorem ref_la (h3 : ∀ i, x3 i = ((r3 i : ℝ) : EReal)) (h4 : ∀ i, x4 i = ((r4 i : ℝ) : EReal)) (h7 : ∀ i, x7 i = ((r7 i : ℝ) : EReal)) (n : Fin 4096) (j : Fin 512) :
    val_main_v66 (F := Ideal) x0 x1 x2 x3 x4 x7 (ix2 n j) = ((laR (zR (u n) r3 (r4 (ix1 j)) j) (r7 (ix1 j)) : ℝ) : EReal) := by
  pointwise [val_main_v66, val_main_v65, val_main_v64, val_main_v62, val_main_v61, val_main_v47, val_main_v46, val_main_v45, val_main_v44, val_main_v43, val_main_v42,
    ref_ls x7 r7 h7, ref_za x0 x1 x2 x3 x4 r3 r4 u hu h3 h4, val_main_cst_1, val_main_cst_2, val_main_cst_5]
  rw [c_eight, ← EReal.coe_neg, Ideal.exp_coe, one_coe, logistic_real, ← EReal.coe_mul, ← EReal.coe_mul]; rfl

theorem ref_two (h3 : ∀ i, x3 i = ((r3 i : ℝ) : EReal)) (h4 : ∀ i, x4 i = ((r4 i : ℝ) : EReal)) (h7 : ∀ i, x7 i = ((r7 i : ℝ) : EReal)) (n : Fin 4096) (j : Fin 512) :
    val_main_v69 (F := Ideal) x0 x1 x2 x3 x4 x7 (ix2 n j) = ((2 * laR (zR (u n) r3 (r4 (ix1 j)) j) (r7 (ix1 j)) : ℝ) : EReal) := by
  pointwise [val_main_v69, val_main_v68, ref_la x0 x1 x2 x3 x4 x7 r3 r4 r7 u hu h3 h4 h7, val_main_cst_6]
  rw [c_two, ← EReal.coe_mul]

theorem ref_both (h3 : ∀ i, x3 i = ((r3 i : ℝ) : EReal)) (h4 : ∀ i, x4 i = ((r4 i : ℝ) : EReal)) (h5 : ∀ i, x5 i = ((r5 i : ℝ) : EReal)) (h6 : ∀ i, x6 i = ((r6 i : ℝ) : EReal))
    (h7 : ∀ i, x7 i = ((r7 i : ℝ) : EReal)) (n : Fin 4096) (j : Fin 512) :
    val_main_v67 (F := Ideal) x0 x1 x2 x3 x4 x7 (ix2 n j) = ((Real.exp (laR (zR (u n) r3 (r4 (ix1 j)) j) (r7 (ix1 j))) : ℝ) : EReal)
    ∧ val_main_v74 (F := Ideal) x0 x1 x2 x3 x4 x5 x6 x7 (ix2 n j) = ((addR (zR (u n) r3 (r4 (ix1 j)) j) (zR (u n) r5 (r6 (ix1 j)) j) (r7 (ix1 j)) (u n j) : ℝ) : EReal) := by
  constructor
  · pointwise [val_main_v67, ref_la x0 x1 x2 x3 x4 x7 r3 r4 r7 u hu h3 h4 h7]
    rw [Ideal.exp_coe]
  · pointwise [val_main_v74, val_main_v73, val_main_v72, val_main_v71, val_main_v70, val_main_v60, val_main_v59, val_main_v58, val_main_v57, val_main_v56, val_main_v55, hu, ref_two x0 x1 x2 x3 x4 x7 r3 r4 r7 u hu h3 h4 h7,
      ref_zi x0 x1 x2 x5 x6 r5 r6 u hu h5 h6, val_main_cst_3, val_main_cst_4]
    rw [Ideal.exp_coe, ← EReal.coe_neg, Ideal.exp_coe, one_coe, logistic_real, ← EReal.coe_sub, ← EReal.coe_neg, neg_sub, sqrt_nonneg' (room _ _), ← EReal.coe_mul, ← EReal.coe_mul]; rfl

end gates

end Cert.RnnFwd
-- ==== Proof.RnnFwd.KHost.lean ====
/- The blocks one grid point of the kernel reads, as the channels of the arguments: block `t` holds the 128 channels
   from `128 t`, which are two heads, and the products with the heads' matrices laid on a diagonal are the heads' own. -/
module

public import proofs.«01_k».proof.Proof.Gen.KernelRnnFwdIdeal.Value
public import proofs.«01_k».proof.Proof.RnnFwd.KGate
public import proofs.«01_k».proof.Proof.RnnFwd.RefGate

@[expose] public section

set_option maxRecDepth 16384

noncomputable section

namespace Cert.RnnFwd

open Idealize.ShloMosaic Idealize.ShloMosaic.TcCoe Idealize.SL.Sem
open Idealize.ShloMosaic.Pipeline (Dat)
open Cert.KernelRnnFwdIdeal Cert.KernelRnnFwdIdeal.Gen Cert.ReferenceRnnFwdIdeal.Read Cert.Lift

/-- Channel `d` of block `t`. -/
def ch (t : ℕ) (ht : t < 4) (d : Fin 128) : Fin 512 := ⟨t * 128 + d.val, by omega⟩

/-- The matrices of two heads on a diagonal. -/
def pairR (w : S8x64x64.Idx → ℝ) (t : ℕ) (ht : t < 4) (k d : Fin 128) : ℝ :=
  if hk : k.val < 64 then (if hd : d.val < 64 then w (ix3 ⟨2 * t, by omega⟩ ⟨k.val, hk⟩ ⟨d.val, hd⟩) else 0)
  else (if hd : d.val < 64 then 0 else w (ix3 ⟨1 + 2 * t, by omega⟩ ⟨k.val - 64, by omega⟩ ⟨d.val - 64, by omega⟩))

theorem sum_pair (w : S8x64x64.Idx → ℝ) (t : ℕ) (ht : t < 4) (d : Fin 128) (u : Fin 512 → ℝ) (b : ℝ) :
    ∑ k : Fin 128, u (ch t ht k) * pairR w t ht k d + b = zR u w b (ch t ht d) := by
  have hd := d.isLt
  refine congrArg (· + b) ((Fin.sum_univ_add (a := 64) (b := 64) fun k => u (ch t ht k) * pairR w t ht k d).trans ?_)
  by_cases h : d.val < 64
  · have e1 : (ch t ht d).val / 64 = 2 * t := by unfold ch; dsimp only; omega
    have e2 : (ch t ht d).val % 64 = d.val := by unfold ch; dsimp only; omega
    have z (k : Fin 64) : pairR w t ht (Fin.natAdd 64 k) d = 0 := by
      rw [pairR, dif_neg (by simp only [Fin.natAdd_mk, Fin.val_natAdd]; omega), dif_pos h]
    simp only [z, mul_zero, Finset.sum_const_zero, add_zero]
    refine Finset.sum_congr rfl fun k _ => ?_
    rw [pairR, dif_pos (by simp only [Fin.val_castAdd]; exact k.isLt), dif_pos h, mul_comm]
    refine congrArg₂ (· * ·) (congrArg w ?_) (congrArg u (Fin.ext ?_))
    · congr 1
      · exact Fin.ext e1.symm
      · exact Fin.ext e2.symm
    · show t * 128 + k.val = (ch t ht d).val / 64 * 64 + k.val
      omega
  · have e1 : (ch t ht d).val / 64 = 1 + 2 * t := by unfold ch; dsimp only; omega
    have e2 : (ch t ht d).val % 64 = d.val - 64 := by unfold ch; dsimp only; omega
    have z (k : Fin 64) : pairR w t ht (Fin.castAdd 64 k) d = 0 := by
      rw [pairR, dif_pos (by simp only [Fin.val_castAdd]; exact k.isLt), dif_neg h]
    simp only [z, mul_zero, Finset.sum_const_zero, zero_add]
    refine Finset.sum_congr rfl fun k _ => ?_
    rw [pairR, dif_neg (by simp only [Fin.val_natAdd]; omega), dif_neg h, mul_comm]
    refine congrArg₂ (· * ·) (congrArg w ?_) (congrArg u (Fin.ext ?_))
    · congr 1
      · exact Fin.ext e1.symm
      · exact Fin.ext (by simp only [Fin.val_natAdd]; omega)
      · exact Fin.ext e2.symm
    · show t * 128 + (64 + k.val) = (ch t ht d).val / 64 * 64 + k.val
      omega

/-- The host's arrangement of the heads' matrices. -/
def diag (w : FVec Ideal S8x64x64 .f32) : FVec Ideal S4x128x128 .bf16 :=
  truncf .bf16 (concatenate S4x128x128 1
    [⟨S4x64x128, concatenate S4x64x128 2 [⟨S4x64x64, Host.slice S4x64x64 ![0, 0, 0] ![2, 1, 1] w slicesBy_S8x64x64_S4x64x64_0s2_0s1_0s1⟩, ⟨S4x64x64, broadcastInDim S4x64x64 ![] bcast_S_S4x64x64 (constant S_ .f32 0x00000000#32)⟩] concatenates_S4x64x64_S4x64x64_S4x64x128_d2⟩,
     ⟨S4x64x128, concatenate S4x64x128 2 [⟨S4x64x64, broadcastInDim S4x64x64 ![] bcast_S_S4x64x64 (constant S_ .f32 0x00000000#32)⟩, ⟨S4x64x64, Host.slice S4x64x64 ![1, 0, 0] ![2, 1, 1] w slicesBy_S8x64x64_S4x64x64_1s2_0s1_0s1⟩] concatenates_S4x64x64_S4x64x64_S4x64x128_d2⟩]
    concatenates_S4x64x128_S4x64x128_S4x128x128_d1) bitsLt_bf16_f32

theorem pairs_real (w : FVec Ideal S8x64x64 .f32) (r : S8x64x64.Idx → ℝ) (h : ∀ i, w i = ((r i : ℝ) : EReal)) (t : Fin 4) (k d : Fin 128) :
    diag w (ix3 t k d) = ((pairR r t.val t.isLt k d : ℝ) : EReal) := by
  unfold pairR
  pointwise [diag, h]
  split_ifs <;> rfl

variable (m : (ℓ : Loc nD τ sig) → Buf (Elt Ideal) ℓ)

theorem idx : ∀ t : Fin cfg0.N, win0_0.index t = ![0, 8 + t.val] ∧ win0_1.index t = ![0, 12 + t.val] ∧ win0_2.index t = ![0, t.val] ∧ win0_3.index t = ![0, t.val] ∧ win0_4.index t = ![t.val, 0, 0] ∧ win0_5.index t = ![t.val, 0, 0]
    ∧ win0_6.index t = ![0, t.val] ∧ win0_7.index t = ![0, t.val] := (by decide +kernel : ∀ t : Fin grid0.N, _)

/-- The arguments of the run, by name. -/
def aX (c : Dev nD) : FVec Ideal S4096x2048 .f32 := m ((c : Thread nD τ).loc main_arg0)
def aW (c : Dev nD) : FVec Ideal S4x512 .f32 := m ((c : Thread nD τ).loc main_arg1)
def aB (c : Dev nD) : FVec Ideal S512 .f32 := m ((c : Thread nD τ).loc main_arg2)
def aU (c : Dev nD) : FVec Ideal S8x64x64 .f32 := m ((c : Thread nD τ).loc main_arg3)
def aC (c : Dev nD) : FVec Ideal S512 .f32 := m ((c : Thread nD τ).loc main_arg4)
def aV (c : Dev nD) : FVec Ideal S8x64x64 .f32 := m ((c : Thread nD τ).loc main_arg5)
def aD (c : Dev nD) : FVec Ideal S512 .f32 := m ((c : Thread nD τ).loc main_arg6)
def aL (c : Dev nD) : FVec Ideal S512 .f32 := m ((c : Thread nD τ).loc main_arg7)

theorem V_pairs_a (c : Dev nD) : V (F := Ideal) m c main_v14 = diag (aU m c) := rfl
theorem V_pairs_i (c : Dev nD) : V (F := Ideal) m c main_v21 = diag (aV m c) := rfl
theorem V_taps (c : Dev nD) : V (F := Ideal) m c main_v1 = concatenate S8x512 0 [⟨S4x512, aW m c⟩, ⟨S4x512, broadcastInDim S4x512 ![] bcast_S_S4x512 (constant S_ .f32 0x00000000#32)⟩] concatenates_S4x512_S4x512_S8x512_d0 := rfl
theorem V_rows (c : Dev nD) : V (F := Ideal) m c main_v7 = concatenate S8x512 0 [⟨S1x512, shapeCast S1x512 (aB m c) shapeCasts_S512_S1x512⟩, ⟨S1x512, shapeCast S1x512 (aC m c) shapeCasts_S512_S1x512⟩, ⟨S1x512, shapeCast S1x512 (aD m c) shapeCasts_S512_S1x512⟩,
    ⟨S1x512, shapeCast S1x512 (aL m c) shapeCasts_S512_S1x512⟩, ⟨S4x512, broadcastInDim S4x512 ![] bcast_S_S4x512 (constant S_ .f32 0x00000000#32)⟩] concatenates_S1x512_S1x512_S1x512_S1x512_S4x512_S8x512_d0 := rfl

section blocks
variable (c : Dev nD) (t : Fin cfg0.N) (ht : t.val < 4)
variable (r0 : S4096x512.Idx → ℝ) (r1 : S4x512.Idx → ℝ) (r2 : S512.Idx → ℝ) (r3 : S8x64x64.Idx → ℝ) (r4 : S512.Idx → ℝ) (r5 : S8x64x64.Idx → ℝ) (r6 r7 : S512.Idx → ℝ)

theorem blk_x (h0 : ∀ i, val_main_v0 (F := Ideal) (aX m c) i = ((r0 i : ℝ) : EReal)) : Rows (iblk (F := Ideal) m c 0 t) fun d => colR r0 (ch t.val ht d) := by
  intro n d
  have e : val_main_v0 (F := Ideal) (aX m c) (ix2 n (ch t.val ht d)) = iblk (F := Ideal) m c 0 t (ix2 n d) := by
    unfold aX ch
    pointwise [val_main_v0]
    blk_point [iblk, V, idx t]
  show _ = ((colR r0 (ch t.val ht d) n.val : ℝ) : EReal)
  rw [← e, h0, colR, dif_pos n.isLt]

theorem blk_w (h1 : ∀ i, aW m c i = ((r1 i : ℝ) : EReal)) : Rows (iblk (F := Ideal) m c 2 t) fun d => colR r1 (ch t.val ht d) := by
  intro k d
  have e : iblk (F := Ideal) m c 2 t (ix2 k d) = V (F := Ideal) m c main_v1 (ix2 k (ch t.val ht d)) := by
    blk_simp [iblk]
    exact congrArg _ (by unfold ch; blk_ext [idx t])
  rw [e, V_taps]
  unfold colR
  pointwise [h1]
  split <;> rfl

/-- The rows of vectors a block reads. -/
def rowR (r2 r4 r6 r7 : S512.Idx → ℝ) (j : Fin 512) (s : ℕ) : ℝ := if s = 0 then r2 (ix1 j) else if s = 1 then r4 (ix1 j) else if s = 2 then r6 (ix1 j) else if s = 3 then r7 (ix1 j) else 0

theorem blk_v (h2 : ∀ i, aB m c i = ((r2 i : ℝ) : EReal)) (h4 : ∀ i, aC m c i = ((r4 i : ℝ) : EReal)) (h6 : ∀ i, aD m c i = ((r6 i : ℝ) : EReal)) (h7 : ∀ i, aL m c i = ((r7 i : ℝ) : EReal)) :
    Rows (iblk (F := Ideal) m c 3 t) fun d => rowR r2 r4 r6 r7 (ch t.val ht d) := by
  intro k d
  have e : iblk (F := Ideal) m c 3 t (ix2 k d) = V (F := Ideal) m c main_v7 (ix2 k (ch t.val ht d)) := by
    blk_simp [iblk]
    exact congrArg _ (by unfold ch; blk_ext [idx t])
  rw [e, V_rows]
  unfold rowR
  pointwise [h2, h4, h6, h7]
  split_ifs <;> first | rfl | omega

theorem blk_u (h3 : ∀ i, aU m c i = ((r3 i : ℝ) : EReal)) (k d : Fin 128) : iblk (F := Ideal) m c 4 t (ix3 0 k d) = ((pairR r3 t.val ht k d : ℝ) : EReal) := by
  have e : iblk (F := Ideal) m c 4 t (ix3 0 k d) = V (F := Ideal) m c main_v14 (ix3 ⟨t.val, ht⟩ k d) := by
    blk_simp [iblk]
    exact congrArg _ (by blk_ext [idx t])
  rw [e, V_pairs_a]
  exact pairs_real _ r3 h3 _ k d

theorem blk_i (h5 : ∀ i, aV m c i = ((r5 i : ℝ) : EReal)) (k d : Fin 128) : iblk (F := Ideal) m c 5 t (ix3 0 k d) = ((pairR r5 t.val ht k d : ℝ) : EReal) := by
  have e : iblk (F := Ideal) m c 5 t (ix3 0 k d) = V (F := Ideal) m c main_v21 (ix3 ⟨t.val, ht⟩ k d) := by
    blk_simp [iblk]
    exact congrArg _ (by blk_ext [idx t])
  rw [e, V_pairs_i]
  exact pairs_real _ r5 h5 _ k d

/-- The recurrence's input, its decay and what it adds, of a channel at a step. -/
def uR (n : ℕ) (j : Fin 512) : ℝ := xrR (colR r0 j) (colR r1 j) (r2 (ix1 j)) n
def fR (j : Fin 512) (n : ℕ) : ℝ := Real.exp (laR (zR (uR r0 r1 r2 n) r3 (r4 (ix1 j)) j) (r7 (ix1 j)))
def gR (j : Fin 512) (n : ℕ) : ℝ := addR (zR (uR r0 r1 r2 n) r3 (r4 (ix1 j)) j) (zR (uR r0 r1 r2 n) r5 (r6 (ix1 j)) j) (r7 (ix1 j)) (uR r0 r1 r2 n j)

theorem uK_eq (d : Fin 128) (n : ℕ) : uK (fun d => colR r0 (ch t.val ht d)) (fun d => colR r1 (ch t.val ht d)) (fun d => rowR r2 r4 r6 r7 (ch t.val ht d)) d n = uR r0 r1 r2 n (ch t.val ht d) := rfl

theorem zK_eq (w : S8x64x64.Idx → ℝ) (s : ℕ) (d : Fin 128) (n : ℕ) :
    zK (fun d => colR r0 (ch t.val ht d)) (fun d => colR r1 (ch t.val ht d)) (fun d => rowR r2 r4 r6 r7 (ch t.val ht d)) (pairR w t.val ht) s d n = zR (uR r0 r1 r2 n) w (rowR r2 r4 r6 r7 (ch t.val ht d) s) (ch t.val ht d) :=
  sum_pair w t.val ht d (uR r0 r1 r2 n) _

end blocks

end Cert.RnnFwd
-- ==== Proof.RnnBwd.KHost.lean ====
/- The blocks one grid point of the kernel reads, as the channels of the arguments, and the states the host gives it:
   they are found again by joining windows of steps, each time twice as long. -/
module

public import proofs.«01_k».proof.Proof.Gen.KernelRnnBwdIdeal.Value
public import proofs.«01_k».proof.Proof.RnnBwd.KGate
public import proofs.«01_k».proof.Proof.RnnFwd.KHost

@[expose] public section

set_option maxRecDepth 65536
set_option maxHeartbeats 4000000

noncomputable section

namespace Cert.RnnBwd

open Idealize.ShloMosaic Idealize.ShloMosaic.TcCoe Idealize.SL.Sem
open Idealize.ShloMosaic.Pipeline (Dat)
open Cert.KernelRnnBwdIdeal Cert.KernelRnnBwdIdeal.Gen Cert.Lift
open Cert.RnnFwd (Rows wA wH wA_step wH_step wA_one wH_one c_one c_zero ch pairR sum_pair colR rowR zR uR fR gR diag pairs_real uK zK uK_eq zK_eq ref_both ref_xr pH)

/-- Two arrays that hold the products of the decays and the states over the last `s` steps. -/
def Win (s : ℕ) (A H : FVec Ideal S4096x512 .f32) (f g : Fin 512 → ℕ → ℝ) : Prop :=
  Rows A (fun c => wA 4096 s (f c)) ∧ Rows H fun c => wH 4096 s (f c) (g c)

section join
variable {s k : ℕ} (hs : 0 < s) (hk : s + k = 4096)
include hk

/-- An array moved `s` steps on, the steps before the first filled in. -/
theorem moved (v : FVec Ideal S4096x512 .f32) (f : Fin 512 → ℕ → ℝ) (hv : Rows v f) (z : FVec Ideal ⟨2, ![s, 512]⟩ .f32) (w : ℝ) (hz : ∀ i, z i = ((w : ℝ) : EReal)) (h1 hc) :
    Rows (concatenate S4096x512 0 [⟨⟨2, ![s, 512]⟩, z⟩, ⟨⟨2, ![k, 512]⟩, extractStridedSlice ⟨2, ![k, 512]⟩ ![0, 0] v h1⟩] hc) fun c t => if s ≤ t % 4096 then f c (t - s) else w := by
  intro i c
  have hi := i.isLt
  have hm : i.val % 4096 = i.val := Nat.mod_eq_of_lt hi
  by_cases h : i.val < s
  · refine (concatenate_pair_apply_left (s₁ := ⟨2, ![s, 512]⟩) (s₂ := ⟨2, ![k, 512]⟩) (t := S4096x512) 0 _ _ hc (ix2 i c) rfl (ix2 ⟨i.val, h⟩ c) (Fin.forall_fin_two.mpr ⟨rfl, rfl⟩)).trans ((hz _).trans (congrArg _ ?_))
    show w = if s ≤ i.val % 4096 then f c (i.val - s) else w
    rw [hm, if_neg (by omega)]
  · refine (concatenate_pair_apply_right (s₁ := ⟨2, ![s, 512]⟩) (s₂ := ⟨2, ![k, 512]⟩) (t := S4096x512) 0 _ _ hc (ix2 i c) rfl rfl (ix2 ⟨i.val - s, by omega⟩ c) (fun x hx => ?_) ?_).trans ?_
    · match x, hx with
      | ⟨0, _⟩, hx => exact absurd rfl hx
      | ⟨1, _⟩, _ => rfl
    · show i.val - s + s = i.val
      omega
    · refine (extractStridedSlice_apply _ v h1 _ (ix2 ⟨i.val - s, by omega⟩ c) (Fin.forall_fin_two.mpr ⟨(Nat.zero_add _).symm, (Nat.zero_add _).symm⟩)).trans ((hv _ c).trans (congrArg _ ?_))
      show f c (i.val - s) = if s ≤ i.val % 4096 then f c (i.val - s) else w
      rw [hm, if_pos (by omega)]

include hs in
theorem joined {A H : FVec Ideal S4096x512 .f32} {f g : Fin 512 → ℕ → ℝ} (h : Win s A H f g) (z o : FVec Ideal ⟨2, ![s, 512]⟩ .f32) (hz : ∀ i, z i = ((0 : ℝ) : EReal)) (ho : ∀ i, o i = ((1 : ℝ) : EReal)) (h1 h2 hc hd) :
    Win (s + s) (mulf A (concatenate S4096x512 0 [⟨⟨2, ![s, 512]⟩, o⟩, ⟨⟨2, ![k, 512]⟩, extractStridedSlice ⟨2, ![k, 512]⟩ ![0, 0] A h1⟩] hc))
      (addf (mulf A (concatenate S4096x512 0 [⟨⟨2, ![s, 512]⟩, z⟩, ⟨⟨2, ![k, 512]⟩, extractStridedSlice ⟨2, ![k, 512]⟩ ![0, 0] H h2⟩] hd)) H) f g := by
  have hA := moved hk A _ h.1 o 1 ho h1 hc
  have hH := moved hk H _ h.2 z 0 hz h2 hd
  constructor <;> intro i c
  · rw [mulf_apply, h.1 i c, hA i c]
    exact (EReal.coe_mul _ _).symm.trans (congrArg _ (wA_step (by norm_num) hs (f c) i.val).symm)
  · rw [addf_apply, mulf_apply, h.1 i c, h.2 i c, hH i c]
    exact ((congrArg (· + _) (EReal.coe_mul _ _).symm).trans (EReal.coe_add _ _).symm).trans (congrArg _ (wH_step (by norm_num) hs (f c) (g c) i.val).symm)

end join

variable (m : (ℓ : Loc nD τ sig) → Buf (Elt Ideal) ℓ)

theorem idx : ∀ t : Fin cfg0.N, win0_0.index t = ![0, 8 + t.val] ∧ win0_1.index t = ![0, t.val] ∧ win0_2.index t = ![0, t.val] ∧ win0_3.index t = ![0, t.val] ∧ win0_4.index t = ![0, t.val] ∧ win0_5.index t = ![t.val, 0, 0]
    ∧ win0_6.index t = ![t.val, 0, 0] ∧ win0_7.index t = ![0, t.val] ∧ win0_8.index t = ![0, t.val] ∧ win0_9.index t = ![t.val, 0, 0] ∧ win0_10.index t = ![t.val, 0, 0] := (by decide +kernel : ∀ t : Fin grid0.N, _)

/-- The arguments of the run, by name. -/
def aX (c : Dev nD) : FVec Ideal S4096x2048 .f32 := m ((c : Thread nD τ).loc main_arg0)
def aW (c : Dev nD) : FVec Ideal S4x512 .f32 := m ((c : Thread nD τ).loc main_arg1)
def aB (c : Dev nD) : FVec Ideal S512 .f32 := m ((c : Thread nD τ).loc main_arg2)
def aU (c : Dev nD) : FVec Ideal S8x64x64 .f32 := m ((c : Thread nD τ).loc main_arg3)
def aC (c : Dev nD) : FVec Ideal S512 .f32 := m ((c : Thread nD τ).loc main_arg4)
def aV (c : Dev nD) : FVec Ideal S8x64x64 .f32 := m ((c : Thread nD τ).loc main_arg5)
def aD (c : Dev nD) : FVec Ideal S512 .f32 := m ((c : Thread nD τ).loc main_arg6)
def aL (c : Dev nD) : FVec Ideal S512 .f32 := m ((c : Thread nD τ).loc main_arg7)
def aG (c : Dev nD) : FVec Ideal S4096x512 .f32 := m ((c : Thread nD τ).loc main_arg8)

theorem V_pairs_a (c : Dev nD) : V (F := Ideal) m c main_v198 = diag (aU m c) := rfl
theorem V_pairs_i (c : Dev nD) : V (F := Ideal) m c main_v205 = diag (aV m c) := rfl
theorem V_taps (c : Dev nD) : V (F := Ideal) m c main_v184 = concatenate S8x512 0 [⟨S4x512, aW m c⟩, ⟨S4x512, broadcastInDim S4x512 ![] bcast_S_S4x512 (constant S_ .f32 0x00000000#32)⟩] concatenates_S4x512_S4x512_S8x512_d0 := rfl
theorem V_rows (c : Dev nD) : V (F := Ideal) m c main_v191 = concatenate S8x512 0 [⟨S1x512, shapeCast S1x512 (aB m c) shapeCasts_S512_S1x512⟩, ⟨S1x512, shapeCast S1x512 (aC m c) shapeCasts_S512_S1x512⟩, ⟨S1x512, shapeCast S1x512 (aD m c) shapeCasts_S512_S1x512⟩,
    ⟨S1x512, shapeCast S1x512 (aL m c) shapeCasts_S512_S1x512⟩, ⟨S4x512, broadcastInDim S4x512 ![] bcast_S_S4x512 (constant S_ .f32 0x00000000#32)⟩] concatenates_S1x512_S1x512_S1x512_S1x512_S4x512_S8x512_d0 := rfl
theorem V_dh (c : Dev nD) : V (F := Ideal) m c main_v185 = truncf .bf16 (aG m c) bitsLt_bf16_f32 := rfl

/-- The contents before the recurrence's decays are joined. -/
def B (c : Dev nD) : Valuation τ sig (Elt Ideal) := StableHlo.after hostOps0_1 (StableHlo.after hostOps0 fun b => m (c, b))

theorem V_tail (c : Dev nD) (b : Ref sig .tc) : V (F := Ideal) m c b = StableHlo.after hostOps0_2 (B m c) (Proc.devRef .tc b) := by
  show StableHlo.after (hostOps0 ++ (hostOps0_1 ++ (hostOps0_2 ++ []))) (fun b => m (c, b)) (Proc.devRef .tc b) = _
  rw [StableHlo.after_append, StableHlo.after_append, List.append_nil]
  rfl

/-- The contents after the first `n` operations. -/
def upto (ops : List (HloOp τ sig (Elt Ideal))) (W : Valuation τ sig (Elt Ideal)) (n : ℕ) : Valuation τ sig (Elt Ideal) := StableHlo.after (ops.take n) W

theorem upto_add {ops : List (HloOp τ sig (Elt Ideal))} (W : Valuation τ sig (Elt Ideal)) (n j : ℕ) :
    upto ops W (n + j) = StableHlo.after ((ops.drop n).take j) (upto ops W n) := by
  rw [upto, upto, List.take_add, StableHlo.after_append]

theorem B_x (c : Dev nD) : B m c (Proc.devRef .tc main_v34) = Cert.ReferenceRnnFwdIdeal.Read.val_main_v34 (F := Ideal) (aX m c) (aW m c) (aB m c) := rfl
theorem B_i (c : Dev nD) : B m c (Proc.devRef .tc main_v60) = Cert.ReferenceRnnFwdIdeal.Read.val_main_v60 (F := Ideal) (aX m c) (aW m c) (aB m c) (aV m c) (aD m c) := rfl
set_option maxHeartbeats 3000000 in
theorem B_r (c : Dev nD) : B m c (Proc.devRef .tc main_v62) = Cert.ReferenceRnnFwdIdeal.Read.val_main_v62 (F := Ideal) (aX m c) (aW m c) (aB m c) (aU m c) (aC m c) := rfl
theorem B_l (c : Dev nD) : B m c (Proc.devRef .tc main_v63) = Cert.ReferenceRnnFwdIdeal.Read.val_main_v63 (F := Ideal) (aL m c) := rfl

section cuts
variable (W : Valuation τ sig (Elt Ideal))

theorem cut_decay : StableHlo.after ((hostOps0_2 (F := Ideal)).take 12) W (Proc.devRef .tc main_v67)
    = Host.exp (F := Ideal) (φ := .f32) (mulf (W (Proc.devRef .tc main_v62)) (broadcastInDim S4096x512 ![0, 1] bcast_S1x512_S4096x512_0_1 (broadcastInDim S1x512 ![1] bcast_S512_S1x512_1 (W (Proc.devRef .tc main_v63))))) := rfl

theorem cut_add : StableHlo.after ((hostOps0_2 (F := Ideal)).take 12) W (Proc.devRef .tc main_v74)
    = mulf (F := Ideal) (φ := .f32) (Host.sqrt (Host.negf (Host.expm1 (mulf (broadcastInDim S4096x512 ![] bcast_S_S4096x512 (constant S_ .f32 0x40000000#32))
        (mulf (W (Proc.devRef .tc main_v62)) (broadcastInDim S4096x512 ![0, 1] bcast_S1x512_S4096x512_0_1 (broadcastInDim S1x512 ![1] bcast_S512_S1x512_1 (W (Proc.devRef .tc main_v63)))))))))
      (mulf (W (Proc.devRef .tc main_v60)) (W (Proc.devRef .tc main_v34))) := rfl

theorem zeros {n : ℕ} (h) (i) : broadcastInDim ⟨2, ![n, 512]⟩ ![] h (constant (F := Ideal) S_ .f32 0x00000000#32) i = ((0 : ℝ) : EReal) := c_zero
theorem ones {n : ℕ} (h) (i) : broadcastInDim ⟨2, ![n, 512]⟩ ![] h (constant (F := Ideal) S_ .f32 0x3F800000#32) i = ((1 : ℝ) : EReal) := c_one

variable {f g : Fin 512 → ℕ → ℝ}
theorem cut0 (h : Win 1 (W (Proc.devRef .tc main_v67)) (W (Proc.devRef .tc main_v74)) f g) : Win 2 (StableHlo.after (((hostOps0_2 (F := Ideal)).drop 12).take 11) W (Proc.devRef .tc main_v83)) (StableHlo.after (((hostOps0_2 (F := Ideal)).drop 12).take 11) W (Proc.devRef .tc main_v79)) f g :=
  joined (s := 1) (k := 4095) (by norm_num) rfl h (broadcastInDim S1x512 ![] bcast_S_S1x512 (constant S_ .f32 0x00000000#32)) (broadcastInDim S1x512 ![] bcast_S_S1x512 (constant S_ .f32 0x3F800000#32)) (zeros bcast_S_S1x512) (ones bcast_S_S1x512) slices_S4096x512_S4095x512_0_0 slices_S4096x512_S4095x512_0_0 concatenates_S1x512_S4095x512_S4096x512_d0 concatenates_S1x512_S4095x512_S4096x512_d0
theorem cut1 (h : Win 2 (W (Proc.devRef .tc main_v83)) (W (Proc.devRef .tc main_v79)) f g) : Win 4 (StableHlo.after (((hostOps0_2 (F := Ideal)).drop 23).take 11) W (Proc.devRef .tc main_v92)) (StableHlo.after (((hostOps0_2 (F := Ideal)).drop 23).take 11) W (Proc.devRef .tc main_v88)) f g :=
  joined (s := 2) (k := 4094) (by norm_num) rfl h (broadcastInDim S2x512 ![] bcast_S_S2x512 (constant S_ .f32 0x00000000#32)) (broadcastInDim S2x512 ![] bcast_S_S2x512 (constant S_ .f32 0x3F800000#32)) (zeros bcast_S_S2x512) (ones bcast_S_S2x512) slices_S4096x512_S4094x512_0_0 slices_S4096x512_S4094x512_0_0 concatenates_S2x512_S4094x512_S4096x512_d0 concatenates_S2x512_S4094x512_S4096x512_d0
theorem cut2 (h : Win 4 (W (Proc.devRef .tc main_v92)) (W (Proc.devRef .tc main_v88)) f g) : Win 8 (StableHlo.after (((hostOps0_2 (F := Ideal)).drop 34).take 11) W (Proc.devRef .tc main_v101)) (StableHlo.after (((hostOps0_2 (F := Ideal)).drop 34).take 11) W (Proc.devRef .tc main_v97)) f g :=
  joined (s := 4) (k := 4092) (by norm_num) rfl h (broadcastInDim S4x512 ![] bcast_S_S4x512 (constant S_ .f32 0x00000000#32)) (broadcastInDim S4x512 ![] bcast_S_S4x512 (constant S_ .f32 0x3F800000#32)) (zeros bcast_S_S4x512) (ones bcast_S_S4x512) slices_S4096x512_S4092x512_0_0 slices_S4096x512_S4092x512_0_0 concatenates_S4x512_S4092x512_S4096x512_d0 concatenates_S4x512_S4092x512_S4096x512_d0
theorem cut3 (h : Win 8 (W (Proc.devRef .tc main_v101)) (W (Proc.devRef .tc main_v97)) f g) : Win 16 (StableHlo.after (((hostOps0_2 (F := Ideal)).drop 45).take 11) W (Proc.devRef .tc main_v110)) (StableHlo.after (((hostOps0_2 (F := Ideal)).drop 45).take 11) W (Proc.devRef .tc main_v106)) f g :=
  joined (s := 8) (k := 4088) (by norm_num) rfl h (broadcastInDim S8x512 ![] bcast_S_S8x512 (constant S_ .f32 0x00000000#32)) (broadcastInDim S8x512 ![] bcast_S_S8x512 (constant S_ .f32 0x3F800000#32)) (zeros bcast_S_S8x512) (ones bcast_S_S8x512) slices_S4096x512_S4088x512_0_0 slices_S4096x512_S4088x512_0_0 concatenates_S8x512_S4088x512_S4096x512_d0 concatenates_S8x512_S4088x512_S4096x512_d0
theorem cut4 (h : Win 16 (W (Proc.devRef .tc main_v110)) (W (Proc.devRef .tc main_v106)) f g) : Win 32 (StableHlo.after (((hostOps0_2 (F := Ideal)).drop 56).take 11) W (Proc.devRef .tc main_v119)) (StableHlo.after (((hostOps0_2 (F := Ideal)).drop 56).take 11) W (Proc.devRef .tc main_v115)) f g :=
  joined (s := 16) (k := 4080) (by norm_num) rfl h (broadcastInDim S16x512 ![] bcast_S_S16x512 (constant S_ .f32 0x00000000#32)) (broadcastInDim S16x512 ![] bcast_S_S16x512 (constant S_ .f32 0x3F800000#32)) (zeros bcast_S_S16x512) (ones bcast_S_S16x512) slices_S4096x512_S4080x512_0_0 slices_S4096x512_S4080x512_0_0 concatenates_S16x512_S4080x512_S4096x512_d0 concatenates_S16x512_S4080x512_S4096x512_d0
theorem cut5 (h : Win 32 (W (Proc.devRef .tc main_v119)) (W (Proc.devRef .tc main_v115)) f g) : Win 64 (StableHlo.after (((hostOps0_2 (F := Ideal)).drop 67).take 11) W (Proc.devRef .tc main_v128)) (StableHlo.after (((hostOps0_2 (F := Ideal)).drop 67).take 11) W (Proc.devRef .tc main_v124)) f g :=
  joined (s := 32) (k := 4064) (by norm_num) rfl h (broadcastInDim S32x512 ![] bcast_S_S32x512 (constant S_ .f32 0x00000000#32)) (broadcastInDim S32x512 ![] bcast_S_S32x512 (constant S_ .f32 0x3F800000#32)) (zeros bcast_S_S32x512) (ones bcast_S_S32x512) slices_S4096x512_S4064x512_0_0 slices_S4096x512_S4064x512_0_0 concatenates_S32x512_S4064x512_S4096x512_d0 concatenates_S32x512_S4064x512_S4096x512_d0
theorem cut6 (h : Win 64 (W (Proc.devRef .tc main_v128)) (W (Proc.devRef .tc main_v124)) f g) : Win 128 (StableHlo.after (((hostOps0_2 (F := Ideal)).drop 78).take 11) W (Proc.devRef .tc main_v137)) (StableHlo.after (((hostOps0_2 (F := Ideal)).drop 78).take 11) W (Proc.devRef .tc main_v133)) f g :=
  joined (s := 64) (k := 4032) (by norm_num) rfl h (broadcastInDim S64x512 ![] bcast_S_S64x512 (constant S_ .f32 0x00000000#32)) (broadcastInDim S64x512 ![] bcast_S_S64x512 (constant S_ .f32 0x3F800000#32)) (zeros bcast_S_S64x512) (ones bcast_S_S64x512) slices_S4096x512_S4032x512_0_0 slices_S4096x512_S4032x512_0_0 concatenates_S64x512_S4032x512_S4096x512_d0 concatenates_S64x512_S4032x512_S4096x512_d0
theorem cut7 (h : Win 128 (W (Proc.devRef .tc main_v137)) (W (Proc.devRef .tc main_v133)) f g) : Win 256 (StableHlo.after (((hostOps0_2 (F := Ideal)).drop 89).take 11) W (Proc.devRef .tc main_v146)) (StableHlo.after (((hostOps0_2 (F := Ideal)).drop 89).take 11) W (Proc.devRef .tc main_v142)) f g :=
  joined (s := 128) (k := 3968) (by norm_num) rfl h (broadcastInDim S128x512 ![] bcast_S_S128x512 (constant S_ .f32 0x00000000#32)) (broadcastInDim S128x512 ![] bcast_S_S128x512 (constant S_ .f32 0x3F800000#32)) (zeros bcast_S_S128x512) (ones bcast_S_S128x512) slices_S4096x512_S3968x512_0_0 slices_S4096x512_S3968x512_0_0 concatenates_S128x512_S3968x512_S4096x512_d0 concatenates_S128x512_S3968x512_S4096x512_d0
theorem cut8 (h : Win 256 (W (Proc.devRef .tc main_v146)) (W (Proc.devRef .tc main_v142)) f g) : Win 512 (StableHlo.after (((hostOps0_2 (F := Ideal)).drop 100).take 11) W (Proc.devRef .tc main_v155)) (StableHlo.after (((hostOps0_2 (F := Ideal)).drop 100).take 11) W (Proc.devRef .tc main_v151)) f g :=
  joined (s := 256) (k := 3840) (by norm_num) rfl h (broadcastInDim S256x512 ![] bcast_S_S256x512 (constant S_ .f32 0x00000000#32)) (broadcastInDim S256x512 ![] bcast_S_S256x512 (constant S_ .f32 0x3F800000#32)) (zeros bcast_S_S256x512) (ones bcast_S_S256x512) slices_S4096x512_S3840x512_0_0 slices_S4096x512_S3840x512_0_0 concatenates_S256x512_S3840x512_S4096x512_d0 concatenates_S256x512_S3840x512_S4096x512_d0
theorem cut9 (h : Win 512 (W (Proc.devRef .tc main_v155)) (W (Proc.devRef .tc main_v151)) f g) : Win 1024 (StableHlo.after (((hostOps0_2 (F := Ideal)).drop 111).take 11) W (Proc.devRef .tc main_v164)) (StableHlo.after (((hostOps0_2 (F := Ideal)).drop 111).take 11) W (Proc.devRef .tc main_v160)) f g :=
  joined (s := 512) (k := 3584) (by norm_num) rfl h (broadcastInDim S512x512 ![] bcast_S_S512x512 (constant S_ .f32 0x00000000#32)) (broadcastInDim S512x512 ![] bcast_S_S512x512 (constant S_ .f32 0x3F800000#32)) (zeros bcast_S_S512x512) (ones bcast_S_S512x512) slices_S4096x512_S3584x512_0_0 slices_S4096x512_S3584x512_0_0 concatenates_S512x512_S3584x512_S4096x512_d0 concatenates_S512x512_S3584x512_S4096x512_d0
theorem cut10 (h : Win 1024 (W (Proc.devRef .tc main_v164)) (W (Proc.devRef .tc main_v160)) f g) : Win 2048 (StableHlo.after (((hostOps0_2 (F := Ideal)).drop 122).take 11) W (Proc.devRef .tc main_v173)) (StableHlo.after (((hostOps0_2 (F := Ideal)).drop 122).take 11) W (Proc.devRef .tc main_v169)) f g :=
  joined (s := 1024) (k := 3072) (by norm_num) rfl h (broadcastInDim S1024x512 ![] bcast_S_S1024x512 (constant S_ .f32 0x00000000#32)) (broadcastInDim S1024x512 ![] bcast_S_S1024x512 (constant S_ .f32 0x3F800000#32)) (zeros bcast_S_S1024x512) (ones bcast_S_S1024x512) slices_S4096x512_S3072x512_0_0 slices_S4096x512_S3072x512_0_0 concatenates_S1024x512_S3072x512_S4096x512_d0 concatenates_S1024x512_S3072x512_S4096x512_d0
theorem cut11 (h : Win 2048 (W (Proc.devRef .tc main_v173)) (W (Proc.devRef .tc main_v169)) f g) : Win 4096 (StableHlo.after (((hostOps0_2 (F := Ideal)).drop 133).take 11) W (Proc.devRef .tc main_v182)) (StableHlo.after (((hostOps0_2 (F := Ideal)).drop 133).take 11) W (Proc.devRef .tc main_v178)) f g :=
  joined (s := 2048) (k := 2048) (by norm_num) rfl h (broadcastInDim S2048x512 ![] bcast_S_S2048x512 (constant S_ .f32 0x00000000#32)) (broadcastInDim S2048x512 ![] bcast_S_S2048x512 (constant S_ .f32 0x3F800000#32)) (zeros bcast_S_S2048x512) (ones bcast_S_S2048x512) slices_S4096x512_S2048x512_0_0 slices_S4096x512_S2048x512_0_0 concatenates_S2048x512_S2048x512_S4096x512_d0 concatenates_S2048x512_S2048x512_S4096x512_d0

theorem cut_rest : StableHlo.after ((hostOps0_2 (F := Ideal)).drop 144) W (Proc.devRef .tc main_v178) = W (Proc.devRef .tc main_v178) := rfl

theorem tail_at (b : Ref sig .tc) : StableHlo.after (hostOps0_2 (F := Ideal)) W (Proc.devRef .tc b) = StableHlo.after ((hostOps0_2 (F := Ideal)).drop 144) (upto (hostOps0_2 (F := Ideal)) W 144) (Proc.devRef .tc b) := by
  rw [upto, ← StableHlo.after_append, List.take_append_drop]

end cuts

/-- The states the host gives the kernel, of the decays and of what is added. -/
theorem V_states (c : Dev nD) (f g : Fin 512 → ℕ → ℝ) (hA : Rows (Cert.ReferenceRnnFwdIdeal.Read.val_main_v67 (F := Ideal) (aX m c) (aW m c) (aB m c) (aU m c) (aC m c) (aL m c)) f)
    (hH : Rows (Cert.ReferenceRnnFwdIdeal.Read.val_main_v74 (F := Ideal) (aX m c) (aW m c) (aB m c) (aU m c) (aC m c) (aV m c) (aD m c) (aL m c)) g) :
    Rows (V (F := Ideal) m c main_v178) fun d t => wH 4096 4096 (f d) (g d) t := by
  have h0 : Win 1 (upto (hostOps0_2 (F := Ideal)) (B m c) 12 (Proc.devRef .tc main_v67)) (upto (hostOps0_2 (F := Ideal)) (B m c) 12 (Proc.devRef .tc main_v74)) f g := by
    rw [upto, cut_decay, cut_add, B_x, B_i, B_r, B_l]
    exact ⟨fun i d => (hA i d).trans (congrArg _ (wA_one 4096 (f d) i.val).symm), fun i d => (hH i d).trans (congrArg _ (wH_one 4096 (f d) (g d) i.val).symm)⟩
  have h1 : Win 2 (upto (hostOps0_2 (F := Ideal)) (B m c) 23 (Proc.devRef .tc main_v83)) (upto (hostOps0_2 (F := Ideal)) (B m c) 23 (Proc.devRef .tc main_v79)) f g := by
    rw [upto_add (B m c) 12 11]; exact cut0 _ h0
  have h2 : Win 4 (upto (hostOps0_2 (F := Ideal)) (B m c) 34 (Proc.devRef .tc main_v92)) (upto (hostOps0_2 (F := Ideal)) (B m c) 34 (Proc.devRef .tc main_v88)) f g := by
    rw [upto_add (B m c) 23 11]; exact cut1 _ h1
  have h3 : Win 8 (upto (hostOps0_2 (F := Ideal)) (B m c) 45 (Proc.devRef .tc main_v101)) (upto (hostOps0_2 (F := Ideal)) (B m c) 45 (Proc.devRef .tc main_v97)) f g := by
    rw [upto_add (B m c) 34 11]; exact cut2 _ h2
  have h4 : Win 16 (upto (hostOps0_2 (F := Ideal)) (B m c) 56 (Proc.devRef .tc main_v110)) (upto (hostOps0_2 (F := Ideal)) (B m c) 56 (Proc.devRef .tc main_v106)) f g := by
    rw [upto_add (B m c) 45 11]; exact cut3 _ h3
  have h5 : Win 32 (upto (hostOps0_2 (F := Ideal)) (B m c) 67 (Proc.devRef .tc main_v119)) (upto (hostOps0_2 (F := Ideal)) (B m c) 67 (Proc.devRef .tc main_v115)) f g := by
    rw [upto_add (B m c) 56 11]; exact cut4 _ h4
  have h6 : Win 64 (upto (hostOps0_2 (F := Ideal)) (B m c) 78 (Proc.devRef .tc main_v128)) (upto (hostOps0_2 (F := Ideal)) (B m c) 78 (Proc.devRef .tc main_v124)) f g := by
    rw [upto_add (B m c) 67 11]; exact cut5 _ h5
  have h7 : Win 128 (upto (hostOps0_2 (F := Ideal)) (B m c) 89 (Proc.devRef .tc main_v137)) (upto (hostOps0_2 (F := Ideal)) (B m c) 89 (Proc.devRef .tc main_v133)) f g := by
    rw [upto_add (B m c) 78 11]; exact cut6 _ h6
  have h8 : Win 256 (upto (hostOps0_2 (F := Ideal)) (B m c) 100 (Proc.devRef .tc main_v146)) (upto (hostOps0_2 (F := Ideal)) (B m c) 100 (Proc.devRef .tc main_v142)) f g := by
    rw [upto_add (B m c) 89 11]; exact cut7 _ h7
  have h9 : Win 512 (upto (hostOps0_2 (F := Ideal)) (B m c) 111 (Proc.devRef .tc main_v155)) (upto (hostOps0_2 (F := Ideal)) (B m c) 111 (Proc.devRef .tc main_v151)) f g := by
    rw [upto_add (B m c) 100 11]; exact cut8 _ h8
  have h10 : Win 1024 (upto (hostOps0_2 (F := Ideal)) (B m c) 122 (Proc.devRef .tc main_v164)) (upto (hostOps0_2 (F := Ideal)) (B m c) 122 (Proc.devRef .tc main_v160)) f g := by
    rw [upto_add (B m c) 111 11]; exact cut9 _ h9
  have h11 : Win 2048 (upto (hostOps0_2 (F := Ideal)) (B m c) 133 (Proc.devRef .tc main_v173)) (upto (hostOps0_2 (F := Ideal)) (B m c) 133 (Proc.devRef .tc main_v169)) f g := by
    rw [upto_add (B m c) 122 11]; exact cut10 _ h10
  have h12 : Win 4096 (upto (hostOps0_2 (F := Ideal)) (B m c) 144 (Proc.devRef .tc main_v182)) (upto (hostOps0_2 (F := Ideal)) (B m c) 144 (Proc.devRef .tc main_v178)) f g := by
    rw [upto_add (B m c) 133 11]; exact cut11 _ h11
  rw [V_tail, tail_at, cut_rest]
  exact h12.2

end Cert.RnnBwd
-- ==== Proof.RnnBwd.KGrad.lean ====
/- The gradients over one block of channels, row by row, from the recurrence run backwards and the saved states. -/
module

public import proofs.«01_k».proof.Proof.RnnBwd.KGate

@[expose] public section

set_option maxRecDepth 16384

noncomputable section

namespace Cert.RnnBwd

open Idealize.ShloMosaic Idealize.ShloMosaic.TcCoe Idealize.SL.Sem
open Idealize.ShloMosaic.Pipeline (Dat)
open Cert.KernelRnnBwdIdeal Cert.KernelRnnBwdIdeal.Gen Cert.Lift Cert.RnnFwd

/-- What comes before a step, and zero before the first. -/
def prev (h : ℕ → ℝ) (t : ℕ) : ℝ := if 1 ≤ t % 4096 then h (t - 1) else 0

/-- The gradient of the logarithm of a decay. -/
def dlR (G H a m y : ℝ) : ℝ := a * (G * H - G * y * a / m)

/-- The gradients of the gates before the logistic function. -/
def dpR (x l s : ℝ) : ℝ := x * (8 * l) * s * (1 - s)
def diR (G m u g : ℝ) : ℝ := G * m * u * g * (1 - g)

theorem Rows.at {M C : ℕ} {v : FVec Ideal ⟨2, ![M, C]⟩ .f32} {f : Fin C → ℕ → ℝ} (h : Rows v f) (i : Fin M) (c : Fin C) : v (ix2 i c) = ((f c i.val : ℝ) : EReal) := h i c

section arrays
variable {n C : ℕ} {v w : FVec Ideal ⟨2, ![n, C]⟩ .f32} {f g : Fin C → ℕ → ℝ}

theorem sub_rows (hv : Rows v f) (hw : Rows w g) : Rows (subf v w) fun c t => f c t - g c t := by
  intro i c
  show v (ix2 i c) - w (ix2 i c) = _
  rw [hv, hw, ← EReal.coe_sub]

theorem div_rows (hv : Rows v f) (hw : Rows w g) (h : ∀ c t, g c t ≠ 0) : Rows (divf v w) fun c t => f c t / g c t := by
  intro i c
  show Ideal.div (v (ix2 i c)) (w (ix2 i c)) = _
  rw [hv, hw, div_real (h c i.val)]

theorem const_rows (z : ℝ) (zb : EReal) (h : zb = ((z : ℝ) : EReal)) : Rows (broadcast ⟨2, ![n, C]⟩ (zb : Ideal .f32) : FVec Ideal ⟨2, ![n, C]⟩ .f32) fun _ _ => z := fun _ _ => h

end arrays

theorem prev_rows (v : FVec Ideal S4096x128 .f32) (f : Fin 128 → ℕ → ℝ) (h : Rows v f) (e) :
    Rows (select (k0_pay663 kernelRun0_A.sl.v116) (dynamicRotate 0 1#32 none (shapeCast S4096x128 v e) rotates_S4096x128_d0) (broadcast S4096x128 (FloatOps.ofBits (F := Ideal) .f32 0x00000000#32)))
      fun d => prev (f d) :=
  rolled (N := 4096) (s := 1) 1#32 rfl (by norm_num) (by norm_num) _
    (ok_iff kernelRun0_A.sl.v116 (fun i c => (iota_at _ i c).trans (congrArg _ (Nat.mod_eq_of_lt i.isLt).symm)) (by norm_num) (by norm_num)) rotates_S4096x128_d0 _ _ 0 _ c_zero (rows_cast h e)

section block
variable {U S I A M G H : FVec Ideal S4096x128 .f32} {L : FVec Ideal S1x128 .f32} {u s y a m γ η : Fin 128 → ℕ → ℝ} {l : Fin 128 → ℝ}
  (hU : Rows U u) (hS : Rows S s) (hI : Rows I y) (hA : Rows A a) (hM : Rows M m) (hm : ∀ d t, m d t ≠ 0) (hG : Rows G γ) (hH : Rows H η) (hL : ∀ d, L (ix2 0 d) = ((l d : ℝ) : EReal))

/-- The gradients of a block, by channel and row. -/
def dlK (u y a m γ η : Fin 128 → ℕ → ℝ) (d : Fin 128) (t : ℕ) : ℝ := dlR (γ d t) (prev (η d) t) (a d t) (m d t) (y d t * u d t)
def dpK (u s y a m γ η : Fin 128 → ℕ → ℝ) (l : Fin 128 → ℝ) (d : Fin 128) (t : ℕ) : ℝ := dpR (dlK u y a m γ η d t) (l d) (s d t)
def diK (u y m γ : Fin 128 → ℕ → ℝ) (d : Fin 128) (t : ℕ) : ℝ := diR (γ d t) (m d t) (u d t) (y d t)
def dxK (u s y a m γ η : Fin 128 → ℕ → ℝ) (l : Fin 128 → ℝ) (g g' : Fin 128 → Fin 128 → ℝ) (d : Fin 128) (t : ℕ) : ℝ :=
  γ d t * m d t * y d t + ∑ k, dpK u s y a m γ η l k t * g d k + ∑ k, diK u y m γ k t * g' d k

include hU hI hM hG

theorem di_rows : Rows (k0_pay667 (F := Ideal) U I M G) (diK u y m γ) :=
  mul_rows (mul_rows (mul_rows (mul_rows hG hM) hU) hI) (sub_rows (const_rows 1 _ c_one) hI)

include hA hH hm

theorem dl_rows : Rows (k0_pay664 (F := Ideal) U I A M G (k0_pay663 kernelRun0_A.sl.v116) H) (dlK u y a m γ η) :=
  mul_rows hA (sub_rows (mul_rows hG (prev_rows H η hH _)) (div_rows (mul_rows (mul_rows hG (mul_rows hI hU)) hA) hM hm))

include hS

theorem ls_sum (d : Fin 128) : k0_pay665 (F := Ideal) U S I A M G (k0_pay663 kernelRun0_A.sl.v116) H (ix2 0 d) = ((8 * ∑ t : Fin 4096, dlK u y a m γ η d t.val * s d t.val : ℝ) : EReal) := by
  have h := dl_rows hU hI hA hM hm hG hH
  have e : k0_pay665 (F := Ideal) U S I A M G (k0_pay663 kernelRun0_A.sl.v116) H (ix2 0 d) = ((8 : ℝ) : EReal) * ∑ t : Fin 4096, (((dlK u y a m γ η d t.val * s d t.val : ℝ)) : EReal) := by
    pointwise [k0_pay665, Rows.at h, Rows.at hS, c_eight, EReal.coe_mul]
  rw [e, sum_coe, ← EReal.coe_mul]

include hL

theorem dp_rows : Rows (k0_pay666 (F := Ideal) U S I L A M G (k0_pay663 kernelRun0_A.sl.v116) H) (dpK u s y a m γ η l) := by
  have hb : Rows (broadcastTo S4096x128 (mulf (broadcast S1x128 (FloatOps.ofBits (F := Ideal) .f32 0x41000000#32)) L) broadcasts_S1x128_S4096x128) fun d _ => 8 * l d := fun i d => by
    pointwise [hL, c_eight, EReal.coe_mul]
  exact mul_rows (mul_rows (mul_rows (dl_rows hU hI hA hM hm hG hH) hb) hS) (sub_rows (const_rows 1 _ c_one) hS)

theorem dx_rows (W W' : FVec Ideal S1x128x128 .bf16) (g g' : Fin 128 → Fin 128 → ℝ) (hW : ∀ k d, W (ix3 0 k d) = ((g k d : ℝ) : EReal)) (hW' : ∀ k d, W' (ix3 0 k d) = ((g' k d : ℝ) : EReal)) :
    Rows (k0_pay670 (F := Ideal) U S I L A M G (k0_pay663 kernelRun0_A.sl.v116) H W W') (dxK u s y a m γ η l g g') := by
  intro i d
  have h1 := dp_rows hU hS hI hA hM hm hG hH hL
  have h2 := di_rows hU hI hM hG
  have e : k0_pay670 (F := Ideal) U S I L A M G (k0_pay663 kernelRun0_A.sl.v116) H W W' (ix2 i d)
      = ((γ d i.val : ℝ) : EReal) * ((m d i.val : ℝ) : EReal) * ((y d i.val : ℝ) : EReal) + ∑ k, (((dpK u s y a m γ η l k i.val * g d k : ℝ)) : EReal) + ∑ k, (((diK u y m γ k i.val * g' d k : ℝ)) : EReal) := by
    pointwise [k0_pay670, k0_pay668, k0_pay669, Rows.at h1, Rows.at h2, Rows.at hG, Rows.at hM, Rows.at hI, hW, hW', EReal.coe_mul]
  rw [e, sum_coe, sum_coe, ← EReal.coe_mul, ← EReal.coe_mul, ← EReal.coe_add, ← EReal.coe_add]
  rfl

theorem dwa_real (k d : Fin 128) :
    k0_pay671 (F := Ideal) U (k0_pay7 U) S I L A M G (k0_pay663 kernelRun0_A.sl.v116) H (ix2 k d) = ((∑ t : Fin 4096, u k t.val * dpK u s y a m γ η l d t.val : ℝ) : EReal) := by
  have h1 := dp_rows hU hS hI hA hM hm hG hH hL
  rw [← sum_coe]
  pointwise [k0_pay671, k0_pay668, k0_pay7, Rows.at h1, Rows.at hU, EReal.coe_mul]

end block

theorem dwi_real {U I M G : FVec Ideal S4096x128 .f32} {u y m γ : Fin 128 → ℕ → ℝ} (hU : Rows U u) (hI : Rows I y) (hM : Rows M m) (hG : Rows G γ) (k d : Fin 128) :
    k0_pay672 (F := Ideal) (k0_pay7 U) (k0_pay669 U I M G) (ix2 k d) = ((∑ t : Fin 4096, u k t.val * diK u y m γ d t.val : ℝ) : EReal) := by
  have h1 := di_rows hU hI hM hG
  rw [← sum_coe]
  pointwise [k0_pay672, k0_pay669, k0_pay7, Rows.at h1, Rows.at hU, EReal.coe_mul]

section sums
variable {X E : FVec Ideal S4096x128 .f32} {x ε : Fin 128 → ℕ → ℝ} (hX : Rows X x) (hE : Rows E ε) (d : Fin 128)
include hX

theorem sum_real (e : (⟨1, ![128]⟩ : Shape).ShapeCasts S1x128) : shapeCast S1x128 (multiReduction (F := Ideal) .add [0] S128 X 0x00000000#32 reduces_S4096x128_S128 (.inl rfl) rfl) e (ix2 0 d) = ((∑ t : Fin 4096, x d t.val : ℝ) : EReal) := by
  rw [← sum_coe]
  pointwise [Rows.at hX]

end sums

end Cert.RnnBwd
-- ==== Proof.RnnBwd.KOut.lean ====
/- What one grid point of the kernel stores: the recurrence run backwards, the gradients of the rows it read, and the sums
   over the rows. -/
module

public import proofs.«01_k».proof.Proof.RnnBwd.KGrad

@[expose] public section

set_option maxRecDepth 16384

noncomputable section

namespace Cert.RnnBwd

open Idealize.ShloMosaic Idealize.ShloMosaic.TcCoe Idealize.SL.Sem
open Idealize.ShloMosaic.Pipeline (Dat)
open Cert.KernelRnnBwdIdeal Cert.KernelRnnBwdIdeal.Gen Cert.Lift Cert.RnnFwd

section low
variable {e : EltTy} {R n : ℕ}

/-- Stores that cover the rows below `o`, each of which writes what `G` says of its place. -/
def Low (L : List (View.Piece (Elt Ideal) ⟨2, ![R, n]⟩ e)) (G : (⟨2, ![R, n]⟩ : Shape).Idx → Elt Ideal e) (o : ℕ) : Prop :=
  All L G ∧ ∀ y : (⟨2, ![R, n]⟩ : Shape).Idx, (y 0).val < o → ∃ q ∈ L, y ∈ q.1.set

theorem Low.nil (G : (⟨2, ![R, n]⟩ : Shape).Idx → Elt Ideal e) : Low [] G 0 := ⟨All.nil G, fun _ h => absurd h (Nat.not_lt_zero _)⟩

theorem Low.cons {o r o' : ℕ} {inb} {v : (Rect.unit (s := ⟨2, ![R, n]⟩) ![o, 0] ![r, n] inb).shape.Idx → Elt Ideal e} {L : List (View.Piece (Elt Ideal) ⟨2, ![R, n]⟩ e)}
    {G : (⟨2, ![R, n]⟩ : Shape).Idx → Elt Ideal e} (ho : o' = o + r) (h : ∀ j, v j = G ((Rect.unit (s := ⟨2, ![R, n]⟩) ![o, 0] ![r, n] inb).emb j)) (hL : Low L G o) : Low (⟨_, v⟩ :: L) G o' :=
  ⟨All.cons h hL.1, fun y hy => by
    by_cases hk : (y 0).val < o
    · obtain ⟨q, hq, hyq⟩ := hL.2 y hk
      exact ⟨q, List.mem_cons_of_mem _ hq, hyq⟩
    · have hm : y ∈ (Rect.unit (s := ⟨2, ![R, n]⟩) ![o, 0] ![r, n] inb).set :=
        Rect.mem_set_unit.mpr (Fin.forall_fin_two.mpr ⟨show o ≤ (y 0).val ∧ (y 0).val < o + r by omega, Nat.zero_le _, (y 1).isLt.trans_eq (Nat.zero_add n).symm⟩)
      exact ⟨_, List.mem_cons_self .., hm⟩⟩

end low

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .bf16) (harg3 : arg3.IsWhole) (arg4 : Memref sig .tc .vmem S8x128 .f32) (harg4 : arg4.IsWhole) (arg5 : Memref sig .tc .vmem S8x128 .f32) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S4096x128 .bf16) (harg8 : arg8.IsWhole) (arg9 : Memref sig .tc .vmem S8x128 .f32) (harg9 : arg9.IsWhole) (arg10 : Memref sig .tc .vmem S2x64x64 .f32) (harg10 : arg10.IsWhole) (arg11 : Memref sig .tc .vmem S2x64x64 .f32) (harg11 : arg11.IsWhole) (arg12 : Memref sig .tc .vmem S4104x128 .f32) (harg12 : arg12.IsWhole) (arg13 : Memref sig .tc .vmem S4104x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S512x128 .f32) (harg16 : arg16.IsWhole)
  (x0 x1 : Vec Ideal S4096x128 .f32) (x2 : Vec Ideal S4096x128 .bf16) (x3 x4 : Vec Ideal S8x128 .f32) (x5 x6 : Vec Ideal S1x128x128 .bf16)

section one
variable {κ : Kind} {sp : Space} (a b : Fin 128 → ℕ → ℝ) (b1 b2 : View sig κ sp S4096x128 .f32) (b3 : View sig κ sp S512x128 .f32) (V W : FVec Ideal S4096x128 .f32) (C : FVec Ideal S512x128 .f32)
  (hV : Rows V fun c t => wA 8 8 (a c) (4095 - t)) (hW : Rows W fun c t => wH 8 8 (a c) (b c) (4095 - t)) (hC : Rows C fun c r => pH (a c) (b c) 0 (8 * (511 - r)))
include hV hW hC

theorem stored_piece (o r : ℕ) (ho : o = 8 * r) (h1 h2 h3 i1 i2 i3 hb hs inb) (j : (Rect.unit (s := S4104x128) ![o, 0] ![8, 128] inb).shape.Idx) :
    shapeCast S8x128 (addf (F := Ideal) (s := S8x128) (φ := .f32) (mulf (F := Ideal) (s := S8x128) (φ := .f32) (b1.readCov (Val := Elt Ideal) (e := .f32) [⟨Rect.unit (s := S4096x128) ![0, 0] ![4096, 128] h1, V⟩] (Rect.unit (s := S4096x128) ![o, 0] ![8, 128] i1).toLoadRect)
        (broadcastTo (α := Ideal .f32) S8x128 (b3.readCov (Val := Elt Ideal) (e := .f32) [⟨Rect.unit (s := S512x128) ![0, 0] ![512, 128] h3, C⟩] (Rect.unit (s := S512x128) ![r, 0] ![1, 128] i3).toLoadRect) hb))
      (b2.readCov (Val := Elt Ideal) (e := .f32) [⟨Rect.unit (s := S4096x128) ![0, 0] ![4096, 128] h2, W⟩] (Rect.unit (s := S4096x128) ![o, 0] ![8, 128] i2).toLoadRect)) hs j
      = backAt a b ((Rect.unit (s := S4104x128) ![o, 0] ![8, 128] inb).emb j) :=
  (congrFun (shapeCast_self _ _) j).trans (piece a b b1 b2 b3 V W C hV hW hC o r ho h1 h2 h3 i1 i2 i3 hb inb j)

end one

section scan
variable (a δ : Fin 128 → ℕ → ℝ) (hA : Rows (kernelRun0_A.sl.r_8 (F := Ideal) c arg1 harg1 arg4 harg4 arg5 harg5 arg6 harg6 arg12 x0 x3 x4 x5) a) (h2 : ∀ i d, x2 (ix2 i d) = ((δ d i.val : ℝ) : EReal))
include hA h2

set_option maxHeartbeats 4000000 in
theorem stored : Low (kernelRun0_A.sl.HS1_512 (F := Ideal) c arg1 harg1 arg3 harg3 arg4 harg4 arg5 harg5 arg6 harg6 arg12 arg14 arg15 arg16 x0 x2 x3 x4 x5) (backAt (fun d => upA (a d)) fun d => upB (δ d)) 4096 := by
  have hV := sa c arg1 harg1 arg4 harg4 arg5 harg5 arg6 harg6 arg12 x0 x3 x4 x5 a hA
  have hW := sb c arg1 harg1 arg4 harg4 arg5 harg5 arg6 harg6 arg12 x0 x3 x4 x5 arg3 harg3 x2 a δ hA h2
  have hC := carry c arg1 harg1 arg4 harg4 arg5 harg5 arg6 harg6 arg12 x0 x3 x4 x5 arg3 harg3 arg14 arg15 x2 a δ hA h2
  unfold kernelRun0_A.sl.HS1_512
  repeat refine Low.cons (by rfl) (stored_piece (fun d => upA (a d)) (fun d => upB (δ d)) arg14.view arg15.view arg16.view _ _ _ hV hW hC _ _ (by rfl) _ _ _ _ _ _ _ _ _) ?_
  exact Low.nil _

/-- The recurrence run backwards, read back. -/
theorem g_rows : Rows (kernelRun0_A.sl.v4896 (F := Ideal) c arg1 harg1 arg3 harg3 arg4 harg4 arg5 harg5 arg6 harg6 arg12 arg13 arg14 arg15 arg16 x0 x2 x3 x4 x5) fun d t => rG (a d) (δ d) 4096 t := by
  intro n d
  refine (row_cov (R := 4104) arg13.view _ _ ⟨n.val, by omega⟩ n d (Nat.zero_add _).symm).trans ?_
  have h := stored c arg1 harg1 arg3 harg3 arg4 harg4 arg5 harg5 arg6 harg6 arg12 arg14 arg15 arg16 x0 x2 x3 x4 x5 a δ hA h2
  refine (All.canon _ _ h.1 _ (h.2 _ n.isLt)).trans ?_
  exact congrArg (fun z : ℝ => (z : EReal)) (up_rG (a d) (δ d) n.val)

end scan

end Cert.RnnBwd
-- ==== Proof.RnnBwd.KOut2.lean ====
/- What one grid point of the kernel stores: the gradients of the rows it read, and the sums over the rows. -/
module

public import proofs.«01_k».proof.Proof.RnnBwd.KOut

@[expose] public section

set_option maxRecDepth 16384

noncomputable section

namespace Cert.RnnBwd

open Idealize.ShloMosaic Idealize.ShloMosaic.TcCoe Idealize.SL.Sem
open Idealize.ShloMosaic.Pipeline (Dat)
open Cert.KernelRnnBwdIdeal Cert.KernelRnnBwdIdeal.Gen Cert.Lift Cert.RnnFwd

/-- A row, and zero past the last. -/
def late0 (f : ℕ → ℝ) (t : ℕ) : ℝ := if t < 4096 then f t else 0

section store
variable {κ : Kind} {sp : Space} (b : View sig κ sp S4104x128 .f32) (L : List (View.Piece (Elt Ideal) S4104x128 .f32)) (X : FVec Ideal S4096x128 .f32) (x : Fin 128 → ℕ → ℝ) (hX : Rows X x)

include hX in
/-- The gradients of the rows, stored with zeros past the last and read back from a later row. -/
theorem later (o : ℕ) (ho : o ≤ 8) (i1 i2 inb) (n : Fin 4096) (d : Fin 128) :
    b.readCov (Val := Elt Ideal) (e := .f32) (⟨Rect.unit (s := S4104x128) ![4096, 0] ![8, 128] i1, (k0_pay678 (F := Ideal) : FVec Ideal S8x128 .f32)⟩ :: ⟨Rect.unit (s := S4104x128) ![0, 0] ![4096, 128] i2, (k0_pay677 (F := Ideal) X : FVec Ideal S4096x128 .f32)⟩ :: L)
      (Rect.unit (s := S4104x128) ![o, 0] ![4096, 128] inb).toLoadRect (ix2 n d) = ((late0 (x d) (o + n.val) : ℝ) : EReal) := by
  have hn := n.isLt
  refine (row_cov _ _ inb ⟨o + n.val, by omega⟩ n d rfl).trans ?_
  unfold late0
  split
  case isTrue h =>
    refine (row_miss (R := 4104) (n := 128) (o := 4096) (r := 8) _ _ _ _ d (.inl h)).trans ?_
    refine (row_hit (R := 4104) (n := 128) (o := 0) (r := 4096) (e := .f32) (Val := Elt Ideal) _ _ L _ ⟨o + n.val, h⟩ d (Nat.zero_add _).symm).trans ?_
    exact (congrFun (shapeCast_self _ _) _).trans (hX _ _)
  case isFalse h =>
    refine (row_hit (R := 4104) (n := 128) (o := 4096) (r := 8) (e := .f32) (Val := Elt Ideal) _ _ _ _ ⟨o + n.val - 4096, by omega⟩ d (by dsimp only; omega)).trans ?_
    pointwise [k0_pay678]
    exact EReal.coe_zero.symm

theorem sum_is {x : Fin 128 → ℕ → ℝ} {X : FVec Ideal S4096x128 .f32} (hX : Rows X x) (d : Fin 128) (z : ℝ) (hz : z = ∑ t : Fin 4096, x d t.val) (e : (⟨1, ![128]⟩ : Shape).ShapeCasts S1x128) :
    shapeCast S1x128 (multiReduction (F := Ideal) .add [0] S128 X 0x00000000#32 reduces_S4096x128_S128 (.inl rfl) rfl) e (ix2 0 d) = ((z : ℝ) : EReal) := by
  rw [hz]
  exact sum_real hX d e

/-- A stored row of sums. -/
theorem sums_piece (f : Fin 128 → ℕ → ℝ) (v : FVec Ideal S1x128 .f32) (r : ℕ) (hr : r < 8) (hv : ∀ d, v (ix2 0 d) = ((f d r : ℝ) : EReal)) (inb) (j : (Rect.unit (s := S8x128) ![r, 0] ![1, 128] inb).shape.Idx) :
    v j = (fun z : S8x128.Idx => ((f (z 1) (z 0).val : ℝ) : EReal)) ((Rect.unit (s := S8x128) ![r, 0] ![1, 128] inb).emb j) := by
  idx_vars j
  have e : (Rect.unit (s := S8x128) ![r, 0] ![1, 128] inb).emb (ix2 j0 j1) = ix2 ⟨r, hr⟩ j1 := funext (Fin.forall_fin_two.mpr ⟨Fin.ext (by
    show r + 1 * j0.val = r
    omega), Fin.ext (by
    show 0 + 1 * j1.val = j1.val
    omega)⟩)
  obtain rfl : j0 = 0 := Subsingleton.elim _ _
  exact (hv j1).trans (congrArg (fun z : S8x128.Idx => ((f (z 1) (z 0).val : ℝ) : EReal)) e).symm

/-- A stored block of a head's weights. -/
theorem head_piece (f : Fin 128 → Fin 128 → ℝ) (v : FVec Ideal S128x128 .f32) (hv : ∀ k d, v (ix2 k d) = ((f k d : ℝ) : EReal)) (q : ℕ) (hq : q < 2) (h1) (h2) (inb) (j : (Rect.unit (s := S2x64x64) ![q, 0, 0] ![1, 64, 64] inb).shape.Idx) :
    shapeCast S1x64x64 (extractStridedSlice S64x64 ![64 * q, 64 * q] v h1) h2 j
      = (fun z : S2x64x64.Idx => ((f ⟨64 * (z 0).val + (z 1).val, by have h0 := (z 0).isLt; have h1 := (z 1).isLt; dsimp at h0 h1; omega⟩ ⟨64 * (z 0).val + (z 2).val, by have h0 := (z 0).isLt; have h1 := (z 2).isLt; dsimp at h0 h1; omega⟩ : ℝ) : EReal)) ((Rect.unit (s := S2x64x64) ![q, 0, 0] ![1, 64, 64] inb).emb j) := by
  idx_vars j
  have e : (Rect.unit (s := S2x64x64) ![q, 0, 0] ![1, 64, 64] inb).emb (ix3 j0 j1 j2) = ix3 ⟨q, hq⟩ j1 j2 := funext fun w => Fin.ext (by
    match w with
    | ⟨0, _⟩ => show q + 1 * j0.val = q; omega
    | ⟨1, _⟩ => show 0 + 1 * j1.val = j1.val; omega
    | ⟨2, _⟩ => show 0 + 1 * j2.val = j2.val; omega)
  rw [e]
  refine (shapeCast_apply _ h2 _ (ix2 j1 j2) ?_).trans ((extractStridedSlice_apply _ _ h1 _ (ix2 ⟨64 * q + j1.val, by omega⟩ ⟨64 * q + j2.val, by omega⟩) ?_).trans (hv _ _))
  · obtain rfl : j0 = 0 := Subsingleton.elim _ _
    rw [Shape.rowMajor_val_three, Shape.rowMajor_val_two]
    show j1.val * 64 + j2.val = (0 * 64 + j1.val) * 64 + j2.val
    omega
  · exact Fin.forall_fin_two.mpr ⟨rfl, rfl⟩

end store

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .bf16) (harg3 : arg3.IsWhole) (arg4 : Memref sig .tc .vmem S8x128 .f32) (harg4 : arg4.IsWhole) (arg5 : Memref sig .tc .vmem S8x128 .f32) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S4096x128 .bf16) (harg8 : arg8.IsWhole) (arg9 : Memref sig .tc .vmem S8x128 .f32) (harg9 : arg9.IsWhole) (arg10 : Memref sig .tc .vmem S2x64x64 .f32) (harg10 : arg10.IsWhole) (arg11 : Memref sig .tc .vmem S2x64x64 .f32) (harg11 : arg11.IsWhole) (arg12 : Memref sig .tc .vmem S4104x128 .f32) (harg12 : arg12.IsWhole) (arg13 : Memref sig .tc .vmem S4104x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S512x128 .f32) (harg16 : arg16.IsWhole)
  (x0 x1 : Vec Ideal S4096x128 .f32) (x2 : Vec Ideal S4096x128 .bf16) (x3 x4 : Vec Ideal S8x128 .f32) (x5 x6 : Vec Ideal S1x128x128 .bf16)
  (ξ wk bb η : Fin 128 → ℕ → ℝ) (u s y a m γ : Fin 128 → ℕ → ℝ) (g g' : Fin 128 → Fin 128 → ℝ) (h0 : Rows x0 ξ) (h1 : Rows x1 η) (h3 : Rows x3 wk) (h4 : Rows x4 bb)
  (hU : Rows (kernelRun0_A.sl.r (F := Ideal) c arg1 harg1 arg4 harg4 arg5 harg5 arg12 x0 x3 x4) u) (hS : Rows (kernelRun0_A.sl.r_2 (F := Ideal) c arg1 harg1 arg4 harg4 arg5 harg5 arg6 harg6 arg12 x0 x3 x4 x5) s) (hI : Rows (kernelRun0_A.sl.r_3 (F := Ideal) c arg1 harg1 arg4 harg4 arg5 harg5 arg7 harg7 arg12 x0 x3 x4 x6) y)
  (hA : Rows (kernelRun0_A.sl.r_8 (F := Ideal) c arg1 harg1 arg4 harg4 arg5 harg5 arg6 harg6 arg12 x0 x3 x4 x5) a) (hM : Rows (kernelRun0_A.sl.r_9 (F := Ideal) c arg1 harg1 arg4 harg4 arg5 harg5 arg6 harg6 arg12 x0 x3 x4 x5) m) (hm : ∀ d t, m d t ≠ 0)
  (hG : Rows (kernelRun0_A.sl.v4896 (F := Ideal) c arg1 harg1 arg3 harg3 arg4 harg4 arg5 harg5 arg6 harg6 arg12 arg13 arg14 arg15 arg16 x0 x2 x3 x4 x5) γ)
  (h5 : ∀ k d, x5 (ix3 0 k d) = ((g k d : ℝ) : EReal)) (h6 : ∀ k d, x6 (ix3 0 k d) = ((g' k d : ℝ) : EReal))

/-- A row of the sums that the block stores. -/
def smK (d : Fin 128) (r : ℕ) : ℝ :=
  if r < 4 then ∑ t : Fin 4096, dxK u s y a m γ η (fun d => lsR (bb d 3)) g g' d t.val * late3 (ξ d) (r + t.val)
  else if r = 4 then ∑ t : Fin 4096, dxK u s y a m γ η (fun d => lsR (bb d 3)) g g' d t.val
  else if r = 5 then ∑ t : Fin 4096, dpK u s y a m γ η (fun d => lsR (bb d 3)) d t.val
  else if r = 6 then ∑ t : Fin 4096, diK u y m γ d t.val
  else (8 * ∑ t : Fin 4096, dlK u y a m γ η d t.val * s d t.val) * sgR (-bb d 3)

include h1 h4 hU hS hI hA hM hm hG

theorem p_rows : Rows (kernelRun0_A.sl.r_123 (F := Ideal) c arg1 harg1 arg2 harg2 arg3 harg3 arg4 harg4 arg5 harg5 arg6 harg6 arg7 harg7 arg12 arg13 arg14 arg15 arg16 x0 x1 x2 x3 x4 x5 x6) (dpK u s y a m γ η fun d => lsR (bb d 3)) :=
  dp_rows hU hS hI hA hM hm hG (fun n d => (row_in arg2 harg2 x1 _ n d n (Nat.zero_add _).symm).trans (h1 n d)) (l_row c arg5 harg5 x4 bb h4)

include h5 h6

theorem x_rows : Rows (kernelRun0_A.sl.r_126 (F := Ideal) c arg1 harg1 arg2 harg2 arg3 harg3 arg4 harg4 arg5 harg5 arg6 harg6 arg7 harg7 arg12 arg13 arg14 arg15 arg16 x0 x1 x2 x3 x4 x5 x6) (dxK u s y a m γ η (fun d => lsR (bb d 3)) g g') :=
  dx_rows hU hS hI hA hM hm hG (fun n d => (row_in arg2 harg2 x1 _ n d n (Nat.zero_add _).symm).trans (h1 n d)) (l_row c arg5 harg5 x4 bb h4) _ _ g g' (fun k d => (whole_in arg6 harg6 x5 _ (ix3 0 k d)).trans (h5 k d)) (fun k d => (whole_in arg7 harg7 x6 _ (ix3 0 k d)).trans (h6 k d))

include h0
set_option maxHeartbeats 4000000 in
theorem stored_sm : All (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.1 (fun z : S8x128.Idx => ((smK ξ bb η u s y a m γ g g' (z 1) (z 0).val : ℝ) : EReal)) := by
  have hx := x_rows c arg1 harg1 arg2 harg2 arg3 harg3 arg4 harg4 arg5 harg5 arg6 harg6 arg7 harg7 arg12 arg13 arg14 arg15 arg16 x0 x1 x2 x3 x4 x5 x6 bb η u s y a m γ g g' h1 h4 hU hS hI hA hM hm hG h5 h6
  have hp := p_rows c arg1 harg1 arg2 harg2 arg3 harg3 arg4 harg4 arg5 harg5 arg6 harg6 arg7 harg7 arg12 arg13 arg14 arg15 arg16 x0 x1 x2 x3 x4 x5 x6 bb η u s y a m γ h1 h4 hU hS hI hA hM hm hG
  have hq := di_rows hU hI hM hG
  have he : ∀ k (hk : k < 4) inb, Rows (arg12.view.readCov (Val := Elt Ideal) (e := .f32) (kernelRun0_A.sl.HS0_2 (F := Ideal) c arg1 harg1 x0) (Rect.unit (s := S4104x128) ![5 + k, 0] ![4096, 128] inb).toLoadRect) fun d t => late3 (ξ d) (k + t) :=
    fun k hk inb => ext_real c arg1 harg1 arg12 x0 ξ h0 k hk inb
  refine All.cons (sums_piece _ _ 7 (by norm_num) (fun d => ?_) _) (All.cons (sums_piece _ _ 6 (by norm_num) (fun d => sum_is hq d _ (by unfold smK; rw [if_neg (by norm_num), if_neg (by norm_num), if_neg (by norm_num), if_pos rfl]) _) _) (All.cons (sums_piece _ _ 5 (by norm_num) (fun d => sum_is hp d _ (by unfold smK; rw [if_neg (by norm_num), if_neg (by norm_num), if_pos rfl]) _) _)
    (All.cons (sums_piece _ _ 4 (by norm_num) (fun d => sum_is hx d _ (by unfold smK; rw [if_neg (by norm_num), if_pos rfl]) _) _) ?_)))
  rotate_left
  · refine All.cons (sums_piece _ _ 3 (by norm_num) (fun d => sum_is (mul_rows hx (he 3 (by norm_num) _)) d _ (by unfold smK; rw [if_pos (by norm_num)]) _) _) (All.cons (sums_piece _ _ 2 (by norm_num) (fun d => sum_is (mul_rows hx (he 2 (by norm_num) _)) d _ (by unfold smK; rw [if_pos (by norm_num)]) _) _)
      (All.cons (sums_piece _ _ 1 (by norm_num) (fun d => sum_is (mul_rows hx (he 1 (by norm_num) _)) d _ (by unfold smK; rw [if_pos (by norm_num)]) _) _) (All.cons (sums_piece _ _ 0 (by norm_num) (fun d => sum_is (mul_rows hx (he 0 (by norm_num) _)) d _ (by unfold smK; rw [if_pos (by norm_num)]) _) _) (All.nil _))))
  · have hs : kernelRun0_A.sl.r_122 (F := Ideal) c arg1 harg1 arg2 harg2 arg3 harg3 arg4 harg4 arg5 harg5 arg6 harg6 arg7 harg7 arg12 arg13 arg14 arg15 arg16 x0 x1 x2 x3 x4 x5 x6 (ix2 0 d) = ((8 * ∑ t : Fin 4096, dlK u y a m γ η d t.val * s d t.val : ℝ) : EReal) := ls_sum hU hS hI hA hM hm hG (fun n d => (row_in arg2 harg2 x1 _ n d n (Nat.zero_add _).symm).trans (h1 n d)) d
    have hl := (row_in arg5 harg5 x4 inb_S8x128_S1x128_3_0 0 d 3 rfl).trans (h4 3 d)
    have e : smK ξ bb η u s y a m γ g g' d 7 = (8 * ∑ t : Fin 4096, dlK u y a m γ η d t.val * s d t.val) * sgR (-bb d 3) := by
      unfold smK
      rw [if_neg (by norm_num), if_neg (by norm_num), if_neg (by norm_num), if_neg (by norm_num)]
    rw [e]
    pointwise [k0_pay3, hl, hs, c_one]
    have ez : (0 : EReal) - (0 - ((bb d 3 : ℝ) : EReal)) = ((bb d 3 : ℝ) : EReal) := by
      rw [zero_sub, zero_sub, neg_neg]
    rw [ez, Ideal.exp_coe]
    have hl' := logistic_real (-bb d 3)
    rw [neg_neg] at hl'
    rw [hl', ← EReal.coe_mul]

omit h0
theorem stored_a : All (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.1 (fun z : S2x64x64.Idx => ((∑ t : Fin 4096, u ⟨64 * (z 0).val + (z 1).val, by have h0 := (z 0).isLt; have h1 := (z 1).isLt; dsimp at h0 h1; omega⟩ t.val * dpK u s y a m γ η (fun d => lsR (bb d 3)) ⟨64 * (z 0).val + (z 2).val, by have h0 := (z 0).isLt; have h1 := (z 2).isLt; dsimp at h0 h1; omega⟩ t.val : ℝ) : EReal)) := by
  have hw : ∀ k d, kernelRun0_A.sl.r_127 (F := Ideal) c arg1 harg1 arg2 harg2 arg3 harg3 arg4 harg4 arg5 harg5 arg6 harg6 arg7 harg7 arg12 arg13 arg14 arg15 arg16 x0 x1 x2 x3 x4 x5 x6 (ix2 k d) = ((∑ t : Fin 4096, u k t.val * dpK u s y a m γ η (fun d => lsR (bb d 3)) d t.val : ℝ) : EReal) := dwa_real hU hS hI hA hM hm hG (fun n d => (row_in arg2 harg2 x1 _ n d n (Nat.zero_add _).symm).trans (h1 n d)) (l_row c arg5 harg5 x4 bb h4)
  refine All.cons (head_piece (fun k d => ∑ t : Fin 4096, u k t.val * dpK u s y a m γ η (fun d => lsR (bb d 3)) d t.val) _ hw 1 (by norm_num) _ _ _) (All.cons (head_piece (fun k d => ∑ t : Fin 4096, u k t.val * dpK u s y a m γ η (fun d => lsR (bb d 3)) d t.val) _ hw 0 (by norm_num) _ _ _) (All.nil _))

include h0 in
theorem sums_out (z : S8x128.Idx) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 z = ((smK ξ bb η u s y a m γ g g' (z 1) (z 0).val : ℝ) : EReal) := by
  unfold out0_A_8
  rw [View.read_writes_junk_eq_canon]
  exact All.canon _ _ (stored_sm c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 ξ bb η u s y a m γ g g' h0 h1 h4 hU hS hI hA hM hm hG h5 h6) z (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 z)

omit h5 h6 in
theorem stored_i : All (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.1 (fun z : S2x64x64.Idx => ((∑ t : Fin 4096, u ⟨64 * (z 0).val + (z 1).val, by have h0 := (z 0).isLt; have h1 := (z 1).isLt; dsimp at h0 h1; omega⟩ t.val * diK u y m γ ⟨64 * (z 0).val + (z 2).val, by have h0 := (z 0).isLt; have h1 := (z 2).isLt; dsimp at h0 h1; omega⟩ t.val : ℝ) : EReal)) := by
  have hw := dwi_real hU hI hM hG
  refine All.cons (head_piece (fun k d => ∑ t : Fin 4096, u k t.val * diK u y m γ d t.val) _ hw 1 (by norm_num) _ _ _) (All.cons (head_piece (fun k d => ∑ t : Fin 4096, u k t.val * diK u y m γ d t.val) _ hw 0 (by norm_num) _ _ _) (All.nil _))

/-- The gradient of the rows that the block read. -/
def duK (d : Fin 128) (t : ℕ) : ℝ :=
  wk d 3 * dxK u s y a m γ η (fun d => lsR (bb d 3)) g g' d t + wk d 0 * late0 (dxK u s y a m γ η (fun d => lsR (bb d 3)) g g' d) (3 + t)
    + wk d 1 * late0 (dxK u s y a m γ η (fun d => lsR (bb d 3)) g g' d) (2 + t) + wk d 2 * late0 (dxK u s y a m γ η (fun d => lsR (bb d 3)) g g' d) (1 + t)

include h3 in
theorem rows_out (z : S4096x128.Idx) : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 z = ((duK wk bb η u s y a m γ g g' (z 1) (z 0).val : ℝ) : EReal) := by
  have hx := x_rows c arg1 harg1 arg2 harg2 arg3 harg3 arg4 harg4 arg5 harg5 arg6 harg6 arg7 harg7 arg12 arg13 arg14 arg15 arg16 x0 x1 x2 x3 x4 x5 x6 bb η u s y a m γ g g' h1 h4 hU hS hI hA hM hm hG h5 h6
  unfold out0_A_7
  rw [View.read_writes_junk_eq_canon]
  idx_vars z
  refine (row_hit (R := 4096) (n := 128) (o := 0) (r := 4096) (Val := Elt Ideal) (e := .bf16) _ _ [] z0 z0 z1 (Nat.zero_add _).symm).trans ?_
  have hl : ∀ o (ho : o ≤ 8) inb, Rows (arg13.view.readCov (Val := Elt Ideal) (e := .f32) (kernelRun0_A.sl.HS1_514 (F := Ideal) c arg1 harg1 arg2 harg2 arg3 harg3 arg4 harg4 arg5 harg5 arg6 harg6 arg7 harg7 arg12 arg13 arg14 arg15 arg16 x0 x1 x2 x3 x4 x5 x6) (Rect.unit (s := S4104x128) ![o, 0] ![4096, 128] inb).toLoadRect) fun d t => late0 (dxK u s y a m γ η (fun d => lsR (bb d 3)) g g' d) (o + t) :=
    fun o ho inb => later arg13.view _ _ _ hx o ho _ _ inb
  have h3' := hl 3 (by norm_num) inb_S4104x128_S4096x128_3_0
  have h2' := hl 2 (by norm_num) inb_S4104x128_S4096x128_2_0
  have h1' := hl 1 (by norm_num) inb_S4104x128_S4096x128_1_0
  have hr : ∀ (r : Fin 8) inb, View.readAt (Elt Ideal) arg4.view (Rect.unit (s := S8x128) ![r.val, 0] ![1, 128] inb).toLoadRect (harg4.unread x3) (ix2 0 z1) = ((wk z1 r.val : ℝ) : EReal) :=
    fun r inb => (row_in arg4 harg4 x3 inb 0 z1 r rfl).trans (h3 r z1)
  have r3 : View.readAt (Elt Ideal) arg4.view (Rect.unit (s := S8x128) ![3, 0] ![1, 128] inb_S8x128_S1x128_3_0).toLoadRect (harg4.unread x3) (ix2 0 z1) = ((wk z1 3 : ℝ) : EReal) := hr 3 inb_S8x128_S1x128_3_0
  have r0 : View.readAt (Elt Ideal) arg4.view (Rect.unit (s := S8x128) ![0, 0] ![1, 128] inb_S8x128_S1x128_0_0).toLoadRect (harg4.unread x3) (ix2 0 z1) = ((wk z1 0 : ℝ) : EReal) := hr 0 inb_S8x128_S1x128_0_0
  have r1 : View.readAt (Elt Ideal) arg4.view (Rect.unit (s := S8x128) ![1, 0] ![1, 128] inb_S8x128_S1x128_1_0).toLoadRect (harg4.unread x3) (ix2 0 z1) = ((wk z1 1 : ℝ) : EReal) := hr 1 inb_S8x128_S1x128_1_0
  have r2 : View.readAt (Elt Ideal) arg4.view (Rect.unit (s := S8x128) ![2, 0] ![1, 128] inb_S8x128_S1x128_2_0).toLoadRect (harg4.unread x3) (ix2 0 z1) = ((wk z1 2 : ℝ) : EReal) := hr 2 inb_S8x128_S1x128_2_0
  have e3 : kernelRun0_A.sl.v4973 (F := Ideal) c arg1 harg1 arg2 harg2 arg3 harg3 arg4 harg4 arg5 harg5 arg6 harg6 arg7 harg7 arg12 arg13 arg14 arg15 arg16 x0 x1 x2 x3 x4 x5 x6 (ix2 z0 z1) = _ := h3' z0 z1
  have e2 : kernelRun0_A.sl.v4979 (F := Ideal) c arg1 harg1 arg2 harg2 arg3 harg3 arg4 harg4 arg5 harg5 arg6 harg6 arg7 harg7 arg12 arg13 arg14 arg15 arg16 x0 x1 x2 x3 x4 x5 x6 (ix2 z0 z1) = _ := h2' z0 z1
  have e1 : kernelRun0_A.sl.v4985 (F := Ideal) c arg1 harg1 arg2 harg2 arg3 harg3 arg4 harg4 arg5 harg5 arg6 harg6 arg7 harg7 arg12 arg13 arg14 arg15 arg16 x0 x1 x2 x3 x4 x5 x6 (ix2 z0 z1) = _ := h1' z0 z1
  simp only [duK, EReal.coe_add, EReal.coe_mul]
  pointwise [k0_pay681, kernelRun0_A.sl.r_128, kernelRun0_A.sl.r_129, k0_pay679, k0_pay680, Rows.at hx, e3, e2, e1, r0, r1, r2, r3]
theorem wa_out (z : S2x64x64.Idx) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 z = ((∑ t : Fin 4096, u ⟨64 * (z 0).val + (z 1).val, by have h0 := (z 0).isLt; have h1 := (z 1).isLt; dsimp at h0 h1; omega⟩ t.val * dpK u s y a m γ η (fun d => lsR (bb d 3)) ⟨64 * (z 0).val + (z 2).val, by have h0 := (z 0).isLt; have h1 := (z 2).isLt; dsimp at h0 h1; omega⟩ t.val : ℝ) : EReal) := by
  unfold out0_A_9
  rw [View.read_writes_junk_eq_canon]
  exact All.canon _ _ (stored_a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 bb η u s y a m γ g g' h1 h4 hU hS hI hA hM hm hG h5 h6) z (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 z)

theorem wi_out (z : S2x64x64.Idx) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 z = ((∑ t : Fin 4096, u ⟨64 * (z 0).val + (z 1).val, by have h0 := (z 0).isLt; have h1 := (z 1).isLt; dsimp at h0 h1; omega⟩ t.val * diK u y m γ ⟨64 * (z 0).val + (z 2).val, by have h0 := (z 0).isLt; have h1 := (z 2).isLt; dsimp at h0 h1; omega⟩ t.val : ℝ) : EReal) := by
  unfold out0_A_10
  rw [View.read_writes_junk_eq_canon]
  exact All.canon _ _ (stored_i c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 _ _ _ _ _ _ _ (h1 := h1) (h4 := h4) (hU := hU) (hS := hS) (hI := hI) (hA := hA) (hM := hM) (hm := hm) (hG := hG)) z (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 z)

end Cert.RnnBwd
-- ==== Proof.RnnBwd.KBlk.lean ====
/- The gates, the states and the gradients at a grid point of the kernel, as those of the point's channels. -/
module

public import proofs.«01_k».proof.Proof.RnnBwd.KHost
public import proofs.«01_k».proof.Proof.RnnBwd.KOut2

@[expose] public section

set_option maxRecDepth 65536

noncomputable section

namespace Cert.RnnBwd

open Idealize.ShloMosaic Idealize.ShloMosaic.TcCoe Idealize.SL.Sem
open Idealize.ShloMosaic.Pipeline (Dat)
open Cert.KernelRnnBwdIdeal Cert.KernelRnnBwdIdeal.Gen Cert.Lift
open Cert.RnnFwd (Rows wH ch pairR colR rowR zR uR fR gR pairs_real uK zK uK_eq zK_eq ref_both ref_xr pH sgR laR lsR)

variable (m : (ℓ : Loc nD τ sig) → Buf (Elt Ideal) ℓ) (c : Dev nD)
variable (r0 : S4096x512.Idx → ℝ) (r1 : S4x512.Idx → ℝ) (r2 : S512.Idx → ℝ) (r3 : S8x64x64.Idx → ℝ) (r4 : S512.Idx → ℝ) (r5 : S8x64x64.Idx → ℝ) (r6 r7 : S512.Idx → ℝ) (r8 : S4096x512.Idx → ℝ)

/-- The arguments are finite and the decay stays away from one. -/
structure Far : Prop where
  h0 : ∀ i, Cert.ReferenceRnnFwdIdeal.Read.val_main_v0 (F := Ideal) (aX m c) i = ((r0 i : ℝ) : EReal)
  h1 : ∀ i, aW m c i = ((r1 i : ℝ) : EReal)
  h2 : ∀ i, aB m c i = ((r2 i : ℝ) : EReal)
  h3 : ∀ i, aU m c i = ((r3 i : ℝ) : EReal)
  h4 : ∀ i, aC m c i = ((r4 i : ℝ) : EReal)
  h5 : ∀ i, aV m c i = ((r5 i : ℝ) : EReal)
  h6 : ∀ i, aD m c i = ((r6 i : ℝ) : EReal)
  h7 : ∀ i, aL m c i = ((r7 i : ℝ) : EReal)
  h8 : ∀ i, aG m c i = ((r8 i : ℝ) : EReal)
  hf : ∀ (n : Fin 4096) j, ((2 * laR (zR (uR r0 r1 r2 n.val) r3 (r4 (ix1 j)) j) (r7 (ix1 j)) : ℝ) : EReal) ≤ Ideal.ofBits .f32 0xBD4CCCCD#32

section blocks
variable (t : Fin cfg0.N) (ht : t.val < 4)

theorem blk_x (h0 : ∀ i, Cert.ReferenceRnnFwdIdeal.Read.val_main_v0 (F := Ideal) (aX m c) i = ((r0 i : ℝ) : EReal)) : Rows (iblk (F := Ideal) m c 0 t) fun d => colR r0 (ch t.val ht d) := by
  intro n d
  have e : Cert.ReferenceRnnFwdIdeal.Read.val_main_v0 (F := Ideal) (aX m c) (ix2 n (ch t.val ht d)) = iblk (F := Ideal) m c 0 t (ix2 n d) := by
    unfold aX ch
    pointwise [Cert.ReferenceRnnFwdIdeal.Read.val_main_v0]
    blk_point [iblk, V, idx t]
  show _ = ((colR r0 (ch t.val ht d) n.val : ℝ) : EReal)
  rw [← e, h0, colR, dif_pos n.isLt]

theorem blk_h (H : Fin 512 → ℕ → ℝ) (h : Rows (V (F := Ideal) m c main_v178) H) : Rows (iblk (F := Ideal) m c 1 t) fun d => H (ch t.val ht d) := by
  intro n d
  have e : iblk (F := Ideal) m c 1 t (ix2 n d) = V (F := Ideal) m c main_v178 (ix2 n (ch t.val ht d)) := by
    blk_simp [iblk]
    exact congrArg _ (by unfold ch; blk_ext [idx t])
  rw [e]
  exact h n _

theorem blk_dh (h8 : ∀ i, aG m c i = ((r8 i : ℝ) : EReal)) (n : Fin 4096) (d : Fin 128) : iblk (F := Ideal) m c 2 t (ix2 n d) = ((colR r8 (ch t.val ht d) n.val : ℝ) : EReal) := by
  have e : iblk (F := Ideal) m c 2 t (ix2 n d) = V (F := Ideal) m c main_v185 (ix2 n (ch t.val ht d)) := by
    blk_simp [iblk]
    exact congrArg _ (by unfold ch; blk_ext [idx t])
  rw [e, V_dh, colR, dif_pos n.isLt, ← h8]
  rfl

theorem blk_w (h1 : ∀ i, aW m c i = ((r1 i : ℝ) : EReal)) : Rows (iblk (F := Ideal) m c 3 t) fun d => colR r1 (ch t.val ht d) := by
  intro k d
  have e : iblk (F := Ideal) m c 3 t (ix2 k d) = V (F := Ideal) m c main_v184 (ix2 k (ch t.val ht d)) := by
    blk_simp [iblk]
    exact congrArg _ (by unfold ch; blk_ext [idx t])
  rw [e, V_taps]
  unfold colR
  pointwise [h1]
  split <;> rfl

theorem blk_v (h2 : ∀ i, aB m c i = ((r2 i : ℝ) : EReal)) (h4 : ∀ i, aC m c i = ((r4 i : ℝ) : EReal)) (h6 : ∀ i, aD m c i = ((r6 i : ℝ) : EReal)) (h7 : ∀ i, aL m c i = ((r7 i : ℝ) : EReal)) :
    Rows (iblk (F := Ideal) m c 4 t) fun d => rowR r2 r4 r6 r7 (ch t.val ht d) := by
  intro k d
  have e : iblk (F := Ideal) m c 4 t (ix2 k d) = V (F := Ideal) m c main_v191 (ix2 k (ch t.val ht d)) := by
    blk_simp [iblk]
    exact congrArg _ (by unfold ch; blk_ext [idx t])
  rw [e, V_rows]
  unfold rowR
  pointwise [h2, h4, h6, h7]
  split_ifs <;> first | rfl | omega

theorem blk_u (h3 : ∀ i, aU m c i = ((r3 i : ℝ) : EReal)) (k d : Fin 128) : iblk (F := Ideal) m c 5 t (ix3 0 k d) = ((pairR r3 t.val ht k d : ℝ) : EReal) := by
  have e : iblk (F := Ideal) m c 5 t (ix3 0 k d) = V (F := Ideal) m c main_v198 (ix3 ⟨t.val, ht⟩ k d) := by
    blk_simp [iblk]
    exact congrArg _ (by blk_ext [idx t])
  rw [e, V_pairs_a]
  exact pairs_real _ r3 h3 _ k d

theorem blk_i (h5 : ∀ i, aV m c i = ((r5 i : ℝ) : EReal)) (k d : Fin 128) : iblk (F := Ideal) m c 6 t (ix3 0 k d) = ((pairR r5 t.val ht k d : ℝ) : EReal) := by
  have e : iblk (F := Ideal) m c 6 t (ix3 0 k d) = V (F := Ideal) m c main_v205 (ix3 ⟨t.val, ht⟩ k d) := by
    blk_simp [iblk]
    exact congrArg _ (by blk_ext [idx t])
  rw [e, V_pairs_i]
  exact pairs_real _ r5 h5 _ k d

end blocks

end Cert.RnnBwd
-- ==== Proof.RnnBwd.RefGrad.lean ====
/- The gradients of the reference's recurrence before the sums: of the decay, of the gates and of the recurrence's input. -/
module

public import proofs.«01_k».proof.Proof.Gen.ReferenceRnnBwdIdeal.Read
public import proofs.«01_k».proof.Proof.RnnBwd.KGrad

@[expose] public section

set_option maxRecDepth 16384

noncomputable section

namespace Cert.RnnBwd

open Idealize.ShloMosaic Idealize.ShloMosaic.TcCoe Idealize.SL.Sem
open Cert.ReferenceRnnBwdIdeal Cert.ReferenceRnnBwdIdeal.Gen Cert.ReferenceRnnBwdIdeal.Read Cert.Lift
open Cert.RnnFwd (Rows c_one c_zero c_two c_eight sqrt_nonneg')

theorem k_half : Ideal.ofBits .f32 0x3F000000#32 = ((1 / 2 : ℝ) : EReal) := by
  simp [Ideal.ofBits, Ideal.ieee, -EReal.coe_mul]; norm_num

/-- The factor of the added term, of the logarithm of a decay. -/
def mR (l : ℝ) : ℝ := Real.sqrt (1 - Real.exp (2 * l))

theorem m_room {l : ℝ} (h : l < 0) : 0 < 1 - Real.exp (2 * l) := by
  have : Real.exp (2 * l) < Real.exp 0 := Real.exp_lt_exp.mpr (by linarith)
  rw [Real.exp_zero] at this
  linarith

theorem mR_ne {l : ℝ} (h : l < 0) : mR l ≠ 0 := (Real.sqrt_pos.mpr (m_room h)).ne'

/-- The product of a row with the transpose of a head's matrix. -/
def tR (x : Fin 512 → ℝ) (w : S8x64x64.Idx → ℝ) (j : Fin 512) : ℝ :=
  ∑ d : Fin 64, x ⟨j.val / 64 * 64 + d.val, by omega⟩ * w (ix3 ⟨j.val / 64, by omega⟩ ⟨j.val % 64, by omega⟩ d)

variable (x0 : Vec Ideal S4096x2048 .f32) (x1 : Vec Ideal S4x512 .f32) (x2 : Vec Ideal S512 .f32) (x3 : Vec Ideal S8x64x64 .f32) (x4 : Vec Ideal S512 .f32)
  (x5 : Vec Ideal S8x64x64 .f32) (x6 x7 : Vec Ideal S512 .f32) (x8 : Vec Ideal S4096x512 .f32)
  (r3 r5 : S8x64x64.Idx → ℝ) (u s y la γ H : Fin 512 → ℕ → ℝ) (ℓ : Fin 512 → ℝ)

/-- The gradients of a channel at a step. -/
def dlF (u y la γ H : Fin 512 → ℕ → ℝ) (d : Fin 512) (t : ℕ) : ℝ := dlR (γ d t) (H d t) (Real.exp (la d t)) (mR (la d t)) (y d t * u d t)
def dpF (u s y la γ H : Fin 512 → ℕ → ℝ) (ℓ : Fin 512 → ℝ) (d : Fin 512) (t : ℕ) : ℝ := dpR (dlF u y la γ H d t) (ℓ d) (s d t)
def diF (u y la γ : Fin 512 → ℕ → ℝ) (d : Fin 512) (t : ℕ) : ℝ := diR (γ d t) (mR (la d t)) (u d t) (y d t)
def dxF (r3 r5 : S8x64x64.Idx → ℝ) (u s y la γ H : Fin 512 → ℕ → ℝ) (ℓ : Fin 512 → ℝ) (d : Fin 512) (t : ℕ) : ℝ :=
  γ d t * mR (la d t) * y d t + tR (fun k => dpF u s y la γ H ℓ k t) r3 d + tR (fun k => diF u y la γ k t) r5 d

section decay
variable (hL : Rows (val_main_v73 (F := Ideal) x0 x1 x2 x3 x4 x7) la) (hn : ∀ d t, la d t < 0)
include hL

theorem back_a : Rows (val_main_v74 (F := Ideal) x0 x1 x2 x3 x4 x7) fun d t => Real.exp (la d t) := fun n j => by
  pointwise [val_main_v74, Rows.at hL]
  rw [Ideal.exp_coe]

theorem back_aa : Rows (val_main_v78 (F := Ideal) x0 x1 x2 x3 x4 x7) fun d t => Real.exp (2 * la d t) := fun n j => by
  pointwise [val_main_v78, val_main_v76, val_main_v75, val_main_cst_9, Rows.at hL]
  rw [c_two, ← EReal.coe_mul, Ideal.exp_coe]

include hn

theorem back_m : Rows (val_main_v80 (F := Ideal) x0 x1 x2 x3 x4 x7) fun d t => mR (la d t) := fun n j => by
  pointwise [val_main_v80, val_main_v79, val_main_v77, val_main_v76, val_main_v75, val_main_cst_9, Rows.at hL]
  rw [c_two, ← EReal.coe_mul, Ideal.exp_coe, one_coe, ← EReal.coe_sub, ← EReal.coe_neg, neg_sub, sqrt_nonneg' (m_room (hn _ _)).le]; rfl

theorem back_p : Rows (val_main_v82 (F := Ideal) x0 x1 x2 x3 x4 x7) fun d t => 1 / 2 / mR (la d t) := fun n j => by
  have hm := mR_ne (hn j n.val)
  pointwise [val_main_v82, val_main_v81, val_main_cst_10, Rows.at (back_m x0 x1 x2 x3 x4 x7 la hL hn)]
  rw [k_half, div_real hm]

end decay

section rows
variable (hU : Rows (val_main_v35 (F := Ideal) x0 x1 x2) u) (hS : Rows (val_main_v48 (F := Ideal) x0 x1 x2 x3 x4) s) (hI : Rows (val_main_v64 (F := Ideal) x0 x1 x2 x5 x6) y)
  (hL : Rows (val_main_v73 (F := Ideal) x0 x1 x2 x3 x4 x7) la) (hn : ∀ d t, la d t < 0) (hl : ∀ j, val_main_v70_0 (F := Ideal) x7 (ix1 j) = ((ℓ j : ℝ) : EReal))
  (hG : Rows (val_main_v725 (F := Ideal) x0 x1 x2 x3 x4 x7 x8) γ) (hD : Rows (val_main_v727 (F := Ideal) x0 x1 x2 x3 x4 x5 x6 x7 x8) fun d t => γ d t * H d t)
  (h3 : ∀ i, x3 i = ((r3 i : ℝ) : EReal)) (h5 : ∀ i, x5 i = ((r5 i : ℝ) : EReal))
include hU hI hL hn hG

theorem back_di : Rows (val_main_v748 (F := Ideal) x0 x1 x2 x3 x4 x5 x6 x7 x8) (diF u y la γ) := fun n j => by
  pointwise [val_main_v748, val_main_v731, val_main_v728, val_main_v67, val_main_v66, val_main_v65, val_main_cst_7, Rows.at hU, Rows.at hI, Rows.at hG, Rows.at (back_m x0 x1 x2 x3 x4 x7 la hL hn)]
  simp only [one_coe, ← EReal.coe_mul, ← EReal.coe_sub]
  refine congrArg _ ?_
  unfold diF diR
  ring

include hD

theorem back_dl : Rows (val_main_v738 (F := Ideal) x0 x1 x2 x3 x4 x5 x6 x7 x8) (dlF u y la γ H) := fun n j => by
  have hm := mR_ne (hn j n.val)
  pointwise [val_main_v738, val_main_v737, val_main_v736, val_main_v735, val_main_v734, val_main_v733, val_main_v732, val_main_v729, val_main_v83, val_main_cst_106, Rows.at hU, Rows.at hI, Rows.at hG, Rows.at hD,
    Rows.at (back_a x0 x1 x2 x3 x4 x7 la hL), Rows.at (back_aa x0 x1 x2 x3 x4 x7 la hL), Rows.at (back_p x0 x1 x2 x3 x4 x7 la hL hn)]
  simp only [c_two, ← EReal.coe_mul, ← EReal.coe_neg, ← EReal.coe_add]
  refine congrArg _ ?_
  unfold dlF dlR
  rw [show Real.exp (2 * la j n.val) = Real.exp (la j n.val) * Real.exp (la j n.val) by rw [← Real.exp_add, two_mul]]
  field_simp
  ring

include hS hl

theorem back_dp : Rows (val_main_v760 (F := Ideal) x0 x1 x2 x3 x4 x5 x6 x7 x8) (dpF u s y la γ H ℓ) := fun n j => by
  pointwise [val_main_v760, val_main_v747, val_main_v746, val_main_v743, val_main_v742, val_main_v71, val_main_v51, val_main_v50, val_main_v49, val_main_cst_4, val_main_cst_109, hl, Rows.at hS,
    Rows.at (back_dl x0 x1 x2 x3 x4 x5 x6 x7 x8 u y la γ H hU hI hL hn hG hD)]
  simp only [c_eight, one_coe, ← EReal.coe_mul, ← EReal.coe_sub]
  refine congrArg _ ?_
  unfold dpF dpR
  ring

include h3

theorem back_tp : Rows (val_main_v770 (F := Ideal) x0 x1 x2 x3 x4 x5 x6 x7 x8) fun d t => tR (fun k => dpF u s y la γ H ℓ k t) r3 d := fun n j => by
  dsimp only
  unfold tR
  rw [← sum_coe]
  pointwise [val_main_v770, val_main_v767, val_main_v766, val_main_v765, val_main_v764, h3, EReal.coe_mul, Rows.at (back_dp x0 x1 x2 x3 x4 x5 x6 x7 x8 u s y la γ H ℓ hU hS hI hL hn hl hG hD)]

omit hS hl h3 hD
include h5

theorem back_ti : Rows (val_main_v758 (F := Ideal) x0 x1 x2 x3 x4 x5 x6 x7 x8) fun d t => tR (fun k => diF u y la γ k t) r5 d := fun n j => by
  dsimp only
  unfold tR
  rw [← sum_coe]
  pointwise [val_main_v758, val_main_v755, val_main_v754, val_main_v753, val_main_v752, h5, EReal.coe_mul, Rows.at (back_di x0 x1 x2 x3 x4 x5 x6 x7 x8 u y la γ hU hI hL hn hG)]

include hS hl h3 hD

theorem back_dx : Rows (val_main_v771 (F := Ideal) x0 x1 x2 x3 x4 x5 x6 x7 x8) (dxF r3 r5 u s y la γ H ℓ) := fun n j => by
  pointwise [val_main_v771, val_main_v759, val_main_v730, val_main_v728, Rows.at hI, Rows.at hG, Rows.at (back_m x0 x1 x2 x3 x4 x7 la hL hn),
    Rows.at (back_tp x0 x1 x2 x3 x4 x5 x6 x7 x8 r3 u s y la γ H ℓ hU hS hI hL hn hl hG hD h3), Rows.at (back_ti x0 x1 x2 x3 x4 x5 x6 x7 x8 r5 u y la γ hU hI hL hn hG h5)]
  simp only [← EReal.coe_mul, ← EReal.coe_add]
  refine congrArg _ ?_
  unfold dxF
  ring

end rows

end Cert.RnnBwd
-- ==== Proof.RnnBwd.RefOut.lean ====
/- The four results of the reference's derivative, as sums over the steps. -/
module

public import proofs.«01_k».proof.Proof.RnnBwd.RefGrad
public import proofs.«01_k».proof.Proof.RnnBwd.KOut2

@[expose] public section

set_option maxRecDepth 16384

noncomputable section

namespace Cert.RnnBwd

open Idealize.ShloMosaic Idealize.ShloMosaic.TcCoe Idealize.SL.Sem
open Cert.ReferenceRnnBwdIdeal Cert.ReferenceRnnBwdIdeal.Gen Cert.ReferenceRnnBwdIdeal.Read Cert.Lift
open Cert.RnnFwd (Rows c_one c_zero c_two c_eight late3)

theorem pad_late (f : ℕ → ℝ) (lo t : ℕ) : (if lo ≤ t ∧ (t - lo) % (0 + 1) = 0 ∧ (t - lo) / (0 + 1) < 4096 then f ((t - lo) / (0 + 1)) else 0) = if lo ≤ t then late0 f (t - lo) else 0 := by
  simp only [Nat.zero_add, Nat.mod_one, Nat.div_one, true_and, late0, ite_and]

theorem late_mul (w : ℝ) (f : ℕ → ℝ) (t : ℕ) : late0 (fun n => w * f n) t = w * late0 f t := by
  unfold late0
  split <;> simp

variable (x0 : Vec Ideal S4096x2048 .f32) (x1 : Vec Ideal S4x512 .f32) (x2 : Vec Ideal S512 .f32) (x3 : Vec Ideal S8x64x64 .f32) (x4 : Vec Ideal S512 .f32)
  (x5 : Vec Ideal S8x64x64 .f32) (x6 x7 : Vec Ideal S512 .f32) (x8 : Vec Ideal S4096x512 .f32)
  (r1 : S4x512.Idx → ℝ) (ξ X P Q D u s : Fin 512 → ℕ → ℝ) (q : Fin 512 → ℝ)
  (h1 : ∀ i, x1 i = ((r1 i : ℝ) : EReal)) (hE : Rows (val_main_v2 (F := Ideal) x0) ξ) (hX : Rows (val_main_v771 (F := Ideal) x0 x1 x2 x3 x4 x5 x6 x7 x8) X)
  (hP : Rows (val_main_v760 (F := Ideal) x0 x1 x2 x3 x4 x5 x6 x7 x8) P) (hQ : Rows (val_main_v748 (F := Ideal) x0 x1 x2 x3 x4 x5 x6 x7 x8) Q)
  (hD : Rows (val_main_v738 (F := Ideal) x0 x1 x2 x3 x4 x5 x6 x7 x8) D) (hU : Rows (val_main_v35 (F := Ideal) x0 x1 x2) u) (hS : Rows (val_main_v48 (F := Ideal) x0 x1 x2 x3 x4) s)
  (hq : ∀ j, val_main_v70_1 (F := Ideal) x7 (ix1 j) = ((q j : ℝ) : EReal))

include hQ hU in
theorem ref_wi (z : S8x64x64.Idx) : val_main_v757 (F := Ideal) x0 x1 x2 x3 x4 x5 x6 x7 x8 z
    = ((∑ t : Fin 4096, u ⟨64 * (z 0).val + (z 1).val, by have h0 := (z 0).isLt; have h1 := (z 1).isLt; dsimp at h0 h1; omega⟩ t.val * Q ⟨64 * (z 0).val + (z 2).val, by have h0 := (z 0).isLt; have h1 := (z 2).isLt; dsimp at h0 h1; omega⟩ t.val : ℝ) : EReal) := by
  rw [← sum_coe]
  idx_vars z
  pointwise [val_main_v757, val_main_v756, val_main_v753, val_main_v752, val_main_v52, EReal.coe_mul, Rows.at hQ, Rows.at hU]
  exact Finset.sum_congr rfl fun t _ => by rw [mul_comm]; congr 4 <;> omega

include hP hU in
theorem ref_wa (z : S8x64x64.Idx) : val_main_v769 (F := Ideal) x0 x1 x2 x3 x4 x5 x6 x7 x8 z
    = ((∑ t : Fin 4096, u ⟨64 * (z 0).val + (z 1).val, by have h0 := (z 0).isLt; have h1 := (z 1).isLt; dsimp at h0 h1; omega⟩ t.val * P ⟨64 * (z 0).val + (z 2).val, by have h0 := (z 0).isLt; have h1 := (z 2).isLt; dsimp at h0 h1; omega⟩ t.val : ℝ) : EReal) := by
  rw [← sum_coe]
  idx_vars z
  pointwise [val_main_v769, val_main_v768, val_main_v765, val_main_v764, val_main_v36, EReal.coe_mul, Rows.at hP, Rows.at hU]
  exact Finset.sum_congr rfl fun t _ => by rw [mul_comm]; congr 4 <;> omega

theorem zero_at (z : S_.Idx) : constant (F := Ideal) S_ .f32 0x00000000#32 z = 0 := by pointwise

section late
include h1 hX

theorem tap3 : Rows (val_main_v776 (F := Ideal) x0 x1 x2 x3 x4 x5 x6 x7 x8) fun d t => r1 (ix2 3 d) * X d t := fun n j => by
  dsimp only
  pointwise [val_main_v776, val_main_v775, val_main_v29, val_main_v27, val_main_v26, h1, EReal.coe_mul, Rows.at hX]

theorem tap2 : Rows (val_main_v785 (F := Ideal) x0 x1 x2 x3 x4 x5 x6 x7 x8) fun d t => r1 (ix2 2 d) * X d t := fun n j => by
  dsimp only
  pointwise [val_main_v785, val_main_v784, val_main_v22, val_main_v20, val_main_v19, h1, EReal.coe_mul, Rows.at hX]

theorem tap1 : Rows (val_main_v796 (F := Ideal) x0 x1 x2 x3 x4 x5 x6 x7 x8) fun d t => r1 (ix2 1 d) * X d t := fun n j => by
  dsimp only
  pointwise [val_main_v796, val_main_v795, val_main_v15, val_main_v13, val_main_v12, h1, EReal.coe_mul, Rows.at hX]

theorem tap0 : Rows (val_main_v807 (F := Ideal) x0 x1 x2 x3 x4 x5 x6 x7 x8) fun d t => r1 (ix2 0 d) * X d t := fun n j => by
  dsimp only
  pointwise [val_main_v807, val_main_v806, val_main_v7, val_main_v5, val_main_v4, h1, EReal.coe_mul, Rows.at hX]

theorem ref_u (n : Fin 4096) (d : Fin 512) : val_main_v819 (F := Ideal) x0 x1 x2 x3 x4 x5 x6 x7 x8 (ix2 n d)
    = ((r1 (ix2 3 d) * X d n.val + r1 (ix2 0 d) * late0 (X d) (3 + n.val) + r1 (ix2 1 d) * late0 (X d) (2 + n.val) + r1 (ix2 2 d) * late0 (X d) (1 + n.val) : ℝ) : EReal) := by
  have hn := n.isLt
  have e : val_main_v819 (F := Ideal) x0 x1 x2 x3 x4 x5 x6 x7 x8 (ix2 n d) = val_main_v813 (F := Ideal) x0 x1 x2 x3 x4 x5 x6 x7 x8 (ix2 ⟨3 + n.val, by omega⟩ d) := by
    pointwise [val_main_v819, val_main_v818]
  have ht : Rows (val_main_v813 (F := Ideal) x0 x1 x2 x3 x4 x5 x6 x7 x8) _ :=
    add_rows (add_rows (add_rows (padded _ _ (tap3 x0 x1 x2 x3 x4 x5 x6 x7 x8 r1 X h1 hX) (val_main_cst_118 (F := Ideal)) h_S_ zero_at _) (padded _ _ (tap2 x0 x1 x2 x3 x4 x5 x6 x7 x8 r1 X h1 hX) (val_main_cst_122 (F := Ideal)) h_S_ zero_at _))
      (padded _ _ (tap1 x0 x1 x2 x3 x4 x5 x6 x7 x8 r1 X h1 hX) (val_main_cst_126 (F := Ideal)) h_S_ zero_at _)) (padded _ _ (tap0 x0 x1 x2 x3 x4 x5 x6 x7 x8 r1 X h1 hX) (val_main_cst_130 (F := Ideal)) h_S_ zero_at _)
  rw [e, ht]
  refine congrArg _ ?_
  dsimp only
  rw [pad_late (fun n => r1 (ix2 3 d) * X d n), pad_late (fun n => r1 (ix2 2 d) * X d n), pad_late (fun n => r1 (ix2 1 d) * X d n), pad_late (fun n => r1 (ix2 0 d) * X d n),
    if_pos (by omega), if_pos (by omega), if_pos (by omega), if_pos (by omega), late_mul, late_mul, late_mul, late_mul, show 3 + n.val - 3 = n.val by omega, show 3 + n.val - 2 = 1 + n.val by omega,
    show 3 + n.val - 1 = 2 + n.val by omega, show 3 + n.val - 0 = 3 + n.val by omega, show late0 (X d) n.val = X d n.val from if_pos hn]
  ring

end late

/-- The sums over the steps, by row. -/
def smF (ξ X P Q D s : Fin 512 → ℕ → ℝ) (q : Fin 512 → ℝ) (d : Fin 512) (r : ℕ) : ℝ :=
  if r < 4 then ∑ t : Fin 4096, X d t.val * ξ d (r + t.val)
  else if r = 4 then ∑ t : Fin 4096, X d t.val
  else if r = 5 then ∑ t : Fin 4096, P d t.val
  else if r = 6 then ∑ t : Fin 4096, Q d t.val
  else (8 * ∑ t : Fin 4096, D d t.val * s d t.val) * q d

section sums
include hX

theorem sum_x (j : Fin 512) : val_main_v774 (F := Ideal) x0 x1 x2 x3 x4 x5 x6 x7 x8 (ix1 j) = ((∑ t : Fin 4096, X j t.val : ℝ) : EReal) := by
  rw [← sum_coe]
  pointwise [val_main_v774, val_main_v773, val_main_v772, val_main_cst_114, val_main_cst_115, Rows.at hX]
  exact Fin.sum_univ_one _

include hE

theorem sum_3 : Rows (val_main_v782 (F := Ideal) x0 x1 x2 x3 x4 x5 x6 x7 x8) fun d _ => ∑ t : Fin 4096, X d t.val * ξ d (3 + t.val) := fun n j => by
  dsimp only
  rw [← sum_coe]
  pointwise [val_main_v782, val_main_v780, val_main_v779, val_main_v778, val_main_v777, val_main_v28, val_main_cst_116, val_main_cst_117, EReal.coe_mul, Rows.at hE, Rows.at hX]
  exact Fin.sum_univ_one _

theorem sum_2 : Rows (val_main_v792 (F := Ideal) x0 x1 x2 x3 x4 x5 x6 x7 x8) fun d _ => ∑ t : Fin 4096, X d t.val * ξ d (2 + t.val) := fun n j => by
  dsimp only
  rw [← sum_coe]
  pointwise [val_main_v792, val_main_v789, val_main_v788, val_main_v787, val_main_v786, val_main_v21, val_main_cst_120, val_main_cst_121, EReal.coe_mul, Rows.at hE, Rows.at hX]
  exact Fin.sum_univ_one _

theorem sum_1 : Rows (val_main_v803 (F := Ideal) x0 x1 x2 x3 x4 x5 x6 x7 x8) fun d _ => ∑ t : Fin 4096, X d t.val * ξ d (1 + t.val) := fun n j => by
  dsimp only
  rw [← sum_coe]
  pointwise [val_main_v803, val_main_v800, val_main_v799, val_main_v798, val_main_v797, val_main_v14, val_main_cst_124, val_main_cst_125, EReal.coe_mul, Rows.at hE, Rows.at hX]
  exact Fin.sum_univ_one _

theorem sum_0 : Rows (val_main_v814 (F := Ideal) x0 x1 x2 x3 x4 x5 x6 x7 x8) fun d _ => ∑ t : Fin 4096, X d t.val * ξ d t.val := fun n j => by
  dsimp only
  rw [← sum_coe]
  pointwise [val_main_v814, val_main_v811, val_main_v810, val_main_v809, val_main_v808, val_main_v6, val_main_cst_128, val_main_cst_129, EReal.coe_mul, Rows.at hE, Rows.at hX]
  exact Fin.sum_univ_one _

omit hE hX
include hP in
theorem sum_p (j : Fin 512) : val_main_v763 (F := Ideal) x0 x1 x2 x3 x4 x5 x6 x7 x8 (ix1 j) = ((∑ t : Fin 4096, P j t.val : ℝ) : EReal) := by
  rw [← sum_coe]
  pointwise [val_main_v763, val_main_v762, val_main_v761, val_main_cst_112, val_main_cst_113, Rows.at hP]
  exact Fin.sum_univ_one _

include hQ in
theorem sum_q (j : Fin 512) : val_main_v751 (F := Ideal) x0 x1 x2 x3 x4 x5 x6 x7 x8 (ix1 j) = ((∑ t : Fin 4096, Q j t.val : ℝ) : EReal) := by
  rw [← sum_coe]
  pointwise [val_main_v751, val_main_v750, val_main_v749, val_main_cst_110, val_main_cst_111, Rows.at hQ]
  exact Fin.sum_univ_one _

include hD hS in
theorem sum_l (j : Fin 512) : val_main_v740 (F := Ideal) x0 x1 x2 x3 x4 x5 x6 x7 x8 (ix1 j) = ((∑ t : Fin 4096, 8 * s j t.val * D j t.val : ℝ) : EReal) := by
  rw [← sum_coe]
  pointwise [val_main_v740, val_main_v739, val_main_v69, val_main_v68, val_main_cst_8, val_main_cst_107, c_eight, EReal.coe_mul, Rows.at hS, Rows.at hD]

include hD hS in
theorem sum_m (j : Fin 512) : val_main_v744 (F := Ideal) x0 x1 x2 x3 x4 x5 x6 x7 x8 (ix1 j) = ((∑ t : Fin 4096, 8 * s j t.val * D j t.val : ℝ) : EReal) := by
  pointwise [val_main_v744, val_main_v741, val_main_cst_108, sum_l x0 x1 x2 x3 x4 x5 x6 x7 x8 D s hD hS]
  exact Fin.sum_univ_one _

include hD hS hq in
theorem sum_d (j : Fin 512) : val_main_v745 (F := Ideal) x0 x1 x2 x3 x4 x5 x6 x7 x8 (ix1 j) = (((8 * ∑ t : Fin 4096, D j t.val * s j t.val) * q j : ℝ) : EReal) := by
  pointwise [val_main_v745, val_main_call1_v1, val_main_call1_v0, hq, sum_m x0 x1 x2 x3 x4 x5 x6 x7 x8 D s hD hS]
  rw [← EReal.coe_neg, ← EReal.coe_mul, ← EReal.coe_neg]
  refine congrArg _ ?_
  rw [Finset.mul_sum, neg_mul, neg_neg]
  exact congrArg (· * q j) (Finset.sum_congr rfl fun t _ => by ring)

include hE hX hP hQ hD hS hq
theorem ref_sums (r : Fin 8) (d : Fin 512) : val_main_v825 (F := Ideal) x0 x1 x2 x3 x4 x5 x6 x7 x8 (ix2 r d) = ((smF ξ X P Q D s q d r.val : ℝ) : EReal) := by
  have h4 : Rows (val_main_v816 (F := Ideal) x0 x1 x2 x3 x4 x5 x6 x7 x8) _ :=
    add_rows (add_rows (add_rows (padded _ _ (sum_3 x0 x1 x2 x3 x4 x5 x6 x7 x8 ξ X hE hX) (val_main_cst_119 (F := Ideal)) h_S_ zero_at _) (padded _ _ (sum_2 x0 x1 x2 x3 x4 x5 x6 x7 x8 ξ X hE hX) (val_main_cst_123 (F := Ideal)) h_S_ zero_at _))
      (padded _ _ (sum_1 x0 x1 x2 x3 x4 x5 x6 x7 x8 ξ X hE hX) (val_main_cst_127 (F := Ideal)) h_S_ zero_at _)) (padded _ _ (sum_0 x0 x1 x2 x3 x4 x5 x6 x7 x8 ξ X hE hX) (val_main_cst_131 (F := Ideal)) h_S_ zero_at _)
  unfold smF
  pointwise [val_main_v825, val_main_v824, val_main_v823, val_main_v822, val_main_v821, val_main_v820, sum_x x0 x1 x2 x3 x4 x5 x6 x7 x8 X hX, sum_p x0 x1 x2 x3 x4 x5 x6 x7 x8 P hP, sum_q x0 x1 x2 x3 x4 x5 x6 x7 x8 Q hQ,
    sum_d x0 x1 x2 x3 x4 x5 x6 x7 x8 D s q hD hS hq, Rows.at h4]
  fin_cases r <;> simp

end sums

end Cert.RnnBwd
-- ==== Proof.RnnBwd.RefGate.lean ====
/- The gates of the reference's recurrence and their derivatives, read at an index over finite arguments. -/
module

public import proofs.«01_k».proof.Proof.Gen.ReferenceRnnBwdIdeal.Read
public import proofs.«01_k».proof.Proof.RnnFwd.RefGate

@[expose] public section

set_option maxRecDepth 16384

noncomputable section

namespace Cert.RnnBwd

open Idealize.ShloMosaic Idealize.ShloMosaic.TcCoe Idealize.SL.Sem
open Cert.ReferenceRnnBwdIdeal Cert.ReferenceRnnBwdIdeal.Gen Cert.ReferenceRnnBwdIdeal.Read Cert.Lift
open Cert.RnnFwd (colR xrR zR sgR lsR laR late3 c_one c_zero c_two c_eight one_add_exp logistic_real log_pos' coe_max' abs_real sgR_pos)

variable (x0 : Vec Ideal S4096x2048 .f32) (x1 : Vec Ideal S4x512 .f32) (x2 : Vec Ideal S512 .f32) (x3 : Vec Ideal S8x64x64 .f32) (x4 : Vec Ideal S512 .f32)
  (x5 : Vec Ideal S8x64x64 .f32) (x6 x7 : Vec Ideal S512 .f32)
  (r0 : S4096x512.Idx → ℝ) (r1 : S4x512.Idx → ℝ) (r2 : S512.Idx → ℝ) (r3 : S8x64x64.Idx → ℝ) (r4 : S512.Idx → ℝ) (r5 : S8x64x64.Idx → ℝ) (r6 r7 : S512.Idx → ℝ)

theorem same_x : val_main_v35 (F := Ideal) x0 x1 x2 = Cert.ReferenceRnnFwdIdeal.Read.val_main_v34 (F := Ideal) x0 x1 x2 := rfl
theorem same_za : val_main_v42 (F := Ideal) x0 x1 x2 x3 x4 = Cert.ReferenceRnnFwdIdeal.Read.val_main_v41 (F := Ideal) x0 x1 x2 x3 x4 := rfl
theorem same_zi : val_main_v58 (F := Ideal) x0 x1 x2 x5 x6 = Cert.ReferenceRnnFwdIdeal.Read.val_main_v54 (F := Ideal) x0 x1 x2 x5 x6 := rfl

section gates
variable (u : Fin 4096 → Fin 512 → ℝ) (hu : ∀ n j, val_main_v35 (F := Ideal) x0 x1 x2 (ix2 n j) = ((u n j : ℝ) : EReal))
include hu

theorem back_r (h3 : ∀ i, x3 i = ((r3 i : ℝ) : EReal)) (h4 : ∀ i, x4 i = ((r4 i : ℝ) : EReal)) (n : Fin 4096) (j : Fin 512) :
    val_main_v48 (F := Ideal) x0 x1 x2 x3 x4 (ix2 n j) = ((sgR (zR (u n) r3 (r4 (ix1 j)) j) : ℝ) : EReal) := by
  have hz : val_main_v42 (F := Ideal) x0 x1 x2 x3 x4 (ix2 n j) = _ := (congrFun (same_za x0 x1 x2 x3 x4) _).trans (Cert.RnnFwd.ref_za x0 x1 x2 x3 x4 r3 r4 u hu h3 h4 n j)
  pointwise [val_main_v48, val_main_v47, val_main_v46, val_main_v45, val_main_v44, val_main_v43, hz, val_main_cst_2, val_main_cst_3]
  rw [← EReal.coe_neg, Ideal.exp_coe, one_coe, logistic_real]

theorem back_i (h5 : ∀ i, x5 i = ((r5 i : ℝ) : EReal)) (h6 : ∀ i, x6 i = ((r6 i : ℝ) : EReal)) (n : Fin 4096) (j : Fin 512) :
    val_main_v64 (F := Ideal) x0 x1 x2 x5 x6 (ix2 n j) = ((sgR (zR (u n) r5 (r6 (ix1 j)) j) : ℝ) : EReal) := by
  have hz : val_main_v58 (F := Ideal) x0 x1 x2 x5 x6 (ix2 n j) = _ := (congrFun (same_zi x0 x1 x2 x5 x6) _).trans (Cert.RnnFwd.ref_zi x0 x1 x2 x5 x6 r5 r6 u hu h5 h6 n j)
  pointwise [val_main_v64, val_main_v63, val_main_v62, val_main_v61, val_main_v60, val_main_v59, hz, val_main_cst_5, val_main_cst_6]
  rw [← EReal.coe_neg, Ideal.exp_coe, one_coe, logistic_real]

end gates

theorem back_sp (h7 : ∀ i, x7 i = ((r7 i : ℝ) : EReal)) (j : Fin 512) : val_main_call0_v1_0 (F := Ideal) x7 (ix1 j) = ((-lsR (r7 (ix1 j)) : ℝ) : EReal) := by
  pointwise [val_main_call0_v1_0, val_main_call0_v0, val_main_call0_call0_v0, val_main_call0_call0_v1, val_main_call0_call0_v2, val_main_call0_call0_v3, val_main_call0_call0_v4,
    val_main_call0_call0_v5, val_main_call0_call0_v6, val_main_call0_call0_v7, val_main_call0_call0_v8, val_main_call0_call0_v9, val_main_call0_call0_v10, val_main_call0_call0_v11, val_main_call0_call0_cst, h7]
  rw [if_neg (not_not.mpr rfl), ← EReal.coe_neg, abs_real, abs_neg, ← EReal.coe_neg, Ideal.exp_coe, Ideal.log1p, one_coe, ← EReal.coe_add, log_pos' (one_add_exp _), zero_coe, coe_max',
    ← EReal.coe_add, lsR]
  refine congrArg _ ?_
  rcases le_total (r7 (ix1 j)) 0 with h | h
  · rw [max_eq_left (by linarith), min_eq_left h]; ring
  · rw [max_eq_right (by linarith), min_eq_right h]; ring

theorem back_ls (h7 : ∀ i, x7 i = ((r7 i : ℝ) : EReal)) (j : Fin 512) : val_main_v70_0 (F := Ideal) x7 (ix1 j) = ((lsR (r7 (ix1 j)) : ℝ) : EReal) := by
  pointwise [val_main_v70_0, back_sp x7 r7 h7]
  rw [← EReal.coe_neg, neg_neg]

theorem exp_ls (l : ℝ) : Real.exp (-l - -lsR l) = sgR (-l) := by
  have e1 : 0 < 1 + Real.exp (-|l|) := one_add_exp _
  unfold lsR sgR
  rw [neg_neg]
  rcases le_total l 0 with h | h
  · rw [min_eq_left h, abs_of_nonpos h, neg_neg, show -l - -(l - Real.log (1 + Real.exp l)) = -Real.log (1 + Real.exp l) by ring, Real.exp_neg, Real.exp_log (one_add_exp _), one_div]
  · rw [min_eq_right h, abs_of_nonneg h, show -l - -(0 - Real.log (1 + Real.exp (-l))) = -(l + Real.log (1 + Real.exp (-l))) by ring, Real.exp_neg, Real.exp_add, Real.exp_log (one_add_exp _), mul_add, ← Real.exp_add, add_neg_cancel, Real.exp_zero, mul_one, add_comm, one_div]

theorem back_dls (h7 : ∀ i, x7 i = ((r7 i : ℝ) : EReal)) (j : Fin 512) : val_main_v70_1 (F := Ideal) x7 (ix1 j) = ((sgR (-r7 (ix1 j)) : ℝ) : EReal) := by
  have ht : Ideal.ofBits .f32 0x7F800000#32 = ⊤ := by simp [Ideal.ofBits, Ideal.ieee]
  have e : val_main_v70_1 (F := Ideal) x7 (ix1 j) = Ideal.exp (((-r7 (ix1 j) : ℝ) : EReal) - ((-lsR (r7 (ix1 j)) : ℝ) : EReal)) := by
    pointwise [val_main_v70_1, val_main_call0_v0, val_main_call0_call0_v13, val_main_call0_call0_v14, val_main_call0_call0_v15, val_main_call0_call0_v16, val_main_call0_call0_v17, val_main_call0_call0_v18, val_main_call0_call0_v19, val_main_call0_call0_v20, val_main_call0_call0_v21,
      val_main_call0_call0_cst_0, val_main_call0_call0_cst_1, val_main_call0_call0_cst_2, val_main_call0_call0_cst_3, back_sp x7 r7 h7, h7, ht]
    rw [← EReal.coe_neg, if_neg (EReal.coe_ne_top _), if_neg (EReal.coe_ne_top _)]
  rw [e, ← EReal.coe_sub, Ideal.exp_coe, exp_ls]

end Cert.RnnBwd
-- ==== Proof.RnnBwd.RefBack.lean ====
/- The derivatives of the reference's scan, from its factors, its summands and what each state is weighed with. -/
module

public import proofs.«01_k».proof.Proof.Gen.ReferenceRnnBwdIdeal.Read
public import proofs.«01_k».proof.Proof.RnnBwd.Back

@[expose] public section

set_option maxRecDepth 16384

noncomputable section

namespace Cert.RnnBwd

open Idealize.ShloMosaic Idealize.ShloMosaic.TcCoe Idealize.SL.Sem
open Cert.ReferenceRnnBwdIdeal Cert.ReferenceRnnBwdIdeal.Gen Cert.ReferenceRnnBwdIdeal.Read Cert.Lift Cert.RnnFwd

section weave
variable {L n k C : ℕ} {f g : Fin C → ℕ → ℝ} {j : ℕ}

/-- The even and the odd steps interleaved by a pair of steps in one row. -/
theorem woven' (o q : FVec Ideal ⟨2, ![n, C]⟩ .f32) (f : Fin C → ℕ → ℝ) (hq : Rows q fun c t => f c (2 * t)) (ho : Rows o fun c t => f c (2 * t + 1)) (hL : n + n = L) (h1 h2 hc h3) :
    Rows (shapeCast ⟨2, ![L, C]⟩ (concatenate ⟨3, ![n, 2, C]⟩ 1 [⟨⟨3, ![n, 1, C]⟩, broadcastInDim ⟨3, ![n, 1, C]⟩ ![0, 2] h1 q⟩, ⟨⟨3, ![n, 1, C]⟩, broadcastInDim ⟨3, ![n, 1, C]⟩ ![0, 2] h2 o⟩] hc) h3) f := by
  intro i c
  have hi := i.isLt
  have hp : i.val % 2 < 2 := Nat.mod_lt _ (by norm_num)
  refine (shapeCast_apply _ h3 _ (ix3 ⟨i.val / 2, by omega⟩ ⟨i.val % 2, hp⟩ c) ?_).trans ?_
  · rw [Shape.rowMajor_val_three, Shape.rowMajor_val_two]
    show (i.val / 2 * 2 + i.val % 2) * C + c.val = i.val * C + c.val
    rw [show i.val / 2 * 2 + i.val % 2 = i.val by omega]
  · have hb : ∀ (p : FVec Ideal ⟨2, ![n, C]⟩ .f32) (hh : _), broadcastInDim ⟨3, ![n, 1, C]⟩ ![0, 2] hh p (ix3 ⟨i.val / 2, by omega⟩ 0 c) = p (ix2 ⟨i.val / 2, by omega⟩ c) := by
      intro p hh
      refine broadcastInDim_apply _ hh p _ _ (Fin.forall_fin_two.mpr ⟨?_, ?_⟩)
      · show i.val / 2 = if n = 1 then 0 else i.val / 2
        split <;> omega
      · show c.val = if C = 1 then 0 else c.val
        split <;> omega
    by_cases h : i.val % 2 = 0
    · refine (concatenate_pair_apply_left (s₁ := ⟨3, ![n, 1, C]⟩) (s₂ := ⟨3, ![n, 1, C]⟩) (t := ⟨3, ![n, 2, C]⟩) 1 _ _ hc _ rfl (ix3 ⟨i.val / 2, by omega⟩ 0 c) (fun a => ?_)).trans ?_
      · match a with
        | ⟨0, _⟩ => rfl
        | ⟨1, _⟩ => exact h.symm
        | ⟨2, _⟩ => rfl
      · rw [hb, hq]
        show ((f c (2 * (i.val / 2)) : ℝ) : EReal) = _
        rw [show 2 * (i.val / 2) = i.val by omega]
    · refine (concatenate_pair_apply_right (s₁ := ⟨3, ![n, 1, C]⟩) (s₂ := ⟨3, ![n, 1, C]⟩) (t := ⟨3, ![n, 2, C]⟩) 1 _ _ hc _ rfl rfl (ix3 ⟨i.val / 2, by omega⟩ 0 c) (fun a ha => ?_) ?_).trans ?_
      · match a, ha with
        | ⟨0, _⟩, _ => rfl
        | ⟨1, _⟩, ha => exact absurd rfl ha
        | ⟨2, _⟩, _ => rfl
      · show 0 + 1 = i.val % 2
        omega
      · rw [hb, ho]
        show ((f c (2 * (i.val / 2) + 1) : ℝ) : EReal) = _
        rw [show 2 * (i.val / 2) + 1 = i.val by omega]

theorem up' {v w : FVec Ideal ⟨2, ![L, C]⟩ .f32} (h : Both v w f g j) {o : FVec Ideal ⟨2, ![n, C]⟩ .f32} (ho : States o f g (j + 1)) (hn : k + 1 = n) (hL : n + n = L) (h1 h2 h3 h4 hc h5 h6 hd h7) :
    States (shapeCast ⟨2, ![L, C]⟩ (concatenate ⟨3, ![n, 2, C]⟩ 1 [⟨⟨3, ![n, 1, C]⟩, broadcastInDim ⟨3, ![n, 1, C]⟩ ![0, 2] h5
      (concatenate ⟨2, ![n, C]⟩ 0 [⟨⟨2, ![1, C]⟩, extractStridedSlice ⟨2, ![1, C]⟩ ![0, 0] w h1⟩,
        ⟨⟨2, ![k, C]⟩, addf (mulf (Host.slice ⟨2, ![k, C]⟩ ![2, 0] ![2, 1] v h2) (extractStridedSlice ⟨2, ![k, C]⟩ ![0, 0] o h3)) (Host.slice ⟨2, ![k, C]⟩ ![2, 0] ![2, 1] w h4)⟩] hc)⟩,
        ⟨⟨3, ![n, 1, C]⟩, broadcastInDim ⟨3, ![n, 1, C]⟩ ![0, 2] h6 o⟩] hd) h7) f g j := by
  have ho' : Rows o fun c t => pH (lvl (f c) (g c) j).1 (lvl (f c) (g c) j).2 0 (2 * (t + 1)) := fun i c =>
    (ho i c).trans (congrArg _ (pairs _ _ (i.val + 1)))
  exact woven' (L := L) o _ (fun c t => pH (lvl (f c) (g c) j).1 (lvl (f c) (g c) j).2 0 (t + 1)) (evens v w o _ _ h.1 h.2 ho' hn hL h1 h2 h3 h4 hc) ho' hL h5 h6 hd h7

theorem gl_last {h : Fin C → ℕ → ℝ} {o : FVec Ideal ⟨2, ![1, C]⟩ .f32} (ho : Cot o f g h 12) : Rows o fun c t => gl (f c) (g c) (h c) 12 t :=
  rows_congr ho fun c t ht => by
    rw [gl_step (j := 12) _ _ _ (by omega), gl_end (j := 12) _ _ _ (by omega)]; ring

end weave

variable (x0 : Vec Ideal S4096x2048 .f32) (x1 : Vec Ideal S4x512 .f32) (x2 : Vec Ideal S512 .f32) (x3 : Vec Ideal S8x64x64 .f32) (x4 : Vec Ideal S512 .f32)
  (x5 : Vec Ideal S8x64x64 .f32) (x6 x7 : Vec Ideal S512 .f32) (x8 : Vec Ideal S4096x512 .f32)

set_option maxHeartbeats 8000000 in
theorem ref_back (f g h : Fin 512 → ℕ → ℝ) (b0 : Both (val_main_v74 (F := Ideal) x0 x1 x2 x3 x4 x7) (val_main_v84 x0 x1 x2 x3 x4 x5 x6 x7) f g 0) (c0 : Rows x8 h) :
    Ders (val_main_v727 (F := Ideal) x0 x1 x2 x3 x4 x5 x6 x7 x8) (val_main_v725 (F := Ideal) x0 x1 x2 x3 x4 x7 x8) f g h 0 := by
  have zf : ∀ x : S_.Idx, constant (F := Ideal) S_ .f32 0x00000000#32 x = 0 := fun x => by pointwise
  have b1 : Both (val_main_v89 (F := Ideal) x0 x1 x2 x3 x4 x7) (val_main_v91 (F := Ideal) x0 x1 x2 x3 x4 x5 x6 x7) f g 1 := down b0 rfl _ _ _ _
  have b2 : Both (val_main_v96 (F := Ideal) x0 x1 x2 x3 x4 x7) (val_main_v98 (F := Ideal) x0 x1 x2 x3 x4 x5 x6 x7) f g 2 := down b1 rfl _ _ _ _
  have b3 : Both (val_main_v103 (F := Ideal) x0 x1 x2 x3 x4 x7) (val_main_v105 (F := Ideal) x0 x1 x2 x3 x4 x5 x6 x7) f g 3 := down b2 rfl _ _ _ _
  have b4 : Both (val_main_v110 (F := Ideal) x0 x1 x2 x3 x4 x7) (val_main_v112 (F := Ideal) x0 x1 x2 x3 x4 x5 x6 x7) f g 4 := down b3 rfl _ _ _ _
  have b5 : Both (val_main_v117 (F := Ideal) x0 x1 x2 x3 x4 x7) (val_main_v119 (F := Ideal) x0 x1 x2 x3 x4 x5 x6 x7) f g 5 := down b4 rfl _ _ _ _
  have b6 : Both (val_main_v124 (F := Ideal) x0 x1 x2 x3 x4 x7) (val_main_v126 (F := Ideal) x0 x1 x2 x3 x4 x5 x6 x7) f g 6 := down b5 rfl _ _ _ _
  have b7 : Both (val_main_v131 (F := Ideal) x0 x1 x2 x3 x4 x7) (val_main_v133 (F := Ideal) x0 x1 x2 x3 x4 x5 x6 x7) f g 7 := down b6 rfl _ _ _ _
  have b8 : Both (val_main_v138 (F := Ideal) x0 x1 x2 x3 x4 x7) (val_main_v140 (F := Ideal) x0 x1 x2 x3 x4 x5 x6 x7) f g 8 := down b7 rfl _ _ _ _
  have b9 : Both (val_main_v145 (F := Ideal) x0 x1 x2 x3 x4 x7) (val_main_v147 (F := Ideal) x0 x1 x2 x3 x4 x5 x6 x7) f g 9 := down b8 rfl _ _ _ _
  have b10 : Both (val_main_v152 (F := Ideal) x0 x1 x2 x3 x4 x7) (val_main_v154 (F := Ideal) x0 x1 x2 x3 x4 x5 x6 x7) f g 10 := down b9 rfl _ _ _ _
  have b11 : Both (val_main_v159 (F := Ideal) x0 x1 x2 x3 x4 x7) (val_main_v161 (F := Ideal) x0 x1 x2 x3 x4 x5 x6 x7) f g 11 := down b10 rfl _ _ _ _
  have b12 : Both (val_main_v166 (F := Ideal) x0 x1 x2 x3 x4 x7) (val_main_v168 (F := Ideal) x0 x1 x2 x3 x4 x5 x6 x7) f g 12 := down b11 rfl _ _ _ _
  have o12 : States (val_main_v168 (F := Ideal) x0 x1 x2 x3 x4 x5 x6 x7) f g 12 := last b12
  have o11 : States (val_main_v187 (F := Ideal) x0 x1 x2 x3 x4 x5 x6 x7) f g 11 := up' b11 o12 rfl rfl _ _ _ _ _ _ _ _ _
  have o10 : States (val_main_v206 (F := Ideal) x0 x1 x2 x3 x4 x5 x6 x7) f g 10 := up' b10 o11 rfl rfl _ _ _ _ _ _ _ _ _
  have o9 : States (val_main_v225 (F := Ideal) x0 x1 x2 x3 x4 x5 x6 x7) f g 9 := up' b9 o10 rfl rfl _ _ _ _ _ _ _ _ _
  have o8 : States (val_main_v244 (F := Ideal) x0 x1 x2 x3 x4 x5 x6 x7) f g 8 := up' b8 o9 rfl rfl _ _ _ _ _ _ _ _ _
  have o7 : States (val_main_v263 (F := Ideal) x0 x1 x2 x3 x4 x5 x6 x7) f g 7 := up' b7 o8 rfl rfl _ _ _ _ _ _ _ _ _
  have o6 : States (val_main_v282 (F := Ideal) x0 x1 x2 x3 x4 x5 x6 x7) f g 6 := up' b6 o7 rfl rfl _ _ _ _ _ _ _ _ _
  have o5 : States (val_main_v301 (F := Ideal) x0 x1 x2 x3 x4 x5 x6 x7) f g 5 := up' b5 o6 rfl rfl _ _ _ _ _ _ _ _ _
  have o4 : States (val_main_v320 (F := Ideal) x0 x1 x2 x3 x4 x5 x6 x7) f g 4 := up' b4 o5 rfl rfl _ _ _ _ _ _ _ _ _
  have o3 : States (val_main_v339 (F := Ideal) x0 x1 x2 x3 x4 x5 x6 x7) f g 3 := up' b3 o4 rfl rfl _ _ _ _ _ _ _ _ _
  have o2 : States (val_main_v358 (F := Ideal) x0 x1 x2 x3 x4 x5 x6 x7) f g 2 := up' b2 o3 rfl rfl _ _ _ _ _ _ _ _ _
  have o1 : States (val_main_v377 (F := Ideal) x0 x1 x2 x3 x4 x5 x6 x7) f g 1 := up' b1 o2 rfl rfl _ _ _ _ _ _ _ _ _
  have c0 : Cot x8 f g h 0 := c0
  have c1 : Cot (val_main_v411 (F := Ideal) x0 x1 x2 x3 x4 x7 x8) f g h 1 := cot_down c0 b0.1 rfl rfl (by norm_num) zf _ _ _ _ _ _ _ _ _
  have c2 : Cot (val_main_v426 (F := Ideal) x0 x1 x2 x3 x4 x7 x8) f g h 2 := cot_down c1 b1.1 rfl rfl (by norm_num) zf _ _ _ _ _ _ _ _ _
  have c3 : Cot (val_main_v441 (F := Ideal) x0 x1 x2 x3 x4 x7 x8) f g h 3 := cot_down c2 b2.1 rfl rfl (by norm_num) zf _ _ _ _ _ _ _ _ _
  have c4 : Cot (val_main_v456 (F := Ideal) x0 x1 x2 x3 x4 x7 x8) f g h 4 := cot_down c3 b3.1 rfl rfl (by norm_num) zf _ _ _ _ _ _ _ _ _
  have c5 : Cot (val_main_v471 (F := Ideal) x0 x1 x2 x3 x4 x7 x8) f g h 5 := cot_down c4 b4.1 rfl rfl (by norm_num) zf _ _ _ _ _ _ _ _ _
  have c6 : Cot (val_main_v486 (F := Ideal) x0 x1 x2 x3 x4 x7 x8) f g h 6 := cot_down c5 b5.1 rfl rfl (by norm_num) zf _ _ _ _ _ _ _ _ _
  have c7 : Cot (val_main_v501 (F := Ideal) x0 x1 x2 x3 x4 x7 x8) f g h 7 := cot_down c6 b6.1 rfl rfl (by norm_num) zf _ _ _ _ _ _ _ _ _
  have c8 : Cot (val_main_v516 (F := Ideal) x0 x1 x2 x3 x4 x7 x8) f g h 8 := cot_down c7 b7.1 rfl rfl (by norm_num) zf _ _ _ _ _ _ _ _ _
  have c9 : Cot (val_main_v531 (F := Ideal) x0 x1 x2 x3 x4 x7 x8) f g h 9 := cot_down c8 b8.1 rfl rfl (by norm_num) zf _ _ _ _ _ _ _ _ _
  have c10 : Cot (val_main_v546 (F := Ideal) x0 x1 x2 x3 x4 x7 x8) f g h 10 := cot_down c9 b9.1 rfl rfl (by norm_num) zf _ _ _ _ _ _ _ _ _
  have c11 : Cot (val_main_v561 (F := Ideal) x0 x1 x2 x3 x4 x7 x8) f g h 11 := cot_down c10 b10.1 rfl rfl (by norm_num) zf _ _ _ _ _ _ _ _ _
  have c12 : Cot (val_main_v576 (F := Ideal) x0 x1 x2 x3 x4 x7 x8) f g h 12 := cot_down c11 b11.1 rfl rfl (by norm_num) zf _ _ _ _ _ _ _ _ _
  have d12 : Rows (val_main_v576 (F := Ideal) x0 x1 x2 x3 x4 x7 x8) fun c t => gl (f c) (g c) (h c) 12 t := gl_last c12
  have d11 : Ders (val_main_v582 (F := Ideal) x0 x1 x2 x3 x4 x5 x6 x7 x8) (val_main_v584 (F := Ideal) x0 x1 x2 x3 x4 x7 x8) f g h 11 := ders_last (s := (val_main_v168 (F := Ideal) x0 x1 x2 x3 x4 x5 x6 x7)) c11 b11 d12 (by norm_num) (by norm_num) zf zf zf zf zf zf _ _ _ _ _ _ _ _ _ _ _ _ _ _ _ _ _ _ _ _
  have d10 : Ders (val_main_v597 (F := Ideal) x0 x1 x2 x3 x4 x5 x6 x7 x8) (val_main_v595 (F := Ideal) x0 x1 x2 x3 x4 x7 x8) f g h 10 := ders_up c10 b10 o11 d11 rfl rfl (by norm_num) (by norm_num) zf zf zf zf zf zf zf _ _ _ _ _ _ _ _ _ _ _ _ _ _ _ _ _ _ _ _ _ _ _ _ _
  have d9 : Ders (val_main_v610 (F := Ideal) x0 x1 x2 x3 x4 x5 x6 x7 x8) (val_main_v608 (F := Ideal) x0 x1 x2 x3 x4 x7 x8) f g h 9 := ders_up c9 b9 o10 d10 rfl rfl (by norm_num) (by norm_num) zf zf zf zf zf zf zf _ _ _ _ _ _ _ _ _ _ _ _ _ _ _ _ _ _ _ _ _ _ _ _ _
  have d8 : Ders (val_main_v623 (F := Ideal) x0 x1 x2 x3 x4 x5 x6 x7 x8) (val_main_v621 (F := Ideal) x0 x1 x2 x3 x4 x7 x8) f g h 8 := ders_up c8 b8 o9 d9 rfl rfl (by norm_num) (by norm_num) zf zf zf zf zf zf zf _ _ _ _ _ _ _ _ _ _ _ _ _ _ _ _ _ _ _ _ _ _ _ _ _
  have d7 : Ders (val_main_v636 (F := Ideal) x0 x1 x2 x3 x4 x5 x6 x7 x8) (val_main_v634 (F := Ideal) x0 x1 x2 x3 x4 x7 x8) f g h 7 := ders_up c7 b7 o8 d8 rfl rfl (by norm_num) (by norm_num) zf zf zf zf zf zf zf _ _ _ _ _ _ _ _ _ _ _ _ _ _ _ _ _ _ _ _ _ _ _ _ _
  have d6 : Ders (val_main_v649 (F := Ideal) x0 x1 x2 x3 x4 x5 x6 x7 x8) (val_main_v647 (F := Ideal) x0 x1 x2 x3 x4 x7 x8) f g h 6 := ders_up c6 b6 o7 d7 rfl rfl (by norm_num) (by norm_num) zf zf zf zf zf zf zf _ _ _ _ _ _ _ _ _ _ _ _ _ _ _ _ _ _ _ _ _ _ _ _ _
  have d5 : Ders (val_main_v662 (F := Ideal) x0 x1 x2 x3 x4 x5 x6 x7 x8) (val_main_v660 (F := Ideal) x0 x1 x2 x3 x4 x7 x8) f g h 5 := ders_up c5 b5 o6 d6 rfl rfl (by norm_num) (by norm_num) zf zf zf zf zf zf zf _ _ _ _ _ _ _ _ _ _ _ _ _ _ _ _ _ _ _ _ _ _ _ _ _
  have d4 : Ders (val_main_v675 (F := Ideal) x0 x1 x2 x3 x4 x5 x6 x7 x8) (val_main_v673 (F := Ideal) x0 x1 x2 x3 x4 x7 x8) f g h 4 := ders_up c4 b4 o5 d5 rfl rfl (by norm_num) (by norm_num) zf zf zf zf zf zf zf _ _ _ _ _ _ _ _ _ _ _ _ _ _ _ _ _ _ _ _ _ _ _ _ _
  have d3 : Ders (val_main_v688 (F := Ideal) x0 x1 x2 x3 x4 x5 x6 x7 x8) (val_main_v686 (F := Ideal) x0 x1 x2 x3 x4 x7 x8) f g h 3 := ders_up c3 b3 o4 d4 rfl rfl (by norm_num) (by norm_num) zf zf zf zf zf zf zf _ _ _ _ _ _ _ _ _ _ _ _ _ _ _ _ _ _ _ _ _ _ _ _ _
  have d2 : Ders (val_main_v701 (F := Ideal) x0 x1 x2 x3 x4 x5 x6 x7 x8) (val_main_v699 (F := Ideal) x0 x1 x2 x3 x4 x7 x8) f g h 2 := ders_up c2 b2 o3 d3 rfl rfl (by norm_num) (by norm_num) zf zf zf zf zf zf zf _ _ _ _ _ _ _ _ _ _ _ _ _ _ _ _ _ _ _ _ _ _ _ _ _
  have d1 : Ders (val_main_v714 (F := Ideal) x0 x1 x2 x3 x4 x5 x6 x7 x8) (val_main_v712 (F := Ideal) x0 x1 x2 x3 x4 x7 x8) f g h 1 := ders_up c1 b1 o2 d2 rfl rfl (by norm_num) (by norm_num) zf zf zf zf zf zf zf _ _ _ _ _ _ _ _ _ _ _ _ _ _ _ _ _ _ _ _ _ _ _ _ _
  exact ders_up c0 b0 o1 d1 rfl rfl (by norm_num) (by norm_num) zf zf zf zf zf zf zf _ _ _ _ _ _ _ _ _ _ _ _ _ _ _ _ _ _ _ _ _ _ _ _ _

end Cert.RnnBwd
-- ==== Proof.RnnBwd.Final.lean ====
/- The kernel's four arrays are the reference's: the gradient of the rows, the sums over the steps and the gradients of the
   heads' matrices. -/
module

public import proofs.«01_k».proof.Proof.RnnBwd.KBlk
public import proofs.«01_k».proof.Proof.RnnBwd.RefOut
public import proofs.«01_k».proof.Proof.RnnBwd.RefGate
public import proofs.«01_k».proof.Proof.RnnBwd.RefBack

@[expose] public section

set_option maxRecDepth 65536
set_option maxHeartbeats 1000000

noncomputable section

namespace Cert.RnnBwd

open Idealize.ShloMosaic Idealize.ShloMosaic.TcCoe Idealize.SL.Sem
open Idealize.ShloMosaic.Pipeline (Dat)
open Cert.KernelRnnBwdIdeal Cert.KernelRnnBwdIdeal.Gen Cert.ReferenceRnnBwdIdeal.Read Cert.Lift
open Cert.RnnFwd (Rows wH ch pairR colR rowR zR uR fR gR uK zK uK_eq zK_eq ref_both ref_xr ref_late pH sgR laR lsR late3 laR_neg c_eight)

/-- The product with the transpose of the matrices of two heads. -/
theorem sum_turned (w : Cert.ReferenceRnnBwdIdeal.S8x64x64.Idx → ℝ) (t : ℕ) (ht : t < 4) (d : Fin 128) (u : Fin 512 → ℝ) :
    ∑ k : Fin 128, u (ch t ht k) * pairR w t ht d k = tR u w (ch t ht d) := by
  have hd := d.isLt
  refine (Fin.sum_univ_add (a := 64) (b := 64) fun k => u (ch t ht k) * pairR w t ht d k).trans ?_
  by_cases h : d.val < 64
  · have e1 : (ch t ht d).val / 64 = 2 * t := by unfold ch; dsimp only; omega
    have e2 : (ch t ht d).val % 64 = d.val := by unfold ch; dsimp only; omega
    have z (k : Fin 64) : pairR w t ht d (Fin.natAdd 64 k) = 0 := by
      rw [pairR, dif_pos h, dif_neg (by simp only [Fin.val_natAdd]; omega)]
    simp only [z, mul_zero, Finset.sum_const_zero, add_zero]
    refine Finset.sum_congr rfl fun k _ => ?_
    rw [pairR, dif_pos h, dif_pos (by simp only [Fin.val_castAdd]; exact k.isLt)]
    refine congrArg₂ (· * ·) (congrArg u (Fin.ext ?_)) (congrArg w ?_)
    · show t * 128 + k.val = (ch t ht d).val / 64 * 64 + k.val
      omega
    · congr 1
      · exact Fin.ext e1.symm
      · exact Fin.ext e2.symm
  · have e1 : (ch t ht d).val / 64 = 1 + 2 * t := by unfold ch; dsimp only; omega
    have e2 : (ch t ht d).val % 64 = d.val - 64 := by unfold ch; dsimp only; omega
    have z (k : Fin 64) : pairR w t ht d (Fin.castAdd 64 k) = 0 := by
      rw [pairR, dif_neg h, dif_pos (by simp only [Fin.val_castAdd]; exact k.isLt)]
    simp only [z, mul_zero, Finset.sum_const_zero, zero_add]
    refine Finset.sum_congr rfl fun k _ => ?_
    rw [pairR, dif_neg h, dif_neg (by simp only [Fin.val_natAdd]; omega)]
    refine congrArg₂ (· * ·) (congrArg u (Fin.ext ?_)) (congrArg w ?_)
    · show t * 128 + (64 + k.val) = (ch t ht d).val / 64 * 64 + k.val
      omega
    · congr 1
      · exact Fin.ext e1.symm
      · exact Fin.ext e2.symm
      · exact Fin.ext (by simp only [Fin.val_natAdd]; omega)

/-- The state before a step, from the states after the steps. -/
theorem prev_state (a b : ℕ → ℝ) {t : ℕ} (ht : t < 4096) : prev (fun n => wH 4096 4096 a b n) t = pH a b 0 t := by
  unfold prev
  split
  case isTrue h =>
    show pH a b (t - 1 + 1 - min ((t - 1) % 4096 + 1) 4096) (min ((t - 1) % 4096 + 1) 4096) = _
    rw [show min ((t - 1) % 4096 + 1) 4096 = t by omega, show t - 1 + 1 - t = 0 by omega]
  case isFalse h =>
    rw [show t = 0 by omega]
    rfl

variable (m : (ℓ : Loc nD τ sig) → Buf (Elt Ideal) ℓ) (c : Dev nD)
variable (r0 : S4096x512.Idx → ℝ) (r1 : S4x512.Idx → ℝ) (r2 : S512.Idx → ℝ) (r3 : S8x64x64.Idx → ℝ) (r4 : S512.Idx → ℝ) (r5 : S8x64x64.Idx → ℝ) (r6 r7 : S512.Idx → ℝ) (r8 : S4096x512.Idx → ℝ)

/-- The gates, the logarithm of the decay and the gradient of the states, of a channel at a step. -/
def uF (j : Fin 512) (n : ℕ) : ℝ := uR r0 r1 r2 n j
def sF (j : Fin 512) (n : ℕ) : ℝ := sgR (zR (uR r0 r1 r2 n) r3 (r4 (ix1 j)) j)
def yF (j : Fin 512) (n : ℕ) : ℝ := sgR (zR (uR r0 r1 r2 n) r5 (r6 (ix1 j)) j)
def lF (j : Fin 512) (n : ℕ) : ℝ := laR (zR (uR r0 r1 r2 n) r3 (r4 (ix1 j)) j) (r7 (ix1 j))
def cF (j : Fin 512) (n : ℕ) : ℝ := rG (fR r0 r1 r2 r3 r4 r7 j) (colR r8 j) 4096 n
def HF (j : Fin 512) (n : ℕ) : ℝ := pH (fR r0 r1 r2 r3 r4 r7 j) (gR r0 r1 r2 r3 r4 r5 r6 r7 j) 0 n
def DF : Fin 512 → ℕ → ℝ := dlF (uF r0 r1 r2) (yF r0 r1 r2 r5 r6) (lF r0 r1 r2 r3 r4 r7) (cF r0 r1 r2 r3 r4 r7 r8) (HF r0 r1 r2 r3 r4 r5 r6 r7)
def PF : Fin 512 → ℕ → ℝ := dpF (uF r0 r1 r2) (sF r0 r1 r2 r3 r4) (yF r0 r1 r2 r5 r6) (lF r0 r1 r2 r3 r4 r7) (cF r0 r1 r2 r3 r4 r7 r8) (HF r0 r1 r2 r3 r4 r5 r6 r7) fun j => lsR (r7 (ix1 j))
def QF : Fin 512 → ℕ → ℝ := diF (uF r0 r1 r2) (yF r0 r1 r2 r5 r6) (lF r0 r1 r2 r3 r4 r7) (cF r0 r1 r2 r3 r4 r7 r8)
def XF : Fin 512 → ℕ → ℝ := dxF r3 r5 (uF r0 r1 r2) (sF r0 r1 r2 r3 r4) (yF r0 r1 r2 r5 r6) (lF r0 r1 r2 r3 r4 r7) (cF r0 r1 r2 r3 r4 r7 r8) (HF r0 r1 r2 r3 r4 r5 r6 r7) fun j => lsR (r7 (ix1 j))

theorem lF_neg (j : Fin 512) (n : ℕ) : lF r0 r1 r2 r3 r4 r7 j n < 0 := laR_neg _ _

variable (R : Far m c r0 r1 r2 r3 r4 r5 r6 r7 r8)
include R

theorem row_u : Rows (val_main_v35 (F := Ideal) (aX m c) (aW m c) (aB m c)) (uF r0 r1 r2) :=
  fun n j => (congrFun (same_x (aX m c) (aW m c) (aB m c)) _).trans (ref_xr _ _ _ r0 r1 r2 R.h0 R.h1 R.h2 n j)
theorem row_s : Rows (val_main_v48 (F := Ideal) (aX m c) (aW m c) (aB m c) (aU m c) (aC m c)) (sF r0 r1 r2 r3 r4) :=
  fun n j => back_r (aX m c) (aW m c) (aB m c) (aU m c) (aC m c) r3 r4 (fun n => uR r0 r1 r2 n.val) (row_u m c r0 r1 r2 r3 r4 r5 r6 r7 r8 R) R.h3 R.h4 n j
theorem row_y : Rows (val_main_v64 (F := Ideal) (aX m c) (aW m c) (aB m c) (aV m c) (aD m c)) (yF r0 r1 r2 r5 r6) :=
  fun n j => back_i (aX m c) (aW m c) (aB m c) (aV m c) (aD m c) r5 r6 (fun n => uR r0 r1 r2 n.val) (row_u m c r0 r1 r2 r3 r4 r5 r6 r7 r8 R) R.h5 R.h6 n j
theorem row_l : Rows (val_main_v73 (F := Ideal) (aX m c) (aW m c) (aB m c) (aU m c) (aC m c) (aL m c)) (lF r0 r1 r2 r3 r4 r7) := fun n j => by
  pointwise [val_main_v73, val_main_v72, val_main_v71, val_main_v69, val_main_v68, val_main_cst_8, back_ls (aL m c) r7 R.h7, Rows.at (row_s m c r0 r1 r2 r3 r4 r5 r6 r7 r8 R)]
  rw [c_eight, ← EReal.coe_mul, ← EReal.coe_mul]; rfl
theorem row_b : Rows (val_main_v84 (F := Ideal) (aX m c) (aW m c) (aB m c) (aU m c) (aC m c) (aV m c) (aD m c) (aL m c)) (gR r0 r1 r2 r3 r4 r5 r6 r7) := fun n j => by
  pointwise [val_main_v84, val_main_v83, Rows.at (row_u m c r0 r1 r2 r3 r4 r5 r6 r7 r8 R), Rows.at (row_y m c r0 r1 r2 r3 r4 r5 r6 r7 r8 R), Rows.at (back_m _ _ _ _ _ _ _ (row_l m c r0 r1 r2 r3 r4 r5 r6 r7 r8 R) (lF_neg r0 r1 r2 r3 r4 r7))]
  rw [← EReal.coe_mul, ← EReal.coe_mul]; rfl
theorem rows_back : Rows (val_main_v725 (F := Ideal) (aX m c) (aW m c) (aB m c) (aU m c) (aC m c) (aL m c) (aG m c)) (cF r0 r1 r2 r3 r4 r7 r8)
    ∧ Rows (val_main_v727 (F := Ideal) (aX m c) (aW m c) (aB m c) (aU m c) (aC m c) (aV m c) (aD m c) (aL m c) (aG m c)) fun d t => cF r0 r1 r2 r3 r4 r7 r8 d t * HF r0 r1 r2 r3 r4 r5 r6 r7 d t :=
  ref_back (aX m c) (aW m c) (aB m c) (aU m c) (aC m c) (aV m c) (aD m c) (aL m c) (aG m c) (fR r0 r1 r2 r3 r4 r7) (gR r0 r1 r2 r3 r4 r5 r6 r7) (colR r8) ⟨back_a _ _ _ _ _ _ _ (row_l m c r0 r1 r2 r3 r4 r5 r6 r7 r8 R), row_b m c r0 r1 r2 r3 r4 r5 r6 r7 r8 R⟩
    fun n j => by rw [R.h8, colR, dif_pos n.isLt]
theorem row_D : Rows (val_main_v738 (F := Ideal) (aX m c) (aW m c) (aB m c) (aU m c) (aC m c) (aV m c) (aD m c) (aL m c) (aG m c)) (DF r0 r1 r2 r3 r4 r5 r6 r7 r8) :=
  back_dl _ _ _ _ _ _ _ _ _ _ _ _ _ _ (row_u m c r0 r1 r2 r3 r4 r5 r6 r7 r8 R) (row_y m c r0 r1 r2 r3 r4 r5 r6 r7 r8 R) (row_l m c r0 r1 r2 r3 r4 r5 r6 r7 r8 R) (lF_neg r0 r1 r2 r3 r4 r7) (rows_back m c r0 r1 r2 r3 r4 r5 r6 r7 r8 R).1 (rows_back m c r0 r1 r2 r3 r4 r5 r6 r7 r8 R).2
theorem row_Q : Rows (val_main_v748 (F := Ideal) (aX m c) (aW m c) (aB m c) (aU m c) (aC m c) (aV m c) (aD m c) (aL m c) (aG m c)) (QF r0 r1 r2 r3 r4 r5 r6 r7 r8) :=
  back_di _ _ _ _ _ _ _ _ _ _ _ _ _ (row_u m c r0 r1 r2 r3 r4 r5 r6 r7 r8 R) (row_y m c r0 r1 r2 r3 r4 r5 r6 r7 r8 R) (row_l m c r0 r1 r2 r3 r4 r5 r6 r7 r8 R) (lF_neg r0 r1 r2 r3 r4 r7) (rows_back m c r0 r1 r2 r3 r4 r5 r6 r7 r8 R).1
theorem row_P : Rows (val_main_v760 (F := Ideal) (aX m c) (aW m c) (aB m c) (aU m c) (aC m c) (aV m c) (aD m c) (aL m c) (aG m c)) (PF r0 r1 r2 r3 r4 r5 r6 r7 r8) :=
  back_dp _ _ _ _ _ _ _ _ _ _ _ _ _ _ _ _ (row_u m c r0 r1 r2 r3 r4 r5 r6 r7 r8 R) (row_s m c r0 r1 r2 r3 r4 r5 r6 r7 r8 R) (row_y m c r0 r1 r2 r3 r4 r5 r6 r7 r8 R) (row_l m c r0 r1 r2 r3 r4 r5 r6 r7 r8 R) (lF_neg r0 r1 r2 r3 r4 r7) (back_ls (aL m c) r7 R.h7) (rows_back m c r0 r1 r2 r3 r4 r5 r6 r7 r8 R).1 (rows_back m c r0 r1 r2 r3 r4 r5 r6 r7 r8 R).2
theorem row_X : Rows (val_main_v771 (F := Ideal) (aX m c) (aW m c) (aB m c) (aU m c) (aC m c) (aV m c) (aD m c) (aL m c) (aG m c)) (XF r0 r1 r2 r3 r4 r5 r6 r7 r8) :=
  back_dx _ _ _ _ _ _ _ _ _ _ _ _ _ _ _ _ _ _ (row_u m c r0 r1 r2 r3 r4 r5 r6 r7 r8 R) (row_s m c r0 r1 r2 r3 r4 r5 r6 r7 r8 R) (row_y m c r0 r1 r2 r3 r4 r5 r6 r7 r8 R) (row_l m c r0 r1 r2 r3 r4 r5 r6 r7 r8 R) (lF_neg r0 r1 r2 r3 r4 r7) (back_ls (aL m c) r7 R.h7) (rows_back m c r0 r1 r2 r3 r4 r5 r6 r7 r8 R).1 (rows_back m c r0 r1 r2 r3 r4 r5 r6 r7 r8 R).2 R.h3 R.h5
theorem row_E : Rows (val_main_v2 (F := Ideal) (aX m c)) fun d n => late3 (colR r0 d) n := fun n j => ref_late (aX m c) r0 R.h0 n j

theorem states : Rows (V (F := Ideal) m c main_v178) fun d t => wH 4096 4096 (fR r0 r1 r2 r3 r4 r7 d) (gR r0 r1 r2 r3 r4 r5 r6 r7 d) t :=
  V_states m c _ _ (fun n j => (ref_both _ _ _ _ _ _ _ _ r3 r4 r5 r6 r7 (fun n => uR r0 r1 r2 n.val) (ref_xr _ _ _ r0 r1 r2 R.h0 R.h1 R.h2) R.h3 R.h4 R.h5 R.h6 R.h7 n j).1)
    fun n j => (ref_both _ _ _ _ _ _ _ _ r3 r4 r5 r6 r7 (fun n => uR r0 r1 r2 n.val) (ref_xr _ _ _ r0 r1 r2 R.h0 R.h1 R.h2) R.h3 R.h4 R.h5 R.h6 R.h7 n j).2

section point
variable (t : Fin cfg0.N) (ht : t.val < 4)
variable (w1 : Memref sig .tc .vmem S4096x128 .f32) (e1 : w1.IsWhole) (w3 : Memref sig .tc .vmem S4096x128 .bf16) (e3 : w3.IsWhole) (w4 : Memref sig .tc .vmem S8x128 .f32) (e4 : w4.IsWhole) (w5 : Memref sig .tc .vmem S8x128 .f32) (e5 : w5.IsWhole)
  (w6 w7 : Memref sig .tc .vmem S1x128x128 .bf16) (e6 : w6.IsWhole) (e7 : w7.IsWhole) (w12 w13 : Memref sig .tc .vmem S4104x128 .f32) (w14 w15 : Memref sig .tc .vmem S4096x128 .f32) (w16 : Memref sig .tc .vmem S512x128 .f32)

theorem point_u : Rows (kernelRun0_A.sl.r (F := Ideal) c w1 e1 w4 e4 w5 e5 w12 (iblk m c 0 t) (iblk m c 3 t) (iblk m c 4 t)) fun d => uF r0 r1 r2 (ch t.val ht d) :=
  xr_rows c w1 e1 w4 e4 w5 e5 w12 _ _ _ _ _ _ (blk_x m c r0 t ht R.h0) (blk_w m c r1 t ht R.h1) (blk_v m c r2 r4 r6 r7 t ht R.h2 R.h4 R.h6 R.h7)
theorem point_s : Rows (kernelRun0_A.sl.r_2 (F := Ideal) c w1 e1 w4 e4 w5 e5 w6 e6 w12 (iblk m c 0 t) (iblk m c 3 t) (iblk m c 4 t) (iblk m c 5 t)) fun d => sF r0 r1 r2 r3 r4 (ch t.val ht d) := fun n d =>
  (r_rows c w1 e1 w4 e4 w5 e5 w6 e6 w12 _ _ _ _ _ _ _ _ (blk_x m c r0 t ht R.h0) (blk_w m c r1 t ht R.h1) (blk_v m c r2 r4 r6 r7 t ht R.h2 R.h4 R.h6 R.h7) (blk_u m c r3 t ht R.h3) n d).trans (congrArg (fun z : ℝ => ((sgR z : ℝ) : EReal)) (zK_eq t ht r0 r1 r2 r4 r6 r7 r3 1 d n.val))
theorem point_y : Rows (kernelRun0_A.sl.r_3 (F := Ideal) c w1 e1 w4 e4 w5 e5 w7 e7 w12 (iblk m c 0 t) (iblk m c 3 t) (iblk m c 4 t) (iblk m c 6 t)) fun d => yF r0 r1 r2 r5 r6 (ch t.val ht d) := fun n d =>
  (i_rows c w1 e1 w4 e4 w5 e5 w7 e7 w12 _ _ _ _ _ _ _ _ (blk_x m c r0 t ht R.h0) (blk_w m c r1 t ht R.h1) (blk_v m c r2 r4 r6 r7 t ht R.h2 R.h4 R.h6 R.h7) (blk_i m c r5 t ht R.h5) n d).trans (congrArg (fun z : ℝ => ((sgR z : ℝ) : EReal)) (zK_eq t ht r0 r1 r2 r4 r6 r7 r5 2 d n.val))
theorem point_a : Rows (kernelRun0_A.sl.r_8 (F := Ideal) c w1 e1 w4 e4 w5 e5 w6 e6 w12 (iblk m c 0 t) (iblk m c 3 t) (iblk m c 4 t) (iblk m c 5 t)) fun d => fR r0 r1 r2 r3 r4 r7 (ch t.val ht d) := fun n d =>
  (a_rows c w1 e1 w4 e4 w5 e5 w6 e6 w12 _ _ _ _ _ _ _ _ (blk_x m c r0 t ht R.h0) (blk_w m c r1 t ht R.h1) (blk_v m c r2 r4 r6 r7 t ht R.h2 R.h4 R.h6 R.h7) (blk_u m c r3 t ht R.h3) n d).trans (congrArg (fun z : ℝ => ((Real.exp (laR z (r7 (ix1 (ch t.val ht d)))) : ℝ) : EReal)) (zK_eq t ht r0 r1 r2 r4 r6 r7 r3 1 d n.val))
theorem point_m : Rows (kernelRun0_A.sl.r_9 (F := Ideal) c w1 e1 w4 e4 w5 e5 w6 e6 w12 (iblk m c 0 t) (iblk m c 3 t) (iblk m c 4 t) (iblk m c 5 t)) fun d n => mR (lF r0 r1 r2 r3 r4 r7 (ch t.val ht d) n) := fun n d =>
  (m_rows c w1 e1 w4 e4 w5 e5 w6 e6 w12 _ _ _ _ _ _ _ _ (blk_x m c r0 t ht R.h0) (blk_w m c r1 t ht R.h1) (blk_v m c r2 r4 r6 r7 t ht R.h2 R.h4 R.h6 R.h7) (blk_u m c r3 t ht R.h3) (fun d n => by rw [zK_eq t ht r0 r1 r2 r4 r6 r7 r3 1 d n.val]; exact R.hf n (ch t.val ht d)) n d).trans
    (congrArg (fun z : ℝ => ((mR (laR z (r7 (ix1 (ch t.val ht d)))) : ℝ) : EReal)) (zK_eq t ht r0 r1 r2 r4 r6 r7 r3 1 d n.val))
theorem point_g : Rows (kernelRun0_A.sl.v4896 (F := Ideal) c w1 e1 w3 e3 w4 e4 w5 e5 w6 e6 w12 w13 w14 w15 w16 (iblk m c 0 t) (iblk m c 2 t) (iblk m c 3 t) (iblk m c 4 t) (iblk m c 5 t)) fun d => cF r0 r1 r2 r3 r4 r7 r8 (ch t.val ht d) :=
  g_rows c w1 e1 w3 e3 w4 e4 w5 e5 w6 e6 w12 w13 w14 w15 w16 _ _ _ _ _ (fun d => fR r0 r1 r2 r3 r4 r7 (ch t.val ht d)) (fun d => colR r8 (ch t.val ht d)) (point_a m c r0 r1 r2 r3 r4 r5 r6 r7 r8 R t ht w1 e1 w4 e4 w5 e5 w6 e6 w12) (blk_dh m c r8 t ht R.h8)
end point

omit R
section same
variable (t : Fin cfg0.N) (ht : t.val < 4) (d : Fin 128) {n : ℕ} (hn : n < 4096)

/-- What the kernel reads and makes at a grid point. -/
abbrev uP (d : Fin 128) : ℕ → ℝ := uF r0 r1 r2 (ch t.val ht d)
abbrev sP (d : Fin 128) : ℕ → ℝ := sF r0 r1 r2 r3 r4 (ch t.val ht d)
abbrev yP (d : Fin 128) : ℕ → ℝ := yF r0 r1 r2 r5 r6 (ch t.val ht d)
abbrev aP (d : Fin 128) : ℕ → ℝ := fR r0 r1 r2 r3 r4 r7 (ch t.val ht d)
abbrev mP (d : Fin 128) (n : ℕ) : ℝ := mR (lF r0 r1 r2 r3 r4 r7 (ch t.val ht d) n)
abbrev cP (d : Fin 128) : ℕ → ℝ := cF r0 r1 r2 r3 r4 r7 r8 (ch t.val ht d)
abbrev hP (d : Fin 128) (n : ℕ) : ℝ := wH 4096 4096 (fR r0 r1 r2 r3 r4 r7 (ch t.val ht d)) (gR r0 r1 r2 r3 r4 r5 r6 r7 (ch t.val ht d)) n
abbrev bP (d : Fin 128) : ℕ → ℝ := rowR r2 r4 r6 r7 (ch t.val ht d)

include hn
theorem same_D : dlK (uP r0 r1 r2 t ht) (yP r0 r1 r2 r5 r6 t ht) (aP r0 r1 r2 r3 r4 r7 t ht) (mP r0 r1 r2 r3 r4 r7 t ht) (cP r0 r1 r2 r3 r4 r7 r8 t ht) (hP r0 r1 r2 r3 r4 r5 r6 r7 t ht) d n = DF r0 r1 r2 r3 r4 r5 r6 r7 r8 (ch t.val ht d) n := by
  unfold dlK
  rw [prev_state _ _ hn]
  rfl
theorem same_P : dpK (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (hP r0 r1 r2 r3 r4 r5 r6 r7 t ht) (fun d => lsR (bP r2 r4 r6 r7 t ht d 3)) d n = PF r0 r1 r2 r3 r4 r5 r6 r7 r8 (ch t.val ht d) n := by
  unfold dpK
  rw [same_D r0 r1 r2 r3 r4 r5 r6 r7 r8 t ht d hn]
  rfl
omit hn in
theorem same_Q : diK (uP r0 r1 r2 t ht) (yP r0 r1 r2 r5 r6 t ht) (mP r0 r1 r2 r3 r4 r7 t ht) (cP r0 r1 r2 r3 r4 r7 r8 t ht) d n = QF r0 r1 r2 r3 r4 r5 r6 r7 r8 (ch t.val ht d) n := rfl
theorem same_X : dxK (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (hP r0 r1 r2 r3 r4 r5 r6 r7 t ht) (fun d => lsR (bP r2 r4 r6 r7 t ht d 3)) (pairR r3 t.val ht) (pairR r5 t.val ht) d n = XF r0 r1 r2 r3 r4 r5 r6 r7 r8 (ch t.val ht d) n := by
  unfold dxK
  simp only [same_P r0 r1 r2 r3 r4 r5 r6 r7 r8 t ht _ hn, same_Q r0 r1 r2 r3 r4 r5 r6 r7 r8 t ht]
  rw [sum_turned r3 t.val ht d fun k => PF r0 r1 r2 r3 r4 r5 r6 r7 r8 k n, sum_turned r5 t.val ht d fun k => QF r0 r1 r2 r3 r4 r5 r6 r7 r8 k n]
  rfl
omit hn in
theorem same_late (o : ℕ) : late0 (dxK (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (hP r0 r1 r2 r3 r4 r5 r6 r7 t ht) (fun d => lsR (bP r2 r4 r6 r7 t ht d 3)) (pairR r3 t.val ht) (pairR r5 t.val ht) d) o = late0 (XF r0 r1 r2 r3 r4 r5 r6 r7 r8 (ch t.val ht d)) o := by
  unfold late0
  split
  case isTrue h => exact same_X r0 r1 r2 r3 r4 r5 r6 r7 r8 t ht d h
  case isFalse h => rfl
theorem same_du : duK (fun d => colR r1 (ch t.val ht d)) (bP r2 r4 r6 r7 t ht) (hP r0 r1 r2 r3 r4 r5 r6 r7 t ht) (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (pairR r3 t.val ht) (pairR r5 t.val ht) d n
    = r1 (ix2 3 (ch t.val ht d)) * XF r0 r1 r2 r3 r4 r5 r6 r7 r8 (ch t.val ht d) n + r1 (ix2 0 (ch t.val ht d)) * late0 (XF r0 r1 r2 r3 r4 r5 r6 r7 r8 (ch t.val ht d)) (3 + n) + r1 (ix2 1 (ch t.val ht d)) * late0 (XF r0 r1 r2 r3 r4 r5 r6 r7 r8 (ch t.val ht d)) (2 + n) + r1 (ix2 2 (ch t.val ht d)) * late0 (XF r0 r1 r2 r3 r4 r5 r6 r7 r8 (ch t.val ht d)) (1 + n) := by
  unfold duK
  rw [same_late r0 r1 r2 r3 r4 r5 r6 r7 r8 t ht, same_late r0 r1 r2 r3 r4 r5 r6 r7 r8 t ht, same_late r0 r1 r2 r3 r4 r5 r6 r7 r8 t ht, same_X r0 r1 r2 r3 r4 r5 r6 r7 r8 t ht d hn]
  rfl
omit hn in
theorem same_sm (r : ℕ) : smK (fun d => colR r0 (ch t.val ht d)) (bP r2 r4 r6 r7 t ht) (hP r0 r1 r2 r3 r4 r5 r6 r7 t ht) (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (pairR r3 t.val ht) (pairR r5 t.val ht) d r
    = smF (fun d n => late3 (colR r0 d) n) (XF r0 r1 r2 r3 r4 r5 r6 r7 r8) (PF r0 r1 r2 r3 r4 r5 r6 r7 r8) (QF r0 r1 r2 r3 r4 r5 r6 r7 r8) (DF r0 r1 r2 r3 r4 r5 r6 r7 r8) (sF r0 r1 r2 r3 r4) (fun j => sgR (-r7 (ix1 j))) (ch t.val ht d) r := by
  unfold smK smF
  simp only [fun x : Fin 4096 => same_X r0 r1 r2 r3 r4 r5 r6 r7 r8 t ht d x.isLt, fun x : Fin 4096 => same_P r0 r1 r2 r3 r4 r5 r6 r7 r8 t ht d x.isLt, fun x : Fin 4096 => same_D r0 r1 r2 r3 r4 r5 r6 r7 r8 t ht d x.isLt, fun x : Fin 4096 => same_Q r0 r1 r2 r3 r4 r5 r6 r7 r8 t ht d (n := x.val)]
  rfl
end same

include R

theorem rows_final : (dats (F := Ideal) m 0 c).arrAt 7 cfg0.N = val_main_v819 (F := Ideal) (aX m c) (aW m c) (aB m c) (aU m c) (aC m c) (aV m c) (aD m c) (aL m c) (aG m c) := by
  refine (dats (F := Ideal) m 0 c).arrAt_eq_of_covers 7 _ (by decide +kernel) fun t _ y => ?_
  blk_simp
  rw [after0_7]
  have ht : t.val < 4 := lt_of_lt_of_eq t.isLt N_0
  idx_vars y
  have he : ((View.whole main_v206_0).slice (win0_7.rect t)).emb (ix2 y0 y1) = ix2 y0 (ch t.val ht y1) := by unfold ch; blk_ext [idx t]
  rw [he, ref_u (aX m c) (aW m c) (aB m c) (aU m c) (aC m c) (aV m c) (aD m c) (aL m c) (aG m c) r1 (XF r0 r1 r2 r3 r4 r5 r6 r7 r8) R.h1 (row_X m c r0 r1 r2 r3 r4 r5 r6 r7 r8 R), ← same_du r0 r1 r2 r3 r4 r5 r6 r7 r8 t ht y1 y0.isLt]
  dsimp only [outsAt0]
  exact rows_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (fun d => colR r1 (ch t.val ht d)) (bP r2 r4 r6 r7 t ht) (hP r0 r1 r2 r3 r4 r5 r6 r7 t ht) (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (pairR r3 t.val ht) (pairR r5 t.val ht) (blk_h m c t ht (fun d => wH 4096 4096 (fR r0 r1 r2 r3 r4 r7 d) (gR r0 r1 r2 r3 r4 r5 r6 r7 d)) (states m c r0 r1 r2 r3 r4 r5 r6 r7 r8 R)) (blk_w m c r1 t ht R.h1) (blk_v m c r2 r4 r6 r7 t ht R.h2 R.h4 R.h6 R.h7) (point_u m c r0 r1 r2 r3 r4 r5 r6 r7 r8 R t ht _ _ _ _ _ _ _) (point_s m c r0 r1 r2 r3 r4 r5 r6 r7 r8 R t ht _ _ _ _ _ _ _ _ _) (point_y m c r0 r1 r2 r3 r4 r5 r6 r7 r8 R t ht _ _ _ _ _ _ _ _ _) (point_a m c r0 r1 r2 r3 r4 r5 r6 r7 r8 R t ht _ _ _ _ _ _ _ _ _) (point_m m c r0 r1 r2 r3 r4 r5 r6 r7 r8 R t ht _ _ _ _ _ _ _ _ _) (fun d n => mR_ne (lF_neg r0 r1 r2 r3 r4 r7 (ch t.val ht d) n)) (point_g m c r0 r1 r2 r3 r4 r5 r6 r7 r8 R t ht _ _ _ _ _ _ _ _ _ _ _ _ _ _ _) (blk_u m c r3 t ht R.h3) (blk_i m c r5 t ht R.h5) (ix2 y0 y1)

theorem sums_final : (dats (F := Ideal) m 0 c).arrAt 8 cfg0.N = val_main_v825 (F := Ideal) (aX m c) (aW m c) (aB m c) (aU m c) (aC m c) (aV m c) (aD m c) (aL m c) (aG m c) := by
  refine (dats (F := Ideal) m 0 c).arrAt_eq_of_covers 8 _ (by decide +kernel) fun t _ y => ?_
  blk_simp
  rw [after0_8]
  have ht : t.val < 4 := lt_of_lt_of_eq t.isLt N_0
  idx_vars y
  have he : ((View.whole main_v206_1).slice (win0_8.rect t)).emb (ix2 y0 y1) = ix2 y0 (ch t.val ht y1) := by unfold ch; blk_ext [idx t]
  rw [he, ref_sums (aX m c) (aW m c) (aB m c) (aU m c) (aC m c) (aV m c) (aD m c) (aL m c) (aG m c) (fun d n => late3 (colR r0 d) n) (XF r0 r1 r2 r3 r4 r5 r6 r7 r8) (PF r0 r1 r2 r3 r4 r5 r6 r7 r8) (QF r0 r1 r2 r3 r4 r5 r6 r7 r8) (DF r0 r1 r2 r3 r4 r5 r6 r7 r8) (sF r0 r1 r2 r3 r4) (fun j => sgR (-r7 (ix1 j))) (row_E m c r0 r1 r2 r3 r4 r5 r6 r7 r8 R) (row_X m c r0 r1 r2 r3 r4 r5 r6 r7 r8 R) (row_P m c r0 r1 r2 r3 r4 r5 r6 r7 r8 R) (row_Q m c r0 r1 r2 r3 r4 r5 r6 r7 r8 R) (row_D m c r0 r1 r2 r3 r4 r5 r6 r7 r8 R)
    (row_s m c r0 r1 r2 r3 r4 r5 r6 r7 r8 R) (back_dls (aL m c) r7 R.h7), ← same_sm r0 r1 r2 r3 r4 r5 r6 r7 r8 t ht y1 y0.val]
  dsimp only [outsAt0]
  exact sums_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (fun d => colR r0 (ch t.val ht d)) (bP r2 r4 r6 r7 t ht) (hP r0 r1 r2 r3 r4 r5 r6 r7 t ht) (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (pairR r3 t.val ht) (pairR r5 t.val ht) (blk_x m c r0 t ht R.h0) (blk_h m c t ht (fun d => wH 4096 4096 (fR r0 r1 r2 r3 r4 r7 d) (gR r0 r1 r2 r3 r4 r5 r6 r7 d)) (states m c r0 r1 r2 r3 r4 r5 r6 r7 r8 R)) (blk_v m c r2 r4 r6 r7 t ht R.h2 R.h4 R.h6 R.h7) (point_u m c r0 r1 r2 r3 r4 r5 r6 r7 r8 R t ht _ _ _ _ _ _ _) (point_s m c r0 r1 r2 r3 r4 r5 r6 r7 r8 R t ht _ _ _ _ _ _ _ _ _) (point_y m c r0 r1 r2 r3 r4 r5 r6 r7 r8 R t ht _ _ _ _ _ _ _ _ _) (point_a m c r0 r1 r2 r3 r4 r5 r6 r7 r8 R t ht _ _ _ _ _ _ _ _ _) (point_m m c r0 r1 r2 r3 r4 r5 r6 r7 r8 R t ht _ _ _ _ _ _ _ _ _) (fun d n => mR_ne (lF_neg r0 r1 r2 r3 r4 r7 (ch t.val ht d) n)) (point_g m c r0 r1 r2 r3 r4 r5 r6 r7 r8 R t ht _ _ _ _ _ _ _ _ _ _ _ _ _ _ _) (blk_u m c r3 t ht R.h3) (blk_i m c r5 t ht R.h5) (ix2 y0 y1)

theorem wa_final : (dats (F := Ideal) m 0 c).arrAt 9 cfg0.N = val_main_v769 (F := Ideal) (aX m c) (aW m c) (aB m c) (aU m c) (aC m c) (aV m c) (aD m c) (aL m c) (aG m c) := by
  refine (dats (F := Ideal) m 0 c).arrAt_eq_of_covers 9 _ (by decide +kernel) fun t _ y => ?_
  blk_simp
  rw [after0_9]
  have ht : t.val < 4 := lt_of_lt_of_eq t.isLt N_0
  idx_vars y
  have he : ((View.whole main_v206_2).slice (win0_9.rect t)).emb (ix3 y0 y1 y2) = ix3 ⟨2 * t.val + y0.val, by have := y0.isLt; omega⟩ y1 y2 := by blk_ext [idx t]
  rw [he, ref_wa (aX m c) (aW m c) (aB m c) (aU m c) (aC m c) (aV m c) (aD m c) (aL m c) (aG m c) (PF r0 r1 r2 r3 r4 r5 r6 r7 r8) (uF r0 r1 r2) (row_P m c r0 r1 r2 r3 r4 r5 r6 r7 r8 R) (row_u m c r0 r1 r2 r3 r4 r5 r6 r7 r8 R)]
  dsimp only [outsAt0]
  refine (wa_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (bP r2 r4 r6 r7 t ht) (hP r0 r1 r2 r3 r4 r5 r6 r7 t ht) (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (pairR r3 t.val ht) (pairR r5 t.val ht) (blk_h m c t ht (fun d => wH 4096 4096 (fR r0 r1 r2 r3 r4 r7 d) (gR r0 r1 r2 r3 r4 r5 r6 r7 d)) (states m c r0 r1 r2 r3 r4 r5 r6 r7 r8 R)) (blk_v m c r2 r4 r6 r7 t ht R.h2 R.h4 R.h6 R.h7) (point_u m c r0 r1 r2 r3 r4 r5 r6 r7 r8 R t ht _ _ _ _ _ _ _) (point_s m c r0 r1 r2 r3 r4 r5 r6 r7 r8 R t ht _ _ _ _ _ _ _ _ _) (point_y m c r0 r1 r2 r3 r4 r5 r6 r7 r8 R t ht _ _ _ _ _ _ _ _ _) (point_a m c r0 r1 r2 r3 r4 r5 r6 r7 r8 R t ht _ _ _ _ _ _ _ _ _) (point_m m c r0 r1 r2 r3 r4 r5 r6 r7 r8 R t ht _ _ _ _ _ _ _ _ _) (fun d n => mR_ne (lF_neg r0 r1 r2 r3 r4 r7 (ch t.val ht d) n)) (point_g m c r0 r1 r2 r3 r4 r5 r6 r7 r8 R t ht _ _ _ _ _ _ _ _ _ _ _ _ _ _ _) (blk_u m c r3 t ht R.h3) (blk_i m c r5 t ht R.h5) (ix3 y0 y1 y2)).trans (congrArg _ (Finset.sum_congr rfl fun n _ => ?_))
  have e (k : ℕ) (hk : k < 64) : ch t.val ht ⟨64 * y0.val + k, by have := y0.isLt; omega⟩ = ⟨64 * (2 * t.val + y0.val) + k, by have := y0.isLt; omega⟩ := Fin.ext (by unfold ch; dsimp only; omega)
  refine congrArg₂ (· * ·) (congrArg (uF r0 r1 r2 · n.val) (e y1.val y1.isLt)) ((same_P r0 r1 r2 r3 r4 r5 r6 r7 r8 t ht _ n.isLt).trans (congrArg (PF r0 r1 r2 r3 r4 r5 r6 r7 r8 · n.val) (e y2.val y2.isLt)))

theorem wi_final : (dats (F := Ideal) m 0 c).arrAt 10 cfg0.N = val_main_v757 (F := Ideal) (aX m c) (aW m c) (aB m c) (aU m c) (aC m c) (aV m c) (aD m c) (aL m c) (aG m c) := by
  refine (dats (F := Ideal) m 0 c).arrAt_eq_of_covers 10 _ (by decide +kernel) fun t _ y => ?_
  blk_simp
  rw [after0_10]
  have ht : t.val < 4 := lt_of_lt_of_eq t.isLt N_0
  idx_vars y
  have he : ((View.whole main_v206_3).slice (win0_10.rect t)).emb (ix3 y0 y1 y2) = ix3 ⟨2 * t.val + y0.val, by have := y0.isLt; omega⟩ y1 y2 := by blk_ext [idx t]
  rw [he, ref_wi (aX m c) (aW m c) (aB m c) (aU m c) (aC m c) (aV m c) (aD m c) (aL m c) (aG m c) (QF r0 r1 r2 r3 r4 r5 r6 r7 r8) (uF r0 r1 r2) (row_Q m c r0 r1 r2 r3 r4 r5 r6 r7 r8 R) (row_u m c r0 r1 r2 r3 r4 r5 r6 r7 r8 R)]
  dsimp only [outsAt0]
  refine (wi_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (bP r2 r4 r6 r7 t ht) (hP r0 r1 r2 r3 r4 r5 r6 r7 t ht) (uP r0 r1 r2 t ht) (sP r0 r1 r2 r3 r4 t ht) (yP r0 r1 r2 r5 r6 t ht) (aP r0 r1 r2 r3 r4 r7 t ht) (mP r0 r1 r2 r3 r4 r7 t ht) (cP r0 r1 r2 r3 r4 r7 r8 t ht) (pairR r3 t.val ht) (pairR r5 t.val ht) (blk_h m c t ht (fun d => wH 4096 4096 (fR r0 r1 r2 r3 r4 r7 d) (gR r0 r1 r2 r3 r4 r5 r6 r7 d)) (states m c r0 r1 r2 r3 r4 r5 r6 r7 r8 R)) (blk_v m c r2 r4 r6 r7 t ht R.h2 R.h4 R.h6 R.h7) (point_u m c r0 r1 r2 r3 r4 r5 r6 r7 r8 R t ht _ _ _ _ _ _ _) (point_s m c r0 r1 r2 r3 r4 r5 r6 r7 r8 R t ht _ _ _ _ _ _ _ _ _) (point_y m c r0 r1 r2 r3 r4 r5 r6 r7 r8 R t ht _ _ _ _ _ _ _ _ _) (point_a m c r0 r1 r2 r3 r4 r5 r6 r7 r8 R t ht _ _ _ _ _ _ _ _ _) (point_m m c r0 r1 r2 r3 r4 r5 r6 r7 r8 R t ht _ _ _ _ _ _ _ _ _) (fun d n => mR_ne (lF_neg r0 r1 r2 r3 r4 r7 (ch t.val ht d) n)) (point_g m c r0 r1 r2 r3 r4 r5 r6 r7 r8 R t ht _ _ _ _ _ _ _ _ _ _ _ _ _ _ _) (blk_u m c r3 t ht R.h3) (blk_i m c r5 t ht R.h5) (ix3 y0 y1 y2)).trans (congrArg _ (Finset.sum_congr rfl fun n _ => ?_))
  have e (k : ℕ) (hk : k < 64) : ch t.val ht ⟨64 * y0.val + k, by have := y0.isLt; omega⟩ = ⟨64 * (2 * t.val + y0.val) + k, by have := y0.isLt; omega⟩ := Fin.ext (by unfold ch; dsimp only; omega)
  refine congrArg₂ (· * ·) (congrArg (uF r0 r1 r2 · n.val) (e y1.val y1.isLt)) ((same_Q r0 r1 r2 r3 r4 r5 r6 r7 r8 t ht _).trans (congrArg (QF r0 r1 r2 r3 r4 r5 r6 r7 r8 · n.val) (e y2.val y2.isLt)))

end Cert.RnnBwd
-- ==== Proof.RnnBwd.Claim.lean ====
/- The recurrence's backward: the kernel computes the gradient of the rows, the sums over the steps and the gradients of
   the heads' matrices, wherever the arguments are finite and twice the logarithm of the decay is at most the float
   nearest -0.05. -/
module

public import proofs.«01_k».proof.Defs
public import proofs.«01_k».proof.Proof.RnnBwd.Final
public import proofs.«01_k».proof.Proof.Gen.ReferenceRnnBwdIdeal.Run
public import proofs.«01_k».proof.Proof.Gen.Pre_rnn_back_far

@[expose] public section

set_option maxRecDepth 16384

noncomputable section

namespace Cert.RnnBwd

open Idealize.ShloMosaic Idealize.ShloMosaic.TcCoe Idealize.SL.Sem Cert.KernelRnnBwdIdeal Cert.KernelRnnBwdIdeal.Gen Cert.ReferenceRnnBwdIdeal.Read Cert.Lift
open Cert.RnnFwd (uR ref_two ref_xr)

/-- A comparison that holds everywhere, at an index. -/
theorem le_at {s : Shape} {X Y : FVec Ideal s .f32} (h : cmpf .ole X Y = fun _ => 1#1) (i : s.Idx) : X i ≤ Y i := by
  have hi := congrFun h i
  change BitVec.ofBool (decide (X i ≤ Y i)) = 1#1 at hi
  by_contra hn
  simp [hn] at hi

variable (m : (ℓ : Loc nD τ sig) → Buf (Elt Ideal) ℓ)

theorem reals (h : Cert.Pre_KernelRnnBwdIdeal_rnn_back_far m) (c : Dev nD) : ∃ r0 r1 r2 r3 r4 r5 r6 r7 r8, Far m c r0 r1 r2 r3 r4 r5 r6 r7 r8 := by
  obtain ⟨h0, h1, h2, h3, h4, h5, h6, h7, h9, h8⟩ := h c
  obtain ⟨r0, h0⟩ := reals_of (X := Cert.ReferenceRnnFwdIdeal.Read.val_main_v0 (F := Ideal) (aX m c)) h0
  obtain ⟨r1, h1⟩ := reals_of (X := aW m c) h1
  obtain ⟨r2, h2⟩ := reals_of (X := aB m c) h2
  obtain ⟨r3, h3⟩ := reals_of (X := aU m c) h3
  obtain ⟨r4, h4⟩ := reals_of (X := aC m c) h4
  obtain ⟨r5, h5⟩ := reals_of (X := aV m c) h5
  obtain ⟨r6, h6⟩ := reals_of (X := aD m c) h6
  obtain ⟨r7, h7⟩ := reals_of (X := aL m c) h7
  obtain ⟨r8, h8⟩ := reals_of (X := aG m c) h8
  have hf (n : Fin 4096) (j : Fin 512) := le_at (X := Cert.ReferenceRnnFwdIdeal.Read.val_main_v69 (F := Ideal) (aX m c) (aW m c) (aB m c) (aU m c) (aC m c) (aL m c)) h9 (ix2 n j)
  refine ⟨r0, r1, r2, r3, r4, r5, r6, r7, r8, h0, h1, h2, h3, h4, h5, h6, h7, h8, fun n j => ?_⟩
  exact (ref_two _ _ _ _ _ _ r3 r4 r7 (fun n => uR r0 r1 r2 n.val) (ref_xr _ _ _ r0 r1 r2 h0 h1 h2) h3 h4 h7 n j).symm.le.trans (hf n j)

theorem ref_frame : Cert.quiescent_ReferenceRnnBwdIdeal := fun m ρ _ =>
  (θ_run Cert.ReferenceRnnBwdIdeal.defs _ _).mono (fun r h => ⟨fun c => (h c).2.2.2.2, sem_eq_zero_of_no_sems (by decide) r.2⟩)
    (Cert.ReferenceRnnBwdIdeal.Value.run m ρ)

/-- Every result of the kernel is the reference's, of equal arguments. -/
theorem final (c : Dev nD) (r0 : S4096x512.Idx → ℝ) (r1 : S4x512.Idx → ℝ) (r2 : S512.Idx → ℝ) (r3 : S8x64x64.Idx → ℝ) (r4 : S512.Idx → ℝ) (r5 : S8x64x64.Idx → ℝ) (r6 r7 : S512.Idx → ℝ) (r8 : S4096x512.Idx → ℝ) (R : Far m c r0 r1 r2 r3 r4 r5 r6 r7 r8)
    (X : FVec Ideal S4096x2048 .f32) (W : FVec Ideal S4x512 .f32) (B : FVec Ideal S512 .f32) (U : FVec Ideal S8x64x64 .f32) (C : FVec Ideal S512 .f32) (V : FVec Ideal S8x64x64 .f32) (D L : FVec Ideal S512 .f32) (G : FVec Ideal S4096x512 .f32)
    (e0 : X = aX m c) (e1 : W = aW m c) (e2 : B = aB m c) (e3 : U = aU m c) (e4 : C = aC m c) (e5 : V = aV m c) (e6 : D = aD m c) (e7 : L = aL m c) (e8 : G = aG m c) :
    val_main_v819 (F := Ideal) X W B U C V D L G = (dats (F := Ideal) m 0 c).arrAt 7 cfg0.N
    ∧ val_main_v825 (F := Ideal) X W B U C V D L G = (dats (F := Ideal) m 0 c).arrAt 8 cfg0.N
    ∧ val_main_v769 (F := Ideal) X W B U C V D L G = (dats (F := Ideal) m 0 c).arrAt 9 cfg0.N
    ∧ val_main_v757 (F := Ideal) X W B U C V D L G = (dats (F := Ideal) m 0 c).arrAt 10 cfg0.N := by
  subst e0 e1 e2 e3 e4 e5 e6 e7 e8
  exact ⟨(rows_final m c r0 r1 r2 r3 r4 r5 r6 r7 r8 R).symm, (sums_final m c r0 r1 r2 r3 r4 r5 r6 r7 r8 R).symm, (wa_final m c r0 r1 r2 r3 r4 r5 r6 r7 r8 R).symm, (wi_final m c r0 r1 r2 r3 r4 r5 r6 r7 r8 R).symm⟩

theorem algebraic : Cert.algebraic_KernelRnnBwdIdeal_ReferenceRnnBwdIdeal_pre_rnn_back_far := by
  pair_intro
  · run_from Cert.KernelRnnBwdIdeal.Value.run_blocks m g
  · refine (θ_run Cert.ReferenceRnnBwdIdeal.defs _ _).mono (fun r h c => ?_) (Cert.ReferenceRnnBwdIdeal.Value.run m' g')
    obtain ⟨r0, r1, r2, r3, r4, r5, r6, r7, r8, R⟩ := reals m hpre c
    obtain ⟨q0, q1, q2, q3, q4, q5, q6, q7, q8⟩ := hagree c
    obtain ⟨f0, f1, f2, f3⟩ := final m c r0 r1 r2 r3 r4 r5 r6 r7 r8 R _ _ _ _ _ _ _ _ _ q0 q1 q2 q3 q4 q5 q6 q7 q8
    obtain ⟨a0, a1, a2, a3, hargs⟩ := h c
    exact ⟨(a0.trans (val_main_v819_eq _)).trans f0, (a1.trans (val_main_v825_eq _)).trans f1, (a2.trans (val_main_v769_eq _)).trans f2, (a3.trans (val_main_v757_eq _)).trans f3, hargs⟩

end Cert.RnnBwd

end
-- ==== Proof.RnnFwd.KOut.lean ====
/- The rows one grid point of the kernel stores: the recurrence at each row, and its product with the gate. -/
module

public import proofs.«01_k».proof.Proof.RnnFwd.KScan

@[expose] public section

set_option maxRecDepth 16384

noncomputable section

namespace Cert.RnnFwd

open Idealize.ShloMosaic Idealize.ShloMosaic.TcCoe Idealize.SL.Sem
open Idealize.ShloMosaic.Pipeline (Dat)
open Cert.KernelRnnFwdIdeal Cert.KernelRnnFwdIdeal.Gen Cert.Lift

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S8x128 .f32) (harg3 : arg3.IsWhole) (arg4 : Memref sig .tc .vmem S8x128 .f32) (harg4 : arg4.IsWhole)
  (arg5 : Memref sig .tc .vmem S1x128x128 .bf16) (harg5 : arg5.IsWhole) (arg6 : Memref sig .tc .vmem S1x128x128 .bf16) (harg6 : arg6.IsWhole) (arg7 : Memref sig .tc .vmem S4096x128 .f32) (harg7 : arg7.IsWhole) (arg8 : Memref sig .tc .vmem S4096x128 .bf16) (harg8 : arg8.IsWhole)
  (arg9 : Memref sig .tc .vmem S4104x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S512x128 .f32) (harg12 : arg12.IsWhole)
  (x0 x1 : Vec Ideal S4096x128 .f32) (x2 x3 : Vec Ideal S8x128 .f32) (x4 x5 : Vec Ideal S1x128x128 .bf16)
  (a b : Fin 128 → ℕ → ℝ) (hA : Rows (kernelRun0_A.sl.v90 (F := Ideal) c arg1 harg1 arg3 harg3 arg4 harg4 arg5 harg5 arg9 x0 x2 x3 x4) a)
  (hB : Rows (kernelRun0_A.sl.v117 (F := Ideal) c arg1 harg1 arg3 harg3 arg4 harg4 arg5 harg5 arg6 harg6 arg9 x0 x2 x3 x4 x5) b)

section
include hA

theorem sa : Rows (kernelRun0_A.sl.v170 (F := Ideal) c arg1 harg1 arg3 harg3 arg4 harg4 arg5 harg5 arg9 x0 x2 x3 x4) fun c => wA 8 8 (a c) :=
  (eight _ _ a a hA hA _ (by decide)).1

/-- The last rows of the blocks. -/
theorem sa_last : Rows (kernelRun0_A.sl.v174 (F := Ideal) c arg1 harg1 arg3 harg3 arg4 harg4 arg5 harg5 arg9 arg10 x0 x2 x3 x4) fun c r => pA (a c) (8 * r) 8 :=
  fun i d => (last_of arg10.view _ _ _ i d).trans ((sa c arg1 harg1 arg3 harg3 arg4 harg4 arg5 harg5 arg9 x0 x2 x3 x4 a hA _ d).trans (congrArg _ (by
    obtain ⟨h1, h2⟩ := last_window i.val
    show pA _ _ _ = pA _ _ _
    rw [h1, h2])))

include hB

theorem sb : Rows (kernelRun0_A.sl.v173 (F := Ideal) c arg1 harg1 arg3 harg3 arg4 harg4 arg5 harg5 arg6 harg6 arg9 x0 x2 x3 x4 x5) fun c => wH 8 8 (a c) (b c) :=
  (eight _ _ a b hA hB (by decide) _).2

theorem sb_last : Rows (kernelRun0_A.sl.v175 (F := Ideal) c arg1 harg1 arg3 harg3 arg4 harg4 arg5 harg5 arg6 harg6 arg9 arg11 x0 x2 x3 x4 x5) fun c r => pH (a c) (b c) (8 * r) 8 :=
  fun i d => (last_of arg11.view _ _ _ i d).trans ((sb c arg1 harg1 arg3 harg3 arg4 harg4 arg5 harg5 arg6 harg6 arg9 x0 x2 x3 x4 x5 a b hA hB _ d).trans (congrArg _ (by
    obtain ⟨h1, h2⟩ := last_window i.val
    show pH _ _ _ _ = pH _ _ _ _
    rw [h1, h2])))

theorem carry : Rows (kernelRun0_A.sl.v280 (F := Ideal) c arg1 harg1 arg3 harg3 arg4 harg4 arg5 harg5 arg6 harg6 arg9 arg10 arg11 x0 x2 x3 x4 x5) fun c r => pH (a c) (b c) 0 (8 * r) := by
  intro i d
  refine (carried _ _ _ _ (sa_last c arg1 harg1 arg3 harg3 arg4 harg4 arg5 harg5 arg9 arg10 x0 x2 x3 x4 a hA) (sb_last c arg1 harg1 arg3 harg3 arg4 harg4 arg5 harg5 arg6 harg6 arg9 arg11 x0 x2 x3 x4 x5 a b hA hB) _ i d).trans (congrArg _ ?_)
  exact blocks (a d) (b d) i.val

set_option maxHeartbeats 4000000 in
theorem stored : All (kernelRun0_A.sl.H6_512 (F := Ideal) c arg1 harg1 arg3 harg3 arg4 harg4 arg5 harg5 arg6 harg6 arg9 arg10 arg11 arg12 x0 x2 x3 x4 x5) (stateAt a b) := by
  have hV := sa c arg1 harg1 arg3 harg3 arg4 harg4 arg5 harg5 arg9 x0 x2 x3 x4 a hA
  have hW := sb c arg1 harg1 arg3 harg3 arg4 harg4 arg5 harg5 arg6 harg6 arg9 x0 x2 x3 x4 x5 a b hA hB
  have hC := carry c arg1 harg1 arg3 harg3 arg4 harg4 arg5 harg5 arg6 harg6 arg9 arg10 arg11 x0 x2 x3 x4 x5 a b hA hB
  unfold kernelRun0_A.sl.H6_512
  repeat refine All.cons (piece a b arg10.view arg11.view arg12.view _ _ _ hV hW hC _ _ (by rfl) _ _ _ _ _ _ _ _) ?_
  exact All.nil _

theorem state_out (y : S4096x128.Idx) : out0_A_6 c i arg1 harg1 arg2 harg2 arg3 harg3 arg4 harg4 arg5 harg5 arg6 harg6 arg7 harg7 arg8 harg8 arg9 harg9 arg10 harg10 arg11 harg11 arg12 harg12 x0 x1 x2 x3 x4 x5 y = stateAt a b y := by
  unfold out0_A_6
  rw [View.read_writes_junk_eq_canon]
  exact All.canon _ _ (stored c arg1 harg1 arg3 harg3 arg4 harg4 arg5 harg5 arg6 harg6 arg9 arg10 arg11 arg12 x0 x2 x3 x4 x5 a b hA hB) y (cover0_A_6 c i arg1 harg1 arg2 harg2 arg3 harg3 arg4 harg4 arg5 harg5 arg6 harg6 arg7 harg7 arg8 harg8 arg9 harg9 arg10 harg10 arg11 harg11 arg12 harg12 x0 x1 x2 x3 x4 x5 y)

include i arg2 harg2 arg7 harg7 arg8 harg8 harg9 harg10 harg11 harg12 x1 in
/-- The recurrence, read back whole. -/
theorem read_back (y : S4096x128.Idx) : kernelRun0_A.sl.v3879 (F := Ideal) c arg1 harg1 arg3 harg3 arg4 harg4 arg5 harg5 arg6 harg6 arg7 arg9 arg10 arg11 arg12 x0 x2 x3 x4 x5 y = stateAt a b y := by
  show arg7.view.readCov (Val := Elt Ideal) (kernelRun0_A.sl.H6_512 (F := Ideal) c arg1 harg1 arg3 harg3 arg4 harg4 arg5 harg5 arg6 harg6 arg9 arg10 arg11 arg12 x0 x2 x3 x4 x5) (Rect.unit (s := S4096x128) ![0, 0] S4096x128.size inb_S4096x128_S4096x128_0_0).toLoadRect y = _
  rw [View.readCov_eq_canon']
  have e : (Rect.unit (s := S4096x128) ![0, 0] S4096x128.size inb_S4096x128_S4096x128_0_0).toLoadRect.idx y = y :=
    funext fun d => Fin.ext (by
      show (![0, 0] : Fin 2 → ℕ) d + 1 * (y d).val = (y d).val
      match d with
      | ⟨0, _⟩ => show 0 + 1 * _ = _; omega
      | ⟨1, _⟩ => show 0 + 1 * _ = _; omega)
  exact (congrArg _ e).trans (All.canon _ _ (stored c arg1 harg1 arg3 harg3 arg4 harg4 arg5 harg5 arg6 harg6 arg9 arg10 arg11 arg12 x0 x2 x3 x4 x5 a b hA hB) y (cover0_A_6 c i arg1 harg1 arg2 harg2 arg3 harg3 arg4 harg4 arg5 harg5 arg6 harg6 arg7 harg7 arg8 harg8 arg9 harg9 arg10 harg10 arg11 harg11 arg12 harg12 x0 x1 x2 x3 x4 x5 y))

theorem gated_out (y : S4096x128.Idx) : out0_A_7 c i arg1 harg1 arg2 harg2 arg3 harg3 arg4 harg4 arg5 harg5 arg6 harg6 arg7 harg7 arg8 harg8 arg9 harg9 arg10 harg10 arg11 harg11 arg12 harg12 x0 x1 x2 x3 x4 x5 y
    = k0_pay587 (F := Ideal) x1 y * stateAt a b y := by
  unfold out0_A_7
  rw [View.read_writes_junk_eq_canon]
  refine (canon_hit (Val := Elt Ideal) (e := .bf16) _ _ [] y y (fun d => ?_)).trans ?_
  · match d with
    | ⟨0, _⟩ => exact (Nat.zero_add _).symm
    | ⟨1, _⟩ => exact (Nat.zero_add _).symm
  · have e : View.readAt (Elt Ideal) arg2.view (Rect.unit (s := S4096x128) ![0, 0] S4096x128.size inb_S4096x128_S4096x128_0_0).toLoadRect (harg2.unread x1) = x1 := by
      funext z
      idx_vars z
      refine (congrFun (harg2.read_unread x1) _).trans (congrArg x1 (funext (Fin.forall_fin_two.mpr ⟨Fin.ext ?_, Fin.ext ?_⟩)))
      · show 0 + 1 * z0.val = z0.val
        omega
      · show 0 + 1 * z1.val = z1.val
        omega
    show k0_pay587 (F := Ideal) (View.readAt (Elt Ideal) arg2.view (Rect.unit (s := S4096x128) ![0, 0] S4096x128.size inb_S4096x128_S4096x128_0_0).toLoadRect (harg2.unread x1)) y
      * k0_pay588 (F := Ideal) (kernelRun0_A.sl.v3879 (F := Ideal) c arg1 harg1 arg3 harg3 arg4 harg4 arg5 harg5 arg6 harg6 arg7 arg9 arg10 arg11 arg12 x0 x2 x3 x4 x5) y = _
    rw [e, k0_pay588, shapeCast_self]
    exact congrArg _ (read_back c i arg1 harg1 arg2 harg2 arg3 harg3 arg4 harg4 arg5 harg5 arg6 harg6 arg7 harg7 arg8 harg8 arg9 harg9 arg10 harg10 arg11 harg11 arg12 harg12 x0 x1 x2 x3 x4 x5 a b hA hB y)

end

end Cert.RnnFwd
-- ==== Proof.RnnFwd.RefScan.lean ====
/- The states the reference scans, from its factors and its summands. -/
module

public import proofs.«01_k».proof.Proof.Gen.ReferenceRnnFwdIdeal.Read
public import proofs.«01_k».proof.Proof.RnnFwd.Scan

@[expose] public section

set_option maxRecDepth 16384

noncomputable section

namespace Cert.RnnFwd

open Idealize.ShloMosaic Idealize.ShloMosaic.TcCoe Idealize.SL.Sem
open Cert.ReferenceRnnFwdIdeal Cert.ReferenceRnnFwdIdeal.Gen Cert.ReferenceRnnFwdIdeal.Read Cert.Lift

variable (x0 : Vec Ideal S4096x2048 .f32) (x1 : Vec Ideal S4x512 .f32) (x2 : Vec Ideal S512 .f32) (x3 : Vec Ideal S8x64x64 .f32) (x4 : Vec Ideal S512 .f32)
  (x5 : Vec Ideal S8x64x64 .f32) (x6 x7 : Vec Ideal S512 .f32)

set_option maxHeartbeats 4000000 in
theorem ref_states (f g : Fin 512 → ℕ → ℝ) (b0 : Both (val_main_v67 (F := Ideal) x0 x1 x2 x3 x4 x7) (val_main_v74 x0 x1 x2 x3 x4 x5 x6 x7) f g 0) :
    States (val_main_v362 (F := Ideal) x0 x1 x2 x3 x4 x5 x6 x7) f g 0 := by
  have zf : ∀ x : S_.Idx, constant (F := Ideal) S_ .f32 0x00000000#32 x = 0 := fun x => by pointwise
  have b1 : Both (val_main_v79 (F := Ideal) x0 x1 x2 x3 x4 x7) (val_main_v81 x0 x1 x2 x3 x4 x5 x6 x7) f g 1 := down b0 rfl _ _ _ _
  have b2 : Both (val_main_v86 (F := Ideal) x0 x1 x2 x3 x4 x7) (val_main_v88 x0 x1 x2 x3 x4 x5 x6 x7) f g 2 := down b1 rfl _ _ _ _
  have b3 : Both (val_main_v93 (F := Ideal) x0 x1 x2 x3 x4 x7) (val_main_v95 x0 x1 x2 x3 x4 x5 x6 x7) f g 3 := down b2 rfl _ _ _ _
  have b4 : Both (val_main_v100 (F := Ideal) x0 x1 x2 x3 x4 x7) (val_main_v102 x0 x1 x2 x3 x4 x5 x6 x7) f g 4 := down b3 rfl _ _ _ _
  have b5 : Both (val_main_v107 (F := Ideal) x0 x1 x2 x3 x4 x7) (val_main_v109 x0 x1 x2 x3 x4 x5 x6 x7) f g 5 := down b4 rfl _ _ _ _
  have b6 : Both (val_main_v114 (F := Ideal) x0 x1 x2 x3 x4 x7) (val_main_v116 x0 x1 x2 x3 x4 x5 x6 x7) f g 6 := down b5 rfl _ _ _ _
  have b7 : Both (val_main_v121 (F := Ideal) x0 x1 x2 x3 x4 x7) (val_main_v123 x0 x1 x2 x3 x4 x5 x6 x7) f g 7 := down b6 rfl _ _ _ _
  have b8 : Both (val_main_v128 (F := Ideal) x0 x1 x2 x3 x4 x7) (val_main_v130 x0 x1 x2 x3 x4 x5 x6 x7) f g 8 := down b7 rfl _ _ _ _
  have b9 : Both (val_main_v135 (F := Ideal) x0 x1 x2 x3 x4 x7) (val_main_v137 x0 x1 x2 x3 x4 x5 x6 x7) f g 9 := down b8 rfl _ _ _ _
  have b10 : Both (val_main_v142 (F := Ideal) x0 x1 x2 x3 x4 x7) (val_main_v144 x0 x1 x2 x3 x4 x5 x6 x7) f g 10 := down b9 rfl _ _ _ _
  have b11 : Both (val_main_v149 (F := Ideal) x0 x1 x2 x3 x4 x7) (val_main_v151 x0 x1 x2 x3 x4 x5 x6 x7) f g 11 := down b10 rfl _ _ _ _
  have b12 : Both (val_main_v156 (F := Ideal) x0 x1 x2 x3 x4 x7) (val_main_v158 x0 x1 x2 x3 x4 x5 x6 x7) f g 12 := down b11 rfl _ _ _ _
  have o12 : States (val_main_v158 (F := Ideal) x0 x1 x2 x3 x4 x5 x6 x7) f g 12 := last b12
  have o11 : States (val_main_v175 (F := Ideal) x0 x1 x2 x3 x4 x5 x6 x7) f g 11 := up b11 o12 rfl rfl _ _ zf zf _ _ _ _ _ _ _ _ _
  have o10 : States (val_main_v192 (F := Ideal) x0 x1 x2 x3 x4 x5 x6 x7) f g 10 := up b10 o11 rfl rfl _ _ zf zf _ _ _ _ _ _ _ _ _
  have o9 : States (val_main_v209 (F := Ideal) x0 x1 x2 x3 x4 x5 x6 x7) f g 9 := up b9 o10 rfl rfl _ _ zf zf _ _ _ _ _ _ _ _ _
  have o8 : States (val_main_v226 (F := Ideal) x0 x1 x2 x3 x4 x5 x6 x7) f g 8 := up b8 o9 rfl rfl _ _ zf zf _ _ _ _ _ _ _ _ _
  have o7 : States (val_main_v243 (F := Ideal) x0 x1 x2 x3 x4 x5 x6 x7) f g 7 := up b7 o8 rfl rfl _ _ zf zf _ _ _ _ _ _ _ _ _
  have o6 : States (val_main_v260 (F := Ideal) x0 x1 x2 x3 x4 x5 x6 x7) f g 6 := up b6 o7 rfl rfl _ _ zf zf _ _ _ _ _ _ _ _ _
  have o5 : States (val_main_v277 (F := Ideal) x0 x1 x2 x3 x4 x5 x6 x7) f g 5 := up b5 o6 rfl rfl _ _ zf zf _ _ _ _ _ _ _ _ _
  have o4 : States (val_main_v294 (F := Ideal) x0 x1 x2 x3 x4 x5 x6 x7) f g 4 := up b4 o5 rfl rfl _ _ zf zf _ _ _ _ _ _ _ _ _
  have o3 : States (val_main_v311 (F := Ideal) x0 x1 x2 x3 x4 x5 x6 x7) f g 3 := up b3 o4 rfl rfl _ _ zf zf _ _ _ _ _ _ _ _ _
  have o2 : States (val_main_v328 (F := Ideal) x0 x1 x2 x3 x4 x5 x6 x7) f g 2 := up b2 o3 rfl rfl _ _ zf zf _ _ _ _ _ _ _ _ _
  have o1 : States (val_main_v345 (F := Ideal) x0 x1 x2 x3 x4 x5 x6 x7) f g 1 := up b1 o2 rfl rfl _ _ zf zf _ _ _ _ _ _ _ _ _
  exact up b0 o1 rfl rfl _ _ zf zf _ _ _ _ _ _ _ _ _

end Cert.RnnFwd
-- ==== Proof.RnnFwd.Final.lean ====
/- The kernel's two arrays are the reference's: the recurrence, and its product with the gate's tanh unit. -/
module

public import proofs.«01_k».proof.Proof.RnnFwd.KHost
public import proofs.«01_k».proof.Proof.RnnFwd.KOut
public import proofs.«01_k».proof.Proof.RnnFwd.RefScan

@[expose] public section

set_option maxRecDepth 16384

noncomputable section

namespace Cert.RnnFwd

open Idealize.ShloMosaic Idealize.ShloMosaic.TcCoe Idealize.SL.Sem
open Idealize.ShloMosaic.Pipeline (Dat)
open Cert.KernelRnnFwdIdeal Cert.KernelRnnFwdIdeal.Gen Cert.ReferenceRnnFwdIdeal.Read Cert.Lift

theorem c_44715 : Ideal.ofBits .f32 0x472EAB00#32 = ((44715 : ℝ) : EReal) := by
  simp [Ideal.ofBits, Ideal.ieee, -EReal.coe_mul]; norm_num
theorem c_million : Ideal.ofBits .f32 0x49742400#32 = ((1000000 : ℝ) : EReal) := by
  simp [Ideal.ofBits, Ideal.ieee, -EReal.coe_mul]; norm_num
theorem nm_c : Named.named (F := Ideal) Cert.KernelRnnFwdIdeal.κ "gelu_c" (φ := .f32) 0x3D372713#32 = ((44715 / 1000000 : ℝ) : EReal) := by
  refine (rfl : _ = ((8943 / 200000 : ℝ) : EReal)).trans ?_
  norm_num

/-- The tanh unit of the gate. -/
def unitE (x : EReal) : EReal :=
  Ideal.ofBits .f32 0x3F000000#32 * x * (1 + Ideal.tanh (Ideal.ofBits .f32 0x3F4C422A#32 * (x + ((44715 / 1000000 : ℝ) : EReal) * x * (x * x))))

theorem unit_ker (v : FVec Ideal S4096x128 .f32) (n : Fin 4096) (d : Fin 128) : k0_pay587 (F := Ideal) v (ix2 n d) = unitE (v (ix2 n d)) := by
  unfold unitE
  pointwise [k0_pay587, nm_c]

theorem unit_eq (x h k c : EReal) : x * (h * (1 + Ideal.tanh (k * (x + c * (x * x * x))))) = h * x * (1 + Ideal.tanh (k * (x + c * x * (x * x)))) := by
  rw [mul_assoc x x x, ← mul_assoc c x (x * x), mul_left_comm, ← mul_assoc h x]

theorem unit_ref (X : FVec Ideal S4096x2048 .f32) (n : Fin 4096) (j : Fin 512) : val_main_v377 (F := Ideal) X (ix2 n j) = unitE (X (ix2 n ⟨1536 + j.val, by omega⟩)) := by
  have hc (i : S_.Idx) : val_main_v364 (F := Ideal) i = ((44715 / 1000000 : ℝ) : EReal) := by
    pointwise [val_main_v364, val_main_cst_55, val_main_cst_56]
    rw [c_44715, c_million, div_real (by norm_num)]
  unfold unitE
  pointwise [val_main_v377, val_main_v376, val_main_v375, val_main_v374, val_main_v373, val_main_v372, val_main_v371, val_main_v370, val_main_v369, val_main_v368, val_main_v367, val_main_v366, val_main_v365, val_main_v363,
    val_main_cst_57, val_main_cst_58, val_main_cst_59, hc]
  exact unit_eq _ _ _ _

theorem gated_ref (X : FVec Ideal S4096x2048 .f32) (W : FVec Ideal S4x512 .f32) (B : FVec Ideal S512 .f32) (U : FVec Ideal S8x64x64 .f32) (C : FVec Ideal S512 .f32) (G : FVec Ideal S8x64x64 .f32) (D L : FVec Ideal S512 .f32) (n : Fin 4096) (j : Fin 512) :
    val_main_v379 (F := Ideal) X W B U C G D L (ix2 n j) = val_main_v377 (F := Ideal) X (ix2 n j) * val_main_v362 (F := Ideal) X W B U C G D L (ix2 n j) := by
  pointwise [val_main_v379, val_main_v378]

variable (m : (ℓ : Loc nD τ sig) → Buf (Elt Ideal) ℓ) (c : Dev nD)
variable (r0 : S4096x512.Idx → ℝ) (r1 : S4x512.Idx → ℝ) (r2 : S512.Idx → ℝ) (r3 : S8x64x64.Idx → ℝ) (r4 : S512.Idx → ℝ) (r5 : S8x64x64.Idx → ℝ) (r6 r7 : S512.Idx → ℝ)

/-- The arguments are finite and the decay stays away from one. -/
structure Far : Prop where
  h0 : ∀ i, val_main_v0 (F := Ideal) (aX m c) i = ((r0 i : ℝ) : EReal)
  h1 : ∀ i, aW m c i = ((r1 i : ℝ) : EReal)
  h2 : ∀ i, aB m c i = ((r2 i : ℝ) : EReal)
  h3 : ∀ i, aU m c i = ((r3 i : ℝ) : EReal)
  h4 : ∀ i, aC m c i = ((r4 i : ℝ) : EReal)
  h5 : ∀ i, aV m c i = ((r5 i : ℝ) : EReal)
  h6 : ∀ i, aD m c i = ((r6 i : ℝ) : EReal)
  h7 : ∀ i, aL m c i = ((r7 i : ℝ) : EReal)
  hf : ∀ (n : Fin 4096) j, ((2 * laR (zR (uR r0 r1 r2 n.val) r3 (r4 (ix1 j)) j) (r7 (ix1 j)) : ℝ) : EReal) ≤ Ideal.ofBits .f32 0xBD4CCCCD#32

variable (R : Far m c r0 r1 r2 r3 r4 r5 r6 r7)
include R

theorem ref_state (n : Fin 4096) (j : Fin 512) : val_main_v362 (F := Ideal) (aX m c) (aW m c) (aB m c) (aU m c) (aC m c) (aV m c) (aD m c) (aL m c) (ix2 n j)
    = ((pH (fR r0 r1 r2 r3 r4 r7 j) (gR r0 r1 r2 r3 r4 r5 r6 r7 j) 0 (n.val + 1) : ℝ) : EReal) :=
  ref_states (aX m c) (aW m c) (aB m c) (aU m c) (aC m c) (aV m c) (aD m c) (aL m c) (fR r0 r1 r2 r3 r4 r7) (gR r0 r1 r2 r3 r4 r5 r6 r7)
    ⟨fun n j => (ref_both _ _ _ _ _ _ _ _ r3 r4 r5 r6 r7 (fun n => uR r0 r1 r2 n.val) (ref_xr _ _ _ r0 r1 r2 R.h0 R.h1 R.h2) R.h3 R.h4 R.h5 R.h6 R.h7 n j).1,
      fun n j => (ref_both _ _ _ _ _ _ _ _ r3 r4 r5 r6 r7 (fun n => uR r0 r1 r2 n.val) (ref_xr _ _ _ r0 r1 r2 R.h0 R.h1 R.h2) R.h3 R.h4 R.h5 R.h6 R.h7 n j).2⟩ n j

section point
variable (t : Fin cfg0.N) (ht : t.val < 4)

/-- The decay and the added term of a grid point. -/
theorem point_a (w1 : Memref sig .tc .vmem S4096x128 .f32) (e1 : w1.IsWhole) (w3 w4 : Memref sig .tc .vmem S8x128 .f32) (e3 : w3.IsWhole) (e4 : w4.IsWhole) (w5 : Memref sig .tc .vmem S1x128x128 .bf16) (e5 : w5.IsWhole) (w9 : Memref sig .tc .vmem S4104x128 .f32) :
    Rows (kernelRun0_A.sl.v90 (F := Ideal) c w1 e1 w3 e3 w4 e4 w5 e5 w9 (iblk m c 0 t) (iblk m c 2 t) (iblk m c 3 t) (iblk m c 4 t)) fun d => fR r0 r1 r2 r3 r4 r7 (ch t.val ht d) := fun n d =>
  (a_rows c w1 e1 w3 e3 w4 e4 w5 e5 w9 _ _ _ _ _ _ _ _ (blk_x m c t ht r0 R.h0) (blk_w m c t ht r1 R.h1) (blk_v m c t ht r2 r4 r6 r7 R.h2 R.h4 R.h6 R.h7) (blk_u m c t ht r3 R.h3) n d).trans
    (congrArg (fun z : ℝ => ((Real.exp (laR z (r7 (ix1 (ch t.val ht d)))) : ℝ) : EReal)) (zK_eq t ht r0 r1 r2 r4 r6 r7 r3 1 d n.val))

theorem point_b (w1 : Memref sig .tc .vmem S4096x128 .f32) (e1 : w1.IsWhole) (w3 w4 : Memref sig .tc .vmem S8x128 .f32) (e3 : w3.IsWhole) (e4 : w4.IsWhole) (w5 w6 : Memref sig .tc .vmem S1x128x128 .bf16) (e5 : w5.IsWhole) (e6 : w6.IsWhole) (w9 : Memref sig .tc .vmem S4104x128 .f32) :
    Rows (kernelRun0_A.sl.v117 (F := Ideal) c w1 e1 w3 e3 w4 e4 w5 e5 w6 e6 w9 (iblk m c 0 t) (iblk m c 2 t) (iblk m c 3 t) (iblk m c 4 t) (iblk m c 5 t)) fun d => gR r0 r1 r2 r3 r4 r5 r6 r7 (ch t.val ht d) := fun n d =>
  (b_rows c w1 e1 w3 e3 w4 e4 w5 e5 w6 e6 w9 _ _ _ _ _ _ _ _ _ _ (blk_x m c t ht r0 R.h0) (blk_w m c t ht r1 R.h1) (blk_v m c t ht r2 r4 r6 r7 R.h2 R.h4 R.h6 R.h7) (blk_u m c t ht r3 R.h3) (blk_i m c t ht r5 R.h5)
    (fun d n => by rw [zK_eq t ht r0 r1 r2 r4 r6 r7 r3 1 d n.val]; exact R.hf n (ch t.val ht d)) n d).trans
    (congrArg₂ (fun z y : ℝ => ((addR z y (r7 (ix1 (ch t.val ht d))) (uR r0 r1 r2 n.val (ch t.val ht d)) : ℝ) : EReal)) (zK_eq t ht r0 r1 r2 r4 r6 r7 r3 1 d n.val) (zK_eq t ht r0 r1 r2 r4 r6 r7 r5 2 d n.val))
end point

theorem state_final : (dats (F := Ideal) m 0 c).arrAt 6 cfg0.N = val_main_v362 (F := Ideal) (aX m c) (aW m c) (aB m c) (aU m c) (aC m c) (aV m c) (aD m c) (aL m c) := by
  refine (dats (F := Ideal) m 0 c).arrAt_eq_of_covers 6 _ (by decide +kernel) fun t _ y => ?_
  blk_simp
  rw [after0_6]
  have ht : t.val < 4 := lt_of_lt_of_eq t.isLt N_0
  idx_vars y
  have he : ((View.whole main_v22_0).slice (win0_6.rect t)).emb (ix2 y0 y1) = ix2 y0 (ch t.val ht y1) := by unfold ch; blk_ext [idx t]
  rw [he, ref_state m c r0 r1 r2 r3 r4 r5 r6 r7 R]
  dsimp only [outsAt0]
  exact state_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) _ _
    (point_a m c r0 r1 r2 r3 r4 r5 r6 r7 R t ht _ _ _ _ _ _ _ _ _)
    (point_b m c r0 r1 r2 r3 r4 r5 r6 r7 R t ht _ _ _ _ _ _ _ _ _ _ _) (ix2 y0 y1)

theorem gated_final : (dats (F := Ideal) m 0 c).arrAt 7 cfg0.N = val_main_v379 (F := Ideal) (aX m c) (aW m c) (aB m c) (aU m c) (aC m c) (aV m c) (aD m c) (aL m c) := by
  refine (dats (F := Ideal) m 0 c).arrAt_eq_of_covers 7 _ (by decide +kernel) fun t _ y => ?_
  blk_simp
  rw [after0_7]
  have ht : t.val < 4 := lt_of_lt_of_eq t.isLt N_0
  idx_vars y
  have he : ((View.whole main_v22_1).slice (win0_7.rect t)).emb (ix2 y0 y1) = ix2 y0 (ch t.val ht y1) := by unfold ch; blk_ext [idx t]
  have hx : iblk (F := Ideal) m c 1 t (ix2 y0 y1) = aX m c (ix2 y0 ⟨1536 + (ch t.val ht y1).val, by unfold ch; dsimp only; omega⟩) := by unfold aX ch; blk_point [iblk, V, idx t]
  rw [he, gated_ref, ref_state m c r0 r1 r2 r3 r4 r5 r6 r7 R, unit_ref, ← hx, ← unit_ker]
  dsimp only [outsAt0]
  exact gated_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) _ _
    (point_a m c r0 r1 r2 r3 r4 r5 r6 r7 R t ht _ _ _ _ _ _ _ _ _)
    (point_b m c r0 r1 r2 r3 r4 r5 r6 r7 R t ht _ _ _ _ _ _ _ _ _ _ _) (ix2 y0 y1)

end Cert.RnnFwd
-- ==== Proof.RnnFwd.Claim.lean ====
/- The recurrence's forward: the kernel computes the states and their product with the gate's unit, wherever the
   arguments are finite and twice the logarithm of the decay is at most the float nearest -0.05. -/
module

public import proofs.«01_k».proof.Defs
public import proofs.«01_k».proof.Proof.RnnFwd.Final
public import proofs.«01_k».proof.Proof.Gen.ReferenceRnnFwdIdeal.Run
public import proofs.«01_k».proof.Proof.Gen.Pre_rnn_far

@[expose] public section

set_option maxRecDepth 16384

noncomputable section

namespace Cert.RnnFwd

open Idealize.ShloMosaic Idealize.ShloMosaic.TcCoe Idealize.SL.Sem Cert.KernelRnnFwdIdeal Cert.KernelRnnFwdIdeal.Gen Cert.ReferenceRnnFwdIdeal.Read Cert.Lift

/-- A comparison that holds everywhere, at an index. -/
theorem le_of_all {s : Shape} {X Y : FVec Ideal s .f32} (h : cmpf .ole X Y = fun _ => 1#1) (i : s.Idx) : X i ≤ Y i := by
  have hi := congrFun h i
  change BitVec.ofBool (decide (X i ≤ Y i)) = 1#1 at hi
  by_contra hn
  simp [hn] at hi

variable (m : (ℓ : Loc nD τ sig) → Buf (Elt Ideal) ℓ)

theorem reals (h : Cert.Pre_KernelRnnFwdIdeal_rnn_far m) (c : Dev nD) : ∃ r0 r1 r2 r3 r4 r5 r6 r7, Far m c r0 r1 r2 r3 r4 r5 r6 r7 := by
  obtain ⟨h0, h1, h2, h3, h4, h5, h6, h7, h8⟩ := h c
  obtain ⟨r0, h0⟩ := reals_of (X := val_main_v0 (F := Ideal) (aX m c)) h0
  obtain ⟨r1, h1⟩ := reals_of (X := aW m c) h1
  obtain ⟨r2, h2⟩ := reals_of (X := aB m c) h2
  obtain ⟨r3, h3⟩ := reals_of (X := aU m c) h3
  obtain ⟨r4, h4⟩ := reals_of (X := aC m c) h4
  obtain ⟨r5, h5⟩ := reals_of (X := aV m c) h5
  obtain ⟨r6, h6⟩ := reals_of (X := aD m c) h6
  obtain ⟨r7, h7⟩ := reals_of (X := aL m c) h7
  have hf (n : Fin 4096) (j : Fin 512) := le_of_all (X := val_main_v69 (F := Ideal) (aX m c) (aW m c) (aB m c) (aU m c) (aC m c) (aL m c)) h8 (ix2 n j)
  refine ⟨r0, r1, r2, r3, r4, r5, r6, r7, h0, h1, h2, h3, h4, h5, h6, h7, fun n j => ?_⟩
  exact (ref_two _ _ _ _ _ _ r3 r4 r7 (fun n => uR r0 r1 r2 n.val) (ref_xr _ _ _ r0 r1 r2 h0 h1 h2) h3 h4 h7 n j).symm.le.trans (hf n j)

theorem ref_frame : Cert.quiescent_ReferenceRnnFwdIdeal := fun m ρ _ =>
  (θ_run Cert.ReferenceRnnFwdIdeal.defs _ _).mono (fun r h => ⟨fun c => (h c).2.2, sem_eq_zero_of_no_sems (by decide) r.2⟩)
    (Cert.ReferenceRnnFwdIdeal.Value.run m ρ)

/-- The named constant of the kernel's tanh is the number it stands for. -/
theorem preserves : Cert.preserves_KernelRnnFwd_KernelRnnFwdIdeal :=
  IdealRules.named_const.statement Cert.KernelRnnFwdIdeal.κ "gelu_c" .f32 0x3D372713#32 ((8943 / 200000 : ℝ) : EReal) rfl

/-- Every result of the kernel is the reference's, of equal arguments. -/
theorem final (c : Dev nD) (r0 : S4096x512.Idx → ℝ) (r1 : S4x512.Idx → ℝ) (r2 : S512.Idx → ℝ) (r3 : S8x64x64.Idx → ℝ) (r4 : S512.Idx → ℝ) (r5 : S8x64x64.Idx → ℝ) (r6 r7 : S512.Idx → ℝ) (R : Far m c r0 r1 r2 r3 r4 r5 r6 r7)
    (X : FVec Ideal S4096x2048 .f32) (W : FVec Ideal S4x512 .f32) (B : FVec Ideal S512 .f32) (U : FVec Ideal S8x64x64 .f32) (C : FVec Ideal S512 .f32) (G : FVec Ideal S8x64x64 .f32) (D L : FVec Ideal S512 .f32)
    (e0 : X = aX m c) (e1 : W = aW m c) (e2 : B = aB m c) (e3 : U = aU m c) (e4 : C = aC m c) (e5 : G = aV m c) (e6 : D = aD m c) (e7 : L = aL m c) :
    val_main_v362 (F := Ideal) X W B U C G D L = (dats (F := Ideal) m 0 c).arrAt 6 cfg0.N
    ∧ val_main_v379 (F := Ideal) X W B U C G D L = (dats (F := Ideal) m 0 c).arrAt 7 cfg0.N := by
  subst e0 e1 e2 e3 e4 e5 e6 e7
  exact ⟨(state_final m c r0 r1 r2 r3 r4 r5 r6 r7 R).symm, (gated_final m c r0 r1 r2 r3 r4 r5 r6 r7 R).symm⟩

theorem algebraic : Cert.algebraic_KernelRnnFwdIdeal_ReferenceRnnFwdIdeal_pre_rnn_far := by
  pair_intro
  · run_from Cert.KernelRnnFwdIdeal.Value.run_blocks m g
  · refine (θ_run Cert.ReferenceRnnFwdIdeal.defs _ _).mono (fun r h c => ?_) (Cert.ReferenceRnnFwdIdeal.Value.run m' g')
    obtain ⟨r0, r1, r2, r3, r4, r5, r6, r7, R⟩ := reals m hpre c
    obtain ⟨q0, q1, q2, q3, q4, q5, q6, q7⟩ := hagree c
    obtain ⟨f0, f1⟩ := final m c r0 r1 r2 r3 r4 r5 r6 r7 R _ _ _ _ _ _ _ _ q0 q1 q2 q3 q4 q5 q6 q7
    obtain ⟨a0, a1, hargs⟩ := h c
    exact ⟨(a0.trans (val_main_v362_eq _)).trans f0, (a1.trans (val_main_v379_eq _)).trans f1, hargs⟩

end Cert.RnnFwd

end
-- ==== Proof.MixOutFwd.Tile.lean ====
/- The forward of a mixer's output side, tile by tile: the convolved branch through its norm and silu beside the
   recurrent branch, their product with the output weights, and the scaled residual. -/
module

public import proofs.«01_k».proof.Proof.Gen.KernelMixOutFwdIdeal.Value
public import proofs.«01_k».proof.Proof.Gen.ReferenceMixOutFwdIdeal.Read
public import proofs.«01_k».proof.Proof.Lift

@[expose] public section

set_option maxRecDepth 16384

noncomputable section

namespace Cert.MixOutFwd

open Idealize.ShloMosaic Idealize.ShloMosaic.TcCoe Idealize.SL.Sem
open Idealize.ShloMosaic.Pipeline (Dat)
open Cert.KernelMixOutFwdIdeal Cert.KernelMixOutFwdIdeal.Gen
open Cert.ReferenceMixOutFwdIdeal.Read Cert.Lift

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0] := (by decide +kernel : ∀ t : Fin grid0.N, _)

/-- The arguments of the run, by name. -/
def aX (c : Dev nD) : FVec Ideal S4096x1024 .f32 := m ((c : Thread nD τ).loc main_arg0)
def aC (c : Dev nD) : FVec Ideal S4096x512 .f32 := m ((c : Thread nD τ).loc main_arg1)
def aR (c : Dev nD) : FVec Ideal S4096x512 .f32 := m ((c : Thread nD τ).loc main_arg2)
def aG (c : Dev nD) : FVec Ideal S512 .f32 := m ((c : Thread nD τ).loc main_arg3)
def aB (c : Dev nD) : FVec Ideal S512 .f32 := m ((c : Thread nD τ).loc main_arg4)
def aW (c : Dev nD) : FVec Ideal S1024x1024 .f32 := m ((c : Thread nD τ).loc main_arg5)
def aT (c : Dev nD) : FVec Ideal S1024 .f32 := m ((c : Thread nD τ).loc main_arg6)

section blocks
variable (c : Dev nD) (t : Fin cfg0.N)

theorem blk_x (i : Fin 512) (k : Fin 1024) (r : Fin 4096) (hr : r.val = t.val * 512 + i.val) :
    iblk (F := Ideal) m c 0 t (ix2 i k) = aX m c (ix2 r k) := by unfold aX; blk_point [iblk, V, idx t]
theorem blk_c (i : Fin 512) (k : Fin 512) (r : Fin 4096) (hr : r.val = t.val * 512 + i.val) :
    iblk (F := Ideal) m c 1 t (ix2 i k) = aC m c (ix2 r k) := by unfold aC; blk_point [iblk, V, idx t]
theorem blk_r (i : Fin 512) (k : Fin 512) (r : Fin 4096) (hr : r.val = t.val * 512 + i.val) :
    iblk (F := Ideal) m c 2 t (ix2 i k) = aR m c (ix2 r k) := by unfold aR; blk_point [iblk, V, idx t]
theorem blk_w (i : Fin 1024) (k : Fin 1024) : iblk (F := Ideal) m c 5 t (ix2 i k) = aW m c (ix2 i k) := by unfold aW; blk_point [iblk, V, idx t]

theorem V_vec : ∃ z : FVec Ideal S4x1024 .f32, V (F := Ideal) m c main_v6 = concatenate S8x1024 0 [⟨S1x1024, shapeCast S1x1024 (aT m c) shapeCasts_S1024_S1x1024⟩, ⟨S1x1024, shapeCast S1x1024 (aT m c) shapeCasts_S1024_S1x1024⟩, ⟨S1x1024, shapeCast S1x1024 (aT m c) shapeCasts_S1024_S1x1024⟩,
    ⟨S1x1024, shapeCast S1x1024 (aT m c) shapeCasts_S1024_S1x1024⟩, ⟨S4x1024, z⟩] concatenates_S1x1024_S1x1024_S1x1024_S1x1024_S4x1024_S8x1024_d0 := ⟨_, rfl⟩
theorem V_lnv : ∃ z : FVec Ideal S6x512 .f32, V (F := Ideal) m c main_v10 = concatenate S8x512 0 [⟨S1x512, shapeCast S1x512 (aG m c) shapeCasts_S512_S1x512⟩, ⟨S1x512, shapeCast S1x512 (aB m c) shapeCasts_S512_S1x512⟩, ⟨S6x512, z⟩] concatenates_S1x512_S1x512_S6x512_S8x512_d0 := ⟨_, rfl⟩
theorem blk_t (k : Fin 1024) : iblk (F := Ideal) m c 3 t (ix2 3 k) = aT m c (ix1 k) := by
  have h : iblk (F := Ideal) m c 3 t (ix2 3 k) = V (F := Ideal) m c main_v6 (ix2 3 k) := by
    blk_simp [iblk]
    exact congrArg _ (by blk_ext [idx t])
  obtain ⟨z, hz⟩ := V_vec m c
  rw [h, hz]
  pointwise
theorem blk_ln (i : Fin 8) (k : Fin 512) : iblk (F := Ideal) m c 4 t (ix2 i k) = V (F := Ideal) m c main_v10 (ix2 i k) := by
  blk_simp [iblk]
  exact congrArg _ (by blk_ext [idx t])
theorem blk_g (k : Fin 512) : iblk (F := Ideal) m c 4 t (ix2 0 k) = aG m c (ix1 k) := by
  obtain ⟨z, hz⟩ := V_lnv m c
  rw [blk_ln, hz]
  pointwise
theorem blk_b (k : Fin 512) : iblk (F := Ideal) m c 4 t (ix2 1 k) = aB m c (ix1 k) := by
  obtain ⟨z, hz⟩ := V_lnv m c
  rw [blk_ln, hz]
  pointwise
end blocks

/-- The mean of a row of 512, its variance, the normalised row and its silu. -/
def mean (X : Fin 512 → EReal) : EReal := Ideal.div (∑ k, X k) (Ideal.ofBits .f32 0x44000000#32)
def var (X : Fin 512 → EReal) : EReal := Ideal.div (∑ k, (X k - mean X) * (X k - mean X)) (Ideal.ofBits .f32 0x44000000#32)
def norm (X g b : Fin 512 → EReal) (d : Fin 512) : EReal := (X d - mean X) * Ideal.rsqrt (var X + Ideal.ofBits .f32 0x358637BD#32) * g d + b d
def unit (y : EReal) : EReal := y * Ideal.div 1 (1 + Ideal.exp (-y))

theorem pay4_at (X : FVec Ideal S512x512 .f32) (g b : FVec Ideal S1x512 .f32) (i d : Fin 512) :
    k0_pay4 (F := Ideal) X g b (ix2 i d) = unit (norm (fun k => X (ix2 i k)) (fun k => g (ix2 0 k)) (fun k => b (ix2 0 k)) d) := by
  pointwise [k0_pay4, zero_sub]
  rfl

section ref
variable (C R : FVec Ideal S4096x512 .f32) (G B : FVec Ideal S512 .f32) (r : Fin 4096)

theorem ref_mean (u : Fin 1) : val_main_v3 (F := Ideal) C (ix2 r u) = mean (fun k => C (ix2 r k)) := by
  pointwise [val_main_v3, val_main_v2, val_main_cst_0, val_main_v1, val_main_v0, val_main_cst]
  rfl
theorem ref_var (u : Fin 1) : val_main_v10 (F := Ideal) C (ix2 r u) = var (fun k => C (ix2 r k)) := by
  pointwise [val_main_v10, val_main_v9, val_main_cst_2, val_main_v8, val_main_v7, val_main_cst_1, val_main_v6, val_main_v5, val_main_v4, ref_mean]
  rfl
theorem ref_norm (d : Fin 512) : val_main_v23 (F := Ideal) C G B (ix2 r d) = norm (fun k => C (ix2 r k)) (fun k => G (ix1 k)) (fun k => B (ix1 k)) d := by
  pointwise [val_main_v23, val_main_v22, val_main_v21, val_main_v20, val_main_v19, val_main_v18, val_main_v17, val_main_v16, val_main_v15, val_main_v14, val_main_v13, val_main_cst_3, val_main_v12, val_main_v11, ref_mean, ref_var]
  rfl
theorem ref_unit (d : Fin 512) : val_main_v24 (F := Ideal) C G B (ix2 r d) = unit (norm (fun k => C (ix2 r k)) (fun k => G (ix1 k)) (fun k => B (ix1 k)) d) := by
  pointwise [val_main_v24, val_main_call0_v5, val_main_call0_v4, val_main_call0_cst_0, val_main_call0_v3, val_main_call0_v2, val_main_call0_cst, val_main_call0_v1, val_main_call0_v0, ref_norm]
  rfl
theorem ref_lo (d : Fin 512) (l : Fin 1024) (hl : l.val = d.val) : val_main_v25 (F := Ideal) C R G B (ix2 r l) = val_main_v24 (F := Ideal) C G B (ix2 r d) := by
  rw [show l = ⟨d.val, by omega⟩ from Fin.ext hl]
  pointwise [val_main_v25]
theorem ref_hi (d : Fin 512) (l : Fin 1024) (hl : l.val = 512 + d.val) : val_main_v25 (F := Ideal) C R G B (ix2 r l) = R (ix2 r d) := by
  rw [show l = ⟨512 + d.val, by omega⟩ from Fin.ext hl]
  pointwise [val_main_v25]
end ref

section point
variable (c : Dev nD) (t : Fin cfg0.N)

/-- The concatenated units of all rows. -/
def cat : FVec Ideal S4096x1024 .f32 := val_main_v25 (F := Ideal) (aC m c) (aR m c) (aG m c) (aB m c)

theorem tile_lo (i d : Fin 512) (r : Fin 4096) (hr : r.val = t.val * 512 + i.val) (l : Fin 1024) (hl : l.val = d.val) :
    k0_pay6 (F := Ideal) (iblk m c 0 t) (iblk m c 1 t) (iblk m c 2 t) (iblk m c 3 t) (iblk m c 4 t) (iblk m c 5 t) (ix2 i d) = cat m c (ix2 r l) := by
  rw [cat, ref_lo _ _ _ _ r d l hl, ref_unit, k0_pay6, pay4_at]
  have e (X Y g g' s s' : Fin 512 → EReal) (h0 : X = Y) (h1 : g = g') (h2 : s = s') : unit (norm X g s d) = unit (norm Y g' s' d) := by rw [h0, h1, h2]
  refine e _ _ _ _ _ _ (funext fun k => ?_) (funext fun k => ?_) (funext fun k => ?_)
  · refine Eq.trans ?_ (blk_c m c t i k r hr)
    pointwise
  · refine Eq.trans ?_ (blk_g m c t k)
    pointwise
  · refine Eq.trans ?_ (blk_b m c t k)
    pointwise

theorem tile_hi (i d : Fin 512) (r : Fin 4096) (hr : r.val = t.val * 512 + i.val) (l : Fin 1024) (hl : l.val = 512 + d.val) :
    k0_pay7 (F := Ideal) (iblk m c 0 t) (iblk m c 1 t) (iblk m c 2 t) (iblk m c 3 t) (iblk m c 4 t) (iblk m c 5 t) (ix2 i d) = cat m c (ix2 r l) := by
  rw [cat, ref_hi _ _ _ _ r d l hl, k0_pay7]
  refine Eq.trans ?_ (blk_r m c t i d r hr)
  pointwise [k0_pay5]

/-- The two products over half the units each are the product over all of them. -/
theorem tile_ym (i : Fin 512) (k : Fin 1024) (r : Fin 4096) (hr : r.val = t.val * 512 + i.val) :
    k0_pay1 (F := Ideal) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 4 t) (iblk m c 5 t))
      (View.ld (iblk m c 5 t) r0_5) (View.ld (iblk m c 5 t) r0_6) (ix2 i k) = val_main_v26 (F := Ideal) (aC m c) (aR m c) (aG m c) (aB m c) (aW m c) (ix2 r k) := by
  have h : val_main_v26 (F := Ideal) (aC m c) (aR m c) (aG m c) (aB m c) (aW m c) (ix2 r k) = ∑ l : Fin (512 + 512), cat m c (ix2 r l) * aW m c (ix2 l k) := by pointwise [val_main_v26, cat]
  rw [h, Fin.sum_univ_add]
  have a (d : Fin 512) := tile_lo m c t i d r hr (Fin.castAdd 512 d) rfl
  have b (d : Fin 512) := tile_hi m c t i d r hr (Fin.natAdd 512 d) rfl
  have wa (d : Fin 512) : View.ld (iblk (F := Ideal) m c 5 t) r0_5 (ix2 d k) = aW m c (ix2 (Fin.castAdd 512 d) k) := by
    refine Eq.trans ?_ (blk_w m c t ⟨d.val, by omega⟩ k)
    pointwise
  have wb (d : Fin 512) : View.ld (iblk (F := Ideal) m c 5 t) r0_6 (ix2 d k) = aW m c (ix2 (Fin.natAdd 512 d) k) := by
    refine Eq.trans ?_ (blk_w m c t ⟨512 + d.val, by omega⟩ k)
    pointwise
  simp only [← a, ← b, ← wa, ← wb]
  pointwise [k0_pay1]
end point

end Cert.MixOutFwd

end
-- ==== Proof.MixOutFwd.Claim.lean ====
/- The forward of a mixer's output side: the kernel computes the scaled residual of the concatenated units' product,
   that product, and the units, on all arguments. -/
module

public import proofs.«01_k».proof.Defs
public import proofs.«01_k».proof.Proof.MixOutFwd.Tile
public import proofs.«01_k».proof.Proof.Gen.ReferenceMixOutFwdIdeal.Run

@[expose] public section

set_option maxRecDepth 16384

noncomputable section

namespace Cert.MixOutFwd

open Idealize.ShloMosaic Idealize.ShloMosaic.TcCoe Idealize.SL.Sem
open Idealize.ShloMosaic.Pipeline (Dat)
open Cert.KernelMixOutFwdIdeal Cert.KernelMixOutFwdIdeal.Gen Cert.ReferenceMixOutFwdIdeal.Read Cert.Lift

section
variable (m : (ℓ : Loc nD τ sig) → Buf (Elt Ideal) ℓ) (c : Dev nD)

theorem out_final : (dats (F := Ideal) m 0 c).arrAt 6 cfg0.N = val_main_v30 (F := Ideal) (aX m c) (aC m c) (aR m c) (aG m c) (aB m c) (aW m c) (aT m c) := by
  refine (dats (F := Ideal) m 0 c).arrAt_eq_of_covers 6 _ (by decide +kernel) fun t _ y => ?_
  blk_simp
  rw [after0_6]
  have ht : t.val < 8 := lt_of_lt_of_eq t.isLt N_0
  idx_vars y
  have hr : (⟨t.val * 512 + y0.val, by omega⟩ : Fin 4096).val = t.val * 512 + y0.val := rfl
  generalize (⟨t.val * 512 + y0.val, by omega⟩ : Fin 4096) = r at hr
  have he : ((View.whole main_v12_0).slice (win0_6.rect t)).emb (ix2 y0 y1) = ix2 r y1 := by blk_ext [idx t]
  rw [he]
  unfold out0_6
  canon_tiles x h
  rw [eq_ix2 x, show x 0 = y0 from Fin.ext h0.symm, show x 1 = y1 from Fin.ext h1.symm]
  pointwise [k0_pay3, val_main_v30, val_main_v29, val_main_v28, val_main_v27]
  rw [blk_x m c t y0 y1 r hr, blk_t m c t y1]
  exact congrArg (fun z => aX m c (ix2 r y1) + aT m c (ix1 y1) * z) (tile_ym m c t y0 y1 r hr)

theorem ym_final : (dats (F := Ideal) m 0 c).arrAt 7 cfg0.N = val_main_v31 (F := Ideal) (aC m c) (aR m c) (aG m c) (aB m c) (aW m c) := by
  refine (dats (F := Ideal) m 0 c).arrAt_eq_of_covers 7 _ (by decide +kernel) fun t _ y => ?_
  blk_simp
  rw [after0_7]
  have ht : t.val < 8 := lt_of_lt_of_eq t.isLt N_0
  idx_vars y
  have hr : (⟨t.val * 512 + y0.val, by omega⟩ : Fin 4096).val = t.val * 512 + y0.val := rfl
  generalize (⟨t.val * 512 + y0.val, by omega⟩ : Fin 4096) = r at hr
  have he : ((View.whole main_v12_1).slice (win0_7.rect t)).emb (ix2 y0 y1) = ix2 r y1 := by blk_ext [idx t]
  rw [he]
  unfold out0_7
  canon_tiles x h
  rw [eq_ix2 x, show x 0 = y0 from Fin.ext h0.symm, show x 1 = y1 from Fin.ext h1.symm]
  exact tile_ym m c t y0 y1 r hr

theorem cat_final : (dats (F := Ideal) m 0 c).arrAt 8 cfg0.N = val_main_v32 (F := Ideal) (aC m c) (aR m c) (aG m c) (aB m c) := by
  refine (dats (F := Ideal) m 0 c).arrAt_eq_of_covers 8 _ (by decide +kernel) fun t _ y => ?_
  blk_simp
  rw [after0_8]
  have ht : t.val < 8 := lt_of_lt_of_eq t.isLt N_0
  idx_vars y
  have hr : (⟨t.val * 512 + y0.val, by omega⟩ : Fin 4096).val = t.val * 512 + y0.val := rfl
  generalize (⟨t.val * 512 + y0.val, by omega⟩ : Fin 4096) = r at hr
  have he : ((View.whole main_v12_2).slice (win0_8.rect t)).emb (ix2 y0 y1) = ix2 r y1 := by blk_ext [idx t]
  rw [he]
  unfold out0_8
  canon_tiles x h
  all_goals
    rw [eq_ix2 x, show x 0 = y0 from Fin.ext h0.symm]
  · exact tile_hi m c t y0 (x 1) r hr y1 h1
  · exact tile_lo m c t y0 (x 1) r hr y1 h1

/-- Every result of the kernel is the reference's, of equal arguments. -/
theorem final (X : FVec Ideal S4096x1024 .f32) (C R : FVec Ideal S4096x512 .f32) (G B : FVec Ideal S512 .f32) (W : FVec Ideal S1024x1024 .f32) (T : FVec Ideal S1024 .f32)
    (e0 : X = aX m c) (e1 : C = aC m c) (e2 : R = aR m c) (e3 : G = aG m c) (e4 : B = aB m c) (e5 : W = aW m c) (e6 : T = aT m c) :
    val_main_v30 (F := Ideal) X C R G B W T = (dats (F := Ideal) m 0 c).arrAt 6 cfg0.N
    ∧ val_main_v31 (F := Ideal) C R G B W = (dats (F := Ideal) m 0 c).arrAt 7 cfg0.N
    ∧ val_main_v32 (F := Ideal) C R G B = (dats (F := Ideal) m 0 c).arrAt 8 cfg0.N := by
  subst e0 e1 e2 e3 e4 e5 e6
  exact ⟨(out_final m c).symm, (ym_final m c).symm, (cat_final m c).symm⟩
end

theorem ref_frame : Cert.quiescent_ReferenceMixOutFwdIdeal := fun m ρ _ =>
  (θ_run Cert.ReferenceMixOutFwdIdeal.defs _ _).mono (fun r h => ⟨fun c => (h c).2.2.2, sem_eq_zero_of_no_sems (by decide) r.2⟩)
    (Cert.ReferenceMixOutFwdIdeal.Value.run m ρ)

theorem algebraic : Cert.algebraic_KernelMixOutFwdIdeal_ReferenceMixOutFwdIdeal := by
  pair_intro
  · run_from Cert.KernelMixOutFwdIdeal.Value.run_blocks m g
  · refine (θ_run Cert.ReferenceMixOutFwdIdeal.defs _ _).mono (fun r h c => ?_) (Cert.ReferenceMixOutFwdIdeal.Value.run m' g')
    obtain ⟨q0, q1, q2, q3, q4, q5, q6⟩ := hagree c
    obtain ⟨f0, f1, f2⟩ := final m c _ _ _ _ _ _ _ q0 q1 q2 q3 q4 q5 q6
    obtain ⟨r0, r1, r2, hargs⟩ := h c
    exact ⟨(r0.trans (val_main_v30_eq _ _)).trans f0, (r1.trans (val_main_v31_eq _ _)).trans f1, (r2.trans (val_main_v32_eq _ _)).trans f2, hargs⟩

end Cert.MixOutFwd

end
-- ==== Proof.ConvFwd.Kernel.lean ====
/- One grid point of the causal depthwise convolution with its gate: for each channel of its block a sum over the
   taps, of the gated rows with zeros before them. -/
module

public import proofs.«01_k».proof.Proof.Gen.KernelConvFwdIdeal.Value
public import proofs.«01_k».proof.Proof.Lift

@[expose] public section

set_option maxRecDepth 16384

noncomputable section

namespace Cert.ConvFwd

open Idealize.ShloMosaic Idealize.ShloMosaic.TcCoe Idealize.SL.Sem
open Idealize.ShloMosaic.Pipeline (Dat)
open Cert.KernelConvFwdIdeal Cert.KernelConvFwdIdeal.Gen Cert.Lift

/-- Row `n` of a channel that starts with `p` zeros. -/
def late (p : ℕ) (x : Fin 4096 → EReal) (n : ℕ) : EReal := if h : p ≤ n ∧ n < p + 4096 then x ⟨n - p, by omega⟩ else 0

/-- A channel times the logistic function of its gate. -/
def gated (v g : Fin 4096 → EReal) (n : Fin 4096) : EReal := v n * Ideal.div 1 (1 + Ideal.exp (-g n))

/-- The taps `w` over the rows up to row `n`, and the bias. -/
def conv (v g : Fin 4096 → EReal) (w : ℕ → EReal) (b : EReal) (n : ℕ) : EReal := b + ∑ k ∈ Finset.range 31, w k * late 32 (gated v g) (2 + k + n)

/-- Channel `d` of a block, and its taps. -/
def chan (X : Vec Ideal S4096x128 .f32) (d : Fin 128) (n : Fin 4096) : EReal := X (ix2 n d)
def wts (W : Vec Ideal S32x128 .f32) (d : Fin 128) (k : ℕ) : EReal := if h : k < 32 then W (ix2 ⟨k, h⟩ d) else 0

theorem late_fn {κ : Kind} {sp : Space} (b : View sig κ sp S4128x128 .f32) (Y G : Vec Ideal S4096x128 .f32) (h0 h1) (o : ℕ) (inb) :
    b.readCov (Val := Elt Ideal) (e := .f32) [⟨Rect.unit ![32, 0] ![4096, 128] h0, k0_pay2 (F := Ideal) Y G⟩,
        ⟨Rect.unit ![0, 0] ![32, 128] h1, k0_pay1 (F := Ideal)⟩]
      (Rect.unit (s := S4128x128) ![o, 0] ![128, 128] inb).toLoadRect
      = fun x => late 32 (gated (chan Y (x 1)) (chan G (x 1))) (o + (x 0).val) := by
  funext x
  idx_vars x
  have hk : o + 128 ≤ 4128 := inb 0
  refine (row_cov _ _ inb ⟨o + x0.val, by omega⟩ x0 x1 rfl).trans ?_
  show _ = late 32 (gated (chan Y x1) (chan G x1)) (o + x0.val)
  rw [late]
  split
  case isTrue h =>
    rw [row_hit (R := 4128) (n := 128) (o := 32) (r := 4096) _ _ _ _ ⟨o + x0.val - 32, by omega⟩ x1 (by dsimp only; omega)]
    pointwise [k0_pay2, chan, gated, zero_sub]
  case isFalse h =>
    rw [row_miss (R := 4128) (n := 128) (o := 32) (r := 4096) _ _ _ _ _ (.inl (by dsimp only; omega)),
      row_hit (R := 4128) (n := 128) (o := 0) (r := 32) _ _ _ _ ⟨o + x0.val, by omega⟩ x1 (by simp only [Nat.zero_add])]
    pointwise [k0_pay1]

variable (m : (ℓ : Loc nD τ sig) → Buf (Elt Ideal) ℓ) (c : Dev nD) (t : Fin cfg0.N)

set_option maxHeartbeats 4000000 in
theorem conv_at (y : S4096x128.Idx) : outsAt0 (F := Ideal) m c t y
    = conv (chan (iblk m c 0 t) (y 1)) (chan (iblk m c 1 t) (y 1)) (wts (iblk m c 2 t) (y 1)) (wts (iblk m c 2 t) (y 1) 31) (y 0).val := by
  unfold outsAt0 conv
  frame_out
  canon_tiles x h
  all_goals
    have hd : y 1 = x 1 := Fin.ext h1
    rw [h0, hd]
    simp only [late_fn]
    generalize late 32 = A
    open_payloads
    pointwise
    simp only [wts, Finset.sum_range_succ, Finset.sum_range_zero, zero_add, add_zero, ← add_assoc, Nat.reduceAdd, Nat.reduceLT, dif_pos]
    rfl

end Cert.ConvFwd

end
-- ==== Proof.ConvFwd.Final.lean ====
module

public import proofs.«01_k».proof.Proof.ConvFwd.Kernel
public import proofs.«01_k».proof.Proof.Gen.ReferenceConvFwdIdeal.Read

@[expose] public section

set_option maxRecDepth 16384

noncomputable section

/-! The reference's convolution, channel by channel, is the sum the kernel's grid points write. -/

namespace Cert.ConvFwd

open Idealize.ShloMosaic Idealize.ShloMosaic.TcCoe Idealize.SL.Sem
open Idealize.ShloMosaic.Pipeline (Dat)
open Cert.KernelConvFwdIdeal Cert.KernelConvFwdIdeal.Gen Cert.ReferenceConvFwdIdeal.Read Cert.Lift

section ref
variable (P : FVec Ideal S4096x2048 .f32) (W : FVec Ideal S31x512 .f32) (B : FVec Ideal S512 .f32) (j : Fin 512)

/-- Channel `j` of the value half and of the gate half, and its taps. -/
def vchan (n : Fin 4096) : EReal := P (ix2 n ⟨j.val, by omega⟩)
def gchan (n : Fin 4096) : EReal := P (ix2 n ⟨512 + j.val, by omega⟩)
def wchan (k : ℕ) : EReal := if h : k < 31 then W (ix2 ⟨k, h⟩ j) else 0

theorem up_at (a : Fin 4126) : val_main_v10 (F := Ideal) P (ix2 a j) = late 32 (gated (vchan P j) (gchan P j)) (2 + a.val) := by
  have hg (r : Fin 4096) : val_main_v9 (F := Ideal) P (ix2 r j) = gated (vchan P j) (gchan P j) r := by
    pointwise [val_main_v9, val_main_v8, val_main_v7, val_main_cst_1, val_main_v6, val_main_v5, val_main_cst_0, val_main_v4, val_main_v3, val_main_v1, val_main_v0, gated, vchan, gchan]
  pointwise [val_main_v10, val_main_v2, val_main_cst, hg]
  unfold late
  by_cases h : a.val < 30
  · rw [dif_pos h, dif_neg (by omega)]
  · rw [dif_neg h, dif_pos (by omega)]
    exact congrArg _ (Fin.ext (by dsimp only; omega))

set_option maxHeartbeats 4000000 in
theorem ref_conv (n : Fin 4096) : val_main_v231 (F := Ideal) P W B (ix2 n j) = conv (vchan P j) (gchan P j) (wchan W j) (B (ix1 j)) n.val := by
  rw [conv, add_comm]
  pointwise [val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_cst_2]
  simp only [up_at, wchan, Finset.sum_range_succ, Finset.sum_range_zero, zero_add, add_zero, ← add_assoc, Nat.reduceAdd, Nat.reduceLT, dif_pos]
  rfl
end ref

variable (m : (ℓ : Loc nD τ sig) → Buf (Elt Ideal) ℓ)

theorem idx : ∀ t : Fin cfg0.N, win0_0.index t = ![0, t.val] ∧ win0_1.index t = ![0, 4 + t.val] ∧ win0_2.index t = ![0, t.val] ∧ win0_3.index t = ![0, t.val] := (by decide +kernel : ∀ t : Fin grid0.N, _)

/-- The arguments of the run, by name. -/
def aP (c : Dev nD) : FVec Ideal S4096x2048 .f32 := m ((c : Thread nD τ).loc main_arg0)
def aW (c : Dev nD) : FVec Ideal S31x512 .f32 := m ((c : Thread nD τ).loc main_arg1)
def aB (c : Dev nD) : FVec Ideal S512 .f32 := m ((c : Thread nD τ).loc main_arg2)

theorem V_taps (c : Dev nD) : V (F := Ideal) m c main_v1 = concatenate S32x512 0 [⟨S31x512, aW m c⟩, ⟨S1x512, broadcastInDim S1x512 ![1] bcast_S512_S1x512_1 (aB m c)⟩] concatenates_S31x512_S1x512_S32x512_d0 := rfl

section blocks
variable (c : Dev nD) (t : Fin cfg0.N) (d : Fin 128) (j : Fin 512) (hj : j.val = t.val * 128 + d.val)
include hj

theorem chan_val : chan (iblk (F := Ideal) m c 0 t) d = vchan (aP m c) j := by
  funext n
  unfold chan vchan aP
  blk_point [iblk, V, idx t]

theorem chan_gate : chan (iblk (F := Ideal) m c 1 t) d = gchan (aP m c) j := by
  funext n
  unfold chan gchan aP
  blk_point [iblk, V, idx t]

theorem wts_block (k : ℕ) (hk : k < 32) : wts (iblk (F := Ideal) m c 2 t) d k = V (F := Ideal) m c main_v1 (ix2 ⟨k, hk⟩ j) := by
  rw [wts, dif_pos hk]
  blk_simp [iblk]
  exact congrArg _ (by blk_ext [idx t])

theorem wts_tap (k : ℕ) (hk : k < 31) : wts (iblk (F := Ideal) m c 2 t) d k = wchan (aW m c) j k := by
  rw [wts_block m c t d j hj k (by omega), V_taps, wchan, dif_pos hk]
  pointwise
  exact dif_pos hk

theorem wts_bias : wts (iblk (F := Ideal) m c 2 t) d 31 = aB m c (ix1 j) := by
  rw [wts_block m c t d j hj 31 (by omega), V_taps]
  pointwise
end blocks

theorem conv_final (c : Dev nD) : (dats (F := Ideal) m 0 c).arrAt 3 cfg0.N = val_main_v231 (F := Ideal) (aP m c) (aW m c) (aB m c) := by
  refine (dats (F := Ideal) m 0 c).arrAt_eq_of_covers 3 _ (by decide +kernel) fun t _ y => ?_
  blk_simp
  rw [after0_3, conv_at]
  have ht : t.val < 4 := lt_of_lt_of_eq t.isLt N_0
  idx_vars y
  have hj : (⟨t.val * 128 + y1.val, by omega⟩ : Fin 512).val = t.val * 128 + y1.val := rfl
  generalize (⟨t.val * 128 + y1.val, by omega⟩ : Fin 512) = j at hj
  have he : ((View.whole main_v2).slice (win0_3.rect t)).emb (ix2 y0 y1) = ix2 y0 j := by blk_ext [idx t]
  rw [he, ref_conv]
  show conv (chan _ y1) (chan _ y1) (wts _ y1) (wts _ y1 31) y0.val = _
  rw [chan_val m c t y1 j hj, chan_gate m c t y1 j hj, wts_bias m c t y1 j hj, conv, conv]
  exact congrArg (_ + ·) (Finset.sum_congr rfl fun k hk => by rw [wts_tap m c t y1 j hj k (Finset.mem_range.mp hk)])

end Cert.ConvFwd

end
-- ==== Proof.ConvFwd.Claim.lean ====
/- The causal depthwise convolution over 31 steps with its sigmoid gate: the kernel computes the reference's
   convolution, on all arguments. -/
module

public import proofs.«01_k».proof.Defs
public import proofs.«01_k».proof.Proof.ConvFwd.Final
public import proofs.«01_k».proof.Proof.Gen.ReferenceConvFwdIdeal.Run

@[expose] public section

set_option maxRecDepth 16384

noncomputable section

namespace Cert.ConvFwd

open Idealize.ShloMosaic Idealize.ShloMosaic.TcCoe Idealize.SL.Sem Cert.KernelConvFwdIdeal Cert.ReferenceConvFwdIdeal.Read

theorem ref_frame : Cert.quiescent_ReferenceConvFwdIdeal := fun m ρ _ =>
  (θ_run Cert.ReferenceConvFwdIdeal.defs _ _).mono (fun r h => ⟨fun c => (h c).2, sem_eq_zero_of_no_sems (by decide) r.2⟩)
    (Cert.ReferenceConvFwdIdeal.Value.run m ρ)

/-- The kernel's result is the reference's, of equal arguments. -/
theorem final (m : (ℓ : Loc nD τ sig) → Buf (Elt Ideal) ℓ) (c : Dev nD) (P : FVec Ideal S4096x2048 .f32) (W : FVec Ideal S31x512 .f32) (B : FVec Ideal S512 .f32)
    (e0 : P = aP m c) (e1 : W = aW m c) (e2 : B = aB m c) : val_main_v231 (F := Ideal) P W B = (Gen.dats (F := Ideal) m 0 c).arrAt 3 cfg0.N := by
  subst e0 e1 e2
  exact (conv_final m c).symm

theorem algebraic : Cert.algebraic_KernelConvFwdIdeal_ReferenceConvFwdIdeal := by
  pair_intro
  · run_from Cert.KernelConvFwdIdeal.Value.run_blocks m g
  · refine (θ_run Cert.ReferenceConvFwdIdeal.defs _ _).mono (fun r h c => ?_) (Cert.ReferenceConvFwdIdeal.Value.run m' g')
    obtain ⟨q0, q1, q2⟩ := hagree c
    obtain ⟨r0, hargs⟩ := h c
    exact ⟨(r0.trans (val_main_v231_eq _)).trans (final m c _ _ _ q0 q1 q2), hargs⟩

end Cert.ConvFwd

end
-- ==== Proof.Rms.lean ====
module

public import proofs.«01_k».proof.Proof.Lift

@[expose] public section

noncomputable section

/-! The root mean square normalisation of a row of 1024 ideal floats and its derivative. Where a row has an
    infinite entry its mean square is infinite and its scale is zero, so the two ways to write the derivative
    agree there as they do on a row of real numbers. -/

namespace Cert.Rms

open Idealize.ShloMosaic Cert.Lift

/-- The mean square of a row, and what is added to it. -/
def ms (X : Fin 1024 → EReal) : EReal := Ideal.div (∑ k, X k * X k) (Ideal.ofBits .f32 0x44800000#32) + Ideal.ofBits .f32 0x358637BD#32

/-- The reciprocal root mean square of a row. -/
def rs (X : Fin 1024 → EReal) : EReal := Ideal.rsqrt (ms X)

/-- The coefficient of the row itself in its derivative, where the derivative is taken term by term. -/
def coef (X v : Fin 1024 → EReal) : EReal :=
  Ideal.div ((∑ k, X k * v k) * (Ideal.ofBits .f32 0xBF000000#32 * Ideal.div (rs X) (ms X))) (Ideal.ofBits .f32 0x44800000#32)

/-- The derivative of the normalised row with respect to the row, as the kernel splits it. -/
def back (X v : Fin 1024 → EReal) (d : Fin 1024) : EReal :=
  rs X * (v d - X d * rs X * Ideal.div (∑ k, v k * (X k * rs X)) (Ideal.ofBits .f32 0x44800000#32))

def rstd (x : Fin 1024 → ℝ) : ℝ := (√((∑ k, x k * x k) / 1024 + eps))⁻¹

theorem ms_pos (x : Fin 1024 → ℝ) : 0 < (∑ k, x k * x k) / 1024 + eps :=
  add_pos_of_nonneg_of_pos (div_nonneg (Finset.sum_nonneg fun k _ => mul_self_nonneg _) (by norm_num)) eps_pos

theorem ms_real (X : Fin 1024 → EReal) (x : Fin 1024 → ℝ) (h : ∀ k, X k = x k) : ms X = (((∑ k, x k * x k) / 1024 + eps : ℝ) : EReal) := by
  simp only [ms, h, ← EReal.coe_mul, sum_coe, c1024, c_eps, div_1024, ← EReal.coe_add]

theorem rs_real (X : Fin 1024 → EReal) (x : Fin 1024 → ℝ) (h : ∀ k, X k = x k) : rs X = ((rstd x : ℝ) : EReal) := by
  rw [rs, ms_real X x h, rsqrt_real (ms_pos x), rstd]

theorem sq_nonneg (x : EReal) : 0 ≤ x * x := by
  induction x using EReal.rec with
  | bot => simp
  | coe r => exact_mod_cast mul_self_nonneg r
  | top => simp

/-- A row is a row of real numbers, or its mean square is infinite. -/
theorem real_or_top (X : Fin 1024 → EReal) : (∃ x : Fin 1024 → ℝ, ∀ k, X k = x k) ∨ ms X = ⊤ := by
  by_cases h : ∀ k, X k ≠ ⊤ ∧ X k ≠ ⊥
  · exact .inl ⟨fun k => (X k).toReal, fun k => (EReal.coe_toReal (h k).1 (h k).2).symm⟩
  · refine .inr ?_
    push Not at h
    obtain ⟨k, hk⟩ := h
    have hs : X k * X k = ⊤ := by
      by_cases ht : X k = ⊤
      · rw [ht]; rfl
      · rw [hk ht]; rfl
    have hsum : ∑ k, X k * X k = ⊤ := top_le_iff.mp (hs.symm.le.trans (Finset.single_le_sum (f := fun k => X k * X k) (fun j _ => sq_nonneg (X j)) (Finset.mem_univ k)))
    rw [ms, hsum, c1024, c_eps, Ideal.div_coe (by norm_num), EReal.top_mul_coe_of_pos (by norm_num), EReal.top_add_coe]

theorem rs_top (X : Fin 1024 → EReal) (h : ms X = ⊤) : rs X = 0 := by rw [rs, h, Ideal.rsqrt_top]

/-- The normalised row is real whatever the row is. -/
theorem hat_real (X : Fin 1024 → EReal) : ∃ y : Fin 1024 → ℝ, ∀ k, X k * rs X = y k := by
  obtain ⟨x, hx⟩ | h := real_or_top X
  · exact ⟨fun k => x k * rstd x, fun k => by rw [hx, rs_real X x hx, EReal.coe_mul]⟩
  · exact ⟨fun _ => 0, fun k => by rw [rs_top X h, mul_zero, EReal.coe_zero]⟩

/-- The derivative the kernel computes is the one taken term by term. -/
theorem back_eq (X v : Fin 1024 → EReal) (w : Fin 1024 → ℝ) (hv : ∀ k, v k = w k) (D : EReal) (d : Fin 1024) :
    D + v d * rs X + X d * coef X v + coef X v * X d = D + back X v d := by
  obtain ⟨x, hx⟩ | h := real_or_top X
  · simp only [back, coef, rs_real X x hx, ms_real X x hx, hx, hv, ← EReal.coe_mul, sum_coe, c1024, c_neg_half, div_real (ms_pos x).ne', div_1024, ← EReal.coe_sub]
    rw [add_assoc, add_assoc, ← EReal.coe_add, ← EReal.coe_add]
    congr 2
    have h : ∑ k, w k * (x k * rstd x) = rstd x * ∑ k, x k * w k := by
      rw [Finset.mul_sum]; exact Finset.sum_congr rfl fun k _ => by ring
    have hm : rstd x / ((∑ k, x k * x k) / 1024 + eps) = rstd x * (rstd x * rstd x) := by
      have : rstd x * rstd x = ((∑ k, x k * x k) / 1024 + eps)⁻¹ := by rw [rstd, ← mul_inv, Real.mul_self_sqrt (ms_pos x).le]
      rw [this, div_eq_mul_inv]
    rw [h, hm]; ring
  · have hc : coef X v = 0 := by
      have h0 : Ideal.div (0 : EReal) ⊤ = 0 := by rw [Ideal.div, if_neg (by simp), zero_mul]
      rw [coef, rs_top X h, h, h0, mul_zero, mul_zero, c1024, Ideal.div_coe (by norm_num), zero_mul]
    rw [back, rs_top X h, hc, mul_zero, mul_zero, zero_mul, zero_mul, add_zero, add_zero]

/-- A nonnegative real factor passes through a sum of ideal floats. -/
theorem mul_sum_nonneg {r : ℝ} (hr : 0 ≤ r) {ι : Type*} (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

end Cert.Rms

end
-- ==== Proof.MixInFwd.Tile.lean ====
/- The forward of a mixer's input side: the kernel's two result arrays are the adaptive norm and its product. -/
module

public import proofs.«01_k».proof.Proof.Gen.KernelMixInFwdIdeal.Value
public import proofs.«01_k».proof.Proof.Gen.ReferenceMixInFwdIdeal.Read
public import proofs.«01_k».proof.Proof.Rms

@[expose] public section

set_option maxRecDepth 16384

noncomputable section

namespace Cert.MixInFwd

open Idealize.ShloMosaic Idealize.ShloMosaic.TcCoe Idealize.SL.Sem
open Idealize.ShloMosaic.Pipeline (Dat)
open Cert.KernelMixInFwdIdeal Cert.KernelMixInFwdIdeal.Gen
open Cert.ReferenceMixInFwdIdeal.Read Cert.Lift Cert.Rms

variable (m : (ℓ : Loc nD τ sig) → Buf (Elt Ideal) ℓ)

theorem idx : ∀ t : Fin cfg0.N, win0_0.index t = ![t.val, 0] ∧ win0_1.index t = ![0, 0] ∧ win0_2.index t = ![0, 0, 0] ∧ win0_3.index t = ![t.val, 0] ∧ win0_4.index t = ![t.val, 0] := (by decide +kernel : ∀ t : Fin grid0.N, _)

/-- The arguments of the run, by name. -/
def aX (c : Dev nD) : FVec Ideal S4096x1024 .f32 := m ((c : Thread nD τ).loc main_arg0)
def aG (c : Dev nD) : FVec Ideal S1024 .f32 := m ((c : Thread nD τ).loc main_arg1)
def aH (c : Dev nD) : FVec Ideal S1024 .f32 := m ((c : Thread nD τ).loc main_arg2)
def aS (c : Dev nD) : FVec Ideal S1024 .f32 := m ((c : Thread nD τ).loc main_arg3)
def aW (c : Dev nD) : FVec Ideal S1024x2048 .f32 := m ((c : Thread nD τ).loc main_arg4)

section blocks
variable (c : Dev nD) (t : Fin cfg0.N)

theorem blk_x (i : Fin 512) (k : Fin 1024) (r : Fin 4096) (hr : r.val = t.val * 512 + i.val) :
    iblk (F := Ideal) m c 0 t (ix2 i k) = aX m c (ix2 r k) := by unfold aX; blk_point [iblk, V, idx t]
theorem blk_w (b : Fin 8) (d : Fin 1024) (k : Fin 256) (l : Fin 2048) (hl : l.val = b.val * 256 + k.val) :
    iblk (F := Ideal) m c 2 t (ix3 b d k) = aW m c (ix2 d l) := by unfold aW; blk_point [iblk, V, idx t]

theorem V_vec : ∃ z, V (F := Ideal) m c main_v7 = concatenate S8x1024 0 [⟨S1x1024, shapeCast S1x1024 (aG m c) shapeCasts_S1024_S1x1024⟩, ⟨S1x1024, shapeCast S1x1024 (aH m c) shapeCasts_S1024_S1x1024⟩, ⟨S1x1024, shapeCast S1x1024 (aS m c) shapeCasts_S1024_S1x1024⟩, ⟨S5x1024, z⟩] concatenates_S1x1024_S1x1024_S1x1024_S5x1024_S8x1024_d0 := ⟨_, rfl⟩
theorem blk_vec (i : Fin 8) (k : Fin 1024) : iblk (F := Ideal) m c 1 t (ix2 i k) = V (F := Ideal) m c main_v7 (ix2 i k) := by
  blk_simp [iblk]
  exact congrArg _ (by blk_ext [idx t])
theorem blk_g (k : Fin 1024) : iblk (F := Ideal) m c 1 t (ix2 0 k) = aG m c (ix1 k) := by
  obtain ⟨z, hz⟩ := V_vec m c
  rw [blk_vec, hz]
  pointwise
theorem blk_h (k : Fin 1024) : iblk (F := Ideal) m c 1 t (ix2 1 k) = aH m c (ix1 k) := by
  obtain ⟨z, hz⟩ := V_vec m c
  rw [blk_vec, hz]
  pointwise
theorem blk_s (k : Fin 1024) : iblk (F := Ideal) m c 1 t (ix2 2 k) = aS m c (ix1 k) := by
  obtain ⟨z, hz⟩ := V_vec m c
  rw [blk_vec, hz]
  pointwise
end blocks

/-- The adaptive norm of a row. -/
def norm (X g s h : Fin 1024 → EReal) (k : Fin 1024) : EReal := X k * rs X * g k * (1 + s k) + h k

theorem pay2_at (X : FVec Ideal S512x1024 .f32) (g s h : FVec Ideal S1x1024 .f32) (i : Fin 512) (k : Fin 1024) :
    k0_pay2 (F := Ideal) X g s h (ix2 i k) = norm (fun k => X (ix2 i k)) (fun k => g (ix2 0 k)) (fun k => s (ix2 0 k)) (fun k => h (ix2 0 k)) k := by
  pointwise [k0_pay2]
  rfl

theorem ref_rs (c : Dev nD) (r : Fin 4096) (u : Fin 1) : val_main_v7 (F := Ideal) (aX m c) (ix2 r u) = rs (fun k => aX m c (ix2 r k)) := by
  pointwise [val_main_v7, val_main_v6, val_main_v5, val_main_cst_1, val_main_v4, val_main_v3, val_main_cst_0, val_main_v2, val_main_v1, val_main_cst, val_main_v0]
  rfl
theorem ref_h (c : Dev nD) (r : Fin 4096) (k : Fin 1024) : val_main_v20 (F := Ideal) (aX m c) (aG m c) (aH m c) (aS m c) (ix2 r k)
    = norm (fun k => aX m c (ix2 r k)) (fun k => aG m c (ix1 k)) (fun k => aS m c (ix1 k)) (fun k => aH m c (ix1 k)) k := by
  pointwise [val_main_v20, val_main_v19, val_main_v18, val_main_v17, val_main_v16, val_main_v15, val_main_v14, val_main_cst_2, val_main_v13, val_main_v12, val_main_v11, val_main_v10, val_main_v9, val_main_v8, ref_rs]
  rfl

section point
variable (c : Dev nD) (t : Fin cfg0.N)

theorem tile_h (i : Fin 512) (k : Fin 1024) (r : Fin 4096) (hr : r.val = t.val * 512 + i.val) :
    k0_pay11 (F := Ideal) (iblk m c 0 t) (iblk m c 1 t) (iblk m c 2 t) (ix2 i k) = val_main_v20 (F := Ideal) (aX m c) (aG m c) (aH m c) (aS m c) (ix2 r k) := by
  rw [ref_h, k0_pay11, pay2_at]
  have e (X Y g g' s s' h h' : Fin 1024 → EReal) (h0 : X = Y) (h1 : g = g') (h2 : s = s') (h3 : h = h') : norm X g s h k = norm Y g' s' h' k := by rw [h0, h1, h2, h3]
  refine e _ _ _ _ _ _ _ _ (funext fun k => ?_) (funext fun k => ?_) (funext fun k => ?_) (funext fun k => ?_)
  · refine Eq.trans ?_ (blk_x m c t i k r hr)
    pointwise
  · refine Eq.trans ?_ (blk_g m c t k)
    pointwise
  · refine Eq.trans ?_ (blk_s m c t k)
    pointwise
  · refine Eq.trans ?_ (blk_h m c t k)
    pointwise

/-- A tile's rows times a block of columns. -/
def prod (H : FVec Ideal S512x1024 .f32) (W : FVec Ideal S1x1024x256 .bf16) (i : Fin 512) (j : Fin 256) : EReal := ∑ d : Fin 1024, H (ix2 i d) * W (ix3 0 d j)

theorem prod_eq (b : Fin 8) (W : FVec Ideal S1x1024x256 .bf16) (hW : ∀ d j, W (ix3 0 d j) = iblk (F := Ideal) m c 2 t (ix3 b d j))
    (i : Fin 512) (j : Fin 256) (r : Fin 4096) (hr : r.val = t.val * 512 + i.val) (l : Fin 2048) (o : Nat) (ho : o = b.val * 256) (hl : l.val = o + j.val) :
    prod (k0_pay11 (F := Ideal) (iblk m c 0 t) (iblk m c 1 t) (iblk m c 2 t)) W i j = val_main_v22 (F := Ideal) (aX m c) (aG m c) (aH m c) (aS m c) (aW m c) (ix2 r l) := by
  refine Eq.trans ?_ (by pointwise [val_main_v22] : ∑ d : Fin 1024, val_main_v20 (F := Ideal) (aX m c) (aG m c) (aH m c) (aS m c) (ix2 r d) * aW m c (ix2 d l) = _)
  exact Finset.sum_congr rfl fun d _ => congrArg₂ (· * ·) (tile_h m c t i d r hr) ((hW d j).trans (blk_w m c t b d j l (ho ▸ hl)))
end point

section pays
variable (H : FVec Ideal S512x1024 .f32) (W : FVec Ideal S1x1024x256 .bf16) (i : Fin 512) (j : Fin 256)
theorem pay1_at : k0_pay1 (F := Ideal) H W (ix2 i j) = prod H W i j := by pointwise [k0_pay1, prod]
theorem pay5_at : k0_pay5 (F := Ideal) H (k0_pay4 W) (constant S512x256 .f32 0#32) (ix2 i j) = prod H W i j := by pointwise [k0_pay5, k0_pay4, prod]
theorem pay6_at : k0_pay6 (F := Ideal) H W (ix2 i j) = prod H W i j := by pointwise [k0_pay6, prod]
theorem pay7_at : k0_pay7 (F := Ideal) H W (ix2 i j) = prod H W i j := by pointwise [k0_pay7, prod]
theorem pay8_at : k0_pay8 (F := Ideal) H W (ix2 i j) = prod H W i j := by pointwise [k0_pay8, prod]
theorem pay9_at : k0_pay9 (F := Ideal) H W (ix2 i j) = prod H W i j := by pointwise [k0_pay9, prod]
theorem pay10_at : k0_pay10 (F := Ideal) H W (ix2 i j) = prod H W i j := by pointwise [k0_pay10, prod]
theorem pay3_at (X : FVec Ideal S512x1024 .f32) (g s h : FVec Ideal S1x1024 .f32) : k0_pay3 (F := Ideal) X g s h W (ix2 i j) = ∑ d : Fin 1024, k0_pay2 (F := Ideal) X g s h (ix2 i d) * W (ix3 0 d j) := by pointwise [k0_pay3, k0_pay2, prod]
end pays

theorem h_final (c : Dev nD) : (dats (F := Ideal) m 0 c).arrAt 3 cfg0.N = val_main_v21 (F := Ideal) (aX m c) (aG m c) (aH m c) (aS m c) := by
  refine (dats (F := Ideal) m 0 c).arrAt_eq_of_covers 3 _ (by decide +kernel) fun t _ y => ?_
  blk_simp
  rw [after0_3]
  have ht : t.val < 8 := lt_of_lt_of_eq t.isLt N_0
  idx_vars y
  have hr : (⟨t.val * 512 + y0.val, by omega⟩ : Fin 4096).val = t.val * 512 + y0.val := rfl
  generalize (⟨t.val * 512 + y0.val, by omega⟩ : Fin 4096) = r at hr
  have he : ((View.whole main_v8_0).slice (win0_3.rect t)).emb (ix2 y0 y1) = ix2 r y1 := by blk_ext [idx t]
  rw [he]
  unfold out0_3
  canon_tiles x h
  rw [eq_ix2 x, show x 0 = y0 from Fin.ext h0.symm, show x 1 = y1 from Fin.ext h1.symm]
  exact tile_h m c t y0 y1 r hr

theorem p_final (c : Dev nD) : (dats (F := Ideal) m 0 c).arrAt 4 cfg0.N = val_main_v22 (F := Ideal) (aX m c) (aG m c) (aH m c) (aS m c) (aW m c) := by
  refine (dats (F := Ideal) m 0 c).arrAt_eq_of_covers 4 _ (by decide +kernel) fun t _ y => ?_
  blk_simp
  rw [after0_4]
  have ht : t.val < 8 := lt_of_lt_of_eq t.isLt N_0
  idx_vars y
  have hr : (⟨t.val * 512 + y0.val, by omega⟩ : Fin 4096).val = t.val * 512 + y0.val := rfl
  generalize (⟨t.val * 512 + y0.val, by omega⟩ : Fin 4096) = r at hr
  have he : ((View.whole main_v8_1).slice (win0_4.rect t)).emb (ix2 y0 y1) = ix2 r y1 := by blk_ext [idx t]
  rw [he]
  unfold out0_4
  canon_tiles x h
  all_goals
    rw [eq_ix2 x, show x 0 = y0 from Fin.ext h0.symm]
  · refine (pay1_at _ _ _ _).trans (prod_eq m c t 7 _ (fun d j => ?_) y0 (x 1) r hr y1 _ rfl h1); pointwise
  · refine (pay10_at _ _ _ _).trans (prod_eq m c t 6 _ (fun d j => ?_) y0 (x 1) r hr y1 _ rfl h1); pointwise
  · refine (pay9_at _ _ _ _).trans (prod_eq m c t 5 _ (fun d j => ?_) y0 (x 1) r hr y1 _ rfl h1); pointwise
  · refine (pay8_at _ _ _ _).trans (prod_eq m c t 4 _ (fun d j => ?_) y0 (x 1) r hr y1 _ rfl h1); pointwise
  · refine (pay7_at _ _ _ _).trans (prod_eq m c t 3 _ (fun d j => ?_) y0 (x 1) r hr y1 _ rfl h1); pointwise
  · refine (pay6_at _ _ _ _).trans (prod_eq m c t 2 _ (fun d j => ?_) y0 (x 1) r hr y1 _ rfl h1); pointwise
  · refine (pay5_at _ _ _ _).trans (prod_eq m c t 1 _ (fun d j => ?_) y0 (x 1) r hr y1 _ rfl h1); pointwise
  · refine (pay3_at _ _ _ _ _ _ _).trans (prod_eq m c t 0 _ (fun d j => ?_) y0 (x 1) r hr y1 0 rfl (h1.trans (Nat.zero_add _).symm)); pointwise

end Cert.MixInFwd

end
-- ==== Proof.MixInFwd.Claim.lean ====
/- The forward of a mixer's input side: the kernel computes the adaptive norm and its product with the mixer's
   projection, on all arguments. -/
module

public import proofs.«01_k».proof.Defs
public import proofs.«01_k».proof.Proof.MixInFwd.Tile
public import proofs.«01_k».proof.Proof.Gen.ReferenceMixInFwdIdeal.Run

@[expose] public section

set_option maxRecDepth 16384

noncomputable section

namespace Cert.MixInFwd

open Idealize.ShloMosaic Idealize.ShloMosaic.TcCoe Idealize.SL.Sem Cert.KernelMixInFwdIdeal Cert.ReferenceMixInFwdIdeal.Read

theorem ref_frame : Cert.quiescent_ReferenceMixInFwdIdeal := fun m ρ _ =>
  (θ_run Cert.ReferenceMixInFwdIdeal.defs _ _).mono (fun r h => ⟨fun c => (h c).2.2, sem_eq_zero_of_no_sems (by decide) r.2⟩)
    (Cert.ReferenceMixInFwdIdeal.Value.run m ρ)

/-- Both results of the kernel are the reference's, of equal arguments. -/
theorem final (m : (ℓ : Loc nD τ sig) → Buf (Elt Ideal) ℓ) (c : Dev nD) (X : FVec Ideal S4096x1024 .f32) (G H S : FVec Ideal S1024 .f32) (W : FVec Ideal S1024x2048 .f32)
    (e0 : X = aX m c) (e1 : G = aG m c) (e2 : H = aH m c) (e3 : S = aS m c) (e4 : W = aW m c) :
    val_main_v21 (F := Ideal) X G H S = (Gen.dats (F := Ideal) m 0 c).arrAt 3 cfg0.N ∧ val_main_v22 (F := Ideal) X G H S W = (Gen.dats (F := Ideal) m 0 c).arrAt 4 cfg0.N := by
  subst e0 e1 e2 e3 e4
  exact ⟨(h_final m c).symm, (p_final m c).symm⟩

theorem algebraic : Cert.algebraic_KernelMixInFwdIdeal_ReferenceMixInFwdIdeal := by
  pair_intro
  · run_from Cert.KernelMixInFwdIdeal.Value.run_blocks m g
  · refine (θ_run Cert.ReferenceMixInFwdIdeal.defs _ _).mono (fun r h c => ?_) (Cert.ReferenceMixInFwdIdeal.Value.run m' g')
    obtain ⟨q0, q1, q2, q3, q4⟩ := hagree c
    obtain ⟨f0, f1⟩ := final m c _ _ _ _ _ q0 q1 q2 q3 q4
    obtain ⟨r0, r1, hargs⟩ := h c
    exact ⟨(r0.trans (val_main_v21_eq _ _ _ _)).trans f0, (r1.trans (val_main_v22_eq _ _ _ _ _)).trans f1, hargs⟩

end Cert.MixInFwd

end
-- ==== Proof.MixIn.Base.lean ====
module

public import proofs.«01_k».proof.Proof.Gen.KernelMixInIdeal.Value
public import proofs.«01_k».proof.Proof.Gen.ReferenceMixInIdeal.Read
public import proofs.«01_k».proof.Proof.Rms

@[expose] public section

set_option maxRecDepth 16384

noncomputable section

namespace Cert.MixIn

open Idealize.ShloMosaic Idealize.ShloMosaic.TcCoe Idealize.SL.Sem
open Idealize.ShloMosaic.Pipeline (Dat)
open Cert.KernelMixInIdeal Cert.KernelMixInIdeal.Gen
open Cert.ReferenceMixInIdeal.Read Cert.Lift Cert.Rms

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0]
    ∧ win0_6.index t = ![0, 0] ∧ win0_7.index t = ![0, 0, 0] ∧ win0_8.index t = ![t.val, 0] ∧ win0_9.index t = ![t.val, 0] ∧ win0_10.index t = ![0, 0]
    ∧ win0_11.index t = ![t.val, 0] ∧ win0_12.index t = ![0, 0] ∧ win0_13.index t = ![t.val, 0] ∧ win0_14.index t = ![0, 0] ∧ win0_15.index t = ![0, 0, 0] := (by decide +kernel : ∀ t : Fin grid0.N, _)

/-- The arguments of the run, by name. -/
def aX (c : Dev nD) : FVec Ideal S4096x1024 .f32 := m ((c : Thread nD τ).loc main_arg0)
def aG (c : Dev nD) : FVec Ideal S1024 .f32 := m ((c : Thread nD τ).loc main_arg1)
def aH (c : Dev nD) : FVec Ideal S1024 .f32 := m ((c : Thread nD τ).loc main_arg2)
def aS (c : Dev nD) : FVec Ideal S1024 .f32 := m ((c : Thread nD τ).loc main_arg3)
def aW (c : Dev nD) : FVec Ideal S1024x2048 .f32 := m ((c : Thread nD τ).loc main_arg4)
def aF (c : Dev nD) : FVec Ideal S4096x1024 .f32 := m ((c : Thread nD τ).loc main_arg5)
def aT (c : Dev nD) : FVec Ideal S1024 .f32 := m ((c : Thread nD τ).loc main_arg6)
def aD (c : Dev nD) : FVec Ideal S4096x1024 .f32 := m ((c : Thread nD τ).loc main_arg7)
def aP (c : Dev nD) : FVec Ideal S4096x2048 .f32 := m ((c : Thread nD τ).loc main_arg8)

/-- The stream after the residual, the normalised stream, the gradient of the latter, and of the stream. -/
def sX (c : Dev nD) : FVec Ideal S4096x1024 .f32 := val_main_v5 (F := Ideal) (aX m c) (aF m c) (aT m c)
def sH (c : Dev nD) : FVec Ideal S4096x1024 .f32 := val_main_v29 (F := Ideal) (aX m c) (aG m c) (aH m c) (aS m c) (aF m c) (aT m c)
def sDh (c : Dev nD) : FVec Ideal S4096x1024 .f32 := val_main_v33 (F := Ideal) (aW m c) (aP m c)
def sGx (c : Dev nD) : FVec Ideal S4096x1024 .f32 := val_main_v63 (F := Ideal) (aX m c) (aG m c) (aS m c) (aW m c) (aF m c) (aT m c) (aD m c) (aP m c)

theorem V_x (c : Dev nD) : V (F := Ideal) m c main_v13 = sX m c := by rfl
theorem V_h (c : Dev nD) : V (F := Ideal) m c main_v35 = sH m c := by rfl

section blocks
variable (c : Dev nD) (t : Fin cfg0.N)

theorem blk_d (i : Fin 512) (k : Fin 1024) (r : Fin 4096) (hr : r.val = t.val * 512 + i.val) :
    iblk (F := Ideal) m c 0 t (ix2 i k) = aD m c (ix2 r k) := by unfold aD; blk_point [iblk, V, idx t]
theorem blk_x (i : Fin 512) (k : Fin 1024) (r : Fin 4096) (hr : r.val = t.val * 512 + i.val) :
    iblk (F := Ideal) m c 1 t (ix2 i k) = sX m c (ix2 r k) := by
  rw [← V_x]
  blk_simp [iblk]
  exact congrArg _ (by blk_ext [idx t])
theorem blk_h (i : Fin 512) (k : Fin 1024) (r : Fin 4096) (hr : r.val = t.val * 512 + i.val) :
    iblk (F := Ideal) m c 8 t (ix2 i k) = sH m c (ix2 r k) := by
  rw [← V_h]
  blk_simp [iblk]
  exact congrArg _ (by blk_ext [idx t])
theorem blk_f (i : Fin 512) (k : Fin 1024) (r : Fin 4096) (hr : r.val = t.val * 512 + i.val) :
    iblk (F := Ideal) m c 9 t (ix2 i k) = aF m c (ix2 r k) := by unfold aF; blk_point [iblk, V, idx t]
theorem blk_p0 (i k : Fin 512) (r : Fin 4096) (l : Fin 2048) (hr : r.val = t.val * 512 + i.val) (hl : l.val = 0 * 512 + k.val) :
    iblk (F := Ideal) m c 2 t (ix2 i k) = aP m c (ix2 r l) := by unfold aP; blk_point [iblk, V, idx t]
theorem blk_p1 (i k : Fin 512) (r : Fin 4096) (l : Fin 2048) (hr : r.val = t.val * 512 + i.val) (hl : l.val = 1 * 512 + k.val) :
    iblk (F := Ideal) m c 3 t (ix2 i k) = aP m c (ix2 r l) := by unfold aP; blk_point [iblk, V, idx t]
theorem blk_p2 (i k : Fin 512) (r : Fin 4096) (l : Fin 2048) (hr : r.val = t.val * 512 + i.val) (hl : l.val = 2 * 512 + k.val) :
    iblk (F := Ideal) m c 4 t (ix2 i k) = aP m c (ix2 r l) := by unfold aP; blk_point [iblk, V, idx t]
theorem blk_p3 (i k : Fin 512) (r : Fin 4096) (l : Fin 2048) (hr : r.val = t.val * 512 + i.val) (hl : l.val = 3 * 512 + k.val) :
    iblk (F := Ideal) m c 5 t (ix2 i k) = aP m c (ix2 r l) := by unfold aP; blk_point [iblk, V, idx t]
theorem blk_w (b : Fin 8) (d : Fin 1024) (k : Fin 256) (l : Fin 2048) (hl : l.val = b.val * 256 + k.val) :
    iblk (F := Ideal) m c 7 t (ix3 b d k) = aW m c (ix2 d l) := by unfold aW; blk_point [iblk, V, idx t]

theorem V_vec : ∃ z, V (F := Ideal) m c main_v4 = concatenate S8x1024 0 [⟨S1x1024, shapeCast S1x1024 (aG m c) shapeCasts_S1024_S1x1024⟩, ⟨S1x1024, shapeCast S1x1024 (aH m c) shapeCasts_S1024_S1x1024⟩, ⟨S1x1024, shapeCast S1x1024 (aS m c) shapeCasts_S1024_S1x1024⟩, ⟨S5x1024, z⟩] concatenates_S1x1024_S1x1024_S1x1024_S5x1024_S8x1024_d0 := ⟨_, rfl⟩
theorem V_nvec : ∃ z, V (F := Ideal) m c main_v46 = concatenate S8x1024 0 [⟨S1x1024, shapeCast S1x1024 (aT m c) shapeCasts_S1024_S1x1024⟩, ⟨S1x1024, shapeCast S1x1024 (aT m c) shapeCasts_S1024_S1x1024⟩, ⟨S1x1024, shapeCast S1x1024 (aT m c) shapeCasts_S1024_S1x1024⟩, ⟨S1x1024, shapeCast S1x1024 (aT m c) shapeCasts_S1024_S1x1024⟩, ⟨S4x1024, z⟩] concatenates_S1x1024_S1x1024_S1x1024_S1x1024_S4x1024_S8x1024_d0 := ⟨_, rfl⟩
theorem blk_g (k : Fin 1024) : iblk (F := Ideal) m c 6 t (ix2 0 k) = aG m c (ix1 k) := by
  obtain ⟨z, hz⟩ := V_vec m c
  have h : iblk (F := Ideal) m c 6 t (ix2 0 k) = V (F := Ideal) m c main_v4 (ix2 0 k) := by
    blk_simp [iblk]
    exact congrArg _ (by blk_ext [idx t])
  rw [h, hz]
  pointwise
theorem blk_s (k : Fin 1024) : iblk (F := Ideal) m c 6 t (ix2 2 k) = aS m c (ix1 k) := by
  obtain ⟨z, hz⟩ := V_vec m c
  have h : iblk (F := Ideal) m c 6 t (ix2 2 k) = V (F := Ideal) m c main_v4 (ix2 2 k) := by
    blk_simp [iblk]
    exact congrArg _ (by blk_ext [idx t])
  rw [h, hz]
  pointwise
theorem blk_t (k : Fin 1024) : iblk (F := Ideal) m c 10 t (ix2 3 k) = aT m c (ix1 k) := by
  obtain ⟨z, hz⟩ := V_nvec m c
  have h : iblk (F := Ideal) m c 10 t (ix2 3 k) = V (F := Ideal) m c main_v46 (ix2 3 k) := by
    blk_simp [iblk]
    exact congrArg _ (by blk_ext [idx t])
  rw [h, hz]
  pointwise
end blocks

section point
variable (c : Dev nD) (t : Fin cfg0.N)

/-- The tile of the gradient of the normalised stream, as the kernel adds it up. -/
def tDh : FVec Ideal S512x1024 .f32 :=
  k0_pay27
    (k0_pay25
      (k0_pay23 (View.ld (iblk (F := Ideal) m c 2 t) (Rect.unit ![0, 0] ![512, 256] inb_S512x512_S512x256_0_0))
        (View.ld (iblk (F := Ideal) m c 7 t) (Rect.unit ![0, 0, 0] ![1, 1024, 256] inb_S8x1024x256_S1x1024x256_0_0_0))
        (View.ld (iblk (F := Ideal) m c 2 t) (Rect.unit ![0, 256] ![512, 256] inb_S512x512_S512x256_0_256))
        (View.ld (iblk (F := Ideal) m c 7 t) (Rect.unit ![1, 0, 0] ![1, 1024, 256] inb_S8x1024x256_S1x1024x256_1_0_0)))
      (k0_pay24 (View.ld (iblk (F := Ideal) m c 3 t) (Rect.unit ![0, 0] ![512, 256] inb_S512x512_S512x256_0_0)))
      (View.ld (iblk (F := Ideal) m c 7 t) (Rect.unit ![2, 0, 0] ![1, 1024, 256] inb_S8x1024x256_S1x1024x256_2_0_0))
      (View.ld (iblk (F := Ideal) m c 3 t) (Rect.unit ![0, 256] ![512, 256] inb_S512x512_S512x256_0_256))
      (View.ld (iblk (F := Ideal) m c 7 t) (Rect.unit ![3, 0, 0] ![1, 1024, 256] inb_S8x1024x256_S1x1024x256_3_0_0))
      (View.ld (iblk (F := Ideal) m c 4 t) (Rect.unit ![0, 0] ![512, 256] inb_S512x512_S512x256_0_0))
      (View.ld (iblk (F := Ideal) m c 7 t) (Rect.unit ![4, 0, 0] ![1, 1024, 256] inb_S8x1024x256_S1x1024x256_4_0_0))
      (View.ld (iblk (F := Ideal) m c 4 t) (Rect.unit ![0, 256] ![512, 256] inb_S512x512_S512x256_0_256))
      (View.ld (iblk (F := Ideal) m c 7 t) (Rect.unit ![5, 0, 0] ![1, 1024, 256] inb_S8x1024x256_S1x1024x256_5_0_0))
      (View.ld (iblk (F := Ideal) m c 5 t) (Rect.unit ![0, 0] ![512, 256] inb_S512x512_S512x256_0_0))
      (View.ld (iblk (F := Ideal) m c 7 t) (Rect.unit ![6, 0, 0] ![1, 1024, 256] inb_S8x1024x256_S1x1024x256_6_0_0)))
    (k0_pay26 (View.ld (iblk (F := Ideal) m c 5 t) (Rect.unit ![0, 256] ![512, 256] inb_S512x512_S512x256_0_256)))
    (View.ld (iblk (F := Ideal) m c 7 t) (Rect.unit ![7, 0, 0] ![1, 1024, 256] inb_S8x1024x256_S1x1024x256_7_0_0))

/-- The tile of the gradient of the stream. -/
def tGx : FVec Ideal S512x1024 .f32 :=
  k0_pay36 (tDh m c t) (iblk (F := Ideal) m c 0 t) (k0_pay29 (iblk (F := Ideal) m c 1 t)) (k0_pay30 (iblk (F := Ideal) m c 1 t))
    (k0_pay33 (View.ld (iblk (F := Ideal) m c 6 t) (Rect.unit ![0, 0] ![1, 1024] inb_S8x1024_S1x1024_0_0)))
    (k0_pay34 (View.ld (iblk (F := Ideal) m c 6 t) (Rect.unit ![2, 0] ![1, 1024] inb_S8x1024_S1x1024_2_0))) k0_pay35

theorem chain_at (u0 u1 u2 u3 u4 u5 u6 u7 : FVec Ideal S512x256 .bf16) (w0 w1 w2 w3 w4 w5 w6 w7 : FVec Ideal S1x1024x256 .bf16) (i : Fin 512) (d : Fin 1024) (a b : Fin 8 → Fin 256 → EReal)
    (hu0 : ∀ k : Fin 256, u0 (ix2 i k) = a 0 k) (hu1 : ∀ k : Fin 256, u1 (ix2 i k) = a 1 k) (hu2 : ∀ k : Fin 256, u2 (ix2 i k) = a 2 k) (hu3 : ∀ k : Fin 256, u3 (ix2 i k) = a 3 k) (hu4 : ∀ k : Fin 256, u4 (ix2 i k) = a 4 k) (hu5 : ∀ k : Fin 256, u5 (ix2 i k) = a 5 k) (hu6 : ∀ k : Fin 256, u6 (ix2 i k) = a 6 k) (hu7 : ∀ k : Fin 256, u7 (ix2 i k) = a 7 k)
    (hw0 : ∀ k : Fin 256, w0 (ix3 0 d k) = b 0 k) (hw1 : ∀ k : Fin 256, w1 (ix3 0 d k) = b 1 k) (hw2 : ∀ k : Fin 256, w2 (ix3 0 d k) = b 2 k) (hw3 : ∀ k : Fin 256, w3 (ix3 0 d k) = b 3 k) (hw4 : ∀ k : Fin 256, w4 (ix3 0 d k) = b 4 k) (hw5 : ∀ k : Fin 256, w5 (ix3 0 d k) = b 5 k) (hw6 : ∀ k : Fin 256, w6 (ix3 0 d k) = b 6 k) (hw7 : ∀ k : Fin 256, w7 (ix3 0 d k) = b 7 k) :
    k0_pay27 (F := Ideal) (k0_pay25 (k0_pay23 u0 w0 u1 w1) (k0_pay24 u2) w2 u3 w3 u4 w4 u5 w5 u6 w6) (k0_pay26 u7) w7 (ix2 i d) = ∑ s, ∑ k, a s k * b s k := by
  pointwise [k0_pay27, k0_pay26, k0_pay25, k0_pay24, k0_pay23, hu0, hw0, hu1, hw1, hu2, hw2, hu3, hw3, hu4, hw4, hu5, hw5, hu6, hw6, hu7, hw7]
  simp only [zero_add, Fin.sum_univ_eight]

theorem ld_p {Val : EltTy → Type} {e : EltTy} (X : S512x512.Idx → Val e) (o : ℕ) (inb : ∀ j, (![0, o] : Fin 2 → ℕ) j + (![512, 256] : Fin 2 → ℕ) j ≤ S512x512.size j) (i : Fin 512) (k : Fin 256) (k' : Fin 512) (h : k'.val = o + k.val) :
    View.ld X (Rect.unit (s := S512x512) ![0, o] ![512, 256] inb) (ix2 i k) = X (ix2 i k') := by
  refine View.ld_unit_apply_of _ _ _ _ _ _ fun j => ?_
  fin_cases j
  · exact (Nat.zero_add _).symm
  · exact h
theorem ld_w {Val : EltTy → Type} {e : EltTy} (X : S8x1024x256.Idx → Val e) (o : ℕ) (inb : ∀ j, (![o, 0, 0] : Fin 3 → ℕ) j + (![1, 1024, 256] : Fin 3 → ℕ) j ≤ S8x1024x256.size j) (d : Fin 1024) (k : Fin 256) (b : Fin 8) (h : b.val = o) :
    View.ld X (Rect.unit (s := S8x1024x256) ![o, 0, 0] ![1, 1024, 256] inb) (ix3 0 d k) = X (ix3 b d k) := by
  refine View.ld_unit_apply_of _ _ _ _ _ _ fun j => ?_
  fin_cases j
  · exact h
  · exact (Nat.zero_add _).symm
  · exact (Nat.zero_add _).symm

theorem dh_at (i : Fin 512) (d : Fin 1024) (r : Fin 4096) (hr : r.val = t.val * 512 + i.val) : tDh m c t (ix2 i d) = sDh m c (ix2 r d) := by
  have h : sDh m c (ix2 r d) = ∑ l, aP m c (ix2 r l) * aW m c (ix2 d l) := by
    rw [sDh]
    pointwise [val_main_v33]
  have hw (o : ℕ) (inb) (b : Fin 8) (hb : b.val = o) (k : Fin 256) : View.ld (iblk (F := Ideal) m c 7 t) (Rect.unit (s := S8x1024x256) ![o, 0, 0] ![1, 1024, 256] inb) (ix3 0 d k) = aW m c (ix2 d ⟨b.val * 256 + k.val, by omega⟩) :=
    (ld_w _ o inb d k b hb).trans (blk_w m c t b d k _ rfl)
  rw [h, ← Fin.sum_mul_add_fin 8 (n := 256) (fun l => aP m c (ix2 r l) * aW m c (ix2 d l))]
  refine chain_at _ _ _ _ _ _ _ _ _ _ _ _ _ _ _ _ i d (fun s k => aP m c (ix2 r ⟨s.val * 256 + k.val, by omega⟩)) (fun s k => aW m c (ix2 d ⟨s.val * 256 + k.val, by omega⟩))
    (fun k => ?_) (fun k => ?_) (fun k => ?_) (fun k => ?_) (fun k => ?_) (fun k => ?_) (fun k => ?_) (fun k => ?_)
    (fun k => hw _ _ 0 rfl k) (fun k => hw _ _ 1 rfl k) (fun k => hw _ _ 2 rfl k) (fun k => hw _ _ 3 rfl k) (fun k => hw _ _ 4 rfl k) (fun k => hw _ _ 5 rfl k) (fun k => hw _ _ 6 rfl k) (fun k => hw _ _ 7 rfl k)
  · exact (ld_p _ 0 _ i k ⟨k.val, by omega⟩ (Nat.zero_add _).symm).trans (blk_p0 m c t _ _ _ _ hr (by simp))
  · exact (ld_p _ 256 _ i k ⟨256 + k.val, by omega⟩ rfl).trans (blk_p0 m c t _ _ _ _ hr (by simp))
  · exact (ld_p _ 0 _ i k ⟨k.val, by omega⟩ (Nat.zero_add _).symm).trans (blk_p1 m c t _ _ _ _ hr (by simp))
  · exact (ld_p _ 256 _ i k ⟨256 + k.val, by omega⟩ rfl).trans (blk_p1 m c t _ _ _ _ hr (by simp; omega))
  · exact (ld_p _ 0 _ i k ⟨k.val, by omega⟩ (Nat.zero_add _).symm).trans (blk_p2 m c t _ _ _ _ hr (by simp))
  · exact (ld_p _ 256 _ i k ⟨256 + k.val, by omega⟩ rfl).trans (blk_p2 m c t _ _ _ _ hr (by simp; omega))
  · exact (ld_p _ 0 _ i k ⟨k.val, by omega⟩ (Nat.zero_add _).symm).trans (blk_p3 m c t _ _ _ _ hr (by simp))
  · exact (ld_p _ 256 _ i k ⟨256 + k.val, by omega⟩ rfl).trans (blk_p3 m c t _ _ _ _ hr (by simp; omega))

theorem rs_at (X : FVec Ideal S512x1024 .f32) (i : Fin 512) : k0_pay29 (F := Ideal) X (ix2 i 0) = rs (fun k => X (ix2 i k)) := by
  pointwise [k0_pay29, k0_pay28]
  rfl
theorem hat_at (X : FVec Ideal S512x1024 .f32) (i : Fin 512) (k : Fin 1024) : k0_pay30 (F := Ideal) X (ix2 i k) = X (ix2 i k) * rs (fun k => X (ix2 i k)) := by
  pointwise [k0_pay30, k0_pay28, rs_at]
theorem pay36_at (dh x0 X : FVec Ideal S512x1024 .f32) (g s : FVec Ideal S1x1024 .f32) (i : Fin 512) (d : Fin 1024) :
    k0_pay36 (F := Ideal) dh x0 (k0_pay29 X) (k0_pay30 X) (k0_pay33 g) (k0_pay34 s) k0_pay35 (ix2 i d)
      = x0 (ix2 i d) + back (fun k => X (ix2 i k)) (fun k => dh (ix2 i k) * (g (ix2 0 k) * (1 + s (ix2 0 k)))) d := by
  pointwise [k0_pay36, k0_pay33, k0_pay34, k0_pay35, rs_at, hat_at]
  rfl

theorem ref_ms (r : Fin 4096) (u : Fin 1) : val_main_v12 (F := Ideal) (aX m c) (aF m c) (aT m c) (ix2 r u) = ms (fun k => sX m c (ix2 r k)) := by
  rw [val_main_v12, val_main_v11, val_main_v10, val_main_v9, val_main_v8, val_main_v7, val_main_v6]
  change _ = ms (fun k => val_main_v5 (F := Ideal) (aX m c) (aF m c) (aT m c) (ix2 r k))
  pointwise [val_main_cst_0, val_main_cst_1, val_main_cst_2]
  rfl
theorem ref_rs (r : Fin 4096) (u : Fin 1) : val_main_v13 (F := Ideal) (aX m c) (aF m c) (aT m c) (ix2 r u) = rs (fun k => sX m c (ix2 r k)) := by
  pointwise [val_main_v13, ref_ms]
  rfl
theorem ref_hat (r : Fin 4096) (k : Fin 1024) : val_main_v18 (F := Ideal) (aX m c) (aF m c) (aT m c) (ix2 r k) = sX m c (ix2 r k) * rs (fun k => sX m c (ix2 r k)) := by
  pointwise [val_main_v18, val_main_v17, ref_rs]
  rfl

/-- The real factors of the gradient of the normalised row. -/
structure Reals (g s : Fin 1024 → ℝ) (δ : Fin 4096 → Fin 1024 → ℝ) : Prop where
  hg : ∀ k, aG m c (ix1 k) = ((g k : ℝ) : EReal)
  hs : ∀ k, aS m c (ix1 k) = ((s k : ℝ) : EReal)
  hd : ∀ r k, sDh m c (ix2 r k) = ((δ r k : ℝ) : EReal)

theorem ref_v (r : Fin 4096) (k : Fin 1024) : val_main_v47 (F := Ideal) (aG m c) (aS m c) (aW m c) (aP m c) (ix2 r k) = sDh m c (ix2 r k) * (aG m c (ix1 k) * (1 + aS m c (ix1 k))) := by
  pointwise [val_main_v47, val_main_v46, val_main_v41, val_main_v40, val_main_v24, val_main_v23, val_main_cst_4, val_main_v22, val_main_v19]
  rw [mul_comm (aG m c (ix1 k)), ← mul_assoc]
  rfl

theorem ref_at (g s : Fin 1024 → ℝ) (δ : Fin 4096 → Fin 1024 → ℝ) (H : Reals m c g s δ) (r : Fin 4096) (d : Fin 1024) :
    sGx m c (ix2 r d) = aD m c (ix2 r d) + back (fun k => sX m c (ix2 r k)) (fun k => sDh m c (ix2 r k) * (aG m c (ix1 k) * (1 + aS m c (ix1 k)))) d := by
  rw [← back_eq _ _ (fun k => δ r k * (g k * (1 + s k))) (fun k => by rw [H.hd, H.hg, H.hs, one_coe, ← EReal.coe_add, ← EReal.coe_mul, ← EReal.coe_mul]), sGx]
  have hx (k) : val_main_v5 (F := Ideal) (aX m c) (aF m c) (aT m c) (ix2 r k) = sX m c (ix2 r k) := rfl
  pointwise [val_main_v63, val_main_v62, val_main_v61, val_main_v60, val_main_v59, val_main_v58, val_main_cst_13, val_main_v57, val_main_v56, val_main_cst_12, val_main_v55, val_main_v16, val_main_v15, val_main_cst_3, val_main_v14,
    val_main_v54, val_main_v53, val_main_v52, val_main_v51, val_main_v50, val_main_cst_11, val_main_v49, ref_rs, ref_ms, ref_v, hx]
  simp only [zero_add, Finset.univ_unique, Finset.sum_singleton]
  rfl

theorem gx_at (g s : Fin 1024 → ℝ) (δ : Fin 4096 → Fin 1024 → ℝ) (H : Reals m c g s δ) (i : Fin 512) (d : Fin 1024) (r : Fin 4096) (hr : r.val = t.val * 512 + i.val) : tGx m c t (ix2 i d) = sGx m c (ix2 r d) := by
  rw [ref_at m c g s δ H, tGx, pay36_at, blk_d m c t i d r hr]
  refine congrArg _ (congrArg₂ (back · · d) (funext fun k => blk_x m c t i k r hr) (funext fun k => congrArg₂ (· * ·) (dh_at m c t i k r hr) (congrArg₂ (· * ·) ?_ (congrArg _ ?_))))
  · refine Eq.trans ?_ (blk_g m c t k)
    pointwise
  · refine Eq.trans ?_ (blk_s m c t k)
    pointwise
end point

end Cert.MixIn

end
-- ==== Proof.MixIn.Gx.lean ====
module

public import proofs.«01_k».proof.Proof.MixIn.Base

@[expose] public section

set_option maxRecDepth 16384

noncomputable section

namespace Cert.MixIn

open Idealize.ShloMosaic Idealize.ShloMosaic.TcCoe Idealize.SL.Sem
open Idealize.ShloMosaic.Pipeline (Dat)
open Cert.KernelMixInIdeal Cert.KernelMixInIdeal.Gen
open Cert.ReferenceMixInIdeal.Read Cert.Lift Cert.Rms

variable (m : (ℓ : Loc nD τ sig) → Buf (Elt Ideal) ℓ)

variable (c : Dev nD) (t : Fin cfg0.N)

theorem cases (t : Fin cfg0.N) : t.val % 8 = 0 ∧ ¬t.val % 8 = 7 ∨ ¬t.val % 8 = 0 ∧ ¬t.val % 8 = 7 ∨ ¬t.val % 8 = 0 ∧ t.val % 8 = 7 := by omega

theorem dx_out : (outsAt0 (F := Ideal) m c t.val t.isLt).1 = tGx m c t := by
  rcases cases t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    rfl

theorem c_half : Ideal.ofBits .f32 0x3F000000#32 = ((1 / 2 : ℝ) : EReal) := by
  simp [Ideal.ofBits, Ideal.ieee, -EReal.coe_mul]; norm_num

theorem pay37_at (dh x0 r X : FVec Ideal S512x1024 .f32) (q : FVec Ideal S512x1 .f32) (g s o n : FVec Ideal S1x1024 .f32) (G : FVec Ideal S512x1024 .f32) (hG : k0_pay36 (F := Ideal) dh x0 q r g s o = G) (i : Fin 512) (d : Fin 1024) :
    k0_pay37 (F := Ideal) dh x0 q r g s o n (ix2 i d) = Ideal.ofBits .f32 0x3F000000#32 * n (ix2 0 d) * G (ix2 i d) := by
  pointwise [k0_pay37, hG]

theorem df_out (i : Fin 512) (d : Fin 1024) : (outsAt0 (F := Ideal) m c t.val t.isLt).2.2.1 (ix2 i d) = Ideal.ofBits .f32 0x3F000000#32 * aT m c (ix1 d) * tGx m c t (ix2 i d) := by
  rcases cases t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    refine (pay37_at _ _ _ (fun _ => 0) _ _ _ _ _ (tGx m c t) rfl i d).trans ?_
    refine congrArg (_ * · * _) (Eq.trans ?_ (blk_t m c t d))
    pointwise

section gx
variable (g s : Fin 1024 → ℝ) (δ : Fin 4096 → Fin 1024 → ℝ) (H : Reals m c g s δ)
include H

theorem dx_final : (dats (F := Ideal) m 0 c).arrAt 11 cfg0.N = val_main_v63 (F := Ideal) (aX m c) (aG m c) (aS m c) (aW m c) (aF m c) (aT m c) (aD m c) (aP m c) := by
  refine (dats (F := Ideal) m 0 c).arrAt_eq_of_covers 11 _ (by decide +kernel) fun t _ y => ?_
  blk_simp
  rw [after0_11, dx_out]
  have ht : t.val < 8 := lt_of_lt_of_eq t.isLt N_0
  idx_vars y
  have hr : (⟨t.val * 512 + y0.val, by omega⟩ : Fin 4096).val = t.val * 512 + y0.val := rfl
  generalize (⟨t.val * 512 + y0.val, by omega⟩ : Fin 4096) = r at hr
  have he : ((View.whole main_v48_0).slice (win0_11.rect t)).emb (ix2 y0 y1) = ix2 r y1 := by blk_ext [idx t]
  rw [he, gx_at m c t g s δ H y0 y1 r hr]
  rfl

theorem df_final : (dats (F := Ideal) m 0 c).arrAt 13 cfg0.N = val_main_v85 (F := Ideal) (aX m c) (aG m c) (aS m c) (aW m c) (aF m c) (aT m c) (aD m c) (aP m c) := by
  refine (dats (F := Ideal) m 0 c).arrAt_eq_of_covers 13 _ (by decide +kernel) fun t _ y => ?_
  blk_simp
  rw [after0_13]
  have ht : t.val < 8 := lt_of_lt_of_eq t.isLt N_0
  idx_vars y
  have hr : (⟨t.val * 512 + y0.val, by omega⟩ : Fin 4096).val = t.val * 512 + y0.val := rfl
  generalize (⟨t.val * 512 + y0.val, by omega⟩ : Fin 4096) = r at hr
  have he : ((View.whole main_v48_2).slice (win0_13.rect t)).emb (ix2 y0 y1) = ix2 r y1 := by blk_ext [idx t]
  rw [he, df_out, gx_at m c t g s δ H y0 y1 r hr, sGx]
  pointwise [val_main_v85, val_main_v66, val_main_v65, val_main_v64, val_main_v2, val_main_v1, val_main_cst, val_main_v0]
end gx

/-- What a tile adds to the gradient of the residual's scale. -/
def partT (p : ℕ) (d : Fin 1024) : EReal := Ideal.ofBits .f32 0x3F000000#32 * ∑ i : Fin 512, sGx m c (ix2 (tileRow 4096 512 p i) d) * aF m c (ix2 (tileRow 4096 512 p i) d)

theorem pay38_at (dh x0 r : FVec Ideal S512x1024 .f32) (q : FVec Ideal S512x1 .f32) (g s o A : FVec Ideal S1x1024 .f32) (G : FVec Ideal S512x1024 .f32) (hG : k0_pay36 (F := Ideal) dh x0 q r g s o = G) (f : FVec Ideal S512x1024 .bf16) (d : Fin 1024) :
    k0_pay38 (F := Ideal) dh x0 q r g s o A f (ix2 0 d) = A (ix2 0 d) + Ideal.ofBits .f32 0x3F000000#32 * ∑ i, G (ix2 i d) * f (ix2 i d) := by
  pointwise [k0_pay38, hG]

section dgt
variable (g s : Fin 1024 → ℝ) (δ : Fin 4096 → Fin 1024 → ℝ) (H : Reals m c g s δ)
include H

theorem sumT (d : Fin 1024) : Ideal.ofBits .f32 0x3F000000#32 * ∑ i : Fin 512, tGx m c t (ix2 i d) * iblk (F := Ideal) m c 9 t (ix2 i d) = partT m c t.val d := by
  have ht : t.val < 8 := lt_of_lt_of_eq t.isLt N_0
  refine congrArg _ (Finset.sum_congr rfl fun i _ => ?_)
  have hr := tileRow_val (N := 4096) (p := t.val) i (by omega)
  rw [gx_at m c t g s δ H i d _ hr, blk_f m c t i d _ hr]

theorem dgt_first (d : Fin 1024) (h0 : t.val % 8 = 0) (i : Fin 8) : (outsAt0 (F := Ideal) m c t.val t.isLt).2.2.2.1 (ix2 i d) = if i = 2 then partT m c t.val d else 0 := by
  rw [outsAt0_A m c t h0 (by omega)]
  frame_out
  have z (i : Fin 8) : k0_pay14 (F := Ideal) (ix2 i d) = 0 := by pointwise [k0_pay14]
  by_cases hi : i = 2
  · subst hi
    rw [if_pos rfl]
    refine (row_hit _ _ _ _ 0 _ rfl).trans ((pay38_at _ _ _ _ _ _ _ _ (tGx m c t) rfl _ d).trans ?_)
    rw [sumT m c t g s δ H d]
    exact (congrArg (· + _) ((row_cov _ _ _ 2 _ _ rfl).trans ((row_hit _ _ _ _ 2 _ (Nat.zero_add _).symm).trans (z 2)))).trans (zero_add _)
  · rw [if_neg hi]
    exact (row_miss _ _ _ _ _ (by omega)).trans ((row_hit _ _ _ _ i _ (Nat.zero_add _).symm).trans (z i))

theorem dgt_next (d : Fin 1024) (h0 : ¬t.val % 8 = 0) (hp : t.val - 1 < cfg0.N) (i : Fin 8) :
    (outsAt0 (F := Ideal) m c t.val t.isLt).2.2.2.1 (ix2 i d) = if i = 2 then (outsAt0 (F := Ideal) m c (t.val - 1) hp).2.2.2.1 (ix2 2 d) + partT m c t.val d else (outsAt0 (F := Ideal) m c (t.val - 1) hp).2.2.2.1 (ix2 i d) := by
  by_cases h7 : t.val % 8 = 7
  on_goal 1 => rw [outsAt0_C m c t h0 h7]
  on_goal 2 => rw [outsAt0_B m c t h0 h7]
  all_goals
    frame_out
    by_cases hi : i = 2
    · subst hi
      rw [if_pos rfl]
      refine (row_hit' _ _ _ _ _ _ 0 _ rfl).trans ((pay38_at _ _ _ _ _ _ _ _ (tGx m c t) rfl _ d).trans ?_)
      rw [sumT m c t g s δ H d]
      refine congrArg (· + _) ?_
      pointwise
    · rw [if_neg hi]
      refine (row_miss' _ _ _ _ _ _ _ (by omega)).trans ?_
      exact congrFun ((hs0_14 t).read_unread _) _

theorem dgt_carried (d : Fin 1024) (i : Fin 8) : ∀ (n : ℕ) (hn : n < cfg0.N), (outsAt0 (F := Ideal) m c n hn).2.2.2.1 (ix2 i d) = if i = 2 then ∑ p ∈ Finset.range (n + 1), partT m c p d else 0
  | 0, hn => by
    rw [Finset.sum_range_one]
    exact dgt_first m c ⟨0, hn⟩ g s δ H d rfl i
  | n + 1, hn => by
    have hN : n + 1 < 8 := lt_of_lt_of_eq hn N_0
    refine (dgt_next m c ⟨n + 1, hn⟩ g s δ H d (by show ¬(n + 1) % 8 = 0; omega) (by show n < _; omega) i).trans ?_
    by_cases hi : i = 2
    · rw [if_pos hi, if_pos hi, Finset.sum_range_succ _ (n + 1)]
      exact congrArg (· + _) ((dgt_carried d 2 n (by omega)).trans (if_pos rfl))
    · rw [if_neg hi, if_neg hi]
      exact (dgt_carried d i n (by omega)).trans (if_neg hi)

omit H in
theorem ref_dgt (i : Fin 8) (d : Fin 1024) : val_main_v94 (F := Ideal) (aX m c) (aG m c) (aS m c) (aW m c) (aF m c) (aT m c) (aD m c) (aP m c) (ix2 i d)
    = if i = 2 then Ideal.ofBits .f32 0x3F000000#32 * ∑ r, sGx m c (ix2 r d) * aF m c (ix2 r d) else 0 := by
  have hx (r k) : val_main_v63 (F := Ideal) (aX m c) (aG m c) (aS m c) (aW m c) (aF m c) (aT m c) (aD m c) (aP m c) (ix2 r k) = sGx m c (ix2 r k) := rfl
  obtain rfl | rfl | rfl | rfl | rfl | rfl | rfl | rfl : i = 0 ∨ i = 1 ∨ i = 2 ∨ i = 3 ∨ i = 4 ∨ i = 5 ∨ i = 6 ∨ i = 7 := by omega
  all_goals pointwise [val_main_v94, val_main_v86, val_main_v87, val_main_v88, val_main_v89, val_main_v90, val_main_v91, val_main_v92, val_main_v93, val_main_v73, val_main_cst_17,
    val_main_v72, val_main_cst_16, val_main_v71, val_main_v70, val_main_cst_15, val_main_v69, val_main_v68, val_main_cst_14, val_main_v67, val_main_v64, hx]
  all_goals try rfl
  simp only [Finset.univ_unique, Finset.sum_singleton]

omit H in
theorem sum_parts (d : Fin 1024) : ∑ p ∈ Finset.range 8, partT m c p d = Ideal.ofBits .f32 0x3F000000#32 * ∑ r, sGx m c (ix2 r d) * aF m c (ix2 r d) := by
  rw [c_half, ← sum_tiles (N := 4096) (n := 512) (P := 8) (M := EReal) rfl fun r => sGx m c (ix2 r d) * aF m c (ix2 r d), mul_sum_nonneg (by norm_num)]
  exact Finset.sum_congr rfl fun p _ => by rw [partT, c_half]

theorem dgt_final : (dats (F := Ideal) m 0 c).arrAt 14 cfg0.N = val_main_v94 (F := Ideal) (aX m c) (aG m c) (aS m c) (aW m c) (aF m c) (aT m c) (aD m c) (aP m c) := by
  refine (dats (F := Ideal) m 0 c).arrAt_eq_of_after_last 14 t0_7 (by decide +kernel) _ fun j => ?_
  blk_simp
  rw [after0_14]
  idx_vars j
  rw [ref_dgt, dgt_carried m c g s δ H j1 j0]
  have h7 : (t0_7 : Fin cfg0.N).val = 7 := rfl
  rw [h7]
  by_cases hi : j0 = 2
  · rw [if_pos hi, if_pos hi]
    exact sum_parts m c j1
  · rw [if_neg hi, if_neg hi]
end dgt

end Cert.MixIn

end
-- ==== Proof.MixIn.Dvec.lean ====
module

public import proofs.«01_k».proof.Proof.MixIn.Base

@[expose] public section

set_option maxRecDepth 16384

noncomputable section

namespace Cert.MixIn

open Idealize.ShloMosaic Idealize.ShloMosaic.TcCoe Idealize.SL.Sem
open Idealize.ShloMosaic.Pipeline (Dat)
open Cert.KernelMixInIdeal Cert.KernelMixInIdeal.Gen
open Cert.ReferenceMixInIdeal.Read Cert.Lift Cert.Rms

variable (m : (ℓ : Loc nD τ sig) → Buf (Elt Ideal) ℓ)

variable (c : Dev nD) (t : Fin cfg0.N)

/-- The normalised stream before its gain. -/
def sHat (r : Fin 4096) (d : Fin 1024) : EReal := sX m c (ix2 r d) * rs (fun k => sX m c (ix2 r k))

/-- What a tile adds to the two sums the kernel carries. -/
def part0 (p : ℕ) (d : Fin 1024) : EReal := ∑ i : Fin 512, sDh m c (ix2 (tileRow 4096 512 p i) d) * sHat m c (tileRow 4096 512 p i) d
def part1 (p : ℕ) (d : Fin 1024) : EReal := ∑ i : Fin 512, sDh m c (ix2 (tileRow 4096 512 p i) d)

theorem pay31_at (P : FVec Ideal S512x1024 .f32) (Q : FVec Ideal S512x256 .bf16) (B : FVec Ideal S1x1024x256 .bf16) (X : FVec Ideal S512x1024 .f32) (A : FVec Ideal S1x1024 .f32) (D : FVec Ideal S512x1024 .f32)
    (hD : k0_pay27 (F := Ideal) P Q B = D) (d : Fin 1024) : k0_pay31 (F := Ideal) P Q B X A (ix2 0 d) = A (ix2 0 d) + ∑ i, D (ix2 i d) * (X (ix2 i d) * rs (fun k => X (ix2 i k))) := by
  pointwise [k0_pay31, hD, hat_at]
theorem pay32_at (P : FVec Ideal S512x1024 .f32) (Q : FVec Ideal S512x256 .bf16) (B : FVec Ideal S1x1024x256 .bf16) (A : FVec Ideal S1x1024 .f32) (D : FVec Ideal S512x1024 .f32)
    (hD : k0_pay27 (F := Ideal) P Q B = D) (d : Fin 1024) : k0_pay32 (F := Ideal) P Q B A (ix2 0 d) = A (ix2 0 d) + ∑ i, D (ix2 i d) := by
  pointwise [k0_pay32, hD]

theorem step0 (P : FVec Ideal S512x1024 .f32) (Q : FVec Ideal S512x256 .bf16) (B : FVec Ideal S1x1024x256 .bf16) (A : FVec Ideal S1x1024 .f32) (hD : k0_pay27 (F := Ideal) P Q B = tDh m c t) (d : Fin 1024) (a : EReal) (ha : A (ix2 0 d) = a) :
    k0_pay31 (F := Ideal) P Q B (iblk (F := Ideal) m c 1 t) A (ix2 0 d) = a + part0 m c t.val d := by
  have ht : t.val < 8 := lt_of_lt_of_eq t.isLt N_0
  refine (pay31_at P Q B _ A _ hD d).trans (congrArg₂ (· + ·) ha (Finset.sum_congr rfl fun i _ => ?_))
  have hr := tileRow_val (N := 4096) (p := t.val) i (by omega)
  exact congrArg₂ (· * ·) (dh_at m c t i d _ hr) (congrArg₂ (· * ·) (blk_x m c t i d _ hr) (congrArg rs (funext fun k => blk_x m c t i k _ hr)))
theorem step1 (P : FVec Ideal S512x1024 .f32) (Q : FVec Ideal S512x256 .bf16) (B : FVec Ideal S1x1024x256 .bf16) (A : FVec Ideal S1x1024 .f32) (hD : k0_pay27 (F := Ideal) P Q B = tDh m c t) (d : Fin 1024) (a : EReal) (ha : A (ix2 0 d) = a) :
    k0_pay32 (F := Ideal) P Q B A (ix2 0 d) = a + part1 m c t.val d := by
  have ht : t.val < 8 := lt_of_lt_of_eq t.isLt N_0
  refine (pay32_at P Q B A _ hD d).trans (congrArg₂ (· + ·) ha (Finset.sum_congr rfl fun i _ => ?_))
  exact dh_at m c t i d _ (tileRow_val (N := 4096) (p := t.val) i (by omega))

/-- The rows of the table after a tile: two running sums and rows of zeros. -/
theorem vec_first (d : Fin 1024) (h0 : t.val % 8 = 0) (i : Fin 8) :
    (outsAt0 (F := Ideal) m c t.val t.isLt).2.1 (ix2 i d) = if i = 0 then part0 m c t.val d else if i = 1 then part1 m c t.val d else 0 := by
  have z (i : Fin 8) : k0_pay13 (F := Ideal) (ix2 i d) = 0 := by pointwise [k0_pay13]
  rw [outsAt0_A m c t h0 (by omega), ← zero_add (part0 m c t.val d), ← zero_add (part1 m c t.val d)]
  frame_out
  by_cases i0 : i = 0
  · subst i0
    rw [if_pos rfl]
    refine (row_miss _ _ _ _ _ (.inl Nat.one_pos)).trans ?_
    refine (row_hit _ _ _ _ 0 _ rfl).trans ?_
    refine step0 m c t _ _ _ _ rfl d _ ?_
    exact (row_cov _ _ _ 0 _ _ rfl).trans ((row_hit _ _ _ _ 0 _ rfl).trans (z 0))
  by_cases i1 : i = 1
  · subst i1
    rw [if_neg i0, if_pos rfl]
    refine (row_hit _ _ _ _ 0 _ rfl).trans ?_
    refine step1 m c t _ _ _ _ rfl d _ ?_
    exact (row_cov _ _ _ 1 _ _ rfl).trans ((row_miss _ _ _ _ _ (.inr (Nat.le_refl 1))).trans ((row_hit _ _ _ _ 1 _ rfl).trans (z 1)))
  · have hi : 2 ≤ i.val := by omega
    have hi' : 1 ≤ i.val := by omega
    rw [if_neg i0, if_neg i1]
    refine (row_miss _ _ _ _ _ (.inr hi)).trans ?_
    refine (row_miss _ _ _ _ _ (.inr hi')).trans ?_
    exact (row_hit _ _ _ _ i _ (Nat.zero_add _).symm).trans (z i)

theorem vec_next (d : Fin 1024) (h0 : ¬t.val % 8 = 0) (h7 : ¬t.val % 8 = 7) (hp : t.val - 1 < cfg0.N) (i : Fin 8) :
    (outsAt0 (F := Ideal) m c t.val t.isLt).2.1 (ix2 i d) = if i = 0 then (outsAt0 (F := Ideal) m c (t.val - 1) hp).2.1 (ix2 0 d) + part0 m c t.val d
      else if i = 1 then (outsAt0 (F := Ideal) m c (t.val - 1) hp).2.1 (ix2 1 d) + part1 m c t.val d else (outsAt0 (F := Ideal) m c (t.val - 1) hp).2.1 (ix2 i d) := by
  rw [outsAt0_B m c t h0 h7]
  frame_out
  by_cases i0 : i = 0
  · subst i0
    rw [if_pos rfl]
    refine (row_miss' _ _ _ _ _ _ _ (.inl Nat.one_pos)).trans ?_
    refine (row_hit' _ _ _ _ _ _ 0 _ rfl).trans ?_
    refine step0 m c t _ _ _ _ rfl d _ ?_
    pointwise
  by_cases i1 : i = 1
  · subst i1
    rw [if_neg i0, if_pos rfl]
    refine (row_hit' _ _ _ _ _ _ 0 _ rfl).trans ?_
    refine step1 m c t _ _ _ _ rfl d _ ?_
    pointwise
  · have hi : 2 ≤ i.val := by omega
    have hi' : 1 ≤ i.val := by omega
    rw [if_neg i0, if_neg i1]
    refine (row_miss' _ _ _ _ _ _ _ (.inr hi)).trans ?_
    refine (row_miss' _ _ _ _ _ _ _ (.inr hi')).trans ?_
    exact congrFun ((hs0_12 t).read_unread _) _

theorem vec_carried (d : Fin 1024) (i : Fin 8) : ∀ (n : ℕ) (hn : n < cfg0.N), n < 7 →
    (outsAt0 (F := Ideal) m c n hn).2.1 (ix2 i d) = if i = 0 then ∑ p ∈ Finset.range (n + 1), part0 m c p d else if i = 1 then ∑ p ∈ Finset.range (n + 1), part1 m c p d else 0
  | 0, hn, _ => by
    rw [Finset.sum_range_one, Finset.sum_range_one]
    exact vec_first m c ⟨0, hn⟩ d rfl i
  | n + 1, hn, h7 => by
    refine (vec_next m c ⟨n + 1, hn⟩ d (by show ¬(n + 1) % 8 = 0; omega) (by show ¬(n + 1) % 8 = 7; omega) (by show n < _; omega) i).trans ?_
    rw [Finset.sum_range_succ, Finset.sum_range_succ _ (n + 1)]
    by_cases i0 : i = 0
    · rw [if_pos i0, if_pos i0]
      exact congrArg (· + _) ((vec_carried d 0 n (by omega) (by omega)).trans (if_pos rfl))
    rw [if_neg i0, if_neg i0]
    by_cases i1 : i = 1
    · rw [if_pos i1, if_pos i1]
      exact congrArg (· + _) ((vec_carried d 1 n (by omega) (by omega)).trans ((if_neg (by decide)).trans (if_pos rfl)))
    · rw [if_neg i1, if_neg i1]
      exact (vec_carried d i n (by omega) (by omega)).trans ((if_neg i0).trans (if_neg i1))

theorem pay3_at (A G : FVec Ideal S1x1024 .f32) (d : Fin 1024) (a g : EReal) (ha : A (ix2 0 d) = a) (hg : G (ix2 0 d) = g) : k0_pay3 (F := Ideal) A G (ix2 0 d) = g * a := by
  pointwise [k0_pay3, k0_pay2, ha, hg]
theorem pay4_at (A S : FVec Ideal S1x1024 .f32) (d : Fin 1024) (a s : EReal) (ha : A (ix2 0 d) = a) (hs : S (ix2 0 d) = s) : k0_pay4 (F := Ideal) A S (ix2 0 d) = (1 + s) * a := by
  pointwise [k0_pay4, k0_pay2, ha, hs]

/-- The last tile adds its part too, and turns the sums into the gradients. -/
theorem vec_last (d : Fin 1024) (h0 : ¬t.val % 8 = 0) (h7 : t.val % 8 = 7) (hp : t.val - 1 < cfg0.N) (i : Fin 8) :
    (outsAt0 (F := Ideal) m c t.val t.isLt).2.1 (ix2 i d) = if i = 0 then (1 + aS m c (ix1 d)) * ((outsAt0 (F := Ideal) m c (t.val - 1) hp).2.1 (ix2 0 d) + part0 m c t.val d)
      else if i = 1 then (outsAt0 (F := Ideal) m c (t.val - 1) hp).2.1 (ix2 1 d) + part1 m c t.val d
      else if i = 3 then aG m c (ix1 d) * ((outsAt0 (F := Ideal) m c (t.val - 1) hp).2.1 (ix2 0 d) + part0 m c t.val d)
      else (outsAt0 (F := Ideal) m c (t.val - 1) hp).2.1 (ix2 i d) := by
  rw [outsAt0_C m c t h0 h7]
  frame_out
  by_cases i0 : i = 0
  · subst i0
    rw [if_pos rfl]
    refine (row_hit' _ _ _ _ _ _ 0 _ rfl).trans ?_
    refine pay4_at _ _ d _ _ ?_ ?_
    · refine (row_cov _ _ _ 0 _ _ rfl).trans ?_
      refine (row_miss _ _ _ _ _ (.inl Nat.one_pos)).trans ?_
      refine (row_hit _ _ _ _ 0 _ rfl).trans ?_
      refine step0 m c t _ _ _ _ rfl d _ ?_
      pointwise
    · refine Eq.trans ?_ (blk_s m c t d)
      pointwise
  have hi : 1 ≤ i.val := by omega
  rw [if_neg i0]
  refine (row_miss' _ _ _ _ _ _ _ (.inr hi)).trans ?_
  by_cases i3 : i = 3
  · subst i3
    rw [if_neg (by decide), if_pos rfl]
    refine (row_hit' _ _ _ _ _ _ 0 _ rfl).trans ?_
    refine pay3_at _ _ d _ _ ?_ ?_
    · refine (row_cov _ _ _ 0 _ _ rfl).trans ?_
      refine (row_miss _ _ _ _ _ (.inl Nat.one_pos)).trans ?_
      refine (row_hit _ _ _ _ 0 _ rfl).trans ?_
      refine step0 m c t _ _ _ _ rfl d _ ?_
      pointwise
    · refine Eq.trans ?_ (blk_g m c t d)
      pointwise
  have hi3 : i.val < 3 ∨ 3 + 1 ≤ i.val := by omega
  refine (row_miss' _ _ _ _ _ _ _ hi3).trans ?_
  by_cases i1 : i = 1
  · subst i1
    rw [if_pos rfl]
    refine (row_hit' _ _ _ _ _ _ 0 _ rfl).trans ?_
    refine step1 m c t _ _ _ _ rfl d _ ?_
    pointwise
  have hi2 : 2 ≤ i.val := by omega
  rw [if_neg i1, if_neg i3]
  refine (row_miss' _ _ _ _ _ _ _ (.inr hi2)).trans ?_
  refine (row_miss' _ _ _ _ _ _ _ (.inr hi)).trans ?_
  exact congrFun ((hs0_12 t).read_unread _) _

section final
variable (g s : Fin 1024 → ℝ) (δ : Fin 4096 → Fin 1024 → ℝ) (H : Reals m c g s δ)
include H

/-- A real factor passes through the sum over the rows, every term being real. -/
theorem factor (e : ℝ) (d : Fin 1024) (f : Fin 4096 → EReal) (hf : ∀ r, f r = ((e : ℝ) : EReal) * (sDh m c (ix2 r d) * sHat m c r d)) :
    ∑ r, f r = ((e : ℝ) : EReal) * ∑ r, sDh m c (ix2 r d) * sHat m c r d := by
  choose y hy using fun r => hat_real (fun k => sX m c (ix2 r k))
  have hp (r : Fin 4096) : sDh m c (ix2 r d) * sHat m c r d = ((δ r d * y r d : ℝ) : EReal) := by
    rw [H.hd, sHat, EReal.coe_mul]
    exact congrArg _ (hy r d)
  simp only [hf, hp, ← EReal.coe_mul, sum_coe, Finset.mul_sum]

theorem ref_vec (i : Fin 8) (d : Fin 1024) : val_main_v84 (F := Ideal) (aX m c) (aG m c) (aS m c) (aW m c) (aF m c) (aT m c) (aP m c) (ix2 i d)
    = if i = 0 then (1 + aS m c (ix1 d)) * ∑ r, sDh m c (ix2 r d) * sHat m c r d else if i = 1 then ∑ r, sDh m c (ix2 r d)
      else if i = 3 then aG m c (ix1 d) * ∑ r, sDh m c (ix2 r d) * sHat m c r d else 0 := by
  have hD (r k) : val_main_v33 (F := Ideal) (aW m c) (aP m c) (ix2 r k) = sDh m c (ix2 r k) := rfl
  have hh (r k) : val_main_v18 (F := Ideal) (aX m c) (aF m c) (aT m c) (ix2 r k) = sHat m c r k := ref_hat m c r k
  have e0 : ∑ r, sHat m c r d * (sDh m c (ix2 r d) * (1 + aS m c (ix1 d))) = (1 + aS m c (ix1 d)) * ∑ r, sDh m c (ix2 r d) * sHat m c r d := by
    rw [H.hs, one_coe, ← EReal.coe_add]
    exact factor m c g s δ H _ d _ fun r => by rw [mul_comm, mul_comm (sDh m c (ix2 r d)), mul_assoc]
  have e3 : ∑ r, sHat m c r d * aG m c (ix1 d) * sDh m c (ix2 r d) = aG m c (ix1 d) * ∑ r, sDh m c (ix2 r d) * sHat m c r d := by
    rw [H.hg]
    exact factor m c g s δ H _ d _ fun r => by rw [mul_comm, mul_comm (sHat m c r d), mul_left_comm]
  obtain rfl | rfl | rfl | rfl | rfl | rfl | rfl | rfl : i = 0 ∨ i = 1 ∨ i = 2 ∨ i = 3 ∨ i = 4 ∨ i = 5 ∨ i = 6 ∨ i = 7 := by omega
  all_goals pointwise [val_main_v84, val_main_v76, val_main_v77, val_main_v78, val_main_v79, val_main_v80, val_main_v81, val_main_v82, val_main_v83, val_main_v73, val_main_cst_17,
    val_main_v48, val_main_cst_10, val_main_v45, val_main_v44, val_main_cst_9, val_main_v43, val_main_v41, val_main_v40, val_main_v24, val_main_v23, val_main_cst_4, val_main_v22,
    val_main_v42, val_main_cst_8, val_main_v39, val_main_v38, val_main_cst_7, val_main_v37, val_main_v21, val_main_v20, val_main_v19,
    val_main_v36, val_main_cst_6, val_main_v35, val_main_v34, val_main_cst_5, hD, hh]
  all_goals try simp only [Finset.univ_unique, Finset.sum_singleton]
  · exact e0
  · exact e3

theorem dvec_final : (dats (F := Ideal) m 0 c).arrAt 12 cfg0.N = val_main_v84 (F := Ideal) (aX m c) (aG m c) (aS m c) (aW m c) (aF m c) (aT m c) (aP m c) := by
  refine (dats (F := Ideal) m 0 c).arrAt_eq_of_after_last 12 t0_7 (by decide +kernel) _ fun j => ?_
  blk_simp
  rw [after0_12]
  idx_vars j
  rw [ref_vec m c g s δ H]
  have h7 : (t0_7 : Fin cfg0.N).val = 7 := rfl
  have h6 : (t0_7 : Fin cfg0.N).val - 1 = 6 := by rw [h7]
  have hp : (t0_7 : Fin cfg0.N).val - 1 < cfg0.N := by rw [h6]; exact (by decide : 6 < 8).trans_eq N_0.symm
  have s0 := sum_tiles (N := 4096) (n := 512) (P := 8) (M := EReal) rfl fun r => sDh m c (ix2 r j1) * sHat m c r j1
  have s1 := sum_tiles (N := 4096) (n := 512) (P := 8) (M := EReal) rfl fun r => sDh m c (ix2 r j1)
  have hc (i : Fin 8) := vec_carried m c j1 i (t0_7.val - 1) hp (by rw [h6]; decide)
  refine (vec_last m c t0_7 j1 (by rw [h7]; decide) (by rw [h7]) hp j0).trans ?_
  rw [hc 0, hc 1, hc j0, if_pos rfl, if_neg (by decide : ¬(1 : Fin 8) = 0), if_pos rfl, ← s0, ← s1, h6, h7, Finset.sum_range_succ _ 7, Finset.sum_range_succ _ 7]
  by_cases i0 : j0 = 0
  · rw [if_pos i0, if_pos i0]
    rfl
  rw [if_neg i0, if_neg i0]
  by_cases i1 : j0 = 1
  · rw [if_pos i1, if_neg i0, if_pos i1]
    rfl
  rw [if_neg i1, if_neg i0, if_neg i1, if_neg i1]
  rfl
end final

end Cert.MixIn

end
-- ==== Proof.MixIn.Dw.lean ====
module

public import proofs.«01_k».proof.Proof.MixIn.Base

@[expose] public section

set_option maxRecDepth 16384

noncomputable section

namespace Cert.MixIn

open Idealize.ShloMosaic Idealize.ShloMosaic.TcCoe Idealize.SL.Sem
open Idealize.ShloMosaic.Pipeline (Dat)
open Cert.KernelMixInIdeal Cert.KernelMixInIdeal.Gen
open Cert.ReferenceMixInIdeal.Read Cert.Lift Cert.Rms

variable (m : (ℓ : Loc nD τ sig) → Buf (Elt Ideal) ℓ)

section stores
variable {Val : EltTy → Type} {e : EltTy} [∀ e, Nonempty (Val e)] {R a b o r : ℕ}

/-- A store of whole slabs, read at one of them. -/
theorem slab_hit (inb : ∀ x, (![o, 0, 0] : Fin 3 → ℕ) x + (![r, a, b] : Fin 3 → ℕ) x ≤ (⟨3, ![R, a, b]⟩ : Shape).size x) (v : (Rect.unit (s := ⟨3, ![R, a, b]⟩) ![o, 0, 0] ![r, a, b] inb).shape.Idx → Val e)
    (L : List (View.Piece Val ⟨3, ![R, a, b]⟩ e)) (i : Fin R) (i' : Fin r) (j : Fin a) (k : Fin b) (h : i.val = o + i'.val) :
    View.canon (⟨Rect.unit (s := ⟨3, ![R, a, b]⟩) ![o, 0, 0] ![r, a, b] inb, v⟩ :: L) (ix3 i j k) = v (ix3 i' j k) :=
  canon_hit inb v L _ _ fun x => by
    fin_cases x
    · exact h
    · exact (Nat.zero_add _).symm
    · exact (Nat.zero_add _).symm

theorem slab_miss (inb : ∀ x, (![o, 0, 0] : Fin 3 → ℕ) x + (![r, a, b] : Fin 3 → ℕ) x ≤ (⟨3, ![R, a, b]⟩ : Shape).size x) (v : (Rect.unit (s := ⟨3, ![R, a, b]⟩) ![o, 0, 0] ![r, a, b] inb).shape.Idx → Val e)
    (L : List (View.Piece Val ⟨3, ![R, a, b]⟩ e)) (i : Fin R) (j : Fin a) (k : Fin b) (h : i.val < o ∨ o + r ≤ i.val) :
    View.canon (⟨Rect.unit (s := ⟨3, ![R, a, b]⟩) ![o, 0, 0] ![r, a, b] inb, v⟩ :: L) (ix3 i j k) = View.canon L (ix3 i j k) :=
  canon_miss inb v L _ 0 h

/-- A load of columns of a slab, after the stores `L`. -/
theorem slab_cov {sig : RefSig} {κ : Kind} {sp : Space} (B : View sig κ sp ⟨3, ![R, a, b]⟩ e) (L : List (View.Piece Val ⟨3, ![R, a, b]⟩ e)) {q n : ℕ}
    (inb : ∀ x, (![o, 0, q] : Fin 3 → ℕ) x + (![1, a, n] : Fin 3 → ℕ) x ≤ (⟨3, ![R, a, b]⟩ : Shape).size x) (i : Fin R) (j : Fin a) (k : Fin n) (k' : Fin b) (h : i.val = o) (hk : k'.val = q + k.val) :
    B.readCov L (Rect.unit (s := ⟨3, ![R, a, b]⟩) ![o, 0, q] ![1, a, n] inb).toLoadRect (ix3 0 j k) = View.canon L (ix3 i j k') := by
  rw [View.readCov_eq_canon']
  refine congrArg (View.canon L) (funext fun x => Fin.ext ?_)
  fin_cases x
  · show o + 1 * 0 = i.val
    omega
  · show 0 + 1 * j.val = j.val
    omega
  · show q + 1 * k.val = k'.val
    omega

theorem ld_slab (X : (⟨3, ![R, a, b]⟩ : Shape).Idx → Val e) (inb : ∀ x, (![o, 0, 0] : Fin 3 → ℕ) x + (![1, a, b] : Fin 3 → ℕ) x ≤ (⟨3, ![R, a, b]⟩ : Shape).size x) (i : Fin R) (j : Fin a) (k : Fin b) (h : i.val = o) :
    View.ld X (Rect.unit (s := ⟨3, ![R, a, b]⟩) ![o, 0, 0] ![1, a, b] inb) (ix3 0 j k) = X (ix3 i j k) := by
  refine View.ld_unit_apply_of _ _ _ _ _ _ fun x => ?_
  fin_cases x
  · exact h
  · exact (Nat.zero_add _).symm
  · exact (Nat.zero_add _).symm
end stores

theorem pay22_at (X : FVec Ideal S512x1024 .bf16) (A : FVec Ideal S1x1024x512 .f32) (P : FVec Ideal S512x512 .bf16) (j : Fin 1024) (k : Fin 512) :
    k0_pay22 (F := Ideal) (k0_pay16 X) A P (ix3 0 j k) = A (ix3 0 j k) + ∑ i, X (ix2 i j) * P (ix2 i k) := by
  pointwise [k0_pay22, k0_pay16]
theorem pay17_at (X : FVec Ideal S512x1024 .bf16) (A : FVec Ideal S1x1024x512 .f32) (P : FVec Ideal S512x512 .bf16) (j : Fin 1024) (k : Fin 512) :
    k0_pay17 (F := Ideal) X A P (ix3 0 j k) = A (ix3 0 j k) + ∑ i, X (ix2 i j) * P (ix2 i k) := pay22_at X A P j k
theorem pay18_at (X : FVec Ideal S512x1024 .bf16) (A : FVec Ideal S1x1024x512 .f32) (P : FVec Ideal S512x512 .bf16) (j : Fin 1024) (k : Fin 512) :
    k0_pay18 (F := Ideal) X A P (ix3 0 j k) = A (ix3 0 j k) + ∑ i, X (ix2 i j) * P (ix2 i k) := pay22_at X A P j k
theorem pay21_at (X : FVec Ideal S512x1024 .bf16) (A : FVec Ideal S1x1024x512 .f32) (P : FVec Ideal S512x512 .bf16) (j : Fin 1024) (k : Fin 512) :
    k0_pay21 (F := Ideal) (k0_pay19 A) (k0_pay20 X P) (ix3 0 j k) = A (ix3 0 j k) + ∑ i, X (ix2 i j) * P (ix2 i k) := pay22_at X A P j k
theorem pay1_at (X : FVec Ideal S1x1024x256 .f32) (a : Fin 1) (j : Fin 1024) (k : Fin 256) : k0_pay1 (F := Ideal) X (ix3 a j k) = X (ix3 0 j k) := by
  pointwise [k0_pay1]

variable (c : Dev nD) (t : Fin cfg0.N)

/-- The tile of the normalised stream, and of the column groups of the cotangent. -/
def tH : FVec Ideal S512x1024 .bf16 := iblk (F := Ideal) m c 8 t
def tP0 : FVec Ideal S512x512 .bf16 := iblk (F := Ideal) m c 2 t
def tP1 : FVec Ideal S512x512 .bf16 := iblk (F := Ideal) m c 3 t
def tP2 : FVec Ideal S512x512 .bf16 := iblk (F := Ideal) m c 4 t
def tP3 : FVec Ideal S512x512 .bf16 := iblk (F := Ideal) m c 5 t

/-- What a tile of rows adds to a column group of the gradient of the weights. -/
def partW (p : Fin 4) (j : Fin 1024) (k : Fin 512) (q : ℕ) : EReal := ∑ i : Fin 512, sH m c (ix2 (tileRow 4096 512 q i) j) * aP m c (ix2 (tileRow 4096 512 q i) (tileRow 2048 512 p.val k))

section sums
variable (j : Fin 1024) (k : Fin 512)

theorem sum_p (p : Fin 4) (X : FVec Ideal S512x512 .bf16) (hX : ∀ (i : Fin 512) (r : Fin 4096) (l : Fin 2048), r.val = t.val * 512 + i.val → l.val = p.val * 512 + k.val → X (ix2 i k) = aP m c (ix2 r l)) :
    ∑ i, tH m c t (ix2 i j) * X (ix2 i k) = partW m c p j k t.val := by
  have ht : t.val < 8 := lt_of_lt_of_eq t.isLt N_0
  refine Finset.sum_congr rfl fun i _ => ?_
  have hr := tileRow_val (N := 4096) (p := t.val) i (by omega)
  exact congrArg₂ (· * ·) (blk_h m c t i j _ hr) (hX i _ _ hr (tileRow_val (N := 2048) (p := p.val) k (by omega)))

theorem sums (p : Fin 4) : (p = 0 → ∑ i, tH m c t (ix2 i j) * tP0 m c t (ix2 i k) = partW m c p j k t.val)
    ∧ (p = 1 → ∑ i, tH m c t (ix2 i j) * tP1 m c t (ix2 i k) = partW m c p j k t.val)
    ∧ (p = 2 → ∑ i, tH m c t (ix2 i j) * tP2 m c t (ix2 i k) = partW m c p j k t.val)
    ∧ (p = 3 → ∑ i, tH m c t (ix2 i j) * tP3 m c t (ix2 i k) = partW m c p j k t.val) := by
  refine ⟨?_, ?_, ?_, ?_⟩
  all_goals
    rintro rfl
    refine sum_p m c t j k _ _ fun i r l hr hl => ?_
  · exact blk_p0 m c t i k r l hr hl
  · exact blk_p1 m c t i k r l hr hl
  · exact blk_p2 m c t i k r l hr hl
  · exact blk_p3 m c t i k r l hr hl

set_option maxHeartbeats 4000000 in
theorem w_next (p : Fin 4) (h0 : ¬t.val % 8 = 0) (hp : t.val - 1 < cfg0.N) :
    (outsAt0 (F := Ideal) m c t.val t.isLt).2.2.2.2.2 (ix3 p j k) = (outsAt0 (F := Ideal) m c (t.val - 1) hp).2.2.2.2.2 (ix3 p j k) + partW m c p j k t.val := by
  obtain ⟨s0, s1, s2, s3⟩ := sums m c t j k p
  have l01 : 0 < 1 := by decide
  have l02 : 0 < 2 := by decide
  have l03 : 0 < 3 := by decide
  have l12 : 1 < 2 := by decide
  have l13 : 1 < 3 := by decide
  have l23 : 2 < 3 := by decide
  by_cases h7 : t.val % 8 = 7
  on_goal 1 => rw [outsAt0_C m c t h0 h7]
  on_goal 2 => rw [outsAt0_B m c t h0 h7]
  all_goals
    frame_out
    obtain rfl | rfl | rfl | rfl : p = 0 ∨ p = 1 ∨ p = 2 ∨ p = 3 := by omega
    · refine (slab_miss _ _ _ _ _ _ (.inl l03)).trans ?_
      refine (slab_miss _ _ _ _ _ _ (.inl l02)).trans ?_
      refine (slab_miss _ _ _ _ _ _ (.inl l01)).trans ?_
      refine (slab_hit _ _ _ _ 0 _ _ rfl).trans ?_
      refine (pay17_at _ _ _ j k).trans (congrArg₂ (· + ·) ?_ (s0 rfl))
      exact (ld_slab _ _ 0 j k rfl).trans (congrFun (Memref.IsWhole.read_unread (m := Memref.whole cc0_scratch0) _ _) _)
    · refine (slab_miss _ _ _ _ _ _ (.inl l13)).trans ?_
      refine (slab_miss _ _ _ _ _ _ (.inl l12)).trans ?_
      refine (slab_hit _ _ _ _ 0 _ _ rfl).trans ?_
      refine (pay18_at _ _ _ j k).trans (congrArg₂ (· + ·) ?_ (s1 rfl))
      exact (ld_slab _ _ 1 j k rfl).trans (congrFun (Memref.IsWhole.read_unread (m := Memref.whole cc0_scratch0) _ _) _)
    · refine (slab_miss _ _ _ _ _ _ (.inl l23)).trans ?_
      refine (slab_hit _ _ _ _ 0 _ _ rfl).trans ?_
      refine (pay21_at _ _ _ j k).trans (congrArg₂ (· + ·) ?_ (s2 rfl))
      exact (ld_slab _ _ 2 j k rfl).trans (congrFun (Memref.IsWhole.read_unread (m := Memref.whole cc0_scratch0) _ _) _)
    · refine (slab_hit _ _ _ _ 0 _ _ rfl).trans ?_
      refine (pay22_at _ _ _ j k).trans (congrArg₂ (· + ·) ?_ (s3 rfl))
      exact (ld_slab _ _ 3 j k rfl).trans (congrFun (Memref.IsWhole.read_unread (m := Memref.whole cc0_scratch0) _ _) _)

set_option maxHeartbeats 4000000 in
theorem w_first (p : Fin 4) (h0 : t.val % 8 = 0) : (outsAt0 (F := Ideal) m c t.val t.isLt).2.2.2.2.2 (ix3 p j k) = partW m c p j k t.val := by
  obtain ⟨s0, s1, s2, s3⟩ := sums m c t j k p
  have l01 : 0 < 1 := by decide
  have l02 : 0 < 2 := by decide
  have l03 : 0 < 3 := by decide
  have l12 : 1 < 2 := by decide
  have l13 : 1 < 3 := by decide
  have l23 : 2 < 3 := by decide
  have z (p : Fin 4) : k0_pay15 (F := Ideal) (ix3 p j k) = 0 := by pointwise [k0_pay15]
  rw [outsAt0_A m c t h0 (by omega), ← zero_add (partW m c p j k t.val)]
  frame_out
  obtain rfl | rfl | rfl | rfl : p = 0 ∨ p = 1 ∨ p = 2 ∨ p = 3 := by omega
  · refine (slab_miss _ _ _ _ _ _ (.inl l03)).trans ?_
    refine (slab_miss _ _ _ _ _ _ (.inl l02)).trans ?_
    refine (slab_miss _ _ _ _ _ _ (.inl l01)).trans ?_
    refine (slab_hit _ _ _ _ 0 _ _ rfl).trans ?_
    refine (pay17_at _ _ _ j k).trans (congrArg₂ (· + ·) ?_ (s0 rfl))
    refine (slab_cov _ _ _ 0 j k k rfl (Nat.zero_add _).symm).trans ?_
    exact (slab_hit _ _ _ 0 0 j k (Nat.zero_add _).symm).trans (z 0)
  · refine (slab_miss _ _ _ _ _ _ (.inl l13)).trans ?_
    refine (slab_miss _ _ _ _ _ _ (.inl l12)).trans ?_
    refine (slab_hit _ _ _ _ 0 _ _ rfl).trans ?_
    refine (pay18_at _ _ _ j k).trans (congrArg₂ (· + ·) ?_ (s1 rfl))
    refine (slab_cov _ _ _ 1 j k k rfl (Nat.zero_add _).symm).trans ?_
    refine (slab_miss _ _ _ _ _ _ (.inr l01)).trans ?_
    exact (slab_hit _ _ _ 1 1 j k (Nat.zero_add _).symm).trans (z 1)
  · refine (slab_miss _ _ _ _ _ _ (.inl l23)).trans ?_
    refine (slab_hit _ _ _ _ 0 _ _ rfl).trans ?_
    refine (pay21_at _ _ _ j k).trans (congrArg₂ (· + ·) ?_ (s2 rfl))
    refine (slab_cov _ _ _ 2 j k k rfl (Nat.zero_add _).symm).trans ?_
    refine (slab_miss _ _ _ _ _ _ (.inr l12)).trans ?_
    refine (slab_miss _ _ _ _ _ _ (.inr l02)).trans ?_
    exact (slab_hit _ _ _ 2 2 j k (Nat.zero_add _).symm).trans (z 2)
  · refine (slab_hit _ _ _ _ 0 _ _ rfl).trans ?_
    refine (pay22_at _ _ _ j k).trans (congrArg₂ (· + ·) ?_ (s3 rfl))
    refine (slab_cov _ _ _ 3 j k k rfl (Nat.zero_add _).symm).trans ?_
    refine (slab_miss _ _ _ _ _ _ (.inr l23)).trans ?_
    refine (slab_miss _ _ _ _ _ _ (.inr l13)).trans ?_
    refine (slab_miss _ _ _ _ _ _ (.inr l03)).trans ?_
    exact (slab_hit _ _ _ 3 3 j k (Nat.zero_add _).symm).trans (z 3)

theorem w_carried (p : Fin 4) (n : ℕ) (hn : n < cfg0.N) : (outsAt0 (F := Ideal) m c n hn).2.2.2.2.2 (ix3 p j k) = ∑ q ∈ Finset.range (n + 1), partW m c p j k q := by
  refine carry (fun n hn => (outsAt0 (F := Ideal) m c n hn).2.2.2.2.2 (ix3 p j k)) (partW m c p j k) (fun h => w_first m c ⟨0, h⟩ j k p rfl) (fun n h => ?_) n hn
  exact w_next m c ⟨n + 1, h⟩ j k p (by have hN : n + 1 < 8 := lt_of_lt_of_eq h N_0; show ¬(n + 1) % 8 = 0; omega) (by show n < _; omega)
end sums

theorem ref_w (b : Fin 8) (j : Fin 1024) (q : Fin 256) (l : Fin 2048) (hl : l.val = b.val * 256 + q.val) :
    val_main_v95 (F := Ideal) (aX m c) (aG m c) (aH m c) (aS m c) (aF m c) (aT m c) (aP m c) (ix3 b j q) = ∑ r, sH m c (ix2 r j) * aP m c (ix2 r l) := by
  have hx (r k) : val_main_v29 (F := Ideal) (aX m c) (aG m c) (aH m c) (aS m c) (aF m c) (aT m c) (ix2 r k) = sH m c (ix2 r k) := rfl
  have h74 : val_main_v74 (F := Ideal) (aX m c) (aG m c) (aH m c) (aS m c) (aF m c) (aT m c) (aP m c) (ix3 j b q) = val_main_v32 (F := Ideal) (aX m c) (aG m c) (aH m c) (aS m c) (aF m c) (aT m c) (aP m c) (ix2 j l) := by
    rw [val_main_v74]
    refine shapeCast_apply _ _ _ _ ?_
    rw [rowMajor_val2 _ 2048 rfl, rowMajor_val3 _ 2048 256 rfl rfl]
    show j.val * 2048 + l.val = j.val * 2048 + b.val * 256 + q.val
    omega
  pointwise [val_main_v95, val_main_v75, h74, val_main_v32, val_main_v31, hx]
  exact Finset.sum_congr rfl fun r _ => mul_comm _ _

theorem w_all (p : Fin 4) (j : Fin 1024) (k : Fin 512) (l : Fin 2048) (hl : l.val = p.val * 512 + k.val) : (outsAt0 (F := Ideal) m c t0_7.val t0_7.isLt).2.2.2.2.2 (ix3 p j k) = ∑ r, sH m c (ix2 r j) * aP m c (ix2 r l) := by
  rw [w_carried m c j k p, ← sum_tiles (N := 4096) (n := 512) (P := 8) rfl fun r => sH m c (ix2 r j) * aP m c (ix2 r l)]
  refine Finset.sum_congr rfl fun q _ => Finset.sum_congr rfl fun i _ => ?_
  rw [show tileRow 2048 512 p.val k = l from Fin.ext ((tileRow_val (N := 2048) (p := p.val) k (by omega)).trans hl.symm)]

set_option maxHeartbeats 4000000 in
set_option maxRecDepth 100000 in
/-- A block of columns of the last tile's gradient is read from the group the block lies in. -/
theorem w_out (y : S8x1024x256.Idx) : ∀ (p : Fin 4) (k : Fin 512), p.val * 512 + k.val = (y 0).val * 256 + (y 2).val →
    (outsAt0 (F := Ideal) m c t0_7.val t0_7.isLt).2.2.2.2.1 y = (outsAt0 (F := Ideal) m c t0_7.val t0_7.isLt).2.2.2.2.2 (ix3 p (y 1) k) := by
  intro p k hk
  have hkl := k.isLt
  rw [outsAt0_C m c t0_7 (by decide) (by decide)]
  frame_out
  canon_tiles x h
  all_goals
    have hj : y 1 = x 1 := Fin.ext (by omega)
    rw [hj]
    refine (congrArg _ (eq_ix3 x)).trans ((pay1_at _ (x 0) (x 1) (x 2)).trans (slab_cov _ _ _ p (x 1) (x 2) k ?_ ?_))
  all_goals omega

theorem dw_final : (dats (F := Ideal) m 0 c).arrAt 15 cfg0.N = val_main_v95 (F := Ideal) (aX m c) (aG m c) (aH m c) (aS m c) (aF m c) (aT m c) (aP m c) := by
  refine (dats (F := Ideal) m 0 c).arrAt_eq_of_after_last 15 t0_7 (by decide +kernel) _ fun j => ?_
  blk_simp
  rw [after0_15]
  idx_vars j
  have hl : (⟨j0.val * 256 + j2.val, by omega⟩ : Fin 2048).val = j0.val * 256 + j2.val := rfl
  generalize (⟨j0.val * 256 + j2.val, by omega⟩ : Fin 2048) = l at hl
  rw [ref_w m c j0 j1 j2 l hl]
  exact (w_out m c (ix3 j0 j1 j2) ⟨l.val / 512, by omega⟩ ⟨l.val % 512, by omega⟩ (by show l.val / 512 * 512 + l.val % 512 = j0.val * 256 + j2.val; omega)).trans (w_all m c _ _ _ l (by show l.val = l.val / 512 * 512 + l.val % 512; omega))

end Cert.MixIn

end
-- ==== Proof.MixIn.Claim.lean ====
/- The backward of a mixer's input side: the kernel computes the derivative of the feed-forward residual and of the
   adaptive norm before the mixer's projection, wherever the gain, the scale, the weight and the incoming gradient
   are finite. -/
module

public import proofs.«01_k».proof.Defs
public import proofs.«01_k».proof.Proof.MixIn.Gx
public import proofs.«01_k».proof.Proof.MixIn.Dvec
public import proofs.«01_k».proof.Proof.MixIn.Dw
public import proofs.«01_k».proof.Proof.Gen.ReferenceMixInIdeal.Run
public import proofs.«01_k».proof.Proof.Gen.Pre_mixin_finite

@[expose] public section

set_option maxRecDepth 16384

noncomputable section

namespace Cert.MixIn

open Idealize.ShloMosaic Idealize.ShloMosaic.TcCoe Idealize.SL.Sem Cert.KernelMixInIdeal Cert.KernelMixInIdeal.Gen Cert.ReferenceMixInIdeal.Read Cert.Lift

variable (m : (ℓ : Loc nD τ sig) → Buf (Elt Ideal) ℓ)

theorem reals (h : Cert.Pre_KernelMixInIdeal_mixin_finite m) (c : Dev nD) : ∃ g s δ, Reals m c g s δ := by
  obtain ⟨h0, h1, h2, h3⟩ := h c
  obtain ⟨g, hg⟩ := reals_of h0
  obtain ⟨s, hs⟩ := reals_of h1
  obtain ⟨w, hw⟩ := reals_of h2
  obtain ⟨p, hp⟩ := reals_of h3
  refine ⟨fun k => g (ix1 k), fun k => s (ix1 k), fun r k => ∑ l, p (ix2 r l) * w (ix2 k l), ⟨fun _ => hg _, fun _ => hs _, fun r k => ?_⟩⟩
  have hW (j) : aW m c j = ((w j : ℝ) : EReal) := hw j
  have hP (j) : aP m c j = ((p j : ℝ) : EReal) := hp j
  refine Eq.trans ?_ (sum_coe _)
  pointwise [sDh, val_main_v33, val_main_v32, hW, hP, EReal.coe_mul]

theorem ref_frame : Cert.quiescent_ReferenceMixInIdeal := fun m ρ _ =>
  (θ_run Cert.ReferenceMixInIdeal.defs _ _).mono (fun r h => ⟨fun c => (h c).2.2.2.2.2, sem_eq_zero_of_no_sems (by decide) r.2⟩)
    (Cert.ReferenceMixInIdeal.Value.run m ρ)

/-- Every result of the kernel is the reference's, of equal arguments. -/
theorem final (c : Dev nD) (g s : Fin 1024 → ℝ) (δ : Fin 4096 → Fin 1024 → ℝ) (R : Reals m c g s δ)
    (X : FVec Ideal S4096x1024 .f32) (G H S : FVec Ideal S1024 .f32) (W : FVec Ideal S1024x2048 .f32) (F : FVec Ideal S4096x1024 .f32) (T : FVec Ideal S1024 .f32)
    (D : FVec Ideal S4096x1024 .f32) (P : FVec Ideal S4096x2048 .f32)
    (e0 : X = aX m c) (e1 : G = aG m c) (e2 : H = aH m c) (e3 : S = aS m c) (e4 : W = aW m c) (e5 : F = aF m c) (e6 : T = aT m c) (e7 : D = aD m c) (e8 : P = aP m c) :
    val_main_v63 (F := Ideal) X G S W F T D P = (dats (F := Ideal) m 0 c).arrAt 11 cfg0.N
    ∧ val_main_v84 (F := Ideal) X G S W F T P = (dats (F := Ideal) m 0 c).arrAt 12 cfg0.N
    ∧ val_main_v85 (F := Ideal) X G S W F T D P = (dats (F := Ideal) m 0 c).arrAt 13 cfg0.N
    ∧ val_main_v94 (F := Ideal) X G S W F T D P = (dats (F := Ideal) m 0 c).arrAt 14 cfg0.N
    ∧ val_main_v95 (F := Ideal) X G H S F T P = (dats (F := Ideal) m 0 c).arrAt 15 cfg0.N := by
  subst e0 e1 e2 e3 e4 e5 e6 e7 e8
  exact ⟨(dx_final m c g s δ R).symm, (dvec_final m c g s δ R).symm, (df_final m c g s δ R).symm, (dgt_final m c g s δ R).symm, (dw_final m c).symm⟩

theorem algebraic : Cert.algebraic_KernelMixInIdeal_ReferenceMixInIdeal_pre_mixin_finite := by
  pair_intro
  · run_from Cert.KernelMixInIdeal.Value.run_blocks m g
  · refine (θ_run Cert.ReferenceMixInIdeal.defs _ _).mono (fun r h c => ?_) (Cert.ReferenceMixInIdeal.Value.run m' g')
    obtain ⟨x, s, δ, R⟩ := reals m hpre c
    obtain ⟨q0, q1, q2, q3, q4, q5, q6, q7, q8⟩ := hagree c
    obtain ⟨f0, f1, f2, f3, f4⟩ := final m c x s δ R
      (StableHlo.launchContents m' c (Proc.devRef .tc Cert.ReferenceMixInIdeal.main_arg0))
      (StableHlo.launchContents m' c (Proc.devRef .tc Cert.ReferenceMixInIdeal.main_arg1))
      (StableHlo.launchContents m' c (Proc.devRef .tc Cert.ReferenceMixInIdeal.main_arg2))
      (StableHlo.launchContents m' c (Proc.devRef .tc Cert.ReferenceMixInIdeal.main_arg3))
      (StableHlo.launchContents m' c (Proc.devRef .tc Cert.ReferenceMixInIdeal.main_arg4))
      (StableHlo.launchContents m' c (Proc.devRef .tc Cert.ReferenceMixInIdeal.main_arg5))
      (StableHlo.launchContents m' c (Proc.devRef .tc Cert.ReferenceMixInIdeal.main_arg6))
      (StableHlo.launchContents m' c (Proc.devRef .tc Cert.ReferenceMixInIdeal.main_arg7))
      (StableHlo.launchContents m' c (Proc.devRef .tc Cert.ReferenceMixInIdeal.main_arg8)) q0 q1 q2 q3 q4 q5 q6 q7 q8
    obtain ⟨r0, r1, r2, r3, r4, hargs⟩ := h c
    exact ⟨(r0.trans (val_main_v63_eq _ _)).trans f0,
      (r1.trans (val_main_v84_eq _ _)).trans f1,
      (r2.trans (val_main_v85_eq _ _)).trans f2,
      (r3.trans (val_main_v94_eq _ _)).trans f3,
      (r4.trans (val_main_v95_eq _ _ _ _ _ _ _)).trans f4, hargs⟩

end Cert.MixIn

end
-- ==== Proof.Swiglu.Row.lean ====
module

public import proofs.«01_k».proof.Proof.Gen.KernelSwigluIdeal.Frame
public import proofs.«01_k».proof.Proof.Gen.ReferenceSwigluIdeal.Read
public import proofs.«01_k».proof.Proof.Lift

@[expose] public section

set_option maxRecDepth 16384

noncomputable section

/-! The gated unit and its gradients, one element at a time: the kernel's factored form of the gate's gradient is the
    sum the derivative gives, over the reals. -/

namespace Cert.Swiglu

open Idealize.ShloMosaic Idealize.ShloMosaic.TcCoe Idealize.SL.Sem
open Cert.KernelSwigluIdeal Cert.KernelSwigluIdeal.Gen
open Cert.ReferenceSwigluIdeal.Read Cert.Lift

/-- The sigmoid, as the kernel computes it. -/
def sgm (g : EReal) : EReal := Ideal.div 1 (1 + Ideal.exp (0 - g))
/-- The gradients of the gate and of the other factor, and the activation. -/
def gateF (g u d : EReal) : EReal := d * u * (sgm g * (1 + g * (1 - sgm g)))
def upF (g d : EReal) : EReal := d * (g * sgm g)
def actF (g u : EReal) : EReal := g * sgm g * u

theorem sgm_real (g : ℝ) : sgm (g : EReal) = (((1 + Real.exp (-g))⁻¹ : ℝ) : EReal) := by
  have h : (1 + Real.exp (-g) : ℝ) ≠ 0 := by positivity
  unfold sgm
  rw [zero_sub, ← EReal.coe_neg, Ideal.exp_coe, one_coe, ← EReal.coe_add, div_real h, one_div]

theorem gate_real (g u d : ℝ) : gateF (g : EReal) u d = (d : EReal) * u * sgm g + (g : EReal) * (d * u) * (sgm g * (1 - sgm g)) := by
  unfold gateF
  rw [sgm_real, one_coe]
  simp only [← EReal.coe_mul, ← EReal.coe_sub, ← EReal.coe_add]
  congr 1
  ring

section ref
variable (H : FVec Ideal S4096x1024 .f32) (W : FVec Ideal S1024x5632 .f32) (O : FVec Ideal S2816x1024 .f32) (D : FVec Ideal S4096x1024 .f32)

/-- The blocked layout of the products: half, block, row, column. -/
theorem lay {e : EltTy} (X : S4096x5632.Idx → Elt Ideal e) (hs : S4096x5632.ShapeCasts S4096x2x4x704) (ht : S4096x2x4x704.Transposes [1, 2, 0, 3] S2x4x4096x704) (a : Fin 2) (j : Fin 4) (r : Fin 4096) (k : Fin 704) (n : Fin 5632)
    (hn : n.val = (a.val * 4 + j.val) * 704 + k.val) : transpose S2x4x4096x704 [1, 2, 0, 3] (shapeCast S4096x2x4x704 X hs) ht (ix4 a j r k) = X (ix2 r n) := by
  have h : transpose S2x4x4096x704 [1, 2, 0, 3] (shapeCast S4096x2x4x704 X hs) ht (ix4 a j r k) = shapeCast S4096x2x4x704 X hs (ix4 r a j k) := by pointwise
  rw [h]
  refine shapeCast_apply _ _ _ _ ?_
  rw [rowMajor_val2 _ 5632 rfl, rowMajor_val4 _ 5632 2816 704 rfl rfl rfl]
  show r.val * 5632 + n.val = r.val * 5632 + a.val * 2816 + j.val * 704 + k.val
  omega

theorem ref_sgm (r : Fin 4096) (n : Fin 2816) : val_main_v3_2 (F := Ideal) H W (ix2 r n) = sgm (val_main_v1 (F := Ideal) H W (ix2 r n)) := by
  pointwise [val_main_v3_2, val_main_call0_v4, val_main_call0_cst_0, val_main_call0_v3, val_main_call0_v2, val_main_call0_cst, val_main_call0_v1, val_main_call0_v0]
  unfold sgm
  rw [zero_sub]
theorem ref_act (r : Fin 4096) (n : Fin 2816) : val_main_v4 (F := Ideal) H W (ix2 r n) = actF (val_main_v1 (F := Ideal) H W (ix2 r n)) (val_main_v2 (F := Ideal) H W (ix2 r n)) := by
  have h := ref_sgm H W r n
  pointwise [val_main_v4, val_main_v3_0, h]
  rfl
theorem ref_up (r : Fin 4096) (n : Fin 2816) : val_main_v9 (F := Ideal) H W O D (ix2 r n) = upF (val_main_v1 (F := Ideal) H W (ix2 r n)) (val_main_v8 (F := Ideal) O D (ix2 r n)) := by
  have h := ref_sgm H W r n
  pointwise [val_main_v9, val_main_v3_0, h]
  exact mul_comm _ _
theorem ref_gate (r : Fin 4096) (n : Fin 2816) (g u d : ℝ) (hg : val_main_v1 (F := Ideal) H W (ix2 r n) = (g : EReal)) (hu : val_main_v2 (F := Ideal) H W (ix2 r n) = (u : EReal)) (hd : val_main_v8 (F := Ideal) O D (ix2 r n) = (d : EReal)) :
    val_main_v11 (F := Ideal) H W O D (ix2 r n) = gateF g u d := by
  have h := ref_sgm H W r n
  rw [gate_real]
  pointwise [val_main_v11, val_main_call1_v1, val_main_call1_v2, val_main_call1_v0, val_main_v3_1, val_main_call0_v7, val_main_call0_v6, val_main_call0_cst_1, val_main_v10, h, hg, hu, hd]

theorem ref_g (r : Fin 4096) (n : Fin 2816) (n' : Fin 5632) (hn : n'.val = n.val) : val_main_v1 (F := Ideal) H W (ix2 r n) = val_main_v0 (F := Ideal) H W (ix2 r n') := by
  pointwise [val_main_v1]
  exact congrArg _ (congrArg (ix2 r) (Fin.ext hn.symm))
theorem ref_u (r : Fin 4096) (n : Fin 2816) (n' : Fin 5632) (hn : n'.val = 2816 + n.val) : val_main_v2 (F := Ideal) H W (ix2 r n) = val_main_v0 (F := Ideal) H W (ix2 r n') := by
  pointwise [val_main_v2]
  exact congrArg _ (congrArg (ix2 r) (Fin.ext hn.symm))
theorem ref_lo (r : Fin 4096) (n : Fin 2816) (n' : Fin 5632) (hn : n'.val = n.val) : val_main_v12 (F := Ideal) H W O D (ix2 r n') = val_main_v11 (F := Ideal) H W O D (ix2 r n) := by
  pointwise [val_main_v12]
  rw [dif_pos (by omega)]
  exact congrArg _ (congrArg (ix2 r) (Fin.ext hn))
theorem ref_hi (r : Fin 4096) (n : Fin 2816) (n' : Fin 5632) (hn : n'.val = 2816 + n.val) : val_main_v12 (F := Ideal) H W O D (ix2 r n') = val_main_v9 (F := Ideal) H W O D (ix2 r n) := by
  pointwise [val_main_v12]
  rw [dif_neg (by omega)]
  exact congrArg _ (congrArg (ix2 r) (Fin.ext (by show n'.val - 2816 = n.val; omega)))

/-- The results: the gradient of the products, of the first weights, of the second. -/
theorem ref_dgu (a : Fin 2) (j : Fin 4) (r : Fin 4096) (k : Fin 704) (n : Fin 5632) (hn : n.val = (a.val * 4 + j.val) * 704 + k.val) :
    val_main_v17 (F := Ideal) H W O D (ix4 a j r k) = val_main_v12 (F := Ideal) H W O D (ix2 r n) :=
  lay (val_main_v12 (F := Ideal) H W O D) _ _ a j r k n hn
theorem ref_dwi (a : Fin 2) (j : Fin 4) (k : Fin 704) (d : Fin 1024) (n : Fin 5632) (hn : n.val = (a.val * 4 + j.val) * 704 + k.val) :
    val_main_v20 (F := Ideal) H W O D (ix4 a j k d) = ∑ r, val_main_v12 (F := Ideal) H W O D (ix2 r n) * H (ix2 r d) := by
  have h : val_main_v20 (F := Ideal) H W O D (ix4 a j k d) = val_main_v18 (F := Ideal) H W O D (ix2 n d) := by
    show val_main_v19 (F := Ideal) H W O D (ix4 a j k d) = _
    unfold val_main_v19
    refine shapeCast_apply _ _ _ _ ?_
    rw [rowMajor_val2 _ 1024 rfl, rowMajor_val4 _ 2883584 720896 1024 rfl rfl rfl]
    show n.val * 1024 + d.val = a.val * 2883584 + j.val * 720896 + k.val * 1024 + d.val
    omega
  rw [h]
  pointwise [val_main_v18, val_main_v14, val_main_v13]
theorem ref_dwo (j : Fin 4) (k : Fin 704) (d : Fin 1024) (n : Fin 2816) (hn : n.val = j.val * 704 + k.val) :
    val_main_v22 (F := Ideal) H W D (ix3 j k d) = ∑ r, val_main_v4 (F := Ideal) H W (ix2 r n) * D (ix2 r d) := by
  have h : val_main_v22 (F := Ideal) H W D (ix3 j k d) = val_main_v7 (F := Ideal) H W D (ix2 n d) := by
    show val_main_v21 (F := Ideal) H W D (ix3 j k d) = _
    unfold val_main_v21
    refine shapeCast_apply _ _ _ _ ?_
    rw [rowMajor_val2 _ 1024 rfl, rowMajor_val3 _ 720896 1024 rfl rfl]
    show n.val * 1024 + d.val = j.val * 720896 + k.val * 1024 + d.val
    omega
  rw [h]
  pointwise [val_main_v7, val_main_v6]
  exact Finset.sum_congr rfl fun r _ => mul_comm _ _
end ref

variable (m : (ℓ : Loc nD τ sig) → Buf (Elt Ideal) ℓ)

/-- The arguments of the run, by name. -/
def aH (c : Dev nD) : FVec Ideal S4096x1024 .f32 := m ((c : Thread nD τ).loc main_arg0)
def aW (c : Dev nD) : FVec Ideal S1024x5632 .f32 := m ((c : Thread nD τ).loc main_arg1)
def aO (c : Dev nD) : FVec Ideal S2816x1024 .f32 := m ((c : Thread nD τ).loc main_arg2)
def aD (c : Dev nD) : FVec Ideal S4096x1024 .f32 := m ((c : Thread nD τ).loc main_arg3)

theorem idx : ∀ t : Fin cfg0.N, win0_0.index t = ![t.val % 8, 0] ∧ win0_1.index t = ![0, t.val / 8, t.val % 8, 0] ∧ win0_2.index t = ![t.val % 8, 0] ∧ win0_3.index t = ![t.val / 8, 0]
    ∧ win0_4.index t = ![0, t.val / 8, t.val % 8, 0] ∧ win0_5.index t = ![0, t.val / 8, 0, 0] ∧ win0_6.index t = ![t.val / 8, 0, 0] := (by decide +kernel : ∀ t : Fin grid0.N, _)

/-- What the forward pass saved, computed by the host lines, is what the reference's forward lines compute, in blocks. -/
theorem V_gu (c : Dev nD) : V (F := Ideal) m c main_v5 = transpose S2x4x4096x704 [1, 2, 0, 3] (shapeCast S4096x2x4x704 (val_main_v0 (F := Ideal) (aH m c) (aW m c)) shapeCasts_S4096x5632_S4096x2x4x704) transposes_S4096x2x4x704_S2x4x4096x704_1_2_0_3 := by
  rfl

section blocks
variable (c : Dev nD) (t : Fin cfg0.N)

theorem blk_df (i : Fin 512) (k : Fin 1024) (r : Fin 4096) (hr : r.val = t.val % 8 * 512 + i.val) :
    iblk (F := Ideal) m c 0 t (ix2 i k) = aD m c (ix2 r k) := by unfold aD; blk_point [iblk, V, idx t]
theorem blk_h (i : Fin 512) (k : Fin 1024) (r : Fin 4096) (hr : r.val = t.val % 8 * 512 + i.val) :
    iblk (F := Ideal) m c 2 t (ix2 i k) = aH m c (ix2 r k) := by unfold aH; blk_point [iblk, V, idx t]
theorem blk_wo (i : Fin 704) (k : Fin 1024) (r : Fin 2816) (hr : r.val = t.val / 8 * 704 + i.val) :
    iblk (F := Ideal) m c 3 t (ix2 i k) = aO m c (ix2 r k) := by unfold aO; blk_point [iblk, V, idx t]
theorem blk_gu (a : Fin 2) (i : Fin 512) (k : Fin 704) (r : Fin 4096) (hr : r.val = t.val % 8 * 512 + i.val) (n : Fin 5632) (hn : n.val = (a.val * 4 + t.val / 8) * 704 + k.val) :
    iblk (F := Ideal) m c 1 t (ix4 a 0 i k) = val_main_v0 (F := Ideal) (aH m c) (aW m c) (ix2 r n) := by
  have ht : t.val < 32 := lt_of_lt_of_eq t.isLt N_0
  refine Eq.trans ?_ (lay (val_main_v0 (F := Ideal) (aH m c) (aW m c)) shapeCasts_S4096x5632_S4096x2x4x704 transposes_S4096x2x4x704_S2x4x4096x704_1_2_0_3 a ⟨t.val / 8, by omega⟩ r k n hn)
  rw [← V_gu]
  blk_simp [iblk]
  exact congrArg _ (by blk_ext [idx t])
end blocks

end Cert.Swiglu

end
-- ==== Proof.Swiglu.Tile.lean ====
module

public import proofs.«01_k».proof.Proof.Gen.KernelSwigluIdeal.Value
public import proofs.«01_k».proof.Proof.Swiglu.Row
public import proofs.«01_k».proof.Proof.Gen.ReferenceSwigluIdeal.Read

@[expose] public section

set_option maxRecDepth 16384

noncomputable section

namespace Cert.Swiglu

open Idealize.ShloMosaic Idealize.ShloMosaic.TcCoe Idealize.SL.Sem
open Idealize.ShloMosaic.Pipeline (Dat)
open Cert.KernelSwigluIdeal Cert.KernelSwigluIdeal.Gen
open Cert.ReferenceSwigluIdeal.Read Cert.Lift

variable (m : (ℓ : Loc nD τ sig) → Buf (Elt Ideal) ℓ)

section tile
variable (G U : FVec Ideal S1x1x16x704 .bf16) (D : FVec Ideal S16x704 .f32) (g u d : EReal) (a b : Fin 1) (i : Fin 16) (k : Fin 704)
  (hg : G (ix4 0 0 i k) = g) (hu : U (ix4 0 0 i k) = u) (hd : D (ix2 i k) = d)
include hg

theorem sgm_tile : k0_pay11 (F := Ideal) G (ix2 i k) = sgm g := by
  pointwise [k0_pay11, k0_pay9, hg]
  rfl
include hd
theorem up_tile : k0_pay16 (F := Ideal) D (k0_pay12 G) (ix4 a b i k) = upF g d := by
  have h := sgm_tile G g i k hg
  obtain rfl : a = 0 := Subsingleton.elim _ _
  obtain rfl : b = 0 := Subsingleton.elim _ _
  pointwise [k0_pay16, k0_pay12, k0_pay9, hg, hd, h]
  rfl
include hu
theorem gate_tile : k0_pay15 (F := Ideal) (k0_pay11 G) (k0_pay13 U D) (k0_pay14 G) (ix4 a b i k) = gateF g u d := by
  have h := sgm_tile G g i k hg
  obtain rfl : a = 0 := Subsingleton.elim _ _
  obtain rfl : b = 0 := Subsingleton.elim _ _
  pointwise [k0_pay15, k0_pay13, k0_pay14, k0_pay9, k0_pay10, hg, hu, hd, h]
  rfl
omit hd
theorem act_tile : k0_pay17 (F := Ideal) (k0_pay10 U) (k0_pay12 G) (ix2 i k) = actF g u := by
  have h := sgm_tile G g i k hg
  pointwise [k0_pay17, k0_pay12, k0_pay9, k0_pay10, hg, hu, h]
  rfl
end tile

variable (c : Dev nD) (t : Fin cfg0.N)

/-- A group of rows of the block of products, and of the cotangent of the activation. -/
theorem ld_gu (a o : ℕ) (inb : ∀ j, (![a, 0, o, 0] : Fin 4 → ℕ) j + (![1, 1, 16, 704] : Fin 4 → ℕ) j ≤ S2x1x512x704.size j) (a' : Fin 2) (x y : Fin 1) (i : Fin 16) (k : Fin 704) (r : Fin 512) (ha : a'.val = a) (hr : r.val = o + i.val) :
    View.ld (iblk (F := Ideal) m c 1 t) (Rect.unit (s := S2x1x512x704) ![a, 0, o, 0] ![1, 1, 16, 704] inb) (ix4 x y i k) = iblk (F := Ideal) m c 1 t (ix4 a' 0 r k) := by
  refine View.ld_unit_apply_of _ _ _ _ _ _ fun j => ?_
  have := x.isLt
  have := y.isLt
  fin_cases j
  · show a'.val = a + x.val
    omega
  · show 0 = 0 + y.val
    omega
  · exact hr
  · exact (Nat.zero_add _).symm

/-- The cotangent of the activation at a tile. -/
abbrev dact : FVec Ideal S512x704 .f32 := k0_pay8 (F := Ideal) (iblk m c 0 t) (iblk m c 3 t)

/-- The gradient of the products at a tile. -/
def dguF (y : S2x1x512x704.Idx) : EReal := if (y 0).val = 0 then gateF (iblk (F := Ideal) m c 1 t (ix4 0 0 (y 2) (y 3))) (iblk (F := Ideal) m c 1 t (ix4 1 0 (y 2) (y 3))) (dact m c t (ix2 (y 2) (y 3)))
     else upF (iblk (F := Ideal) m c 1 t (ix4 0 0 (y 2) (y 3))) (dact m c t (ix2 (y 2) (y 3)))

set_option maxHeartbeats 4000000 in
/-- What every grid point writes to the block of gradients. -/
theorem dgu_all (y : S2x1x512x704.Idx) : (outsAt0 (F := Ideal) m c t.val t.isLt).1 y = dguF m c t y := by
  have h : t.val % 8 = 0 ∧ ¬t.val % 8 = 7 ∨ ¬t.val % 8 = 0 ∧ ¬t.val % 8 = 7 ∨ ¬t.val % 8 = 0 ∧ t.val % 8 = 7 := by omega
  rcases h with ⟨h0, h7⟩ | ⟨h0, h7⟩ | ⟨h0, h7⟩
  on_goal 1 => rw [outsAt0_A m c t h0 h7]
  on_goal 2 => rw [outsAt0_B m c t h0 h7]
  on_goal 3 => rw [outsAt0_C m c t h0 h7]
  all_goals frame_out
  all_goals
    clear h0 h7
    unfold dguF
    canon_tiles x h
  all_goals
    have hy : y 3 = x 3 := Fin.ext h3
    first
    | rw [if_neg (by omega), hy]
      refine (congrArg _ (eq_ix4 x)).trans (up_tile _ _ _ _ (x 0) (x 1) (x 2) (x 3) ?_ ?_)
      · exact ld_gu m c t _ _ _ _ _ _ _ _ _ rfl (by omega)
    | rw [if_pos (by omega), hy]
      refine (congrArg _ (eq_ix4 x)).trans (gate_tile _ _ _ _ _ _ (x 0) (x 1) (x 2) (x 3) ?_ ?_ ?_)
      · exact ld_gu m c t _ _ _ _ _ _ _ _ _ rfl (by omega)
      · exact ld_gu m c t _ _ _ _ _ _ _ _ _ rfl (by omega)
    refine (row_cov _ _ _ (y 2) _ _ (by omega)).trans (row_hit _ _ _ _ (y 2) _ (Nat.zero_add _).symm)

end Cert.Swiglu

end
-- ==== Proof.Swiglu.Acc.lean ====
module

public import proofs.«01_k».proof.Proof.Gen.KernelSwigluIdeal.Value
public import proofs.«01_k».proof.Proof.Swiglu.Tile

@[expose] public section

set_option maxRecDepth 16384

noncomputable section

namespace Cert.Swiglu

open Idealize.ShloMosaic Idealize.ShloMosaic.TcCoe Idealize.SL.Sem
open Idealize.ShloMosaic.Pipeline (Dat)
open Cert.KernelSwigluIdeal Cert.KernelSwigluIdeal.Gen
open Cert.ReferenceSwigluIdeal.Read Cert.Lift

variable (m : (ℓ : Loc nD τ sig) → Buf (Elt Ideal) ℓ)

/-- Real arguments. -/
structure Reals (c : Dev nD) (h : Fin 4096 → Fin 1024 → ℝ) (w : Fin 1024 → Fin 5632 → ℝ) (o : Fin 2816 → Fin 1024 → ℝ) (δ : Fin 4096 → Fin 1024 → ℝ) : Prop where
  hh : ∀ r k, aH m c (ix2 r k) = ((h r k : ℝ) : EReal)
  hw : ∀ r k, aW m c (ix2 r k) = ((w r k : ℝ) : EReal)
  ho : ∀ r k, aO m c (ix2 r k) = ((o r k : ℝ) : EReal)
  hd : ∀ r k, aD m c (ix2 r k) = ((δ r k : ℝ) : EReal)

theorem dact_pay (X : FVec Ideal S512x1024 .bf16) (Y : FVec Ideal S704x1024 .bf16) (i : Fin 512) (k : Fin 704) : k0_pay8 (F := Ideal) X Y (ix2 i k) = ∑ d, X (ix2 i d) * Y (ix2 k d) := by
  pointwise [k0_pay8]
theorem o_pay (A : FVec Ideal S704x1024 .f32) (X : FVec Ideal S512x704 .bf16) (Y : FVec Ideal S512x1024 .bf16) (k : Fin 704) (d : Fin 1024) :
    k0_pay265 (F := Ideal) A X Y (ix2 k d) = A (ix2 k d) + ∑ i, X (ix2 i k) * Y (ix2 i d) := by
  pointwise [k0_pay265]
theorem g_pay (Y : FVec Ideal S512x1024 .bf16) (A : FVec Ideal S704x1024 .f32) (X : FVec Ideal S1x1x512x704 .bf16) (k : Fin 704) (d : Fin 1024) :
    k0_pay266 (F := Ideal) Y A X (ix2 k d) = A (ix2 k d) + ∑ i, X (ix4 0 0 i k) * Y (ix2 i d) := by
  pointwise [k0_pay266, k0_pay264]
theorem u_pay (Y : FVec Ideal S512x1024 .bf16) (A : FVec Ideal S704x1024 .f32) (X : FVec Ideal S1x1x512x704 .bf16) (k : Fin 704) (d : Fin 1024) :
    k0_pay1 (k0_pay267 (F := Ideal) Y A X) (ix2 k d) = A (ix2 k d) + ∑ i, X (ix4 0 0 i k) * Y (ix2 i d) := by
  pointwise [k0_pay1, k0_pay267, k0_pay264]

variable (c : Dev nD)

section point
variable (t : Fin cfg0.N)

/-- A half of the block of gradients, read back after it is written. -/
theorem cov_half {Val : EltTy → Type} [∀ e, Nonempty (Val e)] {sig : RefSig} {κ : Kind} {sp : Space} {e : EltTy} (b : View sig κ sp S2x1x512x704 e) (L : List (View.Piece Val S2x1x512x704 e)) (a : ℕ)
    (inb : ∀ x, (![a, 0, 0, 0] : Fin 4 → ℕ) x + (![1, 1, 512, 704] : Fin 4 → ℕ) x ≤ S2x1x512x704.size x) (a' : Fin 2) (ha : a'.val = a) (i : Fin 512) (k : Fin 704) :
    b.readCov L (Rect.unit (s := S2x1x512x704) ![a, 0, 0, 0] ![1, 1, 512, 704] inb).toLoadRect (ix4 0 0 i k) = View.canon L (ix4 a' 0 i k) := by
  rw [View.readCov_eq_canon']
  refine congrArg (View.canon L) (funext fun x => Fin.ext ?_)
  fin_cases x
  · show a + 1 * 0 = a'.val
    omega
  · rfl
  · show 0 + 1 * i.val = i.val
    omega
  · show 0 + 1 * k.val = k.val
    omega

variable (i : Fin 512) (k : Fin 704) (r : Fin 4096) (hr : r.val = t.val % 8 * 512 + i.val) (n : Fin 2816) (hn : n.val = t.val / 8 * 704 + k.val)
include hr hn

theorem dact_at : dact m c t (ix2 i k) = val_main_v8 (F := Ideal) (aO m c) (aD m c) (ix2 r n) := by
  refine (dact_pay _ _ i k).trans (Eq.trans ?_ (show ∑ d, aD m c (ix2 r d) * aO m c (ix2 n d) = _ by pointwise [val_main_v8]))
  exact Finset.sum_congr rfl fun d _ => congrArg₂ (· * ·) (blk_df m c t i d r hr) (blk_wo m c t k d n hn)
theorem g_at : iblk (F := Ideal) m c 1 t (ix4 0 0 i k) = val_main_v1 (F := Ideal) (aH m c) (aW m c) (ix2 r n) := by
  rw [ref_g _ _ r n ⟨n.val, by omega⟩ rfl]
  exact blk_gu m c t 0 i k r hr _ (by show n.val = (0 * 4 + t.val / 8) * 704 + k.val; omega)
theorem u_at : iblk (F := Ideal) m c 1 t (ix4 1 0 i k) = val_main_v2 (F := Ideal) (aH m c) (aW m c) (ix2 r n) := by
  rw [ref_u _ _ r n ⟨2816 + n.val, by omega⟩ rfl]
  exact blk_gu m c t 1 i k r hr _ (by show 2816 + n.val = (1 * 4 + t.val / 8) * 704 + k.val; omega)
theorem act_at : actF (iblk (F := Ideal) m c 1 t (ix4 0 0 i k)) (iblk (F := Ideal) m c 1 t (ix4 1 0 i k)) = val_main_v4 (F := Ideal) (aH m c) (aW m c) (ix2 r n) := by
  rw [ref_act, g_at m c t i k r hr n hn, u_at m c t i k r hr n hn]

variable (h : Fin 4096 → Fin 1024 → ℝ) (w : Fin 1024 → Fin 5632 → ℝ) (o : Fin 2816 → Fin 1024 → ℝ) (δ : Fin 4096 → Fin 1024 → ℝ) (R : Reals m c h w o δ)
include R

omit hr hn in
theorem v0_real (n' : Fin 5632) : ∃ g : ℝ, val_main_v0 (F := Ideal) (aH m c) (aW m c) (ix2 r n') = (g : EReal) := by
  refine ⟨∑ j, h r j * w j n', ?_⟩
  pointwise [val_main_v0]
  rw [← sum_coe]
  exact Finset.sum_congr rfl fun j _ => by rw [R.hh, R.hw, EReal.coe_mul]
omit hr hn in
theorem v8_real : ∃ d : ℝ, val_main_v8 (F := Ideal) (aO m c) (aD m c) (ix2 r n) = (d : EReal) := by
  refine ⟨∑ j, δ r j * o n j, ?_⟩
  pointwise [val_main_v8]
  rw [← sum_coe]
  exact Finset.sum_congr rfl fun j _ => by rw [R.hd, R.ho, EReal.coe_mul]

omit hn in
theorem dgu_point (a : Fin 2) (n' : Fin 5632) (hn' : n'.val = (a.val * 4 + t.val / 8) * 704 + k.val) : dguF m c t (ix4 a 0 i k) = val_main_v12 (F := Ideal) (aH m c) (aW m c) (aO m c) (aD m c) (ix2 r n') := by
  have ht : t.val < 32 := lt_of_lt_of_eq t.isLt N_0
  have hn : (⟨t.val / 8 * 704 + k.val, by omega⟩ : Fin 2816).val = t.val / 8 * 704 + k.val := rfl
  generalize (⟨t.val / 8 * 704 + k.val, by omega⟩ : Fin 2816) = n at hn
  unfold dguF
  show (if a.val = 0 then gateF (iblk (F := Ideal) m c 1 t (ix4 0 0 i k)) (iblk (F := Ideal) m c 1 t (ix4 1 0 i k)) (dact m c t (ix2 i k)) else upF (iblk (F := Ideal) m c 1 t (ix4 0 0 i k)) (dact m c t (ix2 i k))) = _
  rw [g_at m c t i k r hr n hn, u_at m c t i k r hr n hn, dact_at m c t i k r hr n hn]
  by_cases ha : a.val = 0
  · rw [if_pos ha, ref_lo _ _ _ _ r n n' (by omega)]
    obtain ⟨x, hx⟩ := v0_real m c r h w o δ R ⟨n.val, by omega⟩
    obtain ⟨y, hy⟩ := v0_real m c r h w o δ R ⟨2816 + n.val, by omega⟩
    obtain ⟨d, hd⟩ := v8_real m c r n h w o δ R
    have hg := (ref_g _ _ r n ⟨n.val, by omega⟩ rfl).trans hx
    have hu := (ref_u _ _ r n ⟨2816 + n.val, by omega⟩ rfl).trans hy
    rw [ref_gate _ _ _ _ r n x y d hg hu hd, hg, hu, hd]
  · rw [if_neg ha, ref_hi _ _ _ _ r n n' (by omega), ref_up]
end point

/-- What row tile `p` adds to block `j` of the gradients of the weights. -/
def qi (a : Fin 2) (k : Fin 704) (d : Fin 1024) (j p : ℕ) : EReal := ∑ i : Fin 512, val_main_v12 (F := Ideal) (aH m c) (aW m c) (aO m c) (aD m c) (ix2 (tileRow 4096 512 p i) (tileRow 5632 704 (a.val * 4 + j) k)) * aH m c (ix2 (tileRow 4096 512 p i) d)
def qo (k : Fin 704) (d : Fin 1024) (j p : ℕ) : EReal := ∑ i : Fin 512, val_main_v4 (F := Ideal) (aH m c) (aW m c) (ix2 (tileRow 4096 512 p i) (tileRow 2816 704 j k)) * aD m c (ix2 (tileRow 4096 512 p i) d)

section step
variable (t : Fin cfg0.N) (k : Fin 704) (d : Fin 1024)

theorem o_step (A : FVec Ideal S704x1024 .f32) (X : FVec Ideal S512x704 .bf16) (hX : ∀ i, X (ix2 i k) = actF (iblk (F := Ideal) m c 1 t (ix4 0 0 i k)) (iblk (F := Ideal) m c 1 t (ix4 1 0 i k))) :
    k0_pay265 A X (iblk (F := Ideal) m c 0 t) (ix2 k d) = A (ix2 k d) + qo m c k d (t.val / 8) (t.val % 8) := by
  have ht : t.val < 32 := lt_of_lt_of_eq t.isLt N_0
  refine (o_pay _ _ _ k d).trans (congrArg _ (Finset.sum_congr rfl fun i _ => ?_))
  have hr := tileRow_val (N := 4096) (p := t.val % 8) i (by omega)
  exact congrArg₂ (· * ·) ((hX i).trans (act_at m c t i k _ hr _ (tileRow_val (N := 2816) (p := t.val / 8) k (by omega)))) (blk_df m c t i d _ hr)

variable (h : Fin 4096 → Fin 1024 → ℝ) (w : Fin 1024 → Fin 5632 → ℝ) (o : Fin 2816 → Fin 1024 → ℝ) (δ : Fin 4096 → Fin 1024 → ℝ) (R : Reals m c h w o δ)
include R

theorem i_sum (a : Fin 2) (X : FVec Ideal S1x1x512x704 .bf16) (hX : ∀ i, X (ix4 0 0 i k) = (outsAt0 (F := Ideal) m c t.val t.isLt).1 (ix4 a 0 i k)) :
    ∑ i, X (ix4 0 0 i k) * iblk (F := Ideal) m c 2 t (ix2 i d) = qi m c a k d (t.val / 8) (t.val % 8) := by
  have ht : t.val < 32 := lt_of_lt_of_eq t.isLt N_0
  refine Finset.sum_congr rfl fun i _ => ?_
  have hr := tileRow_val (N := 4096) (p := t.val % 8) i (by omega)
  exact congrArg₂ (· * ·) ((hX i).trans ((dgu_all m c t _).trans (dgu_point m c t i k _ hr h w o δ R a _ (tileRow_val (N := 5632) (p := a.val * 4 + t.val / 8) k (by omega))))) (blk_h m c t i d _ hr)
end step

section carried
variable (t : Fin cfg0.N) (k : Fin 704) (d : Fin 1024)

set_option maxHeartbeats 4000000 in
theorem first_o (h0 : t.val % 8 = 0) : (outsAt0 (F := Ideal) m c t.val t.isLt).2.2.2.2.2 (ix2 k d) = qo m c k d (t.val / 8) (t.val % 8) := by
  rw [outsAt0_A m c t h0 (by omega)]
  frame_out
  refine (o_step m c t k d _ _ fun i => ?_).trans ?_
  · refine (row_cov _ _ _ i i k (Nat.zero_add _).symm).trans ?_
    generalize hy : (ix2 i k : S512x704.Idx) = y
    have h0 : i = y 0 := by rw [← hy]; rfl
    have h1 : k = y 1 := by rw [← hy]; rfl
    rw [h0, h1]
    clear hy h0 h1
    canon_tiles x h
    all_goals
      have hy : y 1 = x 1 := Fin.ext h1
      rw [hy]
      refine (congrArg _ (eq_ix2 x)).trans (act_tile _ _ _ _ (x 0) (x 1) ?_ ?_)
      all_goals exact ld_gu m c t _ _ _ _ _ _ _ _ _ rfl (by omega)
  · rw [show k0_pay7 (F := Ideal) (ix2 k d) = 0 by pointwise [k0_pay7], zero_add]

set_option maxHeartbeats 4000000 in
theorem next_o (h0 : ¬t.val % 8 = 0) (hp : t.val - 1 < cfg0.N) : (outsAt0 (F := Ideal) m c t.val t.isLt).2.2.2.2.2 (ix2 k d) = (outsAt0 (F := Ideal) m c (t.val - 1) hp).2.2.2.2.2 (ix2 k d) + qo m c k d (t.val / 8) (t.val % 8) := by
  by_cases h7 : t.val % 8 = 7
  on_goal 1 => rw [outsAt0_C m c t h0 h7]
  on_goal 2 => rw [outsAt0_B m c t h0 h7]
  all_goals frame_out
  all_goals
    refine (o_step m c t k d _ _ fun i => ?_).trans (congrArg (· + _) (congrFun (Memref.IsWhole.read_unread (m := Memref.whole cc0_scratch2) _ _) _))
    refine (row_cov _ _ _ i i k (Nat.zero_add _).symm).trans ?_
    generalize hy : (ix2 i k : S512x704.Idx) = y
    have h0 : i = y 0 := by rw [← hy]; rfl
    have h1 : k = y 1 := by rw [← hy]; rfl
    rw [h0, h1]
    clear hy h0 h1
    canon_tiles x h
  all_goals
    have hy : y 1 = x 1 := Fin.ext h1
    rw [hy]
    refine (congrArg _ (eq_ix2 x)).trans (act_tile _ _ _ _ (x 0) (x 1) ?_ ?_)
    all_goals exact ld_gu m c t _ _ _ _ _ _ _ _ _ rfl (by omega)

variable (h : Fin 4096 → Fin 1024 → ℝ) (w : Fin 1024 → Fin 5632 → ℝ) (o : Fin 2816 → Fin 1024 → ℝ) (δ : Fin 4096 → Fin 1024 → ℝ) (R : Reals m c h w o δ)
include R

set_option maxHeartbeats 4000000 in
theorem first_i (h0 : t.val % 8 = 0) : (outsAt0 (F := Ideal) m c t.val t.isLt).2.2.2.1 (ix2 k d) = qi m c 0 k d (t.val / 8) (t.val % 8)
    ∧ (outsAt0 (F := Ideal) m c t.val t.isLt).2.2.2.2.1 (ix2 k d) = qi m c 1 k d (t.val / 8) (t.val % 8) := by
  have h7 : ¬t.val % 8 = 7 := by omega
  rw [outsAt0_A m c t h0 h7]
  frame_out
  constructor
  · refine (g_pay _ _ _ k d).trans ((congrArg _ (i_sum m c t k d h w o δ R 0 _ fun i => ?_)).trans ?_)
    · rw [outsAt0_A m c t h0 h7]
      frame_out
      exact cov_half _ _ 0 _ 0 rfl i k
    · rw [show k0_pay5 (F := Ideal) (ix2 k d) = 0 by pointwise [k0_pay5], zero_add]
  · refine (u_pay _ _ _ k d).trans ((congrArg _ (i_sum m c t k d h w o δ R 1 _ fun i => ?_)).trans ?_)
    · rw [outsAt0_A m c t h0 h7]
      frame_out
      exact cov_half _ _ 1 _ 1 rfl i k
    · rw [show k0_pay6 (F := Ideal) (ix2 k d) = 0 by pointwise [k0_pay6], zero_add]

set_option maxHeartbeats 4000000 in
theorem next_i (h0 : ¬t.val % 8 = 0) (hp : t.val - 1 < cfg0.N) : (outsAt0 (F := Ideal) m c t.val t.isLt).2.2.2.1 (ix2 k d) = (outsAt0 (F := Ideal) m c (t.val - 1) hp).2.2.2.1 (ix2 k d) + qi m c 0 k d (t.val / 8) (t.val % 8)
    ∧ (outsAt0 (F := Ideal) m c t.val t.isLt).2.2.2.2.1 (ix2 k d) = (outsAt0 (F := Ideal) m c (t.val - 1) hp).2.2.2.2.1 (ix2 k d) + qi m c 1 k d (t.val / 8) (t.val % 8) := by
  by_cases h7 : t.val % 8 = 7
  on_goal 1 => rw [outsAt0_C m c t h0 h7]
  on_goal 2 => rw [outsAt0_B m c t h0 h7]
  all_goals frame_out
  all_goals
    refine ⟨?_, ?_⟩
    · refine (g_pay _ _ _ k d).trans (congrArg₂ (· + ·) (congrFun (Memref.IsWhole.read_unread (m := Memref.whole cc0_scratch0) _ _) _) (i_sum m c t k d h w o δ R 0 _ fun i => ?_))
      first
      | rw [outsAt0_C m c t h0 h7]
      | rw [outsAt0_B m c t h0 h7]
      frame_out
      exact cov_half _ _ 0 _ 0 rfl i k
    · refine (u_pay _ _ _ k d).trans (congrArg₂ (· + ·) (congrFun (Memref.IsWhole.read_unread (m := Memref.whole cc0_scratch1) _ _) _) (i_sum m c t k d h w o δ R 1 _ fun i => ?_))
      first
      | rw [outsAt0_C m c t h0 h7]
      | rw [outsAt0_B m c t h0 h7]
      frame_out
      exact cov_half _ _ 1 _ 1 rfl i k
end carried

end Cert.Swiglu

end
-- ==== Proof.Swiglu.Fin.lean ====
module

public import proofs.«01_k».proof.Proof.Swiglu.Acc

@[expose] public section

set_option maxRecDepth 16384

noncomputable section

/-! The three results of the call: the sums over a run of eight grid points are the sums over all rows. -/

namespace Cert.Swiglu

open Idealize.ShloMosaic Idealize.ShloMosaic.TcCoe Idealize.SL.Sem
open Idealize.ShloMosaic.Pipeline (Dat)
open Cert.KernelSwigluIdeal Cert.KernelSwigluIdeal.Gen
open Cert.ReferenceSwigluIdeal.Read Cert.Lift

variable (m : (ℓ : Loc nD τ sig) → Buf (Elt Ideal) ℓ)

/-- What is carried through runs of eight grid points, each adding its part, is the sum of the run's parts so far. -/
theorem run_carry {N : ℕ} (o : (n : ℕ) → n < N → EReal) (q : ℕ → ℕ → EReal) (h0 : ∀ n h, n % 8 = 0 → o n h = q (n / 8) (n % 8))
    (hs : ∀ n (h : n + 1 < N), ¬(n + 1) % 8 = 0 → o (n + 1) h = o n (Nat.lt_of_succ_lt h) + q ((n + 1) / 8) ((n + 1) % 8)) : ∀ n h, o n h = ∑ p ∈ Finset.range (n % 8 + 1), q (n / 8) p
  | 0, h => by rw [h0 0 h rfl]; exact (Finset.sum_range_one _).symm
  | n + 1, h => by
    by_cases h8 : (n + 1) % 8 = 0
    · rw [h0 _ h h8, h8]
      exact (Finset.sum_range_one _).symm
    · rw [hs n h h8, run_carry o q h0 hs n, show (n + 1) % 8 = n % 8 + 1 by omega, show (n + 1) / 8 = n / 8 by omega]
      exact (Finset.sum_range_succ _ _).symm

theorem narrow_u (X : FVec Ideal S704x1024 .f32) (k : Fin 704) (d : Fin 1024) : k0_pay3 (F := Ideal) X (ix4 0 0 k d) = X (ix2 k d) := by
  pointwise [k0_pay3]
theorem narrow_g (X : FVec Ideal S704x1024 .f32) (k : Fin 704) (d : Fin 1024) : k0_pay2 (F := Ideal) X (ix4 0 0 k d) = X (ix2 k d) := by
  pointwise [k0_pay2]
theorem narrow_o (X : FVec Ideal S704x1024 .f32) (k : Fin 704) (d : Fin 1024) : k0_pay4 (F := Ideal) X (ix3 0 k d) = X (ix2 k d) := by
  pointwise [k0_pay4]

variable (c : Dev nD)

section last
variable (t : Fin cfg0.N) (h7 : t.val % 8 = 7) (k : Fin 704) (d : Fin 1024)
include h7

set_option maxRecDepth 100000 in
set_option maxHeartbeats 4000000 in
/-- The last point of a run writes out what the run has summed. -/
theorem last_i : (outsAt0 (F := Ideal) m c t.val t.isLt).2.1 (ix4 0 0 k d) = (outsAt0 (F := Ideal) m c t.val t.isLt).2.2.2.1 (ix2 k d)
    ∧ (outsAt0 (F := Ideal) m c t.val t.isLt).2.1 (ix4 1 0 k d) = (outsAt0 (F := Ideal) m c t.val t.isLt).2.2.2.2.1 (ix2 k d) := by
  rw [outsAt0_C m c t (by omega) h7]
  frame_out
  refine ⟨(canon_miss _ _ _ _ 0 (.inl (Nat.lt_succ_self 0))).trans ((canon_hit _ _ _ _ (ix4 0 0 k d) fun x => ?_).trans ?_), (canon_hit _ _ _ _ (ix4 0 0 k d) fun x => ?_).trans ?_⟩
  on_goal 2 => exact narrow_g _ k d
  on_goal 3 => exact narrow_u _ k d
  all_goals
    fin_cases x
    · rfl
    · rfl
    all_goals exact (Nat.zero_add _).symm

set_option maxHeartbeats 4000000 in
theorem last_o : (outsAt0 (F := Ideal) m c t.val t.isLt).2.2.1 (ix3 0 k d) = (outsAt0 (F := Ideal) m c t.val t.isLt).2.2.2.2.2 (ix2 k d) := by
  rw [outsAt0_C m c t (by omega) h7]
  frame_out
  exact narrow_o _ k d
end last

theorem sum_o (t : Fin cfg0.N) (h7 : t.val % 8 = 7) (k : Fin 704) (d : Fin 1024) (n : Fin 2816) (hn : n.val = t.val / 8 * 704 + k.val) :
    (outsAt0 (F := Ideal) m c t.val t.isLt).2.2.2.2.2 (ix2 k d) = ∑ r, val_main_v4 (F := Ideal) (aH m c) (aW m c) (ix2 r n) * aD m c (ix2 r d) := by
  have ht : t.val < 32 := lt_of_lt_of_eq t.isLt N_0
  rw [run_carry (fun n hn => (outsAt0 (F := Ideal) m c n hn).2.2.2.2.2 (ix2 k d)) (qo m c k d) (fun n hn h => first_o m c ⟨n, hn⟩ k d h)
    (fun n hn h => next_o m c ⟨n + 1, hn⟩ k d h _) t.val t.isLt, h7]
  obtain rfl : n = tileRow 2816 704 (t.val / 8) k := Fin.ext (hn.trans (tileRow_val (N := 2816) k (by omega)).symm)
  exact sum_tiles (N := 4096) (n := 512) (P := 8) rfl fun r => val_main_v4 (F := Ideal) (aH m c) (aW m c) (ix2 r _) * aD m c (ix2 r d)

theorem flush5 : ∀ t : Fin cfg0.N, (cfg0.win 5).flush t = true → t.val % 8 = 7 := by decide +kernel
theorem flush6 : ∀ t : Fin cfg0.N, (cfg0.win 6).flush t = true → t.val % 8 = 7 := by decide +kernel

theorem dwo_final : (dats (F := Ideal) m 0 c).arrAt 6 cfg0.N = val_main_v22 (F := Ideal) (aH m c) (aW m c) (aD m c) := by
  refine (dats (F := Ideal) m 0 c).arrAt_eq_of_covers 6 _ (by decide +kernel) fun t hf y => ?_
  have h7 := flush6 t hf
  have ht : t.val < 32 := lt_of_lt_of_eq t.isLt N_0
  blk_simp
  rw [after0_6]
  idx_vars y
  obtain rfl : y0 = 0 := Subsingleton.elim _ _
  have hj : (⟨t.val / 8, by omega⟩ : Fin 4).val = t.val / 8 := rfl
  generalize (⟨t.val / 8, by omega⟩ : Fin 4) = j at hj
  have he : ((View.whole main_v8_2).slice (win0_6.rect t)).emb (ix3 0 y1 y2) = ix3 j y1 y2 := by blk_ext [idx t]
  have hn : (⟨t.val / 8 * 704 + y1.val, by omega⟩ : Fin 2816).val = t.val / 8 * 704 + y1.val := rfl
  rw [he, ref_dwo _ _ _ j y1 y2 ⟨t.val / 8 * 704 + y1.val, by omega⟩ (by rw [hj])]
  exact (last_o m c t h7 y1 y2).trans (sum_o m c t h7 y1 y2 _ hn)

variable (h : Fin 4096 → Fin 1024 → ℝ) (w : Fin 1024 → Fin 5632 → ℝ) (o : Fin 2816 → Fin 1024 → ℝ) (δ : Fin 4096 → Fin 1024 → ℝ) (R : Reals m c h w o δ)
include R

theorem sum_i (t : Fin cfg0.N) (h7 : t.val % 8 = 7) (a : Fin 2) (k : Fin 704) (d : Fin 1024) (n : Fin 5632) (hn : n.val = (a.val * 4 + t.val / 8) * 704 + k.val) :
    (outsAt0 (F := Ideal) m c t.val t.isLt).2.1 (ix4 a 0 k d) = ∑ r, val_main_v12 (F := Ideal) (aH m c) (aW m c) (aO m c) (aD m c) (ix2 r n) * aH m c (ix2 r d) := by
  have ht : t.val < 32 := lt_of_lt_of_eq t.isLt N_0
  obtain rfl : n = tileRow 5632 704 (a.val * 4 + t.val / 8) k := Fin.ext (hn.trans (tileRow_val (N := 5632) k (by omega)).symm)
  refine Eq.trans ?_ (sum_tiles (N := 4096) (n := 512) (P := 8) rfl fun r => val_main_v12 (F := Ideal) (aH m c) (aW m c) (aO m c) (aD m c) (ix2 r (tileRow 5632 704 (a.val * 4 + t.val / 8) k)) * aH m c (ix2 r d))
  obtain rfl | rfl : a = 0 ∨ a = 1 := by omega
  · rw [(last_i m c t h7 k d).1, run_carry (fun n hn => (outsAt0 (F := Ideal) m c n hn).2.2.2.1 (ix2 k d)) (qi m c 0 k d) (fun n hn h' => (first_i m c ⟨n, hn⟩ k d h w o δ R h').1)
      (fun n hn h' => (next_i m c ⟨n + 1, hn⟩ k d h w o δ R h' _).1) t.val t.isLt, h7]
    rfl
  · rw [(last_i m c t h7 k d).2, run_carry (fun n hn => (outsAt0 (F := Ideal) m c n hn).2.2.2.2.1 (ix2 k d)) (qi m c 1 k d) (fun n hn h' => (first_i m c ⟨n, hn⟩ k d h w o δ R h').2)
      (fun n hn h' => (next_i m c ⟨n + 1, hn⟩ k d h w o δ R h' _).2) t.val t.isLt, h7]
    rfl

theorem dwi_final : (dats (F := Ideal) m 0 c).arrAt 5 cfg0.N = val_main_v20 (F := Ideal) (aH m c) (aW m c) (aO m c) (aD m c) := by
  refine (dats (F := Ideal) m 0 c).arrAt_eq_of_covers 5 _ (by decide +kernel) fun t hf y => ?_
  have h7 := flush5 t hf
  have ht : t.val < 32 := lt_of_lt_of_eq t.isLt N_0
  blk_simp
  rw [after0_5]
  idx_vars y
  obtain rfl : y1 = 0 := Subsingleton.elim _ _
  have hj : (⟨t.val / 8, by omega⟩ : Fin 4).val = t.val / 8 := rfl
  generalize (⟨t.val / 8, by omega⟩ : Fin 4) = j at hj
  have he : ((View.whole main_v8_1).slice (win0_5.rect t)).emb (ix4 y0 0 y2 y3) = ix4 y0 j y2 y3 := by blk_ext [idx t]
  have hn : (⟨(y0.val * 4 + t.val / 8) * 704 + y2.val, by omega⟩ : Fin 5632).val = (y0.val * 4 + t.val / 8) * 704 + y2.val := rfl
  rw [he, ref_dwi _ _ _ _ y0 j y2 y3 ⟨(y0.val * 4 + t.val / 8) * 704 + y2.val, by omega⟩ (by rw [hj])]
  exact sum_i m c h w o δ R t h7 y0 y2 y3 _ hn

theorem dgu_final : (dats (F := Ideal) m 0 c).arrAt 4 cfg0.N = val_main_v17 (F := Ideal) (aH m c) (aW m c) (aO m c) (aD m c) := by
  refine (dats (F := Ideal) m 0 c).arrAt_eq_of_covers 4 _ (by decide +kernel) fun t _ y => ?_
  have ht : t.val < 32 := lt_of_lt_of_eq t.isLt N_0
  blk_simp
  rw [after0_4]
  idx_vars y
  obtain rfl : y1 = 0 := Subsingleton.elim _ _
  have hj : (⟨t.val / 8, by omega⟩ : Fin 4).val = t.val / 8 := rfl
  generalize (⟨t.val / 8, by omega⟩ : Fin 4) = j at hj
  have hr : (⟨t.val % 8 * 512 + y2.val, by omega⟩ : Fin 4096).val = t.val % 8 * 512 + y2.val := rfl
  generalize (⟨t.val % 8 * 512 + y2.val, by omega⟩ : Fin 4096) = r at hr
  have he : ((View.whole main_v8_0).slice (win0_4.rect t)).emb (ix4 y0 0 y2 y3) = ix4 y0 j r y3 := by blk_ext [idx t]
  have hn : (⟨(y0.val * 4 + t.val / 8) * 704 + y3.val, by omega⟩ : Fin 5632).val = (y0.val * 4 + t.val / 8) * 704 + y3.val := rfl
  rw [he, ref_dgu _ _ _ _ y0 j r y3 ⟨(y0.val * 4 + t.val / 8) * 704 + y3.val, by omega⟩ (by rw [hj])]
  exact (dgu_all m c t _).trans (dgu_point m c t y2 y3 r hr h w o δ R y0 _ hn)

end Cert.Swiglu

end
-- ==== Proof.Swiglu.Claim.lean ====
/- The backward of a feed-forward block's gated unit: the kernel computes the derivative of `(silu(gate) * up) @ w_out`
   by the products and by both weights, on finite arguments. -/
module

public import proofs.«01_k».proof.Defs
public import proofs.«01_k».proof.Proof.Swiglu.Fin
public import proofs.«01_k».proof.Proof.Gen.ReferenceSwigluIdeal.Run
public import proofs.«01_k».proof.Proof.Gen.Pre_swiglu_finite

@[expose] public section

set_option maxRecDepth 16384

noncomputable section

namespace Cert.Swiglu

open Idealize.ShloMosaic Idealize.ShloMosaic.TcCoe Idealize.SL.Sem Cert.KernelSwigluIdeal Cert.KernelSwigluIdeal.Gen Cert.ReferenceSwigluIdeal.Read Cert.Lift

variable (m : (ℓ : Loc nD τ sig) → Buf (Elt Ideal) ℓ)

theorem reals (h : Cert.Pre_KernelSwigluIdeal_swiglu_finite m) (c : Dev nD) : ∃ h w o δ, Reals m c h w o δ := by
  obtain ⟨h0, h1, h2, h3⟩ := h c
  obtain ⟨h, hh⟩ := reals_of h0
  obtain ⟨w, hw⟩ := reals_of h1
  obtain ⟨o, ho⟩ := reals_of h2
  obtain ⟨δ, hd⟩ := reals_of h3
  exact ⟨fun r k => h (ix2 r k), fun r k => w (ix2 r k), fun r k => o (ix2 r k), fun r k => δ (ix2 r k), ⟨fun _ _ => hh _, fun _ _ => hw _, fun _ _ => ho _, fun _ _ => hd _⟩⟩

theorem ref_frame : Cert.quiescent_ReferenceSwigluIdeal := fun m ρ _ =>
  (θ_run Cert.ReferenceSwigluIdeal.defs _ _).mono (fun r h => ⟨fun c => (h c).2.2.2, sem_eq_zero_of_no_sems (by decide) r.2⟩)
    (Cert.ReferenceSwigluIdeal.Value.run m ρ)

/-- Every result of the kernel is the reference's, of equal arguments. -/
theorem final (c : Dev nD) (h : Fin 4096 → Fin 1024 → ℝ) (w : Fin 1024 → Fin 5632 → ℝ) (o : Fin 2816 → Fin 1024 → ℝ) (δ : Fin 4096 → Fin 1024 → ℝ) (R : Reals m c h w o δ)
    (H : FVec Ideal S4096x1024 .f32) (W : FVec Ideal S1024x5632 .f32) (O : FVec Ideal S2816x1024 .f32) (D : FVec Ideal S4096x1024 .f32)
    (e0 : H = aH m c) (e1 : W = aW m c) (e2 : O = aO m c) (e3 : D = aD m c) :
    val_main_v17 (F := Ideal) H W O D = (dats (F := Ideal) m 0 c).arrAt 4 cfg0.N
    ∧ val_main_v20 (F := Ideal) H W O D = (dats (F := Ideal) m 0 c).arrAt 5 cfg0.N
    ∧ val_main_v22 (F := Ideal) H W D = (dats (F := Ideal) m 0 c).arrAt 6 cfg0.N := by
  subst e0 e1 e2 e3
  exact ⟨(dgu_final m c h w o δ R).symm, (dwi_final m c h w o δ R).symm, (dwo_final m c).symm⟩

theorem algebraic : Cert.algebraic_KernelSwigluIdeal_ReferenceSwigluIdeal_pre_swiglu_finite := by
  pair_intro
  · run_from Cert.KernelSwigluIdeal.Value.run_blocks m g
  · refine (θ_run Cert.ReferenceSwigluIdeal.defs _ _).mono (fun r h c => ?_) (Cert.ReferenceSwigluIdeal.Value.run m' g')
    obtain ⟨x, w, o, δ, R⟩ := reals m hpre c
    obtain ⟨q0, q1, q2, q3⟩ := hagree c
    obtain ⟨f0, f1, f2⟩ := final m c x w o δ R
      (StableHlo.launchContents m' c (Proc.devRef .tc Cert.ReferenceSwigluIdeal.main_arg0))
      (StableHlo.launchContents m' c (Proc.devRef .tc Cert.ReferenceSwigluIdeal.main_arg1))
      (StableHlo.launchContents m' c (Proc.devRef .tc Cert.ReferenceSwigluIdeal.main_arg2))
      (StableHlo.launchContents m' c (Proc.devRef .tc Cert.ReferenceSwigluIdeal.main_arg3)) q0 q1 q2 q3
    obtain ⟨r0, r1, r2, hargs⟩ := h c
    exact ⟨(r0.trans (val_main_v17_eq _ _ _ _)).trans f0,
      (r1.trans (val_main_v20_eq _ _ _ _)).trans f1,
      (r2.trans (val_main_v22_eq _ _ _)).trans f2, hargs⟩

end Cert.Swiglu

end
-- ==== Proof.Conv.Kernel.lean ====
module

public import proofs.«01_k».proof.Proof.Gen.KernelConvIdeal.Value
public import proofs.«01_k».proof.Proof.Lift

@[expose] public section

set_option maxRecDepth 16384

noncomputable section

/-! What one grid point of the convolution's backward call writes: for each channel of its block the two halves'
    gradients and the taps' gradients, as sums over the taps and over the rows. -/

namespace Cert.Conv

open Idealize.ShloMosaic Idealize.ShloMosaic.TcCoe Idealize.SL.Sem
open Idealize.ShloMosaic.Pipeline (Dat)
open Cert.KernelConvIdeal Cert.KernelConvIdeal.Gen Cert.Lift

/-- Row `n` of a channel that goes on with zeros. -/
def below (x : Fin 4096 → EReal) (n : ℕ) : EReal := if h : n < 4096 then x ⟨n, h⟩ else 0

/-- Row `n` of a channel that starts with `p` zeros. -/
def above (p : ℕ) (x : Fin 4096 → EReal) (n : ℕ) : EReal := if h : p ≤ n ∧ n < p + 4096 then x ⟨n - p, by omega⟩ else 0

/-- The logistic function, as the programs compute it. -/
def gate (x : EReal) : EReal := Ideal.div 1 (1 + Ideal.exp (0 - x))

/-- What the taps `w` gather at row `n` of a channel from the rows ahead. -/
def gather (x : Fin 4096 → EReal) (w : ℕ → EReal) (n : ℕ) : EReal := ∑ k ∈ Finset.range 31, w k * below x (30 - k + n)

/-- The gradients of one channel: its value half, its gate half, and row `k` of its taps and bias. -/
def dVal (x g : Fin 4096 → EReal) (w : ℕ → EReal) (n : Fin 4096) : EReal := gather x w n.val * gate (g n)
def dGate (x v g : Fin 4096 → EReal) (w : ℕ → EReal) (n : Fin 4096) : EReal := gather x w n.val * v n * gate (g n) * (1 - gate (g n))
def dTap (x v g : Fin 4096 → EReal) (k : ℕ) : EReal :=
  if k = 31 then ∑ n, x n else ∑ n, x n * above 32 (fun r => v r * gate (g r)) (2 + k + n.val)

/-- Channel `d` of a block, and its taps. -/
def col (X : Vec Ideal S4096x128 .f32) (d : Fin 128) (n : Fin 4096) : EReal := X (ix2 n d)
def tap (W : Vec Ideal S32x128 .f32) (d : Fin 128) (k : ℕ) : EReal := if h : k < 32 then W (ix2 ⟨k, h⟩ d) else 0

theorem row_fn (X : Vec Ideal S4096x128 .f32) (o : ℕ) (inb) :
    View.ld (Val := Elt Ideal) (e' := .f32) X (Rect.unit (s := S4096x128) ![o, 0] ![128, 128] inb) = fun x => below (col X (x 1)) (o + (x 0).val) := by
  funext x
  idx_vars x
  have hk : o + 128 ≤ 4096 := inb 0
  show _ = below (col X x1) (o + x0.val)
  rw [below, dif_pos (by omega)]
  exact View.ld_unit_apply_of X _ _ inb _ _ (Fin.forall_fin_two.mpr ⟨rfl, (Nat.zero_add _).symm⟩)

section scratch
variable {κ : Kind} {sp : Space} (b : View sig κ sp S4128x128 .f32)

/-- The rows read of the scratch that holds the output's gradient with zeros after it. -/
theorem below_fn (X : Vec Ideal S4096x128 .bf16) (h0 h1) (o : ℕ) (inb) :
    b.readCov (Val := Elt Ideal) (e := .f32) [⟨Rect.unit ![4096, 0] ![32, 128] h0, k0_pay9 (F := Ideal)⟩,
        ⟨Rect.unit ![0, 0] ![4096, 128] h1, k0_pay8 (F := Ideal) X⟩]
      (Rect.unit (s := S4128x128) ![o, 0] ![128, 128] inb).toLoadRect = fun x => below (col X (x 1)) (o + (x 0).val) := by
  funext x
  idx_vars x
  have hk : o + 128 ≤ 4128 := inb 0
  refine (row_cov _ _ inb ⟨o + x0.val, by omega⟩ x0 x1 rfl).trans ?_
  show _ = below (col X x1) (o + x0.val)
  rw [below]
  split
  case isTrue h =>
    rw [row_miss (R := 4128) (n := 128) (o := 4096) (r := 32) _ _ _ _ _ (.inl h),
      row_hit (R := 4128) (n := 128) (o := 0) (r := 4096) _ _ _ _ ⟨o + x0.val, h⟩ x1 (by simp only [Nat.zero_add])]
    pointwise [k0_pay8, k0_pay7, col]
  case isFalse h =>
    rw [row_hit (R := 4128) (n := 128) (o := 4096) (r := 32) _ _ _ _ ⟨o + x0.val - 4096, by omega⟩ x1 (by dsimp only; omega)]
    pointwise [k0_pay9]

/-- The rows read of the scratch that holds the gated values with zeros before them. -/
theorem above_fn (Y G : Vec Ideal S4096x128 .f32) (h0 h1) (o : ℕ) (inb) :
    b.readCov (Val := Elt Ideal) (e := .f32) [⟨Rect.unit ![32, 0] ![4096, 128] h0, k0_pay6 (F := Ideal) Y G⟩,
        ⟨Rect.unit ![0, 0] ![32, 128] h1, k0_pay5 (F := Ideal)⟩]
      (Rect.unit (s := S4128x128) ![o, 0] ![4096, 128] inb).toLoadRect
      = fun x => above 32 (fun r => col Y (x 1) r * gate (col G (x 1) r)) (o + (x 0).val) := by
  funext x
  idx_vars x
  have hk : o + 4096 ≤ 4128 := inb 0
  refine (row_cov _ _ inb ⟨o + x0.val, by omega⟩ x0 x1 rfl).trans ?_
  show _ = above 32 (fun r => col Y x1 r * gate (col G x1 r)) (o + x0.val)
  rw [above]
  split
  case isTrue h =>
    rw [row_hit (R := 4128) (n := 128) (o := 32) (r := 4096) _ _ _ _ ⟨o + x0.val - 32, by omega⟩ x1 (by dsimp only; omega)]
    pointwise [k0_pay6, col, gate]
  case isFalse h =>
    rw [row_miss (R := 4128) (n := 128) (o := 32) (r := 4096) _ _ _ _ _ (.inl (by dsimp only; omega)),
      row_hit (R := 4128) (n := 128) (o := 0) (r := 32) _ _ _ _ ⟨o + x0.val, by omega⟩ x1 (by simp only [Nat.zero_add])]
    pointwise [k0_pay5]

end scratch

variable (m : (ℓ : Loc nD τ sig) → Buf (Elt Ideal) ℓ) (c : Dev nD) (t : Fin cfg0.N)

theorem below_val (x : Fin 4096 → EReal) (n : Fin 4096) : below x n.val = x n := dif_pos n.isLt

set_option maxHeartbeats 2000000 in
theorem val_at (y : S4096x128.Idx) : (outsAt0 (F := Ideal) m c t).1 y
    = dVal (col (iblk m c 2 t) (y 1)) (col (iblk m c 1 t) (y 1)) (tap (iblk m c 3 t) (y 1)) (y 0) := by
  unfold outsAt0 dVal
  rw [← below_val (col (iblk m c 1 t) (y 1)) (y 0)]
  frame_out
  canon_tiles x h
  all_goals
    have hd : y 1 = x 1 := Fin.ext h1
    rw [h0, hd]
    simp only [below_fn, row_fn]
    open_payloads
    pointwise
    simp only [gather, gate, tap, Finset.sum_range_succ, Finset.sum_range_zero, zero_add, Nat.reduceSub, ← Nat.add_assoc, Nat.reduceAdd, Nat.reduceLT, dif_pos]
    rfl

set_option maxHeartbeats 2000000 in
theorem gate_at (y : S4096x128.Idx) : (outsAt0 (F := Ideal) m c t).2.1 y
    = dGate (col (iblk m c 2 t) (y 1)) (col (iblk m c 0 t) (y 1)) (col (iblk m c 1 t) (y 1)) (tap (iblk m c 3 t) (y 1)) (y 0) := by
  unfold outsAt0 dGate
  rw [← below_val (col (iblk m c 1 t) (y 1)) (y 0), ← below_val (col (iblk m c 0 t) (y 1)) (y 0)]
  frame_out
  canon_tiles x h
  all_goals
    have hd : y 1 = x 1 := Fin.ext h1
    rw [h0, hd]
    simp only [below_fn, row_fn]
    open_payloads
    pointwise
    simp only [gather, gate, tap, Finset.sum_range_succ, Finset.sum_range_zero, zero_add, Nat.reduceSub, ← Nat.add_assoc, Nat.reduceAdd, Nat.reduceLT, dif_pos]
    rfl

set_option maxHeartbeats 2000000 in
theorem tap_at (y : S32x128.Idx) : (outsAt0 (F := Ideal) m c t).2.2 y
    = dTap (col (iblk m c 2 t) (y 1)) (col (iblk m c 0 t) (y 1)) (col (iblk m c 1 t) (y 1)) (y 0).val := by
  unfold outsAt0 dTap
  frame_out
  canon_tiles x h
  all_goals
    have hd : y 1 = x 1 := Fin.ext h1
    have hk : (x 0).val = 0 := Nat.lt_one_iff.mp x0_lt
    rw [h0, hd, hk]
    try simp only [above_fn]
    generalize above 32 = A
    simp only [Nat.add_zero, Nat.reduceAdd, Nat.reduceEqDiff, reduceIte]
    open_payloads
    pointwise
    rfl

end Cert.Conv
-- ==== Proof.Conv.Ref.lean ====
module

public import proofs.«01_k».proof.Proof.Gen.ReferenceConvIdeal.Read
public import proofs.«01_k».proof.Proof.Conv.Kernel

@[expose] public section

set_option maxRecDepth 16384

noncomputable section

/-! The reference's three gradients at an entry, as the same sums over the taps and the rows. -/

namespace Cert.Conv

open Idealize.ShloMosaic Idealize.ShloMosaic.TcCoe Idealize.SL.Sem
open Cert.ReferenceConvIdeal Cert.ReferenceConvIdeal.Read Cert.Lift

/-- Channel `j` of the output's gradient, of the value half and of the gate half, and its taps. -/
def dcol (D : FVec Ideal S4096x512 .f32) (j : Fin 512) (n : Fin 4096) : EReal := D (ix2 n j)
def vcol (P : FVec Ideal S4096x2048 .f32) (j : Fin 512) (n : Fin 4096) : EReal := P (ix2 n ⟨j.val, by omega⟩)
def gcol (P : FVec Ideal S4096x2048 .f32) (j : Fin 512) (n : Fin 4096) : EReal := P (ix2 n ⟨512 + j.val, by omega⟩)
def wtap (W : FVec Ideal S31x512 .f32) (j : Fin 512) (k : ℕ) : EReal := if h : k < 31 then W (ix2 ⟨k, h⟩ j) else 0

theorem gate_neg (x : EReal) : gate x = Ideal.div 1 (1 + Ideal.exp (-x)) := by rw [gate, zero_sub]

theorem below_mul (a : EReal) (x : Fin 4096 → EReal) (n : ℕ) : below (fun r => a * x r) n = a * below x n := by
  unfold below
  split
  · rfl
  · rw [mul_zero]

/-- An array moved `l` rows down among zeros, read from row 30 on. -/
theorem pad_at (X : FVec Ideal S4096x512 .f32) (z : FVec Ideal S_ .f32) (l h : ℕ) (hp) (hu) (hl : l ≤ 30) (hz : ∀ i, z i = 0) (n : Fin 4096) (j : Fin 512) :
    pad S4126x512 ![l, 0] ![h, 0] ![0, 0] X z hp hu (ix2 ⟨30 + n.val, by omega⟩ j) = below (fun r => X (ix2 r j)) (30 - l + n.val) := by
  have hs : 30 - l + n.val = 30 + n.val - l := by omega
  rw [hs, pad_apply, below]
  split
  case isTrue hin =>
    have h0 := (hin 0).2.2
    simp only [Matrix.cons_val_zero, Nat.zero_add, Nat.div_one] at h0
    rw [dif_pos (show 30 + n.val - l < 4096 from h0)]
    refine congrArg X (funext (Fin.forall_fin_two.mpr ⟨Fin.ext ?_, Fin.ext ?_⟩))
    · show (30 + n.val - l) / (0 + 1) = 30 + n.val - l
      simp
    · show (j.val - 0) / (0 + 1) = j.val
      simp
  case isFalse hin =>
    rw [dif_neg, hz]
    refine fun h0 => hin (Fin.forall_fin_two.mpr ⟨⟨?_, ?_, ?_⟩, ⟨?_, ?_, ?_⟩⟩)
    · show l ≤ 30 + n.val
      omega
    · show (30 + n.val - l) % (0 + 1) = 0
      omega
    · show (30 + n.val - l) / (0 + 1) < 4096
      omega
    · show 0 ≤ j.val
      omega
    · show (j.val - 0) % (0 + 1) = 0
      omega
    · show (j.val - 0) / (0 + 1) < 512
      have := j.isLt
      omega

theorem pad_zero (X : FVec Ideal S4096x512 .f32) (l h : ℕ) (hp) (hu) (hl : l ≤ 30) (n : Fin 4096) (hn) (j : Fin 512) :
    pad S4126x512 ![l, 0] ![h, 0] ![0, 0] X (constant (F := Ideal) S_ .f32 0#32) hp hu (ix2 ⟨30 + n.val, hn⟩ j) = below (fun r => X (ix2 r j)) (30 - l + n.val) :=
  pad_at X _ l h hp hu hl (fun _ => Ideal.ofBits_zero_f32) n j

variable (P : FVec Ideal S4096x2048 .f32) (W : FVec Ideal S31x512 .f32) (D : FVec Ideal S4096x512 .f32)

/-- What the rows of the convolution's input receive: a sum over the taps. -/
theorem ref_gather (n : Fin 4096) (j : Fin 512) : val_main_v222 (F := Ideal) W D (ix2 n j) = gather (dcol D j) (wtap W j) n.val := by
  unfold gather
  rw [← Finset.sum_range_reflect]
  pointwise [val_main_v162, val_main_v164, val_main_v166, val_main_v168, val_main_v170, val_main_v172, val_main_v174, val_main_v176, val_main_v178, val_main_v180, val_main_v182, val_main_v184, val_main_v186, val_main_v188, val_main_v190, val_main_v192, val_main_v194, val_main_v196, val_main_v198, val_main_v200, val_main_v202, val_main_v204, val_main_v206, val_main_v208, val_main_v210, val_main_v212, val_main_v214, val_main_v216, val_main_v218, val_main_v220, val_main_v222]
  simp only [val_main_v160, val_main_v161, val_main_v163, val_main_v165, val_main_v167, val_main_v169, val_main_v171, val_main_v173, val_main_v175, val_main_v177, val_main_v179, val_main_v181, val_main_v183, val_main_v185, val_main_v187, val_main_v189, val_main_v191, val_main_v193, val_main_v195, val_main_v197, val_main_v199, val_main_v201, val_main_v203, val_main_v205, val_main_v207, val_main_v209, val_main_v211, val_main_v213, val_main_v215, val_main_v217, val_main_v219, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39]
  simp only [pad_zero, Nat.reduceLeDiff]
  pointwise [val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v93, val_main_v92, val_main_v91, val_main_v80, val_main_v87, val_main_v86]
  simp only [below_mul, Finset.sum_range_succ, Finset.sum_range_zero, zero_add, Nat.reduceSub, wtap, Nat.reduceLT, dif_pos]
  rfl

theorem up_at (a : Fin 4126) (j : Fin 512) : val_main_v13 (F := Ideal) P (ix2 a j) = above 30 (fun r => vcol P j r * gate (gcol P j r)) a.val := by
  have hg (r : Fin 4096) : val_main_v11 (F := Ideal) P (ix2 r j) = vcol P j r * gate (gcol P j r) := by
    rw [gate_neg]
    pointwise [val_main_v11, val_main_v0, val_main_v7, val_main_v6, val_main_cst_0, val_main_v5, val_main_v4, val_main_cst, val_main_v3, val_main_v2, val_main_v1, vcol, gcol]
  pointwise [val_main_v13, val_main_v12, val_main_cst_2, hg]
  unfold above
  by_cases h : a.val < 30
  · rw [dif_pos h, dif_neg (by omega)]
  · rw [dif_neg h, dif_pos (by omega)]

theorem shifted_at (k : Fin 31) (n : Fin 4096) (j : Fin 512) :
    val_main_v79 (F := Ideal) P (ix3 k n j) = above 30 (fun r => vcol P j r * gate (gcol P j r)) (k.val + n.val) := by
  rw [show k.val + n.val = (⟨k.val + n.val, by omega⟩ : Fin 4126).val from rfl, ← up_at]
  generalize hX : val_main_v13 (F := Ideal) P = X
  obtain ⟨k, hk⟩ := k
  interval_cases k <;> pointwise [val_main_v79, val_main_v77, val_main_v78, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, hX]

theorem above_add (x : Fin 4096 → EReal) (a : ℕ) : above 32 x (2 + a) = above 30 x a := by
  unfold above
  by_cases h : 30 ≤ a ∧ a < 30 + 4096
  · rw [dif_pos h, dif_pos (by omega)]
    exact congrArg x (Fin.ext (by dsimp only; omega))
  · rw [dif_neg h, dif_neg (by omega)]

theorem ref_val (n : Fin 4096) (j : Fin 512) : val_main_v226 (F := Ideal) P W D (ix2 n j) = dVal (dcol D j) (gcol P j) (wtap W j) n := by
  rw [dVal, gate_neg]
  pointwise [val_main_v226, val_main_v224, ref_gather, val_main_v7, val_main_v6, val_main_cst_0, val_main_v5, val_main_v4, val_main_cst, val_main_v3, val_main_v2, val_main_v1, gcol]

theorem ref_gate (n : Fin 4096) (j : Fin 512) :
    val_main_v227 (F := Ideal) P W D (ix2 n j) = dGate (dcol D j) (vcol P j) (gcol P j) (wtap W j) n := by
  rw [dGate, gate_neg, mul_comm (gather _ _ _), mul_assoc (vcol P j n * _)]
  pointwise [val_main_v227, val_main_v225, val_main_v223, ref_gather, val_main_v0, val_main_v10, val_main_v9, val_main_v8, val_main_cst_1, val_main_v7, val_main_v6, val_main_cst_0, val_main_v5, val_main_v4, val_main_cst, val_main_v3, val_main_v2, val_main_v1, vcol, gcol]

theorem ref_tap (k : Fin 32) (j : Fin 512) : val_main_v229 (F := Ideal) P D (ix2 k j) = dTap (dcol D j) (vcol P j) (gcol P j) k.val := by
  unfold dTap
  by_cases h : k.val = 31
  · rw [if_pos h]
    pointwise [val_main_v229, val_main_v228, val_main_v90, val_main_v89, val_main_v88, val_main_cst_6, val_main_cst_5]
    rw [dif_neg (by omega)]
    exact Fin.sum_univ_one _
  · rw [if_neg h]
    have hk : k.val < 31 := by omega
    simp only [Nat.add_assoc, above_add]
    have hs (n : Fin 4096) := shifted_at P ⟨k.val, hk⟩ n j
    simp only [← hs]
    pointwise [val_main_v229, val_main_v97, val_main_cst_8, val_main_v96, val_main_v95, val_main_cst_7, val_main_v94, val_main_v91, val_main_v87]
    rw [dif_pos hk]
    exact Fin.sum_univ_one _

end Cert.Conv
-- ==== Proof.Conv.Final.lean ====
module

public import proofs.«01_k».proof.Proof.Conv.Ref

@[expose] public section

set_option maxRecDepth 16384

noncomputable section

/-! The kernel's three final arrays are the reference's: block by block, channel by channel. -/

namespace Cert.Conv

open Idealize.ShloMosaic Idealize.ShloMosaic.TcCoe Idealize.SL.Sem
open Idealize.ShloMosaic.Pipeline (Dat)
open Cert.KernelConvIdeal Cert.KernelConvIdeal.Gen
open Cert.ReferenceConvIdeal.Read Cert.Lift

variable (m : (ℓ : Loc nD τ sig) → Buf (Elt Ideal) ℓ)

theorem idx : ∀ t : Fin cfg0.N, win0_0.index t = ![0, t.val] ∧ win0_1.index t = ![0, 4 + t.val] ∧ win0_2.index t = ![0, t.val] ∧ win0_3.index t = ![0, t.val] ∧ win0_4.index t = ![0, t.val]
    ∧ win0_5.index t = ![0, t.val] ∧ win0_6.index t = ![0, t.val] := (by decide +kernel : ∀ t : Fin grid0.N, _)

/-- The arguments of the run, by name. -/
def aP (c : Dev nD) : FVec Ideal S4096x2048 .f32 := m ((c : Thread nD τ).loc main_arg0)
def aW (c : Dev nD) : FVec Ideal S31x512 .f32 := m ((c : Thread nD τ).loc main_arg1)
def aD (c : Dev nD) : FVec Ideal S4096x512 .f32 := m ((c : Thread nD τ).loc main_arg3)

theorem cw_at (c : Dev nD) (k : ℕ) (hk : k < 31) (j : Fin 512) : V (F := Ideal) m c main_v1 (ix2 ⟨k, by omega⟩ j) = aW m c (ix2 ⟨k, hk⟩ j) := by
  have h : V (F := Ideal) m c main_v1 = concatenate S32x512 0 [⟨S31x512, aW m c⟩, ⟨S1x512, V (F := Ideal) m c main_v0⟩] concatenates_S31x512_S1x512_S32x512_d0 := by
    unfold V hostOps0
    simp only [StableHlo.after_cons, StableHlo.after_nil]
    rfl
  rw [h]
  pointwise
  exact dif_pos hk

section blocks
variable (c : Dev nD) (t : Fin cfg0.N) (d : Fin 128) (j : Fin 512) (hj : j.val = t.val * 128 + d.val)
include hj

theorem col_val : col (iblk (F := Ideal) m c 0 t) d = vcol (aP m c) j := by
  funext n
  unfold col vcol aP
  blk_point [iblk, V, idx t]

theorem col_gate : col (iblk (F := Ideal) m c 1 t) d = gcol (aP m c) j := by
  funext n
  unfold col gcol aP
  blk_point [iblk, V, idx t]

theorem col_out : col (iblk (F := Ideal) m c 2 t) d = dcol (aD m c) j := by
  funext n
  unfold col dcol aD
  blk_point [iblk, V, idx t]

theorem tap_block (k : ℕ) (hk : k < 31) : tap (iblk (F := Ideal) m c 3 t) d k = wtap (aW m c) j k := by
  rw [tap, wtap, dif_pos (by omega), dif_pos hk]
  blk_simp [iblk]
  have he : ((View.whole main_v1).slice (win0_3.rect t)).emb (ix2 ⟨k, by omega⟩ d) = ix2 ⟨k, by omega⟩ j := by blk_ext [idx t]
  rw [he]
  exact cw_at m c k hk j

end blocks

theorem gather_congr (x : Fin 4096 → EReal) (w w' : ℕ → EReal) (n : ℕ) (h : ∀ k < 31, w k = w' k) : gather x w n = gather x w' n :=
  Finset.sum_congr rfl fun k hk => by rw [h k (Finset.mem_range.mp hk)]

theorem val_final (c : Dev nD) : (dats (F := Ideal) m 0 c).arrAt 4 cfg0.N = val_main_v226 (F := Ideal) (aP m c) (aW m c) (aD m c) := by
  refine (dats (F := Ideal) m 0 c).arrAt_eq_of_covers 4 _ (by decide +kernel) fun t _ y => ?_
  blk_simp
  rw [after0_4, val_at]
  have ht : t.val < 4 := lt_of_lt_of_eq t.isLt N_0
  idx_vars y
  have hj : (⟨t.val * 128 + y1.val, by omega⟩ : Fin 512).val = t.val * 128 + y1.val := rfl
  generalize (⟨t.val * 128 + y1.val, by omega⟩ : Fin 512) = j at hj
  have he : ((View.whole main_v3_0).slice (win0_4.rect t)).emb (ix2 y0 y1) = ix2 y0 j := by blk_ext [idx t]
  rw [he, ref_val]
  show dVal (col _ y1) (col _ y1) (tap _ y1) y0 = _
  simp only [dVal, gather_congr _ _ _ _ (tap_block m c t y1 j hj), col_out m c t y1 j hj, col_gate m c t y1 j hj]

theorem gate_final (c : Dev nD) : (dats (F := Ideal) m 0 c).arrAt 5 cfg0.N = val_main_v227 (F := Ideal) (aP m c) (aW m c) (aD m c) := by
  refine (dats (F := Ideal) m 0 c).arrAt_eq_of_covers 5 _ (by decide +kernel) fun t _ y => ?_
  blk_simp
  rw [after0_5, gate_at]
  have ht : t.val < 4 := lt_of_lt_of_eq t.isLt N_0
  idx_vars y
  have hj : (⟨t.val * 128 + y1.val, by omega⟩ : Fin 512).val = t.val * 128 + y1.val := rfl
  generalize (⟨t.val * 128 + y1.val, by omega⟩ : Fin 512) = j at hj
  have he : ((View.whole main_v3_1).slice (win0_5.rect t)).emb (ix2 y0 y1) = ix2 y0 j := by blk_ext [idx t]
  rw [he, ref_gate]
  show dGate (col _ y1) (col _ y1) (col _ y1) (tap _ y1) y0 = _
  simp only [dGate, gather_congr _ _ _ _ (tap_block m c t y1 j hj), col_out m c t y1 j hj, col_gate m c t y1 j hj, col_val m c t y1 j hj]

theorem tap_final (c : Dev nD) : (dats (F := Ideal) m 0 c).arrAt 6 cfg0.N = val_main_v229 (F := Ideal) (aP m c) (aD m c) := by
  refine (dats (F := Ideal) m 0 c).arrAt_eq_of_covers 6 _ (by decide +kernel) fun t _ y => ?_
  blk_simp
  rw [after0_6, tap_at]
  have ht : t.val < 4 := lt_of_lt_of_eq t.isLt N_0
  idx_vars y
  have hj : (⟨t.val * 128 + y1.val, by omega⟩ : Fin 512).val = t.val * 128 + y1.val := rfl
  generalize (⟨t.val * 128 + y1.val, by omega⟩ : Fin 512) = j at hj
  have he : ((View.whole main_v3_2).slice (win0_6.rect t)).emb (ix2 y0 y1) = ix2 y0 j := by blk_ext [idx t]
  rw [he, ref_tap]
  show dTap (col _ y1) (col _ y1) (col _ y1) y0.val = _
  rw [col_out m c t y1 j hj, col_gate m c t y1 j hj, col_val m c t y1 j hj]

end Cert.Conv
-- ==== Proof.Conv.Claim.lean ====
/- The backward of the causal depthwise convolution over 31 steps with its sigmoid gate: the kernel computes the
   derivative by the gated signal, by the gate, and by the taps and the bias, on all arguments. -/
module

public import proofs.«01_k».proof.Defs
public import proofs.«01_k».proof.Proof.Conv.Final
public import proofs.«01_k».proof.Proof.Gen.ReferenceConvIdeal.Run

@[expose] public section

set_option maxRecDepth 16384

noncomputable section

namespace Cert.Conv

open Idealize.ShloMosaic Idealize.ShloMosaic.TcCoe Idealize.SL.Sem Cert.KernelConvIdeal

theorem ref_frame : Cert.quiescent_ReferenceConvIdeal := fun m ρ _ =>
  (θ_run Cert.ReferenceConvIdeal.defs _ _).mono (fun r h => ⟨fun c => (h c).2.2.2, sem_eq_zero_of_no_sems (by decide) r.2⟩)
    (Cert.ReferenceConvIdeal.Value.run m ρ)

theorem algebraic : Cert.algebraic_KernelConvIdeal_ReferenceConvIdeal := by
  pair_intro
  · run_from Cert.KernelConvIdeal.Value.run_blocks m g
  · refine (θ_run Cert.ReferenceConvIdeal.defs _ _).mono (fun r h c => ?_) (Cert.ReferenceConvIdeal.Value.run m' g')
    obtain ⟨q0, q1, q2, q3⟩ := hagree c
    obtain ⟨hA, hB, hC, hargs⟩ := h c
    have e0 : StableHlo.launchContents m' c (Proc.devRef .tc Cert.ReferenceConvIdeal.main_arg0) = aP m c := q0
    have e1 : StableHlo.launchContents m' c (Proc.devRef .tc Cert.ReferenceConvIdeal.main_arg1) = aW m c := q1
    have e3 : StableHlo.launchContents m' c (Proc.devRef .tc Cert.ReferenceConvIdeal.main_arg3) = aD m c := q3
    rw [Cert.ReferenceConvIdeal.Read.val_main_v226_eq, e0, e1, e3] at hA
    rw [Cert.ReferenceConvIdeal.Read.val_main_v227_eq, e0, e1, e3] at hB
    rw [Cert.ReferenceConvIdeal.Read.val_main_v229_eq, e0, e3] at hC
    exact ⟨hA.trans (val_final m c).symm, hB.trans (gate_final m c).symm, hC.trans (tap_final m c).symm, hargs⟩

end Cert.Conv

end
-- ==== Proof.lean ====
module

public import proofs.«01_k».proof.Proof.Gen.KernelConvIdeal.Value
public import proofs.«01_k».proof.Proof.Gen.ReferenceConvIdeal.Run
public import proofs.«01_k».proof.Proof.Gen.ReferenceConvIdeal.Read
public import proofs.«01_k».proof.Defs
public import proofs.«01_k».proof.Proof.Gen.KernelConv.Frame
public import proofs.«01_k».proof.Proof.Gen.ReferenceConvIdeal
public import proofs.«01_k».proof.Proof.Gen.KernelFfnIn
public import proofs.«01_k».proof.Proof.Gen.KernelFfnIn.Skeleton
public import proofs.«01_k».proof.Proof.Gen.KernelFfnIn.Launch
public import proofs.«01_k».proof.Proof.Gen.KernelFfnIn.Points
public import proofs.«01_k».proof.Proof.Gen.KernelFfnIn.Frame
public import proofs.«01_k».proof.Proof.Gen.KernelFfnInIdeal
public import proofs.«01_k».proof.Proof.Gen.KernelFfnInIdeal.Skeleton
public import proofs.«01_k».proof.Proof.Gen.KernelFfnInIdeal.Launch
public import proofs.«01_k».proof.Proof.Gen.KernelFfnInIdeal.Points
public import proofs.«01_k».proof.Proof.Gen.KernelFfnInIdeal.Frame
public import proofs.«01_k».proof.Proof.Gen.ReferenceFfnInIdeal
public import proofs.«01_k».proof.Proof.Gen.Pre_ffn_in_finite
public import proofs.«01_k».proof.Proof.Gen.KernelFfnInIdeal.Value
public import proofs.«01_k».proof.Proof.Gen.ReferenceFfnInIdeal.Run
public import proofs.«01_k».proof.Proof.Gen.ReferenceFfnInIdeal.Read
public import proofs.«01_k».proof.Proof.Gen.KernelMixOutIdeal.Value
public import proofs.«01_k».proof.Proof.Gen.ReferenceMixOutIdeal.Run
public import proofs.«01_k».proof.Proof.Gen.ReferenceMixOutIdeal.Read
public import proofs.«01_k».proof.Proof.Gen.KernelMixOut.Frame
public import proofs.«01_k».proof.Proof.Gen.ReferenceMixOutIdeal
public import proofs.«01_k».proof.Proof.Gen.Pre_mixout_finite
public import proofs.«01_k».proof.Proof.FfnIn.Claim
public import proofs.«01_k».proof.Proof.MixOut.Claim
public import proofs.«01_k».proof.Proof.Gen.KernelTableSumIdeal.Value
public import proofs.«01_k».proof.Proof.Gen.ReferenceTableSumIdeal.Run
public import proofs.«01_k».proof.Proof.Gen.ReferenceTableSumIdeal.Read
public import proofs.«01_k».proof.Proof.Gen.KernelTableSum.Frame
public import proofs.«01_k».proof.Proof.Gen.ReferenceTableSumIdeal
public import proofs.«01_k».proof.Proof.TableSum.Claim
public import proofs.«01_k».proof.Proof.Gen.KernelModUpdateIdeal.Value
public import proofs.«01_k».proof.Proof.Gen.ReferenceModUpdateIdeal.Run
public import proofs.«01_k».proof.Proof.Gen.ReferenceModUpdateIdeal.Read
public import proofs.«01_k».proof.Proof.Gen.KernelModUpdate.Frame
public import proofs.«01_k».proof.Proof.Gen.ReferenceModUpdateIdeal
public import proofs.«01_k».proof.Proof.ModUpdate.Claim
public import proofs.«01_k».proof.Proof.Gen.KernelRnnBwdIdeal.Frame
public import proofs.«01_k».proof.Proof.Gen.KernelRnnBwdIdeal.Value
public import proofs.«01_k».proof.Proof.Gen.Pre_rnn_back_far
public import proofs.«01_k».proof.Proof.Gen.ReferenceRnnBwdIdeal.Run
public import proofs.«01_k».proof.Proof.Gen.ReferenceRnnBwdIdeal.Read
public import proofs.«01_k».proof.Proof.Gen.KernelRnnBwd.Frame
public import proofs.«01_k».proof.Proof.Gen.ReferenceRnnBwdIdeal
public import proofs.«01_k».proof.Proof.RnnBwd.Claim
public import proofs.«01_k».proof.Proof.Gen.KernelRnnFwdIdeal.Value
public import proofs.«01_k».proof.Proof.Gen.ReferenceRnnFwdIdeal.Run
public import proofs.«01_k».proof.Proof.Gen.ReferenceRnnFwdIdeal.Read
public import proofs.«01_k».proof.Proof.Gen.KernelRnnFwd.Frame
public import proofs.«01_k».proof.Proof.Gen.ReferenceRnnFwdIdeal
public import proofs.«01_k».proof.Proof.Gen.Pre_rnn_far
public import proofs.«01_k».proof.Proof.RnnFwd.Claim
public import proofs.«01_k».proof.Proof.Gen.KernelMixOutFwdIdeal.Value
public import proofs.«01_k».proof.Proof.Gen.ReferenceMixOutFwdIdeal.Run
public import proofs.«01_k».proof.Proof.Gen.ReferenceMixOutFwdIdeal.Read
public import proofs.«01_k».proof.Proof.Gen.KernelMixOutFwd.Frame
public import proofs.«01_k».proof.Proof.Gen.ReferenceMixOutFwdIdeal
public import proofs.«01_k».proof.Proof.MixOutFwd.Claim
public import proofs.«01_k».proof.Proof.Gen.KernelConvFwdIdeal.Value
public import proofs.«01_k».proof.Proof.Gen.ReferenceConvFwdIdeal.Run
public import proofs.«01_k».proof.Proof.Gen.ReferenceConvFwdIdeal.Read
public import proofs.«01_k».proof.Proof.Gen.KernelConvFwd.Frame
public import proofs.«01_k».proof.Proof.Gen.ReferenceConvFwdIdeal
public import proofs.«01_k».proof.Proof.ConvFwd.Claim
public import proofs.«01_k».proof.Proof.Gen.KernelMixInFwdIdeal.Value
public import proofs.«01_k».proof.Proof.Gen.ReferenceMixInFwdIdeal.Run
public import proofs.«01_k».proof.Proof.Gen.ReferenceMixInFwdIdeal.Read
public import proofs.«01_k».proof.Proof.Gen.KernelMixInFwd.Frame
public import proofs.«01_k».proof.Proof.Gen.ReferenceMixInFwdIdeal
public import proofs.«01_k».proof.Proof.MixInFwd.Claim
public import proofs.«01_k».proof.Proof.Gen.KernelMixInIdeal.Value
public import proofs.«01_k».proof.Proof.Gen.ReferenceMixInIdeal.Run
public import proofs.«01_k».proof.Proof.Gen.ReferenceMixInIdeal.Read
public import proofs.«01_k».proof.Proof.Gen.KernelMixIn.Frame
public import proofs.«01_k».proof.Proof.Gen.ReferenceMixInIdeal
public import proofs.«01_k».proof.Proof.Gen.Pre_mixin_finite
public import proofs.«01_k».proof.Proof.MixIn.Claim
public import proofs.«01_k».proof.Proof.Gen.KernelSwigluIdeal.Value
public import proofs.«01_k».proof.Proof.Gen.ReferenceSwigluIdeal.Run
public import proofs.«01_k».proof.Proof.Gen.ReferenceSwigluIdeal.Read
public import proofs.«01_k».proof.Proof.Gen.KernelSwiglu.Frame
public import proofs.«01_k».proof.Proof.Gen.ReferenceSwigluIdeal
public import proofs.«01_k».proof.Proof.Gen.Pre_swiglu_finite
public import proofs.«01_k».proof.Proof.Swiglu.Claim
public import proofs.«01_k».proof.Proof.Conv.Claim
public import Idealize.ShloMosaic.Adequacy
public import Idealize.ShloMosaic.Init

@[expose] public section

noncomputable section

namespace Cert.Proof

open Idealize.ShloMosaic Idealize.SL.Sem Cert.KernelFfnIn

theorem claim : Cert.Claim := ⟨Cert.KernelFfnIn.Gen.facts, Cert.KernelFfnInIdeal.Gen.facts, Cert.ReferenceFfnInIdeal.Gen.facts,
  Cert.KernelConv.Gen.facts, Cert.KernelConvIdeal.Gen.facts, Cert.ReferenceConvIdeal.Gen.facts,
  Cert.KernelMixOut.Gen.facts, Cert.KernelMixOutIdeal.Gen.facts, Cert.ReferenceMixOutIdeal.Gen.facts,
  Cert.KernelSwiglu.Gen.facts, Cert.KernelSwigluIdeal.Gen.facts, Cert.ReferenceSwigluIdeal.Gen.facts,
  Cert.KernelMixIn.Gen.facts, Cert.KernelMixInIdeal.Gen.facts, Cert.ReferenceMixInIdeal.Gen.facts,
  Cert.KernelMixInFwd.Gen.facts, Cert.KernelMixInFwdIdeal.Gen.facts, Cert.ReferenceMixInFwdIdeal.Gen.facts,
  Cert.KernelConvFwd.Gen.facts, Cert.KernelConvFwdIdeal.Gen.facts, Cert.ReferenceConvFwdIdeal.Gen.facts,
  Cert.KernelMixOutFwd.Gen.facts, Cert.KernelMixOutFwdIdeal.Gen.facts, Cert.ReferenceMixOutFwdIdeal.Gen.facts,
  Cert.KernelRnnFwd.Gen.facts, Cert.KernelRnnFwdIdeal.Gen.facts, Cert.ReferenceRnnFwdIdeal.Gen.facts,
  Cert.KernelRnnBwd.Gen.facts, Cert.KernelRnnBwdIdeal.Gen.facts, Cert.ReferenceRnnBwdIdeal.Gen.facts,
  Cert.KernelModUpdate.Gen.facts, Cert.KernelModUpdateIdeal.Gen.facts, Cert.ReferenceModUpdateIdeal.Gen.facts,
  Cert.KernelTableSum.Gen.facts, Cert.KernelTableSumIdeal.Gen.facts, Cert.ReferenceTableSumIdeal.Gen.facts, Cert.Pre_ffn_in_finite.Gen.facts, Cert.Pre_mixout_finite.Gen.facts, Cert.Pre_swiglu_finite.Gen.facts, Cert.Pre_mixin_finite.Gen.facts, Cert.Pre_rnn_far.Gen.facts, Cert.Pre_rnn_back_far.Gen.facts,
  fun m ρ _ => Cert.KernelFfnIn.Gen.frame m ρ,
  fun m ρ _ => Cert.KernelFfnInIdeal.Gen.frame m ρ,
  fun m ρ _ => Cert.KernelFfnInIdeal.Gen.frame m ρ,
  Cert.FfnIn.ref_frame,
  fun m ρ _ => Cert.FfnIn.ref_frame m ρ trivial,
  fun m ρ _ => Cert.KernelConv.Gen.frame m ρ,
  fun m ρ _ => Cert.KernelConvIdeal.Gen.frame m ρ,
  Cert.Conv.ref_frame,
  fun m ρ _ => Cert.KernelMixOut.Gen.frame m ρ,
  fun m ρ _ => Cert.KernelMixOutIdeal.Gen.frame m ρ,
  fun m ρ _ => Cert.KernelMixOutIdeal.Gen.frame m ρ,
  Cert.MixOut.ref_frame,
  fun m ρ _ => Cert.MixOut.ref_frame m ρ trivial,
  fun m ρ _ => Cert.KernelSwiglu.Gen.frame m ρ,
  fun m ρ _ => Cert.KernelSwigluIdeal.Gen.frame m ρ,
  fun m ρ _ => Cert.KernelSwigluIdeal.Gen.frame m ρ,
  Cert.Swiglu.ref_frame,
  fun m ρ _ => Cert.Swiglu.ref_frame m ρ trivial,
  fun m ρ _ => Cert.KernelMixIn.Gen.frame m ρ,
  fun m ρ _ => Cert.KernelMixInIdeal.Gen.frame m ρ,
  fun m ρ _ => Cert.KernelMixInIdeal.Gen.frame m ρ,
  Cert.MixIn.ref_frame,
  fun m ρ _ => Cert.MixIn.ref_frame m ρ trivial,
  fun m ρ _ => Cert.KernelMixInFwd.Gen.frame m ρ,
  fun m ρ _ => Cert.KernelMixInFwdIdeal.Gen.frame m ρ,
  Cert.MixInFwd.ref_frame,
  fun m ρ _ => Cert.KernelConvFwd.Gen.frame m ρ,
  fun m ρ _ => Cert.KernelConvFwdIdeal.Gen.frame m ρ,
  Cert.ConvFwd.ref_frame,
  fun m ρ _ => Cert.KernelMixOutFwd.Gen.frame m ρ,
  fun m ρ _ => Cert.KernelMixOutFwdIdeal.Gen.frame m ρ,
  Cert.MixOutFwd.ref_frame,
  fun m ρ _ => Cert.KernelRnnFwd.Gen.frame m ρ,
  fun m ρ _ => Cert.KernelRnnFwdIdeal.Gen.frame m ρ,
  fun m ρ _ => Cert.KernelRnnFwdIdeal.Gen.frame m ρ,
  Cert.RnnFwd.ref_frame,
  fun m ρ _ => Cert.RnnFwd.ref_frame m ρ trivial,
  fun m ρ _ => Cert.KernelRnnBwd.Gen.frame m ρ,
  fun m ρ _ => Cert.KernelRnnBwdIdeal.Gen.frame m ρ,
  fun m ρ _ => Cert.KernelRnnBwdIdeal.Gen.frame m ρ,
  Cert.RnnBwd.ref_frame,
  fun m ρ _ => Cert.RnnBwd.ref_frame m ρ trivial,
  fun m ρ _ => Cert.KernelModUpdate.Gen.frame m ρ,
  fun m ρ _ => Cert.KernelModUpdateIdeal.Gen.frame m ρ,
  Cert.ModUpdate.ref_frame,
  fun m ρ _ => Cert.KernelTableSum.Gen.frame m ρ,
  fun m ρ _ => Cert.KernelTableSumIdeal.Gen.frame m ρ,
  Cert.TableSum.ref_frame,
  trivial,
  Cert.FfnIn.algebraic,
  trivial,
  Cert.Conv.algebraic,
  Cert.MixOut.preserves,
  Cert.MixOut.algebraic,
  trivial,
  Cert.Swiglu.algebraic,
  trivial,
  Cert.MixIn.algebraic,
  trivial,
  Cert.MixInFwd.algebraic,
  trivial,
  Cert.ConvFwd.algebraic,
  trivial,
  Cert.MixOutFwd.algebraic,
  Cert.RnnFwd.preserves,
  Cert.RnnFwd.algebraic,
  trivial,
  Cert.RnnBwd.algebraic,
  trivial,
  Cert.ModUpdate.algebraic,
  trivial,
  Cert.TableSum.algebraic⟩

end Cert.Proof

end
